-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Fgate (m : (ℓ : Loc Cert.Fgate.nD Cert.Fgate.τ Cert.Fgate.sig) → Buf (Elt Bits) ℓ) : Prop :=
  True

def Pre_FgateIdeal (m : (ℓ : Loc Cert.FgateIdeal.nD Cert.FgateIdeal.τ Cert.FgateIdeal.sig) → Buf (Elt Ideal) ℓ) : Prop :=
  True

def Pre_FgateIdeal_finite_dcum [hPre_finite_dcum : Cert.Pre_finite_dcum.Facts] (m : (ℓ : Loc Cert.FgateIdeal.nD Cert.FgateIdeal.τ Cert.FgateIdeal.sig) → Buf (Elt Ideal) ℓ) : Prop :=
  ∀ c : Dev Cert.FgateIdeal.nD,
    (Cert.Pre_finite_dcum.fn (F := Ideal) (m ((c.tc : Thread Cert.FgateIdeal.nD Cert.FgateIdeal.τ).loc Cert.FgateIdeal.main_arg0)) (m ((c.tc : Thread Cert.FgateIdeal.nD Cert.FgateIdeal.τ).loc Cert.FgateIdeal.main_arg1))) = (fun _ => 1#1)

def Pre_FgateRefIdeal (m : (ℓ : Loc Cert.FgateRefIdeal.nD Cert.FgateRefIdeal.τ Cert.FgateRefIdeal.sig) → Buf (Elt Ideal) ℓ) : Prop :=
  True

def Pre_FgateRefIdeal_finite_dcum [hPre_finite_dcum : Cert.Pre_finite_dcum.Facts] (m : (ℓ : Loc Cert.FgateRefIdeal.nD Cert.FgateRefIdeal.τ Cert.FgateRefIdeal.sig) → Buf (Elt Ideal) ℓ) : Prop :=
  ∀ c : Dev Cert.FgateRefIdeal.nD,
    (Cert.Pre_finite_dcum.fn (F := Ideal) (m ((c.tc : Thread Cert.FgateRefIdeal.nD Cert.FgateRefIdeal.τ).loc Cert.FgateRefIdeal.main_arg0)) (m ((c.tc : Thread Cert.FgateRefIdeal.nD Cert.FgateRefIdeal.τ).loc Cert.FgateRefIdeal.main_arg1))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_MainDx (m : (ℓ : Loc Cert.MainDx.nD Cert.MainDx.τ Cert.MainDx.sig) → Buf (Elt Bits) ℓ) : Prop :=
  True

def Pre_MainDxIdeal (m : (ℓ : Loc Cert.MainDxIdeal.nD Cert.MainDxIdeal.τ Cert.MainDxIdeal.sig) → Buf (Elt Ideal) ℓ) : Prop :=
  True

def Pre_MainDxRefIdeal (m : (ℓ : Loc Cert.MainDxRefIdeal.nD Cert.MainDxRefIdeal.τ Cert.MainDxRefIdeal.sig) → Buf (Elt Ideal) ℓ) : Prop :=
  True

def Pre_MainDw (m : (ℓ : Loc Cert.MainDw.nD Cert.MainDw.τ Cert.MainDw.sig) → Buf (Elt Bits) ℓ) : Prop :=
  True

def Pre_MainDwIdeal (m : (ℓ : Loc Cert.MainDwIdeal.nD Cert.MainDwIdeal.τ Cert.MainDwIdeal.sig) → Buf (Elt Ideal) ℓ) : Prop :=
  True

def Pre_MainDwRefIdeal (m : (ℓ : Loc Cert.MainDwRefIdeal.nD Cert.MainDwRefIdeal.τ Cert.MainDwRefIdeal.sig) → Buf (Elt Ideal) ℓ) : Prop :=
  True

def Pre_UpGateDx (m : (ℓ : Loc Cert.UpGateDx.nD Cert.UpGateDx.τ Cert.UpGateDx.sig) → Buf (Elt Bits) ℓ) : Prop :=
  True

def Pre_UpGateDxIdeal (m : (ℓ : Loc Cert.UpGateDxIdeal.nD Cert.UpGateDxIdeal.τ Cert.UpGateDxIdeal.sig) → Buf (Elt Ideal) ℓ) : Prop :=
  True

def Pre_UpGateDxRefIdeal (m : (ℓ : Loc Cert.UpGateDxRefIdeal.nD Cert.UpGateDxRefIdeal.τ Cert.UpGateDxRefIdeal.sig) → Buf (Elt Ideal) ℓ) : Prop :=
  True

def Pre_UpLinDx (m : (ℓ : Loc Cert.UpLinDx.nD Cert.UpLinDx.τ Cert.UpLinDx.sig) → Buf (Elt Bits) ℓ) : Prop :=
  True

def Pre_UpLinDxIdeal (m : (ℓ : Loc Cert.UpLinDxIdeal.nD Cert.UpLinDxIdeal.τ Cert.UpLinDxIdeal.sig) → Buf (Elt Ideal) ℓ) : Prop :=
  True

def Pre_UpLinDxRefIdeal (m : (ℓ : Loc Cert.UpLinDxRefIdeal.nD Cert.UpLinDxRefIdeal.τ Cert.UpLinDxRefIdeal.sig) → Buf (Elt Ideal) ℓ) : Prop :=
  True

def Pre_UpGateDw (m : (ℓ : Loc Cert.UpGateDw.nD Cert.UpGateDw.τ Cert.UpGateDw.sig) → Buf (Elt Bits) ℓ) : Prop :=
  True

def Pre_UpGateDwIdeal (m : (ℓ : Loc Cert.UpGateDwIdeal.nD Cert.UpGateDwIdeal.τ Cert.UpGateDwIdeal.sig) → Buf (Elt Ideal) ℓ) : Prop :=
  True

def Pre_UpGateDwRefIdeal (m : (ℓ : Loc Cert.UpGateDwRefIdeal.nD Cert.UpGateDwRefIdeal.τ Cert.UpGateDwRefIdeal.sig) → Buf (Elt Ideal) ℓ) : Prop :=
  True

def Pre_UpLinDw (m : (ℓ : Loc Cert.UpLinDw.nD Cert.UpLinDw.τ Cert.UpLinDw.sig) → Buf (Elt Bits) ℓ) : Prop :=
  True

def Pre_UpLinDwIdeal (m : (ℓ : Loc Cert.UpLinDwIdeal.nD Cert.UpLinDwIdeal.τ Cert.UpLinDwIdeal.sig) → Buf (Elt Ideal) ℓ) : Prop :=
  True

def Pre_UpLinDwRefIdeal (m : (ℓ : Loc Cert.UpLinDwRefIdeal.nD Cert.UpLinDwRefIdeal.τ Cert.UpLinDwRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_ConvDx (m : (ℓ : Loc Cert.ConvDx.nD Cert.ConvDx.τ Cert.ConvDx.sig) → Buf (Elt Bits) ℓ) : Prop :=
  True

def Pre_ConvDxIdeal (m : (ℓ : Loc Cert.ConvDxIdeal.nD Cert.ConvDxIdeal.τ Cert.ConvDxIdeal.sig) → Buf (Elt Ideal) ℓ) : Prop :=
  True

def Pre_ConvDxRefIdeal (m : (ℓ : Loc Cert.ConvDxRefIdeal.nD Cert.ConvDxRefIdeal.τ Cert.ConvDxRefIdeal.sig) → Buf (Elt Ideal) ℓ) : Prop :=
  True

def Pre_ConvDw (m : (ℓ : Loc Cert.ConvDw.nD Cert.ConvDw.τ Cert.ConvDw.sig) → Buf (Elt Bits) ℓ) : Prop :=
  True

def Pre_ConvDwIdeal (m : (ℓ : Loc Cert.ConvDwIdeal.nD Cert.ConvDwIdeal.τ Cert.ConvDwIdeal.sig) → Buf (Elt Ideal) ℓ) : Prop :=
  True

def Pre_ConvDwRefIdeal (m : (ℓ : Loc Cert.ConvDwRefIdeal.nD Cert.ConvDwRefIdeal.τ Cert.ConvDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDxt (m : (ℓ : Loc Cert.ProjDxt.nD Cert.ProjDxt.τ Cert.ProjDxt.sig) → Buf (Elt Bits) ℓ) : Prop :=
  True

def Pre_ProjDxtIdeal (m : (ℓ : Loc Cert.ProjDxtIdeal.nD Cert.ProjDxtIdeal.τ Cert.ProjDxtIdeal.sig) → Buf (Elt Ideal) ℓ) : Prop :=
  True

def Pre_ProjDxtRefIdeal (m : (ℓ : Loc Cert.ProjDxtRefIdeal.nD Cert.ProjDxtRefIdeal.τ Cert.ProjDxtRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_MainFw (m : (ℓ : Loc Cert.MainFw.nD Cert.MainFw.τ Cert.MainFw.sig) → Buf (Elt Bits) ℓ) : Prop :=
  True

def Pre_MainFwIdeal (m : (ℓ : Loc Cert.MainFwIdeal.nD Cert.MainFwIdeal.τ Cert.MainFwIdeal.sig) → Buf (Elt Ideal) ℓ) : Prop :=
  True

def Pre_MainFwRefIdeal (m : (ℓ : Loc Cert.MainFwRefIdeal.nD Cert.MainFwRefIdeal.τ Cert.MainFwRefIdeal.sig) → Buf (Elt Ideal) ℓ) : Prop :=
  True

def Pre_UpFw (m : (ℓ : Loc Cert.UpFw.nD Cert.UpFw.τ Cert.UpFw.sig) → Buf (Elt Bits) ℓ) : Prop :=
  True

def Pre_UpFwIdeal (m : (ℓ : Loc Cert.UpFwIdeal.nD Cert.UpFwIdeal.τ Cert.UpFwIdeal.sig) → Buf (Elt Ideal) ℓ) : Prop :=
  True

def Pre_UpFwRefIdeal (m : (ℓ : Loc Cert.UpFwRefIdeal.nD Cert.UpFwRefIdeal.τ Cert.UpFwRefIdeal.sig) → Buf (Elt Ideal) ℓ) : Prop :=
  True

def Pre_DownFw (m : (ℓ : Loc Cert.DownFw.nD Cert.DownFw.τ Cert.DownFw.sig) → Buf (Elt Bits) ℓ) : Prop :=
  True

def Pre_DownFwIdeal (m : (ℓ : Loc Cert.DownFwIdeal.nD Cert.DownFwIdeal.τ Cert.DownFwIdeal.sig) → Buf (Elt Ideal) ℓ) : Prop :=
  True

def Pre_DownFwRefIdeal (m : (ℓ : Loc Cert.DownFwRefIdeal.nD Cert.DownFwRefIdeal.τ Cert.DownFwRefIdeal.sig) → Buf (Elt Ideal) ℓ) : Prop :=
  True

def Pre_MixFw (m : (ℓ : Loc Cert.MixFw.nD Cert.MixFw.τ Cert.MixFw.sig) → Buf (Elt Bits) ℓ) : Prop :=
  True

def Pre_MixFwIdeal (m : (ℓ : Loc Cert.MixFwIdeal.nD Cert.MixFwIdeal.τ Cert.MixFwIdeal.sig) → Buf (Elt Ideal) ℓ) : Prop :=
  True

def Pre_MixFwRefIdeal (m : (ℓ : Loc Cert.MixFwRefIdeal.nD Cert.MixFwRefIdeal.τ Cert.MixFwRefIdeal.sig) → Buf (Elt Ideal) ℓ) : Prop :=
  True

def Pre_ConvFw (m : (ℓ : Loc Cert.ConvFw.nD Cert.ConvFw.τ Cert.ConvFw.sig) → Buf (Elt Bits) ℓ) : Prop :=
  True

def Pre_ConvFwIdeal (m : (ℓ : Loc Cert.ConvFwIdeal.nD Cert.ConvFwIdeal.τ Cert.ConvFwIdeal.sig) → Buf (Elt Ideal) ℓ) : Prop :=
  True

def Pre_ConvFwRefIdeal (m : (ℓ : Loc Cert.ConvFwRefIdeal.nD Cert.ConvFwRefIdeal.τ Cert.ConvFwRefIdeal.sig) → Buf (Elt Ideal) ℓ) : Prop :=
  True

def Pre_ProjFw (m : (ℓ : Loc Cert.ProjFw.nD Cert.ProjFw.τ Cert.ProjFw.sig) → Buf (Elt Bits) ℓ) : Prop :=
  True

def Pre_ProjFwIdeal (m : (ℓ : Loc Cert.ProjFwIdeal.nD Cert.ProjFwIdeal.τ Cert.ProjFwIdeal.sig) → Buf (Elt Ideal) ℓ) : Prop :=
  True

def Pre_ProjFwRefIdeal (m : (ℓ : Loc Cert.ProjFwRefIdeal.nD Cert.ProjFwRefIdeal.τ Cert.ProjFwRefIdeal.sig) → Buf (Elt Ideal) ℓ) : Prop :=
  True

def Pre_AdaOpt (m : (ℓ : Loc Cert.AdaOpt.nD Cert.AdaOpt.τ Cert.AdaOpt.sig) → Buf (Elt Bits) ℓ) : Prop :=
  True

def Pre_AdaOptIdeal (m : (ℓ : Loc Cert.AdaOptIdeal.nD Cert.AdaOptIdeal.τ Cert.AdaOptIdeal.sig) → Buf (Elt Ideal) ℓ) : Prop :=
  True

def Pre_AdaOptRefIdeal (m : (ℓ : Loc Cert.AdaOptRefIdeal.nD Cert.AdaOptRefIdeal.τ Cert.AdaOptRefIdeal.sig) → Buf (Elt Ideal) ℓ) : Prop :=
  True

def Pre_AdaBOpt (m : (ℓ : Loc Cert.AdaBOpt.nD Cert.AdaBOpt.τ Cert.AdaBOpt.sig) → Buf (Elt Bits) ℓ) : Prop :=
  True

def Pre_AdaBOptIdeal (m : (ℓ : Loc Cert.AdaBOptIdeal.nD Cert.AdaBOptIdeal.τ Cert.AdaBOptIdeal.sig) → Buf (Elt Ideal) ℓ) : Prop :=
  True

def Pre_AdaBOptRefIdeal (m : (ℓ : Loc Cert.AdaBOptRefIdeal.nD Cert.AdaBOptRefIdeal.τ Cert.AdaBOptRefIdeal.sig) → Buf (Elt Ideal) ℓ) : Prop :=
  True

def Pre_InOpt (m : (ℓ : Loc Cert.InOpt.nD Cert.InOpt.τ Cert.InOpt.sig) → Buf (Elt Bits) ℓ) : Prop :=
  True

def Pre_InOptIdeal (m : (ℓ : Loc Cert.InOptIdeal.nD Cert.InOptIdeal.τ Cert.InOptIdeal.sig) → Buf (Elt Ideal) ℓ) : Prop :=
  True

def Pre_InOptRefIdeal (m : (ℓ : Loc Cert.InOptRefIdeal.nD Cert.InOptRefIdeal.τ Cert.InOptRefIdeal.sig) → Buf (Elt Ideal) ℓ) : Prop :=
  True

def Pre_InBOpt (m : (ℓ : Loc Cert.InBOpt.nD Cert.InBOpt.τ Cert.InBOpt.sig) → Buf (Elt Bits) ℓ) : Prop :=
  True

def Pre_InBOptIdeal (m : (ℓ : Loc Cert.InBOptIdeal.nD Cert.InBOptIdeal.τ Cert.InBOptIdeal.sig) → Buf (Elt Ideal) ℓ) : Prop :=
  True

def Pre_InBOptRefIdeal (m : (ℓ : Loc Cert.InBOptRefIdeal.nD Cert.InBOptRefIdeal.τ Cert.InBOptRefIdeal.sig) → Buf (Elt Ideal) ℓ) : Prop :=
  True

def Pre_ConvAOpt (m : (ℓ : Loc Cert.ConvAOpt.nD Cert.ConvAOpt.τ Cert.ConvAOpt.sig) → Buf (Elt Bits) ℓ) : Prop :=
  True

def Pre_ConvAOptIdeal (m : (ℓ : Loc Cert.ConvAOptIdeal.nD Cert.ConvAOptIdeal.τ Cert.ConvAOptIdeal.sig) → Buf (Elt Ideal) ℓ) : Prop :=
  True

def Pre_ConvAOptRefIdeal (m : (ℓ : Loc Cert.ConvAOptRefIdeal.nD Cert.ConvAOptRefIdeal.τ Cert.ConvAOptRefIdeal.sig) → Buf (Elt Ideal) ℓ) : Prop :=
  True

def Pre_ChOpt (m : (ℓ : Loc Cert.ChOpt.nD Cert.ChOpt.τ Cert.ChOpt.sig) → Buf (Elt Bits) ℓ) : Prop :=
  True

def Pre_ChOptIdeal (m : (ℓ : Loc Cert.ChOptIdeal.nD Cert.ChOptIdeal.τ Cert.ChOptIdeal.sig) → Buf (Elt Ideal) ℓ) : Prop :=
  True

def Pre_ChOptRefIdeal (m : (ℓ : Loc Cert.ChOptRefIdeal.nD Cert.ChOptRefIdeal.τ Cert.ChOptRefIdeal.sig) → Buf (Elt Ideal) ℓ) : Prop :=
  True

def Pre_BranchOpt (m : (ℓ : Loc Cert.BranchOpt.nD Cert.BranchOpt.τ Cert.BranchOpt.sig) → Buf (Elt Bits) ℓ) : Prop :=
  True

def Pre_BranchOptIdeal (m : (ℓ : Loc Cert.BranchOptIdeal.nD Cert.BranchOptIdeal.τ Cert.BranchOptIdeal.sig) → Buf (Elt Ideal) ℓ) : Prop :=
  True

def Pre_BranchOptRefIdeal (m : (ℓ : Loc Cert.BranchOptRefIdeal.nD Cert.BranchOptRefIdeal.τ Cert.BranchOptRefIdeal.sig) → Buf (Elt Ideal) ℓ) : Prop :=
  True

def Pre_MixOutOpt (m : (ℓ : Loc Cert.MixOutOpt.nD Cert.MixOutOpt.τ Cert.MixOutOpt.sig) → Buf (Elt Bits) ℓ) : Prop :=
  True

def Pre_MixOutOptIdeal (m : (ℓ : Loc Cert.MixOutOptIdeal.nD Cert.MixOutOptIdeal.τ Cert.MixOutOptIdeal.sig) → Buf (Elt Ideal) ℓ) : Prop :=
  True

def Pre_MixOutOptRefIdeal (m : (ℓ : Loc Cert.MixOutOptRefIdeal.nD Cert.MixOutOptRefIdeal.τ Cert.MixOutOptRefIdeal.sig) → Buf (Elt Ideal) ℓ) : Prop :=
  True

def Pre_RowOpt (m : (ℓ : Loc Cert.RowOpt.nD Cert.RowOpt.τ Cert.RowOpt.sig) → Buf (Elt Bits) ℓ) : Prop :=
  True

def Pre_RowOptIdeal (m : (ℓ : Loc Cert.RowOptIdeal.nD Cert.RowOptIdeal.τ Cert.RowOptIdeal.sig) → Buf (Elt Ideal) ℓ) : Prop :=
  True

def Pre_RowOptRefIdeal (m : (ℓ : Loc Cert.RowOptRefIdeal.nD Cert.RowOptRefIdeal.τ Cert.RowOptRefIdeal.sig) → Buf (Elt Ideal) ℓ) : Prop :=
  True

def Pre_FfnUpOpt (m : (ℓ : Loc Cert.FfnUpOpt.nD Cert.FfnUpOpt.τ Cert.FfnUpOpt.sig) → Buf (Elt Bits) ℓ) : Prop :=
  True

def Pre_FfnUpOptIdeal (m : (ℓ : Loc Cert.FfnUpOptIdeal.nD Cert.FfnUpOptIdeal.τ Cert.FfnUpOptIdeal.sig) → Buf (Elt Ideal) ℓ) : Prop :=
  True

def Pre_FfnUpOptRefIdeal (m : (ℓ : Loc Cert.FfnUpOptRefIdeal.nD Cert.FfnUpOptRefIdeal.τ Cert.FfnUpOptRefIdeal.sig) → Buf (Elt Ideal) ℓ) : Prop :=
  True

def Pre_FfnConvOpt (m : (ℓ : Loc Cert.FfnConvOpt.nD Cert.FfnConvOpt.τ Cert.FfnConvOpt.sig) → Buf (Elt Bits) ℓ) : Prop :=
  True

def Pre_FfnConvOptIdeal (m : (ℓ : Loc Cert.FfnConvOptIdeal.nD Cert.FfnConvOptIdeal.τ Cert.FfnConvOptIdeal.sig) → Buf (Elt Ideal) ℓ) : Prop :=
  True

def Pre_FfnConvOptRefIdeal (m : (ℓ : Loc Cert.FfnConvOptRefIdeal.nD Cert.FfnConvOptRefIdeal.τ Cert.FfnConvOptRefIdeal.sig) → Buf (Elt Ideal) ℓ) : Prop :=
  True

def Pre_FfnConvBOpt (m : (ℓ : Loc Cert.FfnConvBOpt.nD Cert.FfnConvBOpt.τ Cert.FfnConvBOpt.sig) → Buf (Elt Bits) ℓ) : Prop :=
  True

def Pre_FfnConvBOptIdeal (m : (ℓ : Loc Cert.FfnConvBOptIdeal.nD Cert.FfnConvBOptIdeal.τ Cert.FfnConvBOptIdeal.sig) → Buf (Elt Ideal) ℓ) : Prop :=
  True

def Pre_FfnConvBOptRefIdeal (m : (ℓ : Loc Cert.FfnConvBOptRefIdeal.nD Cert.FfnConvBOptRefIdeal.τ Cert.FfnConvBOptRefIdeal.sig) → Buf (Elt Ideal) ℓ) : Prop :=
  True

def Pre_FfnDownOpt (m : (ℓ : Loc Cert.FfnDownOpt.nD Cert.FfnDownOpt.τ Cert.FfnDownOpt.sig) → Buf (Elt Bits) ℓ) : Prop :=
  True

def Pre_FfnDownOptIdeal (m : (ℓ : Loc Cert.FfnDownOptIdeal.nD Cert.FfnDownOptIdeal.τ Cert.FfnDownOptIdeal.sig) → Buf (Elt Ideal) ℓ) : Prop :=
  True

def Pre_FfnDownOptRefIdeal (m : (ℓ : Loc Cert.FfnDownOptRefIdeal.nD Cert.FfnDownOptRefIdeal.τ Cert.FfnDownOptRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_AdaDb (m : (ℓ : Loc Cert.AdaDb.nD Cert.AdaDb.τ Cert.AdaDb.sig) → Buf (Elt Bits) ℓ) : Prop :=
  True

def Pre_AdaDbIdeal (m : (ℓ : Loc Cert.AdaDbIdeal.nD Cert.AdaDbIdeal.τ Cert.AdaDbIdeal.sig) → Buf (Elt Ideal) ℓ) : Prop :=
  True

def Pre_AdaDbRefIdeal (m : (ℓ : Loc Cert.AdaDbRefIdeal.nD Cert.AdaDbRefIdeal.τ Cert.AdaDbRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Fgate [hFgate : Cert.Fgate.Facts] : Prop :=
  ∀ (m : (ℓ : Loc Cert.Fgate.nD Cert.Fgate.τ Cert.Fgate.sig) → Buf (Elt Bits) ℓ) (g : Dev Cert.Fgate.nD → PrngReg), Pre_Fgate m →
    θ_run (Cert.Fgate.defs (F := Bits)) (onTc (τ := Cert.Fgate.τ) (Cert.Fgate.main (F := Bits))) ⟨m, fun _ => 0, g⟩ (fun r => (∀ c : Dev Cert.Fgate.nD,
      r.2.mem ((c.tc : Thread Cert.Fgate.nD Cert.Fgate.τ).loc Cert.Fgate.main_arg0) = m ((c.tc : Thread Cert.Fgate.nD Cert.Fgate.τ).loc Cert.Fgate.main_arg0)
      ∧ r.2.mem ((c.tc : Thread Cert.Fgate.nD Cert.Fgate.τ).loc Cert.Fgate.main_arg1) = m ((c.tc : Thread Cert.Fgate.nD Cert.Fgate.τ).loc Cert.Fgate.main_arg1))
      ∧ r.2.sem = fun _ => 0)

def quiescent_FgateIdeal [hFgateIdeal : Cert.FgateIdeal.Facts] : Prop :=
  ∀ (m : (ℓ : Loc Cert.FgateIdeal.nD Cert.FgateIdeal.τ Cert.FgateIdeal.sig) → Buf (Elt Ideal) ℓ) (g : Dev Cert.FgateIdeal.nD → PrngReg), Pre_FgateIdeal m →
    θ_run (Cert.FgateIdeal.defs (F := Ideal)) (onTc (τ := Cert.FgateIdeal.τ) (Cert.FgateIdeal.main (F := Ideal))) ⟨m, fun _ => 0, g⟩ (fun r => (∀ c : Dev Cert.FgateIdeal.nD,
      r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
      ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1))
      ∧ r.2.sem = fun _ => 0)

def quiescent_FgateIdeal_pre_finite_dcum [hFgateIdeal : Cert.FgateIdeal.Facts] [hPre_finite_dcum : Cert.Pre_finite_dcum.Facts] : Prop :=
  ∀ (m : (ℓ : Loc Cert.FgateIdeal.nD Cert.FgateIdeal.τ Cert.FgateIdeal.sig) → Buf (Elt Ideal) ℓ) (g : Dev Cert.FgateIdeal.nD → PrngReg), Pre_FgateIdeal_finite_dcum m →
    θ_run (Cert.FgateIdeal.defs (F := Ideal)) (onTc (τ := Cert.FgateIdeal.τ) (Cert.FgateIdeal.main (F := Ideal))) ⟨m, fun _ => 0, g⟩ (fun r => (∀ c : Dev Cert.FgateIdeal.nD,
      r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
      ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1))
      ∧ r.2.sem = fun _ => 0)

def quiescent_FgateRefIdeal [hFgateRefIdeal : Cert.FgateRefIdeal.Facts] : Prop :=
  ∀ (m : (ℓ : Loc Cert.FgateRefIdeal.nD Cert.FgateRefIdeal.τ Cert.FgateRefIdeal.sig) → Buf (Elt Ideal) ℓ) (g : Dev Cert.FgateRefIdeal.nD → PrngReg), Pre_FgateRefIdeal m →
    θ_run (Cert.FgateRefIdeal.defs (F := Ideal)) (onTc (τ := Cert.FgateRefIdeal.τ) (Cert.FgateRefIdeal.main (F := Ideal))) ⟨m, fun _ => 0, g⟩ (fun r => (∀ c : Dev Cert.FgateRefIdeal.nD,
      r.2.mem ((c.tc : Thread Cert.FgateRefIdeal.nD Cert.FgateRefIdeal.τ).loc Cert.FgateRefIdeal.main_arg0) = m ((c.tc : Thread Cert.FgateRefIdeal.nD Cert.FgateRefIdeal.τ).loc Cert.FgateRefIdeal.main_arg0)
      ∧ r.2.mem ((c.tc : Thread Cert.FgateRefIdeal.nD Cert.FgateRefIdeal.τ).loc Cert.FgateRefIdeal.main_arg1) = m ((c.tc : Thread Cert.FgateRefIdeal.nD Cert.FgateRefIdeal.τ).loc Cert.FgateRefIdeal.main_arg1))
      ∧ r.2.sem = fun _ => 0)

def quiescent_FgateRefIdeal_pre_finite_dcum [hFgateRefIdeal : Cert.FgateRefIdeal.Facts] [hPre_finite_dcum : Cert.Pre_finite_dcum.Facts] : Prop :=
  ∀ (m : (ℓ : Loc Cert.FgateRefIdeal.nD Cert.FgateRefIdeal.τ Cert.FgateRefIdeal.sig) → Buf (Elt Ideal) ℓ) (g : Dev Cert.FgateRefIdeal.nD → PrngReg), Pre_FgateRefIdeal_finite_dcum m →
    θ_run (Cert.FgateRefIdeal.defs (F := Ideal)) (onTc (τ := Cert.FgateRefIdeal.τ) (Cert.FgateRefIdeal.main (F := Ideal))) ⟨m, fun _ => 0, g⟩ (fun r => (∀ c : Dev Cert.FgateRefIdeal.nD,
      r.2.mem ((c.tc : Thread Cert.FgateRefIdeal.nD Cert.FgateRefIdeal.τ).loc Cert.FgateRefIdeal.main_arg0) = m ((c.tc : Thread Cert.FgateRefIdeal.nD Cert.FgateRefIdeal.τ).loc Cert.FgateRefIdeal.main_arg0)
      ∧ r.2.mem ((c.tc : Thread Cert.FgateRefIdeal.nD Cert.FgateRefIdeal.τ).loc Cert.FgateRefIdeal.main_arg1) = m ((c.tc : Thread Cert.FgateRefIdeal.nD Cert.FgateRefIdeal.τ).loc Cert.FgateRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_MainDx [hMainDx : Cert.MainDx.Facts] : Prop :=
  ∀ (m : (ℓ : Loc Cert.MainDx.nD Cert.MainDx.τ Cert.MainDx.sig) → Buf (Elt Bits) ℓ) (g : Dev Cert.MainDx.nD → PrngReg), Pre_MainDx m →
    θ_run (Cert.MainDx.defs (F := Bits)) (onTc (τ := Cert.MainDx.τ) (Cert.MainDx.main (F := Bits))) ⟨m, fun _ => 0, g⟩ (fun r => (∀ c : Dev Cert.MainDx.nD,
      r.2.mem ((c.tc : Thread Cert.MainDx.nD Cert.MainDx.τ).loc Cert.MainDx.main_arg0) = m ((c.tc : Thread Cert.MainDx.nD Cert.MainDx.τ).loc Cert.MainDx.main_arg0)
      ∧ r.2.mem ((c.tc : Thread Cert.MainDx.nD Cert.MainDx.τ).loc Cert.MainDx.main_arg1) = m ((c.tc : Thread Cert.MainDx.nD Cert.MainDx.τ).loc Cert.MainDx.main_arg1))
      ∧ r.2.sem = fun _ => 0)

def quiescent_MainDxIdeal [hMainDxIdeal : Cert.MainDxIdeal.Facts] : Prop :=
  ∀ (m : (ℓ : Loc Cert.MainDxIdeal.nD Cert.MainDxIdeal.τ Cert.MainDxIdeal.sig) → Buf (Elt Ideal) ℓ) (g : Dev Cert.MainDxIdeal.nD → PrngReg), Pre_MainDxIdeal m →
    θ_run (Cert.MainDxIdeal.defs (F := Ideal)) (onTc (τ := Cert.MainDxIdeal.τ) (Cert.MainDxIdeal.main (F := Ideal))) ⟨m, fun _ => 0, g⟩ (fun r => (∀ c : Dev Cert.MainDxIdeal.nD,
      r.2.mem ((c.tc : Thread Cert.MainDxIdeal.nD Cert.MainDxIdeal.τ).loc Cert.MainDxIdeal.main_arg0) = m ((c.tc : Thread Cert.MainDxIdeal.nD Cert.MainDxIdeal.τ).loc Cert.MainDxIdeal.main_arg0)
      ∧ r.2.mem ((c.tc : Thread Cert.MainDxIdeal.nD Cert.MainDxIdeal.τ).loc Cert.MainDxIdeal.main_arg1) = m ((c.tc : Thread Cert.MainDxIdeal.nD Cert.MainDxIdeal.τ).loc Cert.MainDxIdeal.main_arg1))
      ∧ r.2.sem = fun _ => 0)

def quiescent_MainDxRefIdeal [hMainDxRefIdeal : Cert.MainDxRefIdeal.Facts] : Prop :=
  ∀ (m : (ℓ : Loc Cert.MainDxRefIdeal.nD Cert.MainDxRefIdeal.τ Cert.MainDxRefIdeal.sig) → Buf (Elt Ideal) ℓ) (g : Dev Cert.MainDxRefIdeal.nD → PrngReg), Pre_MainDxRefIdeal m →
    θ_run (Cert.MainDxRefIdeal.defs (F := Ideal)) (onTc (τ := Cert.MainDxRefIdeal.τ) (Cert.MainDxRefIdeal.main (F := Ideal))) ⟨m, fun _ => 0, g⟩ (fun r => (∀ c : Dev Cert.MainDxRefIdeal.nD,
      r.2.mem ((c.tc : Thread Cert.MainDxRefIdeal.nD Cert.MainDxRefIdeal.τ).loc Cert.MainDxRefIdeal.main_arg0) = m ((c.tc : Thread Cert.MainDxRefIdeal.nD Cert.MainDxRefIdeal.τ).loc Cert.MainDxRefIdeal.main_arg0)
      ∧ r.2.mem ((c.tc : Thread Cert.MainDxRefIdeal.nD Cert.MainDxRefIdeal.τ).loc Cert.MainDxRefIdeal.main_arg1) = m ((c.tc : Thread Cert.MainDxRefIdeal.nD Cert.MainDxRefIdeal.τ).loc Cert.MainDxRefIdeal.main_arg1))
      ∧ r.2.sem = fun _ => 0)

def quiescent_MainDw [hMainDw : Cert.MainDw.Facts] : Prop :=
  ∀ (m : (ℓ : Loc Cert.MainDw.nD Cert.MainDw.τ Cert.MainDw.sig) → Buf (Elt Bits) ℓ) (g : Dev Cert.MainDw.nD → PrngReg), Pre_MainDw m →
    θ_run (Cert.MainDw.defs (F := Bits)) (onTc (τ := Cert.MainDw.τ) (Cert.MainDw.main (F := Bits))) ⟨m, fun _ => 0, g⟩ (fun r => (∀ c : Dev Cert.MainDw.nD,
      r.2.mem ((c.tc : Thread Cert.MainDw.nD Cert.MainDw.τ).loc Cert.MainDw.main_arg0) = m ((c.tc : Thread Cert.MainDw.nD Cert.MainDw.τ).loc Cert.MainDw.main_arg0)
      ∧ r.2.mem ((c.tc : Thread Cert.MainDw.nD Cert.MainDw.τ).loc Cert.MainDw.main_arg1) = m ((c.tc : Thread Cert.MainDw.nD Cert.MainDw.τ).loc Cert.MainDw.main_arg1))
      ∧ r.2.sem = fun _ => 0)

def quiescent_MainDwIdeal [hMainDwIdeal : Cert.MainDwIdeal.Facts] : Prop :=
  ∀ (m : (ℓ : Loc Cert.MainDwIdeal.nD Cert.MainDwIdeal.τ Cert.MainDwIdeal.sig) → Buf (Elt Ideal) ℓ) (g : Dev Cert.MainDwIdeal.nD → PrngReg), Pre_MainDwIdeal m →
    θ_run (Cert.MainDwIdeal.defs (F := Ideal)) (onTc (τ := Cert.MainDwIdeal.τ) (Cert.MainDwIdeal.main (F := Ideal))) ⟨m, fun _ => 0, g⟩ (fun r => (∀ c : Dev Cert.MainDwIdeal.nD,
      r.2.mem ((c.tc : Thread Cert.MainDwIdeal.nD Cert.MainDwIdeal.τ).loc Cert.MainDwIdeal.main_arg0) = m ((c.tc : Thread Cert.MainDwIdeal.nD Cert.MainDwIdeal.τ).loc Cert.MainDwIdeal.main_arg0)
      ∧ r.2.mem ((c.tc : Thread Cert.MainDwIdeal.nD Cert.MainDwIdeal.τ).loc Cert.MainDwIdeal.main_arg1) = m ((c.tc : Thread Cert.MainDwIdeal.nD Cert.MainDwIdeal.τ).loc Cert.MainDwIdeal.main_arg1))
      ∧ r.2.sem = fun _ => 0)

def quiescent_MainDwRefIdeal [hMainDwRefIdeal : Cert.MainDwRefIdeal.Facts] : Prop :=
  ∀ (m : (ℓ : Loc Cert.MainDwRefIdeal.nD Cert.MainDwRefIdeal.τ Cert.MainDwRefIdeal.sig) → Buf (Elt Ideal) ℓ) (g : Dev Cert.MainDwRefIdeal.nD → PrngReg), Pre_MainDwRefIdeal m →
    θ_run (Cert.MainDwRefIdeal.defs (F := Ideal)) (onTc (τ := Cert.MainDwRefIdeal.τ) (Cert.MainDwRefIdeal.main (F := Ideal))) ⟨m, fun _ => 0, g⟩ (fun r => (∀ c : Dev Cert.MainDwRefIdeal.nD,
      r.2.mem ((c.tc : Thread Cert.MainDwRefIdeal.nD Cert.MainDwRefIdeal.τ).loc Cert.MainDwRefIdeal.main_arg0) = m ((c.tc : Thread Cert.MainDwRefIdeal.nD Cert.MainDwRefIdeal.τ).loc Cert.MainDwRefIdeal.main_arg0)
      ∧ r.2.mem ((c.tc : Thread Cert.MainDwRefIdeal.nD Cert.MainDwRefIdeal.τ).loc Cert.MainDwRefIdeal.main_arg1) = m ((c.tc : Thread Cert.MainDwRefIdeal.nD Cert.MainDwRefIdeal.τ).loc Cert.MainDwRefIdeal.main_arg1))
      ∧ r.2.sem = fun _ => 0)

def quiescent_UpGateDx [hUpGateDx : Cert.UpGateDx.Facts] : Prop :=
  ∀ (m : (ℓ : Loc Cert.UpGateDx.nD Cert.UpGateDx.τ Cert.UpGateDx.sig) → Buf (Elt Bits) ℓ) (g : Dev Cert.UpGateDx.nD → PrngReg), Pre_UpGateDx m →
    θ_run (Cert.UpGateDx.defs (F := Bits)) (onTc (τ := Cert.UpGateDx.τ) (Cert.UpGateDx.main (F := Bits))) ⟨m, fun _ => 0, g⟩ (fun r => (∀ c : Dev Cert.UpGateDx.nD,
      r.2.mem ((c.tc : Thread Cert.UpGateDx.nD Cert.UpGateDx.τ).loc Cert.UpGateDx.main_arg0) = m ((c.tc : Thread Cert.UpGateDx.nD Cert.UpGateDx.τ).loc Cert.UpGateDx.main_arg0)
      ∧ r.2.mem ((c.tc : Thread Cert.UpGateDx.nD Cert.UpGateDx.τ).loc Cert.UpGateDx.main_arg1) = m ((c.tc : Thread Cert.UpGateDx.nD Cert.UpGateDx.τ).loc Cert.UpGateDx.main_arg1))
      ∧ r.2.sem = fun _ => 0)

def quiescent_UpGateDxIdeal [hUpGateDxIdeal : Cert.UpGateDxIdeal.Facts] : Prop :=
  ∀ (m : (ℓ : Loc Cert.UpGateDxIdeal.nD Cert.UpGateDxIdeal.τ Cert.UpGateDxIdeal.sig) → Buf (Elt Ideal) ℓ) (g : Dev Cert.UpGateDxIdeal.nD → PrngReg), Pre_UpGateDxIdeal m →
    θ_run (Cert.UpGateDxIdeal.defs (F := Ideal)) (onTc (τ := Cert.UpGateDxIdeal.τ) (Cert.UpGateDxIdeal.main (F := Ideal))) ⟨m, fun _ => 0, g⟩ (fun r => (∀ c : Dev Cert.UpGateDxIdeal.nD,
      r.2.mem ((c.tc : Thread Cert.UpGateDxIdeal.nD Cert.UpGateDxIdeal.τ).loc Cert.UpGateDxIdeal.main_arg0) = m ((c.tc : Thread Cert.UpGateDxIdeal.nD Cert.UpGateDxIdeal.τ).loc Cert.UpGateDxIdeal.main_arg0)
      ∧ r.2.mem ((c.tc : Thread Cert.UpGateDxIdeal.nD Cert.UpGateDxIdeal.τ).loc Cert.UpGateDxIdeal.main_arg1) = m ((c.tc : Thread Cert.UpGateDxIdeal.nD Cert.UpGateDxIdeal.τ).loc Cert.UpGateDxIdeal.main_arg1))
      ∧ r.2.sem = fun _ => 0)

def quiescent_UpGateDxRefIdeal [hUpGateDxRefIdeal : Cert.UpGateDxRefIdeal.Facts] : Prop :=
  ∀ (m : (ℓ : Loc Cert.UpGateDxRefIdeal.nD Cert.UpGateDxRefIdeal.τ Cert.UpGateDxRefIdeal.sig) → Buf (Elt Ideal) ℓ) (g : Dev Cert.UpGateDxRefIdeal.nD → PrngReg), Pre_UpGateDxRefIdeal m →
    θ_run (Cert.UpGateDxRefIdeal.defs (F := Ideal)) (onTc (τ := Cert.UpGateDxRefIdeal.τ) (Cert.UpGateDxRefIdeal.main (F := Ideal))) ⟨m, fun _ => 0, g⟩ (fun r => (∀ c : Dev Cert.UpGateDxRefIdeal.nD,
      r.2.mem ((c.tc : Thread Cert.UpGateDxRefIdeal.nD Cert.UpGateDxRefIdeal.τ).loc Cert.UpGateDxRefIdeal.main_arg0) = m ((c.tc : Thread Cert.UpGateDxRefIdeal.nD Cert.UpGateDxRefIdeal.τ).loc Cert.UpGateDxRefIdeal.main_arg0)
      ∧ r.2.mem ((c.tc : Thread Cert.UpGateDxRefIdeal.nD Cert.UpGateDxRefIdeal.τ).loc Cert.UpGateDxRefIdeal.main_arg1) = m ((c.tc : Thread Cert.UpGateDxRefIdeal.nD Cert.UpGateDxRefIdeal.τ).loc Cert.UpGateDxRefIdeal.main_arg1))
      ∧ r.2.sem = fun _ => 0)

def quiescent_UpLinDx [hUpLinDx : Cert.UpLinDx.Facts] : Prop :=
  ∀ (m : (ℓ : Loc Cert.UpLinDx.nD Cert.UpLinDx.τ Cert.UpLinDx.sig) → Buf (Elt Bits) ℓ) (g : Dev Cert.UpLinDx.nD → PrngReg), Pre_UpLinDx m →
    θ_run (Cert.UpLinDx.defs (F := Bits)) (onTc (τ := Cert.UpLinDx.τ) (Cert.UpLinDx.main (F := Bits))) ⟨m, fun _ => 0, g⟩ (fun r => (∀ c : Dev Cert.UpLinDx.nD,
      r.2.mem ((c.tc : Thread Cert.UpLinDx.nD Cert.UpLinDx.τ).loc Cert.UpLinDx.main_arg0) = m ((c.tc : Thread Cert.UpLinDx.nD Cert.UpLinDx.τ).loc Cert.UpLinDx.main_arg0)
      ∧ r.2.mem ((c.tc : Thread Cert.UpLinDx.nD Cert.UpLinDx.τ).loc Cert.UpLinDx.main_arg1) = m ((c.tc : Thread Cert.UpLinDx.nD Cert.UpLinDx.τ).loc Cert.UpLinDx.main_arg1)
      ∧ r.2.mem ((c.tc : Thread Cert.UpLinDx.nD Cert.UpLinDx.τ).loc Cert.UpLinDx.main_arg2) = m ((c.tc : Thread Cert.UpLinDx.nD Cert.UpLinDx.τ).loc Cert.UpLinDx.main_arg2))
      ∧ r.2.sem = fun _ => 0)

def quiescent_UpLinDxIdeal [hUpLinDxIdeal : Cert.UpLinDxIdeal.Facts] : Prop :=
  ∀ (m : (ℓ : Loc Cert.UpLinDxIdeal.nD Cert.UpLinDxIdeal.τ Cert.UpLinDxIdeal.sig) → Buf (Elt Ideal) ℓ) (g : Dev Cert.UpLinDxIdeal.nD → PrngReg), Pre_UpLinDxIdeal m →
    θ_run (Cert.UpLinDxIdeal.defs (F := Ideal)) (onTc (τ := Cert.UpLinDxIdeal.τ) (Cert.UpLinDxIdeal.main (F := Ideal))) ⟨m, fun _ => 0, g⟩ (fun r => (∀ c : Dev Cert.UpLinDxIdeal.nD,
      r.2.mem ((c.tc : Thread Cert.UpLinDxIdeal.nD Cert.UpLinDxIdeal.τ).loc Cert.UpLinDxIdeal.main_arg0) = m ((c.tc : Thread Cert.UpLinDxIdeal.nD Cert.UpLinDxIdeal.τ).loc Cert.UpLinDxIdeal.main_arg0)
      ∧ r.2.mem ((c.tc : Thread Cert.UpLinDxIdeal.nD Cert.UpLinDxIdeal.τ).loc Cert.UpLinDxIdeal.main_arg1) = m ((c.tc : Thread Cert.UpLinDxIdeal.nD Cert.UpLinDxIdeal.τ).loc Cert.UpLinDxIdeal.main_arg1)
      ∧ r.2.mem ((c.tc : Thread Cert.UpLinDxIdeal.nD Cert.UpLinDxIdeal.τ).loc Cert.UpLinDxIdeal.main_arg2) = m ((c.tc : Thread Cert.UpLinDxIdeal.nD Cert.UpLinDxIdeal.τ).loc Cert.UpLinDxIdeal.main_arg2))
      ∧ r.2.sem = fun _ => 0)

def quiescent_UpLinDxRefIdeal [hUpLinDxRefIdeal : Cert.UpLinDxRefIdeal.Facts] : Prop :=
  ∀ (m : (ℓ : Loc Cert.UpLinDxRefIdeal.nD Cert.UpLinDxRefIdeal.τ Cert.UpLinDxRefIdeal.sig) → Buf (Elt Ideal) ℓ) (g : Dev Cert.UpLinDxRefIdeal.nD → PrngReg), Pre_UpLinDxRefIdeal m →
    θ_run (Cert.UpLinDxRefIdeal.defs (F := Ideal)) (onTc (τ := Cert.UpLinDxRefIdeal.τ) (Cert.UpLinDxRefIdeal.main (F := Ideal))) ⟨m, fun _ => 0, g⟩ (fun r => (∀ c : Dev Cert.UpLinDxRefIdeal.nD,
      r.2.mem ((c.tc : Thread Cert.UpLinDxRefIdeal.nD Cert.UpLinDxRefIdeal.τ).loc Cert.UpLinDxRefIdeal.main_arg0) = m ((c.tc : Thread Cert.UpLinDxRefIdeal.nD Cert.UpLinDxRefIdeal.τ).loc Cert.UpLinDxRefIdeal.main_arg0)
      ∧ r.2.mem ((c.tc : Thread Cert.UpLinDxRefIdeal.nD Cert.UpLinDxRefIdeal.τ).loc Cert.UpLinDxRefIdeal.main_arg1) = m ((c.tc : Thread Cert.UpLinDxRefIdeal.nD Cert.UpLinDxRefIdeal.τ).loc Cert.UpLinDxRefIdeal.main_arg1)
      ∧ r.2.mem ((c.tc : Thread Cert.UpLinDxRefIdeal.nD Cert.UpLinDxRefIdeal.τ).loc Cert.UpLinDxRefIdeal.main_arg2) = m ((c.tc : Thread Cert.UpLinDxRefIdeal.nD Cert.UpLinDxRefIdeal.τ).loc Cert.UpLinDxRefIdeal.main_arg2))
      ∧ r.2.sem = fun _ => 0)

def quiescent_UpGateDw [hUpGateDw : Cert.UpGateDw.Facts] : Prop :=
  ∀ (m : (ℓ : Loc Cert.UpGateDw.nD Cert.UpGateDw.τ Cert.UpGateDw.sig) → Buf (Elt Bits) ℓ) (g : Dev Cert.UpGateDw.nD → PrngReg), Pre_UpGateDw m →
    θ_run (Cert.UpGateDw.defs (F := Bits)) (onTc (τ := Cert.UpGateDw.τ) (Cert.UpGateDw.main (F := Bits))) ⟨m, fun _ => 0, g⟩ (fun r => (∀ c : Dev Cert.UpGateDw.nD,
      r.2.mem ((c.tc : Thread Cert.UpGateDw.nD Cert.UpGateDw.τ).loc Cert.UpGateDw.main_arg0) = m ((c.tc : Thread Cert.UpGateDw.nD Cert.UpGateDw.τ).loc Cert.UpGateDw.main_arg0)
      ∧ r.2.mem ((c.tc : Thread Cert.UpGateDw.nD Cert.UpGateDw.τ).loc Cert.UpGateDw.main_arg1) = m ((c.tc : Thread Cert.UpGateDw.nD Cert.UpGateDw.τ).loc Cert.UpGateDw.main_arg1))
      ∧ r.2.sem = fun _ => 0)

def quiescent_UpGateDwIdeal [hUpGateDwIdeal : Cert.UpGateDwIdeal.Facts] : Prop :=
  ∀ (m : (ℓ : Loc Cert.UpGateDwIdeal.nD Cert.UpGateDwIdeal.τ Cert.UpGateDwIdeal.sig) → Buf (Elt Ideal) ℓ) (g : Dev Cert.UpGateDwIdeal.nD → PrngReg), Pre_UpGateDwIdeal m →
    θ_run (Cert.UpGateDwIdeal.defs (F := Ideal)) (onTc (τ := Cert.UpGateDwIdeal.τ) (Cert.UpGateDwIdeal.main (F := Ideal))) ⟨m, fun _ => 0, g⟩ (fun r => (∀ c : Dev Cert.UpGateDwIdeal.nD,
      r.2.mem ((c.tc : Thread Cert.UpGateDwIdeal.nD Cert.UpGateDwIdeal.τ).loc Cert.UpGateDwIdeal.main_arg0) = m ((c.tc : Thread Cert.UpGateDwIdeal.nD Cert.UpGateDwIdeal.τ).loc Cert.UpGateDwIdeal.main_arg0)
      ∧ r.2.mem ((c.tc : Thread Cert.UpGateDwIdeal.nD Cert.UpGateDwIdeal.τ).loc Cert.UpGateDwIdeal.main_arg1) = m ((c.tc : Thread Cert.UpGateDwIdeal.nD Cert.UpGateDwIdeal.τ).loc Cert.UpGateDwIdeal.main_arg1))
      ∧ r.2.sem = fun _ => 0)

def quiescent_UpGateDwRefIdeal [hUpGateDwRefIdeal : Cert.UpGateDwRefIdeal.Facts] : Prop :=
  ∀ (m : (ℓ : Loc Cert.UpGateDwRefIdeal.nD Cert.UpGateDwRefIdeal.τ Cert.UpGateDwRefIdeal.sig) → Buf (Elt Ideal) ℓ) (g : Dev Cert.UpGateDwRefIdeal.nD → PrngReg), Pre_UpGateDwRefIdeal m →
    θ_run (Cert.UpGateDwRefIdeal.defs (F := Ideal)) (onTc (τ := Cert.UpGateDwRefIdeal.τ) (Cert.UpGateDwRefIdeal.main (F := Ideal))) ⟨m, fun _ => 0, g⟩ (fun r => (∀ c : Dev Cert.UpGateDwRefIdeal.nD,
      r.2.mem ((c.tc : Thread Cert.UpGateDwRefIdeal.nD Cert.UpGateDwRefIdeal.τ).loc Cert.UpGateDwRefIdeal.main_arg0) = m ((c.tc : Thread Cert.UpGateDwRefIdeal.nD Cert.UpGateDwRefIdeal.τ).loc Cert.UpGateDwRefIdeal.main_arg0)
      ∧ r.2.mem ((c.tc : Thread Cert.UpGateDwRefIdeal.nD Cert.UpGateDwRefIdeal.τ).loc Cert.UpGateDwRefIdeal.main_arg1) = m ((c.tc : Thread Cert.UpGateDwRefIdeal.nD Cert.UpGateDwRefIdeal.τ).loc Cert.UpGateDwRefIdeal.main_arg1))
      ∧ r.2.sem = fun _ => 0)

def quiescent_UpLinDw [hUpLinDw : Cert.UpLinDw.Facts] : Prop :=
  ∀ (m : (ℓ : Loc Cert.UpLinDw.nD Cert.UpLinDw.τ Cert.UpLinDw.sig) → Buf (Elt Bits) ℓ) (g : Dev Cert.UpLinDw.nD → PrngReg), Pre_UpLinDw m →
    θ_run (Cert.UpLinDw.defs (F := Bits)) (onTc (τ := Cert.UpLinDw.τ) (Cert.UpLinDw.main (F := Bits))) ⟨m, fun _ => 0, g⟩ (fun r => (∀ c : Dev Cert.UpLinDw.nD,
      r.2.mem ((c.tc : Thread Cert.UpLinDw.nD Cert.UpLinDw.τ).loc Cert.UpLinDw.main_arg0) = m ((c.tc : Thread Cert.UpLinDw.nD Cert.UpLinDw.τ).loc Cert.UpLinDw.main_arg0)
      ∧ r.2.mem ((c.tc : Thread Cert.UpLinDw.nD Cert.UpLinDw.τ).loc Cert.UpLinDw.main_arg1) = m ((c.tc : Thread Cert.UpLinDw.nD Cert.UpLinDw.τ).loc Cert.UpLinDw.main_arg1)
      ∧ r.2.mem ((c.tc : Thread Cert.UpLinDw.nD Cert.UpLinDw.τ).loc Cert.UpLinDw.main_arg2) = m ((c.tc : Thread Cert.UpLinDw.nD Cert.UpLinDw.τ).loc Cert.UpLinDw.main_arg2))
      ∧ r.2.sem = fun _ => 0)

def quiescent_UpLinDwIdeal [hUpLinDwIdeal : Cert.UpLinDwIdeal.Facts] : Prop :=
  ∀ (m : (ℓ : Loc Cert.UpLinDwIdeal.nD Cert.UpLinDwIdeal.τ Cert.UpLinDwIdeal.sig) → Buf (Elt Ideal) ℓ) (g : Dev Cert.UpLinDwIdeal.nD → PrngReg), Pre_UpLinDwIdeal m →
    θ_run (Cert.UpLinDwIdeal.defs (F := Ideal)) (onTc (τ := Cert.UpLinDwIdeal.τ) (Cert.UpLinDwIdeal.main (F := Ideal))) ⟨m, fun _ => 0, g⟩ (fun r => (∀ c : Dev Cert.UpLinDwIdeal.nD,
      r.2.mem ((c.tc : Thread Cert.UpLinDwIdeal.nD Cert.UpLinDwIdeal.τ).loc Cert.UpLinDwIdeal.main_arg0) = m ((c.tc : Thread Cert.UpLinDwIdeal.nD Cert.UpLinDwIdeal.τ).loc Cert.UpLinDwIdeal.main_arg0)
      ∧ r.2.mem ((c.tc : Thread Cert.UpLinDwIdeal.nD Cert.UpLinDwIdeal.τ).loc Cert.UpLinDwIdeal.main_arg1) = m ((c.tc : Thread Cert.UpLinDwIdeal.nD Cert.UpLinDwIdeal.τ).loc Cert.UpLinDwIdeal.main_arg1)
      ∧ r.2.mem ((c.tc : Thread Cert.UpLinDwIdeal.nD Cert.UpLinDwIdeal.τ).loc Cert.UpLinDwIdeal.main_arg2) = m ((c.tc : Thread Cert.UpLinDwIdeal.nD Cert.UpLinDwIdeal.τ).loc Cert.UpLinDwIdeal.main_arg2))
      ∧ r.2.sem = fun _ => 0)

def quiescent_UpLinDwRefIdeal [hUpLinDwRefIdeal : Cert.UpLinDwRefIdeal.Facts] : Prop :=
  ∀ (m : (ℓ : Loc Cert.UpLinDwRefIdeal.nD Cert.UpLinDwRefIdeal.τ Cert.UpLinDwRefIdeal.sig) → Buf (Elt Ideal) ℓ) (g : Dev Cert.UpLinDwRefIdeal.nD → PrngReg), Pre_UpLinDwRefIdeal m →
    θ_run (Cert.UpLinDwRefIdeal.defs (F := Ideal)) (onTc (τ := Cert.UpLinDwRefIdeal.τ) (Cert.UpLinDwRefIdeal.main (F := Ideal))) ⟨m, fun _ => 0, g⟩ (fun r => (∀ c : Dev Cert.UpLinDwRefIdeal.nD,
      r.2.mem ((c.tc : Thread Cert.UpLinDwRefIdeal.nD Cert.UpLinDwRefIdeal.τ).loc Cert.UpLinDwRefIdeal.main_arg0) = m ((c.tc : Thread Cert.UpLinDwRefIdeal.nD Cert.UpLinDwRefIdeal.τ).loc Cert.UpLinDwRefIdeal.main_arg0)
      ∧ r.2.mem ((c.tc : Thread Cert.UpLinDwRefIdeal.nD Cert.UpLinDwRefIdeal.τ).loc Cert.UpLinDwRefIdeal.main_arg1) = m ((c.tc : Thread Cert.UpLinDwRefIdeal.nD Cert.UpLinDwRefIdeal.τ).loc Cert.UpLinDwRefIdeal.main_arg1)
      ∧ r.2.mem ((c.tc : Thread Cert.UpLinDwRefIdeal.nD Cert.UpLinDwRefIdeal.τ).loc Cert.UpLinDwRefIdeal.main_arg2) = m ((c.tc : Thread Cert.UpLinDwRefIdeal.nD Cert.UpLinDwRefIdeal.τ).loc Cert.UpLinDwRefIdeal.main_arg2))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_ConvDx [hConvDx : Cert.ConvDx.Facts] : Prop :=
  ∀ (m : (ℓ : Loc Cert.ConvDx.nD Cert.ConvDx.τ Cert.ConvDx.sig) → Buf (Elt Bits) ℓ) (g : Dev Cert.ConvDx.nD → PrngReg), Pre_ConvDx m →
    θ_run (Cert.ConvDx.defs (F := Bits)) (onTc (τ := Cert.ConvDx.τ) (Cert.ConvDx.main (F := Bits))) ⟨m, fun _ => 0, g⟩ (fun r => (∀ c : Dev Cert.ConvDx.nD,
      r.2.mem ((c.tc : Thread Cert.ConvDx.nD Cert.ConvDx.τ).loc Cert.ConvDx.main_arg0) = m ((c.tc : Thread Cert.ConvDx.nD Cert.ConvDx.τ).loc Cert.ConvDx.main_arg0)
      ∧ r.2.mem ((c.tc : Thread Cert.ConvDx.nD Cert.ConvDx.τ).loc Cert.ConvDx.main_arg1) = m ((c.tc : Thread Cert.ConvDx.nD Cert.ConvDx.τ).loc Cert.ConvDx.main_arg1))
      ∧ r.2.sem = fun _ => 0)

def quiescent_ConvDxIdeal [hConvDxIdeal : Cert.ConvDxIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg), Pre_ConvDxIdeal m →
    θ_run (Cert.ConvDxIdeal.defs (F := Ideal)) (onTc (τ := Cert.ConvDxIdeal.τ) (Cert.ConvDxIdeal.main (F := Ideal))) ⟨m, fun _ => 0, g⟩ (fun r => (∀ c : Dev Cert.ConvDxIdeal.nD,
      r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
      ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1))
      ∧ r.2.sem = fun _ => 0)

def quiescent_ConvDxRefIdeal [hConvDxRefIdeal : Cert.ConvDxRefIdeal.Facts] : Prop :=
  ∀ (m : (ℓ : Loc Cert.ConvDxRefIdeal.nD Cert.ConvDxRefIdeal.τ Cert.ConvDxRefIdeal.sig) → Buf (Elt Ideal) ℓ) (g : Dev Cert.ConvDxRefIdeal.nD → PrngReg), Pre_ConvDxRefIdeal m →
    θ_run (Cert.ConvDxRefIdeal.defs (F := Ideal)) (onTc (τ := Cert.ConvDxRefIdeal.τ) (Cert.ConvDxRefIdeal.main (F := Ideal))) ⟨m, fun _ => 0, g⟩ (fun r => (∀ c : Dev Cert.ConvDxRefIdeal.nD,
      r.2.mem ((c.tc : Thread Cert.ConvDxRefIdeal.nD Cert.ConvDxRefIdeal.τ).loc Cert.ConvDxRefIdeal.main_arg0) = m ((c.tc : Thread Cert.ConvDxRefIdeal.nD Cert.ConvDxRefIdeal.τ).loc Cert.ConvDxRefIdeal.main_arg0)
      ∧ r.2.mem ((c.tc : Thread Cert.ConvDxRefIdeal.nD Cert.ConvDxRefIdeal.τ).loc Cert.ConvDxRefIdeal.main_arg1) = m ((c.tc : Thread Cert.ConvDxRefIdeal.nD Cert.ConvDxRefIdeal.τ).loc Cert.ConvDxRefIdeal.main_arg1))
      ∧ r.2.sem = fun _ => 0)

def quiescent_ConvDw [hConvDw : Cert.ConvDw.Facts] : Prop :=
  ∀ (m : (ℓ : Loc Cert.ConvDw.nD Cert.ConvDw.τ Cert.ConvDw.sig) → Buf (Elt Bits) ℓ) (g : Dev Cert.ConvDw.nD → PrngReg), Pre_ConvDw m →
    θ_run (Cert.ConvDw.defs (F := Bits)) (onTc (τ := Cert.ConvDw.τ) (Cert.ConvDw.main (F := Bits))) ⟨m, fun _ => 0, g⟩ (fun r => (∀ c : Dev Cert.ConvDw.nD,
      r.2.mem ((c.tc : Thread Cert.ConvDw.nD Cert.ConvDw.τ).loc Cert.ConvDw.main_arg0) = m ((c.tc : Thread Cert.ConvDw.nD Cert.ConvDw.τ).loc Cert.ConvDw.main_arg0)
      ∧ r.2.mem ((c.tc : Thread Cert.ConvDw.nD Cert.ConvDw.τ).loc Cert.ConvDw.main_arg1) = m ((c.tc : Thread Cert.ConvDw.nD Cert.ConvDw.τ).loc Cert.ConvDw.main_arg1))
      ∧ r.2.sem = fun _ => 0)

def quiescent_ConvDwIdeal [hConvDwIdeal : Cert.ConvDwIdeal.Facts] : Prop :=
  ∀ (m : (ℓ : Loc Cert.ConvDwIdeal.nD Cert.ConvDwIdeal.τ Cert.ConvDwIdeal.sig) → Buf (Elt Ideal) ℓ) (g : Dev Cert.ConvDwIdeal.nD → PrngReg), Pre_ConvDwIdeal m →
    θ_run (Cert.ConvDwIdeal.defs (F := Ideal)) (onTc (τ := Cert.ConvDwIdeal.τ) (Cert.ConvDwIdeal.main (F := Ideal))) ⟨m, fun _ => 0, g⟩ (fun r => (∀ c : Dev Cert.ConvDwIdeal.nD,
      r.2.mem ((c.tc : Thread Cert.ConvDwIdeal.nD Cert.ConvDwIdeal.τ).loc Cert.ConvDwIdeal.main_arg0) = m ((c.tc : Thread Cert.ConvDwIdeal.nD Cert.ConvDwIdeal.τ).loc Cert.ConvDwIdeal.main_arg0)
      ∧ r.2.mem ((c.tc : Thread Cert.ConvDwIdeal.nD Cert.ConvDwIdeal.τ).loc Cert.ConvDwIdeal.main_arg1) = m ((c.tc : Thread Cert.ConvDwIdeal.nD Cert.ConvDwIdeal.τ).loc Cert.ConvDwIdeal.main_arg1))
      ∧ r.2.sem = fun _ => 0)

def quiescent_ConvDwRefIdeal [hConvDwRefIdeal : Cert.ConvDwRefIdeal.Facts] : Prop :=
  ∀ (m : (ℓ : Loc Cert.ConvDwRefIdeal.nD Cert.ConvDwRefIdeal.τ Cert.ConvDwRefIdeal.sig) → Buf (Elt Ideal) ℓ) (g : Dev Cert.ConvDwRefIdeal.nD → PrngReg), Pre_ConvDwRefIdeal m →
    θ_run (Cert.ConvDwRefIdeal.defs (F := Ideal)) (onTc (τ := Cert.ConvDwRefIdeal.τ) (Cert.ConvDwRefIdeal.main (F := Ideal))) ⟨m, fun _ => 0, g⟩ (fun r => (∀ c : Dev Cert.ConvDwRefIdeal.nD,
      r.2.mem ((c.tc : Thread Cert.ConvDwRefIdeal.nD Cert.ConvDwRefIdeal.τ).loc Cert.ConvDwRefIdeal.main_arg0) = m ((c.tc : Thread Cert.ConvDwRefIdeal.nD Cert.ConvDwRefIdeal.τ).loc Cert.ConvDwRefIdeal.main_arg0)
      ∧ r.2.mem ((c.tc : Thread Cert.ConvDwRefIdeal.nD Cert.ConvDwRefIdeal.τ).loc Cert.ConvDwRefIdeal.main_arg1) = m ((c.tc : Thread Cert.ConvDwRefIdeal.nD Cert.ConvDwRefIdeal.τ).loc Cert.ConvDwRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDxt [hProjDxt : Cert.ProjDxt.Facts] : Prop :=
  ∀ (m : (ℓ : Loc Cert.ProjDxt.nD Cert.ProjDxt.τ Cert.ProjDxt.sig) → Buf (Elt Bits) ℓ) (g : Dev Cert.ProjDxt.nD → PrngReg), Pre_ProjDxt m →
    θ_run (Cert.ProjDxt.defs (F := Bits)) (onTc (τ := Cert.ProjDxt.τ) (Cert.ProjDxt.main (F := Bits))) ⟨m, fun _ => 0, g⟩ (fun r => (∀ c : Dev Cert.ProjDxt.nD,
      r.2.mem ((c.tc : Thread Cert.ProjDxt.nD Cert.ProjDxt.τ).loc Cert.ProjDxt.main_arg0) = m ((c.tc : Thread Cert.ProjDxt.nD Cert.ProjDxt.τ).loc Cert.ProjDxt.main_arg0)
      ∧ r.2.mem ((c.tc : Thread Cert.ProjDxt.nD Cert.ProjDxt.τ).loc Cert.ProjDxt.main_arg1) = m ((c.tc : Thread Cert.ProjDxt.nD Cert.ProjDxt.τ).loc Cert.ProjDxt.main_arg1))
      ∧ r.2.sem = fun _ => 0)

def quiescent_ProjDxtIdeal [hProjDxtIdeal : Cert.ProjDxtIdeal.Facts] : Prop :=
  ∀ (m : (ℓ : Loc Cert.ProjDxtIdeal.nD Cert.ProjDxtIdeal.τ Cert.ProjDxtIdeal.sig) → Buf (Elt Ideal) ℓ) (g : Dev Cert.ProjDxtIdeal.nD → PrngReg), Pre_ProjDxtIdeal m →
    θ_run (Cert.ProjDxtIdeal.defs (F := Ideal)) (onTc (τ := Cert.ProjDxtIdeal.τ) (Cert.ProjDxtIdeal.main (F := Ideal))) ⟨m, fun _ => 0, g⟩ (fun r => (∀ c : Dev Cert.ProjDxtIdeal.nD,
      r.2.mem ((c.tc : Thread Cert.ProjDxtIdeal.nD Cert.ProjDxtIdeal.τ).loc Cert.ProjDxtIdeal.main_arg0) = m ((c.tc : Thread Cert.ProjDxtIdeal.nD Cert.ProjDxtIdeal.τ).loc Cert.ProjDxtIdeal.main_arg0)
      ∧ r.2.mem ((c.tc : Thread Cert.ProjDxtIdeal.nD Cert.ProjDxtIdeal.τ).loc Cert.ProjDxtIdeal.main_arg1) = m ((c.tc : Thread Cert.ProjDxtIdeal.nD Cert.ProjDxtIdeal.τ).loc Cert.ProjDxtIdeal.main_arg1))
      ∧ r.2.sem = fun _ => 0)

def quiescent_ProjDxtRefIdeal [hProjDxtRefIdeal : Cert.ProjDxtRefIdeal.Facts] : Prop :=
  ∀ (m : (ℓ : Loc Cert.ProjDxtRefIdeal.nD Cert.ProjDxtRefIdeal.τ Cert.ProjDxtRefIdeal.sig) → Buf (Elt Ideal) ℓ) (g : Dev Cert.ProjDxtRefIdeal.nD → PrngReg), Pre_ProjDxtRefIdeal m →
    θ_run (Cert.ProjDxtRefIdeal.defs (F := Ideal)) (onTc (τ := Cert.ProjDxtRefIdeal.τ) (Cert.ProjDxtRefIdeal.main (F := Ideal))) ⟨m, fun _ => 0, g⟩ (fun r => (∀ c : Dev Cert.ProjDxtRefIdeal.nD,
      r.2.mem ((c.tc : Thread Cert.ProjDxtRefIdeal.nD Cert.ProjDxtRefIdeal.τ).loc Cert.ProjDxtRefIdeal.main_arg0) = m ((c.tc : Thread Cert.ProjDxtRefIdeal.nD Cert.ProjDxtRefIdeal.τ).loc Cert.ProjDxtRefIdeal.main_arg0)
      ∧ r.2.mem ((c.tc : Thread Cert.ProjDxtRefIdeal.nD Cert.ProjDxtRefIdeal.τ).loc Cert.ProjDxtRefIdeal.main_arg1) = m ((c.tc : Thread Cert.ProjDxtRefIdeal.nD Cert.ProjDxtRefIdeal.τ).loc Cert.ProjDxtRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_MainFw [hMainFw : Cert.MainFw.Facts] : Prop :=
  ∀ (m : (ℓ : Loc Cert.MainFw.nD Cert.MainFw.τ Cert.MainFw.sig) → Buf (Elt Bits) ℓ) (g : Dev Cert.MainFw.nD → PrngReg), Pre_MainFw m →
    θ_run (Cert.MainFw.defs (F := Bits)) (onTc (τ := Cert.MainFw.τ) (Cert.MainFw.main (F := Bits))) ⟨m, fun _ => 0, g⟩ (fun r => (∀ c : Dev Cert.MainFw.nD,
      r.2.mem ((c.tc : Thread Cert.MainFw.nD Cert.MainFw.τ).loc Cert.MainFw.main_arg0) = m ((c.tc : Thread Cert.MainFw.nD Cert.MainFw.τ).loc Cert.MainFw.main_arg0)
      ∧ r.2.mem ((c.tc : Thread Cert.MainFw.nD Cert.MainFw.τ).loc Cert.MainFw.main_arg1) = m ((c.tc : Thread Cert.MainFw.nD Cert.MainFw.τ).loc Cert.MainFw.main_arg1)
      ∧ r.2.mem ((c.tc : Thread Cert.MainFw.nD Cert.MainFw.τ).loc Cert.MainFw.main_arg2) = m ((c.tc : Thread Cert.MainFw.nD Cert.MainFw.τ).loc Cert.MainFw.main_arg2))
      ∧ r.2.sem = fun _ => 0)

def quiescent_MainFwIdeal [hMainFwIdeal : Cert.MainFwIdeal.Facts] : Prop :=
  ∀ (m : (ℓ : Loc Cert.MainFwIdeal.nD Cert.MainFwIdeal.τ Cert.MainFwIdeal.sig) → Buf (Elt Ideal) ℓ) (g : Dev Cert.MainFwIdeal.nD → PrngReg), Pre_MainFwIdeal m →
    θ_run (Cert.MainFwIdeal.defs (F := Ideal)) (onTc (τ := Cert.MainFwIdeal.τ) (Cert.MainFwIdeal.main (F := Ideal))) ⟨m, fun _ => 0, g⟩ (fun r => (∀ c : Dev Cert.MainFwIdeal.nD,
      r.2.mem ((c.tc : Thread Cert.MainFwIdeal.nD Cert.MainFwIdeal.τ).loc Cert.MainFwIdeal.main_arg0) = m ((c.tc : Thread Cert.MainFwIdeal.nD Cert.MainFwIdeal.τ).loc Cert.MainFwIdeal.main_arg0)
      ∧ r.2.mem ((c.tc : Thread Cert.MainFwIdeal.nD Cert.MainFwIdeal.τ).loc Cert.MainFwIdeal.main_arg1) = m ((c.tc : Thread Cert.MainFwIdeal.nD Cert.MainFwIdeal.τ).loc Cert.MainFwIdeal.main_arg1)
      ∧ r.2.mem ((c.tc : Thread Cert.MainFwIdeal.nD Cert.MainFwIdeal.τ).loc Cert.MainFwIdeal.main_arg2) = m ((c.tc : Thread Cert.MainFwIdeal.nD Cert.MainFwIdeal.τ).loc Cert.MainFwIdeal.main_arg2))
      ∧ r.2.sem = fun _ => 0)

def quiescent_MainFwRefIdeal [hMainFwRefIdeal : Cert.MainFwRefIdeal.Facts] : Prop :=
  ∀ (m : (ℓ : Loc Cert.MainFwRefIdeal.nD Cert.MainFwRefIdeal.τ Cert.MainFwRefIdeal.sig) → Buf (Elt Ideal) ℓ) (g : Dev Cert.MainFwRefIdeal.nD → PrngReg), Pre_MainFwRefIdeal m →
    θ_run (Cert.MainFwRefIdeal.defs (F := Ideal)) (onTc (τ := Cert.MainFwRefIdeal.τ) (Cert.MainFwRefIdeal.main (F := Ideal))) ⟨m, fun _ => 0, g⟩ (fun r => (∀ c : Dev Cert.MainFwRefIdeal.nD,
      r.2.mem ((c.tc : Thread Cert.MainFwRefIdeal.nD Cert.MainFwRefIdeal.τ).loc Cert.MainFwRefIdeal.main_arg0) = m ((c.tc : Thread Cert.MainFwRefIdeal.nD Cert.MainFwRefIdeal.τ).loc Cert.MainFwRefIdeal.main_arg0)
      ∧ r.2.mem ((c.tc : Thread Cert.MainFwRefIdeal.nD Cert.MainFwRefIdeal.τ).loc Cert.MainFwRefIdeal.main_arg1) = m ((c.tc : Thread Cert.MainFwRefIdeal.nD Cert.MainFwRefIdeal.τ).loc Cert.MainFwRefIdeal.main_arg1)
      ∧ r.2.mem ((c.tc : Thread Cert.MainFwRefIdeal.nD Cert.MainFwRefIdeal.τ).loc Cert.MainFwRefIdeal.main_arg2) = m ((c.tc : Thread Cert.MainFwRefIdeal.nD Cert.MainFwRefIdeal.τ).loc Cert.MainFwRefIdeal.main_arg2))
      ∧ r.2.sem = fun _ => 0)

def quiescent_UpFw [hUpFw : Cert.UpFw.Facts] : Prop :=
  ∀ (m : (ℓ : Loc Cert.UpFw.nD Cert.UpFw.τ Cert.UpFw.sig) → Buf (Elt Bits) ℓ) (g : Dev Cert.UpFw.nD → PrngReg), Pre_UpFw m →
    θ_run (Cert.UpFw.defs (F := Bits)) (onTc (τ := Cert.UpFw.τ) (Cert.UpFw.main (F := Bits))) ⟨m, fun _ => 0, g⟩ (fun r => (∀ c : Dev Cert.UpFw.nD,
      r.2.mem ((c.tc : Thread Cert.UpFw.nD Cert.UpFw.τ).loc Cert.UpFw.main_arg0) = m ((c.tc : Thread Cert.UpFw.nD Cert.UpFw.τ).loc Cert.UpFw.main_arg0)
      ∧ r.2.mem ((c.tc : Thread Cert.UpFw.nD Cert.UpFw.τ).loc Cert.UpFw.main_arg1) = m ((c.tc : Thread Cert.UpFw.nD Cert.UpFw.τ).loc Cert.UpFw.main_arg1))
      ∧ r.2.sem = fun _ => 0)

def quiescent_UpFwIdeal [hUpFwIdeal : Cert.UpFwIdeal.Facts] : Prop :=
  ∀ (m : (ℓ : Loc Cert.UpFwIdeal.nD Cert.UpFwIdeal.τ Cert.UpFwIdeal.sig) → Buf (Elt Ideal) ℓ) (g : Dev Cert.UpFwIdeal.nD → PrngReg), Pre_UpFwIdeal m →
    θ_run (Cert.UpFwIdeal.defs (F := Ideal)) (onTc (τ := Cert.UpFwIdeal.τ) (Cert.UpFwIdeal.main (F := Ideal))) ⟨m, fun _ => 0, g⟩ (fun r => (∀ c : Dev Cert.UpFwIdeal.nD,
      r.2.mem ((c.tc : Thread Cert.UpFwIdeal.nD Cert.UpFwIdeal.τ).loc Cert.UpFwIdeal.main_arg0) = m ((c.tc : Thread Cert.UpFwIdeal.nD Cert.UpFwIdeal.τ).loc Cert.UpFwIdeal.main_arg0)
      ∧ r.2.mem ((c.tc : Thread Cert.UpFwIdeal.nD Cert.UpFwIdeal.τ).loc Cert.UpFwIdeal.main_arg1) = m ((c.tc : Thread Cert.UpFwIdeal.nD Cert.UpFwIdeal.τ).loc Cert.UpFwIdeal.main_arg1))
      ∧ r.2.sem = fun _ => 0)

def quiescent_UpFwRefIdeal [hUpFwRefIdeal : Cert.UpFwRefIdeal.Facts] : Prop :=
  ∀ (m : (ℓ : Loc Cert.UpFwRefIdeal.nD Cert.UpFwRefIdeal.τ Cert.UpFwRefIdeal.sig) → Buf (Elt Ideal) ℓ) (g : Dev Cert.UpFwRefIdeal.nD → PrngReg), Pre_UpFwRefIdeal m →
    θ_run (Cert.UpFwRefIdeal.defs (F := Ideal)) (onTc (τ := Cert.UpFwRefIdeal.τ) (Cert.UpFwRefIdeal.main (F := Ideal))) ⟨m, fun _ => 0, g⟩ (fun r => (∀ c : Dev Cert.UpFwRefIdeal.nD,
      r.2.mem ((c.tc : Thread Cert.UpFwRefIdeal.nD Cert.UpFwRefIdeal.τ).loc Cert.UpFwRefIdeal.main_arg0) = m ((c.tc : Thread Cert.UpFwRefIdeal.nD Cert.UpFwRefIdeal.τ).loc Cert.UpFwRefIdeal.main_arg0)
      ∧ r.2.mem ((c.tc : Thread Cert.UpFwRefIdeal.nD Cert.UpFwRefIdeal.τ).loc Cert.UpFwRefIdeal.main_arg1) = m ((c.tc : Thread Cert.UpFwRefIdeal.nD Cert.UpFwRefIdeal.τ).loc Cert.UpFwRefIdeal.main_arg1))
      ∧ r.2.sem = fun _ => 0)

def quiescent_DownFw [hDownFw : Cert.DownFw.Facts] : Prop :=
  ∀ (m : (ℓ : Loc Cert.DownFw.nD Cert.DownFw.τ Cert.DownFw.sig) → Buf (Elt Bits) ℓ) (g : Dev Cert.DownFw.nD → PrngReg), Pre_DownFw m →
    θ_run (Cert.DownFw.defs (F := Bits)) (onTc (τ := Cert.DownFw.τ) (Cert.DownFw.main (F := Bits))) ⟨m, fun _ => 0, g⟩ (fun r => (∀ c : Dev Cert.DownFw.nD,
      r.2.mem ((c.tc : Thread Cert.DownFw.nD Cert.DownFw.τ).loc Cert.DownFw.main_arg0) = m ((c.tc : Thread Cert.DownFw.nD Cert.DownFw.τ).loc Cert.DownFw.main_arg0)
      ∧ r.2.mem ((c.tc : Thread Cert.DownFw.nD Cert.DownFw.τ).loc Cert.DownFw.main_arg1) = m ((c.tc : Thread Cert.DownFw.nD Cert.DownFw.τ).loc Cert.DownFw.main_arg1))
      ∧ r.2.sem = fun _ => 0)

def quiescent_DownFwIdeal [hDownFwIdeal : Cert.DownFwIdeal.Facts] : Prop :=
  ∀ (m : (ℓ : Loc Cert.DownFwIdeal.nD Cert.DownFwIdeal.τ Cert.DownFwIdeal.sig) → Buf (Elt Ideal) ℓ) (g : Dev Cert.DownFwIdeal.nD → PrngReg), Pre_DownFwIdeal m →
    θ_run (Cert.DownFwIdeal.defs (F := Ideal)) (onTc (τ := Cert.DownFwIdeal.τ) (Cert.DownFwIdeal.main (F := Ideal))) ⟨m, fun _ => 0, g⟩ (fun r => (∀ c : Dev Cert.DownFwIdeal.nD,
      r.2.mem ((c.tc : Thread Cert.DownFwIdeal.nD Cert.DownFwIdeal.τ).loc Cert.DownFwIdeal.main_arg0) = m ((c.tc : Thread Cert.DownFwIdeal.nD Cert.DownFwIdeal.τ).loc Cert.DownFwIdeal.main_arg0)
      ∧ r.2.mem ((c.tc : Thread Cert.DownFwIdeal.nD Cert.DownFwIdeal.τ).loc Cert.DownFwIdeal.main_arg1) = m ((c.tc : Thread Cert.DownFwIdeal.nD Cert.DownFwIdeal.τ).loc Cert.DownFwIdeal.main_arg1))
      ∧ r.2.sem = fun _ => 0)

def quiescent_DownFwRefIdeal [hDownFwRefIdeal : Cert.DownFwRefIdeal.Facts] : Prop :=
  ∀ (m : (ℓ : Loc Cert.DownFwRefIdeal.nD Cert.DownFwRefIdeal.τ Cert.DownFwRefIdeal.sig) → Buf (Elt Ideal) ℓ) (g : Dev Cert.DownFwRefIdeal.nD → PrngReg), Pre_DownFwRefIdeal m →
    θ_run (Cert.DownFwRefIdeal.defs (F := Ideal)) (onTc (τ := Cert.DownFwRefIdeal.τ) (Cert.DownFwRefIdeal.main (F := Ideal))) ⟨m, fun _ => 0, g⟩ (fun r => (∀ c : Dev Cert.DownFwRefIdeal.nD,
      r.2.mem ((c.tc : Thread Cert.DownFwRefIdeal.nD Cert.DownFwRefIdeal.τ).loc Cert.DownFwRefIdeal.main_arg0) = m ((c.tc : Thread Cert.DownFwRefIdeal.nD Cert.DownFwRefIdeal.τ).loc Cert.DownFwRefIdeal.main_arg0)
      ∧ r.2.mem ((c.tc : Thread Cert.DownFwRefIdeal.nD Cert.DownFwRefIdeal.τ).loc Cert.DownFwRefIdeal.main_arg1) = m ((c.tc : Thread Cert.DownFwRefIdeal.nD Cert.DownFwRefIdeal.τ).loc Cert.DownFwRefIdeal.main_arg1))
      ∧ r.2.sem = fun _ => 0)

def quiescent_MixFw [hMixFw : Cert.MixFw.Facts] : Prop :=
  ∀ (m : (ℓ : Loc Cert.MixFw.nD Cert.MixFw.τ Cert.MixFw.sig) → Buf (Elt Bits) ℓ) (g : Dev Cert.MixFw.nD → PrngReg), Pre_MixFw m →
    θ_run (Cert.MixFw.defs (F := Bits)) (onTc (τ := Cert.MixFw.τ) (Cert.MixFw.main (F := Bits))) ⟨m, fun _ => 0, g⟩ (fun r => (∀ c : Dev Cert.MixFw.nD,
      r.2.mem ((c.tc : Thread Cert.MixFw.nD Cert.MixFw.τ).loc Cert.MixFw.main_arg0) = m ((c.tc : Thread Cert.MixFw.nD Cert.MixFw.τ).loc Cert.MixFw.main_arg0)
      ∧ r.2.mem ((c.tc : Thread Cert.MixFw.nD Cert.MixFw.τ).loc Cert.MixFw.main_arg1) = m ((c.tc : Thread Cert.MixFw.nD Cert.MixFw.τ).loc Cert.MixFw.main_arg1)
      ∧ r.2.mem ((c.tc : Thread Cert.MixFw.nD Cert.MixFw.τ).loc Cert.MixFw.main_arg2) = m ((c.tc : Thread Cert.MixFw.nD Cert.MixFw.τ).loc Cert.MixFw.main_arg2))
      ∧ r.2.sem = fun _ => 0)

def quiescent_MixFwIdeal [hMixFwIdeal : Cert.MixFwIdeal.Facts] : Prop :=
  ∀ (m : (ℓ : Loc Cert.MixFwIdeal.nD Cert.MixFwIdeal.τ Cert.MixFwIdeal.sig) → Buf (Elt Ideal) ℓ) (g : Dev Cert.MixFwIdeal.nD → PrngReg), Pre_MixFwIdeal m →
    θ_run (Cert.MixFwIdeal.defs (F := Ideal)) (onTc (τ := Cert.MixFwIdeal.τ) (Cert.MixFwIdeal.main (F := Ideal))) ⟨m, fun _ => 0, g⟩ (fun r => (∀ c : Dev Cert.MixFwIdeal.nD,
      r.2.mem ((c.tc : Thread Cert.MixFwIdeal.nD Cert.MixFwIdeal.τ).loc Cert.MixFwIdeal.main_arg0) = m ((c.tc : Thread Cert.MixFwIdeal.nD Cert.MixFwIdeal.τ).loc Cert.MixFwIdeal.main_arg0)
      ∧ r.2.mem ((c.tc : Thread Cert.MixFwIdeal.nD Cert.MixFwIdeal.τ).loc Cert.MixFwIdeal.main_arg1) = m ((c.tc : Thread Cert.MixFwIdeal.nD Cert.MixFwIdeal.τ).loc Cert.MixFwIdeal.main_arg1)
      ∧ r.2.mem ((c.tc : Thread Cert.MixFwIdeal.nD Cert.MixFwIdeal.τ).loc Cert.MixFwIdeal.main_arg2) = m ((c.tc : Thread Cert.MixFwIdeal.nD Cert.MixFwIdeal.τ).loc Cert.MixFwIdeal.main_arg2))
      ∧ r.2.sem = fun _ => 0)

def quiescent_MixFwRefIdeal [hMixFwRefIdeal : Cert.MixFwRefIdeal.Facts] : Prop :=
  ∀ (m : (ℓ : Loc Cert.MixFwRefIdeal.nD Cert.MixFwRefIdeal.τ Cert.MixFwRefIdeal.sig) → Buf (Elt Ideal) ℓ) (g : Dev Cert.MixFwRefIdeal.nD → PrngReg), Pre_MixFwRefIdeal m →
    θ_run (Cert.MixFwRefIdeal.defs (F := Ideal)) (onTc (τ := Cert.MixFwRefIdeal.τ) (Cert.MixFwRefIdeal.main (F := Ideal))) ⟨m, fun _ => 0, g⟩ (fun r => (∀ c : Dev Cert.MixFwRefIdeal.nD,
      r.2.mem ((c.tc : Thread Cert.MixFwRefIdeal.nD Cert.MixFwRefIdeal.τ).loc Cert.MixFwRefIdeal.main_arg0) = m ((c.tc : Thread Cert.MixFwRefIdeal.nD Cert.MixFwRefIdeal.τ).loc Cert.MixFwRefIdeal.main_arg0)
      ∧ r.2.mem ((c.tc : Thread Cert.MixFwRefIdeal.nD Cert.MixFwRefIdeal.τ).loc Cert.MixFwRefIdeal.main_arg1) = m ((c.tc : Thread Cert.MixFwRefIdeal.nD Cert.MixFwRefIdeal.τ).loc Cert.MixFwRefIdeal.main_arg1)
      ∧ r.2.mem ((c.tc : Thread Cert.MixFwRefIdeal.nD Cert.MixFwRefIdeal.τ).loc Cert.MixFwRefIdeal.main_arg2) = m ((c.tc : Thread Cert.MixFwRefIdeal.nD Cert.MixFwRefIdeal.τ).loc Cert.MixFwRefIdeal.main_arg2))
      ∧ r.2.sem = fun _ => 0)

def quiescent_ConvFw [hConvFw : Cert.ConvFw.Facts] : Prop :=
  ∀ (m : (ℓ : Loc Cert.ConvFw.nD Cert.ConvFw.τ Cert.ConvFw.sig) → Buf (Elt Bits) ℓ) (g : Dev Cert.ConvFw.nD → PrngReg), Pre_ConvFw m →
    θ_run (Cert.ConvFw.defs (F := Bits)) (onTc (τ := Cert.ConvFw.τ) (Cert.ConvFw.main (F := Bits))) ⟨m, fun _ => 0, g⟩ (fun r => (∀ c : Dev Cert.ConvFw.nD,
      r.2.mem ((c.tc : Thread Cert.ConvFw.nD Cert.ConvFw.τ).loc Cert.ConvFw.main_arg0) = m ((c.tc : Thread Cert.ConvFw.nD Cert.ConvFw.τ).loc Cert.ConvFw.main_arg0)
      ∧ r.2.mem ((c.tc : Thread Cert.ConvFw.nD Cert.ConvFw.τ).loc Cert.ConvFw.main_arg1) = m ((c.tc : Thread Cert.ConvFw.nD Cert.ConvFw.τ).loc Cert.ConvFw.main_arg1))
      ∧ r.2.sem = fun _ => 0)

def quiescent_ConvFwIdeal [hConvFwIdeal : Cert.ConvFwIdeal.Facts] : Prop :=
  ∀ (m : (ℓ : Loc Cert.ConvFwIdeal.nD Cert.ConvFwIdeal.τ Cert.ConvFwIdeal.sig) → Buf (Elt Ideal) ℓ) (g : Dev Cert.ConvFwIdeal.nD → PrngReg), Pre_ConvFwIdeal m →
    θ_run (Cert.ConvFwIdeal.defs (F := Ideal)) (onTc (τ := Cert.ConvFwIdeal.τ) (Cert.ConvFwIdeal.main (F := Ideal))) ⟨m, fun _ => 0, g⟩ (fun r => (∀ c : Dev Cert.ConvFwIdeal.nD,
      r.2.mem ((c.tc : Thread Cert.ConvFwIdeal.nD Cert.ConvFwIdeal.τ).loc Cert.ConvFwIdeal.main_arg0) = m ((c.tc : Thread Cert.ConvFwIdeal.nD Cert.ConvFwIdeal.τ).loc Cert.ConvFwIdeal.main_arg0)
      ∧ r.2.mem ((c.tc : Thread Cert.ConvFwIdeal.nD Cert.ConvFwIdeal.τ).loc Cert.ConvFwIdeal.main_arg1) = m ((c.tc : Thread Cert.ConvFwIdeal.nD Cert.ConvFwIdeal.τ).loc Cert.ConvFwIdeal.main_arg1))
      ∧ r.2.sem = fun _ => 0)

def quiescent_ConvFwRefIdeal [hConvFwRefIdeal : Cert.ConvFwRefIdeal.Facts] : Prop :=
  ∀ (m : (ℓ : Loc Cert.ConvFwRefIdeal.nD Cert.ConvFwRefIdeal.τ Cert.ConvFwRefIdeal.sig) → Buf (Elt Ideal) ℓ) (g : Dev Cert.ConvFwRefIdeal.nD → PrngReg), Pre_ConvFwRefIdeal m →
    θ_run (Cert.ConvFwRefIdeal.defs (F := Ideal)) (onTc (τ := Cert.ConvFwRefIdeal.τ) (Cert.ConvFwRefIdeal.main (F := Ideal))) ⟨m, fun _ => 0, g⟩ (fun r => (∀ c : Dev Cert.ConvFwRefIdeal.nD,
      r.2.mem ((c.tc : Thread Cert.ConvFwRefIdeal.nD Cert.ConvFwRefIdeal.τ).loc Cert.ConvFwRefIdeal.main_arg0) = m ((c.tc : Thread Cert.ConvFwRefIdeal.nD Cert.ConvFwRefIdeal.τ).loc Cert.ConvFwRefIdeal.main_arg0)
      ∧ r.2.mem ((c.tc : Thread Cert.ConvFwRefIdeal.nD Cert.ConvFwRefIdeal.τ).loc Cert.ConvFwRefIdeal.main_arg1) = m ((c.tc : Thread Cert.ConvFwRefIdeal.nD Cert.ConvFwRefIdeal.τ).loc Cert.ConvFwRefIdeal.main_arg1))
      ∧ r.2.sem = fun _ => 0)

def quiescent_ProjFw [hProjFw : Cert.ProjFw.Facts] : Prop :=
  ∀ (m : (ℓ : Loc Cert.ProjFw.nD Cert.ProjFw.τ Cert.ProjFw.sig) → Buf (Elt Bits) ℓ) (g : Dev Cert.ProjFw.nD → PrngReg), Pre_ProjFw m →
    θ_run (Cert.ProjFw.defs (F := Bits)) (onTc (τ := Cert.ProjFw.τ) (Cert.ProjFw.main (F := Bits))) ⟨m, fun _ => 0, g⟩ (fun r => (∀ c : Dev Cert.ProjFw.nD,
      r.2.mem ((c.tc : Thread Cert.ProjFw.nD Cert.ProjFw.τ).loc Cert.ProjFw.main_arg0) = m ((c.tc : Thread Cert.ProjFw.nD Cert.ProjFw.τ).loc Cert.ProjFw.main_arg0)
      ∧ r.2.mem ((c.tc : Thread Cert.ProjFw.nD Cert.ProjFw.τ).loc Cert.ProjFw.main_arg1) = m ((c.tc : Thread Cert.ProjFw.nD Cert.ProjFw.τ).loc Cert.ProjFw.main_arg1))
      ∧ r.2.sem = fun _ => 0)

def quiescent_ProjFwIdeal [hProjFwIdeal : Cert.ProjFwIdeal.Facts] : Prop :=
  ∀ (m : (ℓ : Loc Cert.ProjFwIdeal.nD Cert.ProjFwIdeal.τ Cert.ProjFwIdeal.sig) → Buf (Elt Ideal) ℓ) (g : Dev Cert.ProjFwIdeal.nD → PrngReg), Pre_ProjFwIdeal m →
    θ_run (Cert.ProjFwIdeal.defs (F := Ideal)) (onTc (τ := Cert.ProjFwIdeal.τ) (Cert.ProjFwIdeal.main (F := Ideal))) ⟨m, fun _ => 0, g⟩ (fun r => (∀ c : Dev Cert.ProjFwIdeal.nD,
      r.2.mem ((c.tc : Thread Cert.ProjFwIdeal.nD Cert.ProjFwIdeal.τ).loc Cert.ProjFwIdeal.main_arg0) = m ((c.tc : Thread Cert.ProjFwIdeal.nD Cert.ProjFwIdeal.τ).loc Cert.ProjFwIdeal.main_arg0)
      ∧ r.2.mem ((c.tc : Thread Cert.ProjFwIdeal.nD Cert.ProjFwIdeal.τ).loc Cert.ProjFwIdeal.main_arg1) = m ((c.tc : Thread Cert.ProjFwIdeal.nD Cert.ProjFwIdeal.τ).loc Cert.ProjFwIdeal.main_arg1))
      ∧ r.2.sem = fun _ => 0)

def quiescent_ProjFwRefIdeal [hProjFwRefIdeal : Cert.ProjFwRefIdeal.Facts] : Prop :=
  ∀ (m : (ℓ : Loc Cert.ProjFwRefIdeal.nD Cert.ProjFwRefIdeal.τ Cert.ProjFwRefIdeal.sig) → Buf (Elt Ideal) ℓ) (g : Dev Cert.ProjFwRefIdeal.nD → PrngReg), Pre_ProjFwRefIdeal m →
    θ_run (Cert.ProjFwRefIdeal.defs (F := Ideal)) (onTc (τ := Cert.ProjFwRefIdeal.τ) (Cert.ProjFwRefIdeal.main (F := Ideal))) ⟨m, fun _ => 0, g⟩ (fun r => (∀ c : Dev Cert.ProjFwRefIdeal.nD,
      r.2.mem ((c.tc : Thread Cert.ProjFwRefIdeal.nD Cert.ProjFwRefIdeal.τ).loc Cert.ProjFwRefIdeal.main_arg0) = m ((c.tc : Thread Cert.ProjFwRefIdeal.nD Cert.ProjFwRefIdeal.τ).loc Cert.ProjFwRefIdeal.main_arg0)
      ∧ r.2.mem ((c.tc : Thread Cert.ProjFwRefIdeal.nD Cert.ProjFwRefIdeal.τ).loc Cert.ProjFwRefIdeal.main_arg1) = m ((c.tc : Thread Cert.ProjFwRefIdeal.nD Cert.ProjFwRefIdeal.τ).loc Cert.ProjFwRefIdeal.main_arg1))
      ∧ r.2.sem = fun _ => 0)

def quiescent_AdaOpt [hAdaOpt : Cert.AdaOpt.Facts] : Prop :=
  ∀ (m : (ℓ : Loc Cert.AdaOpt.nD Cert.AdaOpt.τ Cert.AdaOpt.sig) → Buf (Elt Bits) ℓ) (g : Dev Cert.AdaOpt.nD → PrngReg), Pre_AdaOpt m →
    θ_run (Cert.AdaOpt.defs (F := Bits)) (onTc (τ := Cert.AdaOpt.τ) (Cert.AdaOpt.main (F := Bits))) ⟨m, fun _ => 0, g⟩ (fun r => (∀ c : Dev Cert.AdaOpt.nD,
      r.2.mem ((c.tc : Thread Cert.AdaOpt.nD Cert.AdaOpt.τ).loc Cert.AdaOpt.main_arg0) = m ((c.tc : Thread Cert.AdaOpt.nD Cert.AdaOpt.τ).loc Cert.AdaOpt.main_arg0)
      ∧ r.2.mem ((c.tc : Thread Cert.AdaOpt.nD Cert.AdaOpt.τ).loc Cert.AdaOpt.main_arg1) = m ((c.tc : Thread Cert.AdaOpt.nD Cert.AdaOpt.τ).loc Cert.AdaOpt.main_arg1)
      ∧ r.2.mem ((c.tc : Thread Cert.AdaOpt.nD Cert.AdaOpt.τ).loc Cert.AdaOpt.main_arg2) = m ((c.tc : Thread Cert.AdaOpt.nD Cert.AdaOpt.τ).loc Cert.AdaOpt.main_arg2)
      ∧ r.2.mem ((c.tc : Thread Cert.AdaOpt.nD Cert.AdaOpt.τ).loc Cert.AdaOpt.main_arg3) = m ((c.tc : Thread Cert.AdaOpt.nD Cert.AdaOpt.τ).loc Cert.AdaOpt.main_arg3))
      ∧ r.2.sem = fun _ => 0)

def quiescent_AdaOptIdeal [hAdaOptIdeal : Cert.AdaOptIdeal.Facts] : Prop :=
  ∀ (m : (ℓ : Loc Cert.AdaOptIdeal.nD Cert.AdaOptIdeal.τ Cert.AdaOptIdeal.sig) → Buf (Elt Ideal) ℓ) (g : Dev Cert.AdaOptIdeal.nD → PrngReg), Pre_AdaOptIdeal m →
    θ_run (Cert.AdaOptIdeal.defs (F := Ideal)) (onTc (τ := Cert.AdaOptIdeal.τ) (Cert.AdaOptIdeal.main (F := Ideal))) ⟨m, fun _ => 0, g⟩ (fun r => (∀ c : Dev Cert.AdaOptIdeal.nD,
      r.2.mem ((c.tc : Thread Cert.AdaOptIdeal.nD Cert.AdaOptIdeal.τ).loc Cert.AdaOptIdeal.main_arg0) = m ((c.tc : Thread Cert.AdaOptIdeal.nD Cert.AdaOptIdeal.τ).loc Cert.AdaOptIdeal.main_arg0)
      ∧ r.2.mem ((c.tc : Thread Cert.AdaOptIdeal.nD Cert.AdaOptIdeal.τ).loc Cert.AdaOptIdeal.main_arg1) = m ((c.tc : Thread Cert.AdaOptIdeal.nD Cert.AdaOptIdeal.τ).loc Cert.AdaOptIdeal.main_arg1)
      ∧ r.2.mem ((c.tc : Thread Cert.AdaOptIdeal.nD Cert.AdaOptIdeal.τ).loc Cert.AdaOptIdeal.main_arg2) = m ((c.tc : Thread Cert.AdaOptIdeal.nD Cert.AdaOptIdeal.τ).loc Cert.AdaOptIdeal.main_arg2)
      ∧ r.2.mem ((c.tc : Thread Cert.AdaOptIdeal.nD Cert.AdaOptIdeal.τ).loc Cert.AdaOptIdeal.main_arg3) = m ((c.tc : Thread Cert.AdaOptIdeal.nD Cert.AdaOptIdeal.τ).loc Cert.AdaOptIdeal.main_arg3))
      ∧ r.2.sem = fun _ => 0)

def quiescent_AdaOptRefIdeal [hAdaOptRefIdeal : Cert.AdaOptRefIdeal.Facts] : Prop :=
  ∀ (m : (ℓ : Loc Cert.AdaOptRefIdeal.nD Cert.AdaOptRefIdeal.τ Cert.AdaOptRefIdeal.sig) → Buf (Elt Ideal) ℓ) (g : Dev Cert.AdaOptRefIdeal.nD → PrngReg), Pre_AdaOptRefIdeal m →
    θ_run (Cert.AdaOptRefIdeal.defs (F := Ideal)) (onTc (τ := Cert.AdaOptRefIdeal.τ) (Cert.AdaOptRefIdeal.main (F := Ideal))) ⟨m, fun _ => 0, g⟩ (fun r => (∀ c : Dev Cert.AdaOptRefIdeal.nD,
      r.2.mem ((c.tc : Thread Cert.AdaOptRefIdeal.nD Cert.AdaOptRefIdeal.τ).loc Cert.AdaOptRefIdeal.main_arg0) = m ((c.tc : Thread Cert.AdaOptRefIdeal.nD Cert.AdaOptRefIdeal.τ).loc Cert.AdaOptRefIdeal.main_arg0)
      ∧ r.2.mem ((c.tc : Thread Cert.AdaOptRefIdeal.nD Cert.AdaOptRefIdeal.τ).loc Cert.AdaOptRefIdeal.main_arg1) = m ((c.tc : Thread Cert.AdaOptRefIdeal.nD Cert.AdaOptRefIdeal.τ).loc Cert.AdaOptRefIdeal.main_arg1)
      ∧ r.2.mem ((c.tc : Thread Cert.AdaOptRefIdeal.nD Cert.AdaOptRefIdeal.τ).loc Cert.AdaOptRefIdeal.main_arg2) = m ((c.tc : Thread Cert.AdaOptRefIdeal.nD Cert.AdaOptRefIdeal.τ).loc Cert.AdaOptRefIdeal.main_arg2)
      ∧ r.2.mem ((c.tc : Thread Cert.AdaOptRefIdeal.nD Cert.AdaOptRefIdeal.τ).loc Cert.AdaOptRefIdeal.main_arg3) = m ((c.tc : Thread Cert.AdaOptRefIdeal.nD Cert.AdaOptRefIdeal.τ).loc Cert.AdaOptRefIdeal.main_arg3))
      ∧ r.2.sem = fun _ => 0)

def quiescent_AdaBOpt [hAdaBOpt : Cert.AdaBOpt.Facts] : Prop :=
  ∀ (m : (ℓ : Loc Cert.AdaBOpt.nD Cert.AdaBOpt.τ Cert.AdaBOpt.sig) → Buf (Elt Bits) ℓ) (g : Dev Cert.AdaBOpt.nD → PrngReg), Pre_AdaBOpt m →
    θ_run (Cert.AdaBOpt.defs (F := Bits)) (onTc (τ := Cert.AdaBOpt.τ) (Cert.AdaBOpt.main (F := Bits))) ⟨m, fun _ => 0, g⟩ (fun r => (∀ c : Dev Cert.AdaBOpt.nD,
      r.2.mem ((c.tc : Thread Cert.AdaBOpt.nD Cert.AdaBOpt.τ).loc Cert.AdaBOpt.main_arg0) = m ((c.tc : Thread Cert.AdaBOpt.nD Cert.AdaBOpt.τ).loc Cert.AdaBOpt.main_arg0)
      ∧ r.2.mem ((c.tc : Thread Cert.AdaBOpt.nD Cert.AdaBOpt.τ).loc Cert.AdaBOpt.main_arg1) = m ((c.tc : Thread Cert.AdaBOpt.nD Cert.AdaBOpt.τ).loc Cert.AdaBOpt.main_arg1)
      ∧ r.2.mem ((c.tc : Thread Cert.AdaBOpt.nD Cert.AdaBOpt.τ).loc Cert.AdaBOpt.main_arg2) = m ((c.tc : Thread Cert.AdaBOpt.nD Cert.AdaBOpt.τ).loc Cert.AdaBOpt.main_arg2)
      ∧ r.2.mem ((c.tc : Thread Cert.AdaBOpt.nD Cert.AdaBOpt.τ).loc Cert.AdaBOpt.main_arg3) = m ((c.tc : Thread Cert.AdaBOpt.nD Cert.AdaBOpt.τ).loc Cert.AdaBOpt.main_arg3))
      ∧ r.2.sem = fun _ => 0)

def quiescent_AdaBOptIdeal [hAdaBOptIdeal : Cert.AdaBOptIdeal.Facts] : Prop :=
  ∀ (m : (ℓ : Loc Cert.AdaBOptIdeal.nD Cert.AdaBOptIdeal.τ Cert.AdaBOptIdeal.sig) → Buf (Elt Ideal) ℓ) (g : Dev Cert.AdaBOptIdeal.nD → PrngReg), Pre_AdaBOptIdeal m →
    θ_run (Cert.AdaBOptIdeal.defs (F := Ideal)) (onTc (τ := Cert.AdaBOptIdeal.τ) (Cert.AdaBOptIdeal.main (F := Ideal))) ⟨m, fun _ => 0, g⟩ (fun r => (∀ c : Dev Cert.AdaBOptIdeal.nD,
      r.2.mem ((c.tc : Thread Cert.AdaBOptIdeal.nD Cert.AdaBOptIdeal.τ).loc Cert.AdaBOptIdeal.main_arg0) = m ((c.tc : Thread Cert.AdaBOptIdeal.nD Cert.AdaBOptIdeal.τ).loc Cert.AdaBOptIdeal.main_arg0)
      ∧ r.2.mem ((c.tc : Thread Cert.AdaBOptIdeal.nD Cert.AdaBOptIdeal.τ).loc Cert.AdaBOptIdeal.main_arg1) = m ((c.tc : Thread Cert.AdaBOptIdeal.nD Cert.AdaBOptIdeal.τ).loc Cert.AdaBOptIdeal.main_arg1)
      ∧ r.2.mem ((c.tc : Thread Cert.AdaBOptIdeal.nD Cert.AdaBOptIdeal.τ).loc Cert.AdaBOptIdeal.main_arg2) = m ((c.tc : Thread Cert.AdaBOptIdeal.nD Cert.AdaBOptIdeal.τ).loc Cert.AdaBOptIdeal.main_arg2)
      ∧ r.2.mem ((c.tc : Thread Cert.AdaBOptIdeal.nD Cert.AdaBOptIdeal.τ).loc Cert.AdaBOptIdeal.main_arg3) = m ((c.tc : Thread Cert.AdaBOptIdeal.nD Cert.AdaBOptIdeal.τ).loc Cert.AdaBOptIdeal.main_arg3))
      ∧ r.2.sem = fun _ => 0)

def quiescent_AdaBOptRefIdeal [hAdaBOptRefIdeal : Cert.AdaBOptRefIdeal.Facts] : Prop :=
  ∀ (m : (ℓ : Loc Cert.AdaBOptRefIdeal.nD Cert.AdaBOptRefIdeal.τ Cert.AdaBOptRefIdeal.sig) → Buf (Elt Ideal) ℓ) (g : Dev Cert.AdaBOptRefIdeal.nD → PrngReg), Pre_AdaBOptRefIdeal m →
    θ_run (Cert.AdaBOptRefIdeal.defs (F := Ideal)) (onTc (τ := Cert.AdaBOptRefIdeal.τ) (Cert.AdaBOptRefIdeal.main (F := Ideal))) ⟨m, fun _ => 0, g⟩ (fun r => (∀ c : Dev Cert.AdaBOptRefIdeal.nD,
      r.2.mem ((c.tc : Thread Cert.AdaBOptRefIdeal.nD Cert.AdaBOptRefIdeal.τ).loc Cert.AdaBOptRefIdeal.main_arg0) = m ((c.tc : Thread Cert.AdaBOptRefIdeal.nD Cert.AdaBOptRefIdeal.τ).loc Cert.AdaBOptRefIdeal.main_arg0)
      ∧ r.2.mem ((c.tc : Thread Cert.AdaBOptRefIdeal.nD Cert.AdaBOptRefIdeal.τ).loc Cert.AdaBOptRefIdeal.main_arg1) = m ((c.tc : Thread Cert.AdaBOptRefIdeal.nD Cert.AdaBOptRefIdeal.τ).loc Cert.AdaBOptRefIdeal.main_arg1)
      ∧ r.2.mem ((c.tc : Thread Cert.AdaBOptRefIdeal.nD Cert.AdaBOptRefIdeal.τ).loc Cert.AdaBOptRefIdeal.main_arg2) = m ((c.tc : Thread Cert.AdaBOptRefIdeal.nD Cert.AdaBOptRefIdeal.τ).loc Cert.AdaBOptRefIdeal.main_arg2)
      ∧ r.2.mem ((c.tc : Thread Cert.AdaBOptRefIdeal.nD Cert.AdaBOptRefIdeal.τ).loc Cert.AdaBOptRefIdeal.main_arg3) = m ((c.tc : Thread Cert.AdaBOptRefIdeal.nD Cert.AdaBOptRefIdeal.τ).loc Cert.AdaBOptRefIdeal.main_arg3))
      ∧ r.2.sem = fun _ => 0)

def quiescent_InOpt [hInOpt : Cert.InOpt.Facts] : Prop :=
  ∀ (m : (ℓ : Loc Cert.InOpt.nD Cert.InOpt.τ Cert.InOpt.sig) → Buf (Elt Bits) ℓ) (g : Dev Cert.InOpt.nD → PrngReg), Pre_InOpt m →
    θ_run (Cert.InOpt.defs (F := Bits)) (onTc (τ := Cert.InOpt.τ) (Cert.InOpt.main (F := Bits))) ⟨m, fun _ => 0, g⟩ (fun r => (∀ c : Dev Cert.InOpt.nD,
      r.2.mem ((c.tc : Thread Cert.InOpt.nD Cert.InOpt.τ).loc Cert.InOpt.main_arg0) = m ((c.tc : Thread Cert.InOpt.nD Cert.InOpt.τ).loc Cert.InOpt.main_arg0)
      ∧ r.2.mem ((c.tc : Thread Cert.InOpt.nD Cert.InOpt.τ).loc Cert.InOpt.main_arg1) = m ((c.tc : Thread Cert.InOpt.nD Cert.InOpt.τ).loc Cert.InOpt.main_arg1)
      ∧ r.2.mem ((c.tc : Thread Cert.InOpt.nD Cert.InOpt.τ).loc Cert.InOpt.main_arg2) = m ((c.tc : Thread Cert.InOpt.nD Cert.InOpt.τ).loc Cert.InOpt.main_arg2)
      ∧ r.2.mem ((c.tc : Thread Cert.InOpt.nD Cert.InOpt.τ).loc Cert.InOpt.main_arg3) = m ((c.tc : Thread Cert.InOpt.nD Cert.InOpt.τ).loc Cert.InOpt.main_arg3))
      ∧ r.2.sem = fun _ => 0)

def quiescent_InOptIdeal [hInOptIdeal : Cert.InOptIdeal.Facts] : Prop :=
  ∀ (m : (ℓ : Loc Cert.InOptIdeal.nD Cert.InOptIdeal.τ Cert.InOptIdeal.sig) → Buf (Elt Ideal) ℓ) (g : Dev Cert.InOptIdeal.nD → PrngReg), Pre_InOptIdeal m →
    θ_run (Cert.InOptIdeal.defs (F := Ideal)) (onTc (τ := Cert.InOptIdeal.τ) (Cert.InOptIdeal.main (F := Ideal))) ⟨m, fun _ => 0, g⟩ (fun r => (∀ c : Dev Cert.InOptIdeal.nD,
      r.2.mem ((c.tc : Thread Cert.InOptIdeal.nD Cert.InOptIdeal.τ).loc Cert.InOptIdeal.main_arg0) = m ((c.tc : Thread Cert.InOptIdeal.nD Cert.InOptIdeal.τ).loc Cert.InOptIdeal.main_arg0)
      ∧ r.2.mem ((c.tc : Thread Cert.InOptIdeal.nD Cert.InOptIdeal.τ).loc Cert.InOptIdeal.main_arg1) = m ((c.tc : Thread Cert.InOptIdeal.nD Cert.InOptIdeal.τ).loc Cert.InOptIdeal.main_arg1)
      ∧ r.2.mem ((c.tc : Thread Cert.InOptIdeal.nD Cert.InOptIdeal.τ).loc Cert.InOptIdeal.main_arg2) = m ((c.tc : Thread Cert.InOptIdeal.nD Cert.InOptIdeal.τ).loc Cert.InOptIdeal.main_arg2)
      ∧ r.2.mem ((c.tc : Thread Cert.InOptIdeal.nD Cert.InOptIdeal.τ).loc Cert.InOptIdeal.main_arg3) = m ((c.tc : Thread Cert.InOptIdeal.nD Cert.InOptIdeal.τ).loc Cert.InOptIdeal.main_arg3))
      ∧ r.2.sem = fun _ => 0)

def quiescent_InOptRefIdeal [hInOptRefIdeal : Cert.InOptRefIdeal.Facts] : Prop :=
  ∀ (m : (ℓ : Loc Cert.InOptRefIdeal.nD Cert.InOptRefIdeal.τ Cert.InOptRefIdeal.sig) → Buf (Elt Ideal) ℓ) (g : Dev Cert.InOptRefIdeal.nD → PrngReg), Pre_InOptRefIdeal m →
    θ_run (Cert.InOptRefIdeal.defs (F := Ideal)) (onTc (τ := Cert.InOptRefIdeal.τ) (Cert.InOptRefIdeal.main (F := Ideal))) ⟨m, fun _ => 0, g⟩ (fun r => (∀ c : Dev Cert.InOptRefIdeal.nD,
      r.2.mem ((c.tc : Thread Cert.InOptRefIdeal.nD Cert.InOptRefIdeal.τ).loc Cert.InOptRefIdeal.main_arg0) = m ((c.tc : Thread Cert.InOptRefIdeal.nD Cert.InOptRefIdeal.τ).loc Cert.InOptRefIdeal.main_arg0)
      ∧ r.2.mem ((c.tc : Thread Cert.InOptRefIdeal.nD Cert.InOptRefIdeal.τ).loc Cert.InOptRefIdeal.main_arg1) = m ((c.tc : Thread Cert.InOptRefIdeal.nD Cert.InOptRefIdeal.τ).loc Cert.InOptRefIdeal.main_arg1)
      ∧ r.2.mem ((c.tc : Thread Cert.InOptRefIdeal.nD Cert.InOptRefIdeal.τ).loc Cert.InOptRefIdeal.main_arg2) = m ((c.tc : Thread Cert.InOptRefIdeal.nD Cert.InOptRefIdeal.τ).loc Cert.InOptRefIdeal.main_arg2)
      ∧ r.2.mem ((c.tc : Thread Cert.InOptRefIdeal.nD Cert.InOptRefIdeal.τ).loc Cert.InOptRefIdeal.main_arg3) = m ((c.tc : Thread Cert.InOptRefIdeal.nD Cert.InOptRefIdeal.τ).loc Cert.InOptRefIdeal.main_arg3))
      ∧ r.2.sem = fun _ => 0)

def quiescent_InBOpt [hInBOpt : Cert.InBOpt.Facts] : Prop :=
  ∀ (m : (ℓ : Loc Cert.InBOpt.nD Cert.InBOpt.τ Cert.InBOpt.sig) → Buf (Elt Bits) ℓ) (g : Dev Cert.InBOpt.nD → PrngReg), Pre_InBOpt m →
    θ_run (Cert.InBOpt.defs (F := Bits)) (onTc (τ := Cert.InBOpt.τ) (Cert.InBOpt.main (F := Bits))) ⟨m, fun _ => 0, g⟩ (fun r => (∀ c : Dev Cert.InBOpt.nD,
      r.2.mem ((c.tc : Thread Cert.InBOpt.nD Cert.InBOpt.τ).loc Cert.InBOpt.main_arg0) = m ((c.tc : Thread Cert.InBOpt.nD Cert.InBOpt.τ).loc Cert.InBOpt.main_arg0)
      ∧ r.2.mem ((c.tc : Thread Cert.InBOpt.nD Cert.InBOpt.τ).loc Cert.InBOpt.main_arg1) = m ((c.tc : Thread Cert.InBOpt.nD Cert.InBOpt.τ).loc Cert.InBOpt.main_arg1)
      ∧ r.2.mem ((c.tc : Thread Cert.InBOpt.nD Cert.InBOpt.τ).loc Cert.InBOpt.main_arg2) = m ((c.tc : Thread Cert.InBOpt.nD Cert.InBOpt.τ).loc Cert.InBOpt.main_arg2)
      ∧ r.2.mem ((c.tc : Thread Cert.InBOpt.nD Cert.InBOpt.τ).loc Cert.InBOpt.main_arg3) = m ((c.tc : Thread Cert.InBOpt.nD Cert.InBOpt.τ).loc Cert.InBOpt.main_arg3))
      ∧ r.2.sem = fun _ => 0)

def quiescent_InBOptIdeal [hInBOptIdeal : Cert.InBOptIdeal.Facts] : Prop :=
  ∀ (m : (ℓ : Loc Cert.InBOptIdeal.nD Cert.InBOptIdeal.τ Cert.InBOptIdeal.sig) → Buf (Elt Ideal) ℓ) (g : Dev Cert.InBOptIdeal.nD → PrngReg), Pre_InBOptIdeal m →
    θ_run (Cert.InBOptIdeal.defs (F := Ideal)) (onTc (τ := Cert.InBOptIdeal.τ) (Cert.InBOptIdeal.main (F := Ideal))) ⟨m, fun _ => 0, g⟩ (fun r => (∀ c : Dev Cert.InBOptIdeal.nD,
      r.2.mem ((c.tc : Thread Cert.InBOptIdeal.nD Cert.InBOptIdeal.τ).loc Cert.InBOptIdeal.main_arg0) = m ((c.tc : Thread Cert.InBOptIdeal.nD Cert.InBOptIdeal.τ).loc Cert.InBOptIdeal.main_arg0)
      ∧ r.2.mem ((c.tc : Thread Cert.InBOptIdeal.nD Cert.InBOptIdeal.τ).loc Cert.InBOptIdeal.main_arg1) = m ((c.tc : Thread Cert.InBOptIdeal.nD Cert.InBOptIdeal.τ).loc Cert.InBOptIdeal.main_arg1)
      ∧ r.2.mem ((c.tc : Thread Cert.InBOptIdeal.nD Cert.InBOptIdeal.τ).loc Cert.InBOptIdeal.main_arg2) = m ((c.tc : Thread Cert.InBOptIdeal.nD Cert.InBOptIdeal.τ).loc Cert.InBOptIdeal.main_arg2)
      ∧ r.2.mem ((c.tc : Thread Cert.InBOptIdeal.nD Cert.InBOptIdeal.τ).loc Cert.InBOptIdeal.main_arg3) = m ((c.tc : Thread Cert.InBOptIdeal.nD Cert.InBOptIdeal.τ).loc Cert.InBOptIdeal.main_arg3))
      ∧ r.2.sem = fun _ => 0)

def quiescent_InBOptRefIdeal [hInBOptRefIdeal : Cert.InBOptRefIdeal.Facts] : Prop :=
  ∀ (m : (ℓ : Loc Cert.InBOptRefIdeal.nD Cert.InBOptRefIdeal.τ Cert.InBOptRefIdeal.sig) → Buf (Elt Ideal) ℓ) (g : Dev Cert.InBOptRefIdeal.nD → PrngReg), Pre_InBOptRefIdeal m →
    θ_run (Cert.InBOptRefIdeal.defs (F := Ideal)) (onTc (τ := Cert.InBOptRefIdeal.τ) (Cert.InBOptRefIdeal.main (F := Ideal))) ⟨m, fun _ => 0, g⟩ (fun r => (∀ c : Dev Cert.InBOptRefIdeal.nD,
      r.2.mem ((c.tc : Thread Cert.InBOptRefIdeal.nD Cert.InBOptRefIdeal.τ).loc Cert.InBOptRefIdeal.main_arg0) = m ((c.tc : Thread Cert.InBOptRefIdeal.nD Cert.InBOptRefIdeal.τ).loc Cert.InBOptRefIdeal.main_arg0)
      ∧ r.2.mem ((c.tc : Thread Cert.InBOptRefIdeal.nD Cert.InBOptRefIdeal.τ).loc Cert.InBOptRefIdeal.main_arg1) = m ((c.tc : Thread Cert.InBOptRefIdeal.nD Cert.InBOptRefIdeal.τ).loc Cert.InBOptRefIdeal.main_arg1)
      ∧ r.2.mem ((c.tc : Thread Cert.InBOptRefIdeal.nD Cert.InBOptRefIdeal.τ).loc Cert.InBOptRefIdeal.main_arg2) = m ((c.tc : Thread Cert.InBOptRefIdeal.nD Cert.InBOptRefIdeal.τ).loc Cert.InBOptRefIdeal.main_arg2)
      ∧ r.2.mem ((c.tc : Thread Cert.InBOptRefIdeal.nD Cert.InBOptRefIdeal.τ).loc Cert.InBOptRefIdeal.main_arg3) = m ((c.tc : Thread Cert.InBOptRefIdeal.nD Cert.InBOptRefIdeal.τ).loc Cert.InBOptRefIdeal.main_arg3))
      ∧ r.2.sem = fun _ => 0)

def quiescent_ConvAOpt [hConvAOpt : Cert.ConvAOpt.Facts] : Prop :=
  ∀ (m : (ℓ : Loc Cert.ConvAOpt.nD Cert.ConvAOpt.τ Cert.ConvAOpt.sig) → Buf (Elt Bits) ℓ) (g : Dev Cert.ConvAOpt.nD → PrngReg), Pre_ConvAOpt m →
    θ_run (Cert.ConvAOpt.defs (F := Bits)) (onTc (τ := Cert.ConvAOpt.τ) (Cert.ConvAOpt.main (F := Bits))) ⟨m, fun _ => 0, g⟩ (fun r => (∀ c : Dev Cert.ConvAOpt.nD,
      r.2.mem ((c.tc : Thread Cert.ConvAOpt.nD Cert.ConvAOpt.τ).loc Cert.ConvAOpt.main_arg0) = m ((c.tc : Thread Cert.ConvAOpt.nD Cert.ConvAOpt.τ).loc Cert.ConvAOpt.main_arg0)
      ∧ r.2.mem ((c.tc : Thread Cert.ConvAOpt.nD Cert.ConvAOpt.τ).loc Cert.ConvAOpt.main_arg1) = m ((c.tc : Thread Cert.ConvAOpt.nD Cert.ConvAOpt.τ).loc Cert.ConvAOpt.main_arg1)
      ∧ r.2.mem ((c.tc : Thread Cert.ConvAOpt.nD Cert.ConvAOpt.τ).loc Cert.ConvAOpt.main_arg2) = m ((c.tc : Thread Cert.ConvAOpt.nD Cert.ConvAOpt.τ).loc Cert.ConvAOpt.main_arg2)
      ∧ r.2.mem ((c.tc : Thread Cert.ConvAOpt.nD Cert.ConvAOpt.τ).loc Cert.ConvAOpt.main_arg3) = m ((c.tc : Thread Cert.ConvAOpt.nD Cert.ConvAOpt.τ).loc Cert.ConvAOpt.main_arg3))
      ∧ r.2.sem = fun _ => 0)

def quiescent_ConvAOptIdeal [hConvAOptIdeal : Cert.ConvAOptIdeal.Facts] : Prop :=
  ∀ (m : (ℓ : Loc Cert.ConvAOptIdeal.nD Cert.ConvAOptIdeal.τ Cert.ConvAOptIdeal.sig) → Buf (Elt Ideal) ℓ) (g : Dev Cert.ConvAOptIdeal.nD → PrngReg), Pre_ConvAOptIdeal m →
    θ_run (Cert.ConvAOptIdeal.defs (F := Ideal)) (onTc (τ := Cert.ConvAOptIdeal.τ) (Cert.ConvAOptIdeal.main (F := Ideal))) ⟨m, fun _ => 0, g⟩ (fun r => (∀ c : Dev Cert.ConvAOptIdeal.nD,
      r.2.mem ((c.tc : Thread Cert.ConvAOptIdeal.nD Cert.ConvAOptIdeal.τ).loc Cert.ConvAOptIdeal.main_arg0) = m ((c.tc : Thread Cert.ConvAOptIdeal.nD Cert.ConvAOptIdeal.τ).loc Cert.ConvAOptIdeal.main_arg0)
      ∧ r.2.mem ((c.tc : Thread Cert.ConvAOptIdeal.nD Cert.ConvAOptIdeal.τ).loc Cert.ConvAOptIdeal.main_arg1) = m ((c.tc : Thread Cert.ConvAOptIdeal.nD Cert.ConvAOptIdeal.τ).loc Cert.ConvAOptIdeal.main_arg1)
      ∧ r.2.mem ((c.tc : Thread Cert.ConvAOptIdeal.nD Cert.ConvAOptIdeal.τ).loc Cert.ConvAOptIdeal.main_arg2) = m ((c.tc : Thread Cert.ConvAOptIdeal.nD Cert.ConvAOptIdeal.τ).loc Cert.ConvAOptIdeal.main_arg2)
      ∧ r.2.mem ((c.tc : Thread Cert.ConvAOptIdeal.nD Cert.ConvAOptIdeal.τ).loc Cert.ConvAOptIdeal.main_arg3) = m ((c.tc : Thread Cert.ConvAOptIdeal.nD Cert.ConvAOptIdeal.τ).loc Cert.ConvAOptIdeal.main_arg3))
      ∧ r.2.sem = fun _ => 0)

def quiescent_ConvAOptRefIdeal [hConvAOptRefIdeal : Cert.ConvAOptRefIdeal.Facts] : Prop :=
  ∀ (m : (ℓ : Loc Cert.ConvAOptRefIdeal.nD Cert.ConvAOptRefIdeal.τ Cert.ConvAOptRefIdeal.sig) → Buf (Elt Ideal) ℓ) (g : Dev Cert.ConvAOptRefIdeal.nD → PrngReg), Pre_ConvAOptRefIdeal m →
    θ_run (Cert.ConvAOptRefIdeal.defs (F := Ideal)) (onTc (τ := Cert.ConvAOptRefIdeal.τ) (Cert.ConvAOptRefIdeal.main (F := Ideal))) ⟨m, fun _ => 0, g⟩ (fun r => (∀ c : Dev Cert.ConvAOptRefIdeal.nD,
      r.2.mem ((c.tc : Thread Cert.ConvAOptRefIdeal.nD Cert.ConvAOptRefIdeal.τ).loc Cert.ConvAOptRefIdeal.main_arg0) = m ((c.tc : Thread Cert.ConvAOptRefIdeal.nD Cert.ConvAOptRefIdeal.τ).loc Cert.ConvAOptRefIdeal.main_arg0)
      ∧ r.2.mem ((c.tc : Thread Cert.ConvAOptRefIdeal.nD Cert.ConvAOptRefIdeal.τ).loc Cert.ConvAOptRefIdeal.main_arg1) = m ((c.tc : Thread Cert.ConvAOptRefIdeal.nD Cert.ConvAOptRefIdeal.τ).loc Cert.ConvAOptRefIdeal.main_arg1)
      ∧ r.2.mem ((c.tc : Thread Cert.ConvAOptRefIdeal.nD Cert.ConvAOptRefIdeal.τ).loc Cert.ConvAOptRefIdeal.main_arg2) = m ((c.tc : Thread Cert.ConvAOptRefIdeal.nD Cert.ConvAOptRefIdeal.τ).loc Cert.ConvAOptRefIdeal.main_arg2)
      ∧ r.2.mem ((c.tc : Thread Cert.ConvAOptRefIdeal.nD Cert.ConvAOptRefIdeal.τ).loc Cert.ConvAOptRefIdeal.main_arg3) = m ((c.tc : Thread Cert.ConvAOptRefIdeal.nD Cert.ConvAOptRefIdeal.τ).loc Cert.ConvAOptRefIdeal.main_arg3))
      ∧ r.2.sem = fun _ => 0)

def quiescent_ChOpt [hChOpt : Cert.ChOpt.Facts] : Prop :=
  ∀ (m : (ℓ : Loc Cert.ChOpt.nD Cert.ChOpt.τ Cert.ChOpt.sig) → Buf (Elt Bits) ℓ) (g : Dev Cert.ChOpt.nD → PrngReg), Pre_ChOpt m →
    θ_run (Cert.ChOpt.defs (F := Bits)) (onTc (τ := Cert.ChOpt.τ) (Cert.ChOpt.main (F := Bits))) ⟨m, fun _ => 0, g⟩ (fun r => (∀ c : Dev Cert.ChOpt.nD,
      r.2.mem ((c.tc : Thread Cert.ChOpt.nD Cert.ChOpt.τ).loc Cert.ChOpt.main_arg0) = m ((c.tc : Thread Cert.ChOpt.nD Cert.ChOpt.τ).loc Cert.ChOpt.main_arg0)
      ∧ r.2.mem ((c.tc : Thread Cert.ChOpt.nD Cert.ChOpt.τ).loc Cert.ChOpt.main_arg1) = m ((c.tc : Thread Cert.ChOpt.nD Cert.ChOpt.τ).loc Cert.ChOpt.main_arg1)
      ∧ r.2.mem ((c.tc : Thread Cert.ChOpt.nD Cert.ChOpt.τ).loc Cert.ChOpt.main_arg2) = m ((c.tc : Thread Cert.ChOpt.nD Cert.ChOpt.τ).loc Cert.ChOpt.main_arg2)
      ∧ r.2.mem ((c.tc : Thread Cert.ChOpt.nD Cert.ChOpt.τ).loc Cert.ChOpt.main_arg3) = m ((c.tc : Thread Cert.ChOpt.nD Cert.ChOpt.τ).loc Cert.ChOpt.main_arg3))
      ∧ r.2.sem = fun _ => 0)

def quiescent_ChOptIdeal [hChOptIdeal : Cert.ChOptIdeal.Facts] : Prop :=
  ∀ (m : (ℓ : Loc Cert.ChOptIdeal.nD Cert.ChOptIdeal.τ Cert.ChOptIdeal.sig) → Buf (Elt Ideal) ℓ) (g : Dev Cert.ChOptIdeal.nD → PrngReg), Pre_ChOptIdeal m →
    θ_run (Cert.ChOptIdeal.defs (F := Ideal)) (onTc (τ := Cert.ChOptIdeal.τ) (Cert.ChOptIdeal.main (F := Ideal))) ⟨m, fun _ => 0, g⟩ (fun r => (∀ c : Dev Cert.ChOptIdeal.nD,
      r.2.mem ((c.tc : Thread Cert.ChOptIdeal.nD Cert.ChOptIdeal.τ).loc Cert.ChOptIdeal.main_arg0) = m ((c.tc : Thread Cert.ChOptIdeal.nD Cert.ChOptIdeal.τ).loc Cert.ChOptIdeal.main_arg0)
      ∧ r.2.mem ((c.tc : Thread Cert.ChOptIdeal.nD Cert.ChOptIdeal.τ).loc Cert.ChOptIdeal.main_arg1) = m ((c.tc : Thread Cert.ChOptIdeal.nD Cert.ChOptIdeal.τ).loc Cert.ChOptIdeal.main_arg1)
      ∧ r.2.mem ((c.tc : Thread Cert.ChOptIdeal.nD Cert.ChOptIdeal.τ).loc Cert.ChOptIdeal.main_arg2) = m ((c.tc : Thread Cert.ChOptIdeal.nD Cert.ChOptIdeal.τ).loc Cert.ChOptIdeal.main_arg2)
      ∧ r.2.mem ((c.tc : Thread Cert.ChOptIdeal.nD Cert.ChOptIdeal.τ).loc Cert.ChOptIdeal.main_arg3) = m ((c.tc : Thread Cert.ChOptIdeal.nD Cert.ChOptIdeal.τ).loc Cert.ChOptIdeal.main_arg3))
      ∧ r.2.sem = fun _ => 0)

def quiescent_ChOptRefIdeal [hChOptRefIdeal : Cert.ChOptRefIdeal.Facts] : Prop :=
  ∀ (m : (ℓ : Loc Cert.ChOptRefIdeal.nD Cert.ChOptRefIdeal.τ Cert.ChOptRefIdeal.sig) → Buf (Elt Ideal) ℓ) (g : Dev Cert.ChOptRefIdeal.nD → PrngReg), Pre_ChOptRefIdeal m →
    θ_run (Cert.ChOptRefIdeal.defs (F := Ideal)) (onTc (τ := Cert.ChOptRefIdeal.τ) (Cert.ChOptRefIdeal.main (F := Ideal))) ⟨m, fun _ => 0, g⟩ (fun r => (∀ c : Dev Cert.ChOptRefIdeal.nD,
      r.2.mem ((c.tc : Thread Cert.ChOptRefIdeal.nD Cert.ChOptRefIdeal.τ).loc Cert.ChOptRefIdeal.main_arg0) = m ((c.tc : Thread Cert.ChOptRefIdeal.nD Cert.ChOptRefIdeal.τ).loc Cert.ChOptRefIdeal.main_arg0)
      ∧ r.2.mem ((c.tc : Thread Cert.ChOptRefIdeal.nD Cert.ChOptRefIdeal.τ).loc Cert.ChOptRefIdeal.main_arg1) = m ((c.tc : Thread Cert.ChOptRefIdeal.nD Cert.ChOptRefIdeal.τ).loc Cert.ChOptRefIdeal.main_arg1)
      ∧ r.2.mem ((c.tc : Thread Cert.ChOptRefIdeal.nD Cert.ChOptRefIdeal.τ).loc Cert.ChOptRefIdeal.main_arg2) = m ((c.tc : Thread Cert.ChOptRefIdeal.nD Cert.ChOptRefIdeal.τ).loc Cert.ChOptRefIdeal.main_arg2)
      ∧ r.2.mem ((c.tc : Thread Cert.ChOptRefIdeal.nD Cert.ChOptRefIdeal.τ).loc Cert.ChOptRefIdeal.main_arg3) = m ((c.tc : Thread Cert.ChOptRefIdeal.nD Cert.ChOptRefIdeal.τ).loc Cert.ChOptRefIdeal.main_arg3))
      ∧ r.2.sem = fun _ => 0)

def quiescent_BranchOpt [hBranchOpt : Cert.BranchOpt.Facts] : Prop :=
  ∀ (m : (ℓ : Loc Cert.BranchOpt.nD Cert.BranchOpt.τ Cert.BranchOpt.sig) → Buf (Elt Bits) ℓ) (g : Dev Cert.BranchOpt.nD → PrngReg), Pre_BranchOpt m →
    θ_run (Cert.BranchOpt.defs (F := Bits)) (onTc (τ := Cert.BranchOpt.τ) (Cert.BranchOpt.main (F := Bits))) ⟨m, fun _ => 0, g⟩ (fun r => (∀ c : Dev Cert.BranchOpt.nD,
      r.2.mem ((c.tc : Thread Cert.BranchOpt.nD Cert.BranchOpt.τ).loc Cert.BranchOpt.main_arg0) = m ((c.tc : Thread Cert.BranchOpt.nD Cert.BranchOpt.τ).loc Cert.BranchOpt.main_arg0)
      ∧ r.2.mem ((c.tc : Thread Cert.BranchOpt.nD Cert.BranchOpt.τ).loc Cert.BranchOpt.main_arg1) = m ((c.tc : Thread Cert.BranchOpt.nD Cert.BranchOpt.τ).loc Cert.BranchOpt.main_arg1)
      ∧ r.2.mem ((c.tc : Thread Cert.BranchOpt.nD Cert.BranchOpt.τ).loc Cert.BranchOpt.main_arg2) = m ((c.tc : Thread Cert.BranchOpt.nD Cert.BranchOpt.τ).loc Cert.BranchOpt.main_arg2)
      ∧ r.2.mem ((c.tc : Thread Cert.BranchOpt.nD Cert.BranchOpt.τ).loc Cert.BranchOpt.main_arg3) = m ((c.tc : Thread Cert.BranchOpt.nD Cert.BranchOpt.τ).loc Cert.BranchOpt.main_arg3))
      ∧ r.2.sem = fun _ => 0)

def quiescent_BranchOptIdeal [hBranchOptIdeal : Cert.BranchOptIdeal.Facts] : Prop :=
  ∀ (m : (ℓ : Loc Cert.BranchOptIdeal.nD Cert.BranchOptIdeal.τ Cert.BranchOptIdeal.sig) → Buf (Elt Ideal) ℓ) (g : Dev Cert.BranchOptIdeal.nD → PrngReg), Pre_BranchOptIdeal m →
    θ_run (Cert.BranchOptIdeal.defs (F := Ideal)) (onTc (τ := Cert.BranchOptIdeal.τ) (Cert.BranchOptIdeal.main (F := Ideal))) ⟨m, fun _ => 0, g⟩ (fun r => (∀ c : Dev Cert.BranchOptIdeal.nD,
      r.2.mem ((c.tc : Thread Cert.BranchOptIdeal.nD Cert.BranchOptIdeal.τ).loc Cert.BranchOptIdeal.main_arg0) = m ((c.tc : Thread Cert.BranchOptIdeal.nD Cert.BranchOptIdeal.τ).loc Cert.BranchOptIdeal.main_arg0)
      ∧ r.2.mem ((c.tc : Thread Cert.BranchOptIdeal.nD Cert.BranchOptIdeal.τ).loc Cert.BranchOptIdeal.main_arg1) = m ((c.tc : Thread Cert.BranchOptIdeal.nD Cert.BranchOptIdeal.τ).loc Cert.BranchOptIdeal.main_arg1)
      ∧ r.2.mem ((c.tc : Thread Cert.BranchOptIdeal.nD Cert.BranchOptIdeal.τ).loc Cert.BranchOptIdeal.main_arg2) = m ((c.tc : Thread Cert.BranchOptIdeal.nD Cert.BranchOptIdeal.τ).loc Cert.BranchOptIdeal.main_arg2)
      ∧ r.2.mem ((c.tc : Thread Cert.BranchOptIdeal.nD Cert.BranchOptIdeal.τ).loc Cert.BranchOptIdeal.main_arg3) = m ((c.tc : Thread Cert.BranchOptIdeal.nD Cert.BranchOptIdeal.τ).loc Cert.BranchOptIdeal.main_arg3))
      ∧ r.2.sem = fun _ => 0)

def quiescent_BranchOptRefIdeal [hBranchOptRefIdeal : Cert.BranchOptRefIdeal.Facts] : Prop :=
  ∀ (m : (ℓ : Loc Cert.BranchOptRefIdeal.nD Cert.BranchOptRefIdeal.τ Cert.BranchOptRefIdeal.sig) → Buf (Elt Ideal) ℓ) (g : Dev Cert.BranchOptRefIdeal.nD → PrngReg), Pre_BranchOptRefIdeal m →
    θ_run (Cert.BranchOptRefIdeal.defs (F := Ideal)) (onTc (τ := Cert.BranchOptRefIdeal.τ) (Cert.BranchOptRefIdeal.main (F := Ideal))) ⟨m, fun _ => 0, g⟩ (fun r => (∀ c : Dev Cert.BranchOptRefIdeal.nD,
      r.2.mem ((c.tc : Thread Cert.BranchOptRefIdeal.nD Cert.BranchOptRefIdeal.τ).loc Cert.BranchOptRefIdeal.main_arg0) = m ((c.tc : Thread Cert.BranchOptRefIdeal.nD Cert.BranchOptRefIdeal.τ).loc Cert.BranchOptRefIdeal.main_arg0)
      ∧ r.2.mem ((c.tc : Thread Cert.BranchOptRefIdeal.nD Cert.BranchOptRefIdeal.τ).loc Cert.BranchOptRefIdeal.main_arg1) = m ((c.tc : Thread Cert.BranchOptRefIdeal.nD Cert.BranchOptRefIdeal.τ).loc Cert.BranchOptRefIdeal.main_arg1)
      ∧ r.2.mem ((c.tc : Thread Cert.BranchOptRefIdeal.nD Cert.BranchOptRefIdeal.τ).loc Cert.BranchOptRefIdeal.main_arg2) = m ((c.tc : Thread Cert.BranchOptRefIdeal.nD Cert.BranchOptRefIdeal.τ).loc Cert.BranchOptRefIdeal.main_arg2)
      ∧ r.2.mem ((c.tc : Thread Cert.BranchOptRefIdeal.nD Cert.BranchOptRefIdeal.τ).loc Cert.BranchOptRefIdeal.main_arg3) = m ((c.tc : Thread Cert.BranchOptRefIdeal.nD Cert.BranchOptRefIdeal.τ).loc Cert.BranchOptRefIdeal.main_arg3))
      ∧ r.2.sem = fun _ => 0)

def quiescent_MixOutOpt [hMixOutOpt : Cert.MixOutOpt.Facts] : Prop :=
  ∀ (m : (ℓ : Loc Cert.MixOutOpt.nD Cert.MixOutOpt.τ Cert.MixOutOpt.sig) → Buf (Elt Bits) ℓ) (g : Dev Cert.MixOutOpt.nD → PrngReg), Pre_MixOutOpt m →
    θ_run (Cert.MixOutOpt.defs (F := Bits)) (onTc (τ := Cert.MixOutOpt.τ) (Cert.MixOutOpt.main (F := Bits))) ⟨m, fun _ => 0, g⟩ (fun r => (∀ c : Dev Cert.MixOutOpt.nD,
      r.2.mem ((c.tc : Thread Cert.MixOutOpt.nD Cert.MixOutOpt.τ).loc Cert.MixOutOpt.main_arg0) = m ((c.tc : Thread Cert.MixOutOpt.nD Cert.MixOutOpt.τ).loc Cert.MixOutOpt.main_arg0)
      ∧ r.2.mem ((c.tc : Thread Cert.MixOutOpt.nD Cert.MixOutOpt.τ).loc Cert.MixOutOpt.main_arg1) = m ((c.tc : Thread Cert.MixOutOpt.nD Cert.MixOutOpt.τ).loc Cert.MixOutOpt.main_arg1)
      ∧ r.2.mem ((c.tc : Thread Cert.MixOutOpt.nD Cert.MixOutOpt.τ).loc Cert.MixOutOpt.main_arg2) = m ((c.tc : Thread Cert.MixOutOpt.nD Cert.MixOutOpt.τ).loc Cert.MixOutOpt.main_arg2)
      ∧ r.2.mem ((c.tc : Thread Cert.MixOutOpt.nD Cert.MixOutOpt.τ).loc Cert.MixOutOpt.main_arg3) = m ((c.tc : Thread Cert.MixOutOpt.nD Cert.MixOutOpt.τ).loc Cert.MixOutOpt.main_arg3))
      ∧ r.2.sem = fun _ => 0)

def quiescent_MixOutOptIdeal [hMixOutOptIdeal : Cert.MixOutOptIdeal.Facts] : Prop :=
  ∀ (m : (ℓ : Loc Cert.MixOutOptIdeal.nD Cert.MixOutOptIdeal.τ Cert.MixOutOptIdeal.sig) → Buf (Elt Ideal) ℓ) (g : Dev Cert.MixOutOptIdeal.nD → PrngReg), Pre_MixOutOptIdeal m →
    θ_run (Cert.MixOutOptIdeal.defs (F := Ideal)) (onTc (τ := Cert.MixOutOptIdeal.τ) (Cert.MixOutOptIdeal.main (F := Ideal))) ⟨m, fun _ => 0, g⟩ (fun r => (∀ c : Dev Cert.MixOutOptIdeal.nD,
      r.2.mem ((c.tc : Thread Cert.MixOutOptIdeal.nD Cert.MixOutOptIdeal.τ).loc Cert.MixOutOptIdeal.main_arg0) = m ((c.tc : Thread Cert.MixOutOptIdeal.nD Cert.MixOutOptIdeal.τ).loc Cert.MixOutOptIdeal.main_arg0)
      ∧ r.2.mem ((c.tc : Thread Cert.MixOutOptIdeal.nD Cert.MixOutOptIdeal.τ).loc Cert.MixOutOptIdeal.main_arg1) = m ((c.tc : Thread Cert.MixOutOptIdeal.nD Cert.MixOutOptIdeal.τ).loc Cert.MixOutOptIdeal.main_arg1)
      ∧ r.2.mem ((c.tc : Thread Cert.MixOutOptIdeal.nD Cert.MixOutOptIdeal.τ).loc Cert.MixOutOptIdeal.main_arg2) = m ((c.tc : Thread Cert.MixOutOptIdeal.nD Cert.MixOutOptIdeal.τ).loc Cert.MixOutOptIdeal.main_arg2)
      ∧ r.2.mem ((c.tc : Thread Cert.MixOutOptIdeal.nD Cert.MixOutOptIdeal.τ).loc Cert.MixOutOptIdeal.main_arg3) = m ((c.tc : Thread Cert.MixOutOptIdeal.nD Cert.MixOutOptIdeal.τ).loc Cert.MixOutOptIdeal.main_arg3))
      ∧ r.2.sem = fun _ => 0)

def quiescent_MixOutOptRefIdeal [hMixOutOptRefIdeal : Cert.MixOutOptRefIdeal.Facts] : Prop :=
  ∀ (m : (ℓ : Loc Cert.MixOutOptRefIdeal.nD Cert.MixOutOptRefIdeal.τ Cert.MixOutOptRefIdeal.sig) → Buf (Elt Ideal) ℓ) (g : Dev Cert.MixOutOptRefIdeal.nD → PrngReg), Pre_MixOutOptRefIdeal m →
    θ_run (Cert.MixOutOptRefIdeal.defs (F := Ideal)) (onTc (τ := Cert.MixOutOptRefIdeal.τ) (Cert.MixOutOptRefIdeal.main (F := Ideal))) ⟨m, fun _ => 0, g⟩ (fun r => (∀ c : Dev Cert.MixOutOptRefIdeal.nD,
      r.2.mem ((c.tc : Thread Cert.MixOutOptRefIdeal.nD Cert.MixOutOptRefIdeal.τ).loc Cert.MixOutOptRefIdeal.main_arg0) = m ((c.tc : Thread Cert.MixOutOptRefIdeal.nD Cert.MixOutOptRefIdeal.τ).loc Cert.MixOutOptRefIdeal.main_arg0)
      ∧ r.2.mem ((c.tc : Thread Cert.MixOutOptRefIdeal.nD Cert.MixOutOptRefIdeal.τ).loc Cert.MixOutOptRefIdeal.main_arg1) = m ((c.tc : Thread Cert.MixOutOptRefIdeal.nD Cert.MixOutOptRefIdeal.τ).loc Cert.MixOutOptRefIdeal.main_arg1)
      ∧ r.2.mem ((c.tc : Thread Cert.MixOutOptRefIdeal.nD Cert.MixOutOptRefIdeal.τ).loc Cert.MixOutOptRefIdeal.main_arg2) = m ((c.tc : Thread Cert.MixOutOptRefIdeal.nD Cert.MixOutOptRefIdeal.τ).loc Cert.MixOutOptRefIdeal.main_arg2)
      ∧ r.2.mem ((c.tc : Thread Cert.MixOutOptRefIdeal.nD Cert.MixOutOptRefIdeal.τ).loc Cert.MixOutOptRefIdeal.main_arg3) = m ((c.tc : Thread Cert.MixOutOptRefIdeal.nD Cert.MixOutOptRefIdeal.τ).loc Cert.MixOutOptRefIdeal.main_arg3))
      ∧ r.2.sem = fun _ => 0)

def quiescent_RowOpt [hRowOpt : Cert.RowOpt.Facts] : Prop :=
  ∀ (m : (ℓ : Loc Cert.RowOpt.nD Cert.RowOpt.τ Cert.RowOpt.sig) → Buf (Elt Bits) ℓ) (g : Dev Cert.RowOpt.nD → PrngReg), Pre_RowOpt m →
    θ_run (Cert.RowOpt.defs (F := Bits)) (onTc (τ := Cert.RowOpt.τ) (Cert.RowOpt.main (F := Bits))) ⟨m, fun _ => 0, g⟩ (fun r => (∀ c : Dev Cert.RowOpt.nD,
      r.2.mem ((c.tc : Thread Cert.RowOpt.nD Cert.RowOpt.τ).loc Cert.RowOpt.main_arg0) = m ((c.tc : Thread Cert.RowOpt.nD Cert.RowOpt.τ).loc Cert.RowOpt.main_arg0)
      ∧ r.2.mem ((c.tc : Thread Cert.RowOpt.nD Cert.RowOpt.τ).loc Cert.RowOpt.main_arg1) = m ((c.tc : Thread Cert.RowOpt.nD Cert.RowOpt.τ).loc Cert.RowOpt.main_arg1)
      ∧ r.2.mem ((c.tc : Thread Cert.RowOpt.nD Cert.RowOpt.τ).loc Cert.RowOpt.main_arg2) = m ((c.tc : Thread Cert.RowOpt.nD Cert.RowOpt.τ).loc Cert.RowOpt.main_arg2)
      ∧ r.2.mem ((c.tc : Thread Cert.RowOpt.nD Cert.RowOpt.τ).loc Cert.RowOpt.main_arg3) = m ((c.tc : Thread Cert.RowOpt.nD Cert.RowOpt.τ).loc Cert.RowOpt.main_arg3))
      ∧ r.2.sem = fun _ => 0)

def quiescent_RowOptIdeal [hRowOptIdeal : Cert.RowOptIdeal.Facts] : Prop :=
  ∀ (m : (ℓ : Loc Cert.RowOptIdeal.nD Cert.RowOptIdeal.τ Cert.RowOptIdeal.sig) → Buf (Elt Ideal) ℓ) (g : Dev Cert.RowOptIdeal.nD → PrngReg), Pre_RowOptIdeal m →
    θ_run (Cert.RowOptIdeal.defs (F := Ideal)) (onTc (τ := Cert.RowOptIdeal.τ) (Cert.RowOptIdeal.main (F := Ideal))) ⟨m, fun _ => 0, g⟩ (fun r => (∀ c : Dev Cert.RowOptIdeal.nD,
      r.2.mem ((c.tc : Thread Cert.RowOptIdeal.nD Cert.RowOptIdeal.τ).loc Cert.RowOptIdeal.main_arg0) = m ((c.tc : Thread Cert.RowOptIdeal.nD Cert.RowOptIdeal.τ).loc Cert.RowOptIdeal.main_arg0)
      ∧ r.2.mem ((c.tc : Thread Cert.RowOptIdeal.nD Cert.RowOptIdeal.τ).loc Cert.RowOptIdeal.main_arg1) = m ((c.tc : Thread Cert.RowOptIdeal.nD Cert.RowOptIdeal.τ).loc Cert.RowOptIdeal.main_arg1)
      ∧ r.2.mem ((c.tc : Thread Cert.RowOptIdeal.nD Cert.RowOptIdeal.τ).loc Cert.RowOptIdeal.main_arg2) = m ((c.tc : Thread Cert.RowOptIdeal.nD Cert.RowOptIdeal.τ).loc Cert.RowOptIdeal.main_arg2)
      ∧ r.2.mem ((c.tc : Thread Cert.RowOptIdeal.nD Cert.RowOptIdeal.τ).loc Cert.RowOptIdeal.main_arg3) = m ((c.tc : Thread Cert.RowOptIdeal.nD Cert.RowOptIdeal.τ).loc Cert.RowOptIdeal.main_arg3))
      ∧ r.2.sem = fun _ => 0)

def quiescent_RowOptRefIdeal [hRowOptRefIdeal : Cert.RowOptRefIdeal.Facts] : Prop :=
  ∀ (m : (ℓ : Loc Cert.RowOptRefIdeal.nD Cert.RowOptRefIdeal.τ Cert.RowOptRefIdeal.sig) → Buf (Elt Ideal) ℓ) (g : Dev Cert.RowOptRefIdeal.nD → PrngReg), Pre_RowOptRefIdeal m →
    θ_run (Cert.RowOptRefIdeal.defs (F := Ideal)) (onTc (τ := Cert.RowOptRefIdeal.τ) (Cert.RowOptRefIdeal.main (F := Ideal))) ⟨m, fun _ => 0, g⟩ (fun r => (∀ c : Dev Cert.RowOptRefIdeal.nD,
      r.2.mem ((c.tc : Thread Cert.RowOptRefIdeal.nD Cert.RowOptRefIdeal.τ).loc Cert.RowOptRefIdeal.main_arg0) = m ((c.tc : Thread Cert.RowOptRefIdeal.nD Cert.RowOptRefIdeal.τ).loc Cert.RowOptRefIdeal.main_arg0)
      ∧ r.2.mem ((c.tc : Thread Cert.RowOptRefIdeal.nD Cert.RowOptRefIdeal.τ).loc Cert.RowOptRefIdeal.main_arg1) = m ((c.tc : Thread Cert.RowOptRefIdeal.nD Cert.RowOptRefIdeal.τ).loc Cert.RowOptRefIdeal.main_arg1)
      ∧ r.2.mem ((c.tc : Thread Cert.RowOptRefIdeal.nD Cert.RowOptRefIdeal.τ).loc Cert.RowOptRefIdeal.main_arg2) = m ((c.tc : Thread Cert.RowOptRefIdeal.nD Cert.RowOptRefIdeal.τ).loc Cert.RowOptRefIdeal.main_arg2)
      ∧ r.2.mem ((c.tc : Thread Cert.RowOptRefIdeal.nD Cert.RowOptRefIdeal.τ).loc Cert.RowOptRefIdeal.main_arg3) = m ((c.tc : Thread Cert.RowOptRefIdeal.nD Cert.RowOptRefIdeal.τ).loc Cert.RowOptRefIdeal.main_arg3))
      ∧ r.2.sem = fun _ => 0)

def quiescent_FfnUpOpt [hFfnUpOpt : Cert.FfnUpOpt.Facts] : Prop :=
  ∀ (m : (ℓ : Loc Cert.FfnUpOpt.nD Cert.FfnUpOpt.τ Cert.FfnUpOpt.sig) → Buf (Elt Bits) ℓ) (g : Dev Cert.FfnUpOpt.nD → PrngReg), Pre_FfnUpOpt m →
    θ_run (Cert.FfnUpOpt.defs (F := Bits)) (onTc (τ := Cert.FfnUpOpt.τ) (Cert.FfnUpOpt.main (F := Bits))) ⟨m, fun _ => 0, g⟩ (fun r => (∀ c : Dev Cert.FfnUpOpt.nD,
      r.2.mem ((c.tc : Thread Cert.FfnUpOpt.nD Cert.FfnUpOpt.τ).loc Cert.FfnUpOpt.main_arg0) = m ((c.tc : Thread Cert.FfnUpOpt.nD Cert.FfnUpOpt.τ).loc Cert.FfnUpOpt.main_arg0)
      ∧ r.2.mem ((c.tc : Thread Cert.FfnUpOpt.nD Cert.FfnUpOpt.τ).loc Cert.FfnUpOpt.main_arg1) = m ((c.tc : Thread Cert.FfnUpOpt.nD Cert.FfnUpOpt.τ).loc Cert.FfnUpOpt.main_arg1)
      ∧ r.2.mem ((c.tc : Thread Cert.FfnUpOpt.nD Cert.FfnUpOpt.τ).loc Cert.FfnUpOpt.main_arg2) = m ((c.tc : Thread Cert.FfnUpOpt.nD Cert.FfnUpOpt.τ).loc Cert.FfnUpOpt.main_arg2)
      ∧ r.2.mem ((c.tc : Thread Cert.FfnUpOpt.nD Cert.FfnUpOpt.τ).loc Cert.FfnUpOpt.main_arg3) = m ((c.tc : Thread Cert.FfnUpOpt.nD Cert.FfnUpOpt.τ).loc Cert.FfnUpOpt.main_arg3))
      ∧ r.2.sem = fun _ => 0)

def quiescent_FfnUpOptIdeal [hFfnUpOptIdeal : Cert.FfnUpOptIdeal.Facts] : Prop :=
  ∀ (m : (ℓ : Loc Cert.FfnUpOptIdeal.nD Cert.FfnUpOptIdeal.τ Cert.FfnUpOptIdeal.sig) → Buf (Elt Ideal) ℓ) (g : Dev Cert.FfnUpOptIdeal.nD → PrngReg), Pre_FfnUpOptIdeal m →
    θ_run (Cert.FfnUpOptIdeal.defs (F := Ideal)) (onTc (τ := Cert.FfnUpOptIdeal.τ) (Cert.FfnUpOptIdeal.main (F := Ideal))) ⟨m, fun _ => 0, g⟩ (fun r => (∀ c : Dev Cert.FfnUpOptIdeal.nD,
      r.2.mem ((c.tc : Thread Cert.FfnUpOptIdeal.nD Cert.FfnUpOptIdeal.τ).loc Cert.FfnUpOptIdeal.main_arg0) = m ((c.tc : Thread Cert.FfnUpOptIdeal.nD Cert.FfnUpOptIdeal.τ).loc Cert.FfnUpOptIdeal.main_arg0)
      ∧ r.2.mem ((c.tc : Thread Cert.FfnUpOptIdeal.nD Cert.FfnUpOptIdeal.τ).loc Cert.FfnUpOptIdeal.main_arg1) = m ((c.tc : Thread Cert.FfnUpOptIdeal.nD Cert.FfnUpOptIdeal.τ).loc Cert.FfnUpOptIdeal.main_arg1)
      ∧ r.2.mem ((c.tc : Thread Cert.FfnUpOptIdeal.nD Cert.FfnUpOptIdeal.τ).loc Cert.FfnUpOptIdeal.main_arg2) = m ((c.tc : Thread Cert.FfnUpOptIdeal.nD Cert.FfnUpOptIdeal.τ).loc Cert.FfnUpOptIdeal.main_arg2)
      ∧ r.2.mem ((c.tc : Thread Cert.FfnUpOptIdeal.nD Cert.FfnUpOptIdeal.τ).loc Cert.FfnUpOptIdeal.main_arg3) = m ((c.tc : Thread Cert.FfnUpOptIdeal.nD Cert.FfnUpOptIdeal.τ).loc Cert.FfnUpOptIdeal.main_arg3))
      ∧ r.2.sem = fun _ => 0)

def quiescent_FfnUpOptRefIdeal [hFfnUpOptRefIdeal : Cert.FfnUpOptRefIdeal.Facts] : Prop :=
  ∀ (m : (ℓ : Loc Cert.FfnUpOptRefIdeal.nD Cert.FfnUpOptRefIdeal.τ Cert.FfnUpOptRefIdeal.sig) → Buf (Elt Ideal) ℓ) (g : Dev Cert.FfnUpOptRefIdeal.nD → PrngReg), Pre_FfnUpOptRefIdeal m →
    θ_run (Cert.FfnUpOptRefIdeal.defs (F := Ideal)) (onTc (τ := Cert.FfnUpOptRefIdeal.τ) (Cert.FfnUpOptRefIdeal.main (F := Ideal))) ⟨m, fun _ => 0, g⟩ (fun r => (∀ c : Dev Cert.FfnUpOptRefIdeal.nD,
      r.2.mem ((c.tc : Thread Cert.FfnUpOptRefIdeal.nD Cert.FfnUpOptRefIdeal.τ).loc Cert.FfnUpOptRefIdeal.main_arg0) = m ((c.tc : Thread Cert.FfnUpOptRefIdeal.nD Cert.FfnUpOptRefIdeal.τ).loc Cert.FfnUpOptRefIdeal.main_arg0)
      ∧ r.2.mem ((c.tc : Thread Cert.FfnUpOptRefIdeal.nD Cert.FfnUpOptRefIdeal.τ).loc Cert.FfnUpOptRefIdeal.main_arg1) = m ((c.tc : Thread Cert.FfnUpOptRefIdeal.nD Cert.FfnUpOptRefIdeal.τ).loc Cert.FfnUpOptRefIdeal.main_arg1)
      ∧ r.2.mem ((c.tc : Thread Cert.FfnUpOptRefIdeal.nD Cert.FfnUpOptRefIdeal.τ).loc Cert.FfnUpOptRefIdeal.main_arg2) = m ((c.tc : Thread Cert.FfnUpOptRefIdeal.nD Cert.FfnUpOptRefIdeal.τ).loc Cert.FfnUpOptRefIdeal.main_arg2)
      ∧ r.2.mem ((c.tc : Thread Cert.FfnUpOptRefIdeal.nD Cert.FfnUpOptRefIdeal.τ).loc Cert.FfnUpOptRefIdeal.main_arg3) = m ((c.tc : Thread Cert.FfnUpOptRefIdeal.nD Cert.FfnUpOptRefIdeal.τ).loc Cert.FfnUpOptRefIdeal.main_arg3))
      ∧ r.2.sem = fun _ => 0)

def quiescent_FfnConvOpt [hFfnConvOpt : Cert.FfnConvOpt.Facts] : Prop :=
  ∀ (m : (ℓ : Loc Cert.FfnConvOpt.nD Cert.FfnConvOpt.τ Cert.FfnConvOpt.sig) → Buf (Elt Bits) ℓ) (g : Dev Cert.FfnConvOpt.nD → PrngReg), Pre_FfnConvOpt m →
    θ_run (Cert.FfnConvOpt.defs (F := Bits)) (onTc (τ := Cert.FfnConvOpt.τ) (Cert.FfnConvOpt.main (F := Bits))) ⟨m, fun _ => 0, g⟩ (fun r => (∀ c : Dev Cert.FfnConvOpt.nD,
      r.2.mem ((c.tc : Thread Cert.FfnConvOpt.nD Cert.FfnConvOpt.τ).loc Cert.FfnConvOpt.main_arg0) = m ((c.tc : Thread Cert.FfnConvOpt.nD Cert.FfnConvOpt.τ).loc Cert.FfnConvOpt.main_arg0)
      ∧ r.2.mem ((c.tc : Thread Cert.FfnConvOpt.nD Cert.FfnConvOpt.τ).loc Cert.FfnConvOpt.main_arg1) = m ((c.tc : Thread Cert.FfnConvOpt.nD Cert.FfnConvOpt.τ).loc Cert.FfnConvOpt.main_arg1)
      ∧ r.2.mem ((c.tc : Thread Cert.FfnConvOpt.nD Cert.FfnConvOpt.τ).loc Cert.FfnConvOpt.main_arg2) = m ((c.tc : Thread Cert.FfnConvOpt.nD Cert.FfnConvOpt.τ).loc Cert.FfnConvOpt.main_arg2)
      ∧ r.2.mem ((c.tc : Thread Cert.FfnConvOpt.nD Cert.FfnConvOpt.τ).loc Cert.FfnConvOpt.main_arg3) = m ((c.tc : Thread Cert.FfnConvOpt.nD Cert.FfnConvOpt.τ).loc Cert.FfnConvOpt.main_arg3))
      ∧ r.2.sem = fun _ => 0)

def quiescent_FfnConvOptIdeal [hFfnConvOptIdeal : Cert.FfnConvOptIdeal.Facts] : Prop :=
  ∀ (m : (ℓ : Loc Cert.FfnConvOptIdeal.nD Cert.FfnConvOptIdeal.τ Cert.FfnConvOptIdeal.sig) → Buf (Elt Ideal) ℓ) (g : Dev Cert.FfnConvOptIdeal.nD → PrngReg), Pre_FfnConvOptIdeal m →
    θ_run (Cert.FfnConvOptIdeal.defs (F := Ideal)) (onTc (τ := Cert.FfnConvOptIdeal.τ) (Cert.FfnConvOptIdeal.main (F := Ideal))) ⟨m, fun _ => 0, g⟩ (fun r => (∀ c : Dev Cert.FfnConvOptIdeal.nD,
      r.2.mem ((c.tc : Thread Cert.FfnConvOptIdeal.nD Cert.FfnConvOptIdeal.τ).loc Cert.FfnConvOptIdeal.main_arg0) = m ((c.tc : Thread Cert.FfnConvOptIdeal.nD Cert.FfnConvOptIdeal.τ).loc Cert.FfnConvOptIdeal.main_arg0)
      ∧ r.2.mem ((c.tc : Thread Cert.FfnConvOptIdeal.nD Cert.FfnConvOptIdeal.τ).loc Cert.FfnConvOptIdeal.main_arg1) = m ((c.tc : Thread Cert.FfnConvOptIdeal.nD Cert.FfnConvOptIdeal.τ).loc Cert.FfnConvOptIdeal.main_arg1)
      ∧ r.2.mem ((c.tc : Thread Cert.FfnConvOptIdeal.nD Cert.FfnConvOptIdeal.τ).loc Cert.FfnConvOptIdeal.main_arg2) = m ((c.tc : Thread Cert.FfnConvOptIdeal.nD Cert.FfnConvOptIdeal.τ).loc Cert.FfnConvOptIdeal.main_arg2)
      ∧ r.2.mem ((c.tc : Thread Cert.FfnConvOptIdeal.nD Cert.FfnConvOptIdeal.τ).loc Cert.FfnConvOptIdeal.main_arg3) = m ((c.tc : Thread Cert.FfnConvOptIdeal.nD Cert.FfnConvOptIdeal.τ).loc Cert.FfnConvOptIdeal.main_arg3))
      ∧ r.2.sem = fun _ => 0)

def quiescent_FfnConvOptRefIdeal [hFfnConvOptRefIdeal : Cert.FfnConvOptRefIdeal.Facts] : Prop :=
  ∀ (m : (ℓ : Loc Cert.FfnConvOptRefIdeal.nD Cert.FfnConvOptRefIdeal.τ Cert.FfnConvOptRefIdeal.sig) → Buf (Elt Ideal) ℓ) (g : Dev Cert.FfnConvOptRefIdeal.nD → PrngReg), Pre_FfnConvOptRefIdeal m →
    θ_run (Cert.FfnConvOptRefIdeal.defs (F := Ideal)) (onTc (τ := Cert.FfnConvOptRefIdeal.τ) (Cert.FfnConvOptRefIdeal.main (F := Ideal))) ⟨m, fun _ => 0, g⟩ (fun r => (∀ c : Dev Cert.FfnConvOptRefIdeal.nD,
      r.2.mem ((c.tc : Thread Cert.FfnConvOptRefIdeal.nD Cert.FfnConvOptRefIdeal.τ).loc Cert.FfnConvOptRefIdeal.main_arg0) = m ((c.tc : Thread Cert.FfnConvOptRefIdeal.nD Cert.FfnConvOptRefIdeal.τ).loc Cert.FfnConvOptRefIdeal.main_arg0)
      ∧ r.2.mem ((c.tc : Thread Cert.FfnConvOptRefIdeal.nD Cert.FfnConvOptRefIdeal.τ).loc Cert.FfnConvOptRefIdeal.main_arg1) = m ((c.tc : Thread Cert.FfnConvOptRefIdeal.nD Cert.FfnConvOptRefIdeal.τ).loc Cert.FfnConvOptRefIdeal.main_arg1)
      ∧ r.2.mem ((c.tc : Thread Cert.FfnConvOptRefIdeal.nD Cert.FfnConvOptRefIdeal.τ).loc Cert.FfnConvOptRefIdeal.main_arg2) = m ((c.tc : Thread Cert.FfnConvOptRefIdeal.nD Cert.FfnConvOptRefIdeal.τ).loc Cert.FfnConvOptRefIdeal.main_arg2)
      ∧ r.2.mem ((c.tc : Thread Cert.FfnConvOptRefIdeal.nD Cert.FfnConvOptRefIdeal.τ).loc Cert.FfnConvOptRefIdeal.main_arg3) = m ((c.tc : Thread Cert.FfnConvOptRefIdeal.nD Cert.FfnConvOptRefIdeal.τ).loc Cert.FfnConvOptRefIdeal.main_arg3))
      ∧ r.2.sem = fun _ => 0)

def quiescent_FfnConvBOpt [hFfnConvBOpt : Cert.FfnConvBOpt.Facts] : Prop :=
  ∀ (m : (ℓ : Loc Cert.FfnConvBOpt.nD Cert.FfnConvBOpt.τ Cert.FfnConvBOpt.sig) → Buf (Elt Bits) ℓ) (g : Dev Cert.FfnConvBOpt.nD → PrngReg), Pre_FfnConvBOpt m →
    θ_run (Cert.FfnConvBOpt.defs (F := Bits)) (onTc (τ := Cert.FfnConvBOpt.τ) (Cert.FfnConvBOpt.main (F := Bits))) ⟨m, fun _ => 0, g⟩ (fun r => (∀ c : Dev Cert.FfnConvBOpt.nD,
      r.2.mem ((c.tc : Thread Cert.FfnConvBOpt.nD Cert.FfnConvBOpt.τ).loc Cert.FfnConvBOpt.main_arg0) = m ((c.tc : Thread Cert.FfnConvBOpt.nD Cert.FfnConvBOpt.τ).loc Cert.FfnConvBOpt.main_arg0)
      ∧ r.2.mem ((c.tc : Thread Cert.FfnConvBOpt.nD Cert.FfnConvBOpt.τ).loc Cert.FfnConvBOpt.main_arg1) = m ((c.tc : Thread Cert.FfnConvBOpt.nD Cert.FfnConvBOpt.τ).loc Cert.FfnConvBOpt.main_arg1)
      ∧ r.2.mem ((c.tc : Thread Cert.FfnConvBOpt.nD Cert.FfnConvBOpt.τ).loc Cert.FfnConvBOpt.main_arg2) = m ((c.tc : Thread Cert.FfnConvBOpt.nD Cert.FfnConvBOpt.τ).loc Cert.FfnConvBOpt.main_arg2)
      ∧ r.2.mem ((c.tc : Thread Cert.FfnConvBOpt.nD Cert.FfnConvBOpt.τ).loc Cert.FfnConvBOpt.main_arg3) = m ((c.tc : Thread Cert.FfnConvBOpt.nD Cert.FfnConvBOpt.τ).loc Cert.FfnConvBOpt.main_arg3))
      ∧ r.2.sem = fun _ => 0)

def quiescent_FfnConvBOptIdeal [hFfnConvBOptIdeal : Cert.FfnConvBOptIdeal.Facts] : Prop :=
  ∀ (m : (ℓ : Loc Cert.FfnConvBOptIdeal.nD Cert.FfnConvBOptIdeal.τ Cert.FfnConvBOptIdeal.sig) → Buf (Elt Ideal) ℓ) (g : Dev Cert.FfnConvBOptIdeal.nD → PrngReg), Pre_FfnConvBOptIdeal m →
    θ_run (Cert.FfnConvBOptIdeal.defs (F := Ideal)) (onTc (τ := Cert.FfnConvBOptIdeal.τ) (Cert.FfnConvBOptIdeal.main (F := Ideal))) ⟨m, fun _ => 0, g⟩ (fun r => (∀ c : Dev Cert.FfnConvBOptIdeal.nD,
      r.2.mem ((c.tc : Thread Cert.FfnConvBOptIdeal.nD Cert.FfnConvBOptIdeal.τ).loc Cert.FfnConvBOptIdeal.main_arg0) = m ((c.tc : Thread Cert.FfnConvBOptIdeal.nD Cert.FfnConvBOptIdeal.τ).loc Cert.FfnConvBOptIdeal.main_arg0)
      ∧ r.2.mem ((c.tc : Thread Cert.FfnConvBOptIdeal.nD Cert.FfnConvBOptIdeal.τ).loc Cert.FfnConvBOptIdeal.main_arg1) = m ((c.tc : Thread Cert.FfnConvBOptIdeal.nD Cert.FfnConvBOptIdeal.τ).loc Cert.FfnConvBOptIdeal.main_arg1)
      ∧ r.2.mem ((c.tc : Thread Cert.FfnConvBOptIdeal.nD Cert.FfnConvBOptIdeal.τ).loc Cert.FfnConvBOptIdeal.main_arg2) = m ((c.tc : Thread Cert.FfnConvBOptIdeal.nD Cert.FfnConvBOptIdeal.τ).loc Cert.FfnConvBOptIdeal.main_arg2)
      ∧ r.2.mem ((c.tc : Thread Cert.FfnConvBOptIdeal.nD Cert.FfnConvBOptIdeal.τ).loc Cert.FfnConvBOptIdeal.main_arg3) = m ((c.tc : Thread Cert.FfnConvBOptIdeal.nD Cert.FfnConvBOptIdeal.τ).loc Cert.FfnConvBOptIdeal.main_arg3))
      ∧ r.2.sem = fun _ => 0)

def quiescent_FfnConvBOptRefIdeal [hFfnConvBOptRefIdeal : Cert.FfnConvBOptRefIdeal.Facts] : Prop :=
  ∀ (m : (ℓ : Loc Cert.FfnConvBOptRefIdeal.nD Cert.FfnConvBOptRefIdeal.τ Cert.FfnConvBOptRefIdeal.sig) → Buf (Elt Ideal) ℓ) (g : Dev Cert.FfnConvBOptRefIdeal.nD → PrngReg), Pre_FfnConvBOptRefIdeal m →
    θ_run (Cert.FfnConvBOptRefIdeal.defs (F := Ideal)) (onTc (τ := Cert.FfnConvBOptRefIdeal.τ) (Cert.FfnConvBOptRefIdeal.main (F := Ideal))) ⟨m, fun _ => 0, g⟩ (fun r => (∀ c : Dev Cert.FfnConvBOptRefIdeal.nD,
      r.2.mem ((c.tc : Thread Cert.FfnConvBOptRefIdeal.nD Cert.FfnConvBOptRefIdeal.τ).loc Cert.FfnConvBOptRefIdeal.main_arg0) = m ((c.tc : Thread Cert.FfnConvBOptRefIdeal.nD Cert.FfnConvBOptRefIdeal.τ).loc Cert.FfnConvBOptRefIdeal.main_arg0)
      ∧ r.2.mem ((c.tc : Thread Cert.FfnConvBOptRefIdeal.nD Cert.FfnConvBOptRefIdeal.τ).loc Cert.FfnConvBOptRefIdeal.main_arg1) = m ((c.tc : Thread Cert.FfnConvBOptRefIdeal.nD Cert.FfnConvBOptRefIdeal.τ).loc Cert.FfnConvBOptRefIdeal.main_arg1)
      ∧ r.2.mem ((c.tc : Thread Cert.FfnConvBOptRefIdeal.nD Cert.FfnConvBOptRefIdeal.τ).loc Cert.FfnConvBOptRefIdeal.main_arg2) = m ((c.tc : Thread Cert.FfnConvBOptRefIdeal.nD Cert.FfnConvBOptRefIdeal.τ).loc Cert.FfnConvBOptRefIdeal.main_arg2)
      ∧ r.2.mem ((c.tc : Thread Cert.FfnConvBOptRefIdeal.nD Cert.FfnConvBOptRefIdeal.τ).loc Cert.FfnConvBOptRefIdeal.main_arg3) = m ((c.tc : Thread Cert.FfnConvBOptRefIdeal.nD Cert.FfnConvBOptRefIdeal.τ).loc Cert.FfnConvBOptRefIdeal.main_arg3))
      ∧ r.2.sem = fun _ => 0)

def quiescent_FfnDownOpt [hFfnDownOpt : Cert.FfnDownOpt.Facts] : Prop :=
  ∀ (m : (ℓ : Loc Cert.FfnDownOpt.nD Cert.FfnDownOpt.τ Cert.FfnDownOpt.sig) → Buf (Elt Bits) ℓ) (g : Dev Cert.FfnDownOpt.nD → PrngReg), Pre_FfnDownOpt m →
    θ_run (Cert.FfnDownOpt.defs (F := Bits)) (onTc (τ := Cert.FfnDownOpt.τ) (Cert.FfnDownOpt.main (F := Bits))) ⟨m, fun _ => 0, g⟩ (fun r => (∀ c : Dev Cert.FfnDownOpt.nD,
      r.2.mem ((c.tc : Thread Cert.FfnDownOpt.nD Cert.FfnDownOpt.τ).loc Cert.FfnDownOpt.main_arg0) = m ((c.tc : Thread Cert.FfnDownOpt.nD Cert.FfnDownOpt.τ).loc Cert.FfnDownOpt.main_arg0)
      ∧ r.2.mem ((c.tc : Thread Cert.FfnDownOpt.nD Cert.FfnDownOpt.τ).loc Cert.FfnDownOpt.main_arg1) = m ((c.tc : Thread Cert.FfnDownOpt.nD Cert.FfnDownOpt.τ).loc Cert.FfnDownOpt.main_arg1)
      ∧ r.2.mem ((c.tc : Thread Cert.FfnDownOpt.nD Cert.FfnDownOpt.τ).loc Cert.FfnDownOpt.main_arg2) = m ((c.tc : Thread Cert.FfnDownOpt.nD Cert.FfnDownOpt.τ).loc Cert.FfnDownOpt.main_arg2)
      ∧ r.2.mem ((c.tc : Thread Cert.FfnDownOpt.nD Cert.FfnDownOpt.τ).loc Cert.FfnDownOpt.main_arg3) = m ((c.tc : Thread Cert.FfnDownOpt.nD Cert.FfnDownOpt.τ).loc Cert.FfnDownOpt.main_arg3))
      ∧ r.2.sem = fun _ => 0)

def quiescent_FfnDownOptIdeal [hFfnDownOptIdeal : Cert.FfnDownOptIdeal.Facts] : Prop :=
  ∀ (m : (ℓ : Loc Cert.FfnDownOptIdeal.nD Cert.FfnDownOptIdeal.τ Cert.FfnDownOptIdeal.sig) → Buf (Elt Ideal) ℓ) (g : Dev Cert.FfnDownOptIdeal.nD → PrngReg), Pre_FfnDownOptIdeal m →
    θ_run (Cert.FfnDownOptIdeal.defs (F := Ideal)) (onTc (τ := Cert.FfnDownOptIdeal.τ) (Cert.FfnDownOptIdeal.main (F := Ideal))) ⟨m, fun _ => 0, g⟩ (fun r => (∀ c : Dev Cert.FfnDownOptIdeal.nD,
      r.2.mem ((c.tc : Thread Cert.FfnDownOptIdeal.nD Cert.FfnDownOptIdeal.τ).loc Cert.FfnDownOptIdeal.main_arg0) = m ((c.tc : Thread Cert.FfnDownOptIdeal.nD Cert.FfnDownOptIdeal.τ).loc Cert.FfnDownOptIdeal.main_arg0)
      ∧ r.2.mem ((c.tc : Thread Cert.FfnDownOptIdeal.nD Cert.FfnDownOptIdeal.τ).loc Cert.FfnDownOptIdeal.main_arg1) = m ((c.tc : Thread Cert.FfnDownOptIdeal.nD Cert.FfnDownOptIdeal.τ).loc Cert.FfnDownOptIdeal.main_arg1)
      ∧ r.2.mem ((c.tc : Thread Cert.FfnDownOptIdeal.nD Cert.FfnDownOptIdeal.τ).loc Cert.FfnDownOptIdeal.main_arg2) = m ((c.tc : Thread Cert.FfnDownOptIdeal.nD Cert.FfnDownOptIdeal.τ).loc Cert.FfnDownOptIdeal.main_arg2)
      ∧ r.2.mem ((c.tc : Thread Cert.FfnDownOptIdeal.nD Cert.FfnDownOptIdeal.τ).loc Cert.FfnDownOptIdeal.main_arg3) = m ((c.tc : Thread Cert.FfnDownOptIdeal.nD Cert.FfnDownOptIdeal.τ).loc Cert.FfnDownOptIdeal.main_arg3))
      ∧ r.2.sem = fun _ => 0)

def quiescent_FfnDownOptRefIdeal [hFfnDownOptRefIdeal : Cert.FfnDownOptRefIdeal.Facts] : Prop :=
  ∀ (m : (ℓ : Loc Cert.FfnDownOptRefIdeal.nD Cert.FfnDownOptRefIdeal.τ Cert.FfnDownOptRefIdeal.sig) → Buf (Elt Ideal) ℓ) (g : Dev Cert.FfnDownOptRefIdeal.nD → PrngReg), Pre_FfnDownOptRefIdeal m →
    θ_run (Cert.FfnDownOptRefIdeal.defs (F := Ideal)) (onTc (τ := Cert.FfnDownOptRefIdeal.τ) (Cert.FfnDownOptRefIdeal.main (F := Ideal))) ⟨m, fun _ => 0, g⟩ (fun r => (∀ c : Dev Cert.FfnDownOptRefIdeal.nD,
      r.2.mem ((c.tc : Thread Cert.FfnDownOptRefIdeal.nD Cert.FfnDownOptRefIdeal.τ).loc Cert.FfnDownOptRefIdeal.main_arg0) = m ((c.tc : Thread Cert.FfnDownOptRefIdeal.nD Cert.FfnDownOptRefIdeal.τ).loc Cert.FfnDownOptRefIdeal.main_arg0)
      ∧ r.2.mem ((c.tc : Thread Cert.FfnDownOptRefIdeal.nD Cert.FfnDownOptRefIdeal.τ).loc Cert.FfnDownOptRefIdeal.main_arg1) = m ((c.tc : Thread Cert.FfnDownOptRefIdeal.nD Cert.FfnDownOptRefIdeal.τ).loc Cert.FfnDownOptRefIdeal.main_arg1)
      ∧ r.2.mem ((c.tc : Thread Cert.FfnDownOptRefIdeal.nD Cert.FfnDownOptRefIdeal.τ).loc Cert.FfnDownOptRefIdeal.main_arg2) = m ((c.tc : Thread Cert.FfnDownOptRefIdeal.nD Cert.FfnDownOptRefIdeal.τ).loc Cert.FfnDownOptRefIdeal.main_arg2)
      ∧ r.2.mem ((c.tc : Thread Cert.FfnDownOptRefIdeal.nD Cert.FfnDownOptRefIdeal.τ).loc Cert.FfnDownOptRefIdeal.main_arg3) = m ((c.tc : Thread Cert.FfnDownOptRefIdeal.nD Cert.FfnDownOptRefIdeal.τ).loc Cert.FfnDownOptRefIdeal.main_arg3))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_AdaDb [hAdaDb : Cert.AdaDb.Facts] : Prop :=
  ∀ (m : (ℓ : Loc Cert.AdaDb.nD Cert.AdaDb.τ Cert.AdaDb.sig) → Buf (Elt Bits) ℓ) (g : Dev Cert.AdaDb.nD → PrngReg), Pre_AdaDb m →
    θ_run (Cert.AdaDb.defs (F := Bits)) (onTc (τ := Cert.AdaDb.τ) (Cert.AdaDb.main (F := Bits))) ⟨m, fun _ => 0, g⟩ (fun r => (∀ c : Dev Cert.AdaDb.nD,
      r.2.mem ((c.tc : Thread Cert.AdaDb.nD Cert.AdaDb.τ).loc Cert.AdaDb.main_arg0) = m ((c.tc : Thread Cert.AdaDb.nD Cert.AdaDb.τ).loc Cert.AdaDb.main_arg0))
      ∧ r.2.sem = fun _ => 0)

def quiescent_AdaDbIdeal [hAdaDbIdeal : Cert.AdaDbIdeal.Facts] : Prop :=
  ∀ (m : (ℓ : Loc Cert.AdaDbIdeal.nD Cert.AdaDbIdeal.τ Cert.AdaDbIdeal.sig) → Buf (Elt Ideal) ℓ) (g : Dev Cert.AdaDbIdeal.nD → PrngReg), Pre_AdaDbIdeal m →
    θ_run (Cert.AdaDbIdeal.defs (F := Ideal)) (onTc (τ := Cert.AdaDbIdeal.τ) (Cert.AdaDbIdeal.main (F := Ideal))) ⟨m, fun _ => 0, g⟩ (fun r => (∀ c : Dev Cert.AdaDbIdeal.nD,
      r.2.mem ((c.tc : Thread Cert.AdaDbIdeal.nD Cert.AdaDbIdeal.τ).loc Cert.AdaDbIdeal.main_arg0) = m ((c.tc : Thread Cert.AdaDbIdeal.nD Cert.AdaDbIdeal.τ).loc Cert.AdaDbIdeal.main_arg0))
      ∧ r.2.sem = fun _ => 0)

def quiescent_AdaDbRefIdeal [hAdaDbRefIdeal : Cert.AdaDbRefIdeal.Facts] : Prop :=
  ∀ (m : (ℓ : Loc Cert.AdaDbRefIdeal.nD Cert.AdaDbRefIdeal.τ Cert.AdaDbRefIdeal.sig) → Buf (Elt Ideal) ℓ) (g : Dev Cert.AdaDbRefIdeal.nD → PrngReg), Pre_AdaDbRefIdeal m →
    θ_run (Cert.AdaDbRefIdeal.defs (F := Ideal)) (onTc (τ := Cert.AdaDbRefIdeal.τ) (Cert.AdaDbRefIdeal.main (F := Ideal))) ⟨m, fun _ => 0, g⟩ (fun r => (∀ c : Dev Cert.AdaDbRefIdeal.nD,
      r.2.mem ((c.tc : Thread Cert.AdaDbRefIdeal.nD Cert.AdaDbRefIdeal.τ).loc Cert.AdaDbRefIdeal.main_arg0) = m ((c.tc : Thread Cert.AdaDbRefIdeal.nD Cert.AdaDbRefIdeal.τ).loc Cert.AdaDbRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v54)) (v1 : (c : Dev Cert.AttnIdeal.nD) → Buf (Elt Ideal) ((c.tc : Thread Cert.AttnIdeal.nD Cert.AttnIdeal.τ).loc Cert.AttnIdeal.main_v52_0)) (v2 : (c : Dev Cert.AttnIdeal.nD) → Buf (Elt Ideal) ((c.tc : Thread Cert.AttnIdeal.nD Cert.AttnIdeal.τ).loc Cert.AttnIdeal.main_v52_1)) (v3 : (c : Dev Cert.AttnIdeal.nD) → Buf (Elt Ideal) ((c.tc : Thread Cert.AttnIdeal.nD Cert.AttnIdeal.τ).loc Cert.AttnIdeal.main_v57)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v54) = v0 c
          ∧ r.2.mem ((c.tc : Thread Cert.AttnIdeal.nD Cert.AttnIdeal.τ).loc Cert.AttnIdeal.main_v52_0) = v1 c
          ∧ r.2.mem ((c.tc : Thread Cert.AttnIdeal.nD Cert.AttnIdeal.τ).loc Cert.AttnIdeal.main_v52_1) = v2 c
          ∧ r.2.mem ((c.tc : Thread Cert.AttnIdeal.nD Cert.AttnIdeal.τ).loc Cert.AttnIdeal.main_v57) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v100) = v0 c
          ∧ r.2.mem ((c.tc : Thread Cert.AttnRefIdeal.nD Cert.AttnRefIdeal.τ).loc Cert.AttnRefIdeal.main_v97) = v1 c
          ∧ r.2.mem ((c.tc : Thread Cert.AttnRefIdeal.nD Cert.AttnRefIdeal.τ).loc Cert.AttnRefIdeal.main_v94) = v2 c
          ∧ r.2.mem ((c.tc : Thread Cert.AttnRefIdeal.nD Cert.AttnRefIdeal.τ).loc Cert.AttnRefIdeal.main_v87) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Fgate_FgateIdeal : Prop :=
  True

def algebraic_FgateIdeal_FgateRefIdeal_pre_finite_dcum [hFgateIdeal : Cert.FgateIdeal.Facts] [hFgateRefIdeal : Cert.FgateRefIdeal.Facts] [hPre_finite_dcum : Cert.Pre_finite_dcum.Facts] : Prop :=
  ∀ (m : (ℓ : Loc Cert.FgateIdeal.nD Cert.FgateIdeal.τ Cert.FgateIdeal.sig) → Buf (Elt Ideal) ℓ) (g : Dev Cert.FgateIdeal.nD → PrngReg)
    (m' : (ℓ : Loc Cert.FgateRefIdeal.nD Cert.FgateRefIdeal.τ Cert.FgateRefIdeal.sig) → Buf (Elt Ideal) ℓ) (g' : Dev Cert.FgateRefIdeal.nD → PrngReg), Pre_FgateIdeal_finite_dcum m →
    (∀ c : Dev Cert.FgateIdeal.nD,
      m' ((c.tc : Thread Cert.FgateRefIdeal.nD Cert.FgateRefIdeal.τ).loc Cert.FgateRefIdeal.main_arg0) = m ((c.tc : Thread Cert.FgateIdeal.nD Cert.FgateIdeal.τ).loc Cert.FgateIdeal.main_arg0)
      ∧ m' ((c.tc : Thread Cert.FgateRefIdeal.nD Cert.FgateRefIdeal.τ).loc Cert.FgateRefIdeal.main_arg1) = m ((c.tc : Thread Cert.FgateIdeal.nD Cert.FgateIdeal.τ).loc Cert.FgateIdeal.main_arg1)) →
    ∃ (v0 : (c : Dev Cert.FgateIdeal.nD) → Buf (Elt Ideal) ((c.tc : Thread Cert.FgateIdeal.nD Cert.FgateIdeal.τ).loc Cert.FgateIdeal.main_v0)),
      θ_run (Cert.FgateIdeal.defs (F := Ideal)) (onTc (τ := Cert.FgateIdeal.τ) (Cert.FgateIdeal.main (F := Ideal))) ⟨m, fun _ => 0, g⟩ (fun r => ∀ c : Dev Cert.FgateIdeal.nD,
          r.2.mem ((c.tc : Thread Cert.FgateIdeal.nD Cert.FgateIdeal.τ).loc Cert.FgateIdeal.main_v0) = v0 c
          ∧ r.2.mem ((c.tc : Thread Cert.FgateIdeal.nD Cert.FgateIdeal.τ).loc Cert.FgateIdeal.main_arg0) = m ((c.tc : Thread Cert.FgateIdeal.nD Cert.FgateIdeal.τ).loc Cert.FgateIdeal.main_arg0)
          ∧ r.2.mem ((c.tc : Thread Cert.FgateIdeal.nD Cert.FgateIdeal.τ).loc Cert.FgateIdeal.main_arg1) = m ((c.tc : Thread Cert.FgateIdeal.nD Cert.FgateIdeal.τ).loc Cert.FgateIdeal.main_arg1))
      ∧ θ_run (Cert.FgateRefIdeal.defs (F := Ideal)) (onTc (τ := Cert.FgateRefIdeal.τ) (Cert.FgateRefIdeal.main (F := Ideal))) ⟨m', fun _ => 0, g'⟩ (fun r => ∀ c : Dev Cert.FgateRefIdeal.nD,
          r.2.mem ((c.tc : Thread Cert.FgateRefIdeal.nD Cert.FgateRefIdeal.τ).loc Cert.FgateRefIdeal.main_v6) = v0 c
          ∧ r.2.mem ((c.tc : Thread Cert.FgateRefIdeal.nD Cert.FgateRefIdeal.τ).loc Cert.FgateRefIdeal.main_arg0) = m' ((c.tc : Thread Cert.FgateRefIdeal.nD Cert.FgateRefIdeal.τ).loc Cert.FgateRefIdeal.main_arg0)
          ∧ r.2.mem ((c.tc : Thread Cert.FgateRefIdeal.nD Cert.FgateRefIdeal.τ).loc Cert.FgateRefIdeal.main_arg1) = m' ((c.tc : Thread Cert.FgateRefIdeal.nD Cert.FgateRefIdeal.τ).loc Cert.FgateRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v8) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_MainDx_MainDxIdeal : Prop :=
  True

def algebraic_MainDxIdeal_MainDxRefIdeal [hMainDxIdeal : Cert.MainDxIdeal.Facts] [hMainDxRefIdeal : Cert.MainDxRefIdeal.Facts] : Prop :=
  ∀ (m : (ℓ : Loc Cert.MainDxIdeal.nD Cert.MainDxIdeal.τ Cert.MainDxIdeal.sig) → Buf (Elt Ideal) ℓ) (g : Dev Cert.MainDxIdeal.nD → PrngReg)
    (m' : (ℓ : Loc Cert.MainDxRefIdeal.nD Cert.MainDxRefIdeal.τ Cert.MainDxRefIdeal.sig) → Buf (Elt Ideal) ℓ) (g' : Dev Cert.MainDxRefIdeal.nD → PrngReg), Pre_MainDxIdeal m →
    (∀ c : Dev Cert.MainDxIdeal.nD,
      m' ((c.tc : Thread Cert.MainDxRefIdeal.nD Cert.MainDxRefIdeal.τ).loc Cert.MainDxRefIdeal.main_arg0) = m ((c.tc : Thread Cert.MainDxIdeal.nD Cert.MainDxIdeal.τ).loc Cert.MainDxIdeal.main_arg0)
      ∧ m' ((c.tc : Thread Cert.MainDxRefIdeal.nD Cert.MainDxRefIdeal.τ).loc Cert.MainDxRefIdeal.main_arg1) = m ((c.tc : Thread Cert.MainDxIdeal.nD Cert.MainDxIdeal.τ).loc Cert.MainDxIdeal.main_arg1)) →
    ∃ (v0 : (c : Dev Cert.MainDxIdeal.nD) → Buf (Elt Ideal) ((c.tc : Thread Cert.MainDxIdeal.nD Cert.MainDxIdeal.τ).loc Cert.MainDxIdeal.main_v0)),
      θ_run (Cert.MainDxIdeal.defs (F := Ideal)) (onTc (τ := Cert.MainDxIdeal.τ) (Cert.MainDxIdeal.main (F := Ideal))) ⟨m, fun _ => 0, g⟩ (fun r => ∀ c : Dev Cert.MainDxIdeal.nD,
          r.2.mem ((c.tc : Thread Cert.MainDxIdeal.nD Cert.MainDxIdeal.τ).loc Cert.MainDxIdeal.main_v0) = v0 c
          ∧ r.2.mem ((c.tc : Thread Cert.MainDxIdeal.nD Cert.MainDxIdeal.τ).loc Cert.MainDxIdeal.main_arg0) = m ((c.tc : Thread Cert.MainDxIdeal.nD Cert.MainDxIdeal.τ).loc Cert.MainDxIdeal.main_arg0)
          ∧ r.2.mem ((c.tc : Thread Cert.MainDxIdeal.nD Cert.MainDxIdeal.τ).loc Cert.MainDxIdeal.main_arg1) = m ((c.tc : Thread Cert.MainDxIdeal.nD Cert.MainDxIdeal.τ).loc Cert.MainDxIdeal.main_arg1))
      ∧ θ_run (Cert.MainDxRefIdeal.defs (F := Ideal)) (onTc (τ := Cert.MainDxRefIdeal.τ) (Cert.MainDxRefIdeal.main (F := Ideal))) ⟨m', fun _ => 0, g'⟩ (fun r => ∀ c : Dev Cert.MainDxRefIdeal.nD,
          r.2.mem ((c.tc : Thread Cert.MainDxRefIdeal.nD Cert.MainDxRefIdeal.τ).loc Cert.MainDxRefIdeal.main_v6) = v0 c
          ∧ r.2.mem ((c.tc : Thread Cert.MainDxRefIdeal.nD Cert.MainDxRefIdeal.τ).loc Cert.MainDxRefIdeal.main_arg0) = m' ((c.tc : Thread Cert.MainDxRefIdeal.nD Cert.MainDxRefIdeal.τ).loc Cert.MainDxRefIdeal.main_arg0)
          ∧ r.2.mem ((c.tc : Thread Cert.MainDxRefIdeal.nD Cert.MainDxRefIdeal.τ).loc Cert.MainDxRefIdeal.main_arg1) = m' ((c.tc : Thread Cert.MainDxRefIdeal.nD Cert.MainDxRefIdeal.τ).loc Cert.MainDxRefIdeal.main_arg1))

def preserves_MainDw_MainDwIdeal : Prop :=
  True

def algebraic_MainDwIdeal_MainDwRefIdeal [hMainDwIdeal : Cert.MainDwIdeal.Facts] [hMainDwRefIdeal : Cert.MainDwRefIdeal.Facts] : Prop :=
  ∀ (m : (ℓ : Loc Cert.MainDwIdeal.nD Cert.MainDwIdeal.τ Cert.MainDwIdeal.sig) → Buf (Elt Ideal) ℓ) (g : Dev Cert.MainDwIdeal.nD → PrngReg)
    (m' : (ℓ : Loc Cert.MainDwRefIdeal.nD Cert.MainDwRefIdeal.τ Cert.MainDwRefIdeal.sig) → Buf (Elt Ideal) ℓ) (g' : Dev Cert.MainDwRefIdeal.nD → PrngReg), Pre_MainDwIdeal m →
    (∀ c : Dev Cert.MainDwIdeal.nD,
      m' ((c.tc : Thread Cert.MainDwRefIdeal.nD Cert.MainDwRefIdeal.τ).loc Cert.MainDwRefIdeal.main_arg0) = m ((c.tc : Thread Cert.MainDwIdeal.nD Cert.MainDwIdeal.τ).loc Cert.MainDwIdeal.main_arg0)
      ∧ m' ((c.tc : Thread Cert.MainDwRefIdeal.nD Cert.MainDwRefIdeal.τ).loc Cert.MainDwRefIdeal.main_arg1) = m ((c.tc : Thread Cert.MainDwIdeal.nD Cert.MainDwIdeal.τ).loc Cert.MainDwIdeal.main_arg1)) →
    ∃ (v0 : (c : Dev Cert.MainDwIdeal.nD) → Buf (Elt Ideal) ((c.tc : Thread Cert.MainDwIdeal.nD Cert.MainDwIdeal.τ).loc Cert.MainDwIdeal.main_v0_0)) (v1 : (c : Dev Cert.MainDwIdeal.nD) → Buf (Elt Ideal) ((c.tc : Thread Cert.MainDwIdeal.nD Cert.MainDwIdeal.τ).loc Cert.MainDwIdeal.main_v0_1)),
      θ_run (Cert.MainDwIdeal.defs (F := Ideal)) (onTc (τ := Cert.MainDwIdeal.τ) (Cert.MainDwIdeal.main (F := Ideal))) ⟨m, fun _ => 0, g⟩ (fun r => ∀ c : Dev Cert.MainDwIdeal.nD,
          r.2.mem ((c.tc : Thread Cert.MainDwIdeal.nD Cert.MainDwIdeal.τ).loc Cert.MainDwIdeal.main_v0_0) = v0 c
          ∧ r.2.mem ((c.tc : Thread Cert.MainDwIdeal.nD Cert.MainDwIdeal.τ).loc Cert.MainDwIdeal.main_v0_1) = v1 c
          ∧ r.2.mem ((c.tc : Thread Cert.MainDwIdeal.nD Cert.MainDwIdeal.τ).loc Cert.MainDwIdeal.main_arg0) = m ((c.tc : Thread Cert.MainDwIdeal.nD Cert.MainDwIdeal.τ).loc Cert.MainDwIdeal.main_arg0)
          ∧ r.2.mem ((c.tc : Thread Cert.MainDwIdeal.nD Cert.MainDwIdeal.τ).loc Cert.MainDwIdeal.main_arg1) = m ((c.tc : Thread Cert.MainDwIdeal.nD Cert.MainDwIdeal.τ).loc Cert.MainDwIdeal.main_arg1))
      ∧ θ_run (Cert.MainDwRefIdeal.defs (F := Ideal)) (onTc (τ := Cert.MainDwRefIdeal.τ) (Cert.MainDwRefIdeal.main (F := Ideal))) ⟨m', fun _ => 0, g'⟩ (fun r => ∀ c : Dev Cert.MainDwRefIdeal.nD,
          r.2.mem ((c.tc : Thread Cert.MainDwRefIdeal.nD Cert.MainDwRefIdeal.τ).loc Cert.MainDwRefIdeal.main_v10) = v0 c
          ∧ r.2.mem ((c.tc : Thread Cert.MainDwRefIdeal.nD Cert.MainDwRefIdeal.τ).loc Cert.MainDwRefIdeal.main_v8) = v1 c
          ∧ r.2.mem ((c.tc : Thread Cert.MainDwRefIdeal.nD Cert.MainDwRefIdeal.τ).loc Cert.MainDwRefIdeal.main_arg0) = m' ((c.tc : Thread Cert.MainDwRefIdeal.nD Cert.MainDwRefIdeal.τ).loc Cert.MainDwRefIdeal.main_arg0)
          ∧ r.2.mem ((c.tc : Thread Cert.MainDwRefIdeal.nD Cert.MainDwRefIdeal.τ).loc Cert.MainDwRefIdeal.main_arg1) = m' ((c.tc : Thread Cert.MainDwRefIdeal.nD Cert.MainDwRefIdeal.τ).loc Cert.MainDwRefIdeal.main_arg1))

def preserves_UpGateDx_UpGateDxIdeal : Prop :=
  True

def algebraic_UpGateDxIdeal_UpGateDxRefIdeal [hUpGateDxIdeal : Cert.UpGateDxIdeal.Facts] [hUpGateDxRefIdeal : Cert.UpGateDxRefIdeal.Facts] : Prop :=
  ∀ (m : (ℓ : Loc Cert.UpGateDxIdeal.nD Cert.UpGateDxIdeal.τ Cert.UpGateDxIdeal.sig) → Buf (Elt Ideal) ℓ) (g : Dev Cert.UpGateDxIdeal.nD → PrngReg)
    (m' : (ℓ : Loc Cert.UpGateDxRefIdeal.nD Cert.UpGateDxRefIdeal.τ Cert.UpGateDxRefIdeal.sig) → Buf (Elt Ideal) ℓ) (g' : Dev Cert.UpGateDxRefIdeal.nD → PrngReg), Pre_UpGateDxIdeal m →
    (∀ c : Dev Cert.UpGateDxIdeal.nD,
      m' ((c.tc : Thread Cert.UpGateDxRefIdeal.nD Cert.UpGateDxRefIdeal.τ).loc Cert.UpGateDxRefIdeal.main_arg0) = m ((c.tc : Thread Cert.UpGateDxIdeal.nD Cert.UpGateDxIdeal.τ).loc Cert.UpGateDxIdeal.main_arg0)
      ∧ m' ((c.tc : Thread Cert.UpGateDxRefIdeal.nD Cert.UpGateDxRefIdeal.τ).loc Cert.UpGateDxRefIdeal.main_arg1) = m ((c.tc : Thread Cert.UpGateDxIdeal.nD Cert.UpGateDxIdeal.τ).loc Cert.UpGateDxIdeal.main_arg1)) →
    ∃ (v0 : (c : Dev Cert.UpGateDxIdeal.nD) → Buf (Elt Ideal) ((c.tc : Thread Cert.UpGateDxIdeal.nD Cert.UpGateDxIdeal.τ).loc Cert.UpGateDxIdeal.main_v0)),
      θ_run (Cert.UpGateDxIdeal.defs (F := Ideal)) (onTc (τ := Cert.UpGateDxIdeal.τ) (Cert.UpGateDxIdeal.main (F := Ideal))) ⟨m, fun _ => 0, g⟩ (fun r => ∀ c : Dev Cert.UpGateDxIdeal.nD,
          r.2.mem ((c.tc : Thread Cert.UpGateDxIdeal.nD Cert.UpGateDxIdeal.τ).loc Cert.UpGateDxIdeal.main_v0) = v0 c
          ∧ r.2.mem ((c.tc : Thread Cert.UpGateDxIdeal.nD Cert.UpGateDxIdeal.τ).loc Cert.UpGateDxIdeal.main_arg0) = m ((c.tc : Thread Cert.UpGateDxIdeal.nD Cert.UpGateDxIdeal.τ).loc Cert.UpGateDxIdeal.main_arg0)
          ∧ r.2.mem ((c.tc : Thread Cert.UpGateDxIdeal.nD Cert.UpGateDxIdeal.τ).loc Cert.UpGateDxIdeal.main_arg1) = m ((c.tc : Thread Cert.UpGateDxIdeal.nD Cert.UpGateDxIdeal.τ).loc Cert.UpGateDxIdeal.main_arg1))
      ∧ θ_run (Cert.UpGateDxRefIdeal.defs (F := Ideal)) (onTc (τ := Cert.UpGateDxRefIdeal.τ) (Cert.UpGateDxRefIdeal.main (F := Ideal))) ⟨m', fun _ => 0, g'⟩ (fun r => ∀ c : Dev Cert.UpGateDxRefIdeal.nD,
          r.2.mem ((c.tc : Thread Cert.UpGateDxRefIdeal.nD Cert.UpGateDxRefIdeal.τ).loc Cert.UpGateDxRefIdeal.main_v6) = v0 c
          ∧ r.2.mem ((c.tc : Thread Cert.UpGateDxRefIdeal.nD Cert.UpGateDxRefIdeal.τ).loc Cert.UpGateDxRefIdeal.main_arg0) = m' ((c.tc : Thread Cert.UpGateDxRefIdeal.nD Cert.UpGateDxRefIdeal.τ).loc Cert.UpGateDxRefIdeal.main_arg0)
          ∧ r.2.mem ((c.tc : Thread Cert.UpGateDxRefIdeal.nD Cert.UpGateDxRefIdeal.τ).loc Cert.UpGateDxRefIdeal.main_arg1) = m' ((c.tc : Thread Cert.UpGateDxRefIdeal.nD Cert.UpGateDxRefIdeal.τ).loc Cert.UpGateDxRefIdeal.main_arg1))

def preserves_UpLinDx_UpLinDxIdeal : Prop :=
  True

def algebraic_UpLinDxIdeal_UpLinDxRefIdeal [hUpLinDxIdeal : Cert.UpLinDxIdeal.Facts] [hUpLinDxRefIdeal : Cert.UpLinDxRefIdeal.Facts] : Prop :=
  ∀ (m : (ℓ : Loc Cert.UpLinDxIdeal.nD Cert.UpLinDxIdeal.τ Cert.UpLinDxIdeal.sig) → Buf (Elt Ideal) ℓ) (g : Dev Cert.UpLinDxIdeal.nD → PrngReg)
    (m' : (ℓ : Loc Cert.UpLinDxRefIdeal.nD Cert.UpLinDxRefIdeal.τ Cert.UpLinDxRefIdeal.sig) → Buf (Elt Ideal) ℓ) (g' : Dev Cert.UpLinDxRefIdeal.nD → PrngReg), Pre_UpLinDxIdeal m →
    (∀ c : Dev Cert.UpLinDxIdeal.nD,
      m' ((c.tc : Thread Cert.UpLinDxRefIdeal.nD Cert.UpLinDxRefIdeal.τ).loc Cert.UpLinDxRefIdeal.main_arg0) = m ((c.tc : Thread Cert.UpLinDxIdeal.nD Cert.UpLinDxIdeal.τ).loc Cert.UpLinDxIdeal.main_arg0)
      ∧ m' ((c.tc : Thread Cert.UpLinDxRefIdeal.nD Cert.UpLinDxRefIdeal.τ).loc Cert.UpLinDxRefIdeal.main_arg1) = m ((c.tc : Thread Cert.UpLinDxIdeal.nD Cert.UpLinDxIdeal.τ).loc Cert.UpLinDxIdeal.main_arg1)
      ∧ m' ((c.tc : Thread Cert.UpLinDxRefIdeal.nD Cert.UpLinDxRefIdeal.τ).loc Cert.UpLinDxRefIdeal.main_arg2) = m ((c.tc : Thread Cert.UpLinDxIdeal.nD Cert.UpLinDxIdeal.τ).loc Cert.UpLinDxIdeal.main_arg2)) →
    ∃ (v0 : (c : Dev Cert.UpLinDxIdeal.nD) → Buf (Elt Ideal) ((c.tc : Thread Cert.UpLinDxIdeal.nD Cert.UpLinDxIdeal.τ).loc Cert.UpLinDxIdeal.main_v0)),
      θ_run (Cert.UpLinDxIdeal.defs (F := Ideal)) (onTc (τ := Cert.UpLinDxIdeal.τ) (Cert.UpLinDxIdeal.main (F := Ideal))) ⟨m, fun _ => 0, g⟩ (fun r => ∀ c : Dev Cert.UpLinDxIdeal.nD,
          r.2.mem ((c.tc : Thread Cert.UpLinDxIdeal.nD Cert.UpLinDxIdeal.τ).loc Cert.UpLinDxIdeal.main_v0) = v0 c
          ∧ r.2.mem ((c.tc : Thread Cert.UpLinDxIdeal.nD Cert.UpLinDxIdeal.τ).loc Cert.UpLinDxIdeal.main_arg0) = m ((c.tc : Thread Cert.UpLinDxIdeal.nD Cert.UpLinDxIdeal.τ).loc Cert.UpLinDxIdeal.main_arg0)
          ∧ r.2.mem ((c.tc : Thread Cert.UpLinDxIdeal.nD Cert.UpLinDxIdeal.τ).loc Cert.UpLinDxIdeal.main_arg1) = m ((c.tc : Thread Cert.UpLinDxIdeal.nD Cert.UpLinDxIdeal.τ).loc Cert.UpLinDxIdeal.main_arg1)
          ∧ r.2.mem ((c.tc : Thread Cert.UpLinDxIdeal.nD Cert.UpLinDxIdeal.τ).loc Cert.UpLinDxIdeal.main_arg2) = m ((c.tc : Thread Cert.UpLinDxIdeal.nD Cert.UpLinDxIdeal.τ).loc Cert.UpLinDxIdeal.main_arg2))
      ∧ θ_run (Cert.UpLinDxRefIdeal.defs (F := Ideal)) (onTc (τ := Cert.UpLinDxRefIdeal.τ) (Cert.UpLinDxRefIdeal.main (F := Ideal))) ⟨m', fun _ => 0, g'⟩ (fun r => ∀ c : Dev Cert.UpLinDxRefIdeal.nD,
          r.2.mem ((c.tc : Thread Cert.UpLinDxRefIdeal.nD Cert.UpLinDxRefIdeal.τ).loc Cert.UpLinDxRefIdeal.main_v7) = v0 c
          ∧ r.2.mem ((c.tc : Thread Cert.UpLinDxRefIdeal.nD Cert.UpLinDxRefIdeal.τ).loc Cert.UpLinDxRefIdeal.main_arg0) = m' ((c.tc : Thread Cert.UpLinDxRefIdeal.nD Cert.UpLinDxRefIdeal.τ).loc Cert.UpLinDxRefIdeal.main_arg0)
          ∧ r.2.mem ((c.tc : Thread Cert.UpLinDxRefIdeal.nD Cert.UpLinDxRefIdeal.τ).loc Cert.UpLinDxRefIdeal.main_arg1) = m' ((c.tc : Thread Cert.UpLinDxRefIdeal.nD Cert.UpLinDxRefIdeal.τ).loc Cert.UpLinDxRefIdeal.main_arg1)
          ∧ r.2.mem ((c.tc : Thread Cert.UpLinDxRefIdeal.nD Cert.UpLinDxRefIdeal.τ).loc Cert.UpLinDxRefIdeal.main_arg2) = m' ((c.tc : Thread Cert.UpLinDxRefIdeal.nD Cert.UpLinDxRefIdeal.τ).loc Cert.UpLinDxRefIdeal.main_arg2))

def preserves_UpGateDw_UpGateDwIdeal : Prop :=
  True

def algebraic_UpGateDwIdeal_UpGateDwRefIdeal [hUpGateDwIdeal : Cert.UpGateDwIdeal.Facts] [hUpGateDwRefIdeal : Cert.UpGateDwRefIdeal.Facts] : Prop :=
  ∀ (m : (ℓ : Loc Cert.UpGateDwIdeal.nD Cert.UpGateDwIdeal.τ Cert.UpGateDwIdeal.sig) → Buf (Elt Ideal) ℓ) (g : Dev Cert.UpGateDwIdeal.nD → PrngReg)
    (m' : (ℓ : Loc Cert.UpGateDwRefIdeal.nD Cert.UpGateDwRefIdeal.τ Cert.UpGateDwRefIdeal.sig) → Buf (Elt Ideal) ℓ) (g' : Dev Cert.UpGateDwRefIdeal.nD → PrngReg), Pre_UpGateDwIdeal m →
    (∀ c : Dev Cert.UpGateDwIdeal.nD,
      m' ((c.tc : Thread Cert.UpGateDwRefIdeal.nD Cert.UpGateDwRefIdeal.τ).loc Cert.UpGateDwRefIdeal.main_arg0) = m ((c.tc : Thread Cert.UpGateDwIdeal.nD Cert.UpGateDwIdeal.τ).loc Cert.UpGateDwIdeal.main_arg0)
      ∧ m' ((c.tc : Thread Cert.UpGateDwRefIdeal.nD Cert.UpGateDwRefIdeal.τ).loc Cert.UpGateDwRefIdeal.main_arg1) = m ((c.tc : Thread Cert.UpGateDwIdeal.nD Cert.UpGateDwIdeal.τ).loc Cert.UpGateDwIdeal.main_arg1)) →
    ∃ (v0 : (c : Dev Cert.UpGateDwIdeal.nD) → Buf (Elt Ideal) ((c.tc : Thread Cert.UpGateDwIdeal.nD Cert.UpGateDwIdeal.τ).loc Cert.UpGateDwIdeal.main_v1)),
      θ_run (Cert.UpGateDwIdeal.defs (F := Ideal)) (onTc (τ := Cert.UpGateDwIdeal.τ) (Cert.UpGateDwIdeal.main (F := Ideal))) ⟨m, fun _ => 0, g⟩ (fun r => ∀ c : Dev Cert.UpGateDwIdeal.nD,
          r.2.mem ((c.tc : Thread Cert.UpGateDwIdeal.nD Cert.UpGateDwIdeal.τ).loc Cert.UpGateDwIdeal.main_v1) = v0 c
          ∧ r.2.mem ((c.tc : Thread Cert.UpGateDwIdeal.nD Cert.UpGateDwIdeal.τ).loc Cert.UpGateDwIdeal.main_arg0) = m ((c.tc : Thread Cert.UpGateDwIdeal.nD Cert.UpGateDwIdeal.τ).loc Cert.UpGateDwIdeal.main_arg0)
          ∧ r.2.mem ((c.tc : Thread Cert.UpGateDwIdeal.nD Cert.UpGateDwIdeal.τ).loc Cert.UpGateDwIdeal.main_arg1) = m ((c.tc : Thread Cert.UpGateDwIdeal.nD Cert.UpGateDwIdeal.τ).loc Cert.UpGateDwIdeal.main_arg1))
      ∧ θ_run (Cert.UpGateDwRefIdeal.defs (F := Ideal)) (onTc (τ := Cert.UpGateDwRefIdeal.τ) (Cert.UpGateDwRefIdeal.main (F := Ideal))) ⟨m', fun _ => 0, g'⟩ (fun r => ∀ c : Dev Cert.UpGateDwRefIdeal.nD,
          r.2.mem ((c.tc : Thread Cert.UpGateDwRefIdeal.nD Cert.UpGateDwRefIdeal.τ).loc Cert.UpGateDwRefIdeal.main_v5) = v0 c
          ∧ r.2.mem ((c.tc : Thread Cert.UpGateDwRefIdeal.nD Cert.UpGateDwRefIdeal.τ).loc Cert.UpGateDwRefIdeal.main_arg0) = m' ((c.tc : Thread Cert.UpGateDwRefIdeal.nD Cert.UpGateDwRefIdeal.τ).loc Cert.UpGateDwRefIdeal.main_arg0)
          ∧ r.2.mem ((c.tc : Thread Cert.UpGateDwRefIdeal.nD Cert.UpGateDwRefIdeal.τ).loc Cert.UpGateDwRefIdeal.main_arg1) = m' ((c.tc : Thread Cert.UpGateDwRefIdeal.nD Cert.UpGateDwRefIdeal.τ).loc Cert.UpGateDwRefIdeal.main_arg1))

def preserves_UpLinDw_UpLinDwIdeal : Prop :=
  True

def algebraic_UpLinDwIdeal_UpLinDwRefIdeal [hUpLinDwIdeal : Cert.UpLinDwIdeal.Facts] [hUpLinDwRefIdeal : Cert.UpLinDwRefIdeal.Facts] : Prop :=
  ∀ (m : (ℓ : Loc Cert.UpLinDwIdeal.nD Cert.UpLinDwIdeal.τ Cert.UpLinDwIdeal.sig) → Buf (Elt Ideal) ℓ) (g : Dev Cert.UpLinDwIdeal.nD → PrngReg)
    (m' : (ℓ : Loc Cert.UpLinDwRefIdeal.nD Cert.UpLinDwRefIdeal.τ Cert.UpLinDwRefIdeal.sig) → Buf (Elt Ideal) ℓ) (g' : Dev Cert.UpLinDwRefIdeal.nD → PrngReg), Pre_UpLinDwIdeal m →
    (∀ c : Dev Cert.UpLinDwIdeal.nD,
      m' ((c.tc : Thread Cert.UpLinDwRefIdeal.nD Cert.UpLinDwRefIdeal.τ).loc Cert.UpLinDwRefIdeal.main_arg0) = m ((c.tc : Thread Cert.UpLinDwIdeal.nD Cert.UpLinDwIdeal.τ).loc Cert.UpLinDwIdeal.main_arg0)
      ∧ m' ((c.tc : Thread Cert.UpLinDwRefIdeal.nD Cert.UpLinDwRefIdeal.τ).loc Cert.UpLinDwRefIdeal.main_arg1) = m ((c.tc : Thread Cert.UpLinDwIdeal.nD Cert.UpLinDwIdeal.τ).loc Cert.UpLinDwIdeal.main_arg1)
      ∧ m' ((c.tc : Thread Cert.UpLinDwRefIdeal.nD Cert.UpLinDwRefIdeal.τ).loc Cert.UpLinDwRefIdeal.main_arg2) = m ((c.tc : Thread Cert.UpLinDwIdeal.nD Cert.UpLinDwIdeal.τ).loc Cert.UpLinDwIdeal.main_arg2)) →
    ∃ (v0 : (c : Dev Cert.UpLinDwIdeal.nD) → Buf (Elt Ideal) ((c.tc : Thread Cert.UpLinDwIdeal.nD Cert.UpLinDwIdeal.τ).loc Cert.UpLinDwIdeal.main_v0)),
      θ_run (Cert.UpLinDwIdeal.defs (F := Ideal)) (onTc (τ := Cert.UpLinDwIdeal.τ) (Cert.UpLinDwIdeal.main (F := Ideal))) ⟨m, fun _ => 0, g⟩ (fun r => ∀ c : Dev Cert.UpLinDwIdeal.nD,
          r.2.mem ((c.tc : Thread Cert.UpLinDwIdeal.nD Cert.UpLinDwIdeal.τ).loc Cert.UpLinDwIdeal.main_v0) = v0 c
          ∧ r.2.mem ((c.tc : Thread Cert.UpLinDwIdeal.nD Cert.UpLinDwIdeal.τ).loc Cert.UpLinDwIdeal.main_arg0) = m ((c.tc : Thread Cert.UpLinDwIdeal.nD Cert.UpLinDwIdeal.τ).loc Cert.UpLinDwIdeal.main_arg0)
          ∧ r.2.mem ((c.tc : Thread Cert.UpLinDwIdeal.nD Cert.UpLinDwIdeal.τ).loc Cert.UpLinDwIdeal.main_arg1) = m ((c.tc : Thread Cert.UpLinDwIdeal.nD Cert.UpLinDwIdeal.τ).loc Cert.UpLinDwIdeal.main_arg1)
          ∧ r.2.mem ((c.tc : Thread Cert.UpLinDwIdeal.nD Cert.UpLinDwIdeal.τ).loc Cert.UpLinDwIdeal.main_arg2) = m ((c.tc : Thread Cert.UpLinDwIdeal.nD Cert.UpLinDwIdeal.τ).loc Cert.UpLinDwIdeal.main_arg2))
      ∧ θ_run (Cert.UpLinDwRefIdeal.defs (F := Ideal)) (onTc (τ := Cert.UpLinDwRefIdeal.τ) (Cert.UpLinDwRefIdeal.main (F := Ideal))) ⟨m', fun _ => 0, g'⟩ (fun r => ∀ c : Dev Cert.UpLinDwRefIdeal.nD,
          r.2.mem ((c.tc : Thread Cert.UpLinDwRefIdeal.nD Cert.UpLinDwRefIdeal.τ).loc Cert.UpLinDwRefIdeal.main_v7) = v0 c
          ∧ r.2.mem ((c.tc : Thread Cert.UpLinDwRefIdeal.nD Cert.UpLinDwRefIdeal.τ).loc Cert.UpLinDwRefIdeal.main_arg0) = m' ((c.tc : Thread Cert.UpLinDwRefIdeal.nD Cert.UpLinDwRefIdeal.τ).loc Cert.UpLinDwRefIdeal.main_arg0)
          ∧ r.2.mem ((c.tc : Thread Cert.UpLinDwRefIdeal.nD Cert.UpLinDwRefIdeal.τ).loc Cert.UpLinDwRefIdeal.main_arg1) = m' ((c.tc : Thread Cert.UpLinDwRefIdeal.nD Cert.UpLinDwRefIdeal.τ).loc Cert.UpLinDwRefIdeal.main_arg1)
          ∧ r.2.mem ((c.tc : Thread Cert.UpLinDwRefIdeal.nD Cert.UpLinDwRefIdeal.τ).loc Cert.UpLinDwRefIdeal.main_arg2) = m' ((c.tc : Thread Cert.UpLinDwRefIdeal.nD Cert.UpLinDwRefIdeal.τ).loc Cert.UpLinDwRefIdeal.main_arg2))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v0)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v8) = v0 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v5) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_ConvDx_ConvDxIdeal : Prop :=
  True

def algebraic_ConvDxIdeal_ConvDxRefIdeal [hConvDxIdeal : Cert.ConvDxIdeal.Facts] [hConvDxRefIdeal : Cert.ConvDxRefIdeal.Facts] : Prop :=
  ∀ (m : (ℓ : Loc Cert.ConvDxIdeal.nD Cert.ConvDxIdeal.τ Cert.ConvDxIdeal.sig) → Buf (Elt Ideal) ℓ) (g : Dev Cert.ConvDxIdeal.nD → PrngReg)
    (m' : (ℓ : Loc Cert.ConvDxRefIdeal.nD Cert.ConvDxRefIdeal.τ Cert.ConvDxRefIdeal.sig) → Buf (Elt Ideal) ℓ) (g' : Dev Cert.ConvDxRefIdeal.nD → PrngReg), Pre_ConvDxIdeal m →
    (∀ c : Dev Cert.ConvDxIdeal.nD,
      m' ((c.tc : Thread Cert.ConvDxRefIdeal.nD Cert.ConvDxRefIdeal.τ).loc Cert.ConvDxRefIdeal.main_arg0) = m ((c.tc : Thread Cert.ConvDxIdeal.nD Cert.ConvDxIdeal.τ).loc Cert.ConvDxIdeal.main_arg0)
      ∧ m' ((c.tc : Thread Cert.ConvDxRefIdeal.nD Cert.ConvDxRefIdeal.τ).loc Cert.ConvDxRefIdeal.main_arg1) = m ((c.tc : Thread Cert.ConvDxIdeal.nD Cert.ConvDxIdeal.τ).loc Cert.ConvDxIdeal.main_arg1)) →
    ∃ (v0 : (c : Dev Cert.ConvDxIdeal.nD) → Buf (Elt Ideal) ((c.tc : Thread Cert.ConvDxIdeal.nD Cert.ConvDxIdeal.τ).loc Cert.ConvDxIdeal.main_v0)),
      θ_run (Cert.ConvDxIdeal.defs (F := Ideal)) (onTc (τ := Cert.ConvDxIdeal.τ) (Cert.ConvDxIdeal.main (F := Ideal))) ⟨m, fun _ => 0, g⟩ (fun r => ∀ c : Dev Cert.ConvDxIdeal.nD,
          r.2.mem ((c.tc : Thread Cert.ConvDxIdeal.nD Cert.ConvDxIdeal.τ).loc Cert.ConvDxIdeal.main_v0) = v0 c
          ∧ r.2.mem ((c.tc : Thread Cert.ConvDxIdeal.nD Cert.ConvDxIdeal.τ).loc Cert.ConvDxIdeal.main_arg0) = m ((c.tc : Thread Cert.ConvDxIdeal.nD Cert.ConvDxIdeal.τ).loc Cert.ConvDxIdeal.main_arg0)
          ∧ r.2.mem ((c.tc : Thread Cert.ConvDxIdeal.nD Cert.ConvDxIdeal.τ).loc Cert.ConvDxIdeal.main_arg1) = m ((c.tc : Thread Cert.ConvDxIdeal.nD Cert.ConvDxIdeal.τ).loc Cert.ConvDxIdeal.main_arg1))
      ∧ θ_run (Cert.ConvDxRefIdeal.defs (F := Ideal)) (onTc (τ := Cert.ConvDxRefIdeal.τ) (Cert.ConvDxRefIdeal.main (F := Ideal))) ⟨m', fun _ => 0, g'⟩ (fun r => ∀ c : Dev Cert.ConvDxRefIdeal.nD,
          r.2.mem ((c.tc : Thread Cert.ConvDxRefIdeal.nD Cert.ConvDxRefIdeal.τ).loc Cert.ConvDxRefIdeal.main_v6) = v0 c
          ∧ r.2.mem ((c.tc : Thread Cert.ConvDxRefIdeal.nD Cert.ConvDxRefIdeal.τ).loc Cert.ConvDxRefIdeal.main_arg0) = m' ((c.tc : Thread Cert.ConvDxRefIdeal.nD Cert.ConvDxRefIdeal.τ).loc Cert.ConvDxRefIdeal.main_arg0)
          ∧ r.2.mem ((c.tc : Thread Cert.ConvDxRefIdeal.nD Cert.ConvDxRefIdeal.τ).loc Cert.ConvDxRefIdeal.main_arg1) = m' ((c.tc : Thread Cert.ConvDxRefIdeal.nD Cert.ConvDxRefIdeal.τ).loc Cert.ConvDxRefIdeal.main_arg1))

def preserves_ConvDw_ConvDwIdeal : Prop :=
  True

def algebraic_ConvDwIdeal_ConvDwRefIdeal [hConvDwIdeal : Cert.ConvDwIdeal.Facts] [hConvDwRefIdeal : Cert.ConvDwRefIdeal.Facts] : Prop :=
  ∀ (m : (ℓ : Loc Cert.ConvDwIdeal.nD Cert.ConvDwIdeal.τ Cert.ConvDwIdeal.sig) → Buf (Elt Ideal) ℓ) (g : Dev Cert.ConvDwIdeal.nD → PrngReg)
    (m' : (ℓ : Loc Cert.ConvDwRefIdeal.nD Cert.ConvDwRefIdeal.τ Cert.ConvDwRefIdeal.sig) → Buf (Elt Ideal) ℓ) (g' : Dev Cert.ConvDwRefIdeal.nD → PrngReg), Pre_ConvDwIdeal m →
    (∀ c : Dev Cert.ConvDwIdeal.nD,
      m' ((c.tc : Thread Cert.ConvDwRefIdeal.nD Cert.ConvDwRefIdeal.τ).loc Cert.ConvDwRefIdeal.main_arg0) = m ((c.tc : Thread Cert.ConvDwIdeal.nD Cert.ConvDwIdeal.τ).loc Cert.ConvDwIdeal.main_arg0)
      ∧ m' ((c.tc : Thread Cert.ConvDwRefIdeal.nD Cert.ConvDwRefIdeal.τ).loc Cert.ConvDwRefIdeal.main_arg1) = m ((c.tc : Thread Cert.ConvDwIdeal.nD Cert.ConvDwIdeal.τ).loc Cert.ConvDwIdeal.main_arg1)) →
    ∃ (v0 : (c : Dev Cert.ConvDwIdeal.nD) → Buf (Elt Ideal) ((c.tc : Thread Cert.ConvDwIdeal.nD Cert.ConvDwIdeal.τ).loc Cert.ConvDwIdeal.main_v0)),
      θ_run (Cert.ConvDwIdeal.defs (F := Ideal)) (onTc (τ := Cert.ConvDwIdeal.τ) (Cert.ConvDwIdeal.main (F := Ideal))) ⟨m, fun _ => 0, g⟩ (fun r => ∀ c : Dev Cert.ConvDwIdeal.nD,
          r.2.mem ((c.tc : Thread Cert.ConvDwIdeal.nD Cert.ConvDwIdeal.τ).loc Cert.ConvDwIdeal.main_v0) = v0 c
          ∧ r.2.mem ((c.tc : Thread Cert.ConvDwIdeal.nD Cert.ConvDwIdeal.τ).loc Cert.ConvDwIdeal.main_arg0) = m ((c.tc : Thread Cert.ConvDwIdeal.nD Cert.ConvDwIdeal.τ).loc Cert.ConvDwIdeal.main_arg0)
          ∧ r.2.mem ((c.tc : Thread Cert.ConvDwIdeal.nD Cert.ConvDwIdeal.τ).loc Cert.ConvDwIdeal.main_arg1) = m ((c.tc : Thread Cert.ConvDwIdeal.nD Cert.ConvDwIdeal.τ).loc Cert.ConvDwIdeal.main_arg1))
      ∧ θ_run (Cert.ConvDwRefIdeal.defs (F := Ideal)) (onTc (τ := Cert.ConvDwRefIdeal.τ) (Cert.ConvDwRefIdeal.main (F := Ideal))) ⟨m', fun _ => 0, g'⟩ (fun r => ∀ c : Dev Cert.ConvDwRefIdeal.nD,
          r.2.mem ((c.tc : Thread Cert.ConvDwRefIdeal.nD Cert.ConvDwRefIdeal.τ).loc Cert.ConvDwRefIdeal.main_v5) = v0 c
          ∧ r.2.mem ((c.tc : Thread Cert.ConvDwRefIdeal.nD Cert.ConvDwRefIdeal.τ).loc Cert.ConvDwRefIdeal.main_arg0) = m' ((c.tc : Thread Cert.ConvDwRefIdeal.nD Cert.ConvDwRefIdeal.τ).loc Cert.ConvDwRefIdeal.main_arg0)
          ∧ r.2.mem ((c.tc : Thread Cert.ConvDwRefIdeal.nD Cert.ConvDwRefIdeal.τ).loc Cert.ConvDwRefIdeal.main_arg1) = m' ((c.tc : Thread Cert.ConvDwRefIdeal.nD Cert.ConvDwRefIdeal.τ).loc Cert.ConvDwRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v8) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDxt_ProjDxtIdeal : Prop :=
  True

def algebraic_ProjDxtIdeal_ProjDxtRefIdeal [hProjDxtIdeal : Cert.ProjDxtIdeal.Facts] [hProjDxtRefIdeal : Cert.ProjDxtRefIdeal.Facts] : Prop :=
  ∀ (m : (ℓ : Loc Cert.ProjDxtIdeal.nD Cert.ProjDxtIdeal.τ Cert.ProjDxtIdeal.sig) → Buf (Elt Ideal) ℓ) (g : Dev Cert.ProjDxtIdeal.nD → PrngReg)
    (m' : (ℓ : Loc Cert.ProjDxtRefIdeal.nD Cert.ProjDxtRefIdeal.τ Cert.ProjDxtRefIdeal.sig) → Buf (Elt Ideal) ℓ) (g' : Dev Cert.ProjDxtRefIdeal.nD → PrngReg), Pre_ProjDxtIdeal m →
    (∀ c : Dev Cert.ProjDxtIdeal.nD,
      m' ((c.tc : Thread Cert.ProjDxtRefIdeal.nD Cert.ProjDxtRefIdeal.τ).loc Cert.ProjDxtRefIdeal.main_arg0) = m ((c.tc : Thread Cert.ProjDxtIdeal.nD Cert.ProjDxtIdeal.τ).loc Cert.ProjDxtIdeal.main_arg0)
      ∧ m' ((c.tc : Thread Cert.ProjDxtRefIdeal.nD Cert.ProjDxtRefIdeal.τ).loc Cert.ProjDxtRefIdeal.main_arg1) = m ((c.tc : Thread Cert.ProjDxtIdeal.nD Cert.ProjDxtIdeal.τ).loc Cert.ProjDxtIdeal.main_arg1)) →
    ∃ (v0 : (c : Dev Cert.ProjDxtIdeal.nD) → Buf (Elt Ideal) ((c.tc : Thread Cert.ProjDxtIdeal.nD Cert.ProjDxtIdeal.τ).loc Cert.ProjDxtIdeal.main_v0)),
      θ_run (Cert.ProjDxtIdeal.defs (F := Ideal)) (onTc (τ := Cert.ProjDxtIdeal.τ) (Cert.ProjDxtIdeal.main (F := Ideal))) ⟨m, fun _ => 0, g⟩ (fun r => ∀ c : Dev Cert.ProjDxtIdeal.nD,
          r.2.mem ((c.tc : Thread Cert.ProjDxtIdeal.nD Cert.ProjDxtIdeal.τ).loc Cert.ProjDxtIdeal.main_v0) = v0 c
          ∧ r.2.mem ((c.tc : Thread Cert.ProjDxtIdeal.nD Cert.ProjDxtIdeal.τ).loc Cert.ProjDxtIdeal.main_arg0) = m ((c.tc : Thread Cert.ProjDxtIdeal.nD Cert.ProjDxtIdeal.τ).loc Cert.ProjDxtIdeal.main_arg0)
          ∧ r.2.mem ((c.tc : Thread Cert.ProjDxtIdeal.nD Cert.ProjDxtIdeal.τ).loc Cert.ProjDxtIdeal.main_arg1) = m ((c.tc : Thread Cert.ProjDxtIdeal.nD Cert.ProjDxtIdeal.τ).loc Cert.ProjDxtIdeal.main_arg1))
      ∧ θ_run (Cert.ProjDxtRefIdeal.defs (F := Ideal)) (onTc (τ := Cert.ProjDxtRefIdeal.τ) (Cert.ProjDxtRefIdeal.main (F := Ideal))) ⟨m', fun _ => 0, g'⟩ (fun r => ∀ c : Dev Cert.ProjDxtRefIdeal.nD,
          r.2.mem ((c.tc : Thread Cert.ProjDxtRefIdeal.nD Cert.ProjDxtRefIdeal.τ).loc Cert.ProjDxtRefIdeal.main_v10) = v0 c
          ∧ r.2.mem ((c.tc : Thread Cert.ProjDxtRefIdeal.nD Cert.ProjDxtRefIdeal.τ).loc Cert.ProjDxtRefIdeal.main_arg0) = m' ((c.tc : Thread Cert.ProjDxtRefIdeal.nD Cert.ProjDxtRefIdeal.τ).loc Cert.ProjDxtRefIdeal.main_arg0)
          ∧ r.2.mem ((c.tc : Thread Cert.ProjDxtRefIdeal.nD Cert.ProjDxtRefIdeal.τ).loc Cert.ProjDxtRefIdeal.main_arg1) = m' ((c.tc : Thread Cert.ProjDxtRefIdeal.nD Cert.ProjDxtRefIdeal.τ).loc Cert.ProjDxtRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v6) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_MainFw_MainFwIdeal : Prop :=
  True

def algebraic_MainFwIdeal_MainFwRefIdeal [hMainFwIdeal : Cert.MainFwIdeal.Facts] [hMainFwRefIdeal : Cert.MainFwRefIdeal.Facts] : Prop :=
  ∀ (m : (ℓ : Loc Cert.MainFwIdeal.nD Cert.MainFwIdeal.τ Cert.MainFwIdeal.sig) → Buf (Elt Ideal) ℓ) (g : Dev Cert.MainFwIdeal.nD → PrngReg)
    (m' : (ℓ : Loc Cert.MainFwRefIdeal.nD Cert.MainFwRefIdeal.τ Cert.MainFwRefIdeal.sig) → Buf (Elt Ideal) ℓ) (g' : Dev Cert.MainFwRefIdeal.nD → PrngReg), Pre_MainFwIdeal m →
    (∀ c : Dev Cert.MainFwIdeal.nD,
      m' ((c.tc : Thread Cert.MainFwRefIdeal.nD Cert.MainFwRefIdeal.τ).loc Cert.MainFwRefIdeal.main_arg0) = m ((c.tc : Thread Cert.MainFwIdeal.nD Cert.MainFwIdeal.τ).loc Cert.MainFwIdeal.main_arg0)
      ∧ m' ((c.tc : Thread Cert.MainFwRefIdeal.nD Cert.MainFwRefIdeal.τ).loc Cert.MainFwRefIdeal.main_arg1) = m ((c.tc : Thread Cert.MainFwIdeal.nD Cert.MainFwIdeal.τ).loc Cert.MainFwIdeal.main_arg1)
      ∧ m' ((c.tc : Thread Cert.MainFwRefIdeal.nD Cert.MainFwRefIdeal.τ).loc Cert.MainFwRefIdeal.main_arg2) = m ((c.tc : Thread Cert.MainFwIdeal.nD Cert.MainFwIdeal.τ).loc Cert.MainFwIdeal.main_arg2)) →
    ∃ (v0 : (c : Dev Cert.MainFwIdeal.nD) → Buf (Elt Ideal) ((c.tc : Thread Cert.MainFwIdeal.nD Cert.MainFwIdeal.τ).loc Cert.MainFwIdeal.main_v0)),
      θ_run (Cert.MainFwIdeal.defs (F := Ideal)) (onTc (τ := Cert.MainFwIdeal.τ) (Cert.MainFwIdeal.main (F := Ideal))) ⟨m, fun _ => 0, g⟩ (fun r => ∀ c : Dev Cert.MainFwIdeal.nD,
          r.2.mem ((c.tc : Thread Cert.MainFwIdeal.nD Cert.MainFwIdeal.τ).loc Cert.MainFwIdeal.main_v0) = v0 c
          ∧ r.2.mem ((c.tc : Thread Cert.MainFwIdeal.nD Cert.MainFwIdeal.τ).loc Cert.MainFwIdeal.main_arg0) = m ((c.tc : Thread Cert.MainFwIdeal.nD Cert.MainFwIdeal.τ).loc Cert.MainFwIdeal.main_arg0)
          ∧ r.2.mem ((c.tc : Thread Cert.MainFwIdeal.nD Cert.MainFwIdeal.τ).loc Cert.MainFwIdeal.main_arg1) = m ((c.tc : Thread Cert.MainFwIdeal.nD Cert.MainFwIdeal.τ).loc Cert.MainFwIdeal.main_arg1)
          ∧ r.2.mem ((c.tc : Thread Cert.MainFwIdeal.nD Cert.MainFwIdeal.τ).loc Cert.MainFwIdeal.main_arg2) = m ((c.tc : Thread Cert.MainFwIdeal.nD Cert.MainFwIdeal.τ).loc Cert.MainFwIdeal.main_arg2))
      ∧ θ_run (Cert.MainFwRefIdeal.defs (F := Ideal)) (onTc (τ := Cert.MainFwRefIdeal.τ) (Cert.MainFwRefIdeal.main (F := Ideal))) ⟨m', fun _ => 0, g'⟩ (fun r => ∀ c : Dev Cert.MainFwRefIdeal.nD,
          r.2.mem ((c.tc : Thread Cert.MainFwRefIdeal.nD Cert.MainFwRefIdeal.τ).loc Cert.MainFwRefIdeal.main_v7) = v0 c
          ∧ r.2.mem ((c.tc : Thread Cert.MainFwRefIdeal.nD Cert.MainFwRefIdeal.τ).loc Cert.MainFwRefIdeal.main_arg0) = m' ((c.tc : Thread Cert.MainFwRefIdeal.nD Cert.MainFwRefIdeal.τ).loc Cert.MainFwRefIdeal.main_arg0)
          ∧ r.2.mem ((c.tc : Thread Cert.MainFwRefIdeal.nD Cert.MainFwRefIdeal.τ).loc Cert.MainFwRefIdeal.main_arg1) = m' ((c.tc : Thread Cert.MainFwRefIdeal.nD Cert.MainFwRefIdeal.τ).loc Cert.MainFwRefIdeal.main_arg1)
          ∧ r.2.mem ((c.tc : Thread Cert.MainFwRefIdeal.nD Cert.MainFwRefIdeal.τ).loc Cert.MainFwRefIdeal.main_arg2) = m' ((c.tc : Thread Cert.MainFwRefIdeal.nD Cert.MainFwRefIdeal.τ).loc Cert.MainFwRefIdeal.main_arg2))

def preserves_UpFw_UpFwIdeal : Prop :=
  True

def algebraic_UpFwIdeal_UpFwRefIdeal [hUpFwIdeal : Cert.UpFwIdeal.Facts] [hUpFwRefIdeal : Cert.UpFwRefIdeal.Facts] : Prop :=
  ∀ (m : (ℓ : Loc Cert.UpFwIdeal.nD Cert.UpFwIdeal.τ Cert.UpFwIdeal.sig) → Buf (Elt Ideal) ℓ) (g : Dev Cert.UpFwIdeal.nD → PrngReg)
    (m' : (ℓ : Loc Cert.UpFwRefIdeal.nD Cert.UpFwRefIdeal.τ Cert.UpFwRefIdeal.sig) → Buf (Elt Ideal) ℓ) (g' : Dev Cert.UpFwRefIdeal.nD → PrngReg), Pre_UpFwIdeal m →
    (∀ c : Dev Cert.UpFwIdeal.nD,
      m' ((c.tc : Thread Cert.UpFwRefIdeal.nD Cert.UpFwRefIdeal.τ).loc Cert.UpFwRefIdeal.main_arg0) = m ((c.tc : Thread Cert.UpFwIdeal.nD Cert.UpFwIdeal.τ).loc Cert.UpFwIdeal.main_arg0)
      ∧ m' ((c.tc : Thread Cert.UpFwRefIdeal.nD Cert.UpFwRefIdeal.τ).loc Cert.UpFwRefIdeal.main_arg1) = m ((c.tc : Thread Cert.UpFwIdeal.nD Cert.UpFwIdeal.τ).loc Cert.UpFwIdeal.main_arg1)) →
    ∃ (v0 : (c : Dev Cert.UpFwIdeal.nD) → Buf (Elt Ideal) ((c.tc : Thread Cert.UpFwIdeal.nD Cert.UpFwIdeal.τ).loc Cert.UpFwIdeal.main_v0)),
      θ_run (Cert.UpFwIdeal.defs (F := Ideal)) (onTc (τ := Cert.UpFwIdeal.τ) (Cert.UpFwIdeal.main (F := Ideal))) ⟨m, fun _ => 0, g⟩ (fun r => ∀ c : Dev Cert.UpFwIdeal.nD,
          r.2.mem ((c.tc : Thread Cert.UpFwIdeal.nD Cert.UpFwIdeal.τ).loc Cert.UpFwIdeal.main_v0) = v0 c
          ∧ r.2.mem ((c.tc : Thread Cert.UpFwIdeal.nD Cert.UpFwIdeal.τ).loc Cert.UpFwIdeal.main_arg0) = m ((c.tc : Thread Cert.UpFwIdeal.nD Cert.UpFwIdeal.τ).loc Cert.UpFwIdeal.main_arg0)
          ∧ r.2.mem ((c.tc : Thread Cert.UpFwIdeal.nD Cert.UpFwIdeal.τ).loc Cert.UpFwIdeal.main_arg1) = m ((c.tc : Thread Cert.UpFwIdeal.nD Cert.UpFwIdeal.τ).loc Cert.UpFwIdeal.main_arg1))
      ∧ θ_run (Cert.UpFwRefIdeal.defs (F := Ideal)) (onTc (τ := Cert.UpFwRefIdeal.τ) (Cert.UpFwRefIdeal.main (F := Ideal))) ⟨m', fun _ => 0, g'⟩ (fun r => ∀ c : Dev Cert.UpFwRefIdeal.nD,
          r.2.mem ((c.tc : Thread Cert.UpFwRefIdeal.nD Cert.UpFwRefIdeal.τ).loc Cert.UpFwRefIdeal.main_v5) = v0 c
          ∧ r.2.mem ((c.tc : Thread Cert.UpFwRefIdeal.nD Cert.UpFwRefIdeal.τ).loc Cert.UpFwRefIdeal.main_arg0) = m' ((c.tc : Thread Cert.UpFwRefIdeal.nD Cert.UpFwRefIdeal.τ).loc Cert.UpFwRefIdeal.main_arg0)
          ∧ r.2.mem ((c.tc : Thread Cert.UpFwRefIdeal.nD Cert.UpFwRefIdeal.τ).loc Cert.UpFwRefIdeal.main_arg1) = m' ((c.tc : Thread Cert.UpFwRefIdeal.nD Cert.UpFwRefIdeal.τ).loc Cert.UpFwRefIdeal.main_arg1))

def preserves_DownFw_DownFwIdeal : Prop :=
  True

def algebraic_DownFwIdeal_DownFwRefIdeal [hDownFwIdeal : Cert.DownFwIdeal.Facts] [hDownFwRefIdeal : Cert.DownFwRefIdeal.Facts] : Prop :=
  ∀ (m : (ℓ : Loc Cert.DownFwIdeal.nD Cert.DownFwIdeal.τ Cert.DownFwIdeal.sig) → Buf (Elt Ideal) ℓ) (g : Dev Cert.DownFwIdeal.nD → PrngReg)
    (m' : (ℓ : Loc Cert.DownFwRefIdeal.nD Cert.DownFwRefIdeal.τ Cert.DownFwRefIdeal.sig) → Buf (Elt Ideal) ℓ) (g' : Dev Cert.DownFwRefIdeal.nD → PrngReg), Pre_DownFwIdeal m →
    (∀ c : Dev Cert.DownFwIdeal.nD,
      m' ((c.tc : Thread Cert.DownFwRefIdeal.nD Cert.DownFwRefIdeal.τ).loc Cert.DownFwRefIdeal.main_arg0) = m ((c.tc : Thread Cert.DownFwIdeal.nD Cert.DownFwIdeal.τ).loc Cert.DownFwIdeal.main_arg0)
      ∧ m' ((c.tc : Thread Cert.DownFwRefIdeal.nD Cert.DownFwRefIdeal.τ).loc Cert.DownFwRefIdeal.main_arg1) = m ((c.tc : Thread Cert.DownFwIdeal.nD Cert.DownFwIdeal.τ).loc Cert.DownFwIdeal.main_arg1)) →
    ∃ (v0 : (c : Dev Cert.DownFwIdeal.nD) → Buf (Elt Ideal) ((c.tc : Thread Cert.DownFwIdeal.nD Cert.DownFwIdeal.τ).loc Cert.DownFwIdeal.main_v0)),
      θ_run (Cert.DownFwIdeal.defs (F := Ideal)) (onTc (τ := Cert.DownFwIdeal.τ) (Cert.DownFwIdeal.main (F := Ideal))) ⟨m, fun _ => 0, g⟩ (fun r => ∀ c : Dev Cert.DownFwIdeal.nD,
          r.2.mem ((c.tc : Thread Cert.DownFwIdeal.nD Cert.DownFwIdeal.τ).loc Cert.DownFwIdeal.main_v0) = v0 c
          ∧ r.2.mem ((c.tc : Thread Cert.DownFwIdeal.nD Cert.DownFwIdeal.τ).loc Cert.DownFwIdeal.main_arg0) = m ((c.tc : Thread Cert.DownFwIdeal.nD Cert.DownFwIdeal.τ).loc Cert.DownFwIdeal.main_arg0)
          ∧ r.2.mem ((c.tc : Thread Cert.DownFwIdeal.nD Cert.DownFwIdeal.τ).loc Cert.DownFwIdeal.main_arg1) = m ((c.tc : Thread Cert.DownFwIdeal.nD Cert.DownFwIdeal.τ).loc Cert.DownFwIdeal.main_arg1))
      ∧ θ_run (Cert.DownFwRefIdeal.defs (F := Ideal)) (onTc (τ := Cert.DownFwRefIdeal.τ) (Cert.DownFwRefIdeal.main (F := Ideal))) ⟨m', fun _ => 0, g'⟩ (fun r => ∀ c : Dev Cert.DownFwRefIdeal.nD,
          r.2.mem ((c.tc : Thread Cert.DownFwRefIdeal.nD Cert.DownFwRefIdeal.τ).loc Cert.DownFwRefIdeal.main_v4) = v0 c
          ∧ r.2.mem ((c.tc : Thread Cert.DownFwRefIdeal.nD Cert.DownFwRefIdeal.τ).loc Cert.DownFwRefIdeal.main_arg0) = m' ((c.tc : Thread Cert.DownFwRefIdeal.nD Cert.DownFwRefIdeal.τ).loc Cert.DownFwRefIdeal.main_arg0)
          ∧ r.2.mem ((c.tc : Thread Cert.DownFwRefIdeal.nD Cert.DownFwRefIdeal.τ).loc Cert.DownFwRefIdeal.main_arg1) = m' ((c.tc : Thread Cert.DownFwRefIdeal.nD Cert.DownFwRefIdeal.τ).loc Cert.DownFwRefIdeal.main_arg1))

def preserves_MixFw_MixFwIdeal : Prop :=
  True

def algebraic_MixFwIdeal_MixFwRefIdeal [hMixFwIdeal : Cert.MixFwIdeal.Facts] [hMixFwRefIdeal : Cert.MixFwRefIdeal.Facts] : Prop :=
  ∀ (m : (ℓ : Loc Cert.MixFwIdeal.nD Cert.MixFwIdeal.τ Cert.MixFwIdeal.sig) → Buf (Elt Ideal) ℓ) (g : Dev Cert.MixFwIdeal.nD → PrngReg)
    (m' : (ℓ : Loc Cert.MixFwRefIdeal.nD Cert.MixFwRefIdeal.τ Cert.MixFwRefIdeal.sig) → Buf (Elt Ideal) ℓ) (g' : Dev Cert.MixFwRefIdeal.nD → PrngReg), Pre_MixFwIdeal m →
    (∀ c : Dev Cert.MixFwIdeal.nD,
      m' ((c.tc : Thread Cert.MixFwRefIdeal.nD Cert.MixFwRefIdeal.τ).loc Cert.MixFwRefIdeal.main_arg0) = m ((c.tc : Thread Cert.MixFwIdeal.nD Cert.MixFwIdeal.τ).loc Cert.MixFwIdeal.main_arg0)
      ∧ m' ((c.tc : Thread Cert.MixFwRefIdeal.nD Cert.MixFwRefIdeal.τ).loc Cert.MixFwRefIdeal.main_arg1) = m ((c.tc : Thread Cert.MixFwIdeal.nD Cert.MixFwIdeal.τ).loc Cert.MixFwIdeal.main_arg1)
      ∧ m' ((c.tc : Thread Cert.MixFwRefIdeal.nD Cert.MixFwRefIdeal.τ).loc Cert.MixFwRefIdeal.main_arg2) = m ((c.tc : Thread Cert.MixFwIdeal.nD Cert.MixFwIdeal.τ).loc Cert.MixFwIdeal.main_arg2)) →
    ∃ (v0 : (c : Dev Cert.MixFwIdeal.nD) → Buf (Elt Ideal) ((c.tc : Thread Cert.MixFwIdeal.nD Cert.MixFwIdeal.τ).loc Cert.MixFwIdeal.main_v0)),
      θ_run (Cert.MixFwIdeal.defs (F := Ideal)) (onTc (τ := Cert.MixFwIdeal.τ) (Cert.MixFwIdeal.main (F := Ideal))) ⟨m, fun _ => 0, g⟩ (fun r => ∀ c : Dev Cert.MixFwIdeal.nD,
          r.2.mem ((c.tc : Thread Cert.MixFwIdeal.nD Cert.MixFwIdeal.τ).loc Cert.MixFwIdeal.main_v0) = v0 c
          ∧ r.2.mem ((c.tc : Thread Cert.MixFwIdeal.nD Cert.MixFwIdeal.τ).loc Cert.MixFwIdeal.main_arg0) = m ((c.tc : Thread Cert.MixFwIdeal.nD Cert.MixFwIdeal.τ).loc Cert.MixFwIdeal.main_arg0)
          ∧ r.2.mem ((c.tc : Thread Cert.MixFwIdeal.nD Cert.MixFwIdeal.τ).loc Cert.MixFwIdeal.main_arg1) = m ((c.tc : Thread Cert.MixFwIdeal.nD Cert.MixFwIdeal.τ).loc Cert.MixFwIdeal.main_arg1)
          ∧ r.2.mem ((c.tc : Thread Cert.MixFwIdeal.nD Cert.MixFwIdeal.τ).loc Cert.MixFwIdeal.main_arg2) = m ((c.tc : Thread Cert.MixFwIdeal.nD Cert.MixFwIdeal.τ).loc Cert.MixFwIdeal.main_arg2))
      ∧ θ_run (Cert.MixFwRefIdeal.defs (F := Ideal)) (onTc (τ := Cert.MixFwRefIdeal.τ) (Cert.MixFwRefIdeal.main (F := Ideal))) ⟨m', fun _ => 0, g'⟩ (fun r => ∀ c : Dev Cert.MixFwRefIdeal.nD,
          r.2.mem ((c.tc : Thread Cert.MixFwRefIdeal.nD Cert.MixFwRefIdeal.τ).loc Cert.MixFwRefIdeal.main_v6) = v0 c
          ∧ r.2.mem ((c.tc : Thread Cert.MixFwRefIdeal.nD Cert.MixFwRefIdeal.τ).loc Cert.MixFwRefIdeal.main_arg0) = m' ((c.tc : Thread Cert.MixFwRefIdeal.nD Cert.MixFwRefIdeal.τ).loc Cert.MixFwRefIdeal.main_arg0)
          ∧ r.2.mem ((c.tc : Thread Cert.MixFwRefIdeal.nD Cert.MixFwRefIdeal.τ).loc Cert.MixFwRefIdeal.main_arg1) = m' ((c.tc : Thread Cert.MixFwRefIdeal.nD Cert.MixFwRefIdeal.τ).loc Cert.MixFwRefIdeal.main_arg1)
          ∧ r.2.mem ((c.tc : Thread Cert.MixFwRefIdeal.nD Cert.MixFwRefIdeal.τ).loc Cert.MixFwRefIdeal.main_arg2) = m' ((c.tc : Thread Cert.MixFwRefIdeal.nD Cert.MixFwRefIdeal.τ).loc Cert.MixFwRefIdeal.main_arg2))

def preserves_ConvFw_ConvFwIdeal : Prop :=
  True

def algebraic_ConvFwIdeal_ConvFwRefIdeal [hConvFwIdeal : Cert.ConvFwIdeal.Facts] [hConvFwRefIdeal : Cert.ConvFwRefIdeal.Facts] : Prop :=
  ∀ (m : (ℓ : Loc Cert.ConvFwIdeal.nD Cert.ConvFwIdeal.τ Cert.ConvFwIdeal.sig) → Buf (Elt Ideal) ℓ) (g : Dev Cert.ConvFwIdeal.nD → PrngReg)
    (m' : (ℓ : Loc Cert.ConvFwRefIdeal.nD Cert.ConvFwRefIdeal.τ Cert.ConvFwRefIdeal.sig) → Buf (Elt Ideal) ℓ) (g' : Dev Cert.ConvFwRefIdeal.nD → PrngReg), Pre_ConvFwIdeal m →
    (∀ c : Dev Cert.ConvFwIdeal.nD,
      m' ((c.tc : Thread Cert.ConvFwRefIdeal.nD Cert.ConvFwRefIdeal.τ).loc Cert.ConvFwRefIdeal.main_arg0) = m ((c.tc : Thread Cert.ConvFwIdeal.nD Cert.ConvFwIdeal.τ).loc Cert.ConvFwIdeal.main_arg0)
      ∧ m' ((c.tc : Thread Cert.ConvFwRefIdeal.nD Cert.ConvFwRefIdeal.τ).loc Cert.ConvFwRefIdeal.main_arg1) = m ((c.tc : Thread Cert.ConvFwIdeal.nD Cert.ConvFwIdeal.τ).loc Cert.ConvFwIdeal.main_arg1)) →
    ∃ (v0 : (c : Dev Cert.ConvFwIdeal.nD) → Buf (Elt Ideal) ((c.tc : Thread Cert.ConvFwIdeal.nD Cert.ConvFwIdeal.τ).loc Cert.ConvFwIdeal.main_v0)),
      θ_run (Cert.ConvFwIdeal.defs (F := Ideal)) (onTc (τ := Cert.ConvFwIdeal.τ) (Cert.ConvFwIdeal.main (F := Ideal))) ⟨m, fun _ => 0, g⟩ (fun r => ∀ c : Dev Cert.ConvFwIdeal.nD,
          r.2.mem ((c.tc : Thread Cert.ConvFwIdeal.nD Cert.ConvFwIdeal.τ).loc Cert.ConvFwIdeal.main_v0) = v0 c
          ∧ r.2.mem ((c.tc : Thread Cert.ConvFwIdeal.nD Cert.ConvFwIdeal.τ).loc Cert.ConvFwIdeal.main_arg0) = m ((c.tc : Thread Cert.ConvFwIdeal.nD Cert.ConvFwIdeal.τ).loc Cert.ConvFwIdeal.main_arg0)
          ∧ r.2.mem ((c.tc : Thread Cert.ConvFwIdeal.nD Cert.ConvFwIdeal.τ).loc Cert.ConvFwIdeal.main_arg1) = m ((c.tc : Thread Cert.ConvFwIdeal.nD Cert.ConvFwIdeal.τ).loc Cert.ConvFwIdeal.main_arg1))
      ∧ θ_run (Cert.ConvFwRefIdeal.defs (F := Ideal)) (onTc (τ := Cert.ConvFwRefIdeal.τ) (Cert.ConvFwRefIdeal.main (F := Ideal))) ⟨m', fun _ => 0, g'⟩ (fun r => ∀ c : Dev Cert.ConvFwRefIdeal.nD,
          r.2.mem ((c.tc : Thread Cert.ConvFwRefIdeal.nD Cert.ConvFwRefIdeal.τ).loc Cert.ConvFwRefIdeal.main_v5) = v0 c
          ∧ r.2.mem ((c.tc : Thread Cert.ConvFwRefIdeal.nD Cert.ConvFwRefIdeal.τ).loc Cert.ConvFwRefIdeal.main_arg0) = m' ((c.tc : Thread Cert.ConvFwRefIdeal.nD Cert.ConvFwRefIdeal.τ).loc Cert.ConvFwRefIdeal.main_arg0)
          ∧ r.2.mem ((c.tc : Thread Cert.ConvFwRefIdeal.nD Cert.ConvFwRefIdeal.τ).loc Cert.ConvFwRefIdeal.main_arg1) = m' ((c.tc : Thread Cert.ConvFwRefIdeal.nD Cert.ConvFwRefIdeal.τ).loc Cert.ConvFwRefIdeal.main_arg1))

def preserves_ProjFw_ProjFwIdeal : Prop :=
  True

def algebraic_ProjFwIdeal_ProjFwRefIdeal [hProjFwIdeal : Cert.ProjFwIdeal.Facts] [hProjFwRefIdeal : Cert.ProjFwRefIdeal.Facts] : Prop :=
  ∀ (m : (ℓ : Loc Cert.ProjFwIdeal.nD Cert.ProjFwIdeal.τ Cert.ProjFwIdeal.sig) → Buf (Elt Ideal) ℓ) (g : Dev Cert.ProjFwIdeal.nD → PrngReg)
    (m' : (ℓ : Loc Cert.ProjFwRefIdeal.nD Cert.ProjFwRefIdeal.τ Cert.ProjFwRefIdeal.sig) → Buf (Elt Ideal) ℓ) (g' : Dev Cert.ProjFwRefIdeal.nD → PrngReg), Pre_ProjFwIdeal m →
    (∀ c : Dev Cert.ProjFwIdeal.nD,
      m' ((c.tc : Thread Cert.ProjFwRefIdeal.nD Cert.ProjFwRefIdeal.τ).loc Cert.ProjFwRefIdeal.main_arg0) = m ((c.tc : Thread Cert.ProjFwIdeal.nD Cert.ProjFwIdeal.τ).loc Cert.ProjFwIdeal.main_arg0)
      ∧ m' ((c.tc : Thread Cert.ProjFwRefIdeal.nD Cert.ProjFwRefIdeal.τ).loc Cert.ProjFwRefIdeal.main_arg1) = m ((c.tc : Thread Cert.ProjFwIdeal.nD Cert.ProjFwIdeal.τ).loc Cert.ProjFwIdeal.main_arg1)) →
    ∃ (v0 : (c : Dev Cert.ProjFwIdeal.nD) → Buf (Elt Ideal) ((c.tc : Thread Cert.ProjFwIdeal.nD Cert.ProjFwIdeal.τ).loc Cert.ProjFwIdeal.main_v0)),
      θ_run (Cert.ProjFwIdeal.defs (F := Ideal)) (onTc (τ := Cert.ProjFwIdeal.τ) (Cert.ProjFwIdeal.main (F := Ideal))) ⟨m, fun _ => 0, g⟩ (fun r => ∀ c : Dev Cert.ProjFwIdeal.nD,
          r.2.mem ((c.tc : Thread Cert.ProjFwIdeal.nD Cert.ProjFwIdeal.τ).loc Cert.ProjFwIdeal.main_v0) = v0 c
          ∧ r.2.mem ((c.tc : Thread Cert.ProjFwIdeal.nD Cert.ProjFwIdeal.τ).loc Cert.ProjFwIdeal.main_arg0) = m ((c.tc : Thread Cert.ProjFwIdeal.nD Cert.ProjFwIdeal.τ).loc Cert.ProjFwIdeal.main_arg0)
          ∧ r.2.mem ((c.tc : Thread Cert.ProjFwIdeal.nD Cert.ProjFwIdeal.τ).loc Cert.ProjFwIdeal.main_arg1) = m ((c.tc : Thread Cert.ProjFwIdeal.nD Cert.ProjFwIdeal.τ).loc Cert.ProjFwIdeal.main_arg1))
      ∧ θ_run (Cert.ProjFwRefIdeal.defs (F := Ideal)) (onTc (τ := Cert.ProjFwRefIdeal.τ) (Cert.ProjFwRefIdeal.main (F := Ideal))) ⟨m', fun _ => 0, g'⟩ (fun r => ∀ c : Dev Cert.ProjFwRefIdeal.nD,
          r.2.mem ((c.tc : Thread Cert.ProjFwRefIdeal.nD Cert.ProjFwRefIdeal.τ).loc Cert.ProjFwRefIdeal.main_v6) = v0 c
          ∧ r.2.mem ((c.tc : Thread Cert.ProjFwRefIdeal.nD Cert.ProjFwRefIdeal.τ).loc Cert.ProjFwRefIdeal.main_arg0) = m' ((c.tc : Thread Cert.ProjFwRefIdeal.nD Cert.ProjFwRefIdeal.τ).loc Cert.ProjFwRefIdeal.main_arg0)
          ∧ r.2.mem ((c.tc : Thread Cert.ProjFwRefIdeal.nD Cert.ProjFwRefIdeal.τ).loc Cert.ProjFwRefIdeal.main_arg1) = m' ((c.tc : Thread Cert.ProjFwRefIdeal.nD Cert.ProjFwRefIdeal.τ).loc Cert.ProjFwRefIdeal.main_arg1))

def preserves_AdaOpt_AdaOptIdeal : Prop :=
  True

def algebraic_AdaOptIdeal_AdaOptRefIdeal [hAdaOptIdeal : Cert.AdaOptIdeal.Facts] [hAdaOptRefIdeal : Cert.AdaOptRefIdeal.Facts] : Prop :=
  ∀ (m : (ℓ : Loc Cert.AdaOptIdeal.nD Cert.AdaOptIdeal.τ Cert.AdaOptIdeal.sig) → Buf (Elt Ideal) ℓ) (g : Dev Cert.AdaOptIdeal.nD → PrngReg)
    (m' : (ℓ : Loc Cert.AdaOptRefIdeal.nD Cert.AdaOptRefIdeal.τ Cert.AdaOptRefIdeal.sig) → Buf (Elt Ideal) ℓ) (g' : Dev Cert.AdaOptRefIdeal.nD → PrngReg), Pre_AdaOptIdeal m →
    (∀ c : Dev Cert.AdaOptIdeal.nD,
      m' ((c.tc : Thread Cert.AdaOptRefIdeal.nD Cert.AdaOptRefIdeal.τ).loc Cert.AdaOptRefIdeal.main_arg0) = m ((c.tc : Thread Cert.AdaOptIdeal.nD Cert.AdaOptIdeal.τ).loc Cert.AdaOptIdeal.main_arg0)
      ∧ m' ((c.tc : Thread Cert.AdaOptRefIdeal.nD Cert.AdaOptRefIdeal.τ).loc Cert.AdaOptRefIdeal.main_arg1) = m ((c.tc : Thread Cert.AdaOptIdeal.nD Cert.AdaOptIdeal.τ).loc Cert.AdaOptIdeal.main_arg1)
      ∧ m' ((c.tc : Thread Cert.AdaOptRefIdeal.nD Cert.AdaOptRefIdeal.τ).loc Cert.AdaOptRefIdeal.main_arg2) = m ((c.tc : Thread Cert.AdaOptIdeal.nD Cert.AdaOptIdeal.τ).loc Cert.AdaOptIdeal.main_arg2)
      ∧ m' ((c.tc : Thread Cert.AdaOptRefIdeal.nD Cert.AdaOptRefIdeal.τ).loc Cert.AdaOptRefIdeal.main_arg3) = m ((c.tc : Thread Cert.AdaOptIdeal.nD Cert.AdaOptIdeal.τ).loc Cert.AdaOptIdeal.main_arg3)) →
    ∃ (v0 : (c : Dev Cert.AdaOptIdeal.nD) → Buf (Elt Ideal) ((c.tc : Thread Cert.AdaOptIdeal.nD Cert.AdaOptIdeal.τ).loc Cert.AdaOptIdeal.main_v0_0)) (v1 : (c : Dev Cert.AdaOptIdeal.nD) → Buf (Elt Ideal) ((c.tc : Thread Cert.AdaOptIdeal.nD Cert.AdaOptIdeal.τ).loc Cert.AdaOptIdeal.main_v0_1)) (v2 : (c : Dev Cert.AdaOptIdeal.nD) → Buf (Elt Ideal) ((c.tc : Thread Cert.AdaOptIdeal.nD Cert.AdaOptIdeal.τ).loc Cert.AdaOptIdeal.main_v0_2)),
      θ_run (Cert.AdaOptIdeal.defs (F := Ideal)) (onTc (τ := Cert.AdaOptIdeal.τ) (Cert.AdaOptIdeal.main (F := Ideal))) ⟨m, fun _ => 0, g⟩ (fun r => ∀ c : Dev Cert.AdaOptIdeal.nD,
          r.2.mem ((c.tc : Thread Cert.AdaOptIdeal.nD Cert.AdaOptIdeal.τ).loc Cert.AdaOptIdeal.main_v0_0) = v0 c
          ∧ r.2.mem ((c.tc : Thread Cert.AdaOptIdeal.nD Cert.AdaOptIdeal.τ).loc Cert.AdaOptIdeal.main_v0_1) = v1 c
          ∧ r.2.mem ((c.tc : Thread Cert.AdaOptIdeal.nD Cert.AdaOptIdeal.τ).loc Cert.AdaOptIdeal.main_v0_2) = v2 c
          ∧ r.2.mem ((c.tc : Thread Cert.AdaOptIdeal.nD Cert.AdaOptIdeal.τ).loc Cert.AdaOptIdeal.main_arg0) = m ((c.tc : Thread Cert.AdaOptIdeal.nD Cert.AdaOptIdeal.τ).loc Cert.AdaOptIdeal.main_arg0)
          ∧ r.2.mem ((c.tc : Thread Cert.AdaOptIdeal.nD Cert.AdaOptIdeal.τ).loc Cert.AdaOptIdeal.main_arg1) = m ((c.tc : Thread Cert.AdaOptIdeal.nD Cert.AdaOptIdeal.τ).loc Cert.AdaOptIdeal.main_arg1)
          ∧ r.2.mem ((c.tc : Thread Cert.AdaOptIdeal.nD Cert.AdaOptIdeal.τ).loc Cert.AdaOptIdeal.main_arg2) = m ((c.tc : Thread Cert.AdaOptIdeal.nD Cert.AdaOptIdeal.τ).loc Cert.AdaOptIdeal.main_arg2)
          ∧ r.2.mem ((c.tc : Thread Cert.AdaOptIdeal.nD Cert.AdaOptIdeal.τ).loc Cert.AdaOptIdeal.main_arg3) = m ((c.tc : Thread Cert.AdaOptIdeal.nD Cert.AdaOptIdeal.τ).loc Cert.AdaOptIdeal.main_arg3))
      ∧ θ_run (Cert.AdaOptRefIdeal.defs (F := Ideal)) (onTc (τ := Cert.AdaOptRefIdeal.τ) (Cert.AdaOptRefIdeal.main (F := Ideal))) ⟨m', fun _ => 0, g'⟩ (fun r => ∀ c : Dev Cert.AdaOptRefIdeal.nD,
          r.2.mem ((c.tc : Thread Cert.AdaOptRefIdeal.nD Cert.AdaOptRefIdeal.τ).loc Cert.AdaOptRefIdeal.main_v23) = v0 c
          ∧ r.2.mem ((c.tc : Thread Cert.AdaOptRefIdeal.nD Cert.AdaOptRefIdeal.τ).loc Cert.AdaOptRefIdeal.main_v4) = v1 c
          ∧ r.2.mem ((c.tc : Thread Cert.AdaOptRefIdeal.nD Cert.AdaOptRefIdeal.τ).loc Cert.AdaOptRefIdeal.main_v10) = v2 c
          ∧ r.2.mem ((c.tc : Thread Cert.AdaOptRefIdeal.nD Cert.AdaOptRefIdeal.τ).loc Cert.AdaOptRefIdeal.main_arg0) = m' ((c.tc : Thread Cert.AdaOptRefIdeal.nD Cert.AdaOptRefIdeal.τ).loc Cert.AdaOptRefIdeal.main_arg0)
          ∧ r.2.mem ((c.tc : Thread Cert.AdaOptRefIdeal.nD Cert.AdaOptRefIdeal.τ).loc Cert.AdaOptRefIdeal.main_arg1) = m' ((c.tc : Thread Cert.AdaOptRefIdeal.nD Cert.AdaOptRefIdeal.τ).loc Cert.AdaOptRefIdeal.main_arg1)
          ∧ r.2.mem ((c.tc : Thread Cert.AdaOptRefIdeal.nD Cert.AdaOptRefIdeal.τ).loc Cert.AdaOptRefIdeal.main_arg2) = m' ((c.tc : Thread Cert.AdaOptRefIdeal.nD Cert.AdaOptRefIdeal.τ).loc Cert.AdaOptRefIdeal.main_arg2)
          ∧ r.2.mem ((c.tc : Thread Cert.AdaOptRefIdeal.nD Cert.AdaOptRefIdeal.τ).loc Cert.AdaOptRefIdeal.main_arg3) = m' ((c.tc : Thread Cert.AdaOptRefIdeal.nD Cert.AdaOptRefIdeal.τ).loc Cert.AdaOptRefIdeal.main_arg3))

def preserves_AdaBOpt_AdaBOptIdeal : Prop :=
  True

def algebraic_AdaBOptIdeal_AdaBOptRefIdeal [hAdaBOptIdeal : Cert.AdaBOptIdeal.Facts] [hAdaBOptRefIdeal : Cert.AdaBOptRefIdeal.Facts] : Prop :=
  ∀ (m : (ℓ : Loc Cert.AdaBOptIdeal.nD Cert.AdaBOptIdeal.τ Cert.AdaBOptIdeal.sig) → Buf (Elt Ideal) ℓ) (g : Dev Cert.AdaBOptIdeal.nD → PrngReg)
    (m' : (ℓ : Loc Cert.AdaBOptRefIdeal.nD Cert.AdaBOptRefIdeal.τ Cert.AdaBOptRefIdeal.sig) → Buf (Elt Ideal) ℓ) (g' : Dev Cert.AdaBOptRefIdeal.nD → PrngReg), Pre_AdaBOptIdeal m →
    (∀ c : Dev Cert.AdaBOptIdeal.nD,
      m' ((c.tc : Thread Cert.AdaBOptRefIdeal.nD Cert.AdaBOptRefIdeal.τ).loc Cert.AdaBOptRefIdeal.main_arg0) = m ((c.tc : Thread Cert.AdaBOptIdeal.nD Cert.AdaBOptIdeal.τ).loc Cert.AdaBOptIdeal.main_arg0)
      ∧ m' ((c.tc : Thread Cert.AdaBOptRefIdeal.nD Cert.AdaBOptRefIdeal.τ).loc Cert.AdaBOptRefIdeal.main_arg1) = m ((c.tc : Thread Cert.AdaBOptIdeal.nD Cert.AdaBOptIdeal.τ).loc Cert.AdaBOptIdeal.main_arg1)
      ∧ m' ((c.tc : Thread Cert.AdaBOptRefIdeal.nD Cert.AdaBOptRefIdeal.τ).loc Cert.AdaBOptRefIdeal.main_arg2) = m ((c.tc : Thread Cert.AdaBOptIdeal.nD Cert.AdaBOptIdeal.τ).loc Cert.AdaBOptIdeal.main_arg2)
      ∧ m' ((c.tc : Thread Cert.AdaBOptRefIdeal.nD Cert.AdaBOptRefIdeal.τ).loc Cert.AdaBOptRefIdeal.main_arg3) = m ((c.tc : Thread Cert.AdaBOptIdeal.nD Cert.AdaBOptIdeal.τ).loc Cert.AdaBOptIdeal.main_arg3)) →
    ∃ (v0 : (c : Dev Cert.AdaBOptIdeal.nD) → Buf (Elt Ideal) ((c.tc : Thread Cert.AdaBOptIdeal.nD Cert.AdaBOptIdeal.τ).loc Cert.AdaBOptIdeal.main_v0_0)) (v1 : (c : Dev Cert.AdaBOptIdeal.nD) → Buf (Elt Ideal) ((c.tc : Thread Cert.AdaBOptIdeal.nD Cert.AdaBOptIdeal.τ).loc Cert.AdaBOptIdeal.main_v0_1)) (v2 : (c : Dev Cert.AdaBOptIdeal.nD) → Buf (Elt Ideal) ((c.tc : Thread Cert.AdaBOptIdeal.nD Cert.AdaBOptIdeal.τ).loc Cert.AdaBOptIdeal.main_v0_2)),
      θ_run (Cert.AdaBOptIdeal.defs (F := Ideal)) (onTc (τ := Cert.AdaBOptIdeal.τ) (Cert.AdaBOptIdeal.main (F := Ideal))) ⟨m, fun _ => 0, g⟩ (fun r => ∀ c : Dev Cert.AdaBOptIdeal.nD,
          r.2.mem ((c.tc : Thread Cert.AdaBOptIdeal.nD Cert.AdaBOptIdeal.τ).loc Cert.AdaBOptIdeal.main_v0_0) = v0 c
          ∧ r.2.mem ((c.tc : Thread Cert.AdaBOptIdeal.nD Cert.AdaBOptIdeal.τ).loc Cert.AdaBOptIdeal.main_v0_1) = v1 c
          ∧ r.2.mem ((c.tc : Thread Cert.AdaBOptIdeal.nD Cert.AdaBOptIdeal.τ).loc Cert.AdaBOptIdeal.main_v0_2) = v2 c
          ∧ r.2.mem ((c.tc : Thread Cert.AdaBOptIdeal.nD Cert.AdaBOptIdeal.τ).loc Cert.AdaBOptIdeal.main_arg0) = m ((c.tc : Thread Cert.AdaBOptIdeal.nD Cert.AdaBOptIdeal.τ).loc Cert.AdaBOptIdeal.main_arg0)
          ∧ r.2.mem ((c.tc : Thread Cert.AdaBOptIdeal.nD Cert.AdaBOptIdeal.τ).loc Cert.AdaBOptIdeal.main_arg1) = m ((c.tc : Thread Cert.AdaBOptIdeal.nD Cert.AdaBOptIdeal.τ).loc Cert.AdaBOptIdeal.main_arg1)
          ∧ r.2.mem ((c.tc : Thread Cert.AdaBOptIdeal.nD Cert.AdaBOptIdeal.τ).loc Cert.AdaBOptIdeal.main_arg2) = m ((c.tc : Thread Cert.AdaBOptIdeal.nD Cert.AdaBOptIdeal.τ).loc Cert.AdaBOptIdeal.main_arg2)
          ∧ r.2.mem ((c.tc : Thread Cert.AdaBOptIdeal.nD Cert.AdaBOptIdeal.τ).loc Cert.AdaBOptIdeal.main_arg3) = m ((c.tc : Thread Cert.AdaBOptIdeal.nD Cert.AdaBOptIdeal.τ).loc Cert.AdaBOptIdeal.main_arg3))
      ∧ θ_run (Cert.AdaBOptRefIdeal.defs (F := Ideal)) (onTc (τ := Cert.AdaBOptRefIdeal.τ) (Cert.AdaBOptRefIdeal.main (F := Ideal))) ⟨m', fun _ => 0, g'⟩ (fun r => ∀ c : Dev Cert.AdaBOptRefIdeal.nD,
          r.2.mem ((c.tc : Thread Cert.AdaBOptRefIdeal.nD Cert.AdaBOptRefIdeal.τ).loc Cert.AdaBOptRefIdeal.main_v23) = v0 c
          ∧ r.2.mem ((c.tc : Thread Cert.AdaBOptRefIdeal.nD Cert.AdaBOptRefIdeal.τ).loc Cert.AdaBOptRefIdeal.main_v4) = v1 c
          ∧ r.2.mem ((c.tc : Thread Cert.AdaBOptRefIdeal.nD Cert.AdaBOptRefIdeal.τ).loc Cert.AdaBOptRefIdeal.main_v10) = v2 c
          ∧ r.2.mem ((c.tc : Thread Cert.AdaBOptRefIdeal.nD Cert.AdaBOptRefIdeal.τ).loc Cert.AdaBOptRefIdeal.main_arg0) = m' ((c.tc : Thread Cert.AdaBOptRefIdeal.nD Cert.AdaBOptRefIdeal.τ).loc Cert.AdaBOptRefIdeal.main_arg0)
          ∧ r.2.mem ((c.tc : Thread Cert.AdaBOptRefIdeal.nD Cert.AdaBOptRefIdeal.τ).loc Cert.AdaBOptRefIdeal.main_arg1) = m' ((c.tc : Thread Cert.AdaBOptRefIdeal.nD Cert.AdaBOptRefIdeal.τ).loc Cert.AdaBOptRefIdeal.main_arg1)
          ∧ r.2.mem ((c.tc : Thread Cert.AdaBOptRefIdeal.nD Cert.AdaBOptRefIdeal.τ).loc Cert.AdaBOptRefIdeal.main_arg2) = m' ((c.tc : Thread Cert.AdaBOptRefIdeal.nD Cert.AdaBOptRefIdeal.τ).loc Cert.AdaBOptRefIdeal.main_arg2)
          ∧ r.2.mem ((c.tc : Thread Cert.AdaBOptRefIdeal.nD Cert.AdaBOptRefIdeal.τ).loc Cert.AdaBOptRefIdeal.main_arg3) = m' ((c.tc : Thread Cert.AdaBOptRefIdeal.nD Cert.AdaBOptRefIdeal.τ).loc Cert.AdaBOptRefIdeal.main_arg3))

def preserves_InOpt_InOptIdeal : Prop :=
  True

def algebraic_InOptIdeal_InOptRefIdeal [hInOptIdeal : Cert.InOptIdeal.Facts] [hInOptRefIdeal : Cert.InOptRefIdeal.Facts] : Prop :=
  ∀ (m : (ℓ : Loc Cert.InOptIdeal.nD Cert.InOptIdeal.τ Cert.InOptIdeal.sig) → Buf (Elt Ideal) ℓ) (g : Dev Cert.InOptIdeal.nD → PrngReg)
    (m' : (ℓ : Loc Cert.InOptRefIdeal.nD Cert.InOptRefIdeal.τ Cert.InOptRefIdeal.sig) → Buf (Elt Ideal) ℓ) (g' : Dev Cert.InOptRefIdeal.nD → PrngReg), Pre_InOptIdeal m →
    (∀ c : Dev Cert.InOptIdeal.nD,
      m' ((c.tc : Thread Cert.InOptRefIdeal.nD Cert.InOptRefIdeal.τ).loc Cert.InOptRefIdeal.main_arg0) = m ((c.tc : Thread Cert.InOptIdeal.nD Cert.InOptIdeal.τ).loc Cert.InOptIdeal.main_arg0)
      ∧ m' ((c.tc : Thread Cert.InOptRefIdeal.nD Cert.InOptRefIdeal.τ).loc Cert.InOptRefIdeal.main_arg1) = m ((c.tc : Thread Cert.InOptIdeal.nD Cert.InOptIdeal.τ).loc Cert.InOptIdeal.main_arg1)
      ∧ m' ((c.tc : Thread Cert.InOptRefIdeal.nD Cert.InOptRefIdeal.τ).loc Cert.InOptRefIdeal.main_arg2) = m ((c.tc : Thread Cert.InOptIdeal.nD Cert.InOptIdeal.τ).loc Cert.InOptIdeal.main_arg2)
      ∧ m' ((c.tc : Thread Cert.InOptRefIdeal.nD Cert.InOptRefIdeal.τ).loc Cert.InOptRefIdeal.main_arg3) = m ((c.tc : Thread Cert.InOptIdeal.nD Cert.InOptIdeal.τ).loc Cert.InOptIdeal.main_arg3)) →
    ∃ (v0 : (c : Dev Cert.InOptIdeal.nD) → Buf (Elt Ideal) ((c.tc : Thread Cert.InOptIdeal.nD Cert.InOptIdeal.τ).loc Cert.InOptIdeal.main_v0_0)) (v1 : (c : Dev Cert.InOptIdeal.nD) → Buf (Elt Ideal) ((c.tc : Thread Cert.InOptIdeal.nD Cert.InOptIdeal.τ).loc Cert.InOptIdeal.main_v0_1)) (v2 : (c : Dev Cert.InOptIdeal.nD) → Buf (Elt Ideal) ((c.tc : Thread Cert.InOptIdeal.nD Cert.InOptIdeal.τ).loc Cert.InOptIdeal.main_v0_2)),
      θ_run (Cert.InOptIdeal.defs (F := Ideal)) (onTc (τ := Cert.InOptIdeal.τ) (Cert.InOptIdeal.main (F := Ideal))) ⟨m, fun _ => 0, g⟩ (fun r => ∀ c : Dev Cert.InOptIdeal.nD,
          r.2.mem ((c.tc : Thread Cert.InOptIdeal.nD Cert.InOptIdeal.τ).loc Cert.InOptIdeal.main_v0_0) = v0 c
          ∧ r.2.mem ((c.tc : Thread Cert.InOptIdeal.nD Cert.InOptIdeal.τ).loc Cert.InOptIdeal.main_v0_1) = v1 c
          ∧ r.2.mem ((c.tc : Thread Cert.InOptIdeal.nD Cert.InOptIdeal.τ).loc Cert.InOptIdeal.main_v0_2) = v2 c
          ∧ r.2.mem ((c.tc : Thread Cert.InOptIdeal.nD Cert.InOptIdeal.τ).loc Cert.InOptIdeal.main_arg0) = m ((c.tc : Thread Cert.InOptIdeal.nD Cert.InOptIdeal.τ).loc Cert.InOptIdeal.main_arg0)
          ∧ r.2.mem ((c.tc : Thread Cert.InOptIdeal.nD Cert.InOptIdeal.τ).loc Cert.InOptIdeal.main_arg1) = m ((c.tc : Thread Cert.InOptIdeal.nD Cert.InOptIdeal.τ).loc Cert.InOptIdeal.main_arg1)
          ∧ r.2.mem ((c.tc : Thread Cert.InOptIdeal.nD Cert.InOptIdeal.τ).loc Cert.InOptIdeal.main_arg2) = m ((c.tc : Thread Cert.InOptIdeal.nD Cert.InOptIdeal.τ).loc Cert.InOptIdeal.main_arg2)
          ∧ r.2.mem ((c.tc : Thread Cert.InOptIdeal.nD Cert.InOptIdeal.τ).loc Cert.InOptIdeal.main_arg3) = m ((c.tc : Thread Cert.InOptIdeal.nD Cert.InOptIdeal.τ).loc Cert.InOptIdeal.main_arg3))
      ∧ θ_run (Cert.InOptRefIdeal.defs (F := Ideal)) (onTc (τ := Cert.InOptRefIdeal.τ) (Cert.InOptRefIdeal.main (F := Ideal))) ⟨m', fun _ => 0, g'⟩ (fun r => ∀ c : Dev Cert.InOptRefIdeal.nD,
          r.2.mem ((c.tc : Thread Cert.InOptRefIdeal.nD Cert.InOptRefIdeal.τ).loc Cert.InOptRefIdeal.main_v23) = v0 c
          ∧ r.2.mem ((c.tc : Thread Cert.InOptRefIdeal.nD Cert.InOptRefIdeal.τ).loc Cert.InOptRefIdeal.main_v4) = v1 c
          ∧ r.2.mem ((c.tc : Thread Cert.InOptRefIdeal.nD Cert.InOptRefIdeal.τ).loc Cert.InOptRefIdeal.main_v10) = v2 c
          ∧ r.2.mem ((c.tc : Thread Cert.InOptRefIdeal.nD Cert.InOptRefIdeal.τ).loc Cert.InOptRefIdeal.main_arg0) = m' ((c.tc : Thread Cert.InOptRefIdeal.nD Cert.InOptRefIdeal.τ).loc Cert.InOptRefIdeal.main_arg0)
          ∧ r.2.mem ((c.tc : Thread Cert.InOptRefIdeal.nD Cert.InOptRefIdeal.τ).loc Cert.InOptRefIdeal.main_arg1) = m' ((c.tc : Thread Cert.InOptRefIdeal.nD Cert.InOptRefIdeal.τ).loc Cert.InOptRefIdeal.main_arg1)
          ∧ r.2.mem ((c.tc : Thread Cert.InOptRefIdeal.nD Cert.InOptRefIdeal.τ).loc Cert.InOptRefIdeal.main_arg2) = m' ((c.tc : Thread Cert.InOptRefIdeal.nD Cert.InOptRefIdeal.τ).loc Cert.InOptRefIdeal.main_arg2)
          ∧ r.2.mem ((c.tc : Thread Cert.InOptRefIdeal.nD Cert.InOptRefIdeal.τ).loc Cert.InOptRefIdeal.main_arg3) = m' ((c.tc : Thread Cert.InOptRefIdeal.nD Cert.InOptRefIdeal.τ).loc Cert.InOptRefIdeal.main_arg3))

def preserves_InBOpt_InBOptIdeal : Prop :=
  True

def algebraic_InBOptIdeal_InBOptRefIdeal [hInBOptIdeal : Cert.InBOptIdeal.Facts] [hInBOptRefIdeal : Cert.InBOptRefIdeal.Facts] : Prop :=
  ∀ (m : (ℓ : Loc Cert.InBOptIdeal.nD Cert.InBOptIdeal.τ Cert.InBOptIdeal.sig) → Buf (Elt Ideal) ℓ) (g : Dev Cert.InBOptIdeal.nD → PrngReg)
    (m' : (ℓ : Loc Cert.InBOptRefIdeal.nD Cert.InBOptRefIdeal.τ Cert.InBOptRefIdeal.sig) → Buf (Elt Ideal) ℓ) (g' : Dev Cert.InBOptRefIdeal.nD → PrngReg), Pre_InBOptIdeal m →
    (∀ c : Dev Cert.InBOptIdeal.nD,
      m' ((c.tc : Thread Cert.InBOptRefIdeal.nD Cert.InBOptRefIdeal.τ).loc Cert.InBOptRefIdeal.main_arg0) = m ((c.tc : Thread Cert.InBOptIdeal.nD Cert.InBOptIdeal.τ).loc Cert.InBOptIdeal.main_arg0)
      ∧ m' ((c.tc : Thread Cert.InBOptRefIdeal.nD Cert.InBOptRefIdeal.τ).loc Cert.InBOptRefIdeal.main_arg1) = m ((c.tc : Thread Cert.InBOptIdeal.nD Cert.InBOptIdeal.τ).loc Cert.InBOptIdeal.main_arg1)
      ∧ m' ((c.tc : Thread Cert.InBOptRefIdeal.nD Cert.InBOptRefIdeal.τ).loc Cert.InBOptRefIdeal.main_arg2) = m ((c.tc : Thread Cert.InBOptIdeal.nD Cert.InBOptIdeal.τ).loc Cert.InBOptIdeal.main_arg2)
      ∧ m' ((c.tc : Thread Cert.InBOptRefIdeal.nD Cert.InBOptRefIdeal.τ).loc Cert.InBOptRefIdeal.main_arg3) = m ((c.tc : Thread Cert.InBOptIdeal.nD Cert.InBOptIdeal.τ).loc Cert.InBOptIdeal.main_arg3)) →
    ∃ (v0 : (c : Dev Cert.InBOptIdeal.nD) → Buf (Elt Ideal) ((c.tc : Thread Cert.InBOptIdeal.nD Cert.InBOptIdeal.τ).loc Cert.InBOptIdeal.main_v0_0)) (v1 : (c : Dev Cert.InBOptIdeal.nD) → Buf (Elt Ideal) ((c.tc : Thread Cert.InBOptIdeal.nD Cert.InBOptIdeal.τ).loc Cert.InBOptIdeal.main_v0_1)) (v2 : (c : Dev Cert.InBOptIdeal.nD) → Buf (Elt Ideal) ((c.tc : Thread Cert.InBOptIdeal.nD Cert.InBOptIdeal.τ).loc Cert.InBOptIdeal.main_v0_2)),
      θ_run (Cert.InBOptIdeal.defs (F := Ideal)) (onTc (τ := Cert.InBOptIdeal.τ) (Cert.InBOptIdeal.main (F := Ideal))) ⟨m, fun _ => 0, g⟩ (fun r => ∀ c : Dev Cert.InBOptIdeal.nD,
          r.2.mem ((c.tc : Thread Cert.InBOptIdeal.nD Cert.InBOptIdeal.τ).loc Cert.InBOptIdeal.main_v0_0) = v0 c
          ∧ r.2.mem ((c.tc : Thread Cert.InBOptIdeal.nD Cert.InBOptIdeal.τ).loc Cert.InBOptIdeal.main_v0_1) = v1 c
          ∧ r.2.mem ((c.tc : Thread Cert.InBOptIdeal.nD Cert.InBOptIdeal.τ).loc Cert.InBOptIdeal.main_v0_2) = v2 c
          ∧ r.2.mem ((c.tc : Thread Cert.InBOptIdeal.nD Cert.InBOptIdeal.τ).loc Cert.InBOptIdeal.main_arg0) = m ((c.tc : Thread Cert.InBOptIdeal.nD Cert.InBOptIdeal.τ).loc Cert.InBOptIdeal.main_arg0)
          ∧ r.2.mem ((c.tc : Thread Cert.InBOptIdeal.nD Cert.InBOptIdeal.τ).loc Cert.InBOptIdeal.main_arg1) = m ((c.tc : Thread Cert.InBOptIdeal.nD Cert.InBOptIdeal.τ).loc Cert.InBOptIdeal.main_arg1)
          ∧ r.2.mem ((c.tc : Thread Cert.InBOptIdeal.nD Cert.InBOptIdeal.τ).loc Cert.InBOptIdeal.main_arg2) = m ((c.tc : Thread Cert.InBOptIdeal.nD Cert.InBOptIdeal.τ).loc Cert.InBOptIdeal.main_arg2)
          ∧ r.2.mem ((c.tc : Thread Cert.InBOptIdeal.nD Cert.InBOptIdeal.τ).loc Cert.InBOptIdeal.main_arg3) = m ((c.tc : Thread Cert.InBOptIdeal.nD Cert.InBOptIdeal.τ).loc Cert.InBOptIdeal.main_arg3))
      ∧ θ_run (Cert.InBOptRefIdeal.defs (F := Ideal)) (onTc (τ := Cert.InBOptRefIdeal.τ) (Cert.InBOptRefIdeal.main (F := Ideal))) ⟨m', fun _ => 0, g'⟩ (fun r => ∀ c : Dev Cert.InBOptRefIdeal.nD,
          r.2.mem ((c.tc : Thread Cert.InBOptRefIdeal.nD Cert.InBOptRefIdeal.τ).loc Cert.InBOptRefIdeal.main_v23) = v0 c
          ∧ r.2.mem ((c.tc : Thread Cert.InBOptRefIdeal.nD Cert.InBOptRefIdeal.τ).loc Cert.InBOptRefIdeal.main_v4) = v1 c
          ∧ r.2.mem ((c.tc : Thread Cert.InBOptRefIdeal.nD Cert.InBOptRefIdeal.τ).loc Cert.InBOptRefIdeal.main_v10) = v2 c
          ∧ r.2.mem ((c.tc : Thread Cert.InBOptRefIdeal.nD Cert.InBOptRefIdeal.τ).loc Cert.InBOptRefIdeal.main_arg0) = m' ((c.tc : Thread Cert.InBOptRefIdeal.nD Cert.InBOptRefIdeal.τ).loc Cert.InBOptRefIdeal.main_arg0)
          ∧ r.2.mem ((c.tc : Thread Cert.InBOptRefIdeal.nD Cert.InBOptRefIdeal.τ).loc Cert.InBOptRefIdeal.main_arg1) = m' ((c.tc : Thread Cert.InBOptRefIdeal.nD Cert.InBOptRefIdeal.τ).loc Cert.InBOptRefIdeal.main_arg1)
          ∧ r.2.mem ((c.tc : Thread Cert.InBOptRefIdeal.nD Cert.InBOptRefIdeal.τ).loc Cert.InBOptRefIdeal.main_arg2) = m' ((c.tc : Thread Cert.InBOptRefIdeal.nD Cert.InBOptRefIdeal.τ).loc Cert.InBOptRefIdeal.main_arg2)
          ∧ r.2.mem ((c.tc : Thread Cert.InBOptRefIdeal.nD Cert.InBOptRefIdeal.τ).loc Cert.InBOptRefIdeal.main_arg3) = m' ((c.tc : Thread Cert.InBOptRefIdeal.nD Cert.InBOptRefIdeal.τ).loc Cert.InBOptRefIdeal.main_arg3))

def preserves_ConvAOpt_ConvAOptIdeal : Prop :=
  True

def algebraic_ConvAOptIdeal_ConvAOptRefIdeal [hConvAOptIdeal : Cert.ConvAOptIdeal.Facts] [hConvAOptRefIdeal : Cert.ConvAOptRefIdeal.Facts] : Prop :=
  ∀ (m : (ℓ : Loc Cert.ConvAOptIdeal.nD Cert.ConvAOptIdeal.τ Cert.ConvAOptIdeal.sig) → Buf (Elt Ideal) ℓ) (g : Dev Cert.ConvAOptIdeal.nD → PrngReg)
    (m' : (ℓ : Loc Cert.ConvAOptRefIdeal.nD Cert.ConvAOptRefIdeal.τ Cert.ConvAOptRefIdeal.sig) → Buf (Elt Ideal) ℓ) (g' : Dev Cert.ConvAOptRefIdeal.nD → PrngReg), Pre_ConvAOptIdeal m →
    (∀ c : Dev Cert.ConvAOptIdeal.nD,
      m' ((c.tc : Thread Cert.ConvAOptRefIdeal.nD Cert.ConvAOptRefIdeal.τ).loc Cert.ConvAOptRefIdeal.main_arg0) = m ((c.tc : Thread Cert.ConvAOptIdeal.nD Cert.ConvAOptIdeal.τ).loc Cert.ConvAOptIdeal.main_arg0)
      ∧ m' ((c.tc : Thread Cert.ConvAOptRefIdeal.nD Cert.ConvAOptRefIdeal.τ).loc Cert.ConvAOptRefIdeal.main_arg1) = m ((c.tc : Thread Cert.ConvAOptIdeal.nD Cert.ConvAOptIdeal.τ).loc Cert.ConvAOptIdeal.main_arg1)
      ∧ m' ((c.tc : Thread Cert.ConvAOptRefIdeal.nD Cert.ConvAOptRefIdeal.τ).loc Cert.ConvAOptRefIdeal.main_arg2) = m ((c.tc : Thread Cert.ConvAOptIdeal.nD Cert.ConvAOptIdeal.τ).loc Cert.ConvAOptIdeal.main_arg2)
      ∧ m' ((c.tc : Thread Cert.ConvAOptRefIdeal.nD Cert.ConvAOptRefIdeal.τ).loc Cert.ConvAOptRefIdeal.main_arg3) = m ((c.tc : Thread Cert.ConvAOptIdeal.nD Cert.ConvAOptIdeal.τ).loc Cert.ConvAOptIdeal.main_arg3)) →
    ∃ (v0 : (c : Dev Cert.ConvAOptIdeal.nD) → Buf (Elt Ideal) ((c.tc : Thread Cert.ConvAOptIdeal.nD Cert.ConvAOptIdeal.τ).loc Cert.ConvAOptIdeal.main_v0_0)) (v1 : (c : Dev Cert.ConvAOptIdeal.nD) → Buf (Elt Ideal) ((c.tc : Thread Cert.ConvAOptIdeal.nD Cert.ConvAOptIdeal.τ).loc Cert.ConvAOptIdeal.main_v0_1)) (v2 : (c : Dev Cert.ConvAOptIdeal.nD) → Buf (Elt Ideal) ((c.tc : Thread Cert.ConvAOptIdeal.nD Cert.ConvAOptIdeal.τ).loc Cert.ConvAOptIdeal.main_v0_2)),
      θ_run (Cert.ConvAOptIdeal.defs (F := Ideal)) (onTc (τ := Cert.ConvAOptIdeal.τ) (Cert.ConvAOptIdeal.main (F := Ideal))) ⟨m, fun _ => 0, g⟩ (fun r => ∀ c : Dev Cert.ConvAOptIdeal.nD,
          r.2.mem ((c.tc : Thread Cert.ConvAOptIdeal.nD Cert.ConvAOptIdeal.τ).loc Cert.ConvAOptIdeal.main_v0_0) = v0 c
          ∧ r.2.mem ((c.tc : Thread Cert.ConvAOptIdeal.nD Cert.ConvAOptIdeal.τ).loc Cert.ConvAOptIdeal.main_v0_1) = v1 c
          ∧ r.2.mem ((c.tc : Thread Cert.ConvAOptIdeal.nD Cert.ConvAOptIdeal.τ).loc Cert.ConvAOptIdeal.main_v0_2) = v2 c
          ∧ r.2.mem ((c.tc : Thread Cert.ConvAOptIdeal.nD Cert.ConvAOptIdeal.τ).loc Cert.ConvAOptIdeal.main_arg0) = m ((c.tc : Thread Cert.ConvAOptIdeal.nD Cert.ConvAOptIdeal.τ).loc Cert.ConvAOptIdeal.main_arg0)
          ∧ r.2.mem ((c.tc : Thread Cert.ConvAOptIdeal.nD Cert.ConvAOptIdeal.τ).loc Cert.ConvAOptIdeal.main_arg1) = m ((c.tc : Thread Cert.ConvAOptIdeal.nD Cert.ConvAOptIdeal.τ).loc Cert.ConvAOptIdeal.main_arg1)
          ∧ r.2.mem ((c.tc : Thread Cert.ConvAOptIdeal.nD Cert.ConvAOptIdeal.τ).loc Cert.ConvAOptIdeal.main_arg2) = m ((c.tc : Thread Cert.ConvAOptIdeal.nD Cert.ConvAOptIdeal.τ).loc Cert.ConvAOptIdeal.main_arg2)
          ∧ r.2.mem ((c.tc : Thread Cert.ConvAOptIdeal.nD Cert.ConvAOptIdeal.τ).loc Cert.ConvAOptIdeal.main_arg3) = m ((c.tc : Thread Cert.ConvAOptIdeal.nD Cert.ConvAOptIdeal.τ).loc Cert.ConvAOptIdeal.main_arg3))
      ∧ θ_run (Cert.ConvAOptRefIdeal.defs (F := Ideal)) (onTc (τ := Cert.ConvAOptRefIdeal.τ) (Cert.ConvAOptRefIdeal.main (F := Ideal))) ⟨m', fun _ => 0, g'⟩ (fun r => ∀ c : Dev Cert.ConvAOptRefIdeal.nD,
          r.2.mem ((c.tc : Thread Cert.ConvAOptRefIdeal.nD Cert.ConvAOptRefIdeal.τ).loc Cert.ConvAOptRefIdeal.main_v23) = v0 c
          ∧ r.2.mem ((c.tc : Thread Cert.ConvAOptRefIdeal.nD Cert.ConvAOptRefIdeal.τ).loc Cert.ConvAOptRefIdeal.main_v4) = v1 c
          ∧ r.2.mem ((c.tc : Thread Cert.ConvAOptRefIdeal.nD Cert.ConvAOptRefIdeal.τ).loc Cert.ConvAOptRefIdeal.main_v10) = v2 c
          ∧ r.2.mem ((c.tc : Thread Cert.ConvAOptRefIdeal.nD Cert.ConvAOptRefIdeal.τ).loc Cert.ConvAOptRefIdeal.main_arg0) = m' ((c.tc : Thread Cert.ConvAOptRefIdeal.nD Cert.ConvAOptRefIdeal.τ).loc Cert.ConvAOptRefIdeal.main_arg0)
          ∧ r.2.mem ((c.tc : Thread Cert.ConvAOptRefIdeal.nD Cert.ConvAOptRefIdeal.τ).loc Cert.ConvAOptRefIdeal.main_arg1) = m' ((c.tc : Thread Cert.ConvAOptRefIdeal.nD Cert.ConvAOptRefIdeal.τ).loc Cert.ConvAOptRefIdeal.main_arg1)
          ∧ r.2.mem ((c.tc : Thread Cert.ConvAOptRefIdeal.nD Cert.ConvAOptRefIdeal.τ).loc Cert.ConvAOptRefIdeal.main_arg2) = m' ((c.tc : Thread Cert.ConvAOptRefIdeal.nD Cert.ConvAOptRefIdeal.τ).loc Cert.ConvAOptRefIdeal.main_arg2)
          ∧ r.2.mem ((c.tc : Thread Cert.ConvAOptRefIdeal.nD Cert.ConvAOptRefIdeal.τ).loc Cert.ConvAOptRefIdeal.main_arg3) = m' ((c.tc : Thread Cert.ConvAOptRefIdeal.nD Cert.ConvAOptRefIdeal.τ).loc Cert.ConvAOptRefIdeal.main_arg3))

def preserves_ChOpt_ChOptIdeal : Prop :=
  True

def algebraic_ChOptIdeal_ChOptRefIdeal [hChOptIdeal : Cert.ChOptIdeal.Facts] [hChOptRefIdeal : Cert.ChOptRefIdeal.Facts] : Prop :=
  ∀ (m : (ℓ : Loc Cert.ChOptIdeal.nD Cert.ChOptIdeal.τ Cert.ChOptIdeal.sig) → Buf (Elt Ideal) ℓ) (g : Dev Cert.ChOptIdeal.nD → PrngReg)
    (m' : (ℓ : Loc Cert.ChOptRefIdeal.nD Cert.ChOptRefIdeal.τ Cert.ChOptRefIdeal.sig) → Buf (Elt Ideal) ℓ) (g' : Dev Cert.ChOptRefIdeal.nD → PrngReg), Pre_ChOptIdeal m →
    (∀ c : Dev Cert.ChOptIdeal.nD,
      m' ((c.tc : Thread Cert.ChOptRefIdeal.nD Cert.ChOptRefIdeal.τ).loc Cert.ChOptRefIdeal.main_arg0) = m ((c.tc : Thread Cert.ChOptIdeal.nD Cert.ChOptIdeal.τ).loc Cert.ChOptIdeal.main_arg0)
      ∧ m' ((c.tc : Thread Cert.ChOptRefIdeal.nD Cert.ChOptRefIdeal.τ).loc Cert.ChOptRefIdeal.main_arg1) = m ((c.tc : Thread Cert.ChOptIdeal.nD Cert.ChOptIdeal.τ).loc Cert.ChOptIdeal.main_arg1)
      ∧ m' ((c.tc : Thread Cert.ChOptRefIdeal.nD Cert.ChOptRefIdeal.τ).loc Cert.ChOptRefIdeal.main_arg2) = m ((c.tc : Thread Cert.ChOptIdeal.nD Cert.ChOptIdeal.τ).loc Cert.ChOptIdeal.main_arg2)
      ∧ m' ((c.tc : Thread Cert.ChOptRefIdeal.nD Cert.ChOptRefIdeal.τ).loc Cert.ChOptRefIdeal.main_arg3) = m ((c.tc : Thread Cert.ChOptIdeal.nD Cert.ChOptIdeal.τ).loc Cert.ChOptIdeal.main_arg3)) →
    ∃ (v0 : (c : Dev Cert.ChOptIdeal.nD) → Buf (Elt Ideal) ((c.tc : Thread Cert.ChOptIdeal.nD Cert.ChOptIdeal.τ).loc Cert.ChOptIdeal.main_v0_0)) (v1 : (c : Dev Cert.ChOptIdeal.nD) → Buf (Elt Ideal) ((c.tc : Thread Cert.ChOptIdeal.nD Cert.ChOptIdeal.τ).loc Cert.ChOptIdeal.main_v0_1)) (v2 : (c : Dev Cert.ChOptIdeal.nD) → Buf (Elt Ideal) ((c.tc : Thread Cert.ChOptIdeal.nD Cert.ChOptIdeal.τ).loc Cert.ChOptIdeal.main_v0_2)),
      θ_run (Cert.ChOptIdeal.defs (F := Ideal)) (onTc (τ := Cert.ChOptIdeal.τ) (Cert.ChOptIdeal.main (F := Ideal))) ⟨m, fun _ => 0, g⟩ (fun r => ∀ c : Dev Cert.ChOptIdeal.nD,
          r.2.mem ((c.tc : Thread Cert.ChOptIdeal.nD Cert.ChOptIdeal.τ).loc Cert.ChOptIdeal.main_v0_0) = v0 c
          ∧ r.2.mem ((c.tc : Thread Cert.ChOptIdeal.nD Cert.ChOptIdeal.τ).loc Cert.ChOptIdeal.main_v0_1) = v1 c
          ∧ r.2.mem ((c.tc : Thread Cert.ChOptIdeal.nD Cert.ChOptIdeal.τ).loc Cert.ChOptIdeal.main_v0_2) = v2 c
          ∧ r.2.mem ((c.tc : Thread Cert.ChOptIdeal.nD Cert.ChOptIdeal.τ).loc Cert.ChOptIdeal.main_arg0) = m ((c.tc : Thread Cert.ChOptIdeal.nD Cert.ChOptIdeal.τ).loc Cert.ChOptIdeal.main_arg0)
          ∧ r.2.mem ((c.tc : Thread Cert.ChOptIdeal.nD Cert.ChOptIdeal.τ).loc Cert.ChOptIdeal.main_arg1) = m ((c.tc : Thread Cert.ChOptIdeal.nD Cert.ChOptIdeal.τ).loc Cert.ChOptIdeal.main_arg1)
          ∧ r.2.mem ((c.tc : Thread Cert.ChOptIdeal.nD Cert.ChOptIdeal.τ).loc Cert.ChOptIdeal.main_arg2) = m ((c.tc : Thread Cert.ChOptIdeal.nD Cert.ChOptIdeal.τ).loc Cert.ChOptIdeal.main_arg2)
          ∧ r.2.mem ((c.tc : Thread Cert.ChOptIdeal.nD Cert.ChOptIdeal.τ).loc Cert.ChOptIdeal.main_arg3) = m ((c.tc : Thread Cert.ChOptIdeal.nD Cert.ChOptIdeal.τ).loc Cert.ChOptIdeal.main_arg3))
      ∧ θ_run (Cert.ChOptRefIdeal.defs (F := Ideal)) (onTc (τ := Cert.ChOptRefIdeal.τ) (Cert.ChOptRefIdeal.main (F := Ideal))) ⟨m', fun _ => 0, g'⟩ (fun r => ∀ c : Dev Cert.ChOptRefIdeal.nD,
          r.2.mem ((c.tc : Thread Cert.ChOptRefIdeal.nD Cert.ChOptRefIdeal.τ).loc Cert.ChOptRefIdeal.main_v23) = v0 c
          ∧ r.2.mem ((c.tc : Thread Cert.ChOptRefIdeal.nD Cert.ChOptRefIdeal.τ).loc Cert.ChOptRefIdeal.main_v4) = v1 c
          ∧ r.2.mem ((c.tc : Thread Cert.ChOptRefIdeal.nD Cert.ChOptRefIdeal.τ).loc Cert.ChOptRefIdeal.main_v10) = v2 c
          ∧ r.2.mem ((c.tc : Thread Cert.ChOptRefIdeal.nD Cert.ChOptRefIdeal.τ).loc Cert.ChOptRefIdeal.main_arg0) = m' ((c.tc : Thread Cert.ChOptRefIdeal.nD Cert.ChOptRefIdeal.τ).loc Cert.ChOptRefIdeal.main_arg0)
          ∧ r.2.mem ((c.tc : Thread Cert.ChOptRefIdeal.nD Cert.ChOptRefIdeal.τ).loc Cert.ChOptRefIdeal.main_arg1) = m' ((c.tc : Thread Cert.ChOptRefIdeal.nD Cert.ChOptRefIdeal.τ).loc Cert.ChOptRefIdeal.main_arg1)
          ∧ r.2.mem ((c.tc : Thread Cert.ChOptRefIdeal.nD Cert.ChOptRefIdeal.τ).loc Cert.ChOptRefIdeal.main_arg2) = m' ((c.tc : Thread Cert.ChOptRefIdeal.nD Cert.ChOptRefIdeal.τ).loc Cert.ChOptRefIdeal.main_arg2)
          ∧ r.2.mem ((c.tc : Thread Cert.ChOptRefIdeal.nD Cert.ChOptRefIdeal.τ).loc Cert.ChOptRefIdeal.main_arg3) = m' ((c.tc : Thread Cert.ChOptRefIdeal.nD Cert.ChOptRefIdeal.τ).loc Cert.ChOptRefIdeal.main_arg3))

def preserves_BranchOpt_BranchOptIdeal : Prop :=
  True

def algebraic_BranchOptIdeal_BranchOptRefIdeal [hBranchOptIdeal : Cert.BranchOptIdeal.Facts] [hBranchOptRefIdeal : Cert.BranchOptRefIdeal.Facts] : Prop :=
  ∀ (m : (ℓ : Loc Cert.BranchOptIdeal.nD Cert.BranchOptIdeal.τ Cert.BranchOptIdeal.sig) → Buf (Elt Ideal) ℓ) (g : Dev Cert.BranchOptIdeal.nD → PrngReg)
    (m' : (ℓ : Loc Cert.BranchOptRefIdeal.nD Cert.BranchOptRefIdeal.τ Cert.BranchOptRefIdeal.sig) → Buf (Elt Ideal) ℓ) (g' : Dev Cert.BranchOptRefIdeal.nD → PrngReg), Pre_BranchOptIdeal m →
    (∀ c : Dev Cert.BranchOptIdeal.nD,
      m' ((c.tc : Thread Cert.BranchOptRefIdeal.nD Cert.BranchOptRefIdeal.τ).loc Cert.BranchOptRefIdeal.main_arg0) = m ((c.tc : Thread Cert.BranchOptIdeal.nD Cert.BranchOptIdeal.τ).loc Cert.BranchOptIdeal.main_arg0)
      ∧ m' ((c.tc : Thread Cert.BranchOptRefIdeal.nD Cert.BranchOptRefIdeal.τ).loc Cert.BranchOptRefIdeal.main_arg1) = m ((c.tc : Thread Cert.BranchOptIdeal.nD Cert.BranchOptIdeal.τ).loc Cert.BranchOptIdeal.main_arg1)
      ∧ m' ((c.tc : Thread Cert.BranchOptRefIdeal.nD Cert.BranchOptRefIdeal.τ).loc Cert.BranchOptRefIdeal.main_arg2) = m ((c.tc : Thread Cert.BranchOptIdeal.nD Cert.BranchOptIdeal.τ).loc Cert.BranchOptIdeal.main_arg2)
      ∧ m' ((c.tc : Thread Cert.BranchOptRefIdeal.nD Cert.BranchOptRefIdeal.τ).loc Cert.BranchOptRefIdeal.main_arg3) = m ((c.tc : Thread Cert.BranchOptIdeal.nD Cert.BranchOptIdeal.τ).loc Cert.BranchOptIdeal.main_arg3)) →
    ∃ (v0 : (c : Dev Cert.BranchOptIdeal.nD) → Buf (Elt Ideal) ((c.tc : Thread Cert.BranchOptIdeal.nD Cert.BranchOptIdeal.τ).loc Cert.BranchOptIdeal.main_v0_0)) (v1 : (c : Dev Cert.BranchOptIdeal.nD) → Buf (Elt Ideal) ((c.tc : Thread Cert.BranchOptIdeal.nD Cert.BranchOptIdeal.τ).loc Cert.BranchOptIdeal.main_v0_1)) (v2 : (c : Dev Cert.BranchOptIdeal.nD) → Buf (Elt Ideal) ((c.tc : Thread Cert.BranchOptIdeal.nD Cert.BranchOptIdeal.τ).loc Cert.BranchOptIdeal.main_v0_2)),
      θ_run (Cert.BranchOptIdeal.defs (F := Ideal)) (onTc (τ := Cert.BranchOptIdeal.τ) (Cert.BranchOptIdeal.main (F := Ideal))) ⟨m, fun _ => 0, g⟩ (fun r => ∀ c : Dev Cert.BranchOptIdeal.nD,
          r.2.mem ((c.tc : Thread Cert.BranchOptIdeal.nD Cert.BranchOptIdeal.τ).loc Cert.BranchOptIdeal.main_v0_0) = v0 c
          ∧ r.2.mem ((c.tc : Thread Cert.BranchOptIdeal.nD Cert.BranchOptIdeal.τ).loc Cert.BranchOptIdeal.main_v0_1) = v1 c
          ∧ r.2.mem ((c.tc : Thread Cert.BranchOptIdeal.nD Cert.BranchOptIdeal.τ).loc Cert.BranchOptIdeal.main_v0_2) = v2 c
          ∧ r.2.mem ((c.tc : Thread Cert.BranchOptIdeal.nD Cert.BranchOptIdeal.τ).loc Cert.BranchOptIdeal.main_arg0) = m ((c.tc : Thread Cert.BranchOptIdeal.nD Cert.BranchOptIdeal.τ).loc Cert.BranchOptIdeal.main_arg0)
          ∧ r.2.mem ((c.tc : Thread Cert.BranchOptIdeal.nD Cert.BranchOptIdeal.τ).loc Cert.BranchOptIdeal.main_arg1) = m ((c.tc : Thread Cert.BranchOptIdeal.nD Cert.BranchOptIdeal.τ).loc Cert.BranchOptIdeal.main_arg1)
          ∧ r.2.mem ((c.tc : Thread Cert.BranchOptIdeal.nD Cert.BranchOptIdeal.τ).loc Cert.BranchOptIdeal.main_arg2) = m ((c.tc : Thread Cert.BranchOptIdeal.nD Cert.BranchOptIdeal.τ).loc Cert.BranchOptIdeal.main_arg2)
          ∧ r.2.mem ((c.tc : Thread Cert.BranchOptIdeal.nD Cert.BranchOptIdeal.τ).loc Cert.BranchOptIdeal.main_arg3) = m ((c.tc : Thread Cert.BranchOptIdeal.nD Cert.BranchOptIdeal.τ).loc Cert.BranchOptIdeal.main_arg3))
      ∧ θ_run (Cert.BranchOptRefIdeal.defs (F := Ideal)) (onTc (τ := Cert.BranchOptRefIdeal.τ) (Cert.BranchOptRefIdeal.main (F := Ideal))) ⟨m', fun _ => 0, g'⟩ (fun r => ∀ c : Dev Cert.BranchOptRefIdeal.nD,
          r.2.mem ((c.tc : Thread Cert.BranchOptRefIdeal.nD Cert.BranchOptRefIdeal.τ).loc Cert.BranchOptRefIdeal.main_v23) = v0 c
          ∧ r.2.mem ((c.tc : Thread Cert.BranchOptRefIdeal.nD Cert.BranchOptRefIdeal.τ).loc Cert.BranchOptRefIdeal.main_v4) = v1 c
          ∧ r.2.mem ((c.tc : Thread Cert.BranchOptRefIdeal.nD Cert.BranchOptRefIdeal.τ).loc Cert.BranchOptRefIdeal.main_v10) = v2 c
          ∧ r.2.mem ((c.tc : Thread Cert.BranchOptRefIdeal.nD Cert.BranchOptRefIdeal.τ).loc Cert.BranchOptRefIdeal.main_arg0) = m' ((c.tc : Thread Cert.BranchOptRefIdeal.nD Cert.BranchOptRefIdeal.τ).loc Cert.BranchOptRefIdeal.main_arg0)
          ∧ r.2.mem ((c.tc : Thread Cert.BranchOptRefIdeal.nD Cert.BranchOptRefIdeal.τ).loc Cert.BranchOptRefIdeal.main_arg1) = m' ((c.tc : Thread Cert.BranchOptRefIdeal.nD Cert.BranchOptRefIdeal.τ).loc Cert.BranchOptRefIdeal.main_arg1)
          ∧ r.2.mem ((c.tc : Thread Cert.BranchOptRefIdeal.nD Cert.BranchOptRefIdeal.τ).loc Cert.BranchOptRefIdeal.main_arg2) = m' ((c.tc : Thread Cert.BranchOptRefIdeal.nD Cert.BranchOptRefIdeal.τ).loc Cert.BranchOptRefIdeal.main_arg2)
          ∧ r.2.mem ((c.tc : Thread Cert.BranchOptRefIdeal.nD Cert.BranchOptRefIdeal.τ).loc Cert.BranchOptRefIdeal.main_arg3) = m' ((c.tc : Thread Cert.BranchOptRefIdeal.nD Cert.BranchOptRefIdeal.τ).loc Cert.BranchOptRefIdeal.main_arg3))

def preserves_MixOutOpt_MixOutOptIdeal : Prop :=
  True

def algebraic_MixOutOptIdeal_MixOutOptRefIdeal [hMixOutOptIdeal : Cert.MixOutOptIdeal.Facts] [hMixOutOptRefIdeal : Cert.MixOutOptRefIdeal.Facts] : Prop :=
  ∀ (m : (ℓ : Loc Cert.MixOutOptIdeal.nD Cert.MixOutOptIdeal.τ Cert.MixOutOptIdeal.sig) → Buf (Elt Ideal) ℓ) (g : Dev Cert.MixOutOptIdeal.nD → PrngReg)
    (m' : (ℓ : Loc Cert.MixOutOptRefIdeal.nD Cert.MixOutOptRefIdeal.τ Cert.MixOutOptRefIdeal.sig) → Buf (Elt Ideal) ℓ) (g' : Dev Cert.MixOutOptRefIdeal.nD → PrngReg), Pre_MixOutOptIdeal m →
    (∀ c : Dev Cert.MixOutOptIdeal.nD,
      m' ((c.tc : Thread Cert.MixOutOptRefIdeal.nD Cert.MixOutOptRefIdeal.τ).loc Cert.MixOutOptRefIdeal.main_arg0) = m ((c.tc : Thread Cert.MixOutOptIdeal.nD Cert.MixOutOptIdeal.τ).loc Cert.MixOutOptIdeal.main_arg0)
      ∧ m' ((c.tc : Thread Cert.MixOutOptRefIdeal.nD Cert.MixOutOptRefIdeal.τ).loc Cert.MixOutOptRefIdeal.main_arg1) = m ((c.tc : Thread Cert.MixOutOptIdeal.nD Cert.MixOutOptIdeal.τ).loc Cert.MixOutOptIdeal.main_arg1)
      ∧ m' ((c.tc : Thread Cert.MixOutOptRefIdeal.nD Cert.MixOutOptRefIdeal.τ).loc Cert.MixOutOptRefIdeal.main_arg2) = m ((c.tc : Thread Cert.MixOutOptIdeal.nD Cert.MixOutOptIdeal.τ).loc Cert.MixOutOptIdeal.main_arg2)
      ∧ m' ((c.tc : Thread Cert.MixOutOptRefIdeal.nD Cert.MixOutOptRefIdeal.τ).loc Cert.MixOutOptRefIdeal.main_arg3) = m ((c.tc : Thread Cert.MixOutOptIdeal.nD Cert.MixOutOptIdeal.τ).loc Cert.MixOutOptIdeal.main_arg3)) →
    ∃ (v0 : (c : Dev Cert.MixOutOptIdeal.nD) → Buf (Elt Ideal) ((c.tc : Thread Cert.MixOutOptIdeal.nD Cert.MixOutOptIdeal.τ).loc Cert.MixOutOptIdeal.main_v0_0)) (v1 : (c : Dev Cert.MixOutOptIdeal.nD) → Buf (Elt Ideal) ((c.tc : Thread Cert.MixOutOptIdeal.nD Cert.MixOutOptIdeal.τ).loc Cert.MixOutOptIdeal.main_v0_1)) (v2 : (c : Dev Cert.MixOutOptIdeal.nD) → Buf (Elt Ideal) ((c.tc : Thread Cert.MixOutOptIdeal.nD Cert.MixOutOptIdeal.τ).loc Cert.MixOutOptIdeal.main_v0_2)),
      θ_run (Cert.MixOutOptIdeal.defs (F := Ideal)) (onTc (τ := Cert.MixOutOptIdeal.τ) (Cert.MixOutOptIdeal.main (F := Ideal))) ⟨m, fun _ => 0, g⟩ (fun r => ∀ c : Dev Cert.MixOutOptIdeal.nD,
          r.2.mem ((c.tc : Thread Cert.MixOutOptIdeal.nD Cert.MixOutOptIdeal.τ).loc Cert.MixOutOptIdeal.main_v0_0) = v0 c
          ∧ r.2.mem ((c.tc : Thread Cert.MixOutOptIdeal.nD Cert.MixOutOptIdeal.τ).loc Cert.MixOutOptIdeal.main_v0_1) = v1 c
          ∧ r.2.mem ((c.tc : Thread Cert.MixOutOptIdeal.nD Cert.MixOutOptIdeal.τ).loc Cert.MixOutOptIdeal.main_v0_2) = v2 c
          ∧ r.2.mem ((c.tc : Thread Cert.MixOutOptIdeal.nD Cert.MixOutOptIdeal.τ).loc Cert.MixOutOptIdeal.main_arg0) = m ((c.tc : Thread Cert.MixOutOptIdeal.nD Cert.MixOutOptIdeal.τ).loc Cert.MixOutOptIdeal.main_arg0)
          ∧ r.2.mem ((c.tc : Thread Cert.MixOutOptIdeal.nD Cert.MixOutOptIdeal.τ).loc Cert.MixOutOptIdeal.main_arg1) = m ((c.tc : Thread Cert.MixOutOptIdeal.nD Cert.MixOutOptIdeal.τ).loc Cert.MixOutOptIdeal.main_arg1)
          ∧ r.2.mem ((c.tc : Thread Cert.MixOutOptIdeal.nD Cert.MixOutOptIdeal.τ).loc Cert.MixOutOptIdeal.main_arg2) = m ((c.tc : Thread Cert.MixOutOptIdeal.nD Cert.MixOutOptIdeal.τ).loc Cert.MixOutOptIdeal.main_arg2)
          ∧ r.2.mem ((c.tc : Thread Cert.MixOutOptIdeal.nD Cert.MixOutOptIdeal.τ).loc Cert.MixOutOptIdeal.main_arg3) = m ((c.tc : Thread Cert.MixOutOptIdeal.nD Cert.MixOutOptIdeal.τ).loc Cert.MixOutOptIdeal.main_arg3))
      ∧ θ_run (Cert.MixOutOptRefIdeal.defs (F := Ideal)) (onTc (τ := Cert.MixOutOptRefIdeal.τ) (Cert.MixOutOptRefIdeal.main (F := Ideal))) ⟨m', fun _ => 0, g'⟩ (fun r => ∀ c : Dev Cert.MixOutOptRefIdeal.nD,
          r.2.mem ((c.tc : Thread Cert.MixOutOptRefIdeal.nD Cert.MixOutOptRefIdeal.τ).loc Cert.MixOutOptRefIdeal.main_v23) = v0 c
          ∧ r.2.mem ((c.tc : Thread Cert.MixOutOptRefIdeal.nD Cert.MixOutOptRefIdeal.τ).loc Cert.MixOutOptRefIdeal.main_v4) = v1 c
          ∧ r.2.mem ((c.tc : Thread Cert.MixOutOptRefIdeal.nD Cert.MixOutOptRefIdeal.τ).loc Cert.MixOutOptRefIdeal.main_v10) = v2 c
          ∧ r.2.mem ((c.tc : Thread Cert.MixOutOptRefIdeal.nD Cert.MixOutOptRefIdeal.τ).loc Cert.MixOutOptRefIdeal.main_arg0) = m' ((c.tc : Thread Cert.MixOutOptRefIdeal.nD Cert.MixOutOptRefIdeal.τ).loc Cert.MixOutOptRefIdeal.main_arg0)
          ∧ r.2.mem ((c.tc : Thread Cert.MixOutOptRefIdeal.nD Cert.MixOutOptRefIdeal.τ).loc Cert.MixOutOptRefIdeal.main_arg1) = m' ((c.tc : Thread Cert.MixOutOptRefIdeal.nD Cert.MixOutOptRefIdeal.τ).loc Cert.MixOutOptRefIdeal.main_arg1)
          ∧ r.2.mem ((c.tc : Thread Cert.MixOutOptRefIdeal.nD Cert.MixOutOptRefIdeal.τ).loc Cert.MixOutOptRefIdeal.main_arg2) = m' ((c.tc : Thread Cert.MixOutOptRefIdeal.nD Cert.MixOutOptRefIdeal.τ).loc Cert.MixOutOptRefIdeal.main_arg2)
          ∧ r.2.mem ((c.tc : Thread Cert.MixOutOptRefIdeal.nD Cert.MixOutOptRefIdeal.τ).loc Cert.MixOutOptRefIdeal.main_arg3) = m' ((c.tc : Thread Cert.MixOutOptRefIdeal.nD Cert.MixOutOptRefIdeal.τ).loc Cert.MixOutOptRefIdeal.main_arg3))

def preserves_RowOpt_RowOptIdeal : Prop :=
  True

def algebraic_RowOptIdeal_RowOptRefIdeal [hRowOptIdeal : Cert.RowOptIdeal.Facts] [hRowOptRefIdeal : Cert.RowOptRefIdeal.Facts] : Prop :=
  ∀ (m : (ℓ : Loc Cert.RowOptIdeal.nD Cert.RowOptIdeal.τ Cert.RowOptIdeal.sig) → Buf (Elt Ideal) ℓ) (g : Dev Cert.RowOptIdeal.nD → PrngReg)
    (m' : (ℓ : Loc Cert.RowOptRefIdeal.nD Cert.RowOptRefIdeal.τ Cert.RowOptRefIdeal.sig) → Buf (Elt Ideal) ℓ) (g' : Dev Cert.RowOptRefIdeal.nD → PrngReg), Pre_RowOptIdeal m →
    (∀ c : Dev Cert.RowOptIdeal.nD,
      m' ((c.tc : Thread Cert.RowOptRefIdeal.nD Cert.RowOptRefIdeal.τ).loc Cert.RowOptRefIdeal.main_arg0) = m ((c.tc : Thread Cert.RowOptIdeal.nD Cert.RowOptIdeal.τ).loc Cert.RowOptIdeal.main_arg0)
      ∧ m' ((c.tc : Thread Cert.RowOptRefIdeal.nD Cert.RowOptRefIdeal.τ).loc Cert.RowOptRefIdeal.main_arg1) = m ((c.tc : Thread Cert.RowOptIdeal.nD Cert.RowOptIdeal.τ).loc Cert.RowOptIdeal.main_arg1)
      ∧ m' ((c.tc : Thread Cert.RowOptRefIdeal.nD Cert.RowOptRefIdeal.τ).loc Cert.RowOptRefIdeal.main_arg2) = m ((c.tc : Thread Cert.RowOptIdeal.nD Cert.RowOptIdeal.τ).loc Cert.RowOptIdeal.main_arg2)
      ∧ m' ((c.tc : Thread Cert.RowOptRefIdeal.nD Cert.RowOptRefIdeal.τ).loc Cert.RowOptRefIdeal.main_arg3) = m ((c.tc : Thread Cert.RowOptIdeal.nD Cert.RowOptIdeal.τ).loc Cert.RowOptIdeal.main_arg3)) →
    ∃ (v0 : (c : Dev Cert.RowOptIdeal.nD) → Buf (Elt Ideal) ((c.tc : Thread Cert.RowOptIdeal.nD Cert.RowOptIdeal.τ).loc Cert.RowOptIdeal.main_v0_0)) (v1 : (c : Dev Cert.RowOptIdeal.nD) → Buf (Elt Ideal) ((c.tc : Thread Cert.RowOptIdeal.nD Cert.RowOptIdeal.τ).loc Cert.RowOptIdeal.main_v0_1)) (v2 : (c : Dev Cert.RowOptIdeal.nD) → Buf (Elt Ideal) ((c.tc : Thread Cert.RowOptIdeal.nD Cert.RowOptIdeal.τ).loc Cert.RowOptIdeal.main_v0_2)),
      θ_run (Cert.RowOptIdeal.defs (F := Ideal)) (onTc (τ := Cert.RowOptIdeal.τ) (Cert.RowOptIdeal.main (F := Ideal))) ⟨m, fun _ => 0, g⟩ (fun r => ∀ c : Dev Cert.RowOptIdeal.nD,
          r.2.mem ((c.tc : Thread Cert.RowOptIdeal.nD Cert.RowOptIdeal.τ).loc Cert.RowOptIdeal.main_v0_0) = v0 c
          ∧ r.2.mem ((c.tc : Thread Cert.RowOptIdeal.nD Cert.RowOptIdeal.τ).loc Cert.RowOptIdeal.main_v0_1) = v1 c
          ∧ r.2.mem ((c.tc : Thread Cert.RowOptIdeal.nD Cert.RowOptIdeal.τ).loc Cert.RowOptIdeal.main_v0_2) = v2 c
          ∧ r.2.mem ((c.tc : Thread Cert.RowOptIdeal.nD Cert.RowOptIdeal.τ).loc Cert.RowOptIdeal.main_arg0) = m ((c.tc : Thread Cert.RowOptIdeal.nD Cert.RowOptIdeal.τ).loc Cert.RowOptIdeal.main_arg0)
          ∧ r.2.mem ((c.tc : Thread Cert.RowOptIdeal.nD Cert.RowOptIdeal.τ).loc Cert.RowOptIdeal.main_arg1) = m ((c.tc : Thread Cert.RowOptIdeal.nD Cert.RowOptIdeal.τ).loc Cert.RowOptIdeal.main_arg1)
          ∧ r.2.mem ((c.tc : Thread Cert.RowOptIdeal.nD Cert.RowOptIdeal.τ).loc Cert.RowOptIdeal.main_arg2) = m ((c.tc : Thread Cert.RowOptIdeal.nD Cert.RowOptIdeal.τ).loc Cert.RowOptIdeal.main_arg2)
          ∧ r.2.mem ((c.tc : Thread Cert.RowOptIdeal.nD Cert.RowOptIdeal.τ).loc Cert.RowOptIdeal.main_arg3) = m ((c.tc : Thread Cert.RowOptIdeal.nD Cert.RowOptIdeal.τ).loc Cert.RowOptIdeal.main_arg3))
      ∧ θ_run (Cert.RowOptRefIdeal.defs (F := Ideal)) (onTc (τ := Cert.RowOptRefIdeal.τ) (Cert.RowOptRefIdeal.main (F := Ideal))) ⟨m', fun _ => 0, g'⟩ (fun r => ∀ c : Dev Cert.RowOptRefIdeal.nD,
          r.2.mem ((c.tc : Thread Cert.RowOptRefIdeal.nD Cert.RowOptRefIdeal.τ).loc Cert.RowOptRefIdeal.main_v23) = v0 c
          ∧ r.2.mem ((c.tc : Thread Cert.RowOptRefIdeal.nD Cert.RowOptRefIdeal.τ).loc Cert.RowOptRefIdeal.main_v4) = v1 c
          ∧ r.2.mem ((c.tc : Thread Cert.RowOptRefIdeal.nD Cert.RowOptRefIdeal.τ).loc Cert.RowOptRefIdeal.main_v10) = v2 c
          ∧ r.2.mem ((c.tc : Thread Cert.RowOptRefIdeal.nD Cert.RowOptRefIdeal.τ).loc Cert.RowOptRefIdeal.main_arg0) = m' ((c.tc : Thread Cert.RowOptRefIdeal.nD Cert.RowOptRefIdeal.τ).loc Cert.RowOptRefIdeal.main_arg0)
          ∧ r.2.mem ((c.tc : Thread Cert.RowOptRefIdeal.nD Cert.RowOptRefIdeal.τ).loc Cert.RowOptRefIdeal.main_arg1) = m' ((c.tc : Thread Cert.RowOptRefIdeal.nD Cert.RowOptRefIdeal.τ).loc Cert.RowOptRefIdeal.main_arg1)
          ∧ r.2.mem ((c.tc : Thread Cert.RowOptRefIdeal.nD Cert.RowOptRefIdeal.τ).loc Cert.RowOptRefIdeal.main_arg2) = m' ((c.tc : Thread Cert.RowOptRefIdeal.nD Cert.RowOptRefIdeal.τ).loc Cert.RowOptRefIdeal.main_arg2)
          ∧ r.2.mem ((c.tc : Thread Cert.RowOptRefIdeal.nD Cert.RowOptRefIdeal.τ).loc Cert.RowOptRefIdeal.main_arg3) = m' ((c.tc : Thread Cert.RowOptRefIdeal.nD Cert.RowOptRefIdeal.τ).loc Cert.RowOptRefIdeal.main_arg3))

def preserves_FfnUpOpt_FfnUpOptIdeal : Prop :=
  True

def algebraic_FfnUpOptIdeal_FfnUpOptRefIdeal [hFfnUpOptIdeal : Cert.FfnUpOptIdeal.Facts] [hFfnUpOptRefIdeal : Cert.FfnUpOptRefIdeal.Facts] : Prop :=
  ∀ (m : (ℓ : Loc Cert.FfnUpOptIdeal.nD Cert.FfnUpOptIdeal.τ Cert.FfnUpOptIdeal.sig) → Buf (Elt Ideal) ℓ) (g : Dev Cert.FfnUpOptIdeal.nD → PrngReg)
    (m' : (ℓ : Loc Cert.FfnUpOptRefIdeal.nD Cert.FfnUpOptRefIdeal.τ Cert.FfnUpOptRefIdeal.sig) → Buf (Elt Ideal) ℓ) (g' : Dev Cert.FfnUpOptRefIdeal.nD → PrngReg), Pre_FfnUpOptIdeal m →
    (∀ c : Dev Cert.FfnUpOptIdeal.nD,
      m' ((c.tc : Thread Cert.FfnUpOptRefIdeal.nD Cert.FfnUpOptRefIdeal.τ).loc Cert.FfnUpOptRefIdeal.main_arg0) = m ((c.tc : Thread Cert.FfnUpOptIdeal.nD Cert.FfnUpOptIdeal.τ).loc Cert.FfnUpOptIdeal.main_arg0)
      ∧ m' ((c.tc : Thread Cert.FfnUpOptRefIdeal.nD Cert.FfnUpOptRefIdeal.τ).loc Cert.FfnUpOptRefIdeal.main_arg1) = m ((c.tc : Thread Cert.FfnUpOptIdeal.nD Cert.FfnUpOptIdeal.τ).loc Cert.FfnUpOptIdeal.main_arg1)
      ∧ m' ((c.tc : Thread Cert.FfnUpOptRefIdeal.nD Cert.FfnUpOptRefIdeal.τ).loc Cert.FfnUpOptRefIdeal.main_arg2) = m ((c.tc : Thread Cert.FfnUpOptIdeal.nD Cert.FfnUpOptIdeal.τ).loc Cert.FfnUpOptIdeal.main_arg2)
      ∧ m' ((c.tc : Thread Cert.FfnUpOptRefIdeal.nD Cert.FfnUpOptRefIdeal.τ).loc Cert.FfnUpOptRefIdeal.main_arg3) = m ((c.tc : Thread Cert.FfnUpOptIdeal.nD Cert.FfnUpOptIdeal.τ).loc Cert.FfnUpOptIdeal.main_arg3)) →
    ∃ (v0 : (c : Dev Cert.FfnUpOptIdeal.nD) → Buf (Elt Ideal) ((c.tc : Thread Cert.FfnUpOptIdeal.nD Cert.FfnUpOptIdeal.τ).loc Cert.FfnUpOptIdeal.main_v0_0)) (v1 : (c : Dev Cert.FfnUpOptIdeal.nD) → Buf (Elt Ideal) ((c.tc : Thread Cert.FfnUpOptIdeal.nD Cert.FfnUpOptIdeal.τ).loc Cert.FfnUpOptIdeal.main_v0_1)) (v2 : (c : Dev Cert.FfnUpOptIdeal.nD) → Buf (Elt Ideal) ((c.tc : Thread Cert.FfnUpOptIdeal.nD Cert.FfnUpOptIdeal.τ).loc Cert.FfnUpOptIdeal.main_v0_2)),
      θ_run (Cert.FfnUpOptIdeal.defs (F := Ideal)) (onTc (τ := Cert.FfnUpOptIdeal.τ) (Cert.FfnUpOptIdeal.main (F := Ideal))) ⟨m, fun _ => 0, g⟩ (fun r => ∀ c : Dev Cert.FfnUpOptIdeal.nD,
          r.2.mem ((c.tc : Thread Cert.FfnUpOptIdeal.nD Cert.FfnUpOptIdeal.τ).loc Cert.FfnUpOptIdeal.main_v0_0) = v0 c
          ∧ r.2.mem ((c.tc : Thread Cert.FfnUpOptIdeal.nD Cert.FfnUpOptIdeal.τ).loc Cert.FfnUpOptIdeal.main_v0_1) = v1 c
          ∧ r.2.mem ((c.tc : Thread Cert.FfnUpOptIdeal.nD Cert.FfnUpOptIdeal.τ).loc Cert.FfnUpOptIdeal.main_v0_2) = v2 c
          ∧ r.2.mem ((c.tc : Thread Cert.FfnUpOptIdeal.nD Cert.FfnUpOptIdeal.τ).loc Cert.FfnUpOptIdeal.main_arg0) = m ((c.tc : Thread Cert.FfnUpOptIdeal.nD Cert.FfnUpOptIdeal.τ).loc Cert.FfnUpOptIdeal.main_arg0)
          ∧ r.2.mem ((c.tc : Thread Cert.FfnUpOptIdeal.nD Cert.FfnUpOptIdeal.τ).loc Cert.FfnUpOptIdeal.main_arg1) = m ((c.tc : Thread Cert.FfnUpOptIdeal.nD Cert.FfnUpOptIdeal.τ).loc Cert.FfnUpOptIdeal.main_arg1)
          ∧ r.2.mem ((c.tc : Thread Cert.FfnUpOptIdeal.nD Cert.FfnUpOptIdeal.τ).loc Cert.FfnUpOptIdeal.main_arg2) = m ((c.tc : Thread Cert.FfnUpOptIdeal.nD Cert.FfnUpOptIdeal.τ).loc Cert.FfnUpOptIdeal.main_arg2)
          ∧ r.2.mem ((c.tc : Thread Cert.FfnUpOptIdeal.nD Cert.FfnUpOptIdeal.τ).loc Cert.FfnUpOptIdeal.main_arg3) = m ((c.tc : Thread Cert.FfnUpOptIdeal.nD Cert.FfnUpOptIdeal.τ).loc Cert.FfnUpOptIdeal.main_arg3))
      ∧ θ_run (Cert.FfnUpOptRefIdeal.defs (F := Ideal)) (onTc (τ := Cert.FfnUpOptRefIdeal.τ) (Cert.FfnUpOptRefIdeal.main (F := Ideal))) ⟨m', fun _ => 0, g'⟩ (fun r => ∀ c : Dev Cert.FfnUpOptRefIdeal.nD,
          r.2.mem ((c.tc : Thread Cert.FfnUpOptRefIdeal.nD Cert.FfnUpOptRefIdeal.τ).loc Cert.FfnUpOptRefIdeal.main_v23) = v0 c
          ∧ r.2.mem ((c.tc : Thread Cert.FfnUpOptRefIdeal.nD Cert.FfnUpOptRefIdeal.τ).loc Cert.FfnUpOptRefIdeal.main_v4) = v1 c
          ∧ r.2.mem ((c.tc : Thread Cert.FfnUpOptRefIdeal.nD Cert.FfnUpOptRefIdeal.τ).loc Cert.FfnUpOptRefIdeal.main_v10) = v2 c
          ∧ r.2.mem ((c.tc : Thread Cert.FfnUpOptRefIdeal.nD Cert.FfnUpOptRefIdeal.τ).loc Cert.FfnUpOptRefIdeal.main_arg0) = m' ((c.tc : Thread Cert.FfnUpOptRefIdeal.nD Cert.FfnUpOptRefIdeal.τ).loc Cert.FfnUpOptRefIdeal.main_arg0)
          ∧ r.2.mem ((c.tc : Thread Cert.FfnUpOptRefIdeal.nD Cert.FfnUpOptRefIdeal.τ).loc Cert.FfnUpOptRefIdeal.main_arg1) = m' ((c.tc : Thread Cert.FfnUpOptRefIdeal.nD Cert.FfnUpOptRefIdeal.τ).loc Cert.FfnUpOptRefIdeal.main_arg1)
          ∧ r.2.mem ((c.tc : Thread Cert.FfnUpOptRefIdeal.nD Cert.FfnUpOptRefIdeal.τ).loc Cert.FfnUpOptRefIdeal.main_arg2) = m' ((c.tc : Thread Cert.FfnUpOptRefIdeal.nD Cert.FfnUpOptRefIdeal.τ).loc Cert.FfnUpOptRefIdeal.main_arg2)
          ∧ r.2.mem ((c.tc : Thread Cert.FfnUpOptRefIdeal.nD Cert.FfnUpOptRefIdeal.τ).loc Cert.FfnUpOptRefIdeal.main_arg3) = m' ((c.tc : Thread Cert.FfnUpOptRefIdeal.nD Cert.FfnUpOptRefIdeal.τ).loc Cert.FfnUpOptRefIdeal.main_arg3))

def preserves_FfnConvOpt_FfnConvOptIdeal : Prop :=
  True

def algebraic_FfnConvOptIdeal_FfnConvOptRefIdeal [hFfnConvOptIdeal : Cert.FfnConvOptIdeal.Facts] [hFfnConvOptRefIdeal : Cert.FfnConvOptRefIdeal.Facts] : Prop :=
  ∀ (m : (ℓ : Loc Cert.FfnConvOptIdeal.nD Cert.FfnConvOptIdeal.τ Cert.FfnConvOptIdeal.sig) → Buf (Elt Ideal) ℓ) (g : Dev Cert.FfnConvOptIdeal.nD → PrngReg)
    (m' : (ℓ : Loc Cert.FfnConvOptRefIdeal.nD Cert.FfnConvOptRefIdeal.τ Cert.FfnConvOptRefIdeal.sig) → Buf (Elt Ideal) ℓ) (g' : Dev Cert.FfnConvOptRefIdeal.nD → PrngReg), Pre_FfnConvOptIdeal m →
    (∀ c : Dev Cert.FfnConvOptIdeal.nD,
      m' ((c.tc : Thread Cert.FfnConvOptRefIdeal.nD Cert.FfnConvOptRefIdeal.τ).loc Cert.FfnConvOptRefIdeal.main_arg0) = m ((c.tc : Thread Cert.FfnConvOptIdeal.nD Cert.FfnConvOptIdeal.τ).loc Cert.FfnConvOptIdeal.main_arg0)
      ∧ m' ((c.tc : Thread Cert.FfnConvOptRefIdeal.nD Cert.FfnConvOptRefIdeal.τ).loc Cert.FfnConvOptRefIdeal.main_arg1) = m ((c.tc : Thread Cert.FfnConvOptIdeal.nD Cert.FfnConvOptIdeal.τ).loc Cert.FfnConvOptIdeal.main_arg1)
      ∧ m' ((c.tc : Thread Cert.FfnConvOptRefIdeal.nD Cert.FfnConvOptRefIdeal.τ).loc Cert.FfnConvOptRefIdeal.main_arg2) = m ((c.tc : Thread Cert.FfnConvOptIdeal.nD Cert.FfnConvOptIdeal.τ).loc Cert.FfnConvOptIdeal.main_arg2)
      ∧ m' ((c.tc : Thread Cert.FfnConvOptRefIdeal.nD Cert.FfnConvOptRefIdeal.τ).loc Cert.FfnConvOptRefIdeal.main_arg3) = m ((c.tc : Thread Cert.FfnConvOptIdeal.nD Cert.FfnConvOptIdeal.τ).loc Cert.FfnConvOptIdeal.main_arg3)) →
    ∃ (v0 : (c : Dev Cert.FfnConvOptIdeal.nD) → Buf (Elt Ideal) ((c.tc : Thread Cert.FfnConvOptIdeal.nD Cert.FfnConvOptIdeal.τ).loc Cert.FfnConvOptIdeal.main_v0_0)) (v1 : (c : Dev Cert.FfnConvOptIdeal.nD) → Buf (Elt Ideal) ((c.tc : Thread Cert.FfnConvOptIdeal.nD Cert.FfnConvOptIdeal.τ).loc Cert.FfnConvOptIdeal.main_v0_1)) (v2 : (c : Dev Cert.FfnConvOptIdeal.nD) → Buf (Elt Ideal) ((c.tc : Thread Cert.FfnConvOptIdeal.nD Cert.FfnConvOptIdeal.τ).loc Cert.FfnConvOptIdeal.main_v0_2)),
      θ_run (Cert.FfnConvOptIdeal.defs (F := Ideal)) (onTc (τ := Cert.FfnConvOptIdeal.τ) (Cert.FfnConvOptIdeal.main (F := Ideal))) ⟨m, fun _ => 0, g⟩ (fun r => ∀ c : Dev Cert.FfnConvOptIdeal.nD,
          r.2.mem ((c.tc : Thread Cert.FfnConvOptIdeal.nD Cert.FfnConvOptIdeal.τ).loc Cert.FfnConvOptIdeal.main_v0_0) = v0 c
          ∧ r.2.mem ((c.tc : Thread Cert.FfnConvOptIdeal.nD Cert.FfnConvOptIdeal.τ).loc Cert.FfnConvOptIdeal.main_v0_1) = v1 c
          ∧ r.2.mem ((c.tc : Thread Cert.FfnConvOptIdeal.nD Cert.FfnConvOptIdeal.τ).loc Cert.FfnConvOptIdeal.main_v0_2) = v2 c
          ∧ r.2.mem ((c.tc : Thread Cert.FfnConvOptIdeal.nD Cert.FfnConvOptIdeal.τ).loc Cert.FfnConvOptIdeal.main_arg0) = m ((c.tc : Thread Cert.FfnConvOptIdeal.nD Cert.FfnConvOptIdeal.τ).loc Cert.FfnConvOptIdeal.main_arg0)
          ∧ r.2.mem ((c.tc : Thread Cert.FfnConvOptIdeal.nD Cert.FfnConvOptIdeal.τ).loc Cert.FfnConvOptIdeal.main_arg1) = m ((c.tc : Thread Cert.FfnConvOptIdeal.nD Cert.FfnConvOptIdeal.τ).loc Cert.FfnConvOptIdeal.main_arg1)
          ∧ r.2.mem ((c.tc : Thread Cert.FfnConvOptIdeal.nD Cert.FfnConvOptIdeal.τ).loc Cert.FfnConvOptIdeal.main_arg2) = m ((c.tc : Thread Cert.FfnConvOptIdeal.nD Cert.FfnConvOptIdeal.τ).loc Cert.FfnConvOptIdeal.main_arg2)
          ∧ r.2.mem ((c.tc : Thread Cert.FfnConvOptIdeal.nD Cert.FfnConvOptIdeal.τ).loc Cert.FfnConvOptIdeal.main_arg3) = m ((c.tc : Thread Cert.FfnConvOptIdeal.nD Cert.FfnConvOptIdeal.τ).loc Cert.FfnConvOptIdeal.main_arg3))
      ∧ θ_run (Cert.FfnConvOptRefIdeal.defs (F := Ideal)) (onTc (τ := Cert.FfnConvOptRefIdeal.τ) (Cert.FfnConvOptRefIdeal.main (F := Ideal))) ⟨m', fun _ => 0, g'⟩ (fun r => ∀ c : Dev Cert.FfnConvOptRefIdeal.nD,
          r.2.mem ((c.tc : Thread Cert.FfnConvOptRefIdeal.nD Cert.FfnConvOptRefIdeal.τ).loc Cert.FfnConvOptRefIdeal.main_v23) = v0 c
          ∧ r.2.mem ((c.tc : Thread Cert.FfnConvOptRefIdeal.nD Cert.FfnConvOptRefIdeal.τ).loc Cert.FfnConvOptRefIdeal.main_v4) = v1 c
          ∧ r.2.mem ((c.tc : Thread Cert.FfnConvOptRefIdeal.nD Cert.FfnConvOptRefIdeal.τ).loc Cert.FfnConvOptRefIdeal.main_v10) = v2 c
          ∧ r.2.mem ((c.tc : Thread Cert.FfnConvOptRefIdeal.nD Cert.FfnConvOptRefIdeal.τ).loc Cert.FfnConvOptRefIdeal.main_arg0) = m' ((c.tc : Thread Cert.FfnConvOptRefIdeal.nD Cert.FfnConvOptRefIdeal.τ).loc Cert.FfnConvOptRefIdeal.main_arg0)
          ∧ r.2.mem ((c.tc : Thread Cert.FfnConvOptRefIdeal.nD Cert.FfnConvOptRefIdeal.τ).loc Cert.FfnConvOptRefIdeal.main_arg1) = m' ((c.tc : Thread Cert.FfnConvOptRefIdeal.nD Cert.FfnConvOptRefIdeal.τ).loc Cert.FfnConvOptRefIdeal.main_arg1)
          ∧ r.2.mem ((c.tc : Thread Cert.FfnConvOptRefIdeal.nD Cert.FfnConvOptRefIdeal.τ).loc Cert.FfnConvOptRefIdeal.main_arg2) = m' ((c.tc : Thread Cert.FfnConvOptRefIdeal.nD Cert.FfnConvOptRefIdeal.τ).loc Cert.FfnConvOptRefIdeal.main_arg2)
          ∧ r.2.mem ((c.tc : Thread Cert.FfnConvOptRefIdeal.nD Cert.FfnConvOptRefIdeal.τ).loc Cert.FfnConvOptRefIdeal.main_arg3) = m' ((c.tc : Thread Cert.FfnConvOptRefIdeal.nD Cert.FfnConvOptRefIdeal.τ).loc Cert.FfnConvOptRefIdeal.main_arg3))

def preserves_FfnConvBOpt_FfnConvBOptIdeal : Prop :=
  True

def algebraic_FfnConvBOptIdeal_FfnConvBOptRefIdeal [hFfnConvBOptIdeal : Cert.FfnConvBOptIdeal.Facts] [hFfnConvBOptRefIdeal : Cert.FfnConvBOptRefIdeal.Facts] : Prop :=
  ∀ (m : (ℓ : Loc Cert.FfnConvBOptIdeal.nD Cert.FfnConvBOptIdeal.τ Cert.FfnConvBOptIdeal.sig) → Buf (Elt Ideal) ℓ) (g : Dev Cert.FfnConvBOptIdeal.nD → PrngReg)
    (m' : (ℓ : Loc Cert.FfnConvBOptRefIdeal.nD Cert.FfnConvBOptRefIdeal.τ Cert.FfnConvBOptRefIdeal.sig) → Buf (Elt Ideal) ℓ) (g' : Dev Cert.FfnConvBOptRefIdeal.nD → PrngReg), Pre_FfnConvBOptIdeal m →
    (∀ c : Dev Cert.FfnConvBOptIdeal.nD,
      m' ((c.tc : Thread Cert.FfnConvBOptRefIdeal.nD Cert.FfnConvBOptRefIdeal.τ).loc Cert.FfnConvBOptRefIdeal.main_arg0) = m ((c.tc : Thread Cert.FfnConvBOptIdeal.nD Cert.FfnConvBOptIdeal.τ).loc Cert.FfnConvBOptIdeal.main_arg0)
      ∧ m' ((c.tc : Thread Cert.FfnConvBOptRefIdeal.nD Cert.FfnConvBOptRefIdeal.τ).loc Cert.FfnConvBOptRefIdeal.main_arg1) = m ((c.tc : Thread Cert.FfnConvBOptIdeal.nD Cert.FfnConvBOptIdeal.τ).loc Cert.FfnConvBOptIdeal.main_arg1)
      ∧ m' ((c.tc : Thread Cert.FfnConvBOptRefIdeal.nD Cert.FfnConvBOptRefIdeal.τ).loc Cert.FfnConvBOptRefIdeal.main_arg2) = m ((c.tc : Thread Cert.FfnConvBOptIdeal.nD Cert.FfnConvBOptIdeal.τ).loc Cert.FfnConvBOptIdeal.main_arg2)
      ∧ m' ((c.tc : Thread Cert.FfnConvBOptRefIdeal.nD Cert.FfnConvBOptRefIdeal.τ).loc Cert.FfnConvBOptRefIdeal.main_arg3) = m ((c.tc : Thread Cert.FfnConvBOptIdeal.nD Cert.FfnConvBOptIdeal.τ).loc Cert.FfnConvBOptIdeal.main_arg3)) →
    ∃ (v0 : (c : Dev Cert.FfnConvBOptIdeal.nD) → Buf (Elt Ideal) ((c.tc : Thread Cert.FfnConvBOptIdeal.nD Cert.FfnConvBOptIdeal.τ).loc Cert.FfnConvBOptIdeal.main_v0_0)) (v1 : (c : Dev Cert.FfnConvBOptIdeal.nD) → Buf (Elt Ideal) ((c.tc : Thread Cert.FfnConvBOptIdeal.nD Cert.FfnConvBOptIdeal.τ).loc Cert.FfnConvBOptIdeal.main_v0_1)) (v2 : (c : Dev Cert.FfnConvBOptIdeal.nD) → Buf (Elt Ideal) ((c.tc : Thread Cert.FfnConvBOptIdeal.nD Cert.FfnConvBOptIdeal.τ).loc Cert.FfnConvBOptIdeal.main_v0_2)),
      θ_run (Cert.FfnConvBOptIdeal.defs (F := Ideal)) (onTc (τ := Cert.FfnConvBOptIdeal.τ) (Cert.FfnConvBOptIdeal.main (F := Ideal))) ⟨m, fun _ => 0, g⟩ (fun r => ∀ c : Dev Cert.FfnConvBOptIdeal.nD,
          r.2.mem ((c.tc : Thread Cert.FfnConvBOptIdeal.nD Cert.FfnConvBOptIdeal.τ).loc Cert.FfnConvBOptIdeal.main_v0_0) = v0 c
          ∧ r.2.mem ((c.tc : Thread Cert.FfnConvBOptIdeal.nD Cert.FfnConvBOptIdeal.τ).loc Cert.FfnConvBOptIdeal.main_v0_1) = v1 c
          ∧ r.2.mem ((c.tc : Thread Cert.FfnConvBOptIdeal.nD Cert.FfnConvBOptIdeal.τ).loc Cert.FfnConvBOptIdeal.main_v0_2) = v2 c
          ∧ r.2.mem ((c.tc : Thread Cert.FfnConvBOptIdeal.nD Cert.FfnConvBOptIdeal.τ).loc Cert.FfnConvBOptIdeal.main_arg0) = m ((c.tc : Thread Cert.FfnConvBOptIdeal.nD Cert.FfnConvBOptIdeal.τ).loc Cert.FfnConvBOptIdeal.main_arg0)
          ∧ r.2.mem ((c.tc : Thread Cert.FfnConvBOptIdeal.nD Cert.FfnConvBOptIdeal.τ).loc Cert.FfnConvBOptIdeal.main_arg1) = m ((c.tc : Thread Cert.FfnConvBOptIdeal.nD Cert.FfnConvBOptIdeal.τ).loc Cert.FfnConvBOptIdeal.main_arg1)
          ∧ r.2.mem ((c.tc : Thread Cert.FfnConvBOptIdeal.nD Cert.FfnConvBOptIdeal.τ).loc Cert.FfnConvBOptIdeal.main_arg2) = m ((c.tc : Thread Cert.FfnConvBOptIdeal.nD Cert.FfnConvBOptIdeal.τ).loc Cert.FfnConvBOptIdeal.main_arg2)
          ∧ r.2.mem ((c.tc : Thread Cert.FfnConvBOptIdeal.nD Cert.FfnConvBOptIdeal.τ).loc Cert.FfnConvBOptIdeal.main_arg3) = m ((c.tc : Thread Cert.FfnConvBOptIdeal.nD Cert.FfnConvBOptIdeal.τ).loc Cert.FfnConvBOptIdeal.main_arg3))
      ∧ θ_run (Cert.FfnConvBOptRefIdeal.defs (F := Ideal)) (onTc (τ := Cert.FfnConvBOptRefIdeal.τ) (Cert.FfnConvBOptRefIdeal.main (F := Ideal))) ⟨m', fun _ => 0, g'⟩ (fun r => ∀ c : Dev Cert.FfnConvBOptRefIdeal.nD,
          r.2.mem ((c.tc : Thread Cert.FfnConvBOptRefIdeal.nD Cert.FfnConvBOptRefIdeal.τ).loc Cert.FfnConvBOptRefIdeal.main_v23) = v0 c
          ∧ r.2.mem ((c.tc : Thread Cert.FfnConvBOptRefIdeal.nD Cert.FfnConvBOptRefIdeal.τ).loc Cert.FfnConvBOptRefIdeal.main_v4) = v1 c
          ∧ r.2.mem ((c.tc : Thread Cert.FfnConvBOptRefIdeal.nD Cert.FfnConvBOptRefIdeal.τ).loc Cert.FfnConvBOptRefIdeal.main_v10) = v2 c
          ∧ r.2.mem ((c.tc : Thread Cert.FfnConvBOptRefIdeal.nD Cert.FfnConvBOptRefIdeal.τ).loc Cert.FfnConvBOptRefIdeal.main_arg0) = m' ((c.tc : Thread Cert.FfnConvBOptRefIdeal.nD Cert.FfnConvBOptRefIdeal.τ).loc Cert.FfnConvBOptRefIdeal.main_arg0)
          ∧ r.2.mem ((c.tc : Thread Cert.FfnConvBOptRefIdeal.nD Cert.FfnConvBOptRefIdeal.τ).loc Cert.FfnConvBOptRefIdeal.main_arg1) = m' ((c.tc : Thread Cert.FfnConvBOptRefIdeal.nD Cert.FfnConvBOptRefIdeal.τ).loc Cert.FfnConvBOptRefIdeal.main_arg1)
          ∧ r.2.mem ((c.tc : Thread Cert.FfnConvBOptRefIdeal.nD Cert.FfnConvBOptRefIdeal.τ).loc Cert.FfnConvBOptRefIdeal.main_arg2) = m' ((c.tc : Thread Cert.FfnConvBOptRefIdeal.nD Cert.FfnConvBOptRefIdeal.τ).loc Cert.FfnConvBOptRefIdeal.main_arg2)
          ∧ r.2.mem ((c.tc : Thread Cert.FfnConvBOptRefIdeal.nD Cert.FfnConvBOptRefIdeal.τ).loc Cert.FfnConvBOptRefIdeal.main_arg3) = m' ((c.tc : Thread Cert.FfnConvBOptRefIdeal.nD Cert.FfnConvBOptRefIdeal.τ).loc Cert.FfnConvBOptRefIdeal.main_arg3))

def preserves_FfnDownOpt_FfnDownOptIdeal : Prop :=
  True

def algebraic_FfnDownOptIdeal_FfnDownOptRefIdeal [hFfnDownOptIdeal : Cert.FfnDownOptIdeal.Facts] [hFfnDownOptRefIdeal : Cert.FfnDownOptRefIdeal.Facts] : Prop :=
  ∀ (m : (ℓ : Loc Cert.FfnDownOptIdeal.nD Cert.FfnDownOptIdeal.τ Cert.FfnDownOptIdeal.sig) → Buf (Elt Ideal) ℓ) (g : Dev Cert.FfnDownOptIdeal.nD → PrngReg)
    (m' : (ℓ : Loc Cert.FfnDownOptRefIdeal.nD Cert.FfnDownOptRefIdeal.τ Cert.FfnDownOptRefIdeal.sig) → Buf (Elt Ideal) ℓ) (g' : Dev Cert.FfnDownOptRefIdeal.nD → PrngReg), Pre_FfnDownOptIdeal m →
    (∀ c : Dev Cert.FfnDownOptIdeal.nD,
      m' ((c.tc : Thread Cert.FfnDownOptRefIdeal.nD Cert.FfnDownOptRefIdeal.τ).loc Cert.FfnDownOptRefIdeal.main_arg0) = m ((c.tc : Thread Cert.FfnDownOptIdeal.nD Cert.FfnDownOptIdeal.τ).loc Cert.FfnDownOptIdeal.main_arg0)
      ∧ m' ((c.tc : Thread Cert.FfnDownOptRefIdeal.nD Cert.FfnDownOptRefIdeal.τ).loc Cert.FfnDownOptRefIdeal.main_arg1) = m ((c.tc : Thread Cert.FfnDownOptIdeal.nD Cert.FfnDownOptIdeal.τ).loc Cert.FfnDownOptIdeal.main_arg1)
      ∧ m' ((c.tc : Thread Cert.FfnDownOptRefIdeal.nD Cert.FfnDownOptRefIdeal.τ).loc Cert.FfnDownOptRefIdeal.main_arg2) = m ((c.tc : Thread Cert.FfnDownOptIdeal.nD Cert.FfnDownOptIdeal.τ).loc Cert.FfnDownOptIdeal.main_arg2)
      ∧ m' ((c.tc : Thread Cert.FfnDownOptRefIdeal.nD Cert.FfnDownOptRefIdeal.τ).loc Cert.FfnDownOptRefIdeal.main_arg3) = m ((c.tc : Thread Cert.FfnDownOptIdeal.nD Cert.FfnDownOptIdeal.τ).loc Cert.FfnDownOptIdeal.main_arg3)) →
    ∃ (v0 : (c : Dev Cert.FfnDownOptIdeal.nD) → Buf (Elt Ideal) ((c.tc : Thread Cert.FfnDownOptIdeal.nD Cert.FfnDownOptIdeal.τ).loc Cert.FfnDownOptIdeal.main_v0_0)) (v1 : (c : Dev Cert.FfnDownOptIdeal.nD) → Buf (Elt Ideal) ((c.tc : Thread Cert.FfnDownOptIdeal.nD Cert.FfnDownOptIdeal.τ).loc Cert.FfnDownOptIdeal.main_v0_1)) (v2 : (c : Dev Cert.FfnDownOptIdeal.nD) → Buf (Elt Ideal) ((c.tc : Thread Cert.FfnDownOptIdeal.nD Cert.FfnDownOptIdeal.τ).loc Cert.FfnDownOptIdeal.main_v0_2)),
      θ_run (Cert.FfnDownOptIdeal.defs (F := Ideal)) (onTc (τ := Cert.FfnDownOptIdeal.τ) (Cert.FfnDownOptIdeal.main (F := Ideal))) ⟨m, fun _ => 0, g⟩ (fun r => ∀ c : Dev Cert.FfnDownOptIdeal.nD,
          r.2.mem ((c.tc : Thread Cert.FfnDownOptIdeal.nD Cert.FfnDownOptIdeal.τ).loc Cert.FfnDownOptIdeal.main_v0_0) = v0 c
          ∧ r.2.mem ((c.tc : Thread Cert.FfnDownOptIdeal.nD Cert.FfnDownOptIdeal.τ).loc Cert.FfnDownOptIdeal.main_v0_1) = v1 c
          ∧ r.2.mem ((c.tc : Thread Cert.FfnDownOptIdeal.nD Cert.FfnDownOptIdeal.τ).loc Cert.FfnDownOptIdeal.main_v0_2) = v2 c
          ∧ r.2.mem ((c.tc : Thread Cert.FfnDownOptIdeal.nD Cert.FfnDownOptIdeal.τ).loc Cert.FfnDownOptIdeal.main_arg0) = m ((c.tc : Thread Cert.FfnDownOptIdeal.nD Cert.FfnDownOptIdeal.τ).loc Cert.FfnDownOptIdeal.main_arg0)
          ∧ r.2.mem ((c.tc : Thread Cert.FfnDownOptIdeal.nD Cert.FfnDownOptIdeal.τ).loc Cert.FfnDownOptIdeal.main_arg1) = m ((c.tc : Thread Cert.FfnDownOptIdeal.nD Cert.FfnDownOptIdeal.τ).loc Cert.FfnDownOptIdeal.main_arg1)
          ∧ r.2.mem ((c.tc : Thread Cert.FfnDownOptIdeal.nD Cert.FfnDownOptIdeal.τ).loc Cert.FfnDownOptIdeal.main_arg2) = m ((c.tc : Thread Cert.FfnDownOptIdeal.nD Cert.FfnDownOptIdeal.τ).loc Cert.FfnDownOptIdeal.main_arg2)
          ∧ r.2.mem ((c.tc : Thread Cert.FfnDownOptIdeal.nD Cert.FfnDownOptIdeal.τ).loc Cert.FfnDownOptIdeal.main_arg3) = m ((c.tc : Thread Cert.FfnDownOptIdeal.nD Cert.FfnDownOptIdeal.τ).loc Cert.FfnDownOptIdeal.main_arg3))
      ∧ θ_run (Cert.FfnDownOptRefIdeal.defs (F := Ideal)) (onTc (τ := Cert.FfnDownOptRefIdeal.τ) (Cert.FfnDownOptRefIdeal.main (F := Ideal))) ⟨m', fun _ => 0, g'⟩ (fun r => ∀ c : Dev Cert.FfnDownOptRefIdeal.nD,
          r.2.mem ((c.tc : Thread Cert.FfnDownOptRefIdeal.nD Cert.FfnDownOptRefIdeal.τ).loc Cert.FfnDownOptRefIdeal.main_v23) = v0 c
          ∧ r.2.mem ((c.tc : Thread Cert.FfnDownOptRefIdeal.nD Cert.FfnDownOptRefIdeal.τ).loc Cert.FfnDownOptRefIdeal.main_v4) = v1 c
          ∧ r.2.mem ((c.tc : Thread Cert.FfnDownOptRefIdeal.nD Cert.FfnDownOptRefIdeal.τ).loc Cert.FfnDownOptRefIdeal.main_v10) = v2 c
          ∧ r.2.mem ((c.tc : Thread Cert.FfnDownOptRefIdeal.nD Cert.FfnDownOptRefIdeal.τ).loc Cert.FfnDownOptRefIdeal.main_arg0) = m' ((c.tc : Thread Cert.FfnDownOptRefIdeal.nD Cert.FfnDownOptRefIdeal.τ).loc Cert.FfnDownOptRefIdeal.main_arg0)
          ∧ r.2.mem ((c.tc : Thread Cert.FfnDownOptRefIdeal.nD Cert.FfnDownOptRefIdeal.τ).loc Cert.FfnDownOptRefIdeal.main_arg1) = m' ((c.tc : Thread Cert.FfnDownOptRefIdeal.nD Cert.FfnDownOptRefIdeal.τ).loc Cert.FfnDownOptRefIdeal.main_arg1)
          ∧ r.2.mem ((c.tc : Thread Cert.FfnDownOptRefIdeal.nD Cert.FfnDownOptRefIdeal.τ).loc Cert.FfnDownOptRefIdeal.main_arg2) = m' ((c.tc : Thread Cert.FfnDownOptRefIdeal.nD Cert.FfnDownOptRefIdeal.τ).loc Cert.FfnDownOptRefIdeal.main_arg2)
          ∧ r.2.mem ((c.tc : Thread Cert.FfnDownOptRefIdeal.nD Cert.FfnDownOptRefIdeal.τ).loc Cert.FfnDownOptRefIdeal.main_arg3) = m' ((c.tc : Thread Cert.FfnDownOptRefIdeal.nD Cert.FfnDownOptRefIdeal.τ).loc Cert.FfnDownOptRefIdeal.main_arg3))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v3) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_AdaDb_AdaDbIdeal : Prop :=
  True

def algebraic_AdaDbIdeal_AdaDbRefIdeal [hAdaDbIdeal : Cert.AdaDbIdeal.Facts] [hAdaDbRefIdeal : Cert.AdaDbRefIdeal.Facts] : Prop :=
  ∀ (m : (ℓ : Loc Cert.AdaDbIdeal.nD Cert.AdaDbIdeal.τ Cert.AdaDbIdeal.sig) → Buf (Elt Ideal) ℓ) (g : Dev Cert.AdaDbIdeal.nD → PrngReg)
    (m' : (ℓ : Loc Cert.AdaDbRefIdeal.nD Cert.AdaDbRefIdeal.τ Cert.AdaDbRefIdeal.sig) → Buf (Elt Ideal) ℓ) (g' : Dev Cert.AdaDbRefIdeal.nD → PrngReg), Pre_AdaDbIdeal m →
    (∀ c : Dev Cert.AdaDbIdeal.nD,
      m' ((c.tc : Thread Cert.AdaDbRefIdeal.nD Cert.AdaDbRefIdeal.τ).loc Cert.AdaDbRefIdeal.main_arg0) = m ((c.tc : Thread Cert.AdaDbIdeal.nD Cert.AdaDbIdeal.τ).loc Cert.AdaDbIdeal.main_arg0)) →
    ∃ (v0 : (c : Dev Cert.AdaDbIdeal.nD) → Buf (Elt Ideal) ((c.tc : Thread Cert.AdaDbIdeal.nD Cert.AdaDbIdeal.τ).loc Cert.AdaDbIdeal.main_v0)),
      θ_run (Cert.AdaDbIdeal.defs (F := Ideal)) (onTc (τ := Cert.AdaDbIdeal.τ) (Cert.AdaDbIdeal.main (F := Ideal))) ⟨m, fun _ => 0, g⟩ (fun r => ∀ c : Dev Cert.AdaDbIdeal.nD,
          r.2.mem ((c.tc : Thread Cert.AdaDbIdeal.nD Cert.AdaDbIdeal.τ).loc Cert.AdaDbIdeal.main_v0) = v0 c
          ∧ r.2.mem ((c.tc : Thread Cert.AdaDbIdeal.nD Cert.AdaDbIdeal.τ).loc Cert.AdaDbIdeal.main_arg0) = m ((c.tc : Thread Cert.AdaDbIdeal.nD Cert.AdaDbIdeal.τ).loc Cert.AdaDbIdeal.main_arg0))
      ∧ θ_run (Cert.AdaDbRefIdeal.defs (F := Ideal)) (onTc (τ := Cert.AdaDbRefIdeal.τ) (Cert.AdaDbRefIdeal.main (F := Ideal))) ⟨m', fun _ => 0, g'⟩ (fun r => ∀ c : Dev Cert.AdaDbRefIdeal.nD,
          r.2.mem ((c.tc : Thread Cert.AdaDbRefIdeal.nD Cert.AdaDbRefIdeal.τ).loc Cert.AdaDbRefIdeal.main_v5) = v0 c
          ∧ r.2.mem ((c.tc : Thread Cert.AdaDbRefIdeal.nD Cert.AdaDbRefIdeal.τ).loc Cert.AdaDbRefIdeal.main_arg0) = m' ((c.tc : Thread Cert.AdaDbRefIdeal.nD Cert.AdaDbRefIdeal.τ).loc Cert.AdaDbRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hAttn : Cert.Attn.Facts) (hAttnIdeal : Cert.AttnIdeal.Facts) (hAttnRefIdeal : Cert.AttnRefIdeal.Facts) (hFgate : Cert.Fgate.Facts) (hFgateIdeal : Cert.FgateIdeal.Facts) (hFgateRefIdeal : Cert.FgateRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hMainDx : Cert.MainDx.Facts) (hMainDxIdeal : Cert.MainDxIdeal.Facts) (hMainDxRefIdeal : Cert.MainDxRefIdeal.Facts) (hMainDw : Cert.MainDw.Facts) (hMainDwIdeal : Cert.MainDwIdeal.Facts) (hMainDwRefIdeal : Cert.MainDwRefIdeal.Facts) (hUpGateDx : Cert.UpGateDx.Facts) (hUpGateDxIdeal : Cert.UpGateDxIdeal.Facts) (hUpGateDxRefIdeal : Cert.UpGateDxRefIdeal.Facts) (hUpLinDx : Cert.UpLinDx.Facts) (hUpLinDxIdeal : Cert.UpLinDxIdeal.Facts) (hUpLinDxRefIdeal : Cert.UpLinDxRefIdeal.Facts) (hUpGateDw : Cert.UpGateDw.Facts) (hUpGateDwIdeal : Cert.UpGateDwIdeal.Facts) (hUpGateDwRefIdeal : Cert.UpGateDwRefIdeal.Facts) (hUpLinDw : Cert.UpLinDw.Facts) (hUpLinDwIdeal : Cert.UpLinDwIdeal.Facts) (hUpLinDwRefIdeal : Cert.UpLinDwRefIdeal.Facts) (hMixDx : Cert.MixDx.Facts) (hMixDxIdeal : Cert.MixDxIdeal.Facts) (hMixDxRefIdeal : Cert.MixDxRefIdeal.Facts) (hMixDw : Cert.MixDw.Facts) (hMixDwIdeal : Cert.MixDwIdeal.Facts) (hMixDwRefIdeal : Cert.MixDwRefIdeal.Facts) (hConvDx : Cert.ConvDx.Facts) (hConvDxIdeal : Cert.ConvDxIdeal.Facts) (hConvDxRefIdeal : Cert.ConvDxRefIdeal.Facts) (hConvDw : Cert.ConvDw.Facts) (hConvDwIdeal : Cert.ConvDwIdeal.Facts) (hConvDwRefIdeal : Cert.ConvDwRefIdeal.Facts) (hProjDx : Cert.ProjDx.Facts) (hProjDxIdeal : Cert.ProjDxIdeal.Facts) (hProjDxRefIdeal : Cert.ProjDxRefIdeal.Facts) (hProjDxt : Cert.ProjDxt.Facts) (hProjDxtIdeal : Cert.ProjDxtIdeal.Facts) (hProjDxtRefIdeal : Cert.ProjDxtRefIdeal.Facts) (hProjDw : Cert.ProjDw.Facts) (hProjDwIdeal : Cert.ProjDwIdeal.Facts) (hProjDwRefIdeal : Cert.ProjDwRefIdeal.Facts) (hMainFw : Cert.MainFw.Facts) (hMainFwIdeal : Cert.MainFwIdeal.Facts) (hMainFwRefIdeal : Cert.MainFwRefIdeal.Facts) (hUpFw : Cert.UpFw.Facts) (hUpFwIdeal : Cert.UpFwIdeal.Facts) (hUpFwRefIdeal : Cert.UpFwRefIdeal.Facts) (hDownFw : Cert.DownFw.Facts) (hDownFwIdeal : Cert.DownFwIdeal.Facts) (hDownFwRefIdeal : Cert.DownFwRefIdeal.Facts) (hMixFw : Cert.MixFw.Facts) (hMixFwIdeal : Cert.MixFwIdeal.Facts) (hMixFwRefIdeal : Cert.MixFwRefIdeal.Facts) (hConvFw : Cert.ConvFw.Facts) (hConvFwIdeal : Cert.ConvFwIdeal.Facts) (hConvFwRefIdeal : Cert.ConvFwRefIdeal.Facts) (hProjFw : Cert.ProjFw.Facts) (hProjFwIdeal : Cert.ProjFwIdeal.Facts) (hProjFwRefIdeal : Cert.ProjFwRefIdeal.Facts) (hAdaOpt : Cert.AdaOpt.Facts) (hAdaOptIdeal : Cert.AdaOptIdeal.Facts) (hAdaOptRefIdeal : Cert.AdaOptRefIdeal.Facts) (hAdaBOpt : Cert.AdaBOpt.Facts) (hAdaBOptIdeal : Cert.AdaBOptIdeal.Facts) (hAdaBOptRefIdeal : Cert.AdaBOptRefIdeal.Facts) (hInOpt : Cert.InOpt.Facts) (hInOptIdeal : Cert.InOptIdeal.Facts) (hInOptRefIdeal : Cert.InOptRefIdeal.Facts) (hInBOpt : Cert.InBOpt.Facts) (hInBOptIdeal : Cert.InBOptIdeal.Facts) (hInBOptRefIdeal : Cert.InBOptRefIdeal.Facts) (hConvAOpt : Cert.ConvAOpt.Facts) (hConvAOptIdeal : Cert.ConvAOptIdeal.Facts) (hConvAOptRefIdeal : Cert.ConvAOptRefIdeal.Facts) (hChOpt : Cert.ChOpt.Facts) (hChOptIdeal : Cert.ChOptIdeal.Facts) (hChOptRefIdeal : Cert.ChOptRefIdeal.Facts) (hBranchOpt : Cert.BranchOpt.Facts) (hBranchOptIdeal : Cert.BranchOptIdeal.Facts) (hBranchOptRefIdeal : Cert.BranchOptRefIdeal.Facts) (hMixOutOpt : Cert.MixOutOpt.Facts) (hMixOutOptIdeal : Cert.MixOutOptIdeal.Facts) (hMixOutOptRefIdeal : Cert.MixOutOptRefIdeal.Facts) (hRowOpt : Cert.RowOpt.Facts) (hRowOptIdeal : Cert.RowOptIdeal.Facts) (hRowOptRefIdeal : Cert.RowOptRefIdeal.Facts) (hFfnUpOpt : Cert.FfnUpOpt.Facts) (hFfnUpOptIdeal : Cert.FfnUpOptIdeal.Facts) (hFfnUpOptRefIdeal : Cert.FfnUpOptRefIdeal.Facts) (hFfnConvOpt : Cert.FfnConvOpt.Facts) (hFfnConvOptIdeal : Cert.FfnConvOptIdeal.Facts) (hFfnConvOptRefIdeal : Cert.FfnConvOptRefIdeal.Facts) (hFfnConvBOpt : Cert.FfnConvBOpt.Facts) (hFfnConvBOptIdeal : Cert.FfnConvBOptIdeal.Facts) (hFfnConvBOptRefIdeal : Cert.FfnConvBOptRefIdeal.Facts) (hFfnDownOpt : Cert.FfnDownOpt.Facts) (hFfnDownOptIdeal : Cert.FfnDownOptIdeal.Facts) (hFfnDownOptRefIdeal : Cert.FfnDownOptRefIdeal.Facts) (hAdaDw : Cert.AdaDw.Facts) (hAdaDwIdeal : Cert.AdaDwIdeal.Facts) (hAdaDwRefIdeal : Cert.AdaDwRefIdeal.Facts) (hAdaDb : Cert.AdaDb.Facts) (hAdaDbIdeal : Cert.AdaDbIdeal.Facts) (hAdaDbRefIdeal : Cert.AdaDbRefIdeal.Facts) (hSumSmall : Cert.SumSmall.Facts) (hSumSmallIdeal : Cert.SumSmallIdeal.Facts) (hSumSmallRefIdeal : Cert.SumSmallRefIdeal.Facts) (hPre_finite_attn : Cert.Pre_finite_attn.Facts) (hPre_finite_dcum : Cert.Pre_finite_dcum.Facts),
    quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Fgate (hFgate := hFgate)
    ∧ quiescent_FgateIdeal (hFgateIdeal := hFgateIdeal)
    ∧ quiescent_FgateIdeal_pre_finite_dcum (hFgateIdeal := hFgateIdeal) (hPre_finite_dcum := hPre_finite_dcum)
    ∧ quiescent_FgateRefIdeal (hFgateRefIdeal := hFgateRefIdeal)
    ∧ quiescent_FgateRefIdeal_pre_finite_dcum (hFgateRefIdeal := hFgateRefIdeal) (hPre_finite_dcum := hPre_finite_dcum)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_MainDx (hMainDx := hMainDx)
    ∧ quiescent_MainDxIdeal (hMainDxIdeal := hMainDxIdeal)
    ∧ quiescent_MainDxRefIdeal (hMainDxRefIdeal := hMainDxRefIdeal)
    ∧ quiescent_MainDw (hMainDw := hMainDw)
    ∧ quiescent_MainDwIdeal (hMainDwIdeal := hMainDwIdeal)
    ∧ quiescent_MainDwRefIdeal (hMainDwRefIdeal := hMainDwRefIdeal)
    ∧ quiescent_UpGateDx (hUpGateDx := hUpGateDx)
    ∧ quiescent_UpGateDxIdeal (hUpGateDxIdeal := hUpGateDxIdeal)
    ∧ quiescent_UpGateDxRefIdeal (hUpGateDxRefIdeal := hUpGateDxRefIdeal)
    ∧ quiescent_UpLinDx (hUpLinDx := hUpLinDx)
    ∧ quiescent_UpLinDxIdeal (hUpLinDxIdeal := hUpLinDxIdeal)
    ∧ quiescent_UpLinDxRefIdeal (hUpLinDxRefIdeal := hUpLinDxRefIdeal)
    ∧ quiescent_UpGateDw (hUpGateDw := hUpGateDw)
    ∧ quiescent_UpGateDwIdeal (hUpGateDwIdeal := hUpGateDwIdeal)
    ∧ quiescent_UpGateDwRefIdeal (hUpGateDwRefIdeal := hUpGateDwRefIdeal)
    ∧ quiescent_UpLinDw (hUpLinDw := hUpLinDw)
    ∧ quiescent_UpLinDwIdeal (hUpLinDwIdeal := hUpLinDwIdeal)
    ∧ quiescent_UpLinDwRefIdeal (hUpLinDwRefIdeal := hUpLinDwRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_ConvDx (hConvDx := hConvDx)
    ∧ quiescent_ConvDxIdeal (hConvDxIdeal := hConvDxIdeal)
    ∧ quiescent_ConvDxRefIdeal (hConvDxRefIdeal := hConvDxRefIdeal)
    ∧ quiescent_ConvDw (hConvDw := hConvDw)
    ∧ quiescent_ConvDwIdeal (hConvDwIdeal := hConvDwIdeal)
    ∧ quiescent_ConvDwRefIdeal (hConvDwRefIdeal := hConvDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDxt (hProjDxt := hProjDxt)
    ∧ quiescent_ProjDxtIdeal (hProjDxtIdeal := hProjDxtIdeal)
    ∧ quiescent_ProjDxtRefIdeal (hProjDxtRefIdeal := hProjDxtRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_MainFw (hMainFw := hMainFw)
    ∧ quiescent_MainFwIdeal (hMainFwIdeal := hMainFwIdeal)
    ∧ quiescent_MainFwRefIdeal (hMainFwRefIdeal := hMainFwRefIdeal)
    ∧ quiescent_UpFw (hUpFw := hUpFw)
    ∧ quiescent_UpFwIdeal (hUpFwIdeal := hUpFwIdeal)
    ∧ quiescent_UpFwRefIdeal (hUpFwRefIdeal := hUpFwRefIdeal)
    ∧ quiescent_DownFw (hDownFw := hDownFw)
    ∧ quiescent_DownFwIdeal (hDownFwIdeal := hDownFwIdeal)
    ∧ quiescent_DownFwRefIdeal (hDownFwRefIdeal := hDownFwRefIdeal)
    ∧ quiescent_MixFw (hMixFw := hMixFw)
    ∧ quiescent_MixFwIdeal (hMixFwIdeal := hMixFwIdeal)
    ∧ quiescent_MixFwRefIdeal (hMixFwRefIdeal := hMixFwRefIdeal)
    ∧ quiescent_ConvFw (hConvFw := hConvFw)
    ∧ quiescent_ConvFwIdeal (hConvFwIdeal := hConvFwIdeal)
    ∧ quiescent_ConvFwRefIdeal (hConvFwRefIdeal := hConvFwRefIdeal)
    ∧ quiescent_ProjFw (hProjFw := hProjFw)
    ∧ quiescent_ProjFwIdeal (hProjFwIdeal := hProjFwIdeal)
    ∧ quiescent_ProjFwRefIdeal (hProjFwRefIdeal := hProjFwRefIdeal)
    ∧ quiescent_AdaOpt (hAdaOpt := hAdaOpt)
    ∧ quiescent_AdaOptIdeal (hAdaOptIdeal := hAdaOptIdeal)
    ∧ quiescent_AdaOptRefIdeal (hAdaOptRefIdeal := hAdaOptRefIdeal)
    ∧ quiescent_AdaBOpt (hAdaBOpt := hAdaBOpt)
    ∧ quiescent_AdaBOptIdeal (hAdaBOptIdeal := hAdaBOptIdeal)
    ∧ quiescent_AdaBOptRefIdeal (hAdaBOptRefIdeal := hAdaBOptRefIdeal)
    ∧ quiescent_InOpt (hInOpt := hInOpt)
    ∧ quiescent_InOptIdeal (hInOptIdeal := hInOptIdeal)
    ∧ quiescent_InOptRefIdeal (hInOptRefIdeal := hInOptRefIdeal)
    ∧ quiescent_InBOpt (hInBOpt := hInBOpt)
    ∧ quiescent_InBOptIdeal (hInBOptIdeal := hInBOptIdeal)
    ∧ quiescent_InBOptRefIdeal (hInBOptRefIdeal := hInBOptRefIdeal)
    ∧ quiescent_ConvAOpt (hConvAOpt := hConvAOpt)
    ∧ quiescent_ConvAOptIdeal (hConvAOptIdeal := hConvAOptIdeal)
    ∧ quiescent_ConvAOptRefIdeal (hConvAOptRefIdeal := hConvAOptRefIdeal)
    ∧ quiescent_ChOpt (hChOpt := hChOpt)
    ∧ quiescent_ChOptIdeal (hChOptIdeal := hChOptIdeal)
    ∧ quiescent_ChOptRefIdeal (hChOptRefIdeal := hChOptRefIdeal)
    ∧ quiescent_BranchOpt (hBranchOpt := hBranchOpt)
    ∧ quiescent_BranchOptIdeal (hBranchOptIdeal := hBranchOptIdeal)
    ∧ quiescent_BranchOptRefIdeal (hBranchOptRefIdeal := hBranchOptRefIdeal)
    ∧ quiescent_MixOutOpt (hMixOutOpt := hMixOutOpt)
    ∧ quiescent_MixOutOptIdeal (hMixOutOptIdeal := hMixOutOptIdeal)
    ∧ quiescent_MixOutOptRefIdeal (hMixOutOptRefIdeal := hMixOutOptRefIdeal)
    ∧ quiescent_RowOpt (hRowOpt := hRowOpt)
    ∧ quiescent_RowOptIdeal (hRowOptIdeal := hRowOptIdeal)
    ∧ quiescent_RowOptRefIdeal (hRowOptRefIdeal := hRowOptRefIdeal)
    ∧ quiescent_FfnUpOpt (hFfnUpOpt := hFfnUpOpt)
    ∧ quiescent_FfnUpOptIdeal (hFfnUpOptIdeal := hFfnUpOptIdeal)
    ∧ quiescent_FfnUpOptRefIdeal (hFfnUpOptRefIdeal := hFfnUpOptRefIdeal)
    ∧ quiescent_FfnConvOpt (hFfnConvOpt := hFfnConvOpt)
    ∧ quiescent_FfnConvOptIdeal (hFfnConvOptIdeal := hFfnConvOptIdeal)
    ∧ quiescent_FfnConvOptRefIdeal (hFfnConvOptRefIdeal := hFfnConvOptRefIdeal)
    ∧ quiescent_FfnConvBOpt (hFfnConvBOpt := hFfnConvBOpt)
    ∧ quiescent_FfnConvBOptIdeal (hFfnConvBOptIdeal := hFfnConvBOptIdeal)
    ∧ quiescent_FfnConvBOptRefIdeal (hFfnConvBOptRefIdeal := hFfnConvBOptRefIdeal)
    ∧ quiescent_FfnDownOpt (hFfnDownOpt := hFfnDownOpt)
    ∧ quiescent_FfnDownOptIdeal (hFfnDownOptIdeal := hFfnDownOptIdeal)
    ∧ quiescent_FfnDownOptRefIdeal (hFfnDownOptRefIdeal := hFfnDownOptRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_AdaDb (hAdaDb := hAdaDb)
    ∧ quiescent_AdaDbIdeal (hAdaDbIdeal := hAdaDbIdeal)
    ∧ quiescent_AdaDbRefIdeal (hAdaDbRefIdeal := hAdaDbRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Fgate_FgateIdeal
    ∧ algebraic_FgateIdeal_FgateRefIdeal_pre_finite_dcum (hFgateIdeal := hFgateIdeal) (hFgateRefIdeal := hFgateRefIdeal) (hPre_finite_dcum := hPre_finite_dcum)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_MainDx_MainDxIdeal
    ∧ algebraic_MainDxIdeal_MainDxRefIdeal (hMainDxIdeal := hMainDxIdeal) (hMainDxRefIdeal := hMainDxRefIdeal)
    ∧ preserves_MainDw_MainDwIdeal
    ∧ algebraic_MainDwIdeal_MainDwRefIdeal (hMainDwIdeal := hMainDwIdeal) (hMainDwRefIdeal := hMainDwRefIdeal)
    ∧ preserves_UpGateDx_UpGateDxIdeal
    ∧ algebraic_UpGateDxIdeal_UpGateDxRefIdeal (hUpGateDxIdeal := hUpGateDxIdeal) (hUpGateDxRefIdeal := hUpGateDxRefIdeal)
    ∧ preserves_UpLinDx_UpLinDxIdeal
    ∧ algebraic_UpLinDxIdeal_UpLinDxRefIdeal (hUpLinDxIdeal := hUpLinDxIdeal) (hUpLinDxRefIdeal := hUpLinDxRefIdeal)
    ∧ preserves_UpGateDw_UpGateDwIdeal
    ∧ algebraic_UpGateDwIdeal_UpGateDwRefIdeal (hUpGateDwIdeal := hUpGateDwIdeal) (hUpGateDwRefIdeal := hUpGateDwRefIdeal)
    ∧ preserves_UpLinDw_UpLinDwIdeal
    ∧ algebraic_UpLinDwIdeal_UpLinDwRefIdeal (hUpLinDwIdeal := hUpLinDwIdeal) (hUpLinDwRefIdeal := hUpLinDwRefIdeal)
    ∧ preserves_MixDx_MixDxIdeal
    ∧ algebraic_MixDxIdeal_MixDxRefIdeal (hMixDxIdeal := hMixDxIdeal) (hMixDxRefIdeal := hMixDxRefIdeal)
    ∧ preserves_MixDw_MixDwIdeal
    ∧ algebraic_MixDwIdeal_MixDwRefIdeal (hMixDwIdeal := hMixDwIdeal) (hMixDwRefIdeal := hMixDwRefIdeal)
    ∧ preserves_ConvDx_ConvDxIdeal
    ∧ algebraic_ConvDxIdeal_ConvDxRefIdeal (hConvDxIdeal := hConvDxIdeal) (hConvDxRefIdeal := hConvDxRefIdeal)
    ∧ preserves_ConvDw_ConvDwIdeal
    ∧ algebraic_ConvDwIdeal_ConvDwRefIdeal (hConvDwIdeal := hConvDwIdeal) (hConvDwRefIdeal := hConvDwRefIdeal)
    ∧ preserves_ProjDx_ProjDxIdeal
    ∧ algebraic_ProjDxIdeal_ProjDxRefIdeal (hProjDxIdeal := hProjDxIdeal) (hProjDxRefIdeal := hProjDxRefIdeal)
    ∧ preserves_ProjDxt_ProjDxtIdeal
    ∧ algebraic_ProjDxtIdeal_ProjDxtRefIdeal (hProjDxtIdeal := hProjDxtIdeal) (hProjDxtRefIdeal := hProjDxtRefIdeal)
    ∧ preserves_ProjDw_ProjDwIdeal
    ∧ algebraic_ProjDwIdeal_ProjDwRefIdeal (hProjDwIdeal := hProjDwIdeal) (hProjDwRefIdeal := hProjDwRefIdeal)
    ∧ preserves_MainFw_MainFwIdeal
    ∧ algebraic_MainFwIdeal_MainFwRefIdeal (hMainFwIdeal := hMainFwIdeal) (hMainFwRefIdeal := hMainFwRefIdeal)
    ∧ preserves_UpFw_UpFwIdeal
    ∧ algebraic_UpFwIdeal_UpFwRefIdeal (hUpFwIdeal := hUpFwIdeal) (hUpFwRefIdeal := hUpFwRefIdeal)
    ∧ preserves_DownFw_DownFwIdeal
    ∧ algebraic_DownFwIdeal_DownFwRefIdeal (hDownFwIdeal := hDownFwIdeal) (hDownFwRefIdeal := hDownFwRefIdeal)
    ∧ preserves_MixFw_MixFwIdeal
    ∧ algebraic_MixFwIdeal_MixFwRefIdeal (hMixFwIdeal := hMixFwIdeal) (hMixFwRefIdeal := hMixFwRefIdeal)
    ∧ preserves_ConvFw_ConvFwIdeal
    ∧ algebraic_ConvFwIdeal_ConvFwRefIdeal (hConvFwIdeal := hConvFwIdeal) (hConvFwRefIdeal := hConvFwRefIdeal)
    ∧ preserves_ProjFw_ProjFwIdeal
    ∧ algebraic_ProjFwIdeal_ProjFwRefIdeal (hProjFwIdeal := hProjFwIdeal) (hProjFwRefIdeal := hProjFwRefIdeal)
    ∧ preserves_AdaOpt_AdaOptIdeal
    ∧ algebraic_AdaOptIdeal_AdaOptRefIdeal (hAdaOptIdeal := hAdaOptIdeal) (hAdaOptRefIdeal := hAdaOptRefIdeal)
    ∧ preserves_AdaBOpt_AdaBOptIdeal
    ∧ algebraic_AdaBOptIdeal_AdaBOptRefIdeal (hAdaBOptIdeal := hAdaBOptIdeal) (hAdaBOptRefIdeal := hAdaBOptRefIdeal)
    ∧ preserves_InOpt_InOptIdeal
    ∧ algebraic_InOptIdeal_InOptRefIdeal (hInOptIdeal := hInOptIdeal) (hInOptRefIdeal := hInOptRefIdeal)
    ∧ preserves_InBOpt_InBOptIdeal
    ∧ algebraic_InBOptIdeal_InBOptRefIdeal (hInBOptIdeal := hInBOptIdeal) (hInBOptRefIdeal := hInBOptRefIdeal)
    ∧ preserves_ConvAOpt_ConvAOptIdeal
    ∧ algebraic_ConvAOptIdeal_ConvAOptRefIdeal (hConvAOptIdeal := hConvAOptIdeal) (hConvAOptRefIdeal := hConvAOptRefIdeal)
    ∧ preserves_ChOpt_ChOptIdeal
    ∧ algebraic_ChOptIdeal_ChOptRefIdeal (hChOptIdeal := hChOptIdeal) (hChOptRefIdeal := hChOptRefIdeal)
    ∧ preserves_BranchOpt_BranchOptIdeal
    ∧ algebraic_BranchOptIdeal_BranchOptRefIdeal (hBranchOptIdeal := hBranchOptIdeal) (hBranchOptRefIdeal := hBranchOptRefIdeal)
    ∧ preserves_MixOutOpt_MixOutOptIdeal
    ∧ algebraic_MixOutOptIdeal_MixOutOptRefIdeal (hMixOutOptIdeal := hMixOutOptIdeal) (hMixOutOptRefIdeal := hMixOutOptRefIdeal)
    ∧ preserves_RowOpt_RowOptIdeal
    ∧ algebraic_RowOptIdeal_RowOptRefIdeal (hRowOptIdeal := hRowOptIdeal) (hRowOptRefIdeal := hRowOptRefIdeal)
    ∧ preserves_FfnUpOpt_FfnUpOptIdeal
    ∧ algebraic_FfnUpOptIdeal_FfnUpOptRefIdeal (hFfnUpOptIdeal := hFfnUpOptIdeal) (hFfnUpOptRefIdeal := hFfnUpOptRefIdeal)
    ∧ preserves_FfnConvOpt_FfnConvOptIdeal
    ∧ algebraic_FfnConvOptIdeal_FfnConvOptRefIdeal (hFfnConvOptIdeal := hFfnConvOptIdeal) (hFfnConvOptRefIdeal := hFfnConvOptRefIdeal)
    ∧ preserves_FfnConvBOpt_FfnConvBOptIdeal
    ∧ algebraic_FfnConvBOptIdeal_FfnConvBOptRefIdeal (hFfnConvBOptIdeal := hFfnConvBOptIdeal) (hFfnConvBOptRefIdeal := hFfnConvBOptRefIdeal)
    ∧ preserves_FfnDownOpt_FfnDownOptIdeal
    ∧ algebraic_FfnDownOptIdeal_FfnDownOptRefIdeal (hFfnDownOptIdeal := hFfnDownOptIdeal) (hFfnDownOptRefIdeal := hFfnDownOptRefIdeal)
    ∧ preserves_AdaDw_AdaDwIdeal
    ∧ algebraic_AdaDwIdeal_AdaDwRefIdeal (hAdaDwIdeal := hAdaDwIdeal) (hAdaDwRefIdeal := hAdaDwRefIdeal)
    ∧ preserves_AdaDb_AdaDbIdeal
    ∧ algebraic_AdaDbIdeal_AdaDbRefIdeal (hAdaDbIdeal := hAdaDbIdeal) (hAdaDbRefIdeal := hAdaDbRefIdeal)
    ∧ preserves_SumSmall_SumSmallIdeal
    ∧ algebraic_SumSmallIdeal_SumSmallRefIdeal (hSumSmallIdeal := hSumSmallIdeal) (hSumSmallRefIdeal := hSumSmallRefIdeal)
-- ==== Pre_finite_attn.lean ====
abbrev S8192x4608 : Shape := ⟨2, ![8192, 4608]⟩
abbrev S4x8x2048 : Shape := ⟨3, ![4, 8, 2048]⟩
abbrev S8192x512 : Shape := ⟨2, ![8192, 512]⟩
abbrev S_ : Shape := ⟨0, ![]⟩

class Facts : Prop where
  bitsLt_bf16_f32 : FTy.bits .bf16 < FTy.bits .f32
  bcast_S_S8192x4608 : S_.BroadcastsInDim S8192x4608 (![] : Fin 0 → Fin S8192x4608.rank)
  bcast_S_S4x8x2048 : S_.BroadcastsInDim S4x8x2048 (![] : Fin 0 → Fin S4x8x2048.rank)
  bcast_S_S8192x512 : S_.BroadcastsInDim S8192x512 (![] : Fin 0 → Fin S8192x512.rank)

variable [Facts]

def fn {F : FTy → Type} [FloatOps F] (main_arg0 : FVec F S8192x4608 .bf16) (main_arg1 : FVec F S4x8x2048 .f32) (main_arg2 : FVec F S8192x512 .bf16) : IVec S8192x4608 1 × IVec S4x8x2048 1 × IVec S8192x512 1 :=
  let main_v0 : FVec F S8192x4608 .f32 := (extf .f32 · bitsLt_bf16_f32) main_arg0
  let main_v1 : FVec F S8192x4608 .f32 := Host.absf main_v0
  let main_cst : FVec F S_ .f32 := constant S_ .f32 0x7F800000#32
  let main_v2 : FVec F S8192x4608 .f32 := broadcastInDim S8192x4608 ![] bcast_S_S8192x4608 main_cst
  let main_v3 : IVec S8192x4608 1 := cmpf .olt main_v1 main_v2
  let main_v4 : FVec F S4x8x2048 .f32 := Host.absf main_arg1
  let main_cst_0 : FVec F S_ .f32 := constant S_ .f32 0x7F800000#32
  let main_v5 : FVec F S4x8x2048 .f32 := broadcastInDim S4x8x2048 ![] bcast_S_S4x8x2048 main_cst_0
  let main_v6 : IVec S4x8x2048 1 := cmpf .olt main_v4 main_v5
  let main_v7 : FVec F S8192x512 .f32 := (extf .f32 · bitsLt_bf16_f32) main_arg2
  let main_v8 : FVec F S8192x512 .f32 := Host.absf main_v7
  let main_cst_1 : FVec F S_ .f32 := constant S_ .f32 0x7F800000#32
  let main_v9 : FVec F S8192x512 .f32 := broadcastInDim S8192x512 ![] bcast_S_S8192x512 main_cst_1
  let main_v10 : IVec S8192x512 1 := cmpf .olt main_v8 main_v9
  (main_v3, main_v6, main_v10)
-- ==== Pre_finite_dcum.lean ====
abbrev S4x4x2048x128 : Shape := ⟨4, ![4, 4, 2048, 128]⟩
abbrev S8192x128 : Shape := ⟨2, ![8192, 128]⟩
abbrev S_ : Shape := ⟨0, ![]⟩

class Facts : Prop where
  bcast_S_S4x4x2048x128 : S_.BroadcastsInDim S4x4x2048x128 (![] : Fin 0 → Fin S4x4x2048x128.rank)

variable [Facts]

def fn {F : FTy → Type} [FloatOps F] (main_arg0 : FVec F S4x4x2048x128 .f32) (main_arg1 : FVec F S8192x128 .f32) : IVec S4x4x2048x128 1 :=
  let main_v0 : FVec F S4x4x2048x128 .f32 := Host.absf main_arg0
  let main_cst : FVec F S_ .f32 := constant S_ .f32 0x7F800000#32
  let main_v1 : FVec F S4x4x2048x128 .f32 := broadcastInDim S4x4x2048x128 ![] bcast_S_S4x4x2048x128 main_cst
  let main_v2 : IVec S4x4x2048x128 1 := cmpf .olt main_v0 main_v1
  main_v2
-- ==== Attn.lean ====
abbrev S8192x4608 : Shape := ⟨2, ![8192, 4608]⟩
abbrev S4x8x2048 : Shape := ⟨3, ![4, 8, 2048]⟩
abbrev S8192x512 : Shape := ⟨2, ![8192, 512]⟩
abbrev S8192x1536 : Shape := ⟨2, ![8192, 1536]⟩
abbrev S4x2048x8x64 : Shape := ⟨4, ![4, 2048, 8, 64]⟩
abbrev S4x8x2048x64 : Shape := ⟨4, ![4, 8, 2048, 64]⟩
abbrev S_ : Shape := ⟨0, ![]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S8x64x4x2048 : Shape := ⟨4, ![8, 64, 4, 2048]⟩
abbrev S512x8192 : Shape := ⟨2, ![512, 8192]⟩
abbrev S4x4x2x2048 : Shape := ⟨4, ![4, 4, 2, 2048]⟩
abbrev S4x4x8x2048 : Shape := ⟨4, ![4, 4, 8, 2048]⟩
abbrev S4x8x2048x128 : Shape := ⟨4, ![4, 8, 2048, 128]⟩
abbrev S1536x8192 : Shape := ⟨2, ![1536, 8192]⟩
abbrev S4x4x2048x128 : Shape := ⟨4, ![4, 4, 2048, 128]⟩
abbrev S256x128 : Shape := ⟨2, ![256, 128]⟩
abbrev S128x256 : Shape := ⟨2, ![128, 256]⟩
abbrev S2048x128 : Shape := ⟨2, ![2048, 128]⟩
abbrev S128x2048 : Shape := ⟨2, ![128, 2048]⟩
abbrev S1x1x8x2048 : Shape := ⟨4, ![1, 1, 8, 2048]⟩
abbrev S1x2x256x128 : Shape := ⟨4, ![1, 2, 256, 128]⟩
abbrev S1x8x2048 : Shape := ⟨3, ![1, 8, 2048]⟩
abbrev S1x1x256x128 : Shape := ⟨4, ![1, 1, 256, 128]⟩
abbrev S2x256x256 : Shape := ⟨3, ![2, 256, 256]⟩
abbrev S256x256 : Shape := ⟨2, ![256, 256]⟩
abbrev S1x1x256 : Shape := ⟨3, ![1, 1, 256]⟩
abbrev S1x256 : Shape := ⟨2, ![1, 256]⟩
abbrev S1x1x1x256 : Shape := ⟨4, ![1, 1, 1, 256]⟩
abbrev S256 : Shape := ⟨1, ![256]⟩
abbrev S1x256x256 : Shape := ⟨3, ![1, 256, 256]⟩
abbrev S256x1 : Shape := ⟨2, ![256, 1]⟩
abbrev S4x2048x128 : Shape := ⟨3, ![4, 2048, 128]⟩
abbrev S4x2048x8 : Shape := ⟨3, ![4, 2048, 8]⟩

abbrev nBuf : Space → Nat
  | .hbm => 74
  | .vmem => 32
  | .smem => 0
  | _ => 0

abbrev bufTy : (tb : Table) → Fin (tcTables nBuf tb) → BufTy
  | .hbm, ⟨0, _⟩ => ⟨S8192x4608, .bf16⟩
  | .hbm, ⟨1, _⟩ => ⟨S4x8x2048, .f32⟩
  | .hbm, ⟨2, _⟩ => ⟨S8192x512, .bf16⟩
  | .hbm, ⟨3, _⟩ => ⟨S8192x1536, .bf16⟩
  | .hbm, ⟨4, _⟩ => ⟨S8192x512, .bf16⟩
  | .hbm, ⟨5, _⟩ => ⟨S4x2048x8x64, .bf16⟩
  | .hbm, ⟨6, _⟩ => ⟨S4x8x2048x64, .bf16⟩
  | .hbm, ⟨7, _⟩ => ⟨S4x8x2048x64, .f32⟩
  | .hbm, ⟨8, _⟩ => ⟨S8192x512, .bf16⟩
  | .hbm, ⟨9, _⟩ => ⟨S4x2048x8x64, .bf16⟩
  | .hbm, ⟨10, _⟩ => ⟨S4x8x2048x64, .bf16⟩
  | .hbm, ⟨11, _⟩ => ⟨S4x8x2048x64, .f32⟩
  | .hbm, ⟨12, _⟩ => ⟨S8192x512, .bf16⟩
  | .hbm, ⟨13, _⟩ => ⟨S4x2048x8x64, .bf16⟩
  | .hbm, ⟨14, _⟩ => ⟨S4x8x2048x64, .bf16⟩
  | .hbm, ⟨15, _⟩ => ⟨S4x8x2048x64, .f32⟩
  | .hbm, ⟨16, _⟩ => ⟨S_, .f32⟩
  | .hbm, ⟨17, _⟩ => ⟨S4x8x2048x64, .f32⟩
  | .hbm, ⟨18, _⟩ => ⟨S4x8x2048x64, .f32⟩
  | .hbm, ⟨19, _⟩ => ⟨S4x8x2048x2048, .f32⟩
  | .hbm, ⟨20, _⟩ => ⟨S4x8x2048x1, .f32⟩
  | .hbm, ⟨21, _⟩ => ⟨S4x8x2048x2048, .f32⟩
  | .hbm, ⟨22, _⟩ => ⟨S4x8x2048x2048, .f32⟩
  | .hbm, ⟨23, _⟩ => ⟨S4x8x1x2048, .f32⟩
  | .hbm, ⟨24, _⟩ => ⟨S4x8x2048x2048, .f32⟩
  | .hbm, ⟨25, _⟩ => ⟨S4x8x2048x2048, .f32⟩
  | .hbm, ⟨26, _⟩ => ⟨S2048, .i32⟩
  | .hbm, ⟨27, _⟩ => ⟨S2048x1, .i32⟩
  | .hbm, ⟨28, _⟩ => ⟨S2048, .i32⟩
  | .hbm, ⟨29, _⟩ => ⟨S1x2048, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S1x1x2048x2048, .i1⟩
  | .hbm, ⟨34, _⟩ => ⟨S_, .f32⟩
  | .hbm, ⟨35, _⟩ => ⟨S_, .f32⟩
  | .hbm, ⟨36, _⟩ => ⟨S4x8x2048x2048, .i1⟩
  | .hbm, ⟨37, _⟩ => ⟨S4x8x2048x2048, .f32⟩
  | .hbm, ⟨38, _⟩ => ⟨S4x8x2048x2048, .f32⟩
  | .hbm, ⟨39, _⟩ => ⟨S_, .f32⟩
  | .hbm, ⟨40, _⟩ => ⟨S4x8x2048, .f32⟩
  | .hbm, ⟨41, _⟩ => ⟨S4x8x2048x1, .f32⟩
  | .hbm, ⟨42, _⟩ => ⟨S4x8x2048x2048, .f32⟩
  | .hbm, ⟨43, _⟩ => ⟨S4x8x2048x2048, .f32⟩
  | .hbm, ⟨44, _⟩ => ⟨S4x8x2048x2048, .f32⟩
  | .hbm, ⟨45, _⟩ => ⟨S_, .f32⟩
  | .hbm, ⟨46, _⟩ => ⟨S4x8x2048, .f32⟩
  | .hbm, ⟨47, _⟩ => ⟨S4x8x2048x1, .f32⟩
  | .hbm, ⟨48, _⟩ => ⟨S4x8x2048x1, .f32⟩
  | .hbm, ⟨49, _⟩ => ⟨S4x8x2048x1, .f32⟩
  | .hbm, ⟨50, _⟩ => ⟨S4x8x2048, .f32⟩
  | .hbm, ⟨51, _⟩ => ⟨S4x8x2048x2048, .f32⟩
  | .hbm, ⟨52, _⟩ => ⟨S4x8x2048x2048, .f32⟩
  | .hbm, ⟨53, _⟩ => ⟨S4x8x2048x64, .f32⟩
  | .hbm, ⟨54, _⟩ => ⟨S8x64x4x2048, .f32⟩
  | .hbm, ⟨55, _⟩ => ⟨S512x8192, .f32⟩
  | .hbm, ⟨56, _⟩ => ⟨S4x4x2x2048, .f32⟩
  | .hbm, ⟨57, _⟩ => ⟨S_, .i32⟩
  | .hbm, ⟨58, _⟩ => ⟨S_, .f32⟩
  | .hbm, ⟨59, _⟩ => ⟨S4x4x8x2048, .f32⟩
  | .hbm, ⟨60, _⟩ => ⟨S4x8x2048x1, .f32⟩
  | .hbm, ⟨61, _⟩ => ⟨S4x8x2048x128, .f32⟩
  | .hbm, ⟨62, _⟩ => ⟨S1536x8192, .bf16⟩
  | .hbm, ⟨63, _⟩ => ⟨S512x8192, .bf16⟩
  | .hbm, ⟨64, _⟩ => ⟨S8192x512, .bf16⟩
  | .hbm, ⟨65, _⟩ => ⟨S8192x512, .bf16⟩
  | .hbm, ⟨66, _⟩ => ⟨S512x8192, .f32⟩
  | .hbm, ⟨67, _⟩ => ⟨S4x4x2048x128, .f32⟩
  | .hbm, ⟨68, _⟩ => ⟨S8192x512, .f32⟩
  | .hbm, ⟨69, _⟩ => ⟨S8192x512, .bf16⟩
  | .hbm, ⟨70, _⟩ => ⟨S_, .f32⟩
  | .hbm, ⟨71, _⟩ => ⟨S4x2048x128, .f32⟩
  | .hbm, ⟨72, _⟩ => ⟨S4x2048x8, .f32⟩
  | .hbm, ⟨73, _⟩ => ⟨S4x8x2048, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S128x256, .bf16⟩
  | .local _ .vmem, ⟨5, _⟩ => ⟨S128x256, .bf16⟩
  | .local _ .vmem, ⟨6, _⟩ => ⟨S2048x128, .bf16⟩
  | .local _ .vmem, ⟨7, _⟩ => ⟨S2048x128, .bf16⟩
  | .local _ .vmem, ⟨8, _⟩ => ⟨S128x2048, .bf16⟩
  | .local _ .vmem, ⟨9, _⟩ => ⟨S128x2048, .bf16⟩
  | .local _ .vmem, ⟨10, _⟩ => ⟨S2048x128, .bf16⟩
  | .local _ .vmem, ⟨11, _⟩ => ⟨S2048x128, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .f32⟩
  | .local _ .vmem, ⟨15, _⟩ => ⟨S128x2048, .f32⟩
  | .local _ .vmem, ⟨16, _⟩ => ⟨S1x1x8x2048, .f32⟩
  | .local _ .vmem, ⟨17, _⟩ => ⟨S1x1x8x2048, .f32⟩
  | .local _ .vmem, ⟨18, _⟩ => ⟨S1x2x256x128, .f32⟩
  | .local _ .vmem, ⟨19, _⟩ => ⟨S1x2x256x128, .f32⟩
  | .local _ .vmem, ⟨20, _⟩ => ⟨S1x8x2048, .f32⟩
  | .local _ .vmem, ⟨21, _⟩ => ⟨S1x8x2048, .f32⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S256x128, .bf16⟩
  | .local _ .vmem, ⟨26, _⟩ => ⟨S128x2048, .f32⟩
  | .local _ .vmem, ⟨27, _⟩ => ⟨S128x2048, .f32⟩
  | .local _ .vmem, ⟨28, _⟩ => ⟨S1x1x256x128, .f32⟩
  | .local _ .vmem, ⟨29, _⟩ => ⟨S1x1x256x128, .f32⟩
  | .local _ .vmem, ⟨30, _⟩ => ⟨S128x2048, .f32⟩
  | .local _ .vmem, ⟨31, _⟩ => ⟨S2x256x256, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_0 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c : Ref sig .tc := ⟨.hbm, 57, rfl⟩
abbrev main_call1_v0 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52_0 : Ref sig .tc := ⟨.hbm, 64, rfl⟩
abbrev main_v52_1 : Ref sig .tc := ⟨.hbm, 65, rfl⟩
abbrev main_v52_2 : Ref sig .tc := ⟨.hbm, 66, rfl⟩
abbrev main_v52_3 : Ref sig .tc := ⟨.hbm, 67, rfl⟩
abbrev main_v53 : Ref sig .tc := ⟨.hbm, 68, rfl⟩
abbrev main_v54 : Ref sig .tc := ⟨.hbm, 69, rfl⟩
abbrev main_cst_3 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c256_i32 : BitVec 32 := 256#32
  let v34 : BitVec 32 := Scalar.muli arg2 c256_i32
  v34
def k0_off1 (i : grid0.Coords) : Fin 2 → Nat :=
  let c0_22 : Index := 0#32
  let arg2 : BitVec 32 := BitVec.ofNat 32 (i 2).val
  let c256_i32 : BitVec 32 := 256#32
  let v34 : BitVec 32 := Scalar.muli arg2 c256_i32
  let v35 : BitVec 32 := v34
  let v36 : Index := Scalar.indexCast v35
  ![0, v36.toNat]
def k0_off2 (i : grid0.Coords) : Fin 2 → Nat :=
  let arg2 : BitVec 32 := BitVec.ofNat 32 (i 2).val
  let c256_i32 : BitVec 32 := 256#32
  let v34 : BitVec 32 := Scalar.muli arg2 c256_i32
  let v35 : BitVec 32 := v34
  let v45 : Index := Scalar.indexCast v35
  let c0_25 : Index := 0#32
  ![v45.toNat, 0]
def k0_off3 (i : grid0.Coords) (c0_i32_31 : BitVec 32) : Fin 3 → Nat :=
  let c0_32 : Index := 0#32
  let c2_i32 : BitVec 32 := 2#32
  let arg1 : BitVec 32 := BitVec.ofNat 32 (i 1).val
  let v56 : BitVec 32 := Scalar.muli c2_i32 arg1
  let v57 : BitVec 32 := Scalar.addi v56 c0_i32_31
  let v58 : Index := Scalar.indexCast v57
  let arg2 : BitVec 32 := BitVec.ofNat 32 (i 2).val
  let c256_i32 : BitVec 32 := 256#32
  let v34 : BitVec 32 := Scalar.muli arg2 c256_i32
  let v35 : BitVec 32 := v34
  let v59 : Index := Scalar.indexCast v35
  ![0, v58.toNat, v59.toNat]
def k0_off4 (i : grid0.Coords) : Fin 4 → Nat :=
  let c0_33 : Index := 0#32
  let c0_34 : Index := 0#32
  let c0_35 : Index := 0#32
  let arg2 : BitVec 32 := BitVec.ofNat 32 (i 2).val
  let c256_i32 : BitVec 32 := 256#32
  let v34 : BitVec 32 := Scalar.muli arg2 c256_i32
  let v35 : BitVec 32 := v34
  let v65 : Index := Scalar.indexCast v35
  ![0, 0, 0, v65.toNat]
def k0_off5 (i : grid0.Coords) : Fin 4 → Nat :=
  let c0_60 : Index := 0#32
  let c0_61 : Index := 0#32
  let c1_62 : Index := 1#32
  let arg2 : BitVec 32 := BitVec.ofNat 32 (i 2).val
  let c256_i32 : BitVec 32 := 256#32
  let v34 : BitVec 32 := Scalar.muli arg2 c256_i32
  let v35 : BitVec 32 := v34
  let v126 : Index := Scalar.indexCast v35
  ![0, 0, 1, v126.toNat]
@[reducible] def k0_t1_loop (i : grid0.Coords) : Scf.Loop 32 :=
  let c0_i32_88 : BitVec 32 := 0#32
  let c8_i32 : BitVec 32 := 8#32
  let arg2 : BitVec 32 := BitVec.ofNat 32 (i 2).val
  let c1_i32_81 : BitVec 32 := 1#32
  let v171 : BitVec 32 := Scalar.addi arg2 c1_i32_81
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v190 : BitVec 32 := Scalar.subi v189 c0_i32_88
  let c1_i32_89 : BitVec 32 := 1#32
  let v192 : BitVec 32 := Scalar.divsi v190 c1_i32_89
  let v193 : BitVec 32 := Scalar.muli v192 c1_i32_89
  let v194 : BitVec 32 := Scalar.addi c0_i32_88 v193
  let c1_i32_90 : BitVec 32 := 1#32
  ⟨c0_i32_88, v194, c1_i32_90⟩
def k0_mult2 (i : grid0.Coords) (k0_t1 : Fin (k0_t1_loop i).trips) : BitVec 32 :=
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c1_i32_90 : BitVec 32 := 1#32
  let arg20 : BitVec 32 := Scf.iv c0_i32_88 c1_i32_90 k0_t1
  let v251 : BitVec 32 := Scalar.muli c4_i32_123 arg20
  let v252 : BitVec 32 := Scalar.addi v171 v251
  let c0_i32_124 : BitVec 32 := 0#32
  let v253 : BitVec 32 := Scalar.addi v252 c0_i32_124
  let c256_i32_125 : BitVec 32 := 256#32
  let v254 : BitVec 32 := Scalar.muli v253 c256_i32_125
  v254
def k0_off6 (i : grid0.Coords) (k0_t1 : Fin (k0_t1_loop i).trips) (c0_i32_124 : BitVec 32) : Fin 2 → Nat :=
  let c0_126 : Index := 0#32
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c1_i32_90 : BitVec 32 := 1#32
  let arg20 : BitVec 32 := Scf.iv c0_i32_88 c1_i32_90 k0_t1
  let v251 : BitVec 32 := Scalar.muli c4_i32_123 arg20
  let v252 : BitVec 32 := Scalar.addi v171 v251
  let v253 : BitVec 32 := Scalar.addi v252 c0_i32_124
  let c256_i32_125 : BitVec 32 := 256#32
  let v254 : BitVec 32 := Scalar.muli v253 c256_i32_125
  let v255 : BitVec 32 := v254
  let v256 : Index := Scalar.indexCast v255
  ![0, v256.toNat]
def k0_off7 (i : grid0.Coords) (k0_t1 : Fin (k0_t1_loop i).trips) (c0_i32_124 : BitVec 32) : Fin 2 → Nat :=
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c1_i32_90 : BitVec 32 := 1#32
  let arg20 : BitVec 32 := Scf.iv c0_i32_88 c1_i32_90 k0_t1
  let v251 : BitVec 32 := Scalar.muli c4_i32_123 arg20
  let v252 : BitVec 32 := Scalar.addi v171 v251
  let v253 : BitVec 32 := Scalar.addi v252 c0_i32_124
  let c256_i32_125 : BitVec 32 := 256#32
  let v254 : BitVec 32 := Scalar.muli v253 c256_i32_125
  let v255 : BitVec 32 := v254
  let v265 : Index := Scalar.indexCast v255
  let c0_129 : Index := 0#32
  ![v265.toNat, 0]
def k0_off8 (i : grid0.Coords) (k0_t1 : Fin (k0_t1_loop i).trips) (c0_i32_136 : BitVec 32) (c0_i32_124 : BitVec 32) : Fin 3 → Nat :=
  let c0_137 : Index := 0#32
  let c2_i32_135 : BitVec 32 := 2#32
  let arg1 : BitVec 32 := BitVec.ofNat 32 (i 1).val
  let v276 : BitVec 32 := Scalar.muli c2_i32_135 arg1
  let v277 : BitVec 32 := Scalar.addi v276 c0_i32_136
  let v278 : Index := Scalar.indexCast v277
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c1_i32_90 : BitVec 32 := 1#32
  let arg20 : BitVec 32 := Scf.iv c0_i32_88 c1_i32_90 k0_t1
  let v251 : BitVec 32 := Scalar.muli c4_i32_123 arg20
  let v252 : BitVec 32 := Scalar.addi v171 v251
  let v253 : BitVec 32 := Scalar.addi v252 c0_i32_124
  let c256_i32_125 : BitVec 32 := 256#32
  let v254 : BitVec 32 := Scalar.muli v253 c256_i32_125
  let v255 : BitVec 32 := v254
  let v279 : Index := Scalar.indexCast v255
  ![0, v278.toNat, v279.toNat]
def k0_off9 (i : grid0.Coords) (k0_t1 : Fin (k0_t1_loop i).trips) (c0_i32_124 : BitVec 32) : Fin 4 → Nat :=
  let c0_138 : Index := 0#32
  let c0_139 : Index := 0#32
  let c0_140 : Index := 0#32
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c1_i32_90 : BitVec 32 := 1#32
  let arg20 : BitVec 32 := Scf.iv c0_i32_88 c1_i32_90 k0_t1
  let v251 : BitVec 32 := Scalar.muli c4_i32_123 arg20
  let v252 : BitVec 32 := Scalar.addi v171 v251
  let v253 : BitVec 32 := Scalar.addi v252 c0_i32_124
  let c256_i32_125 : BitVec 32 := 256#32
  let v254 : BitVec 32 := Scalar.muli v253 c256_i32_125
  let v255 : BitVec 32 := v254
  let v285 : Index := Scalar.indexCast v255
  ![0, 0, 0, v285.toNat]
def k0_off10 (i : grid0.Coords) (k0_t1 : Fin (k0_t1_loop i).trips) (c0_i32_124 : BitVec 32) : Fin 4 → Nat :=
  let c0_165 : Index := 0#32
  let c0_166 : Index := 0#32
  let c1_167 : Index := 1#32
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c1_i32_90 : BitVec 32 := 1#32
  let arg20 : BitVec 32 := Scf.iv c0_i32_88 c1_i32_90 k0_t1
  let v251 : BitVec 32 := Scalar.muli c4_i32_123 arg20
  let v252 : BitVec 32 := Scalar.addi v171 v251
  let v253 : BitVec 32 := Scalar.addi v252 c0_i32_124
  let c256_i32_125 : BitVec 32 := 256#32
  let v254 : BitVec 32 := Scalar.muli v253 c256_i32_125
  let v255 : BitVec 32 := v254
  let v343 : Index := Scalar.indexCast v255
  ![0, 0, 1, v343.toNat]
def k0_mult3 (i : grid0.Coords) (k0_t1 : Fin (k0_t1_loop i).trips) : BitVec 32 :=
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c1_i32_90 : BitVec 32 := 1#32
  let arg20 : BitVec 32 := Scf.iv c0_i32_88 c1_i32_90 k0_t1
  let v251 : BitVec 32 := Scalar.muli c4_i32_123 arg20
  let v252 : BitVec 32 := Scalar.addi v171 v251
  let c1_i32_185 : BitVec 32 := 1#32
  let v385 : BitVec 32 := Scalar.addi v252 c1_i32_185
  let c256_i32_186 : BitVec 32 := 256#32
  let v386 : BitVec 32 := Scalar.muli v385 c256_i32_186
  v386
def k0_mult4 (i : grid0.Coords) (k0_t1 : Fin (k0_t1_loop i).trips) : BitVec 32 :=
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c1_i32_90 : BitVec 32 := 1#32
  let arg20 : BitVec 32 := Scf.iv c0_i32_88 c1_i32_90 k0_t1
  let v251 : BitVec 32 := Scalar.muli c4_i32_123 arg20
  let v252 : BitVec 32 := Scalar.addi v171 v251
  let c2_i32_246 : BitVec 32 := 2#32
  let v517 : BitVec 32 := Scalar.addi v252 c2_i32_246
  let c256_i32_247 : BitVec 32 := 256#32
  let v518 : BitVec 32 := Scalar.muli v517 c256_i32_247
  v518
def k0_mult5 (i : grid0.Coords) (k0_t1 : Fin (k0_t1_loop i).trips) : BitVec 32 :=
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c1_i32_90 : BitVec 32 := 1#32
  let arg20 : BitVec 32 := Scf.iv c0_i32_88 c1_i32_90 k0_t1
  let v251 : BitVec 32 := Scalar.muli c4_i32_123 arg20
  let v252 : BitVec 32 := Scalar.addi v171 v251
  let c3_i32_307 : BitVec 32 := 3#32
  let v649 : BitVec 32 := Scalar.addi v252 c3_i32_307
  let c256_i32_308 : BitVec 32 := 256#32
  let v650 : BitVec 32 := Scalar.muli v649 c256_i32_308
  v650
@[reducible] def k0_t2_loop (i : grid0.Coords) : Scf.Loop 32 :=
  let c0_i32_88 : BitVec 32 := 0#32
  let c8_i32 : BitVec 32 := 8#32
  let arg2 : BitVec 32 := BitVec.ofNat 32 (i 2).val
  let c1_i32_81 : BitVec 32 := 1#32
  let v171 : BitVec 32 := Scalar.addi arg2 c1_i32_81
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v190 : BitVec 32 := Scalar.subi v189 c0_i32_88
  let c1_i32_89 : BitVec 32 := 1#32
  let v192 : BitVec 32 := Scalar.divsi v190 c1_i32_89
  let v193 : BitVec 32 := Scalar.muli v192 c1_i32_89
  let v194 : BitVec 32 := Scalar.addi c0_i32_88 v193
  let v191 : BitVec 32 := Scalar.addi c0_i32_88 v190
  let c1_i32_91 : BitVec 32 := 1#32
  ⟨v194, v191, c1_i32_91⟩
def k0_mult6 (i : grid0.Coords) (k0_t2 : Fin (k0_t2_loop i).trips) : BitVec 32 :=
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v190 : BitVec 32 := Scalar.subi v189 c0_i32_88
  let c1_i32_89 : BitVec 32 := 1#32
  let v192 : BitVec 32 := Scalar.divsi v190 c1_i32_89
  let v193 : BitVec 32 := Scalar.muli v192 c1_i32_89
  let v194 : BitVec 32 := Scalar.addi c0_i32_88 v193
  let c1_i32_91 : BitVec 32 := 1#32
  let arg20 : BitVec 32 := Scf.iv v194 c1_i32_91 k0_t2
  let v251 : BitVec 32 := Scalar.muli c4_i32_123 arg20
  let v252 : BitVec 32 := Scalar.addi v171 v251
  let c0_i32_124 : BitVec 32 := 0#32
  let v253 : BitVec 32 := Scalar.addi v252 c0_i32_124
  let c256_i32_125 : BitVec 32 := 256#32
  let v254 : BitVec 32 := Scalar.muli v253 c256_i32_125
  v254
def k0_off11 (i : grid0.Coords) (k0_t2 : Fin (k0_t2_loop i).trips) (c0_i32_124 : BitVec 32) : Fin 2 → Nat :=
  let c0_126 : Index := 0#32
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v190 : BitVec 32 := Scalar.subi v189 c0_i32_88
  let c1_i32_89 : BitVec 32 := 1#32
  let v192 : BitVec 32 := Scalar.divsi v190 c1_i32_89
  let v193 : BitVec 32 := Scalar.muli v192 c1_i32_89
  let v194 : BitVec 32 := Scalar.addi c0_i32_88 v193
  let c1_i32_91 : BitVec 32 := 1#32
  let arg20 : BitVec 32 := Scf.iv v194 c1_i32_91 k0_t2
  let v251 : BitVec 32 := Scalar.muli c4_i32_123 arg20
  let v252 : BitVec 32 := Scalar.addi v171 v251
  let v253 : BitVec 32 := Scalar.addi v252 c0_i32_124
  let c256_i32_125 : BitVec 32 := 256#32
  let v254 : BitVec 32 := Scalar.muli v253 c256_i32_125
  let v255 : BitVec 32 := v254
  let v256 : Index := Scalar.indexCast v255
  ![0, v256.toNat]
def k0_off12 (i : grid0.Coords) (k0_t2 : Fin (k0_t2_loop i).trips) (c0_i32_124 : BitVec 32) : Fin 2 → Nat :=
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v190 : BitVec 32 := Scalar.subi v189 c0_i32_88
  let c1_i32_89 : BitVec 32 := 1#32
  let v192 : BitVec 32 := Scalar.divsi v190 c1_i32_89
  let v193 : BitVec 32 := Scalar.muli v192 c1_i32_89
  let v194 : BitVec 32 := Scalar.addi c0_i32_88 v193
  let c1_i32_91 : BitVec 32 := 1#32
  let arg20 : BitVec 32 := Scf.iv v194 c1_i32_91 k0_t2
  let v251 : BitVec 32 := Scalar.muli c4_i32_123 arg20
  let v252 : BitVec 32 := Scalar.addi v171 v251
  let v253 : BitVec 32 := Scalar.addi v252 c0_i32_124
  let c256_i32_125 : BitVec 32 := 256#32
  let v254 : BitVec 32 := Scalar.muli v253 c256_i32_125
  let v255 : BitVec 32 := v254
  let v265 : Index := Scalar.indexCast v255
  let c0_129 : Index := 0#32
  ![v265.toNat, 0]
def k0_off13 (i : grid0.Coords) (k0_t2 : Fin (k0_t2_loop i).trips) (c0_i32_136 : BitVec 32) (c0_i32_124 : BitVec 32) : Fin 3 → Nat :=
  let c0_137 : Index := 0#32
  let c2_i32_135 : BitVec 32 := 2#32
  let arg1 : BitVec 32 := BitVec.ofNat 32 (i 1).val
  let v276 : BitVec 32 := Scalar.muli c2_i32_135 arg1
  let v277 : BitVec 32 := Scalar.addi v276 c0_i32_136
  let v278 : Index := Scalar.indexCast v277
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v190 : BitVec 32 := Scalar.subi v189 c0_i32_88
  let c1_i32_89 : BitVec 32 := 1#32
  let v192 : BitVec 32 := Scalar.divsi v190 c1_i32_89
  let v193 : BitVec 32 := Scalar.muli v192 c1_i32_89
  let v194 : BitVec 32 := Scalar.addi c0_i32_88 v193
  let c1_i32_91 : BitVec 32 := 1#32
  let arg20 : BitVec 32 := Scf.iv v194 c1_i32_91 k0_t2
  let v251 : BitVec 32 := Scalar.muli c4_i32_123 arg20
  let v252 : BitVec 32 := Scalar.addi v171 v251
  let v253 : BitVec 32 := Scalar.addi v252 c0_i32_124
  let c256_i32_125 : BitVec 32 := 256#32
  let v254 : BitVec 32 := Scalar.muli v253 c256_i32_125
  let v255 : BitVec 32 := v254
  let v279 : Index := Scalar.indexCast v255
  ![0, v278.toNat, v279.toNat]
def k0_off14 (i : grid0.Coords) (k0_t2 : Fin (k0_t2_loop i).trips) (c0_i32_124 : BitVec 32) : Fin 4 → Nat :=
  let c0_138 : Index := 0#32
  let c0_139 : Index := 0#32
  let c0_140 : Index := 0#32
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v190 : BitVec 32 := Scalar.subi v189 c0_i32_88
  let c1_i32_89 : BitVec 32 := 1#32
  let v192 : BitVec 32 := Scalar.divsi v190 c1_i32_89
  let v193 : BitVec 32 := Scalar.muli v192 c1_i32_89
  let v194 : BitVec 32 := Scalar.addi c0_i32_88 v193
  let c1_i32_91 : BitVec 32 := 1#32
  let arg20 : BitVec 32 := Scf.iv v194 c1_i32_91 k0_t2
  let v251 : BitVec 32 := Scalar.muli c4_i32_123 arg20
  let v252 : BitVec 32 := Scalar.addi v171 v251
  let v253 : BitVec 32 := Scalar.addi v252 c0_i32_124
  let c256_i32_125 : BitVec 32 := 256#32
  let v254 : BitVec 32 := Scalar.muli v253 c256_i32_125
  let v255 : BitVec 32 := v254
  let v285 : Index := Scalar.indexCast v255
  ![0, 0, 0, v285.toNat]
def k0_off15 (i : grid0.Coords) (k0_t2 : Fin (k0_t2_loop i).trips) (c0_i32_124 : BitVec 32) : Fin 4 → Nat :=
  let c0_165 : Index := 0#32
  let c0_166 : Index := 0#32
  let c1_167 : Index := 1#32
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v190 : BitVec 32 := Scalar.subi v189 c0_i32_88
  let c1_i32_89 : BitVec 32 := 1#32
  let v192 : BitVec 32 := Scalar.divsi v190 c1_i32_89
  let v193 : BitVec 32 := Scalar.muli v192 c1_i32_89
  let v194 : BitVec 32 := Scalar.addi c0_i32_88 v193
  let c1_i32_91 : BitVec 32 := 1#32
  let arg20 : BitVec 32 := Scf.iv v194 c1_i32_91 k0_t2
  let v251 : BitVec 32 := Scalar.muli c4_i32_123 arg20
  let v252 : BitVec 32 := Scalar.addi v171 v251
  let v253 : BitVec 32 := Scalar.addi v252 c0_i32_124
  let c256_i32_125 : BitVec 32 := 256#32
  let v254 : BitVec 32 := Scalar.muli v253 c256_i32_125
  let v255 : BitVec 32 := v254
  let v343 : Index := Scalar.indexCast v255
  ![0, 0, 1, v343.toNat]
def k0_mult7 (i : grid0.Coords) (k0_t2 : Fin (k0_t2_loop i).trips) : BitVec 32 :=
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v190 : BitVec 32 := Scalar.subi v189 c0_i32_88
  let c1_i32_89 : BitVec 32 := 1#32
  let v192 : BitVec 32 := Scalar.divsi v190 c1_i32_89
  let v193 : BitVec 32 := Scalar.muli v192 c1_i32_89
  let v194 : BitVec 32 := Scalar.addi c0_i32_88 v193
  let c1_i32_91 : BitVec 32 := 1#32
  let arg20 : BitVec 32 := Scf.iv v194 c1_i32_91 k0_t2
  let v251 : BitVec 32 := Scalar.muli c4_i32_123 arg20
  let v252 : BitVec 32 := Scalar.addi v171 v251
  let c1_i32_185 : BitVec 32 := 1#32
  let v385 : BitVec 32 := Scalar.addi v252 c1_i32_185
  let c256_i32_186 : BitVec 32 := 256#32
  let v386 : BitVec 32 := Scalar.muli v385 c256_i32_186
  v386
def k0_mult8 (i : grid0.Coords) (k0_t2 : Fin (k0_t2_loop i).trips) : BitVec 32 :=
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v190 : BitVec 32 := Scalar.subi v189 c0_i32_88
  let c1_i32_89 : BitVec 32 := 1#32
  let v192 : BitVec 32 := Scalar.divsi v190 c1_i32_89
  let v193 : BitVec 32 := Scalar.muli v192 c1_i32_89
  let v194 : BitVec 32 := Scalar.addi c0_i32_88 v193
  let c1_i32_91 : BitVec 32 := 1#32
  let arg20 : BitVec 32 := Scf.iv v194 c1_i32_91 k0_t2
  let v251 : BitVec 32 := Scalar.muli c4_i32_123 arg20
  let v252 : BitVec 32 := Scalar.addi v171 v251
  let c2_i32_246 : BitVec 32 := 2#32
  let v517 : BitVec 32 := Scalar.addi v252 c2_i32_246
  let c256_i32_247 : BitVec 32 := 256#32
  let v518 : BitVec 32 := Scalar.muli v517 c256_i32_247
  v518
def k0_mult9 (i : grid0.Coords) (k0_t2 : Fin (k0_t2_loop i).trips) : BitVec 32 :=
  let arg2 : BitVec 32 := BitVec.ofNat 32 (i 2).val
  let c1_i32_81 : BitVec 32 := 1#32
  let v171 : BitVec 32 := Scalar.addi arg2 c1_i32_81
  let c4_i32_123 : BitVec 32 := 4#32
  let c0_i32_88 : BitVec 32 := 0#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v190 : BitVec 32 := Scalar.subi v189 c0_i32_88
  let c1_i32_89 : BitVec 32 := 1#32
  let v192 : BitVec 32 := Scalar.divsi v190 c1_i32_89
  let v193 : BitVec 32 := Scalar.muli v192 c1_i32_89
  let v194 : BitVec 32 := Scalar.addi c0_i32_88 v193
  let c1_i32_91 : BitVec 32 := 1#32
  let arg20 : BitVec 32 := Scf.iv v194 c1_i32_91 k0_t2
  let v251 : BitVec 32 := Scalar.muli c4_i32_123 arg20
  let v252 : BitVec 32 := Scalar.addi v171 v251
  let c3_i32_307 : BitVec 32 := 3#32
  let v649 : BitVec 32 := Scalar.addi v252 c3_i32_307
  let c256_i32_308 : BitVec 32 := 256#32
  let v650 : BitVec 32 := Scalar.muli v649 c256_i32_308
  v650
def k0_cond2 (i : grid0.Coords) : BitVec 1 :=
  let c8_i32 : BitVec 32 := 8#32
  let arg2 : BitVec 32 := BitVec.ofNat 32 (i 2).val
  let c1_i32_81 : BitVec 32 := 1#32
  let v171 : BitVec 32 := Scalar.addi arg2 c1_i32_81
  let v172 : BitVec 32 := Scalar.subi c8_i32 v171
  let c4_i32_92 : BitVec 32 := 4#32
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v197 : BitVec 32 := Scalar.muli c4_i32_92 v189
  let v198 : BitVec 32 := Scalar.subi v172 v197
  let c3_i32 : BitVec 32 := 3#32
  let v201 : BitVec 1 := Scalar.cmpi .eq v198 c3_i32
  let v202 : BitVec 32 := Scalar.extui v201
  let c0_i32_94 : BitVec 32 := 0#32
  let v203 : BitVec 1 := Scalar.cmpi .ne v202 c0_i32_94
  v203

def k0_mult10 (i : grid0.Coords) : BitVec 32 :=
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let c0_i32_123 : BitVec 32 := 0#32
  let v251 : BitVec 32 := Scalar.addi v200 c0_i32_123
  let c256_i32_124 : BitVec 32 := 256#32
  let v252 : BitVec 32 := Scalar.muli v251 c256_i32_124
  v252
def k0_off16 (i : grid0.Coords) (c0_i32_123 : BitVec 32) : Fin 2 → Nat :=
  let c0_125 : Index := 0#32
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let v251 : BitVec 32 := Scalar.addi v200 c0_i32_123
  let c256_i32_124 : BitVec 32 := 256#32
  let v252 : BitVec 32 := Scalar.muli v251 c256_i32_124
  let v253 : BitVec 32 := v252
  let v254 : Index := Scalar.indexCast v253
  ![0, v254.toNat]
def k0_off17 (i : grid0.Coords) (c0_i32_123 : BitVec 32) : Fin 2 → Nat :=
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let v251 : BitVec 32 := Scalar.addi v200 c0_i32_123
  let c256_i32_124 : BitVec 32 := 256#32
  let v252 : BitVec 32 := Scalar.muli v251 c256_i32_124
  let v253 : BitVec 32 := v252
  let v263 : Index := Scalar.indexCast v253
  let c0_128 : Index := 0#32
  ![v263.toNat, 0]
def k0_off18 (i : grid0.Coords) (c0_i32_135 : BitVec 32) (c0_i32_123 : BitVec 32) : Fin 3 → Nat :=
  let c0_136 : Index := 0#32
  let c2_i32_134 : BitVec 32 := 2#32
  let arg1 : BitVec 32 := BitVec.ofNat 32 (i 1).val
  let v274 : BitVec 32 := Scalar.muli c2_i32_134 arg1
  let v275 : BitVec 32 := Scalar.addi v274 c0_i32_135
  let v276 : Index := Scalar.indexCast v275
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let v251 : BitVec 32 := Scalar.addi v200 c0_i32_123
  let c256_i32_124 : BitVec 32 := 256#32
  let v252 : BitVec 32 := Scalar.muli v251 c256_i32_124
  let v253 : BitVec 32 := v252
  let v277 : Index := Scalar.indexCast v253
  ![0, v276.toNat, v277.toNat]
def k0_off19 (i : grid0.Coords) (c0_i32_123 : BitVec 32) : Fin 4 → Nat :=
  let c0_137 : Index := 0#32
  let c0_138 : Index := 0#32
  let c0_139 : Index := 0#32
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let v251 : BitVec 32 := Scalar.addi v200 c0_i32_123
  let c256_i32_124 : BitVec 32 := 256#32
  let v252 : BitVec 32 := Scalar.muli v251 c256_i32_124
  let v253 : BitVec 32 := v252
  let v283 : Index := Scalar.indexCast v253
  ![0, 0, 0, v283.toNat]
def k0_off20 (i : grid0.Coords) (c0_i32_123 : BitVec 32) : Fin 4 → Nat :=
  let c0_164 : Index := 0#32
  let c0_165 : Index := 0#32
  let c1_166 : Index := 1#32
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let v251 : BitVec 32 := Scalar.addi v200 c0_i32_123
  let c256_i32_124 : BitVec 32 := 256#32
  let v252 : BitVec 32 := Scalar.muli v251 c256_i32_124
  let v253 : BitVec 32 := v252
  let v341 : Index := Scalar.indexCast v253
  ![0, 0, 1, v341.toNat]
def k0_mult11 (i : grid0.Coords) : BitVec 32 :=
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let c1_i32_184 : BitVec 32 := 1#32
  let v383 : BitVec 32 := Scalar.addi v200 c1_i32_184
  let c256_i32_185 : BitVec 32 := 256#32
  let v384 : BitVec 32 := Scalar.muli v383 c256_i32_185
  v384
def k0_mult12 (i : grid0.Coords) : BitVec 32 :=
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let c2_i32_245 : BitVec 32 := 2#32
  let v515 : BitVec 32 := Scalar.addi v200 c2_i32_245
  let c256_i32_246 : BitVec 32 := 256#32
  let v516 : BitVec 32 := Scalar.muli v515 c256_i32_246
  v516
def k0_cond3 (i : grid0.Coords) : BitVec 1 :=
  let c8_i32 : BitVec 32 := 8#32
  let arg2 : BitVec 32 := BitVec.ofNat 32 (i 2).val
  let c1_i32_81 : BitVec 32 := 1#32
  let v171 : BitVec 32 := Scalar.addi arg2 c1_i32_81
  let v172 : BitVec 32 := Scalar.subi c8_i32 v171
  let c4_i32_92 : BitVec 32 := 4#32
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v197 : BitVec 32 := Scalar.muli c4_i32_92 v189
  let v198 : BitVec 32 := Scalar.subi v172 v197
  let c2_i32_95 : BitVec 32 := 2#32
  let v205 : BitVec 1 := Scalar.cmpi .eq v198 c2_i32_95
  let v206 : BitVec 32 := Scalar.extui v205
  let c0_i32_96 : BitVec 32 := 0#32
  let v207 : BitVec 1 := Scalar.cmpi .ne v206 c0_i32_96
  v207

def k0_mult13 (i : grid0.Coords) : BitVec 32 :=
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let c0_i32_123 : BitVec 32 := 0#32
  let v251 : BitVec 32 := Scalar.addi v200 c0_i32_123
  let c256_i32_124 : BitVec 32 := 256#32
  let v252 : BitVec 32 := Scalar.muli v251 c256_i32_124
  v252
def k0_off21 (i : grid0.Coords) (c0_i32_123 : BitVec 32) : Fin 2 → Nat :=
  let c0_125 : Index := 0#32
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let v251 : BitVec 32 := Scalar.addi v200 c0_i32_123
  let c256_i32_124 : BitVec 32 := 256#32
  let v252 : BitVec 32 := Scalar.muli v251 c256_i32_124
  let v253 : BitVec 32 := v252
  let v254 : Index := Scalar.indexCast v253
  ![0, v254.toNat]
def k0_off22 (i : grid0.Coords) (c0_i32_123 : BitVec 32) : Fin 2 → Nat :=
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let v251 : BitVec 32 := Scalar.addi v200 c0_i32_123
  let c256_i32_124 : BitVec 32 := 256#32
  let v252 : BitVec 32 := Scalar.muli v251 c256_i32_124
  let v253 : BitVec 32 := v252
  let v263 : Index := Scalar.indexCast v253
  let c0_128 : Index := 0#32
  ![v263.toNat, 0]
def k0_off23 (i : grid0.Coords) (c0_i32_135 : BitVec 32) (c0_i32_123 : BitVec 32) : Fin 3 → Nat :=
  let c0_136 : Index := 0#32
  let c2_i32_134 : BitVec 32 := 2#32
  let arg1 : BitVec 32 := BitVec.ofNat 32 (i 1).val
  let v274 : BitVec 32 := Scalar.muli c2_i32_134 arg1
  let v275 : BitVec 32 := Scalar.addi v274 c0_i32_135
  let v276 : Index := Scalar.indexCast v275
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let v251 : BitVec 32 := Scalar.addi v200 c0_i32_123
  let c256_i32_124 : BitVec 32 := 256#32
  let v252 : BitVec 32 := Scalar.muli v251 c256_i32_124
  let v253 : BitVec 32 := v252
  let v277 : Index := Scalar.indexCast v253
  ![0, v276.toNat, v277.toNat]
def k0_off24 (i : grid0.Coords) (c0_i32_123 : BitVec 32) : Fin 4 → Nat :=
  let c0_137 : Index := 0#32
  let c0_138 : Index := 0#32
  let c0_139 : Index := 0#32
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let v251 : BitVec 32 := Scalar.addi v200 c0_i32_123
  let c256_i32_124 : BitVec 32 := 256#32
  let v252 : BitVec 32 := Scalar.muli v251 c256_i32_124
  let v253 : BitVec 32 := v252
  let v283 : Index := Scalar.indexCast v253
  ![0, 0, 0, v283.toNat]
def k0_off25 (i : grid0.Coords) (c0_i32_123 : BitVec 32) : Fin 4 → Nat :=
  let c0_164 : Index := 0#32
  let c0_165 : Index := 0#32
  let c1_166 : Index := 1#32
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let v251 : BitVec 32 := Scalar.addi v200 c0_i32_123
  let c256_i32_124 : BitVec 32 := 256#32
  let v252 : BitVec 32 := Scalar.muli v251 c256_i32_124
  let v253 : BitVec 32 := v252
  let v341 : Index := Scalar.indexCast v253
  ![0, 0, 1, v341.toNat]
def k0_mult14 (i : grid0.Coords) : BitVec 32 :=
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let c1_i32_184 : BitVec 32 := 1#32
  let v383 : BitVec 32 := Scalar.addi v200 c1_i32_184
  let c256_i32_185 : BitVec 32 := 256#32
  let v384 : BitVec 32 := Scalar.muli v383 c256_i32_185
  v384
def k0_cond4 (i : grid0.Coords) : BitVec 1 :=
  let c8_i32 : BitVec 32 := 8#32
  let arg2 : BitVec 32 := BitVec.ofNat 32 (i 2).val
  let c1_i32_81 : BitVec 32 := 1#32
  let v171 : BitVec 32 := Scalar.addi arg2 c1_i32_81
  let v172 : BitVec 32 := Scalar.subi c8_i32 v171
  let c4_i32_92 : BitVec 32 := 4#32
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v197 : BitVec 32 := Scalar.muli c4_i32_92 v189
  let v198 : BitVec 32 := Scalar.subi v172 v197
  let c1_i32_97 : BitVec 32 := 1#32
  let v209 : BitVec 1 := Scalar.cmpi .eq v198 c1_i32_97
  let v210 : BitVec 32 := Scalar.extui v209
  let c0_i32_98 : BitVec 32 := 0#32
  let v211 : BitVec 1 := Scalar.cmpi .ne v210 c0_i32_98
  v211

def k0_mult15 (i : grid0.Coords) : BitVec 32 :=
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let c0_i32_123 : BitVec 32 := 0#32
  let v251 : BitVec 32 := Scalar.addi v200 c0_i32_123
  let c256_i32_124 : BitVec 32 := 256#32
  let v252 : BitVec 32 := Scalar.muli v251 c256_i32_124
  v252
def k0_off26 (i : grid0.Coords) : Fin 2 → Nat :=
  let c0_125 : Index := 0#32
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let c0_i32_123 : BitVec 32 := 0#32
  let v251 : BitVec 32 := Scalar.addi v200 c0_i32_123
  let c256_i32_124 : BitVec 32 := 256#32
  let v252 : BitVec 32 := Scalar.muli v251 c256_i32_124
  let v253 : BitVec 32 := v252
  let v254 : Index := Scalar.indexCast v253
  ![0, v254.toNat]
def k0_off27 (i : grid0.Coords) : Fin 2 → Nat :=
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let c0_i32_123 : BitVec 32 := 0#32
  let v251 : BitVec 32 := Scalar.addi v200 c0_i32_123
  let c256_i32_124 : BitVec 32 := 256#32
  let v252 : BitVec 32 := Scalar.muli v251 c256_i32_124
  let v253 : BitVec 32 := v252
  let v263 : Index := Scalar.indexCast v253
  let c0_128 : Index := 0#32
  ![v263.toNat, 0]
def k0_off28 (i : grid0.Coords) (c0_i32_135 : BitVec 32) : Fin 3 → Nat :=
  let c0_136 : Index := 0#32
  let c2_i32_134 : BitVec 32 := 2#32
  let arg1 : BitVec 32 := BitVec.ofNat 32 (i 1).val
  let v274 : BitVec 32 := Scalar.muli c2_i32_134 arg1
  let v275 : BitVec 32 := Scalar.addi v274 c0_i32_135
  let v276 : Index := Scalar.indexCast v275
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let c0_i32_123 : BitVec 32 := 0#32
  let v251 : BitVec 32 := Scalar.addi v200 c0_i32_123
  let c256_i32_124 : BitVec 32 := 256#32
  let v252 : BitVec 32 := Scalar.muli v251 c256_i32_124
  let v253 : BitVec 32 := v252
  let v277 : Index := Scalar.indexCast v253
  ![0, v276.toNat, v277.toNat]
def k0_off29 (i : grid0.Coords) : Fin 4 → Nat :=
  let c0_137 : Index := 0#32
  let c0_138 : Index := 0#32
  let c0_139 : Index := 0#32
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let c0_i32_123 : BitVec 32 := 0#32
  let v251 : BitVec 32 := Scalar.addi v200 c0_i32_123
  let c256_i32_124 : BitVec 32 := 256#32
  let v252 : BitVec 32 := Scalar.muli v251 c256_i32_124
  let v253 : BitVec 32 := v252
  let v283 : Index := Scalar.indexCast v253
  ![0, 0, 0, v283.toNat]
def k0_off30 (i : grid0.Coords) : Fin 4 → Nat :=
  let c0_164 : Index := 0#32
  let c0_165 : Index := 0#32
  let c1_166 : Index := 1#32
  let arg2 : BitVec 32 := BitVec.ofNat 32 (i 2).val
  let c1_i32_81 : BitVec 32 := 1#32
  let v171 : BitVec 32 := Scalar.addi arg2 c1_i32_81
  let c4_i32_93 : BitVec 32 := 4#32
  let c8_i32 : BitVec 32 := 8#32
  let v172 : BitVec 32 := Scalar.subi c8_i32 v171
  let c0_i32_82 : BitVec 32 := 0#32
  let v174 : BitVec 1 := Scalar.cmpi .sgt v172 c0_i32_82
  let v175 : BitVec 32 := Scalar.extui v174
  let c0_i32_83 : BitVec 32 := 0#32
  let v176 : BitVec 1 := Scalar.cmpi .slt v172 c0_i32_83
  let v177 : BitVec 32 := Scalar.extui v176
  let v178 : BitVec 32 := Scalar.subi v175 v177
  let c4_i32 : BitVec 32 := 4#32
  let c0_i32_84 : BitVec 32 := 0#32
  let v179 : BitVec 1 := Scalar.cmpi .sgt c4_i32 c0_i32_84
  let v180 : BitVec 32 := Scalar.extui v179
  let c0_i32_85 : BitVec 32 := 0#32
  let v181 : BitVec 1 := Scalar.cmpi .slt c4_i32 c0_i32_85
  let v182 : BitVec 32 := Scalar.extui v181
  let v183 : BitVec 32 := Scalar.subi v180 v182
  let v184 : BitVec 1 := Scalar.cmpi .ne v178 v183
  let v185 : BitVec 32 := Scalar.remsi v172 c4_i32
  let c0_i32_86 : BitVec 32 := 0#32
  let v186 : BitVec 1 := Scalar.cmpi .ne v185 c0_i32_86
  let v187 : BitVec 1 := Scalar.andi v184 v186
  let v173 : BitVec 32 := Scalar.divsi v172 c4_i32
  let c1_i32_87 : BitVec 32 := 1#32
  let v188 : BitVec 32 := Scalar.subi v173 c1_i32_87
  let v189 : BitVec 32 := Scalar.select v187 v188 v173
  let v199 : BitVec 32 := Scalar.muli c4_i32_93 v189
  let v200 : BitVec 32 := Scalar.addi v171 v199
  let c0_i32_123 : BitVec 32 := 0#32
  let v251 : BitVec 32 := Scalar.addi v200 c0_i32_123
  let c256_i32_124 : BitVec 32 := 256#32
  let v252 : BitVec 32 := Scalar.muli v251 c256_i32_124
  let v253 : BitVec 32 := v252
  let v341 : Index := Scalar.indexCast v253
  ![0, 0, 1, v341.toNat]
def k0_cond5 (i : grid0.Coords) : BitVec 1 :=
  let arg2 : BitVec 32 := BitVec.ofNat 32 (i 2).val
  let c7_i32 : BitVec 32 := 7#32
  let v248 : BitVec 1 := Scalar.cmpi .eq arg2 c7_i32
  let v249 : BitVec 32 := Scalar.extui v248
  let c0_i32_122 : BitVec 32 := 0#32
  let v250 : BitVec 1 := Scalar.cmpi .ne v249 c0_i32_122
  v250

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c8_i32 : BitVec 32 := 8#32
  let v1 : BitVec 32 := Scalar.muli arg0 c8_i32
  let v2 : BitVec 32 := Scalar.addi v1 arg2
  let c0_i32 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x2x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x8x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== AttnRefIdeal.lean ====
abbrev S8192x4608 : Shape := ⟨2, ![8192, 4608]⟩
abbrev S4x8x2048 : Shape := ⟨3, ![4, 8, 2048]⟩
abbrev S8192x512 : Shape := ⟨2, ![8192, 512]⟩
abbrev S4x2048x8x64 : Shape := ⟨4, ![4, 2048, 8, 64]⟩
abbrev S4x8x2048x64 : Shape := ⟨4, ![4, 8, 2048, 64]⟩
abbrev S_ : Shape := ⟨0, ![]⟩
abbrev S4x8x2048x2048 : Shape := ⟨4, ![4, 8, 2048, 2048]⟩
abbrev S4x8x2048x1 : Shape := ⟨4, ![4, 8, 2048, 1]⟩
abbrev S4x8x1x2048 : Shape := ⟨4, ![4, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x8x64x2048 : Shape := ⟨4, ![4, 8, 64, 2048]⟩

abbrev nBuf : Space → Nat
  | .hbm => 130
  | .vmem => 0
  | .smem => 0
  | _ => 0

abbrev hbmTy0_0 (i : Nat) : BufTy := match i % 128 with
  | 0 => ⟨S8192x4608, .bf16⟩
  | 1 => ⟨S4x8x2048, .f32⟩
  | 2 => ⟨S8192x512, .bf16⟩
  | 3 => ⟨S8192x512, .bf16⟩
  | 4 => ⟨S8192x512, .bf16⟩
  | 5 => ⟨S8192x512, .bf16⟩
  | 6 => ⟨S4x2048x8x64, .bf16⟩
  | 7 => ⟨S4x8x2048x64, .bf16⟩
  | 8 => ⟨S4x8x2048x64, .f32⟩
  | 9 => ⟨S4x2048x8x64, .bf16⟩
  | 10 => ⟨S4x8x2048x64, .bf16⟩
  | 11 => ⟨S4x8x2048x64, .f32⟩
  | 12 => ⟨S4x2048x8x64, .bf16⟩
  | 13 => ⟨S4x8x2048x64, .bf16⟩
  | 14 => ⟨S4x8x2048x64, .f32⟩
  | 15 => ⟨S_, .f32⟩
  | 16 => ⟨S4x8x2048x64, .f32⟩
  | 17 => ⟨S4x8x2048x64, .f32⟩
  | 18 => ⟨S4x8x2048x2048, .f32⟩
  | 19 => ⟨S4x8x2048x1, .f32⟩
  | 20 => ⟨S4x8x2048x2048, .f32⟩
  | 21 => ⟨S4x8x2048x2048, .f32⟩
  | 22 => ⟨S4x8x1x2048, .f32⟩
  | 23 => ⟨S4x8x2048x2048, .f32⟩
  | 24 => ⟨S4x8x2048x2048, .f32⟩
  | 25 => ⟨S2048, .i32⟩
  | 26 => ⟨S2048x1, .i32⟩
  | 27 => ⟨S2048, .i32⟩
  | 28 => ⟨S1x2048, .i32⟩
  | 29 => ⟨S2048x2048, .i32⟩
  | 30 => ⟨S2048x2048, .i32⟩
  | 31 => ⟨S2048x2048, .i1⟩
  | 32 => ⟨S1x1x2048x2048, .i1⟩
  | 33 => ⟨S_, .f32⟩
  | 34 => ⟨S_, .f32⟩
  | 35 => ⟨S4x8x2048x2048, .i1⟩
  | 36 => ⟨S4x8x2048x2048, .f32⟩
  | 37 => ⟨S4x8x2048x2048, .f32⟩
  | 38 => ⟨S_, .f32⟩
  | 39 => ⟨S4x8x2048x2048, .f32⟩
  | 40 => ⟨S_, .f32⟩
  | 41 => ⟨S4x8x2048, .f32⟩
  | 42 => ⟨S4x8x2048x1, .f32⟩
  | 43 => ⟨S4x8x2048x2048, .f32⟩
  | 44 => ⟨S4x8x2048x2048, .i1⟩
  | 45 => ⟨S4x8x2048x2048, .f32⟩
  | 46 => ⟨S_, .f32⟩
  | 47 => ⟨S4x8x2048, .f32⟩
  | 48 => ⟨S_, .f32⟩
  | 49 => ⟨S4x8x2048, .f32⟩
  | 50 => ⟨S4x8x2048, .f32⟩
  | 51 => ⟨S_, .f32⟩
  | 52 => ⟨S4x8x2048, .f32⟩
  | 53 => ⟨S4x8x2048, .i1⟩
  | 54 => ⟨S_, .f32⟩
  | 55 => ⟨S4x8x2048, .f32⟩
  | 56 => ⟨S4x8x2048, .i1⟩
  | 57 => ⟨S_, .f32⟩
  | 58 => ⟨S4x8x2048, .f32⟩
  | 59 => ⟨S_, .f32⟩
  | 60 => ⟨S4x8x2048, .f32⟩
  | 61 => ⟨S_, .f32⟩
  | 62 => ⟨S4x8x2048, .f32⟩
  | 63 => ⟨S4x8x2048, .f32⟩
  | 64 => ⟨S4x8x2048, .f32⟩
  | 65 => ⟨S4x8x2048x1, .f32⟩
  | 66 => ⟨S4x8x2048x2048, .f32⟩
  | 67 => ⟨S4x8x2048x2048, .f32⟩
  | 68 => ⟨S4x8x2048x2048, .f32⟩
  | 69 => ⟨S_, .f32⟩
  | 70 => ⟨S4x8x2048, .f32⟩
  | 71 => ⟨S4x8x2048x1, .f32⟩
  | 72 => ⟨S4x8x2048x2048, .f32⟩
  | 73 => ⟨S4x8x2048x2048, .f32⟩
  | 74 => ⟨S4x8x2048x1, .f32⟩
  | 75 => ⟨S_, .f32⟩
  | 76 => ⟨S4x8x2048x1, .f32⟩
  | 77 => ⟨S4x8x2048x1, .f32⟩
  | 78 => ⟨S4x8x2048x64, .f32⟩
  | 79 => ⟨S4x2048x8x64, .f32⟩
  | 80 => ⟨S8192x512, .f32⟩
  | 81 => ⟨S8192x512, .f32⟩
  | 82 => ⟨S4x2048x8x64, .f32⟩
  | 83 => ⟨S4x8x2048x64, .f32⟩
  | 84 => ⟨S4x8x64x2048, .f32⟩
  | 85 => ⟨S4x8x2048x64, .f32⟩
  | 86 => ⟨S4x8x2048x2048, .f32⟩
  | 87 => ⟨S4x8x2048x2048, .f32⟩
  | 88 => ⟨S4x8x2048x2048, .f32⟩
  | 89 => ⟨S4x8x2048x2048, .f32⟩
  | 90 => ⟨S_, .f32⟩
  | 91 => ⟨S4x8x2048, .f32⟩
  | 92 => ⟨S4x8x2048x1, .f32⟩
  | 93 => ⟨S4x8x2048x1, .f32⟩
  | 94 => ⟨S4x8x2048x2048, .f32⟩
  | 95 => ⟨S4x8x2048x2048, .f32⟩
  | 96 => ⟨S_, .f32⟩
  | 97 => ⟨S4x8x2048, .f32⟩
  | 98 => ⟨S4x8x2048x2048, .f32⟩
  | 99 => ⟨S4x8x2048x2048, .f32⟩
  | 100 => ⟨S4x8x2048x2048, .f32⟩
  | 101 => ⟨S_, .f32⟩
  | 102 => ⟨S4x8x2048x2048, .f32⟩
  | 103 => ⟨S4x8x2048x2048, .f32⟩
  | 104 => ⟨S4x8x2048x2048, .f32⟩
  | 105 => ⟨S_, .f32⟩
  | 106 => ⟨S4x8x2048, .f32⟩
  | 107 => ⟨S4x8x1x2048, .f32⟩
  | 108 => ⟨S_, .f32⟩
  | 109 => ⟨S4x8x2048, .f32⟩
  | 110 => ⟨S_, .f32⟩
  | 111 => ⟨S4x8x2048, .f32⟩
  | 112 => ⟨S4x8x2048x1, .f32⟩
  | 113 => ⟨S_, .f32⟩
  | 114 => ⟨S4x8x2048, .f32⟩
  | 115 => ⟨S4x8x2048, .f32⟩
  | 116 => ⟨S4x8x2048x64, .f32⟩
  | 117 => ⟨S4x8x2048x64, .f32⟩
  | 118 => ⟨S_, .f32⟩
  | 119 => ⟨S4x8x2048x64, .f32⟩
  | 120 => ⟨S4x8x2048x64, .f32⟩
  | 121 => ⟨S4x8x2048x64, .bf16⟩
  | 122 => ⟨S4x2048x8x64, .bf16⟩
  | 123 => ⟨S8192x512, .bf16⟩
  | 124 => ⟨S4x8x2048x64, .bf16⟩
  | 125 => ⟨S4x2048x8x64, .bf16⟩
  | 126 => ⟨S8192x512, .bf16⟩
  | 127 => ⟨S4x8x2048x64, .bf16⟩
  | _ => ⟨S8192x4608, .bf16⟩

abbrev hbmTy0_1 (i : Nat) : BufTy := match i % 128 with
  | 0 => ⟨S4x2048x8x64, .bf16⟩
  | 1 => ⟨S8192x512, .bf16⟩
  | _ => ⟨S8192x4608, .bf16⟩

abbrev hbmTy (i : Nat) : BufTy := match i / 128 with
  | 0 => hbmTy0_0 i
  | 1 => hbmTy0_1 i
  | _ => ⟨S8192x4608, .bf16⟩

abbrev bufTy : (tb : Table) → Fin (tcTables nBuf tb) → BufTy
  | .hbm, ⟨i, _⟩ => hbmTy i
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_call0_v0 : Ref sig .tc := ⟨.hbm, 34, rfl⟩
abbrev main_v29_1 : Ref sig .tc := ⟨.hbm, 35, rfl⟩
abbrev main_call0_v2 : Ref sig .tc := ⟨.hbm, 36, rfl⟩
abbrev main_v29_0 : Ref sig .tc := ⟨.hbm, 37, rfl⟩
abbrev main_call0_cst : Ref sig .tc := ⟨.hbm, 38, rfl⟩
abbrev main_v29_2 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call1_cst : Ref sig .tc := ⟨.hbm, 101, rfl⟩
abbrev main_call1_v0 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩

abbrev nD : Nat := 1
abbrev τ : Topo := Topo.v7x

variable {F : FTy → Type} [FloatOps F]
-- ==== Fgate.lean ====
abbrev S4x4x2048x128 : Shape := ⟨4, ![4, 4, 2048, 128]⟩
abbrev S8192x128 : Shape := ⟨2, ![8192, 128]⟩
abbrev S1x4x256x128 : Shape := ⟨4, ![1, 4, 256, 128]⟩
abbrev S256x128 : Shape := ⟨2, ![256, 128]⟩
abbrev S1x128 : Shape := ⟨2, ![1, 128]⟩
abbrev S1x1x256x128 : Shape := ⟨4, ![1, 1, 256, 128]⟩
abbrev S256x256 : Shape := ⟨2, ![256, 256]⟩

abbrev nBuf : Space → Nat
  | .hbm => 3
  | .vmem => 7
  | .smem => 0
  | _ => 0

abbrev bufTy : (tb : Table) → Fin (tcTables nBuf tb) → BufTy
  | .hbm, ⟨0, _⟩ => ⟨S4x4x2048x128, .f32⟩
  | .hbm, ⟨1, _⟩ => ⟨S8192x128, .f32⟩
  | .hbm, ⟨2, _⟩ => ⟨S8192x128, .f32⟩
  | .local _ .vmem, ⟨0, _⟩ => ⟨S1x4x256x128, .f32⟩
  | .local _ .vmem, ⟨1, _⟩ => ⟨S1x4x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | _, _ => ⟨S4x4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

abbrev stage0_0 : Fin 2 → Memref sig .tc .vmem S1x4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FgateRefIdeal.lean ====
abbrev S4x4x2048x128 : Shape := ⟨4, ![4, 4, 2048, 128]⟩
abbrev S8192x128 : Shape := ⟨2, ![8192, 128]⟩
abbrev S4x2048x128 : Shape := ⟨3, ![4, 2048, 128]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S4x4x2048x128, .f32⟩
  | .hbm, ⟨1, _⟩ => ⟨S8192x128, .f32⟩
  | .hbm, ⟨2, _⟩ => ⟨S4x2048x128, .f32⟩
  | .hbm, ⟨3, _⟩ => ⟨S4x2048x128, .f32⟩
  | .hbm, ⟨4, _⟩ => ⟨S_, .f32⟩
  | .hbm, ⟨5, _⟩ => ⟨S4x2048x128, .f32⟩
  | .hbm, ⟨6, _⟩ => ⟨S4x2048x128, .f32⟩
  | .hbm, ⟨7, _⟩ => ⟨S4x2048x128, .f32⟩
  | .hbm, ⟨8, _⟩ => ⟨S4x2048x128, .f32⟩
  | .hbm, ⟨9, _⟩ => ⟨S4x2048x128, .i1⟩
  | .hbm, ⟨10, _⟩ => ⟨S4x2048x128, .f32⟩
  | .hbm, ⟨11, _⟩ => ⟨S4x2048x128, .f32⟩
  | .hbm, ⟨12, _⟩ => ⟨S4x2048x128, .f32⟩
  | .hbm, ⟨13, _⟩ => ⟨S4x2048x128, .f32⟩
  | .hbm, ⟨14, _⟩ => ⟨S4x2048x128, .f32⟩
  | .hbm, ⟨15, _⟩ => ⟨S4x2048x128, .f32⟩
  | .hbm, ⟨16, _⟩ => ⟨S4x2048x128, .f32⟩
  | .hbm, ⟨17, _⟩ => ⟨S4x2048x128, .f32⟩
  | .hbm, ⟨18, _⟩ => ⟨S_, .f32⟩
  | .hbm, ⟨19, _⟩ => ⟨S4x2048x128, .f32⟩
  | .hbm, ⟨20, _⟩ => ⟨S4x2048x128, .i1⟩
  | .hbm, ⟨21, _⟩ => ⟨S_, .f32⟩
  | .hbm, ⟨22, _⟩ => ⟨S4x2048x128, .f32⟩
  | .hbm, ⟨23, _⟩ => ⟨S4x2048x128, .f32⟩
  | .hbm, ⟨24, _⟩ => ⟨S_, .f32⟩
  | .hbm, ⟨25, _⟩ => ⟨S4x2048x128, .f32⟩
  | .hbm, ⟨26, _⟩ => ⟨S4x2048x128, .i1⟩
  | .hbm, ⟨27, _⟩ => ⟨S_, .f32⟩
  | .hbm, ⟨28, _⟩ => ⟨S4x2048x128, .f32⟩
  | .hbm, ⟨29, _⟩ => ⟨S4x2048x128, .f32⟩
  | .hbm, ⟨30, _⟩ => ⟨S4x2048x128, .f32⟩
  | .hbm, ⟨31, _⟩ => ⟨S4x2048x128, .f32⟩
  | .hbm, ⟨32, _⟩ => ⟨S_, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x2048x128, .f32⟩
  | .hbm, ⟨40, _⟩ => ⟨S4x2048x128, .i1⟩
  | .hbm, ⟨41, _⟩ => ⟨S_, .f32⟩
  | .hbm, ⟨42, _⟩ => ⟨S4x2048x128, .f32⟩
  | .hbm, ⟨43, _⟩ => ⟨S4x2048x128, .f32⟩
  | .hbm, ⟨44, _⟩ => ⟨S4x2048x128, .f32⟩
  | .hbm, ⟨45, _⟩ => ⟨S4x2048x128, .f32⟩
  | .hbm, ⟨46, _⟩ => ⟨S4x2048x128, .f32⟩
  | .hbm, ⟨47, _⟩ => ⟨S_, .f32⟩
  | .hbm, ⟨48, _⟩ => ⟨S4x2048x128, .f32⟩
  | .hbm, ⟨49, _⟩ => ⟨S4x2048x128, .f32⟩
  | .hbm, ⟨50, _⟩ => ⟨S4x2048x128, .f32⟩
  | .hbm, ⟨51, _⟩ => ⟨S_, .f32⟩
  | .hbm, ⟨52, _⟩ => ⟨S_, .f32⟩
  | .hbm, ⟨53, _⟩ => ⟨S4x2048x128, .f32⟩
  | .hbm, ⟨54, _⟩ => ⟨S_, .f32⟩
  | .hbm, ⟨55, _⟩ => ⟨S4x2048x128, .f32⟩
  | .hbm, ⟨56, _⟩ => ⟨S_, .f32⟩
  | .hbm, ⟨57, _⟩ => ⟨S_, .f32⟩
  | .hbm, ⟨58, _⟩ => ⟨S4x2048x128, .f32⟩
  | .hbm, ⟨59, _⟩ => ⟨S4x2048x128, .f32⟩
  | .hbm, ⟨60, _⟩ => ⟨S4x2048x128, .f32⟩
  | .hbm, ⟨61, _⟩ => ⟨S4x2048x128, .f32⟩
  | .hbm, ⟨62, _⟩ => ⟨S8192x128, .f32⟩
  | _, _ => ⟨S4x4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_v11 : Ref sig .tc := ⟨.hbm, 16, rfl⟩
abbrev main_call0_v1_0 : Ref sig .tc := ⟨.hbm, 17, rfl⟩
abbrev main_call0_call0_cst_0 : Ref sig .tc := ⟨.hbm, 18, rfl⟩
abbrev main_call0_call0_v13 : Ref sig .tc := ⟨.hbm, 19, rfl⟩
abbrev main_call0_call0_v14 : Ref sig .tc := ⟨.hbm, 20, rfl⟩
abbrev main_call0_call0_cst_1 : Ref sig .tc := ⟨.hbm, 21, rfl⟩
abbrev main_call0_call0_v15 : Ref sig .tc := ⟨.hbm, 22, rfl⟩
abbrev main_call0_call0_v16 : Ref sig .tc := ⟨.hbm, 23, rfl⟩
abbrev main_call0_call0_cst_2 : Ref sig .tc := ⟨.hbm, 24, rfl⟩
abbrev main_call0_call0_v17 : Ref sig .tc := ⟨.hbm, 25, rfl⟩
abbrev main_call0_call0_v18 : Ref sig .tc := ⟨.hbm, 26, rfl⟩
abbrev main_call0_call0_cst_3 : Ref sig .tc := ⟨.hbm, 27, rfl⟩
abbrev main_call0_call0_v19 : Ref sig .tc := ⟨.hbm, 28, rfl⟩
abbrev main_call0_call0_v20 : Ref sig .tc := ⟨.hbm, 29, rfl⟩
abbrev main_call0_call0_v21 : Ref sig .tc := ⟨.hbm, 30, rfl⟩
abbrev main_v1_1 : Ref sig .tc := ⟨.hbm, 31, rfl⟩
abbrev main_call0_call0_cst_4 : Ref sig .tc := ⟨.hbm, 32, rfl⟩
abbrev main_call0_call0_cst_5 : Ref sig .tc := ⟨.hbm, 33, rfl⟩
abbrev main_call0_call0_v23 : Ref sig .tc := ⟨.hbm, 34, rfl⟩
abbrev main_call0_call0_cst_6 : Ref sig .tc := ⟨.hbm, 35, rfl⟩
abbrev main_call0_call0_cst_7 : Ref sig .tc := ⟨.hbm, 36, rfl⟩
abbrev main_call0_call0_v24 : Ref sig .tc := ⟨.hbm, 37, rfl⟩
abbrev main_call0_call0_cst_8 : Ref sig .tc := ⟨.hbm, 38, rfl⟩
abbrev main_call0_call0_v25 : Ref sig .tc := ⟨.hbm, 39, rfl⟩
abbrev main_call0_call0_v26 : Ref sig .tc := ⟨.hbm, 40, rfl⟩
abbrev main_call0_call0_cst_9 : Ref sig .tc := ⟨.hbm, 41, rfl⟩
abbrev main_call0_call0_v27 : Ref sig .tc := ⟨.hbm, 42, rfl⟩
abbrev main_call0_call0_v28 : Ref sig .tc := ⟨.hbm, 43, rfl⟩
abbrev main_call0_call0_v29 : Ref sig .tc := ⟨.hbm, 44, rfl⟩
abbrev main_call0_call0_v30 : Ref sig .tc := ⟨.hbm, 45, rfl⟩
abbrev main_call0_call0_v31 : Ref sig .tc := ⟨.hbm, 46, rfl⟩
abbrev main_call0_call0_cst_10 : Ref sig .tc := ⟨.hbm, 47, rfl⟩
abbrev main_call0_call0_v32 : Ref sig .tc := ⟨.hbm, 48, rfl⟩
abbrev main_v1_2 : Ref sig .tc := ⟨.hbm, 49, rfl⟩
abbrev main_v1_0 : Ref sig .tc := ⟨.hbm, 50, rfl⟩
abbrev main_call1_call0_cst : Ref sig .tc := ⟨.hbm, 51, rfl⟩
abbrev main_call1_call0_v0 : Ref sig .tc := ⟨.hbm, 52, rfl⟩
abbrev main_v2 : Ref sig .tc := ⟨.hbm, 53, rfl⟩
abbrev main_cst : Ref sig .tc := ⟨.hbm, 54, rfl⟩
abbrev main_v3 : Ref sig .tc := ⟨.hbm, 55, rfl⟩
abbrev main_call2_call0_cst : Ref sig .tc := ⟨.hbm, 56, rfl⟩
abbrev main_call2_call0_v0 : Ref sig .tc := ⟨.hbm, 57, rfl⟩
abbrev main_v4 : Ref sig .tc := ⟨.hbm, 58, rfl⟩
abbrev main_call3_v0 : Ref sig .tc := ⟨.hbm, 59, rfl⟩
abbrev main_call3_v1 : Ref sig .tc := ⟨.hbm, 60, rfl⟩
abbrev main_v5 : Ref sig .tc := ⟨.hbm, 61, rfl⟩
abbrev main_v6 : Ref sig .tc := ⟨.hbm, 62, rfl⟩

abbrev nD : Nat := 1
abbrev τ : Topo := Topo.v7x

variable {F : FTy → Type} [FloatOps F]
-- ==== DownDx.lean ====
abbrev S8192x1024 : Shape := ⟨2, ![8192, 1024]⟩
abbrev S2x2816x1024 : Shape := ⟨3, ![2, 2816, 1024]⟩
abbrev S8192x2816 : Shape := ⟨2, ![8192, 2816]⟩
abbrev S2048x1024 : Shape := ⟨2, ![2048, 1024]⟩
abbrev S1x1408x1024 : Shape := ⟨3, ![1, 1408, 1024]⟩
abbrev S2048x1408 : Shape := ⟨2, ![2048, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .bf16⟩
  | .hbm, ⟨2, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S2048x1408, .bf16⟩
  | .local _ .vmem, ⟨5, _⟩ => ⟨S2048x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c1_i32 : BitVec 32 := 1#32
  let c0_i32_0 : BitVec 32 := 0#32
  ![c1_i32.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S2x2816x1024 : Shape := ⟨3, ![2, 2816, 1024]⟩
abbrev S_ : Shape := ⟨0, ![]⟩
abbrev S8192x2816 : Shape := ⟨2, ![8192, 2816]⟩
abbrev S1x2816x1024 : Shape := ⟨3, ![1, 2816, 1024]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .bf16⟩
  | .hbm, ⟨2, _⟩ => ⟨S_, .bf16⟩
  | .hbm, ⟨3, _⟩ => ⟨S8192x2816, .bf16⟩
  | .hbm, ⟨4, _⟩ => ⟨S8192x2816, .f32⟩
  | .hbm, ⟨5, _⟩ => ⟨S1x2816x1024, .bf16⟩
  | .hbm, ⟨6, _⟩ => ⟨S2816x1024, .bf16⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S8192x2816, .f32⟩
  | .hbm, ⟨11, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MainDx.lean ====
abbrev S8192x4608 : Shape := ⟨2, ![8192, 4608]⟩
abbrev S2x1024x4608 : Shape := ⟨3, ![2, 1024, 4608]⟩
abbrev S8192x1024 : Shape := ⟨2, ![8192, 1024]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4608, .bf16⟩
  | .hbm, ⟨1, _⟩ => ⟨S2x1024x4608, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c1_i32 : BitVec 32 := 1#32
  let c0_i32_0 : BitVec 32 := 0#32
  ![c1_i32.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MainDxRefIdeal.lean ====
abbrev S8192x4608 : Shape := ⟨2, ![8192, 4608]⟩
abbrev S2x1024x4608 : Shape := ⟨3, ![2, 1024, 4608]⟩
abbrev S_ : Shape := ⟨0, ![]⟩
abbrev S8192x1024 : Shape := ⟨2, ![8192, 1024]⟩
abbrev S1x1024x4608 : Shape := ⟨3, ![1, 1024, 4608]⟩
abbrev S1024x4608 : Shape := ⟨2, ![1024, 4608]⟩

abbrev nBuf : Space → Nat
  | .hbm => 10
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S2x1024x4608, .bf16⟩
  | .hbm, ⟨2, _⟩ => ⟨S_, .f32⟩
  | .hbm, ⟨3, _⟩ => ⟨S8192x1024, .f32⟩
  | .hbm, ⟨4, _⟩ => ⟨S1x1024x4608, .bf16⟩
  | .hbm, ⟨5, _⟩ => ⟨S1024x4608, .bf16⟩
  | .hbm, ⟨6, _⟩ => ⟨S1024x4608, .f32⟩
  | .hbm, ⟨7, _⟩ => ⟨S8192x4608, .f32⟩
  | .hbm, ⟨8, _⟩ => ⟨S8192x4608, .f32⟩
  | .hbm, ⟨9, _⟩ => ⟨S8192x1024, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MainDw.lean ====
abbrev S8192x1024 : Shape := ⟨2, ![8192, 1024]⟩
abbrev S8192x4608 : Shape := ⟨2, ![8192, 4608]⟩
abbrev S1024x4608 : Shape := ⟨2, ![1024, 4608]⟩
abbrev S1x4608 : Shape := ⟨2, ![1, 4608]⟩
abbrev S1024x1024 : Shape := ⟨2, ![1024, 1024]⟩
abbrev S1024x1536 : Shape := ⟨2, ![1024, 1536]⟩
abbrev S1x1536 : Shape := ⟨2, ![1, 1536]⟩
abbrev S1536 : Shape := ⟨1, ![1536]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S1024x4608, .f32⟩
  | .hbm, ⟨3, _⟩ => ⟨S1x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1x1536, .f32⟩
  | .local _ .vmem, ⟨7, _⟩ => ⟨S1x1536, .f32⟩
  | .local _ .vmem, ⟨8, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 3, 8], ![false, false, false]⟩

def k0_cond5 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_13 : BitVec 32 := 0#32
  let v21 : BitVec 1 := Scalar.cmpi .ne v20 c0_i32_13
  v21

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_6 : BitVec 32 := 0#32
  let v9 : BitVec 1 := Scalar.cmpi .ne v8 c0_i32_6
  v9

def k0_cond2 (i : grid0.Coords) : BitVec 1 :=
  let arg2 : BitVec 32 := BitVec.ofNat 32 (i 2).val
  let c0_i32_7 : BitVec 32 := 0#32
  let v10 : BitVec 1 := Scalar.cmpi .sgt arg2 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== MainDwRefIdeal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S1x4608 : Shape := ⟨2, ![1, 4608]⟩
abbrev S4608 : Shape := ⟨1, ![4608]⟩
abbrev S4608x1024 : Shape := ⟨2, ![4608, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S_, .f32⟩
  | .hbm, ⟨3, _⟩ => ⟨S1024x4608, .f32⟩
  | .hbm, ⟨4, _⟩ => ⟨S_, .f32⟩
  | .hbm, ⟨5, _⟩ => ⟨S1x4608, .f32⟩
  | .hbm, ⟨6, _⟩ => ⟨S8192x1024, .f32⟩
  | .hbm, ⟨7, _⟩ => ⟨S8192x4608, .f32⟩
  | .hbm, ⟨8, _⟩ => ⟨S8192x4608, .f32⟩
  | .hbm, ⟨9, _⟩ => ⟨S8192x4608, .f32⟩
  | .hbm, ⟨10, _⟩ => ⟨S8192x4608, .f32⟩
  | .hbm, ⟨11, _⟩ => ⟨S_, .f32⟩
  | .hbm, ⟨12, _⟩ => ⟨S4608, .f32⟩
  | .hbm, ⟨13, _⟩ => ⟨S1x4608, .f32⟩
  | .hbm, ⟨14, _⟩ => ⟨S4608x1024, .f32⟩
  | .hbm, ⟨15, _⟩ => ⟨S1024x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== UpGateDx.lean ====
abbrev S8192x2816 : Shape := ⟨2, ![8192, 2816]⟩
abbrev S2x1024x5632 : Shape := ⟨3, ![2, 1024, 5632]⟩
abbrev S8192x1024 : Shape := ⟨2, ![8192, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2x1024x5632, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c1_i32 : BitVec 32 := 1#32
  let c0_i32_0 : BitVec 32 := 0#32
  ![c1_i32.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGateDxRefIdeal.lean ====
abbrev S8192x2816 : Shape := ⟨2, ![8192, 2816]⟩
abbrev S2x1024x5632 : Shape := ⟨3, ![2, 1024, 5632]⟩
abbrev S_ : Shape := ⟨0, ![]⟩
abbrev S8192x1024 : Shape := ⟨2, ![8192, 1024]⟩
abbrev S1x1024x2816 : Shape := ⟨3, ![1, 1024, 2816]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x1024x5632, .bf16⟩
  | .hbm, ⟨2, _⟩ => ⟨S_, .f32⟩
  | .hbm, ⟨3, _⟩ => ⟨S8192x1024, .f32⟩
  | .hbm, ⟨4, _⟩ => ⟨S1x1024x2816, .bf16⟩
  | .hbm, ⟨5, _⟩ => ⟨S1024x2816, .bf16⟩
  | .hbm, ⟨6, _⟩ => ⟨S1024x2816, .f32⟩
  | .hbm, ⟨7, _⟩ => ⟨S8192x2816, .f32⟩
  | .hbm, ⟨8, _⟩ => ⟨S8192x2816, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpLinDx.lean ====
abbrev S8192x2816 : Shape := ⟨2, ![8192, 2816]⟩
abbrev S2x1024x5632 : Shape := ⟨3, ![2, 1024, 5632]⟩
abbrev S8192x1024 : Shape := ⟨2, ![8192, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2x1024x5632, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c1_i32 : BitVec 32 := 1#32
  let c0_i32 : BitVec 32 := 0#32
  ![c1_i32.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpLinDxRefIdeal.lean ====
abbrev S8192x2816 : Shape := ⟨2, ![8192, 2816]⟩
abbrev S2x1024x5632 : Shape := ⟨3, ![2, 1024, 5632]⟩
abbrev S8192x1024 : Shape := ⟨2, ![8192, 1024]⟩
abbrev S_ : Shape := ⟨0, ![]⟩
abbrev S1x1024x2816 : Shape := ⟨3, ![1, 1024, 2816]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x1024x5632, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1x1024x2816, .bf16⟩
  | .hbm, ⟨6, _⟩ => ⟨S1024x2816, .bf16⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x1024, .f32⟩
  | .hbm, ⟨11, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== UpGateDw.lean ====
abbrev S8192x1024 : Shape := ⟨2, ![8192, 1024]⟩
abbrev S8192x2816 : Shape := ⟨2, ![8192, 2816]⟩
abbrev S1024x5632 : Shape := ⟨2, ![1024, 5632]⟩
abbrev S1024x1024 : Shape := ⟨2, ![1024, 1024]⟩
abbrev S1024x1408 : Shape := ⟨2, ![1024, 1408]⟩
abbrev S1024x2816 : Shape := ⟨2, ![1024, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x5632, .f32⟩
  | .hbm, ⟨3, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGateDwRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpLinDw.lean ====
abbrev S8192x1024 : Shape := ⟨2, ![8192, 1024]⟩
abbrev S8192x2816 : Shape := ⟨2, ![8192, 2816]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x5632, .f32⟩
  | .hbm, ⟨3, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpLinDwRefIdeal.lean ====
abbrev S8192x1024 : Shape := ⟨2, ![8192, 1024]⟩
abbrev S8192x2816 : Shape := ⟨2, ![8192, 2816]⟩
abbrev S1024x5632 : Shape := ⟨2, ![1024, 5632]⟩
abbrev S1024x2816 : Shape := ⟨2, ![1024, 2816]⟩
abbrev S_ : Shape := ⟨0, ![]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x5632, .f32⟩
  | .hbm, ⟨3, _⟩ => ⟨S1024x2816, .f32⟩
  | .hbm, ⟨4, _⟩ => ⟨S_, .f32⟩
  | .hbm, ⟨5, _⟩ => ⟨S1024x2816, .f32⟩
  | .hbm, ⟨6, _⟩ => ⟨S8192x1024, .f32⟩
  | .hbm, ⟨7, _⟩ => ⟨S8192x2816, .f32⟩
  | .hbm, ⟨8, _⟩ => ⟨S8192x2816, .f32⟩
  | .hbm, ⟨9, _⟩ => ⟨S2816x1024, .f32⟩
  | .hbm, ⟨10, _⟩ => ⟨S1024x2816, .f32⟩
  | .hbm, ⟨11, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MixDx.lean ====
abbrev S8192x1024 : Shape := ⟨2, ![8192, 1024]⟩
abbrev S2x1024x1024 : Shape := ⟨3, ![2, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c1_i32 : BitVec 32 := 1#32
  let c0_i32_0 : BitVec 32 := 0#32
  ![c1_i32.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxRefIdeal.lean ====
abbrev S8192x1024 : Shape := ⟨2, ![8192, 1024]⟩
abbrev S2x1024x1024 : Shape := ⟨3, ![2, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S_, .bf16⟩
  | .hbm, ⟨3, _⟩ => ⟨S8192x1024, .bf16⟩
  | .hbm, ⟨4, _⟩ => ⟨S8192x1024, .f32⟩
  | .hbm, ⟨5, _⟩ => ⟨S1x1024x1024, .bf16⟩
  | .hbm, ⟨6, _⟩ => ⟨S1024x1024, .bf16⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MixDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvDx.lean ====
abbrev S8192x1024 : Shape := ⟨2, ![8192, 1024]⟩
abbrev S2x512x1024 : Shape := ⟨3, ![2, 512, 1024]⟩
abbrev S8192x512 : Shape := ⟨2, ![8192, 512]⟩
abbrev S2048x1024 : Shape := ⟨2, ![2048, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x512x1024, .bf16⟩
  | .hbm, ⟨2, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S2048x512, .f32⟩
  | .local _ .vmem, ⟨4, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c1_i32 : BitVec 32 := 1#32
  let c0_i32_0 : BitVec 32 := 0#32
  ![c1_i32.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvDxRefIdeal.lean ====
abbrev S8192x1024 : Shape := ⟨2, ![8192, 1024]⟩
abbrev S2x512x1024 : Shape := ⟨3, ![2, 512, 1024]⟩
abbrev S_ : Shape := ⟨0, ![]⟩
abbrev S8192x512 : Shape := ⟨2, ![8192, 512]⟩
abbrev S1x512x1024 : Shape := ⟨3, ![1, 512, 1024]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x512x1024, .bf16⟩
  | .hbm, ⟨2, _⟩ => ⟨S_, .f32⟩
  | .hbm, ⟨3, _⟩ => ⟨S8192x512, .f32⟩
  | .hbm, ⟨4, _⟩ => ⟨S1x512x1024, .bf16⟩
  | .hbm, ⟨5, _⟩ => ⟨S512x1024, .bf16⟩
  | .hbm, ⟨6, _⟩ => ⟨S512x1024, .f32⟩
  | .hbm, ⟨7, _⟩ => ⟨S8192x1024, .f32⟩
  | .hbm, ⟨8, _⟩ => ⟨S8192x1024, .f32⟩
  | .hbm, ⟨9, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvDw.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ConvDwRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjDx.lean ====
abbrev S8192x1024 : Shape := ⟨2, ![8192, 1024]⟩
abbrev S2x512x1024 : Shape := ⟨3, ![2, 512, 1024]⟩
abbrev S8192x512 : Shape := ⟨2, ![8192, 512]⟩
abbrev S2048x1024 : Shape := ⟨2, ![2048, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x512x1024, .bf16⟩
  | .hbm, ⟨2, _⟩ => ⟨S8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S2048x512, .bf16⟩
  | .local _ .vmem, ⟨4, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c1_i32 : BitVec 32 := 1#32
  let c0_i32_0 : BitVec 32 := 0#32
  ![c1_i32.toNat, arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S8192x1024 : Shape := ⟨2, ![8192, 1024]⟩
abbrev S2x512x1024 : Shape := ⟨3, ![2, 512, 1024]⟩
abbrev S_ : Shape := ⟨0, ![]⟩
abbrev S8192x512 : Shape := ⟨2, ![8192, 512]⟩
abbrev S1x512x1024 : Shape := ⟨3, ![1, 512, 1024]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x512x1024, .bf16⟩
  | .hbm, ⟨2, _⟩ => ⟨S_, .bf16⟩
  | .hbm, ⟨3, _⟩ => ⟨S8192x512, .bf16⟩
  | .hbm, ⟨4, _⟩ => ⟨S8192x512, .f32⟩
  | .hbm, ⟨5, _⟩ => ⟨S1x512x1024, .bf16⟩
  | .hbm, ⟨6, _⟩ => ⟨S512x1024, .bf16⟩
  | .hbm, ⟨7, _⟩ => ⟨S512x1024, .f32⟩
  | .hbm, ⟨8, _⟩ => ⟨S8192x1024, .f32⟩
  | .hbm, ⟨9, _⟩ => ⟨S8192x1024, .f32⟩
  | .hbm, ⟨10, _⟩ => ⟨S8192x512, .f32⟩
  | .hbm, ⟨11, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjDxt.lean ====
abbrev S8192x1024 : Shape := ⟨2, ![8192, 1024]⟩
abbrev S2x512x1024 : Shape := ⟨3, ![2, 512, 1024]⟩
abbrev S512x8192 : Shape := ⟨2, ![512, 8192]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x512x1024, .bf16⟩
  | .hbm, ⟨2, _⟩ => ⟨S512x8192, .bf16⟩
  | .local _ .vmem, ⟨0, _⟩ => ⟨S1x512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S1x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxtRefIdeal.lean ====
abbrev S8192x1024 : Shape := ⟨2, ![8192, 1024]⟩
abbrev S2x512x1024 : Shape := ⟨3, ![2, 512, 1024]⟩
abbrev S_ : Shape := ⟨0, ![]⟩
abbrev S512x8192 : Shape := ⟨2, ![512, 8192]⟩
abbrev S8192x512 : Shape := ⟨2, ![8192, 512]⟩
abbrev S1x512x1024 : Shape := ⟨3, ![1, 512, 1024]⟩
abbrev S512x1024 : Shape := ⟨2, ![512, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x512x1024, .bf16⟩
  | .hbm, ⟨2, _⟩ => ⟨S_, .bf16⟩
  | .hbm, ⟨3, _⟩ => ⟨S512x8192, .bf16⟩
  | .hbm, ⟨4, _⟩ => ⟨S8192x512, .bf16⟩
  | .hbm, ⟨5, _⟩ => ⟨S8192x512, .f32⟩
  | .hbm, ⟨6, _⟩ => ⟨S1x512x1024, .bf16⟩
  | .hbm, ⟨7, _⟩ => ⟨S512x1024, .bf16⟩
  | .hbm, ⟨8, _⟩ => ⟨S512x1024, .f32⟩
  | .hbm, ⟨9, _⟩ => ⟨S8192x1024, .f32⟩
  | .hbm, ⟨10, _⟩ => ⟨S8192x1024, .f32⟩
  | .hbm, ⟨11, _⟩ => ⟨S8192x512, .f32⟩
  | .hbm, ⟨12, _⟩ => ⟨S8192x512, .bf16⟩
  | .hbm, ⟨13, _⟩ => ⟨S512x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== ProjDw.lean ====
abbrev S512x8192 : Shape := ⟨2, ![512, 8192]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x8192, .bf16⟩
  | .hbm, ⟨1, _⟩ => ⟨S8192x1024, .bf16⟩
  | .hbm, ⟨2, _⟩ => ⟨S512x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwRefIdeal.lean ====
abbrev S512x8192 : Shape := ⟨2, ![512, 8192]⟩
abbrev S8192x1024 : Shape := ⟨2, ![8192, 1024]⟩
abbrev S_ : Shape := ⟨0, ![]⟩
abbrev S512x1024 : Shape := ⟨2, ![512, 1024]⟩
abbrev S8192x512 : Shape := ⟨2, ![8192, 512]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .bf16⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S1024x512, .f32⟩
  | .hbm, ⟨9, _⟩ => ⟨S512x1024, .f32⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MainFw.lean ====
abbrev S8192x1024 : Shape := ⟨2, ![8192, 1024]⟩
abbrev S2x1024x4608 : Shape := ⟨3, ![2, 1024, 4608]⟩
abbrev S1x4608 : Shape := ⟨2, ![1, 4608]⟩
abbrev S8192x4608 : Shape := ⟨2, ![8192, 4608]⟩
abbrev S2048x1024 : Shape := ⟨2, ![2048, 1024]⟩
abbrev S1x1024x1536 : Shape := ⟨3, ![1, 1024, 1536]⟩
abbrev S1x1536 : Shape := ⟨2, ![1, 1536]⟩
abbrev S2048x1536 : Shape := ⟨2, ![2048, 1536]⟩
abbrev S1024x1536 : Shape := ⟨2, ![1024, 1536]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2x1024x4608, .bf16⟩
  | .hbm, ⟨2, _⟩ => ⟨S1x4608, .f32⟩
  | .hbm, ⟨3, _⟩ => ⟨S8192x4608, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1x1536, .f32⟩
  | .local _ .vmem, ⟨5, _⟩ => ⟨S1x1536, .f32⟩
  | .local _ .vmem, ⟨6, _⟩ => ⟨S2048x1536, .bf16⟩
  | .local _ .vmem, ⟨7, _⟩ => ⟨S2048x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MainFwRefIdeal.lean ====
abbrev S8192x1024 : Shape := ⟨2, ![8192, 1024]⟩
abbrev S2x1024x4608 : Shape := ⟨3, ![2, 1024, 4608]⟩
abbrev S1x4608 : Shape := ⟨2, ![1, 4608]⟩
abbrev S1x1024x4608 : Shape := ⟨3, ![1, 1024, 4608]⟩
abbrev S1024x4608 : Shape := ⟨2, ![1024, 4608]⟩
abbrev S8192x4608 : Shape := ⟨2, ![8192, 4608]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x4608, .bf16⟩
  | .hbm, ⟨2, _⟩ => ⟨S1x4608, .f32⟩
  | .hbm, ⟨3, _⟩ => ⟨S8192x1024, .f32⟩
  | .hbm, ⟨4, _⟩ => ⟨S1x1024x4608, .bf16⟩
  | .hbm, ⟨5, _⟩ => ⟨S1024x4608, .bf16⟩
  | .hbm, ⟨6, _⟩ => ⟨S1024x4608, .f32⟩
  | .hbm, ⟨7, _⟩ => ⟨S8192x4608, .f32⟩
  | .hbm, ⟨8, _⟩ => ⟨S8192x4608, .f32⟩
  | .hbm, ⟨9, _⟩ => ⟨S8192x4608, .f32⟩
  | .hbm, ⟨10, _⟩ => ⟨S8192x4608, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpFw.lean ====
abbrev S8192x1024 : Shape := ⟨2, ![8192, 1024]⟩
abbrev S2x1024x5632 : Shape := ⟨3, ![2, 1024, 5632]⟩
abbrev S8192x5632 : Shape := ⟨2, ![8192, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x5632, .bf16⟩
  | .hbm, ⟨2, _⟩ => ⟨S8192x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .bf16⟩
  | .local _ .vmem, ⟨5, _⟩ => ⟨S2048x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwRefIdeal.lean ====
abbrev S8192x1024 : Shape := ⟨2, ![8192, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x5632, .bf16⟩
  | .hbm, ⟨2, _⟩ => ⟨S8192x1024, .f32⟩
  | .hbm, ⟨3, _⟩ => ⟨S1x1024x5632, .bf16⟩
  | .hbm, ⟨4, _⟩ => ⟨S1024x5632, .bf16⟩
  | .hbm, ⟨5, _⟩ => ⟨S1024x5632, .f32⟩
  | .hbm, ⟨6, _⟩ => ⟨S8192x5632, .f32⟩
  | .hbm, ⟨7, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DownFw.lean ====
abbrev S8192x2816 : Shape := ⟨2, ![8192, 2816]⟩
abbrev S2x2816x1024 : Shape := ⟨3, ![2, 2816, 1024]⟩
abbrev S8192x1024 : Shape := ⟨2, ![8192, 1024]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwRefIdeal.lean ====
abbrev S8192x2816 : Shape := ⟨2, ![8192, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x2816, .f32⟩
  | .hbm, ⟨3, _⟩ => ⟨S1x2816x1024, .bf16⟩
  | .hbm, ⟨4, _⟩ => ⟨S2816x1024, .bf16⟩
  | .hbm, ⟨5, _⟩ => ⟨S2816x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixFw.lean ====
abbrev S8192x1024 : Shape := ⟨2, ![8192, 1024]⟩
abbrev S2x1024x1024 : Shape := ⟨3, ![2, 1024, 1024]⟩
abbrev S1x1024 : Shape := ⟨2, ![1, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S1x1024, .f32⟩
  | .hbm, ⟨3, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixFwRefIdeal.lean ====
abbrev S8192x1024 : Shape := ⟨2, ![8192, 1024]⟩
abbrev S2x1024x1024 : Shape := ⟨3, ![2, 1024, 1024]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S1x1024, .f32⟩
  | .hbm, ⟨3, _⟩ => ⟨S8192x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvFw.lean ====
abbrev S8192x512 : Shape := ⟨2, ![8192, 512]⟩
abbrev S2x512x1024 : Shape := ⟨3, ![2, 512, 1024]⟩
abbrev S8192x1024 : Shape := ⟨2, ![8192, 1024]⟩
abbrev S2048x512 : Shape := ⟨2, ![2048, 512]⟩
abbrev S1x512x1024 : Shape := ⟨3, ![1, 512, 1024]⟩
abbrev S2048x1024 : Shape := ⟨2, ![2048, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S2x512x1024, .bf16⟩
  | .hbm, ⟨2, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S1x512x1024, .bf16⟩
  | .local _ .vmem, ⟨3, _⟩ => ⟨S2048x1024, .bf16⟩
  | .local _ .vmem, ⟨4, _⟩ => ⟨S2048x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvFwRefIdeal.lean ====
abbrev S8192x512 : Shape := ⟨2, ![8192, 512]⟩
abbrev S2x512x1024 : Shape := ⟨3, ![2, 512, 1024]⟩
abbrev S1x512x1024 : Shape := ⟨3, ![1, 512, 1024]⟩
abbrev S512x1024 : Shape := ⟨2, ![512, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2x512x1024, .bf16⟩
  | .hbm, ⟨2, _⟩ => ⟨S8192x512, .f32⟩
  | .hbm, ⟨3, _⟩ => ⟨S1x512x1024, .bf16⟩
  | .hbm, ⟨4, _⟩ => ⟨S512x1024, .bf16⟩
  | .hbm, ⟨5, _⟩ => ⟨S512x1024, .f32⟩
  | .hbm, ⟨6, _⟩ => ⟨S8192x1024, .f32⟩
  | .hbm, ⟨7, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjFw.lean ====
abbrev S512x8192 : Shape := ⟨2, ![512, 8192]⟩
abbrev S2x512x1024 : Shape := ⟨3, ![2, 512, 1024]⟩
abbrev S8192x1024 : Shape := ⟨2, ![8192, 1024]⟩
abbrev S512x1024 : Shape := ⟨2, ![512, 1024]⟩
abbrev S1x512x1024 : Shape := ⟨3, ![1, 512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x8192, .bf16⟩
  | .hbm, ⟨1, _⟩ => ⟨S2x512x1024, .bf16⟩
  | .hbm, ⟨2, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x512x1024, .bf16⟩
  | .local _ .vmem, ⟨3, _⟩ => ⟨S1024x1024, .bf16⟩
  | .local _ .vmem, ⟨4, _⟩ => ⟨S1024x1024, .bf16⟩
  | _, _ => ⟨S512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFwRefIdeal.lean ====
abbrev S512x8192 : Shape := ⟨2, ![512, 8192]⟩
abbrev S2x512x1024 : Shape := ⟨3, ![2, 512, 1024]⟩
abbrev S8192x512 : Shape := ⟨2, ![8192, 512]⟩
abbrev S1x512x1024 : Shape := ⟨3, ![1, 512, 1024]⟩
abbrev S512x1024 : Shape := ⟨2, ![512, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S2x512x1024, .bf16⟩
  | .hbm, ⟨2, _⟩ => ⟨S8192x512, .bf16⟩
  | .hbm, ⟨3, _⟩ => ⟨S8192x512, .f32⟩
  | .hbm, ⟨4, _⟩ => ⟨S1x512x1024, .bf16⟩
  | .hbm, ⟨5, _⟩ => ⟨S512x1024, .bf16⟩
  | .hbm, ⟨6, _⟩ => ⟨S512x1024, .f32⟩
  | .hbm, ⟨7, _⟩ => ⟨S8192x1024, .f32⟩
  | .hbm, ⟨8, _⟩ => ⟨S8192x1024, .bf16⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== AdaOpt.lean ====
abbrev S2x1024x1536 : Shape := ⟨3, ![2, 1024, 1536]⟩
abbrev S1x256x1536 : Shape := ⟨3, ![1, 256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2x1024x1536, .f32⟩
  | .hbm, ⟨5, _⟩ => ⟨S2x1024x1536, .f32⟩
  | .hbm, ⟨6, _⟩ => ⟨S2x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdaOptRefIdeal.lean ====
abbrev S2x1024x1536 : Shape := ⟨3, ![2, 1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaBOpt.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdaBOptRefIdeal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== InOpt.lean ====
abbrev S2x1024x1154 : Shape := ⟨3, ![2, 1024, 1154]⟩
abbrev S1x256x1154 : Shape := ⟨3, ![1, 256, 1154]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1154, .f32⟩
  | .hbm, ⟨1, _⟩ => ⟨S2x1024x1154, .f32⟩
  | .hbm, ⟨2, _⟩ => ⟨S2x1024x1154, .f32⟩
  | .hbm, ⟨3, _⟩ => ⟨S2x1024x1154, .f32⟩
  | .hbm, ⟨4, _⟩ => ⟨S2x1024x1154, .f32⟩
  | .hbm, ⟨5, _⟩ => ⟨S2x1024x1154, .f32⟩
  | .hbm, ⟨6, _⟩ => ⟨S2x1024x1154, .f32⟩
  | .local _ .vmem, ⟨0, _⟩ => ⟨S1x256x1154, .f32⟩
  | .local _ .vmem, ⟨1, _⟩ => ⟨S1x256x1154, .f32⟩
  | .local _ .vmem, ⟨2, _⟩ => ⟨S1x256x1154, .f32⟩
  | .local _ .vmem, ⟨3, _⟩ => ⟨S1x256x1154, .f32⟩
  | .local _ .vmem, ⟨4, _⟩ => ⟨S1x256x1154, .f32⟩
  | .local _ .vmem, ⟨5, _⟩ => ⟨S1x256x1154, .f32⟩
  | .local _ .vmem, ⟨6, _⟩ => ⟨S1x256x1154, .f32⟩
  | .local _ .vmem, ⟨7, _⟩ => ⟨S1x256x1154, .f32⟩
  | .local _ .vmem, ⟨8, _⟩ => ⟨S1x256x1154, .f32⟩
  | .local _ .vmem, ⟨9, _⟩ => ⟨S1x256x1154, .f32⟩
  | .local _ .vmem, ⟨10, _⟩ => ⟨S1x256x1154, .f32⟩
  | .local _ .vmem, ⟨11, _⟩ => ⟨S1x256x1154, .f32⟩
  | .local _ .vmem, ⟨12, _⟩ => ⟨S1x256x1154, .f32⟩
  | .local _ .vmem, ⟨13, _⟩ => ⟨S1x256x1154, .f32⟩
  | _, _ => ⟨S2x1024x1154, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1154 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1154 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1154 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1154 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1154 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1154 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1154 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InOptRefIdeal.lean ====
abbrev S2x1024x1154 : Shape := ⟨3, ![2, 1024, 1154]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1154, .f32⟩
  | .hbm, ⟨1, _⟩ => ⟨S2x1024x1154, .f32⟩
  | .hbm, ⟨2, _⟩ => ⟨S2x1024x1154, .f32⟩
  | .hbm, ⟨3, _⟩ => ⟨S2x1024x1154, .f32⟩
  | .hbm, ⟨4, _⟩ => ⟨S_, .f32⟩
  | .hbm, ⟨5, _⟩ => ⟨S2x1024x1154, .f32⟩
  | .hbm, ⟨6, _⟩ => ⟨S2x1024x1154, .f32⟩
  | .hbm, ⟨7, _⟩ => ⟨S_, .f32⟩
  | .hbm, ⟨8, _⟩ => ⟨S2x1024x1154, .f32⟩
  | .hbm, ⟨9, _⟩ => ⟨S2x1024x1154, .f32⟩
  | .hbm, ⟨10, _⟩ => ⟨S2x1024x1154, .f32⟩
  | .hbm, ⟨11, _⟩ => ⟨S_, .f32⟩
  | .hbm, ⟨12, _⟩ => ⟨S2x1024x1154, .f32⟩
  | .hbm, ⟨13, _⟩ => ⟨S2x1024x1154, .f32⟩
  | .hbm, ⟨14, _⟩ => ⟨S2x1024x1154, .f32⟩
  | .hbm, ⟨15, _⟩ => ⟨S_, .f32⟩
  | .hbm, ⟨16, _⟩ => ⟨S2x1024x1154, .f32⟩
  | .hbm, ⟨17, _⟩ => ⟨S2x1024x1154, .f32⟩
  | .hbm, ⟨18, _⟩ => ⟨S2x1024x1154, .f32⟩
  | .hbm, ⟨19, _⟩ => ⟨S_, .f32⟩
  | .hbm, ⟨20, _⟩ => ⟨S2x1024x1154, .f32⟩
  | .hbm, ⟨21, _⟩ => ⟨S2x1024x1154, .f32⟩
  | .hbm, ⟨22, _⟩ => ⟨S_, .f32⟩
  | .hbm, ⟨23, _⟩ => ⟨S2x1024x1154, .f32⟩
  | .hbm, ⟨24, _⟩ => ⟨S2x1024x1154, .f32⟩
  | .hbm, ⟨25, _⟩ => ⟨S2x1024x1154, .f32⟩
  | .hbm, ⟨26, _⟩ => ⟨S_, .f32⟩
  | .hbm, ⟨27, _⟩ => ⟨S2x1024x1154, .f32⟩
  | .hbm, ⟨28, _⟩ => ⟨S2x1024x1154, .f32⟩
  | .hbm, ⟨29, _⟩ => ⟨S2x1024x1154, .f32⟩
  | .hbm, ⟨30, _⟩ => ⟨S_, .f32⟩
  | .hbm, ⟨31, _⟩ => ⟨S2x1024x1154, .f32⟩
  | .hbm, ⟨32, _⟩ => ⟨S2x1024x1154, .f32⟩
  | .hbm, ⟨33, _⟩ => ⟨S2x1024x1154, .f32⟩
  | .hbm, ⟨34, _⟩ => ⟨S_, .f32⟩
  | .hbm, ⟨35, _⟩ => ⟨S2x1024x1154, .f32⟩
  | .hbm, ⟨36, _⟩ => ⟨S2x1024x1154, .f32⟩
  | _, _ => ⟨S2x1024x1154, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== InBOpt.lean ====
abbrev S2x4616 : Shape := ⟨2, ![2, 4616]⟩

abbrev nBuf : Space → Nat
  | .hbm => 7
  | .vmem => 7
  | .smem => 0
  | _ => 0

abbrev bufTy : (tb : Table) → Fin (tcTables nBuf tb) → BufTy
  | .hbm, ⟨0, _⟩ => ⟨S2x4616, .f32⟩
  | .hbm, ⟨1, _⟩ => ⟨S2x4616, .f32⟩
  | .hbm, ⟨2, _⟩ => ⟨S2x4616, .f32⟩
  | .hbm, ⟨3, _⟩ => ⟨S2x4616, .f32⟩
  | .hbm, ⟨4, _⟩ => ⟨S2x4616, .f32⟩
  | .hbm, ⟨5, _⟩ => ⟨S2x4616, .f32⟩
  | .hbm, ⟨6, _⟩ => ⟨S2x4616, .f32⟩
  | .local _ .vmem, ⟨0, _⟩ => ⟨S2x4616, .f32⟩
  | .local _ .vmem, ⟨1, _⟩ => ⟨S2x4616, .f32⟩
  | .local _ .vmem, ⟨2, _⟩ => ⟨S2x4616, .f32⟩
  | .local _ .vmem, ⟨3, _⟩ => ⟨S2x4616, .f32⟩
  | .local _ .vmem, ⟨4, _⟩ => ⟨S2x4616, .f32⟩
  | .local _ .vmem, ⟨5, _⟩ => ⟨S2x4616, .f32⟩
  | .local _ .vmem, ⟨6, _⟩ => ⟨S2x4616, .f32⟩
  | _, _ => ⟨S2x4616, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x4616 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x4616 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4616 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4616 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x4616 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x4616 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x4616 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InBOptRefIdeal.lean ====
abbrev S2x4616 : Shape := ⟨2, ![2, 4616]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4616, .f32⟩
  | .hbm, ⟨1, _⟩ => ⟨S2x4616, .f32⟩
  | .hbm, ⟨2, _⟩ => ⟨S2x4616, .f32⟩
  | .hbm, ⟨3, _⟩ => ⟨S2x4616, .f32⟩
  | .hbm, ⟨4, _⟩ => ⟨S_, .f32⟩
  | .hbm, ⟨5, _⟩ => ⟨S2x4616, .f32⟩
  | .hbm, ⟨6, _⟩ => ⟨S2x4616, .f32⟩
  | .hbm, ⟨7, _⟩ => ⟨S_, .f32⟩
  | .hbm, ⟨8, _⟩ => ⟨S2x4616, .f32⟩
  | .hbm, ⟨9, _⟩ => ⟨S2x4616, .f32⟩
  | .hbm, ⟨10, _⟩ => ⟨S2x4616, .f32⟩
  | .hbm, ⟨11, _⟩ => ⟨S_, .f32⟩
  | .hbm, ⟨12, _⟩ => ⟨S2x4616, .f32⟩
  | .hbm, ⟨13, _⟩ => ⟨S2x4616, .f32⟩
  | .hbm, ⟨14, _⟩ => ⟨S2x4616, .f32⟩
  | .hbm, ⟨15, _⟩ => ⟨S_, .f32⟩
  | .hbm, ⟨16, _⟩ => ⟨S2x4616, .f32⟩
  | .hbm, ⟨17, _⟩ => ⟨S2x4616, .f32⟩
  | .hbm, ⟨18, _⟩ => ⟨S2x4616, .f32⟩
  | .hbm, ⟨19, _⟩ => ⟨S_, .f32⟩
  | .hbm, ⟨20, _⟩ => ⟨S2x4616, .f32⟩
  | .hbm, ⟨21, _⟩ => ⟨S2x4616, .f32⟩
  | .hbm, ⟨22, _⟩ => ⟨S_, .f32⟩
  | .hbm, ⟨23, _⟩ => ⟨S2x4616, .f32⟩
  | .hbm, ⟨24, _⟩ => ⟨S2x4616, .f32⟩
  | .hbm, ⟨25, _⟩ => ⟨S2x4616, .f32⟩
  | .hbm, ⟨26, _⟩ => ⟨S_, .f32⟩
  | .hbm, ⟨27, _⟩ => ⟨S2x4616, .f32⟩
  | .hbm, ⟨28, _⟩ => ⟨S2x4616, .f32⟩
  | .hbm, ⟨29, _⟩ => ⟨S2x4616, .f32⟩
  | .hbm, ⟨30, _⟩ => ⟨S_, .f32⟩
  | .hbm, ⟨31, _⟩ => ⟨S2x4616, .f32⟩
  | .hbm, ⟨32, _⟩ => ⟨S2x4616, .f32⟩
  | .hbm, ⟨33, _⟩ => ⟨S2x4616, .f32⟩
  | .hbm, ⟨34, _⟩ => ⟨S_, .f32⟩
  | .hbm, ⟨35, _⟩ => ⟨S2x4616, .f32⟩
  | .hbm, ⟨36, _⟩ => ⟨S2x4616, .f32⟩
  | _, _ => ⟨S2x4616, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ConvAOpt.lean ====
abbrev S2x31x128 : Shape := ⟨3, ![2, 31, 128]⟩
abbrev S1x31x128 : Shape := ⟨3, ![1, 31, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S2x31x128, .f32⟩
  | .hbm, ⟨5, _⟩ => ⟨S2x31x128, .f32⟩
  | .hbm, ⟨6, _⟩ => ⟨S2x31x128, .f32⟩
  | .local _ .vmem, ⟨0, _⟩ => ⟨S1x31x128, .f32⟩
  | .local _ .vmem, ⟨1, _⟩ => ⟨S1x31x128, .f32⟩
  | .local _ .vmem, ⟨2, _⟩ => ⟨S1x31x128, .f32⟩
  | .local _ .vmem, ⟨3, _⟩ => ⟨S1x31x128, .f32⟩
  | .local _ .vmem, ⟨4, _⟩ => ⟨S1x31x128, .f32⟩
  | .local _ .vmem, ⟨5, _⟩ => ⟨S1x31x128, .f32⟩
  | .local _ .vmem, ⟨6, _⟩ => ⟨S1x31x128, .f32⟩
  | .local _ .vmem, ⟨7, _⟩ => ⟨S1x31x128, .f32⟩
  | .local _ .vmem, ⟨8, _⟩ => ⟨S1x31x128, .f32⟩
  | .local _ .vmem, ⟨9, _⟩ => ⟨S1x31x128, .f32⟩
  | .local _ .vmem, ⟨10, _⟩ => ⟨S1x31x128, .f32⟩
  | .local _ .vmem, ⟨11, _⟩ => ⟨S1x31x128, .f32⟩
  | .local _ .vmem, ⟨12, _⟩ => ⟨S1x31x128, .f32⟩
  | .local _ .vmem, ⟨13, _⟩ => ⟨S1x31x128, .f32⟩
  | _, _ => ⟨S2x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x31x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x31x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x31x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x31x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvAOptRefIdeal.lean ====
abbrev S2x31x128 : Shape := ⟨3, ![2, 31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x31x128, .f32⟩
  | .hbm, ⟨1, _⟩ => ⟨S2x31x128, .f32⟩
  | .hbm, ⟨2, _⟩ => ⟨S2x31x128, .f32⟩
  | .hbm, ⟨3, _⟩ => ⟨S2x31x128, .f32⟩
  | .hbm, ⟨4, _⟩ => ⟨S_, .f32⟩
  | .hbm, ⟨5, _⟩ => ⟨S2x31x128, .f32⟩
  | .hbm, ⟨6, _⟩ => ⟨S2x31x128, .f32⟩
  | .hbm, ⟨7, _⟩ => ⟨S_, .f32⟩
  | .hbm, ⟨8, _⟩ => ⟨S2x31x128, .f32⟩
  | .hbm, ⟨9, _⟩ => ⟨S2x31x128, .f32⟩
  | .hbm, ⟨10, _⟩ => ⟨S2x31x128, .f32⟩
  | .hbm, ⟨11, _⟩ => ⟨S_, .f32⟩
  | .hbm, ⟨12, _⟩ => ⟨S2x31x128, .f32⟩
  | .hbm, ⟨13, _⟩ => ⟨S2x31x128, .f32⟩
  | .hbm, ⟨14, _⟩ => ⟨S2x31x128, .f32⟩
  | .hbm, ⟨15, _⟩ => ⟨S_, .f32⟩
  | .hbm, ⟨16, _⟩ => ⟨S2x31x128, .f32⟩
  | .hbm, ⟨17, _⟩ => ⟨S2x31x128, .f32⟩
  | .hbm, ⟨18, _⟩ => ⟨S2x31x128, .f32⟩
  | .hbm, ⟨19, _⟩ => ⟨S_, .f32⟩
  | .hbm, ⟨20, _⟩ => ⟨S2x31x128, .f32⟩
  | .hbm, ⟨21, _⟩ => ⟨S2x31x128, .f32⟩
  | .hbm, ⟨22, _⟩ => ⟨S_, .f32⟩
  | .hbm, ⟨23, _⟩ => ⟨S2x31x128, .f32⟩
  | .hbm, ⟨24, _⟩ => ⟨S2x31x128, .f32⟩
  | .hbm, ⟨25, _⟩ => ⟨S2x31x128, .f32⟩
  | .hbm, ⟨26, _⟩ => ⟨S_, .f32⟩
  | .hbm, ⟨27, _⟩ => ⟨S2x31x128, .f32⟩
  | .hbm, ⟨28, _⟩ => ⟨S2x31x128, .f32⟩
  | .hbm, ⟨29, _⟩ => ⟨S2x31x128, .f32⟩
  | .hbm, ⟨30, _⟩ => ⟨S_, .f32⟩
  | .hbm, ⟨31, _⟩ => ⟨S2x31x128, .f32⟩
  | .hbm, ⟨32, _⟩ => ⟨S2x31x128, .f32⟩
  | .hbm, ⟨33, _⟩ => ⟨S2x31x128, .f32⟩
  | .hbm, ⟨34, _⟩ => ⟨S_, .f32⟩
  | .hbm, ⟨35, _⟩ => ⟨S2x31x128, .f32⟩
  | .hbm, ⟨36, _⟩ => ⟨S2x31x128, .f32⟩
  | _, _ => ⟨S2x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ChOpt.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ChOptRefIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== BranchOpt.lean ====
abbrev S2x512x256 : Shape := ⟨3, ![2, 512, 256]⟩
abbrev S1x256x256 : Shape := ⟨3, ![1, 256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== BranchOptRefIdeal.lean ====
abbrev S2x512x256 : Shape := ⟨3, ![2, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== MixOutOpt.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixOutOptRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== RowOpt.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RowOptRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FfnUpOpt.lean ====
abbrev S2x1024x1408 : Shape := ⟨3, ![2, 1024, 1408]⟩
abbrev S1x256x1408 : Shape := ⟨3, ![1, 256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnUpOptRefIdeal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FfnConvOpt.lean ====
abbrev S2x3x1408 : Shape := ⟨3, ![2, 3, 1408]⟩
abbrev S1x3x1408 : Shape := ⟨3, ![1, 3, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S2x3x1408, .f32⟩
  | .hbm, ⟨5, _⟩ => ⟨S2x3x1408, .f32⟩
  | .hbm, ⟨6, _⟩ => ⟨S2x3x1408, .f32⟩
  | .local _ .vmem, ⟨0, _⟩ => ⟨S1x3x1408, .f32⟩
  | .local _ .vmem, ⟨1, _⟩ => ⟨S1x3x1408, .f32⟩
  | .local _ .vmem, ⟨2, _⟩ => ⟨S1x3x1408, .f32⟩
  | .local _ .vmem, ⟨3, _⟩ => ⟨S1x3x1408, .f32⟩
  | .local _ .vmem, ⟨4, _⟩ => ⟨S1x3x1408, .f32⟩
  | .local _ .vmem, ⟨5, _⟩ => ⟨S1x3x1408, .f32⟩
  | .local _ .vmem, ⟨6, _⟩ => ⟨S1x3x1408, .f32⟩
  | .local _ .vmem, ⟨7, _⟩ => ⟨S1x3x1408, .f32⟩
  | .local _ .vmem, ⟨8, _⟩ => ⟨S1x3x1408, .f32⟩
  | .local _ .vmem, ⟨9, _⟩ => ⟨S1x3x1408, .f32⟩
  | .local _ .vmem, ⟨10, _⟩ => ⟨S1x3x1408, .f32⟩
  | .local _ .vmem, ⟨11, _⟩ => ⟨S1x3x1408, .f32⟩
  | .local _ .vmem, ⟨12, _⟩ => ⟨S1x3x1408, .f32⟩
  | .local _ .vmem, ⟨13, _⟩ => ⟨S1x3x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnConvOptRefIdeal.lean ====
abbrev S2x3x1408 : Shape := ⟨3, ![2, 3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S_, .f32⟩
  | .hbm, ⟨5, _⟩ => ⟨S2x3x1408, .f32⟩
  | .hbm, ⟨6, _⟩ => ⟨S2x3x1408, .f32⟩
  | .hbm, ⟨7, _⟩ => ⟨S_, .f32⟩
  | .hbm, ⟨8, _⟩ => ⟨S2x3x1408, .f32⟩
  | .hbm, ⟨9, _⟩ => ⟨S2x3x1408, .f32⟩
  | .hbm, ⟨10, _⟩ => ⟨S2x3x1408, .f32⟩
  | .hbm, ⟨11, _⟩ => ⟨S_, .f32⟩
  | .hbm, ⟨12, _⟩ => ⟨S2x3x1408, .f32⟩
  | .hbm, ⟨13, _⟩ => ⟨S2x3x1408, .f32⟩
  | .hbm, ⟨14, _⟩ => ⟨S2x3x1408, .f32⟩
  | .hbm, ⟨15, _⟩ => ⟨S_, .f32⟩
  | .hbm, ⟨16, _⟩ => ⟨S2x3x1408, .f32⟩
  | .hbm, ⟨17, _⟩ => ⟨S2x3x1408, .f32⟩
  | .hbm, ⟨18, _⟩ => ⟨S2x3x1408, .f32⟩
  | .hbm, ⟨19, _⟩ => ⟨S_, .f32⟩
  | .hbm, ⟨20, _⟩ => ⟨S2x3x1408, .f32⟩
  | .hbm, ⟨21, _⟩ => ⟨S2x3x1408, .f32⟩
  | .hbm, ⟨22, _⟩ => ⟨S_, .f32⟩
  | .hbm, ⟨23, _⟩ => ⟨S2x3x1408, .f32⟩
  | .hbm, ⟨24, _⟩ => ⟨S2x3x1408, .f32⟩
  | .hbm, ⟨25, _⟩ => ⟨S2x3x1408, .f32⟩
  | .hbm, ⟨26, _⟩ => ⟨S_, .f32⟩
  | .hbm, ⟨27, _⟩ => ⟨S2x3x1408, .f32⟩
  | .hbm, ⟨28, _⟩ => ⟨S2x3x1408, .f32⟩
  | .hbm, ⟨29, _⟩ => ⟨S2x3x1408, .f32⟩
  | .hbm, ⟨30, _⟩ => ⟨S_, .f32⟩
  | .hbm, ⟨31, _⟩ => ⟨S2x3x1408, .f32⟩
  | .hbm, ⟨32, _⟩ => ⟨S2x3x1408, .f32⟩
  | .hbm, ⟨33, _⟩ => ⟨S2x3x1408, .f32⟩
  | .hbm, ⟨34, _⟩ => ⟨S_, .f32⟩
  | .hbm, ⟨35, _⟩ => ⟨S2x3x1408, .f32⟩
  | .hbm, ⟨36, _⟩ => ⟨S2x3x1408, .f32⟩
  | _, _ => ⟨S2x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FfnConvBOpt.lean ====
abbrev S2x5632 : Shape := ⟨2, ![2, 5632]⟩

abbrev nBuf : Space → Nat
  | .hbm => 7
  | .vmem => 7
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S2x5632, .f32⟩
  | .hbm, ⟨5, _⟩ => ⟨S2x5632, .f32⟩
  | .hbm, ⟨6, _⟩ => ⟨S2x5632, .f32⟩
  | .local _ .vmem, ⟨0, _⟩ => ⟨S2x5632, .f32⟩
  | .local _ .vmem, ⟨1, _⟩ => ⟨S2x5632, .f32⟩
  | .local _ .vmem, ⟨2, _⟩ => ⟨S2x5632, .f32⟩
  | .local _ .vmem, ⟨3, _⟩ => ⟨S2x5632, .f32⟩
  | .local _ .vmem, ⟨4, _⟩ => ⟨S2x5632, .f32⟩
  | .local _ .vmem, ⟨5, _⟩ => ⟨S2x5632, .f32⟩
  | .local _ .vmem, ⟨6, _⟩ => ⟨S2x5632, .f32⟩
  | _, _ => ⟨S2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnConvBOptRefIdeal.lean ====
abbrev S2x5632 : Shape := ⟨2, ![2, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S_, .f32⟩
  | .hbm, ⟨5, _⟩ => ⟨S2x5632, .f32⟩
  | .hbm, ⟨6, _⟩ => ⟨S2x5632, .f32⟩
  | .hbm, ⟨7, _⟩ => ⟨S_, .f32⟩
  | .hbm, ⟨8, _⟩ => ⟨S2x5632, .f32⟩
  | .hbm, ⟨9, _⟩ => ⟨S2x5632, .f32⟩
  | .hbm, ⟨10, _⟩ => ⟨S2x5632, .f32⟩
  | .hbm, ⟨11, _⟩ => ⟨S_, .f32⟩
  | .hbm, ⟨12, _⟩ => ⟨S2x5632, .f32⟩
  | .hbm, ⟨13, _⟩ => ⟨S2x5632, .f32⟩
  | .hbm, ⟨14, _⟩ => ⟨S2x5632, .f32⟩
  | .hbm, ⟨15, _⟩ => ⟨S_, .f32⟩
  | .hbm, ⟨16, _⟩ => ⟨S2x5632, .f32⟩
  | .hbm, ⟨17, _⟩ => ⟨S2x5632, .f32⟩
  | .hbm, ⟨18, _⟩ => ⟨S2x5632, .f32⟩
  | .hbm, ⟨19, _⟩ => ⟨S_, .f32⟩
  | .hbm, ⟨20, _⟩ => ⟨S2x5632, .f32⟩
  | .hbm, ⟨21, _⟩ => ⟨S2x5632, .f32⟩
  | .hbm, ⟨22, _⟩ => ⟨S_, .f32⟩
  | .hbm, ⟨23, _⟩ => ⟨S2x5632, .f32⟩
  | .hbm, ⟨24, _⟩ => ⟨S2x5632, .f32⟩
  | .hbm, ⟨25, _⟩ => ⟨S2x5632, .f32⟩
  | .hbm, ⟨26, _⟩ => ⟨S_, .f32⟩
  | .hbm, ⟨27, _⟩ => ⟨S2x5632, .f32⟩
  | .hbm, ⟨28, _⟩ => ⟨S2x5632, .f32⟩
  | .hbm, ⟨29, _⟩ => ⟨S2x5632, .f32⟩
  | .hbm, ⟨30, _⟩ => ⟨S_, .f32⟩
  | .hbm, ⟨31, _⟩ => ⟨S2x5632, .f32⟩
  | .hbm, ⟨32, _⟩ => ⟨S2x5632, .f32⟩
  | .hbm, ⟨33, _⟩ => ⟨S2x5632, .f32⟩
  | .hbm, ⟨34, _⟩ => ⟨S_, .f32⟩
  | .hbm, ⟨35, _⟩ => ⟨S2x5632, .f32⟩
  | .hbm, ⟨36, _⟩ => ⟨S2x5632, .f32⟩
  | _, _ => ⟨S2x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FfnDownOpt.lean ====
abbrev S2x704x1024 : Shape := ⟨3, ![2, 704, 1024]⟩
abbrev S1x352x1024 : Shape := ⟨3, ![1, 352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnDownOptRefIdeal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaDw.lean ====
abbrev S32x1024 : Shape := ⟨2, ![32, 1024]⟩
abbrev S32x1536 : Shape := ⟨2, ![32, 1536]⟩
abbrev S1024x1536 : Shape := ⟨2, ![1024, 1536]⟩

abbrev nBuf : Space → Nat
  | .hbm => 3
  | .vmem => 3
  | .smem => 0
  | _ => 0

abbrev bufTy : (tb : Table) → Fin (tcTables nBuf tb) → BufTy
  | .hbm, ⟨0, _⟩ => ⟨S32x1024, .f32⟩
  | .hbm, ⟨1, _⟩ => ⟨S32x1536, .f32⟩
  | .hbm, ⟨2, _⟩ => ⟨S1024x1536, .f32⟩
  | .local _ .vmem, ⟨0, _⟩ => ⟨S32x1024, .f32⟩
  | .local _ .vmem, ⟨1, _⟩ => ⟨S32x1536, .f32⟩
  | .local _ .vmem, ⟨2, _⟩ => ⟨S1024x1536, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S32x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AdaDwRefIdeal.lean ====
abbrev S32x1024 : Shape := ⟨2, ![32, 1024]⟩
abbrev S32x1536 : Shape := ⟨2, ![32, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1536, .f32⟩
  | .hbm, ⟨2, _⟩ => ⟨S_, .f32⟩
  | .hbm, ⟨3, _⟩ => ⟨S1024x1536, .f32⟩
  | .hbm, ⟨4, _⟩ => ⟨S32x1536, .f32⟩
  | .hbm, ⟨5, _⟩ => ⟨S1536x1024, .f32⟩
  | .hbm, ⟨6, _⟩ => ⟨S1024x1536, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdaDb.lean ====
abbrev S32x6144 : Shape := ⟨2, ![32, 6144]⟩
abbrev S1x6144 : Shape := ⟨2, ![1, 6144]⟩
abbrev S32x512 : Shape := ⟨2, ![32, 512]⟩
abbrev S1x512 : Shape := ⟨2, ![1, 512]⟩
abbrev S512 : Shape := ⟨1, ![512]⟩

abbrev nBuf : Space → Nat
  | .hbm => 2
  | .vmem => 4
  | .smem => 0
  | _ => 0

abbrev bufTy : (tb : Table) → Fin (tcTables nBuf tb) → BufTy
  | .hbm, ⟨0, _⟩ => ⟨S32x6144, .f32⟩
  | .hbm, ⟨1, _⟩ => ⟨S1x6144, .f32⟩
  | .local _ .vmem, ⟨0, _⟩ => ⟨S32x512, .f32⟩
  | .local _ .vmem, ⟨1, _⟩ => ⟨S32x512, .f32⟩
  | .local _ .vmem, ⟨2, _⟩ => ⟨S1x512, .f32⟩
  | .local _ .vmem, ⟨3, _⟩ => ⟨S1x512, .f32⟩
  | _, _ => ⟨S32x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== AdaDbRefIdeal.lean ====
abbrev S32x6144 : Shape := ⟨2, ![32, 6144]⟩
abbrev S_ : Shape := ⟨0, ![]⟩
abbrev S1x6144 : Shape := ⟨2, ![1, 6144]⟩
abbrev S6144 : Shape := ⟨1, ![6144]⟩

abbrev nBuf : Space → Nat
  | .hbm => 10
  | .vmem => 0
  | .smem => 0
  | _ => 0

abbrev bufTy : (tb : Table) → Fin (tcTables nBuf tb) → BufTy
  | .hbm, ⟨0, _⟩ => ⟨S32x6144, .f32⟩
  | .hbm, ⟨1, _⟩ => ⟨S_, .f32⟩
  | .hbm, ⟨2, _⟩ => ⟨S1x6144, .f32⟩
  | .hbm, ⟨3, _⟩ => ⟨S_, .f32⟩
  | .hbm, ⟨4, _⟩ => ⟨S32x6144, .f32⟩
  | .hbm, ⟨5, _⟩ => ⟨S32x6144, .f32⟩
  | .hbm, ⟨6, _⟩ => ⟨S32x6144, .f32⟩
  | .hbm, ⟨7, _⟩ => ⟨S_, .f32⟩
  | .hbm, ⟨8, _⟩ => ⟨S6144, .f32⟩
  | .hbm, ⟨9, _⟩ => ⟨S1x6144, .f32⟩
  | _, _ => ⟨S32x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== SumSmall.lean ====
abbrev S8x656x128 : Shape := ⟨3, ![8, 656, 128]⟩
abbrev S656x128 : Shape := ⟨2, ![656, 128]⟩
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x656x128, .f32⟩
  | .hbm, ⟨1, _⟩ => ⟨S656x128, .f32⟩
  | .local _ .vmem, ⟨0, _⟩ => ⟨S8x16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | _, _ => ⟨S8x656x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![41], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x656x128 : Shape := ⟨3, ![8, 656, 128]⟩
abbrev S_ : Shape := ⟨0, ![]⟩
abbrev S656x128 : Shape := ⟨2, ![656, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x656x128, .f32⟩
  | .hbm, ⟨1, _⟩ => ⟨S_, .f32⟩
  | .hbm, ⟨2, _⟩ => ⟨S656x128, .f32⟩
  | _, _ => ⟨S8x656x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.FgBody.lean ====
/-
  What one grid point of the gate-gradient kernel leaves: its output block and the carried row, as the printed
  payload functions of the point's two input blocks and of the row the point before left; and those payload
  functions read at an index over the extended reals.
-/
module

public import proofs.«01_k».proof.Proof.Gen.FgateIdeal.Value
public import Idealize.ShloMosaic.Lib.Pipeline.Value
public import Idealize.ShloMosaic.Lib.Pipeline.ValueKit.Tiles
public import Idealize.ShloMosaic.PureOps.Ideal.Laws
public import Idealize.ShloMosaic.Lib.MatmulPlain
public import Idealize.ShloMosaic.Lib.IdealHost
public import Idealize.ShloMosaic.Lib.ValueIdx
public import Idealize.ShloMosaic.Lib.WordCmp
public import Idealize.ShloMosaic.Lib.Tactic

@[expose] public section

noncomputable section

namespace Cert.FgateIdeal.Body

open Cert.FgateIdeal Cert.FgateIdeal.Gen Idealize.ShloMosaic Idealize.ShloMosaic.TcCoe Idealize.SL.Sem
open Idealize.ShloMosaic.ValueIdx

/-! ## A point's stores as payloads -/

section AnyInstance
variable {F : FTy → Type} [FloatOps F]

theorem hz : (![0, 0] : Fin 2 → Nat) = fun _ => 0 := funext fun a => by fin_cases a <;> rfl

/-- Block `p` of the four stacked pair blocks a point stages, as the body loads it. -/
abbrev pair0 (x : Vec F S1x4x256x128 .f32) : Vec F S1x1x256x128 .f32 := View.ld x (Rect.unit (s := S1x4x256x128) ![0, 0, 0, 0] S1x1x256x128.size inb_S1x4x256x128_S1x1x256x128_0_0_0_0)
abbrev pair1 (x : Vec F S1x4x256x128 .f32) : Vec F S1x1x256x128 .f32 := View.ld x (Rect.unit (s := S1x4x256x128) ![0, 1, 0, 0] S1x1x256x128.size inb_S1x4x256x128_S1x1x256x128_0_1_0_0)
abbrev pair2 (x : Vec F S1x4x256x128 .f32) : Vec F S1x1x256x128 .f32 := View.ld x (Rect.unit (s := S1x4x256x128) ![0, 2, 0, 0] S1x1x256x128.size inb_S1x4x256x128_S1x1x256x128_0_2_0_0)
abbrev pair3 (x : Vec F S1x4x256x128 .f32) : Vec F S1x1x256x128 .f32 := View.ld x (Rect.unit (s := S1x4x256x128) ![0, 3, 0, 0] S1x1x256x128.size inb_S1x4x256x128_S1x1x256x128_0_3_0_0)

/-- The product of the triangle of ones with the sum of the four pair blocks. -/
abbrev triSum (x : Vec F S1x4x256x128 .f32) : FVec F S256x128 .f32 := k0_pay5 (pair0 x) (pair1 x) (pair2 x) (pair3 x)

/-- A point that does not start a sequence leaves this output block, over the row `xs` carried to it. -/
theorem out_B (c : Dev nD) (i : grid0.Coords) (a2 : Memref sig .tc .vmem S1x4x256x128 .f32) (h2 : a2.IsWhole)
    (a3 : Memref sig .tc .vmem S256x128 .f32) (h3 : a3.IsWhole) (a4 : Memref sig .tc .vmem S256x128 .f32) (h4 : a4.IsWhole)
    (a5 : Memref sig .tc .vmem S1x128 .f32) (h5 : a5.IsWhole) (hc : ¬cond0_0 i)
    (x : Vec F S1x4x256x128 .f32) (z : Vec F S256x128 .f32) (xs : Vec F S1x128 .f32) :
    out0_B_2 c i a2 h2 a3 h3 a4 h4 a5 h5 hc x z xs = k0_pay3 (triSum x) (k0_pay6 xs) z := by
  unfold out0_B_2
  rw [View.read_writes_eq_canon _ _ _ (cover0_B_2 c i a2 h2 a3 h3 a4 h4 a5 h5 hc x z xs)]
  unfold kernelRun0_B
  dsimp only
  sl_unfold_words
  rw [View.canon_unit_zero hz]
  simp only [View.readAt_eq_ld, h2.read_unread, h3.read_unread, h5.read_unread, View.ld_unit_zero (S := S256x128) hz, View.ld_unit_zero (S := S1x128) hz, shapeCast_self]

/-- … and carries this row on. -/
theorem sout_B (c : Dev nD) (i : grid0.Coords) (a2 : Memref sig .tc .vmem S1x4x256x128 .f32) (h2 : a2.IsWhole)
    (a3 : Memref sig .tc .vmem S256x128 .f32) (h3 : a3.IsWhole) (a4 : Memref sig .tc .vmem S256x128 .f32) (h4 : a4.IsWhole)
    (a5 : Memref sig .tc .vmem S1x128 .f32) (h5 : a5.IsWhole) (hc : ¬cond0_0 i)
    (x : Vec F S1x4x256x128 .f32) (z : Vec F S256x128 .f32) (xs : Vec F S1x128 .f32) :
    sout0_B_0 c i a2 h2 a3 h3 a4 h4 a5 h5 hc x z xs = k0_pay2 (triSum x) (k0_pay6 xs) := by
  unfold sout0_B_0
  rw [View.read_writes_eq_canon _ _ _ (scover0_B_0 c i a2 h2 a3 h3 a4 h4 a5 h5 hc x z xs)]
  unfold kernelRun0_B
  dsimp only
  sl_unfold_words
  rw [View.canon_unit_zero hz]
  simp only [View.readAt_eq_ld, h2.read_unread, h3.read_unread, h5.read_unread, View.ld_unit_zero (S := S256x128) hz, View.ld_unit_zero (S := S1x128) hz, shapeCast_self]

/-- A point that starts a sequence leaves the same block over the zero row. -/
theorem out_A (c : Dev nD) (i : grid0.Coords) (a2 : Memref sig .tc .vmem S1x4x256x128 .f32) (h2 : a2.IsWhole)
    (a3 : Memref sig .tc .vmem S256x128 .f32) (h3 : a3.IsWhole) (a4 : Memref sig .tc .vmem S256x128 .f32) (h4 : a4.IsWhole)
    (a5 : Memref sig .tc .vmem S1x128 .f32) (h5 : a5.IsWhole) (hc : cond0_0 i)
    (x : Vec F S1x4x256x128 .f32) (z : Vec F S256x128 .f32) :
    out0_A_2 c i a2 h2 a3 h3 a4 h4 a5 h5 hc x z = k0_pay3 (triSum x) (k0_pay6 k0_pay4) z := by
  unfold out0_A_2
  rw [View.read_writes_eq_canon _ _ _ (cover0_A_2 c i a2 h2 a3 h3 a4 h4 a5 h5 hc x z)]
  unfold kernelRun0_A
  dsimp only
  sl_unfold_words
  rw [View.canon_unit_zero hz, View.readCov_unit_zero (S := S1x128) _ hz]
  simp only [View.readAt_eq_ld, h2.read_unread, h3.read_unread, h5.read_unread, View.ld_unit_zero (S := S256x128) hz, View.ld_unit_zero (S := S1x128) hz, shapeCast_self]

/-- … and carries this row on. -/
theorem sout_A (c : Dev nD) (i : grid0.Coords) (a2 : Memref sig .tc .vmem S1x4x256x128 .f32) (h2 : a2.IsWhole)
    (a3 : Memref sig .tc .vmem S256x128 .f32) (h3 : a3.IsWhole) (a4 : Memref sig .tc .vmem S256x128 .f32) (h4 : a4.IsWhole)
    (a5 : Memref sig .tc .vmem S1x128 .f32) (h5 : a5.IsWhole) (hc : cond0_0 i)
    (x : Vec F S1x4x256x128 .f32) (z : Vec F S256x128 .f32) :
    sout0_A_0 c i a2 h2 a3 h3 a4 h4 a5 h5 hc x z = k0_pay2 (triSum x) (k0_pay6 k0_pay4) := by
  unfold sout0_A_0
  rw [View.read_writes_eq_canon _ _ _ (scover0_A_0 c i a2 h2 a3 h3 a4 h4 a5 h5 hc x z)]
  unfold kernelRun0_A
  dsimp only
  sl_unfold_words
  rw [View.canon_cons_unit_zero (S := S1x128) hz, View.readCov_unit_zero (S := S1x128) _ hz]
  simp only [View.readAt_eq_ld, h2.read_unread, h3.read_unread, h5.read_unread, View.ld_unit_zero (S := S256x128) hz, View.ld_unit_zero (S := S1x128) hz, shapeCast_self]

end AnyInstance

/-! ## The payloads at an index -/

/-- The 0/1 triangle: entry (r, k) is one exactly where `r ≤ k`. -/
theorem tri_apply (r k : Fin 256) :
    (((IntOp.cmpi .sge (BitVec.ofNat 32 k.val) (BitVec.ofNat 32 r.val)).setWidth 32).toInt : ℝ) = if r.val ≤ k.val then 1 else 0 := by
  have hr := r.isLt
  have hk := k.isLt
  have e : ∀ n : Nat, n < 256 → (BitVec.ofNat 32 n).toInt = (n : Int) := fun n hn => by
    rw [BitVec.toInt_eq_toNat_of_lt (by rw [BitVec.toNat_ofNat]; omega), BitVec.toNat_ofNat]; omega
  by_cases h : r.val ≤ k.val
  · have h1 : IntOp.cmpi .sge (BitVec.ofNat 32 k.val) (BitVec.ofNat 32 r.val) = 1#1 := by
      simp only [IntOp.cmpi]
      rw [BitVec.sle_eq_decide, e _ hr, e _ hk, decide_eq_true (by omega)]
      rfl
    rw [h1, if_pos h]; norm_num
  · have h1 : IntOp.cmpi .sge (BitVec.ofNat 32 k.val) (BitVec.ofNat 32 r.val) = 0#1 := by
      simp only [IntOp.cmpi]
      rw [BitVec.sle_eq_decide, e _ hr, e _ hk, decide_eq_false (by omega)]
      rfl
    rw [h1, if_neg h]; norm_num

/-- The sum of the four pair blocks of a point, in the kernel's order. -/
def colSum (x : Vec Ideal S1x4x256x128 .f32) (r : Fin 256) (l : Fin 128) : EReal :=
  x (ix4 0 0 r l) + x (ix4 0 1 r l) + x (ix4 0 2 r l) + x (ix4 0 3 r l)

theorem pair_apply (p : Fin 4) (x : Vec Ideal S1x4x256x128 .f32) (off : Fin 4 → Nat) (ho : off = ![0, p.val, 0, 0]) (inb) (r : Fin 256) (l : Fin 128) :
    shapeCast S256x128 (View.ld x (Rect.unit (s := S1x4x256x128) off S1x1x256x128.size inb) : Vec Ideal S1x1x256x128 .f32) shapeCasts_S1x1x256x128_S256x128 (ix2 r l)
      = x (ix4 0 p r l) := by
  subst ho
  rw [shapeCast_apply _ shapeCasts_S1x1x256x128_S256x128 (ix2 r l) (ix4 0 0 r l) (by rw [Shape.rowMajor_val_four, Shape.rowMajor_val_two]; simp)]
  exact View.ld_unit_apply_of x _ _ inb _ (ix4 0 p r l) fun a => by
    match a with
    | ⟨0, _⟩ => rfl
    | ⟨1, _⟩ => rfl
    | ⟨2, _⟩ => exact (Nat.zero_add _).symm
    | ⟨3, _⟩ => exact (Nat.zero_add _).symm

/-- Where the sum of the pair blocks is finite, the three triangle products together are the sum of the rows from `r` on:
    the two correction terms of the splitting are zero. -/
theorem triSum_apply (x : Vec Ideal S1x4x256x128 .f32) (hx : ∀ r l, colSum x r l - colSum x r l = 0) (r : Fin 256) (l : Fin 128) :
    triSum x (ix2 r l) = ∑ k : Fin 256, if r.val ≤ k.val then colSum x k l else 0 := by
  have hd : ∀ (k : Fin 256), addf (addf (addf (shapeCast S256x128 (pair0 x) shapeCasts_S1x1x256x128_S256x128) (shapeCast S256x128 (pair1 x) shapeCasts_S1x1x256x128_S256x128)) (shapeCast S256x128 (pair2 x) shapeCasts_S1x1x256x128_S256x128)) (shapeCast S256x128 (pair3 x) shapeCasts_S1x1x256x128_S256x128) (ix2 k l) = colSum x k l := fun k => by
    simp only [addf_apply]
    exact congrArg₂ (· + ·) (congrArg₂ (· + ·) (congrArg₂ (· + ·) (pair_apply 0 x _ rfl _ k l) (pair_apply 1 x _ rfl _ k l)) (pair_apply 2 x _ rfl _ k l)) (pair_apply 3 x _ rfl _ k l)
  unfold triSum k0_pay5
  have hdot : dot_S256x256_S256x128_S256x128_1_0_0_1_n_n = DotDims.plain 256 256 128 := rfl
  simp only [addf_apply, matmul, hdot, Ideal.matmul_plain_apply, constant_apply, Ideal.ofBits_zero_f32, zero_add, truncf_apply, extf_apply, subf_apply, sitofp_apply, extui_apply]
  simp only [addf_apply] at hd
  have ht : ∀ k : Fin 256, FloatOps.sitofp (F := Ideal) FTy.f32 (BitVec.setWidth 32
      (cmpi CmpIPredicate.sge (iota Kind.tc S256x256 32 [1] iota_S256x256_d1_w32) (iota Kind.tc S256x256 32 [0] iota_S256x256_d0_w32) (ix2 r k)))
      = if r.val ≤ k.val then (1 : EReal) else 0 := fun k => by
    have h := tri_apply r k
    rw [← iota_single_apply .tc S256x256 32 (1 : Fin 2) iota_S256x256_d1_w32 (ix2 r k), ← iota_single_apply .tc S256x256 32 (0 : Fin 2) iota_S256x256_d0_w32 (ix2 r k)] at h
    refine (congrArg (fun y : ℝ => (y : EReal)) h).trans ?_
    split <;> rfl
  simp only [hd, hx, ht, sub_zero, mul_zero, Finset.sum_const_zero, add_zero, ite_mul, one_mul, zero_mul]

/-- The block written out: the running sums times the logistic function of `-z`. -/
theorem pay3_apply (v w z : FVec Ideal S256x128 .f32) (j : S256x128.Idx) :
    k0_pay3 v w z j = (v j + w j) * Ideal.div 1 (1 + Ideal.exp (z j)) := by
  unfold k0_pay3 k0_pay1
  simp only [mulf_apply, addf_apply, divf_apply, subf_apply, broadcast_apply]
  show (v j + w j) * Ideal.div (Ideal.ofBits .f32 0x3F800000#32) (Ideal.ofBits .f32 0x3F800000#32 + Ideal.exp (Ideal.ofBits .f32 0x00000000#32 - (Ideal.ofBits .f32 0x00000000#32 - z j))) = _
  rw [Ideal.ofBits_one_f32, Ideal.ofBits_zero_f32, zero_sub, zero_sub, neg_neg]

/-- The row carried on: the first row of the running sums. -/
theorem pay2_apply (v w : FVec Ideal S256x128 .f32) (l : Fin 128) : k0_pay2 v w (ix2 0 l) = v (ix2 0 l) + w (ix2 0 l) := by
  unfold k0_pay2 k0_pay1
  simp only [shapeCast_self]
  rw [extractStridedSlice_apply _ _ _ _ (ix2 0 l) (fun a => by match a with | ⟨0, _⟩ => rfl | ⟨1, _⟩ => exact (Nat.zero_add _).symm)]
  rfl

/-- The carried row, spread over the rows. -/
theorem pay6_apply {F : FTy → Type} [FloatOps F] (w : Vec F S1x128 .f32) (r : Fin 256) (l : Fin 128) : k0_pay6 w (ix2 r l) = w (ix2 0 l) :=
  broadcastTo_apply w broadcasts_S1x128_S256x128 (ix2 r l) (ix2 0 l) fun a => by
    match a with
    | ⟨0, _⟩ => rfl
    | ⟨1, _⟩ => rfl

/-- The row a sequence starts from is zero. -/
theorem pay4_apply (j : S1x128.Idx) : k0_pay4 (F := Ideal) j = 0 := by
  unfold k0_pay4
  simp only [shapeCast_self]
  exact Ideal.ofBits_zero_f32

end Cert.FgateIdeal.Body

end
-- ==== Proof.FgValue.lean ====
/-
  What the gate-gradient kernel's result array ends holding: at row (b, s) and lane l the sum over the positions from
  s on of the gradient of the cumulative gate, times the logistic function of `-z`. The carried row is followed from
  point to point by induction, the last block of a sequence first.
-/
module

public import proofs.«01_k».proof.Proof.FgBody

@[expose] public section

noncomputable section

namespace Cert.FgateIdeal.Final

open Cert.FgateIdeal Cert.FgateIdeal.Gen Cert.FgateIdeal.Body Idealize.ShloMosaic Idealize.ShloMosaic.TcCoe Idealize.SL.Sem
open Idealize.ShloMosaic.ValueIdx
open Idealize.ShloMosaic.Pipeline (Dat)

/-! ## The sums -/

/-- The gradient of the cumulative gate at sequence `b`, position `s`, lane `l`: the sum over the four pairs
    (zero outside the array). -/
def gsum (d : S4x4x2048x128.Idx → EReal) (b s : ℕ) (l : Fin 128) : EReal :=
  if h : b < 4 ∧ s < 2048 then
    d (ix4 ⟨b, h.1⟩ 0 ⟨s, h.2⟩ l) + d (ix4 ⟨b, h.1⟩ 1 ⟨s, h.2⟩ l) + d (ix4 ⟨b, h.1⟩ 2 ⟨s, h.2⟩ l) + d (ix4 ⟨b, h.1⟩ 3 ⟨s, h.2⟩ l)
  else 0

/-- Its sum over the positions from `s` on. -/
def suffix (d : S4x4x2048x128.Idx → EReal) (b s : ℕ) (l : Fin 128) : EReal := ∑ j ∈ Finset.Ico s 2048, gsum d b j l

/-- A sum over a block's rows from row `r` on is a sum over an interval of positions. -/
theorem sum_block (f : ℕ → EReal) (o r : ℕ) (hr : r < 256) :
    (∑ k : Fin 256, if r ≤ k.val then f (o + k.val) else 0) = ∑ j ∈ Finset.Ico (o + r) (o + 256), f j := by
  rw [Fin.sum_univ_eq_sum_range (fun k => if r ≤ k then f (o + k) else 0) 256, ← Finset.sum_filter]
  refine Finset.sum_bij (fun k _ => o + k) ?_ ?_ ?_ ?_
  · intro a ha; simp only [Finset.mem_filter, Finset.mem_range, Finset.mem_Ico] at ha ⊢; omega
  · intro a _ b _ h; omega
  · intro j hj
    rw [Finset.mem_Ico] at hj
    exact ⟨j - o, by simp only [Finset.mem_filter, Finset.mem_range]; omega, by omega⟩
  · intro a _; rfl

/-- The rows of a block from `r` on, and everything after the block, are everything from `r` on. -/
theorem suffix_step (d : S4x4x2048x128.Idx → EReal) (b o r : ℕ) (l : Fin 128) (hr : r < 256) (ho : o + 256 ≤ 2048) :
    (∑ k : Fin 256, if r ≤ k.val then gsum d b (o + k.val) l else 0) + suffix d b (o + 256) l = suffix d b (o + r) l := by
  rw [sum_block (fun j => gsum d b j l) o r hr, suffix, suffix]
  exact Finset.sum_Ico_consecutive _ (by omega) ho

/-- Nothing lies beyond the last position. -/
theorem suffix_end (d : S4x4x2048x128.Idx → EReal) (b : ℕ) (l : Fin 128) : suffix d b 2048 l = 0 := by
  rw [suffix, Finset.Ico_self, Finset.sum_empty]

variable (m : (ℓ : Loc nD τ sig) → Buf (Elt Ideal) ℓ)

/-- The two argument arrays. -/
abbrev dArr (c : Dev nD) : S4x4x2048x128.Idx → EReal := m ((c : Thread nD τ).loc main_arg0)
abbrev zArr (c : Dev nD) : S8192x128.Idx → EReal := m ((c : Thread nD τ).loc main_arg1)

/-! ## The blocks a point reads and writes -/

theorem index0 : ∀ t : Fin cfg0.N, win0_0.index t 0 = t.val / 8 ∧ win0_0.index t 1 = 0 ∧ win0_0.index t 2 = 7 - t.val % 8 ∧ win0_0.index t 3 = 0 :=
  (by decide +kernel : ∀ t : Fin grid0.N, win0_0.index t 0 = t.val / 8 ∧ win0_0.index t 1 = 0 ∧ win0_0.index t 2 = 7 - t.val % 8 ∧ win0_0.index t 3 = 0)

theorem index1 : ∀ t : Fin cfg0.N, win0_1.index t 0 = t.val / 8 * 8 + (7 - t.val % 8) ∧ win0_1.index t 1 = 0 :=
  (by decide +kernel : ∀ t : Fin grid0.N, win0_1.index t 0 = t.val / 8 * 8 + (7 - t.val % 8) ∧ win0_1.index t 1 = 0)

theorem index2 : ∀ t : Fin cfg0.N, win0_2.index t 0 = t.val / 8 * 8 + (7 - t.val % 8) ∧ win0_2.index t 1 = 0 :=
  (by decide +kernel : ∀ t : Fin grid0.N, win0_2.index t 0 = t.val / 8 * 8 + (7 - t.val % 8) ∧ win0_2.index t 1 = 0)

theorem t_lt (t : Fin cfg0.N) : t.val < 32 := lt_of_lt_of_eq t.isLt (show cfg0.N = 32 from N_0)

/-- The first row of the block that point `t` works on, within its sequence. -/
def first (t : ℕ) : ℕ := 256 * (7 - t % 8)

theorem first_def (t : ℕ) : first t = 256 * (7 - t % 8) := rfl

theorem iblk0_apply (c : Dev nD) (t : Fin cfg0.N) (p : Fin 4) (r : Fin 256) (l : Fin 128) :
    (iblk m c 0 t : Vec Ideal S1x4x256x128 .f32) (ix4 0 p r l)
      = dArr m c (ix4 ⟨t.val / 8, by have := t_lt t; omega⟩ p ⟨first t.val + r.val, by have := r.isLt; have := first_def t.val; omega⟩ l) := by
  obtain ⟨h0, h1, h2, h3⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 8; rw [h0]; omega
  | ⟨1, _⟩ => show win0_0.index t 1 * 4 + 1 * p.val = p.val; rw [h1]; omega
  | ⟨2, _⟩ => show win0_0.index t 2 * 256 + 1 * r.val = first t.val + r.val; rw [h2, first_def]; omega
  | ⟨3, _⟩ => show win0_0.index t 3 * 128 + 1 * l.val = l.val; rw [h3]; omega

/-- The row of the [8192,128] arrays that row `r` of point `t`'s block is. -/
def row (t : Fin cfg0.N) (r : Fin 256) : Fin 8192 :=
  ⟨2048 * (t.val / 8) + (first t.val + r.val), by have := t_lt t; have := r.isLt; have := first_def t.val; omega⟩

theorem iblk1_apply (c : Dev nD) (t : Fin cfg0.N) (r : Fin 256) (l : Fin 128) :
    (iblk m c 1 t : Vec Ideal S256x128 .f32) (ix2 r l) = zArr m c (ix2 (row t r) l) := by
  obtain ⟨h0, h1⟩ := index1 t
  unfold iblk
  rw [View.read_apply]
  show V m c main_arg1 _ = m (c.tc.loc main_arg1) _
  unfold V
  congr 1
  funext a
  apply Fin.ext
  match a with
  | ⟨0, _⟩ => show win0_1.index t 0 * 256 + 1 * r.val = 2048 * (t.val / 8) + (first t.val + r.val); rw [h0, first_def]; omega
  | ⟨1, _⟩ => show win0_1.index t 1 * 128 + 1 * l.val = l.val; rw [h1]; omega

theorem colSum_iblk (c : Dev nD) (t : Fin cfg0.N) (r : Fin 256) (l : Fin 128) :
    colSum (iblk m c 0 t) r l = gsum (dArr m c) (t.val / 8) (first t.val + r.val) l := by
  have := t_lt t
  have := r.isLt
  have := first_def t.val
  rw [colSum, iblk0_apply, iblk0_apply, iblk0_apply, iblk0_apply, gsum, dif_pos ⟨by omega, by omega⟩]

/-! ## The points -/

/-- The sum of the pairs is finite: what the precondition gives. -/
def FiniteSums (c : Dev nD) : Prop := ∀ b s l, gsum (dArr m c) b s l - gsum (dArr m c) b s l = 0

/-- The running sums of a point over the carried row are the suffix sums. -/
theorem running (c : Dev nD) (hf : FiniteSums m c) (t : Fin cfg0.N) (xs : Vec Ideal S1x128 .f32)
    (hxs : ∀ l, xs (ix2 0 l) = suffix (dArr m c) (t.val / 8) (first t.val + 256) l) (r : Fin 256) (l : Fin 128) :
    triSum (iblk m c 0 t) (ix2 r l) + k0_pay6 xs (ix2 r l) = suffix (dArr m c) (t.val / 8) (first t.val + r.val) l := by
  rw [triSum_apply _ (fun r l => by rw [colSum_iblk]; exact hf _ _ _), pay6_apply, hxs]
  simp only [colSum_iblk]
  exact suffix_step _ _ _ _ _ r.isLt (by have := first_def t.val; omega)

/-- What a point leaves, given what the point before carried to it. -/
def PointIs (c : Dev nD) (n : ℕ) (h : n < cfg0.N) : Prop :=
  (∀ r l, (outsAt0 m c n h).1 (ix2 r l)
      = suffix (dArr m c) (n / 8) (first n + r.val) l * Ideal.div 1 (1 + Ideal.exp (zArr m c (ix2 (row ⟨n, h⟩ r) l))))
  ∧ ∀ l, (outsAt0 m c n h).2 (ix2 0 l) = suffix (dArr m c) (n / 8) (first n) l

theorem point (c : Dev nD) (hf : FiniteSums m c) : ∀ (n : ℕ) (h : n < cfg0.N), PointIs m c n h := by
  intro n
  induction n with
  | zero =>
    intro h
    have hr := running m c hf ⟨0, h⟩ (k0_pay4 (F := Ideal)) (fun l => by rw [pay4_apply]; exact (suffix_end _ _ _).symm)
    unfold PointIs
    rw [outsAt0_A m c ⟨0, h⟩ rfl]
    dsimp only
    rw [out_A, sout_A]
    exact ⟨fun r l => by rw [pay3_apply, hr, iblk1_apply], fun l => by rw [pay2_apply, hr]; rfl⟩
  | succ n ih =>
    intro h
    have hN := lt_of_lt_of_eq h (show cfg0.N = 32 from N_0)
    by_cases h0 : (n + 1) % 8 = 0
    · have hr := running m c hf ⟨n + 1, h⟩ (k0_pay4 (F := Ideal)) (fun l => by
        rw [pay4_apply, show first (⟨n + 1, h⟩ : Fin cfg0.N).val + 256 = 2048 from by have := first_def (n + 1); dsimp only; omega]; exact (suffix_end _ _ _).symm)
      unfold PointIs
      rw [outsAt0_A m c ⟨n + 1, h⟩ h0]
      dsimp only
      rw [out_A, sout_A]
      exact ⟨fun r l => by rw [pay3_apply, hr, iblk1_apply], fun l => by rw [pay2_apply, hr]; rfl⟩
    · have hp := ih (Nat.lt_of_succ_lt h)
      have hr := running m c hf ⟨n + 1, h⟩ (outsAt0 m c n (Nat.lt_of_succ_lt h)).2 (fun l => by
        rw [hp.2 l]
        rw [show n / 8 = (n + 1) / 8 from by omega, show first n = first (n + 1) + 256 from by rw [first_def, first_def]; omega])
      unfold PointIs
      rw [outsAt0_B m c ⟨n + 1, h⟩ h0]
      dsimp only
      rw [out_B, sout_B]
      exact ⟨fun r l => by rw [pay3_apply]; erw [hr]; rw [iblk1_apply], fun l => by rw [pay2_apply]; erw [hr]; rfl⟩

/-! ## The result array -/

/-- The gradient of the gate's pre-activation. -/
def result (d : S4x4x2048x128.Idx → EReal) (z : S8192x128.Idx → EReal) : S8192x128.Idx → EReal :=
  fun i => suffix d ((i 0).val / 2048) ((i 0).val % 2048) (i 1) * Ideal.div 1 (1 + Ideal.exp (z i))

theorem row_div (t : Fin cfg0.N) (r : Fin 256) : (row t r).val / 2048 = t.val / 8 := by
  have := r.isLt
  have := first_def t.val
  show (2048 * (t.val / 8) + (first t.val + r.val)) / 2048 = t.val / 8
  omega

theorem row_mod (t : Fin cfg0.N) (r : Fin 256) : (row t r).val % 2048 = first t.val + r.val := by
  have := r.isLt
  have := first_def t.val
  show (2048 * (t.val / 8) + (first t.val + r.val)) % 2048 = first t.val + r.val
  omega

theorem flushed_eq (c : Dev nD) (hf : FiniteSums m c) (t : Fin cfg0.N) (h : (cfg0.win 2).flush t = true) :
    (dats m 0 c).flushed 2 t = ((cfg0.win 2).blk t).view.read (Elt Ideal) (result (dArr m c) (zArr m c) : Buf (Elt Ideal) ((c : Thread nD τ).loc main_v0)) := by
  rw [Value.flushed2]
  funext j
  rw [View.read_apply]
  obtain ⟨h0, h1⟩ := index2 t
  obtain ⟨r, l, rfl⟩ : ∃ (r : Fin 256) (l : Fin 128), j = ix2 r l := ⟨j 0, j 1, eq_ix2 (n0 := 256) (n1 := 128) j⟩
  have hp := (point m c hf t.val t.isLt).1 r l
  refine hp.trans ?_
  refine Eq.trans ?_ (congrArg (result (dArr m c) (zArr m c)) (?_ : (ix2 (row t r) l : S8192x128.Idx) = _))
  · show _ = suffix (dArr m c) ((row t r).val / 2048) ((row t r).val % 2048) l * Ideal.div 1 (1 + Ideal.exp (zArr m c (ix2 (row t r) l)))
    rw [row_div, row_mod]
  · funext a
    apply Fin.ext
    match a with
    | ⟨0, _⟩ => show 2048 * (t.val / 8) + (first t.val + r.val) = win0_2.index t 0 * 256 + 1 * r.val; rw [h0, first_def]; omega
    | ⟨1, _⟩ => show l.val = win0_2.index t 1 * 128 + 1 * l.val; rw [h1]; omega

/-- The point that writes row `i` of the result. -/
def pointOf (i : S8192x128.Idx) : Fin cfg0.N :=
  ⟨8 * ((i 0).val / 2048) + (7 - (i 0).val % 2048 / 256), by
    have h := (i 0).isLt
    have h' : (S8192x128.size 0) = 8192 := rfl
    rw [show cfg0.N = 32 from N_0]
    omega⟩

theorem xsize2 : ∀ t : Fin cfg0.N, win0_2.xsize (grid0.coords t) 0 = 256 ∧ win0_2.xsize (grid0.coords t) 1 = 128 :=
  (by decide +kernel : ∀ t : Fin grid0.N, win0_2.xsize (grid0.coords t) 0 = 256 ∧ win0_2.xsize (grid0.coords t) 1 = 128)

theorem final (c : Dev nD) (hf : FiniteSums m c) : (dats m 0 c).arrAt 2 cfg0.N = result (dArr m c) (zArr m c) :=
  (dats m 0 c).arrAt_eq_of_cover 2 (result (dArr m c) (zArr m c)) (flushed_eq m c hf) fun i =>
    ⟨pointOf i, flush0_2 _, by
      show i ∈ ((View.whole main_v0).slice (win0_2.rect (pointOf i))).set
      rw [View.set_slice_whole, Rect.mem_set_unit]
      intro a
      have h0 : (i 0 : Nat) < 8192 := (i 0).isLt
      have h1 : (i 1 : Nat) < 128 := (i 1).isLt
      obtain ⟨e0, e1⟩ := index2 (pointOf i)
      obtain ⟨x0, x1⟩ := xsize2 (pointOf i)
      have hv : (pointOf i).val = 8 * ((i 0).val / 2048) + (7 - (i 0).val % 2048 / 256) := rfl
      match a with
      | ⟨0, _⟩ => show win0_2.index (pointOf i) 0 * 256 ≤ (i 0 : Nat) ∧ (i 0 : Nat) < win0_2.index (pointOf i) 0 * 256 + win0_2.xsize (grid0.coords (pointOf i)) 0
                  rw [e0, x0, hv]; omega
      | ⟨1, _⟩ => show win0_2.index (pointOf i) 1 * 128 ≤ (i 1 : Nat) ∧ (i 1 : Nat) < win0_2.index (pointOf i) 1 * 128 + win0_2.xsize (grid0.coords (pointOf i)) 1
                  rw [e1, x1]; omega⟩

/-- The run, read: the result array holds `result` of the arguments, and these are unchanged. -/
theorem run (ρ : Dev nD → PrngReg) (hf : ∀ c, FiniteSums m c) :
    θ_run defs (onTc (τ := τ) (main (F := Ideal))) ⟨m, fun _ => 0, ρ⟩ fun r => ∀ c : Dev nD,
      r.2.mem ((c : Thread nD τ).loc main_v0) = result (dArr m c) (zArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c (hf c)), ((h c).1 0).trans ((dats m 0 c).arrAt_in 0 rfl _),
    ((h c).1 1).trans ((dats m 0 c).arrAt_in 1 rfl _)⟩) (run_main m ρ)

end Cert.FgateIdeal.Final

end
-- ==== Proof.FgMath.lean ====
/-
  The reference's gate gradient, read at an element: the sum over the positions from `s` on (a window of the padded
  array) of the sum over the pairs, times the derivative of the logarithm of the logistic function as jax writes it.
-/
module

public import proofs.«01_k».proof.Proof.FgValue
public import proofs.«01_k».proof.Proof.Gen.FgateRefIdeal.Read
public import proofs.«01_k».proof.Pre_finite_dcum

@[expose] public section

noncomputable section

namespace Cert.FgateMath

open Idealize.ShloMosaic Idealize.ShloMosaic.ValueIdx
open Cert.FgateIdeal.Final (gsum suffix result)

/-- Adding a list's values one by one to a start is the start plus their sum. -/
theorem foldl_add {ι : Type} (g : ι → EReal) (L : List ι) (v : EReal) : L.foldl (fun r n => r + g n) v = v + (L.map g).sum := by
  induction L generalizing v with
  | nil => simp
  | cons a L ih => rw [List.foldl_cons, ih, List.map_cons, List.sum_cons, add_assoc]

theorem log_one : Ideal.log 1 = 0 := by
  rw [← EReal.coe_one, Ideal.log_coe, if_neg (by norm_num), Real.log_one, EReal.coe_zero]

theorem coe_max (a b : ℝ) : ((max a b : ℝ) : EReal) = max (a : EReal) (b : EReal) := EReal.coe_strictMono.monotone.map_max

/-- The exponential of `x` less its softplus, as jax writes it with the infinities taken out, is the logistic function. -/
theorem logistic_eq (z : EReal) :
    Ideal.exp ((if -z = ⊤ then 0 else -z)
        - (if max (-z) 0 + Ideal.log1p (Ideal.exp (-(max (-z) (- -z)))) = ⊤ then 0
            else max (-z) 0 + Ideal.log1p (Ideal.exp (-(max (-z) (- -z))))))
      = Ideal.div 1 (1 + Ideal.exp z) := by
  induction z using EReal.rec with
  | bot =>
    have h : Ideal.log1p 0 = 0 := by rw [Ideal.log1p, add_zero, log_one]
    have h1 : Ideal.exp 0 = 1 := by rw [← EReal.coe_zero, Ideal.exp_coe, Real.exp_zero, EReal.coe_one]
    simp [h, h1, Ideal.div]
  | top =>
    have h : Ideal.log1p 0 = 0 := by rw [Ideal.log1p, add_zero, log_one]
    have h2 : (1 : EReal) + ⊤ = ⊤ := rfl
    simp [h, h2, Ideal.div]
  | coe r =>
    have hl : max (-(r : EReal)) 0 + Ideal.log1p (Ideal.exp (-(max (-(r : EReal)) (- -(r : EReal)))))
        = ((max (-r) 0 + Real.log (1 + Real.exp (-|r|)) : ℝ) : EReal) := by
      have hp : ¬ (1 + Real.exp (-|r|)) ≤ 0 := not_le.mpr (by positivity)
      rw [Ideal.log1p, neg_neg, max_comm (-(r : EReal)) (r : EReal), ← EReal.coe_neg, ← EReal.coe_zero, ← coe_max, ← coe_max, ← EReal.coe_neg,
        show max r (-r) = |r| from rfl, Ideal.exp_coe, ← EReal.coe_one, ← EReal.coe_add, Ideal.log_coe, if_neg hp, ← EReal.coe_add]
    have hq : (1 + Real.exp r) ≠ 0 := by positivity
    rw [hl, if_neg (EReal.coe_ne_top _), ← EReal.coe_neg, if_neg (EReal.coe_ne_top _), ← EReal.coe_sub, Ideal.exp_coe, Ideal.exp_coe,
      ← EReal.coe_one, ← EReal.coe_add, Ideal.div_coe hq, ← EReal.coe_mul]
    congr 1
    rw [one_mul, Real.exp_sub, Real.exp_add, Real.exp_log (by positivity)]
    rcases le_total 0 r with h | h
    · rw [abs_of_nonneg h, max_eq_right (by linarith), Real.exp_zero, Real.exp_neg]
      have := Real.exp_pos r
      field_simp
      ring
    · rw [abs_of_nonpos h, max_eq_left (by linarith), neg_neg, Real.exp_neg]
      have := Real.exp_pos r
      field_simp

open Cert.FgateRefIdeal Cert.FgateRefIdeal.Gen Cert.FgateRefIdeal.Read

theorem ofBits_zero : (FloatOps.ofBits .f32 0x00000000#32 : Ideal .f32) = 0 := Ideal.ofBits_zero_f32

theorem ofBits_inf : (FloatOps.ofBits .f32 0x7F800000#32 : Ideal .f32) = (⊤ : EReal) := by
  show Ideal.ofBits .f32 0x7F800000#32 = ⊤
  simp [Ideal.ofBits, Ideal.ieee]

/-- The derivative factor. -/
theorem factor (x1 : S8192x128.Idx → EReal) (b : Fin 4) (s : Fin 2048) (l : Fin 128) :
    val_main_v1_1 (F := Ideal) x1 (ix3 b s l)
      = Ideal.div 1 (1 + Ideal.exp (x1 (ix2 ⟨2048 * b.val + s.val, by have := b.isLt; have := s.isLt; omega⟩ l))) := by
  have hi : idx_main_v0 (ix3 b s l) = ix2 ⟨2048 * b.val + s.val, by have := b.isLt; have := s.isLt; omega⟩ l := by
    have := b.isLt; have := s.isLt; have := l.isLt
    funext a
    apply Fin.ext
    match a with
    | ⟨0, _⟩ => show ((b.val * 2048 + s.val) * 128 + l.val) / 128 = 2048 * b.val + s.val; omega
    | ⟨1, _⟩ => show ((b.val * 2048 + s.val) * 128 + l.val) % 128 = l.val; omega
  rw [← logistic_eq]
  simp only [val_main_v1_1_apply, val_main_call0_call0_v21_apply, val_main_call0_call0_v20_apply, val_main_call0_call0_v19_apply,
    val_main_call0_call0_cst_3_apply, val_main_call0_call0_v18_apply, val_main_call0_call0_v17_apply, val_main_call0_call0_cst_2_apply,
    val_main_call0_call0_v16_apply, val_main_call0_call0_v15_apply, val_main_call0_call0_cst_1_apply, val_main_call0_call0_v14_apply,
    val_main_call0_call0_v13_apply, val_main_call0_call0_cst_0_apply, val_main_call0_v1_0_apply, val_main_call0_call0_v11_apply,
    val_main_call0_call0_v10_apply, val_main_call0_call0_v9_apply, val_main_call0_call0_v8_apply, val_main_call0_call0_v7_apply,
    val_main_call0_call0_v6_apply, val_main_call0_call0_v5_apply, val_main_call0_call0_v4_apply, val_main_call0_call0_v3_apply,
    val_main_call0_call0_v2_apply, val_main_call0_call0_v1_apply, val_main_call0_call0_v0_apply, val_main_call0_call0_cst_apply,
    val_main_call0_v0_apply, val_main_v0_apply, hi, ofBits_zero, ofBits_inf]
  simp only [Ideal.hostUnary_exp_def, Ideal.hostUnary_log1p_def, Ideal.hostNegf_def, Ideal.hostAbsf_def, Ideal.absf_def, Ideal.cmpf_def,
    Ideal.subf_def, Ideal.addf_def, Ideal.maximumf_def, Ideal.negf_def, Ideal.cmp, sub_zero]
  generalize hz : x1 (ix2 ⟨2048 * b.val + s.val, _⟩ l) = z
  have hb : ∀ (p : Prop) [Decidable p] (a b : EReal), Scalar.select (BitVec.ofBool (decide p)) a b = if p then a else b := fun p _ a b => by
    by_cases h : p <;> simp [h, Scalar.select]
  erw [hb, hb, hb]
  rw [if_neg (show ¬ (-z ≠ -z) from fun h => h rfl)]

/-- The sum of the pairs. -/
theorem pairs (x0 : S4x4x2048x128.Idx → EReal) (b : Fin 4) (s : Fin 2048) (l : Fin 128) :
    val_main_v3 (F := Ideal) x0 (ix3 b s l) = gsum x0 b.val s.val l := by
  have hi : ∀ k : Fin 4, idx_main_v3 (ix3 b s l) k = ix4 b k s l := fun k => by
    funext a
    match a with
    | ⟨0, _⟩ => rfl
    | ⟨1, _⟩ => rfl
    | ⟨2, _⟩ => rfl
    | ⟨3, _⟩ => rfl
  rw [val_main_v3_apply, gsum, dif_pos ⟨b.isLt, s.isLt⟩, Fin.sum_univ_four, hi, hi, hi, hi, val_main_cst_apply, ofBits_zero, zero_add]

/-- The window's positions: one per row. -/
abbrev Win : Shape := ⟨3, ![1, 2048, 1]⟩

theorem sum_win (f : Win.Idx → EReal) : ∑ n : Fin Win.numel, f (Win.rowMajor.symm n) = ∑ q : Fin 2048, f (ix3 0 q 0) := by
  rw [Equiv.sum_comp Win.rowMajor.symm f]
  symm
  refine Fintype.sum_bijective (fun q : Fin 2048 => (ix3 0 q 0 : Win.Idx)) ⟨fun a b h => ?_, fun j => ⟨j 1, ?_⟩⟩ _ _ (fun q => rfl)
  · exact congrFun h 1
  · funext a
    match a with
    | ⟨0, _⟩ => exact Subsingleton.elim (α := Fin 1) _ _
    | ⟨1, _⟩ => rfl
    | ⟨2, _⟩ => exact Subsingleton.elim (α := Fin 1) _ _

/-- The window of the padded array that starts at `s` holds the positions from `s` on. -/
theorem window (x0 : S4x4x2048x128.Idx → EReal) (b : Fin 4) (s : Fin 2048) (l : Fin 128) :
    val_main_v4 (F := Ideal) x0 (ix3 b s l) = suffix x0 b.val s.val l := by
  have hz : ∀ i, val_main_call2_call0_v0 (F := Ideal) i = 0 := fun i => by
    rw [val_main_call2_call0_v0_apply, val_main_call2_call0_cst_apply, ofBits_zero]
  unfold val_main_v4
  rw [Host.reduceWindowAdd, hz, Ideal.hostReduceWindowAdd_def, Ideal.hostReduceWindowAdd, Host.reduceWindow]
  dsimp only
  rw [foldl_add, zero_add, ← List.ofFn_eq_map, List.sum_ofFn]
  refine Eq.trans (Finset.sum_congr rfl fun n _ => dite_congr rfl (fun _ => rfl) (fun _ => rfl)) ((sum_win (fun w => if hin : ∀ a : Fin 3, (![0, 0, 0] : Fin 3 → ℕ) a ≤ (ix3 b s l a).val * (![1, 1, 1] : Fin 3 → ℕ) a + (w a).val
      ∧ (ix3 b s l a).val * (![1, 1, 1] : Fin 3 → ℕ) a + (w a).val - (![0, 0, 0] : Fin 3 → ℕ) a < S4x2048x128.size a then
        val_main_v3 (F := Ideal) x0 (fun a => ⟨(ix3 b s l a).val * (![1, 1, 1] : Fin 3 → ℕ) a + (w a).val - (![0, 0, 0] : Fin 3 → ℕ) a, (hin a).2⟩) else 0)).trans ?_)
  have hb := b.isLt
  have hs := s.isLt
  have hl := l.isLt
  have key : ∀ q : Fin 2048, (if hin : ∀ a : Fin 3, (![0, 0, 0] : Fin 3 → ℕ) a ≤ (ix3 b s l a).val * (![1, 1, 1] : Fin 3 → ℕ) a + ((ix3 0 q 0 : Win.Idx) a).val
      ∧ (ix3 b s l a).val * (![1, 1, 1] : Fin 3 → ℕ) a + ((ix3 0 q 0 : Win.Idx) a).val - (![0, 0, 0] : Fin 3 → ℕ) a < S4x2048x128.size a then
        val_main_v3 (F := Ideal) x0 (fun a => ⟨(ix3 b s l a).val * (![1, 1, 1] : Fin 3 → ℕ) a + ((ix3 0 q 0 : Win.Idx) a).val - (![0, 0, 0] : Fin 3 → ℕ) a, (hin a).2⟩) else 0)
      = gsum x0 b.val (s.val + q.val) l := by
    intro q
    by_cases h : s.val + q.val < 2048
    · rw [dif_pos]
      · rw [← pairs x0 b ⟨s.val + q.val, h⟩ l]
        congr 1
        funext a
        apply Fin.ext
        match a with
        | ⟨0, _⟩ => show b.val * 1 + 0 - 0 = b.val; omega
        | ⟨1, _⟩ => show s.val * 1 + q.val - 0 = s.val + q.val; omega
        | ⟨2, _⟩ => show l.val * 1 + 0 - 0 = l.val; omega
      · intro a
        match a with
        | ⟨0, _⟩ => show 0 ≤ b.val * 1 + 0 ∧ b.val * 1 + 0 - 0 < 4; omega
        | ⟨1, _⟩ => show 0 ≤ s.val * 1 + q.val ∧ s.val * 1 + q.val - 0 < 2048; omega
        | ⟨2, _⟩ => show 0 ≤ l.val * 1 + 0 ∧ l.val * 1 + 0 - 0 < 128; omega
    · rw [dif_neg, gsum, dif_neg]
      · rintro ⟨-, h'⟩; exact h h'
      · intro hin
        have h1 : s.val * 1 + q.val - 0 < 2048 := (hin 1).2
        omega
  rw [Finset.sum_congr rfl (fun q _ => key q), Fin.sum_univ_eq_sum_range (fun q => gsum x0 b.val (s.val + q) l) 2048, suffix,
    Finset.sum_Ico_eq_sum_range, ← Finset.sum_range_add_sum_Ico (fun q => gsum x0 b.val (s.val + q) l) (show 2048 - s.val ≤ 2048 from by omega)]
  rw [Finset.sum_eq_zero (s := Finset.Ico (2048 - s.val) 2048), add_zero]
  intro q hq
  rw [Finset.mem_Ico] at hq
  rw [gsum, dif_neg]
  rintro ⟨-, h'⟩
  omega

/-- The reference's result is the kernel's. -/
theorem value (x0 : S4x4x2048x128.Idx → EReal) (x1 : S8192x128.Idx → EReal) :
    val_main_v6 (F := Ideal) x0 x1 = result x0 x1 := by
  funext i
  obtain ⟨n, l, rfl⟩ : ∃ (n : Fin 8192) (l : Fin 128), i = ix2 n l := ⟨i 0, i 1, eq_ix2 (n0 := 8192) (n1 := 128) i⟩
  have hn := n.isLt
  have hl := l.isLt
  have hi : idx_main_v6 (ix2 n l) = ix3 ⟨n.val / 2048, by omega⟩ ⟨n.val % 2048, by omega⟩ l := by
    funext a
    apply Fin.ext
    match a with
    | ⟨0, _⟩ => show (n.val * 128 + l.val) / 262144 = n.val / 2048; omega
    | ⟨1, _⟩ => show (n.val * 128 + l.val) / 128 % 2048 = n.val % 2048; omega
    | ⟨2, _⟩ => show (n.val * 128 + l.val) % 128 = l.val; omega
  rw [val_main_v6_apply, hi, val_main_v5_apply, val_main_call3_v1_apply, val_main_call3_v0_apply, window, factor]
  show -(-(suffix x0 (n.val / 2048) (n.val % 2048) l) * _) = suffix x0 (n.val / 2048) (n.val % 2048) l * _
  rw [EReal.neg_mul, neg_neg]
  rw [show (⟨2048 * (n.val / 2048) + n.val % 2048, by omega⟩ : Fin 8192) = n from Fin.ext (by show 2048 * (n.val / 2048) + n.val % 2048 = n.val; omega)]

/-- A value below infinity in size has no remainder when taken from itself. -/
theorem sub_self_of_lt {a : EReal} (h : max a (-a) < ⊤) : a ≠ ⊤ ∧ a ≠ ⊥ := by
  constructor
  · rintro rfl; simp at h
  · rintro rfl; simp at h

theorem coe_add4 {a b c d : EReal} (ha : a ≠ ⊤ ∧ a ≠ ⊥) (hb : b ≠ ⊤ ∧ b ≠ ⊥) (hc : c ≠ ⊤ ∧ c ≠ ⊥) (hd : d ≠ ⊤ ∧ d ≠ ⊥) :
    ∃ r : ℝ, a + b + c + d = r := by
  lift a to ℝ using ha
  lift b to ℝ using hb
  lift c to ℝ using hc
  lift d to ℝ using hd
  exact ⟨a + b + c + d, by push_cast; rfl⟩

instance preFacts : Cert.Pre_finite_dcum.Facts := ⟨by decide⟩

/-- The precondition makes every sum of the pairs finite. -/
theorem finite_gsum (x0 : S4x4x2048x128.Idx → EReal) (x1 : S8192x128.Idx → EReal)
    (h : Cert.Pre_finite_dcum.fn (F := Ideal) x0 x1 = fun _ => 1#1) (b s : ℕ) (l : Fin 128) :
    gsum x0 b s l - gsum x0 b s l = 0 := by
  have hx : ∀ i, x0 i ≠ ⊤ ∧ x0 i ≠ ⊥ := fun i => by
    apply sub_self_of_lt
    have := congrFun h i
    unfold Cert.Pre_finite_dcum.fn at this
    dsimp only [cmpf, Host.absf, broadcastInDim, constant] at this
    rw [Ideal.cmpf_def, Ideal.hostAbsf_def, Ideal.absf_def] at this
    erw [ofBits_inf] at this
    by_contra hc
    rw [Ideal.cmp] at this
    simp [hc] at this
  have hr : ∃ r : ℝ, gsum x0 b s l = r := by
    rw [gsum]
    split
    · exact coe_add4 (hx _) (hx _) (hx _) (hx _)
    · exact ⟨0, rfl⟩
  obtain ⟨r, hr⟩ := hr
  rw [hr, ← EReal.coe_sub, sub_self, EReal.coe_zero]

end Cert.FgateMath

end
-- ==== Proof.AttnBlock.lean ====
/-
  The attention gradient's inner step, written once: what one block of 256 queries does to the running sums of one
  block of 256 keys, for one head (`half`) and for the two heads of a pair (`blk`). The printed kernel repeats this
  text in its diagonal block, in its counted loop (four blocks a trip) and in its three remainder branches.
-/
module

public import proofs.«01_k».proof.Proof.Gen.AttnIdeal.Skeleton
public import Idealize.ShloMosaic.Lib.Tactic

@[expose] public section

set_option synthInstance.maxSize 4096

noncomputable section

namespace Cert.AttnIdeal.Own

open Cert.AttnIdeal Cert.AttnIdeal.Gen Idealize.ShloMosaic Idealize.SL.Sem

variable {F : FTy → Type} [FloatOps F]

/-! ## The values -/

/-- The rows of one head of a transposed block, the other head's set to zero. -/
def selT (fm : IVec S128x256 1) (x : Vec F S128x256 .bf16) : FVec F S128x256 .bf16 :=
  select fm (shapeCast S128x256 x shapeCasts_S128x256_S128x256 : FVec F S128x256 .bf16) (broadcast S128x256 (Scalar.ofBits .bf16 0x0000#16 : F .bf16))

/-- The columns of one head of a block, the other head's set to zero. -/
def selR (lm : IVec S256x128 1) (x : Vec F S256x128 .bf16) : FVec F S256x128 .bf16 :=
  select lm (x : FVec F S256x128 .bf16) (broadcast S256x128 (Scalar.ofBits .bf16 0x0000#16 : F .bf16))

/-- A row of 256 numbers, repeated down 256 rows. -/
def down3 (x : Vec F S1x1x256 .f32) : FVec F S256x256 .f32 :=
  broadcastTo S256x256 (shapeCast S1x256 x shapeCasts_S1x1x256_S1x256 : FVec F S1x256 .f32) broadcasts_S1x256_S256x256
def down4 (x : Vec F S1x1x1x256 .f32) : FVec F S256x256 .f32 :=
  broadcastTo S256x256 (shapeCast S1x256 x shapeCasts_S1x1x1x256_S1x256 : FVec F S1x256 .f32) broadcasts_S1x256_S256x256

/-- The weights of a block, keys down and queries across; `g` masks them on the diagonal. -/
def weights (g : FVec F S256x256 .f32 → FVec F S256x256 .f32) (kp : Vec F S256x128 .bf16) (fm : IVec S128x256 1)
    (ck : FVec F S256x256 .f32) (qt : Vec F S128x256 .bf16) (cq : Vec F S1x1x256 .f32) (ls : Vec F S1x1x1x256 .f32) : FVec F S256x256 .f32 :=
  g (exp (subf (subf (addf (mulf (matmul dot_S256x128_S128x256_S256x256_1_0_0_1_n_n none (kp : FVec F S256x128 .bf16) (selT fm qt) (constant S256x256 .f32 0x00000000#32))
    (broadcast S256x256 (Scalar.ofBits .f32 0x3E000000#32 : F .f32))) (down3 cq)) ck) (down4 ls)))

/-- The gradient of the block's logits. -/
def dlogits (pr : FVec F S256x256 .f32) (vp : Vec F S256x128 .bf16) (fm : IVec S128x256 1) (dt : Vec F S128x256 .bf16) (ot : Vec F S128x256 .f32) : FVec F S256x256 .f32 :=
  mulf pr (subf (matmul dot_S256x128_S128x256_S256x256_1_0_0_1_n_n none (vp : FVec F S256x128 .bf16) (selT fm dt) (constant S256x256 .f32 0x00000000#32))
    (broadcastTo S256x256 (shapeCast S1x256 (multiReduction .add [0] S256
      (mulf (extf .f32 (selT fm dt) bitsLt_bf16_f32) (shapeCast S128x256 ot shapeCasts_S128x256_S128x256 : FVec F S128x256 .f32)) 0x00000000#32 reduces_S128x256_S256 (.inl rfl) rfl)
      shapeCasts_S256_S1x256 : FVec F S1x256 .f32) broadcasts_S1x256_S256x256))

/-- The four running sums after the block. -/
def accS (ds : FVec F S256x256 .f32) (y : Vec F S1x256x256 .f32) : FVec F S1x256x256 .f32 :=
  shapeCast S1x256x256 (addf (shapeCast S256x256 y shapeCasts_S1x256x256_S256x256 : FVec F S256x256 .f32) ds) shapeCasts_S256x256_S1x256x256
def accV (pr : FVec F S256x256 .f32) (lm : IVec S256x128 1) (d : Vec F S256x128 .bf16) (v : FVec F S256x128 .f32) : FVec F S256x128 .f32 :=
  addf v (matmul dot_S256x256_S256x128_S256x128_1_0_0_1_n_n none (truncf .bf16 pr bitsLt_bf16_f32) (selR lm d) (constant S256x128 .f32 0x00000000#32))
def accK (ds : FVec F S256x256 .f32) (lm : IVec S256x128 1) (q : Vec F S256x128 .bf16) (k : FVec F S256x128 .f32) : FVec F S256x128 .f32 :=
  addf k (mulf (matmul dot_S256x256_S256x128_S256x128_1_0_0_1_n_n none (truncf .bf16 ds bitsLt_bf16_f32) (selR lm q) (constant S256x128 .f32 0x00000000#32))
    (broadcast S256x128 (Scalar.ofBits .f32 0x3E000000#32 : F .f32)))
def accQ (ds : FVec F S256x256 .f32) (kt : FVec F S128x256 .bf16) (x : Vec F S128x256 .f32) : FVec F S128x256 .f32 :=
  shapeCast S128x256 (addf (x : FVec F S128x256 .f32) (mulf (matmul dot_S128x256_S256x256_S128x256_1_0_0_1_n_n none kt (truncf .bf16 ds bitsLt_bf16_f32) (constant S128x256 .f32 0x00000000#32))
    (broadcast S128x256 (Scalar.ofBits .f32 0x3E000000#32 : F .f32)))) shapeCasts_S128x256_S128x256

/-! ## The program of a block -/

/-- The two carried sums: the key gradient and the value gradient of the block of keys. -/
abbrev Cr (F : FTy → Type) := FVec F S256x128 .f32 × FVec F S256x128 .f32

/-- One head of a block of queries. -/
def half (arg11 : Memref sig .tc .vmem S1x1x8x2048 .f32) (arg13 : Memref sig .tc .vmem S1x8x2048 .f32)
    (arg18 : Memref sig .tc .vmem S128x2048 .f32) (arg19 : Memref sig .tc .vmem S2x256x256 .f32)
    (oQ : Fin 2 → ℕ) (hQ : ∀ a, oQ a + S128x256.size a ≤ S128x2048.size a)
    (oC : Fin 3 → ℕ) (hC : ∀ a, oC a + S1x1x256.size a ≤ S1x8x2048.size a)
    (oL : Fin 4 → ℕ) (hL : ∀ a, oL a + S1x1x1x256.size a ≤ S1x1x8x2048.size a)
    (oS : Fin 3 → ℕ) (hS : ∀ a, oS a + S1x256x256.size a ≤ S2x256x256.size a)
    (g : FVec F S256x256 .f32 → FVec F S256x256 .f32) (kp vp : Vec F S256x128 .bf16) (fm : IVec S128x256 1) (lm : IVec S256x128 1)
    (kt : FVec F S128x256 .bf16) (ck : FVec F S256x256 .f32)
    (qt dt : Vec F S128x256 .bf16) (ot : Vec F S128x256 .f32) (q d : Vec F S256x128 .bf16) (cr : Cr F) :
    Prog (TpuEff nD τ sig (Elt F) Λ₀ .tc) (Cr F) := do
  let cq : Vec F S1x1x256 .f32 ← Prog.lift (.load arg13 (Rect.unit (s := S1x8x2048) oC S1x1x256.size hC).toLoadRect (View.loadsAt_vmem h_S1x1x256))
  let ls : Vec F S1x1x1x256 .f32 ← Prog.lift (.load arg11 (Rect.unit (s := S1x1x8x2048) oL S1x1x1x256.size hL).toLoadRect (View.loadsAt_vmem h_S1x1x1x256))
  let y : Vec F S1x256x256 .f32 ← Prog.lift (.load arg19 (Rect.unit (s := S2x256x256) oS S1x256x256.size hS).toLoadRect (View.loadsAt_vmem h_S1x256x256))
  let _y : Vec F S1x256x256 .f32 ← Prog.lift (.load arg19 (Rect.unit (s := S2x256x256) oS S1x256x256.size hS).toLoadRect (View.loadsAt_vmem h_S1x256x256))
  Prog.lift (.store arg19 (Rect.unit (s := S2x256x256) oS S1x256x256.size hS) (accS (dlogits (weights g kp fm ck qt cq ls) vp fm dt ot) y) Finset.univ (View.stores_vmem_bits_univ h_S1x256x256 rfl) (.inl rfl))
  let x : Vec F S128x256 .f32 ← Prog.lift (.load arg18 (Rect.unit (s := S128x2048) oQ S128x256.size hQ).toLoadRect (View.loadsAt_vmem h_S128x256))
  let _x : Vec F S128x256 .f32 ← Prog.lift (.load arg18 (Rect.unit (s := S128x2048) oQ S128x256.size hQ).toLoadRect (View.loadsAt_vmem h_S128x256))
  Prog.lift (.store arg18 (Rect.unit (s := S128x2048) oQ S128x256.size hQ) (accQ (dlogits (weights g kp fm ck qt cq ls) vp fm dt ot) kt x) Finset.univ (View.stores_vmem_bits_univ h_S128x256 rfl) (.inl rfl))
  pure (accK (dlogits (weights g kp fm ck qt cq ls) vp fm dt ot) lm q cr.1, accV (weights g kp fm ck qt cq ls) lm d cr.2)

/-- The two heads of a block of queries, at the offsets of that block. -/
def blk (arg6 : Memref sig .tc .vmem S2048x128 .bf16) (arg7 : Memref sig .tc .vmem S128x2048 .bf16) (arg8 : Memref sig .tc .vmem S2048x128 .bf16)
    (arg9 : Memref sig .tc .vmem S128x2048 .bf16) (arg10 : Memref sig .tc .vmem S128x2048 .f32)
    (arg11 : Memref sig .tc .vmem S1x1x8x2048 .f32) (arg13 : Memref sig .tc .vmem S1x8x2048 .f32)
    (arg18 : Memref sig .tc .vmem S128x2048 .f32) (arg19 : Memref sig .tc .vmem S2x256x256 .f32)
    (oQ : Fin 2 → ℕ) (hQ : ∀ a, oQ a + S128x256.size a ≤ S128x2048.size a)
    (oR : Fin 2 → ℕ) (hR : ∀ a, oR a + S256x128.size a ≤ S2048x128.size a)
    (oC0 : Fin 3 → ℕ) (hC0 : ∀ a, oC0 a + S1x1x256.size a ≤ S1x8x2048.size a)
    (oC1 : Fin 3 → ℕ) (hC1 : ∀ a, oC1 a + S1x1x256.size a ≤ S1x8x2048.size a)
    (oL0 : Fin 4 → ℕ) (hL0 : ∀ a, oL0 a + S1x1x1x256.size a ≤ S1x1x8x2048.size a)
    (oL1 : Fin 4 → ℕ) (hL1 : ∀ a, oL1 a + S1x1x1x256.size a ≤ S1x1x8x2048.size a)
    (g : FVec F S256x256 .f32 → FVec F S256x256 .f32) (kp vp : Vec F S256x128 .bf16) (fm0 fm1 : IVec S128x256 1) (lm0 lm1 : IVec S256x128 1)
    (kt0 kt1 : FVec F S128x256 .bf16) (ck0 ck1 : FVec F S256x256 .f32) (cr : Cr F) :
    Prog (TpuEff nD τ sig (Elt F) Λ₀ .tc) (Cr F) := do
  let qt : Vec F S128x256 .bf16 ← Prog.lift (.load arg7 (Rect.unit (s := S128x2048) oQ S128x256.size hQ).toLoadRect (View.loadsAt_vmem h_S128x256))
  let dt : Vec F S128x256 .bf16 ← Prog.lift (.load arg9 (Rect.unit (s := S128x2048) oQ S128x256.size hQ).toLoadRect (View.loadsAt_vmem h_S128x256))
  let ot : Vec F S128x256 .f32 ← Prog.lift (.load arg10 (Rect.unit (s := S128x2048) oQ S128x256.size hQ).toLoadRect (View.loadsAt_vmem h_S128x256))
  let q : Vec F S256x128 .bf16 ← Prog.lift (.load arg6 (Rect.unit (s := S2048x128) oR S256x128.size hR).toLoadRect (View.loadsAt_vmem h_S256x128))
  let d : Vec F S256x128 .bf16 ← Prog.lift (.load arg8 (Rect.unit (s := S2048x128) oR S256x128.size hR).toLoadRect (View.loadsAt_vmem h_S256x128))
  let cr0 ← half arg11 arg13 arg18 arg19 oQ hQ oC0 hC0 oL0 hL0 ![0, 0, 0] inb_S2x256x256_S1x256x256_0_0_0 g kp vp fm0 lm0 kt0 ck0 qt dt ot q d cr
  half arg11 arg13 arg18 arg19 oQ hQ oC1 hC1 oL1 hL1 ![1, 0, 0] inb_S2x256x256_S1x256x256_1_0_0 g kp vp fm1 lm1 kt1 ck1 qt dt ot q d cr0

section Trips
variable (i : grid0.Coords)
  (arg3 : Memref sig .tc .vmem S256x128 .bf16) (harg3 : arg3.IsWhole) (arg4 : Memref sig .tc .vmem S256x128 .bf16) (harg4 : arg4.IsWhole) (arg5 : Memref sig .tc .vmem S128x256 .bf16) (harg5 : arg5.IsWhole) (arg6 : Memref sig .tc .vmem S2048x128 .bf16) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S128x2048 .bf16) (harg9 : arg9.IsWhole) (arg10 : Memref sig .tc .vmem S128x2048 .f32) (harg10 : arg10.IsWhole) (arg11 : Memref sig .tc .vmem S1x1x8x2048 .f32) (harg11 : arg11.IsWhole) (arg12 : Memref sig .tc .vmem S1x2x256x128 .f32) (harg12 : arg12.IsWhole) (arg13 : Memref sig .tc .vmem S1x8x2048 .f32) (harg13 : arg13.IsWhole) (arg14 : Memref sig .tc .vmem S256x128 .bf16) (harg14 : arg14.IsWhole) (arg15 : Memref sig .tc .vmem S256x128 .bf16) (harg15 : arg15.IsWhole) (arg16 : Memref sig .tc .vmem S128x2048 .f32) (harg16 : arg16.IsWhole) (arg17 : Memref sig .tc .vmem S1x1x256x128 .f32) (harg17 : arg17.IsWhole) (arg18 : Memref sig .tc .vmem S128x2048 .f32) (harg18 : arg18.IsWhole) (arg19 : Memref sig .tc .vmem S2x256x256 .f32) (harg19 : arg19.IsWhole)
  (arg1 : BitVec 32) (v3 : Vec F S256x128 .bf16) (v4 : Vec F S256x128 .bf16) (v9 : IVec S128x256 1) (v11 : IVec S128x256 1) (v14 : IVec S256x128 1) (v16 : IVec S256x128 1)
  (v18 : FVec F S128x256 .bf16) (v20 : FVec F S128x256 .bf16) (v23 : FVec F S256x256 .f32) (v26 : FVec F S256x256 .f32)

/-- Block `r` of a trip of the counted loop. -/
abbrev tripBlk (k : Fin (k0_t1_loop i).trips) (r : Fin 4) (cr : Cr F) : Prog (TpuEff nD τ sig (Elt F) Λ₀ .tc) (Cr F) :=
  blk arg6 arg7 arg8 arg9 arg10 arg11 arg13 arg18 arg19 (k0_off6 i k (BitVec.ofNat 32 r.val)) (k0_off6_inb i k r) (k0_off7 i k (BitVec.ofNat 32 r.val)) (k0_off7_inb i k r)
    (k0_off8 i k 0#32 (BitVec.ofNat 32 r.val)) (k0_off8_inb i k 0 r) (k0_off8 i k 1#32 (BitVec.ofNat 32 r.val)) (k0_off8_inb i k 1 r)
    (k0_off9 i k (BitVec.ofNat 32 r.val)) (k0_off9_inb i k r) (k0_off10 i k (BitVec.ofNat 32 r.val)) (k0_off10_inb i k r)
    id v3 v4 v9 v11 v14 v16 v18 v20 v23 v26 cr

set_option maxRecDepth 65536 in
/-- A trip of the counted loop is four blocks. -/
theorem trip_eq (v156 v160 : FVec F S256x128 .f32) (v171 v172 v189 c0 v190 : BitVec 32) (k : Fin (k0_t1_loop i).trips) (cr : Cr F) :
    k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v3 v4 v9 v11 v14 v16 v18 v20 v23 v26 v156 v160 v171 v172 v189 c0 v190 k cr
      = (do let cr ← tripBlk i arg6 arg7 arg8 arg9 arg10 arg11 arg13 arg18 arg19 v3 v4 v9 v11 v14 v16 v18 v20 v23 v26 k 0 cr
            let cr ← tripBlk i arg6 arg7 arg8 arg9 arg10 arg11 arg13 arg18 arg19 v3 v4 v9 v11 v14 v16 v18 v20 v23 v26 k 1 cr
            let cr ← tripBlk i arg6 arg7 arg8 arg9 arg10 arg11 arg13 arg18 arg19 v3 v4 v9 v11 v14 v16 v18 v20 v23 v26 k 2 cr
            tripBlk i arg6 arg7 arg8 arg9 arg10 arg11 arg13 arg18 arg19 v3 v4 v9 v11 v14 v16 v18 v20 v23 v26 k 3 cr) := rfl

/-- Block `r` of a trip of the loop over what the first loop leaves (it runs no trip). -/
abbrev tripBlk2 (k : Fin (k0_t2_loop i).trips) (r : Fin 4) (cr : Cr F) : Prog (TpuEff nD τ sig (Elt F) Λ₀ .tc) (Cr F) :=
  blk arg6 arg7 arg8 arg9 arg10 arg11 arg13 arg18 arg19 (k0_off11 i k (BitVec.ofNat 32 r.val)) (k0_off11_inb i k r) (k0_off12 i k (BitVec.ofNat 32 r.val)) (k0_off12_inb i k r)
    (k0_off13 i k 0#32 (BitVec.ofNat 32 r.val)) (k0_off13_inb i k 0 r) (k0_off13 i k 1#32 (BitVec.ofNat 32 r.val)) (k0_off13_inb i k 1 r)
    (k0_off14 i k (BitVec.ofNat 32 r.val)) (k0_off14_inb i k r) (k0_off15 i k (BitVec.ofNat 32 r.val)) (k0_off15_inb i k r)
    id v3 v4 v9 v11 v14 v16 v18 v20 v23 v26 cr

set_option maxRecDepth 65536 in
/-- So is a trip of the second loop. -/
theorem trip2_eq (v156 v160 : FVec F S256x128 .f32) (v171 v172 v189 c0 v190 v194 : BitVec 32) (k : Fin (k0_t2_loop i).trips) (cr : Cr F) :
    k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v3 v4 v9 v11 v14 v16 v18 v20 v23 v26 v156 v160 v171 v172 v189 c0 v190 v194 k cr
      = (do let cr ← tripBlk2 i arg6 arg7 arg8 arg9 arg10 arg11 arg13 arg18 arg19 v3 v4 v9 v11 v14 v16 v18 v20 v23 v26 k 0 cr
            let cr ← tripBlk2 i arg6 arg7 arg8 arg9 arg10 arg11 arg13 arg18 arg19 v3 v4 v9 v11 v14 v16 v18 v20 v23 v26 k 1 cr
            let cr ← tripBlk2 i arg6 arg7 arg8 arg9 arg10 arg11 arg13 arg18 arg19 v3 v4 v9 v11 v14 v16 v18 v20 v23 v26 k 2 cr
            tripBlk2 i arg6 arg7 arg8 arg9 arg10 arg11 arg13 arg18 arg19 v3 v4 v9 v11 v14 v16 v18 v20 v23 v26 k 3 cr) := rfl

/-- Block `r` of the branch for three remaining blocks, for two, and for one. -/
abbrev restBlk3 (h : k0_cond2 i = 1#1) (r : Fin 3) (cr : Cr F) : Prog (TpuEff nD τ sig (Elt F) Λ₀ .tc) (Cr F) :=
  blk arg6 arg7 arg8 arg9 arg10 arg11 arg13 arg18 arg19 (k0_off16 i (BitVec.ofNat 32 r.val)) (k0_off16_inb i h r) (k0_off17 i (BitVec.ofNat 32 r.val)) (k0_off17_inb i h r)
    (k0_off18 i 0#32 (BitVec.ofNat 32 r.val)) (k0_off18_inb i h 0 r) (k0_off18 i 1#32 (BitVec.ofNat 32 r.val)) (k0_off18_inb i h 1 r)
    (k0_off19 i (BitVec.ofNat 32 r.val)) (k0_off19_inb i h r) (k0_off20 i (BitVec.ofNat 32 r.val)) (k0_off20_inb i h r)
    id v3 v4 v9 v11 v14 v16 v18 v20 v23 v26 cr
abbrev restBlk2 (h : k0_cond3 i = 1#1) (r : Fin 2) (cr : Cr F) : Prog (TpuEff nD τ sig (Elt F) Λ₀ .tc) (Cr F) :=
  blk arg6 arg7 arg8 arg9 arg10 arg11 arg13 arg18 arg19 (k0_off21 i (BitVec.ofNat 32 r.val)) (k0_off21_inb i h r) (k0_off22 i (BitVec.ofNat 32 r.val)) (k0_off22_inb i h r)
    (k0_off23 i 0#32 (BitVec.ofNat 32 r.val)) (k0_off23_inb i h 0 r) (k0_off23 i 1#32 (BitVec.ofNat 32 r.val)) (k0_off23_inb i h 1 r)
    (k0_off24 i (BitVec.ofNat 32 r.val)) (k0_off24_inb i h r) (k0_off25 i (BitVec.ofNat 32 r.val)) (k0_off25_inb i h r)
    id v3 v4 v9 v11 v14 v16 v18 v20 v23 v26 cr
abbrev restBlk1 (h : k0_cond4 i = 1#1) (cr : Cr F) : Prog (TpuEff nD τ sig (Elt F) Λ₀ .tc) (Cr F) :=
  blk arg6 arg7 arg8 arg9 arg10 arg11 arg13 arg18 arg19 (k0_off26 i) (k0_off26_inb i h) (k0_off27 i) (k0_off27_inb i h)
    (k0_off28 i 0#32) (k0_off28_inb i h 0) (k0_off28 i 1#32) (k0_off28_inb i h 1)
    (k0_off29 i) (k0_off29_inb i h) (k0_off30 i) (k0_off30_inb i h)
    id v3 v4 v9 v11 v14 v16 v18 v20 v23 v26 cr

end Trips

/-! ## The kernel body -/

/-- The mask of the diagonal block: key `r` weighs query `s` when `r ≤ s`. -/
def diag (x : FVec F S256x256 .f32) : FVec F S256x256 .f32 :=
  select (cmpi .sge (iota .tc S256x256 32 [1] iota_S256x256_d1_w32) (iota .tc S256x256 32 [0] iota_S256x256_d0_w32)) x (broadcast S256x256 (Scalar.ofBits .f32 0x00000000#32 : F .f32))

def fm0 : IVec S128x256 1 := cmpi .slt (iota .tc S128x256 32 [0] iota_S128x256_d0_w32) (broadcast S128x256 64#32)
def fm1 : IVec S128x256 1 := cmpi .sge (iota .tc S128x256 32 [0] iota_S128x256_d0_w32) (broadcast S128x256 64#32)
def lm0 : IVec S256x128 1 := cmpi .slt (iota .tc S256x128 32 [1] iota_S256x128_d1_w32) (broadcast S256x128 64#32)
def lm1 : IVec S256x128 1 := cmpi .sge (iota .tc S256x128 32 [1] iota_S256x128_d1_w32) (broadcast S256x128 64#32)

/-- A key's gate sum along the lanes, laid out twice side by side. -/
def twice (x : Vec F S1x1x256x128 .f32) : FVec F S256x256 .f32 :=
  concatenate S256x256 1 [⟨S256x128, (shapeCast S256x128 x shapeCasts_S1x1x256x128_S256x128 : FVec F S256x128 .f32)⟩, ⟨S256x128, (shapeCast S256x128 x shapeCasts_S1x1x256x128_S256x128 : FVec F S256x128 .f32)⟩] concatenates_S256x128_S256x128_S256x256_d1

def zeroC : FVec F S256x128 .f32 := broadcast S256x128 (Scalar.ofBits .f32 0x00000000#32 : F .f32)
def zeroQ : FVec F S128x2048 .f32 := shapeCast S128x2048 (broadcast S128x2048 (Scalar.ofBits .f32 0x00000000#32 : F .f32) : FVec F S128x2048 .f32) shapeCasts_S128x2048_S128x2048
def zeroS : FVec F S2x256x256 .f32 := shapeCast S2x256x256 (broadcast S2x256x256 (Scalar.ofBits .f32 0x00000000#32 : F .f32) : FVec F S2x256x256 .f32) shapeCasts_S2x256x256_S2x256x256

/-- The sum over the queries of a head's logit gradients, negated, along the lanes. -/
def negSum (y : Vec F S1x256x256 .f32) : FVec F S256x128 .f32 :=
  broadcastTo S256x128 (shapeCast S256x1 (subf (broadcast S256x1 (Scalar.ofBits .f32 0x00000000#32 : F .f32))
    (shapeCast S256x1 (multiReduction .add [1] S256 (shapeCast S256x256 y shapeCasts_S1x256x256_S256x256 : FVec F S256x256 .f32) 0x00000000#32 reduces_S256x256_S256 (.inl rfl) rfl : FVec F S256 .f32)
      shapeCasts_S256_S256x1 : FVec F S256x1 .f32)) shapeCasts_S256x1_S256x1 : FVec F S256x1 .f32) broadcasts_S256x1_S256x128

/-- Which lane holds head `h` of pair `p`. -/
def isLane (p h : BitVec 32) : IVec S256x128 1 :=
  cmpi .eq (iota .tc S256x128 32 [1] iota_S256x128_d1_w32) (broadcast S256x128 (Scalar.addi (Scalar.muli 2#32 p) h))

/-- The gradient of the gate sums at the block's keys, one lane a head. -/
def laneSums (p : BitVec 32) (y0 y1 : Vec F S1x256x256 .f32) : FVec F S1x1x256x128 .f32 :=
  shapeCast S1x1x256x128 (select (isLane p 1#32) (negSum y1) (select (isLane p 0#32) (negSum y0) zeroC) : FVec F S256x128 .f32) shapeCasts_S256x128_S1x1x256x128

section Body
variable (i : grid0.Coords)
  (arg3 : Memref sig .tc .vmem S256x128 .bf16) (harg3 : arg3.IsWhole) (arg4 : Memref sig .tc .vmem S256x128 .bf16) (harg4 : arg4.IsWhole) (arg5 : Memref sig .tc .vmem S128x256 .bf16) (harg5 : arg5.IsWhole) (arg6 : Memref sig .tc .vmem S2048x128 .bf16) (harg6 : arg6.IsWhole) (arg7 : Memref sig .tc .vmem S128x2048 .bf16) (harg7 : arg7.IsWhole) (arg8 : Memref sig .tc .vmem S2048x128 .bf16) (harg8 : arg8.IsWhole) (arg9 : Memref sig .tc .vmem S128x2048 .bf16) (harg9 : arg9.IsWhole) (arg10 : Memref sig .tc .vmem S128x2048 .f32) (harg10 : arg10.IsWhole) (arg11 : Memref sig .tc .vmem S1x1x8x2048 .f32) (harg11 : arg11.IsWhole) (arg12 : Memref sig .tc .vmem S1x2x256x128 .f32) (harg12 : arg12.IsWhole) (arg13 : Memref sig .tc .vmem S1x8x2048 .f32) (harg13 : arg13.IsWhole) (arg14 : Memref sig .tc .vmem S256x128 .bf16) (harg14 : arg14.IsWhole) (arg15 : Memref sig .tc .vmem S256x128 .bf16) (harg15 : arg15.IsWhole) (arg16 : Memref sig .tc .vmem S128x2048 .f32) (harg16 : arg16.IsWhole) (arg17 : Memref sig .tc .vmem S1x1x256x128 .f32) (harg17 : arg17.IsWhole) (arg18 : Memref sig .tc .vmem S128x2048 .f32) (harg18 : arg18.IsWhole) (arg19 : Memref sig .tc .vmem S2x256x256 .f32) (harg19 : arg19.IsWhole)

/-- Whether a point starts a sequence: its block of keys is the first. -/
abbrev isFirst : Prop := Scalar.cmpi .ne (Scalar.extui (Scalar.cmpi .eq (BitVec.ofNat 32 (i 2).val) 0#32) : BitVec 32) 0#32 = 1#1

/-- The start of a point: the query gradient is cleared at the first block of keys. -/
def opening : Prog (TpuEff nD τ sig (Elt F) Λ₀ .tc) PUnit :=
  if h : isFirst i then do
    let _x : Vec F S128x2048 .f32 ← Prog.lift (.load arg18 (Rect.unit (s := S128x2048) ![0, 0] S128x2048.size inb_S128x2048_S128x2048_0_0).toLoadRect (View.loadsAt_vmem h_S128x2048))
    Prog.lift (.store arg18 (Rect.unit (s := S128x2048) ![0, 0] S128x2048.size inb_S128x2048_S128x2048_0_0) zeroQ Finset.univ (View.stores_vmem_bits_univ h_S128x2048 rfl) (.inl rfl))
    pure ⟨⟩
  else do
    pure ⟨⟩

/-- The end of a point: the query gradient is handed over at the last block of keys. -/
def closing : Prog (TpuEff nD τ sig (Elt F) Λ₀ .tc) PUnit :=
  if h : k0_cond5 i = 1#1 then do
    let x : Vec F S128x2048 .f32 ← Prog.lift (.load arg18 (Rect.unit (s := S128x2048) ![0, 0] S128x2048.size inb_S128x2048_S128x2048_0_0).toLoadRect (View.loadsAt_vmem h_S128x2048))
    let _x : Vec F S128x2048 .f32 ← Prog.lift (.load arg16 (Rect.unit (s := S128x2048) ![0, 0] S128x2048.size inb_S128x2048_S128x2048_0_0).toLoadRect (View.loadsAt_vmem h_S128x2048))
    Prog.lift (.store arg16 (Rect.unit (s := S128x2048) ![0, 0] S128x2048.size inb_S128x2048_S128x2048_0_0) x Finset.univ (View.stores_vmem_bits_univ h_S128x2048 rfl) (.inl rfl))
    pure ⟨⟩
  else do
    pure ⟨⟩

/-- The gradients of the keys and values are stored; the first head's logit gradients are read again. -/
def stores (cr : Cr F) : Prog (TpuEff nD τ sig (Elt F) Λ₀ .tc) (Vec F S1x256x256 .f32) := do
  let _k : Vec F S256x128 .bf16 ← Prog.lift (.load arg14 (Rect.unit (s := S256x128) ![0, 0] S256x128.size inb_S256x128_S256x128_0_0).toLoadRect (View.loadsAt_vmem h_S256x128))
  Prog.lift (.store arg14 (Rect.unit (s := S256x128) ![0, 0] S256x128.size inb_S256x128_S256x128_0_0) (truncf .bf16 cr.1 bitsLt_bf16_f32) Finset.univ (View.stores_vmem h_S256x128 (harg14.storeExact_slice rfl _ packedbf16_S256x128_S256x128_0_0) (fun _ => rfl)) (.inl rfl))
  let _v : Vec F S256x128 .bf16 ← Prog.lift (.load arg15 (Rect.unit (s := S256x128) ![0, 0] S256x128.size inb_S256x128_S256x128_0_0).toLoadRect (View.loadsAt_vmem h_S256x128))
  Prog.lift (.store arg15 (Rect.unit (s := S256x128) ![0, 0] S256x128.size inb_S256x128_S256x128_0_0) (truncf .bf16 cr.2 bitsLt_bf16_f32) Finset.univ (View.stores_vmem h_S256x128 (harg15.storeExact_slice rfl _ packedbf16_S256x128_S256x128_0_0) (fun _ => rfl)) (.inl rfl))
  let y0 : Vec F S1x256x256 .f32 ← Prog.lift (.load arg19 (Rect.unit (s := S2x256x256) ![0, 0, 0] S1x256x256.size inb_S2x256x256_S1x256x256_0_0_0).toLoadRect (View.loadsAt_vmem h_S1x256x256))
  pure y0

/-- The sums over the queries are stored. -/
def sums (y0 : Vec F S1x256x256 .f32) : Prog (TpuEff nD τ sig (Elt F) Λ₀ .tc) PUnit := do
  let y1 : Vec F S1x256x256 .f32 ← Prog.lift (.load arg19 (Rect.unit (s := S2x256x256) ![1, 0, 0] S1x256x256.size inb_S2x256x256_S1x256x256_1_0_0).toLoadRect (View.loadsAt_vmem h_S1x256x256))
  let _c : Vec F S1x1x256x128 .f32 ← Prog.lift (.load arg17 (Rect.unit (s := S1x1x256x128) ![0, 0, 0, 0] S1x1x256x128.size inb_S1x1x256x128_S1x1x256x128_0_0_0_0).toLoadRect (View.loadsAt_vmem h_S1x1x256x128))
  Prog.lift (.store arg17 (Rect.unit (s := S1x1x256x128) ![0, 0, 0, 0] S1x1x256x128.size inb_S1x1x256x128_S1x1x256x128_0_0_0_0) (laneSums (BitVec.ofNat 32 (i 1).val) y0 y1) Finset.univ (View.stores_vmem_bits_univ h_S1x1x256x128 rfl) (.inl rfl))

/-- The remaining blocks of queries: three, two or one. -/
def rest3 (v3 v4 : Vec F S256x128 .bf16) (f0 f1 : IVec S128x256 1) (l0 l1 : IVec S256x128 1) (kt0 kt1 : FVec F S128x256 .bf16) (ck0 ck1 : FVec F S256x256 .f32) (cr : Cr F) : Prog (TpuEff nD τ sig (Elt F) Λ₀ .tc) (Cr F) :=
  if h : k0_cond2 i = 1#1 then do
    let cr ← restBlk3 i arg6 arg7 arg8 arg9 arg10 arg11 arg13 arg18 arg19 v3 v4 f0 f1 l0 l1 kt0 kt1 ck0 ck1 h 0 cr
    let cr ← restBlk3 i arg6 arg7 arg8 arg9 arg10 arg11 arg13 arg18 arg19 v3 v4 f0 f1 l0 l1 kt0 kt1 ck0 ck1 h 1 cr
    restBlk3 i arg6 arg7 arg8 arg9 arg10 arg11 arg13 arg18 arg19 v3 v4 f0 f1 l0 l1 kt0 kt1 ck0 ck1 h 2 cr
  else pure cr
def rest2 (v3 v4 : Vec F S256x128 .bf16) (f0 f1 : IVec S128x256 1) (l0 l1 : IVec S256x128 1) (kt0 kt1 : FVec F S128x256 .bf16) (ck0 ck1 : FVec F S256x256 .f32) (cr : Cr F) : Prog (TpuEff nD τ sig (Elt F) Λ₀ .tc) (Cr F) :=
  if h : k0_cond3 i = 1#1 then do
    let cr ← restBlk2 i arg6 arg7 arg8 arg9 arg10 arg11 arg13 arg18 arg19 v3 v4 f0 f1 l0 l1 kt0 kt1 ck0 ck1 h 0 cr
    restBlk2 i arg6 arg7 arg8 arg9 arg10 arg11 arg13 arg18 arg19 v3 v4 f0 f1 l0 l1 kt0 kt1 ck0 ck1 h 1 cr
  else pure cr
def rest1 (v3 v4 : Vec F S256x128 .bf16) (f0 f1 : IVec S128x256 1) (l0 l1 : IVec S256x128 1) (kt0 kt1 : FVec F S128x256 .bf16) (ck0 ck1 : FVec F S256x256 .f32) (cr : Cr F) : Prog (TpuEff nD τ sig (Elt F) Λ₀ .tc) (Cr F) :=
  if h : k0_cond4 i = 1#1 then restBlk1 i arg6 arg7 arg8 arg9 arg10 arg11 arg13 arg18 arg19 v3 v4 f0 f1 l0 l1 kt0 kt1 ck0 ck1 h cr
  else pure cr

/-- The diagonal block. -/
abbrev diagBlk (g : FVec F S256x256 .f32 → FVec F S256x256 .f32) (v3 v4 : Vec F S256x128 .bf16) (f0 f1 : IVec S128x256 1) (l0 l1 : IVec S256x128 1) (kt0 kt1 : FVec F S128x256 .bf16) (ck0 ck1 : FVec F S256x256 .f32) (cr : Cr F) : Prog (TpuEff nD τ sig (Elt F) Λ₀ .tc) (Cr F) :=
  blk arg6 arg7 arg8 arg9 arg10 arg11 arg13 arg18 arg19 (k0_off1 i) (k0_off1_inb i) (k0_off2 i) (k0_off2_inb i) (k0_off3 i 0#32) (k0_off3_inb i 0) (k0_off3 i 1#32) (k0_off3_inb i 1)
    (k0_off4 i) (k0_off4_inb i) (k0_off5 i) (k0_off5_inb i) g v3 v4 f0 f1 l0 l1 kt0 kt1 ck0 ck1 cr

/-- The whole trips of four blocks, and the loop over what they leave. -/
def trips (v3 v4 : Vec F S256x128 .bf16) (f0 f1 : IVec S128x256 1) (l0 l1 : IVec S256x128 1) (kt0 kt1 : FVec F S128x256 .bf16) (ck0 ck1 : FVec F S256x256 .f32) (cr : Cr F) : Prog (TpuEff nD τ sig (Elt F) Λ₀ .tc) (Cr F) := do
  let cr ← Scf.Loop.for (k0_t1_loop i) (k0_t1_ok i) cr fun k cr => do
    let cr ← tripBlk i arg6 arg7 arg8 arg9 arg10 arg11 arg13 arg18 arg19 v3 v4 f0 f1 l0 l1 kt0 kt1 ck0 ck1 k 0 cr
    let cr ← tripBlk i arg6 arg7 arg8 arg9 arg10 arg11 arg13 arg18 arg19 v3 v4 f0 f1 l0 l1 kt0 kt1 ck0 ck1 k 1 cr
    let cr ← tripBlk i arg6 arg7 arg8 arg9 arg10 arg11 arg13 arg18 arg19 v3 v4 f0 f1 l0 l1 kt0 kt1 ck0 ck1 k 2 cr
    tripBlk i arg6 arg7 arg8 arg9 arg10 arg11 arg13 arg18 arg19 v3 v4 f0 f1 l0 l1 kt0 kt1 ck0 ck1 k 3 cr
  Scf.Loop.for (k0_t2_loop i) (k0_t2_ok i) cr fun k cr => do
    let cr ← tripBlk2 i arg6 arg7 arg8 arg9 arg10 arg11 arg13 arg18 arg19 v3 v4 f0 f1 l0 l1 kt0 kt1 ck0 ck1 k 0 cr
    let cr ← tripBlk2 i arg6 arg7 arg8 arg9 arg10 arg11 arg13 arg18 arg19 v3 v4 f0 f1 l0 l1 kt0 kt1 ck0 ck1 k 1 cr
    let cr ← tripBlk2 i arg6 arg7 arg8 arg9 arg10 arg11 arg13 arg18 arg19 v3 v4 f0 f1 l0 l1 kt0 kt1 ck0 ck1 k 2 cr
    tripBlk2 i arg6 arg7 arg8 arg9 arg10 arg11 arg13 arg18 arg19 v3 v4 f0 f1 l0 l1 kt0 kt1 ck0 ck1 k 3 cr

/-- The blocks of queries of a point: the diagonal one, whole trips of four, then the one to three that remain. -/
def blocks (v3 v4 : Vec F S256x128 .bf16) (f0 f1 : IVec S128x256 1) (l0 l1 : IVec S256x128 1) (kt0 kt1 : FVec F S128x256 .bf16) (ck0 ck1 : FVec F S256x256 .f32) : Prog (TpuEff nD τ sig (Elt F) Λ₀ .tc) (Cr F) := do
  let cr ← diagBlk i arg6 arg7 arg8 arg9 arg10 arg11 arg13 arg18 arg19 diag v3 v4 f0 f1 l0 l1 kt0 kt1 ck0 ck1 (zeroC, zeroC)
  let cr ← trips i arg6 arg7 arg8 arg9 arg10 arg11 arg13 arg18 arg19 v3 v4 f0 f1 l0 l1 kt0 kt1 ck0 ck1 cr
  let cr ← rest3 i arg6 arg7 arg8 arg9 arg10 arg11 arg13 arg18 arg19 v3 v4 f0 f1 l0 l1 kt0 kt1 ck0 ck1 cr
  let cr ← rest2 i arg6 arg7 arg8 arg9 arg10 arg11 arg13 arg18 arg19 v3 v4 f0 f1 l0 l1 kt0 kt1 ck0 ck1 cr
  rest1 i arg6 arg7 arg8 arg9 arg10 arg11 arg13 arg18 arg19 v3 v4 f0 f1 l0 l1 kt0 kt1 ck0 ck1 cr

/-- The start of a point and what it reads of its block of keys. -/
def heads : Prog (TpuEff nD τ sig (Elt F) Λ₀ .tc) (Vec F S256x128 .bf16 × Vec F S256x128 .bf16 × Vec F S128x256 .bf16 × Vec F S1x1x256x128 .f32 × Vec F S1x1x256x128 .f32) := do
  opening i arg18
  let v3 : Vec F S256x128 .bf16 ← Prog.lift (.load arg3 (Rect.unit (s := S256x128) ![0, 0] S256x128.size inb_S256x128_S256x128_0_0).toLoadRect (View.loadsAt_vmem h_S256x128))
  let v4 : Vec F S256x128 .bf16 ← Prog.lift (.load arg4 (Rect.unit (s := S256x128) ![0, 0] S256x128.size inb_S256x128_S256x128_0_0).toLoadRect (View.loadsAt_vmem h_S256x128))
  let v5 : Vec F S128x256 .bf16 ← Prog.lift (.load arg5 (Rect.unit (s := S128x256) ![0, 0] S128x256.size inb_S128x256_S128x256_0_0).toLoadRect (View.loadsAt_vmem h_S128x256))
  let v21 : Vec F S1x1x256x128 .f32 ← Prog.lift (.load arg12 (Rect.unit (s := S1x2x256x128) ![0, 0, 0, 0] S1x1x256x128.size inb_S1x2x256x128_S1x1x256x128_0_0_0_0).toLoadRect (View.loadsAt_vmem h_S1x1x256x128))
  let v24 : Vec F S1x1x256x128 .f32 ← Prog.lift (.load arg12 (Rect.unit (s := S1x2x256x128) ![0, 1, 0, 0] S1x1x256x128.size inb_S1x2x256x128_S1x1x256x128_0_1_0_0).toLoadRect (View.loadsAt_vmem h_S1x1x256x128))
  pure (v3, v4, v5, v21, v24)

/-- The kernel body of a point, written with the block. -/
def body : Prog (TpuEff nD τ sig (Elt F) Λ₀ .tc) PUnit := do
  let (v3, v4, v5, v21, v24) ← heads i arg3 arg4 arg5 arg12 arg18
  let _y : Vec F S2x256x256 .f32 ← Prog.lift (.load arg19 (Rect.unit (s := S2x256x256) ![0, 0, 0] S2x256x256.size inb_S2x256x256_S2x256x256_0_0_0).toLoadRect (View.loadsAt_vmem h_S2x256x256))
  Prog.lift (.store arg19 (Rect.unit (s := S2x256x256) ![0, 0, 0] S2x256x256.size inb_S2x256x256_S2x256x256_0_0_0) zeroS Finset.univ (View.stores_vmem_bits_univ h_S2x256x256 rfl) (.inl rfl))
  let cr ← blocks i arg6 arg7 arg8 arg9 arg10 arg11 arg13 arg18 arg19 v3 v4 fm0 fm1 lm0 lm1 (selT fm0 v5) (selT fm1 v5) (twice v21) (twice v24)
  let y0 ← stores arg14 harg14 arg15 harg15 arg19 cr
  sums i arg17 arg19 y0
  closing i arg16 arg18

/-! The printed text puts what follows a conditional inside its branches; the forms `…In` below do so too. -/

/-- The values the printed text passes on after the start of a point, and after the gradients of the block of keys are stored. -/
abbrev headsOut : Vec F S256x128 .bf16 × Vec F S256x128 .bf16 × Vec F S128x256 .bf16 × Vec F S1x1x256x128 .f32 × Vec F S1x1x256x128 .f32 → (Σ' (arg1 : BitVec 32) (arg2 : BitVec 32) (v3 : Vec F S256x128 .bf16) (v4 : Vec F S256x128 .bf16) (v9 : IVec S128x256 1) (v11 : IVec S128x256 1) (v14 : IVec S256x128 1) (v16 : IVec S256x128 1) (v18 : FVec F S128x256 .bf16) (v20 : FVec F S128x256 .bf16) (v23 : FVec F S256x256 .f32) (v26 : FVec F S256x256 .f32) (v27 : IVec S256x256 32) (v28 : IVec S256x256 32), FVec F S2x256x256 .f32) :=
  fun (v3, v4, v5, v21, v24) => ⟨BitVec.ofNat 32 (i 1).val, BitVec.ofNat 32 (i 2).val, v3, v4, fm0, fm1, lm0, lm1, selT fm0 v5, selT fm1 v5, twice v21, twice v24,
    iota .tc S256x256 32 [0] iota_S256x256_d0_w32, iota .tc S256x256 32 [1] iota_S256x256_d1_w32, broadcast S2x256x256 (Scalar.ofBits .f32 0x00000000#32 : F .f32)⟩
abbrev storesOut (y0 : Vec F S1x256x256 .f32) : (Σ' (v217 : IVec S256x128 32) (v218 : FVec F S256x128 .f32) (v222 : FVec F S256x1 .f32) (v226 : IVec S256x128 1), F .f32) :=
  ⟨iota .tc S256x128 32 [1] iota_S256x128_d1_w32, zeroC, shapeCast S256x1 (multiReduction .add [1] S256 (shapeCast S256x256 y0 shapeCasts_S1x256x256_S256x256 : FVec F S256x256 .f32) 0x00000000#32 reduces_S256x256_S256 (.inl rfl) rfl : FVec F S256 .f32)
      shapeCasts_S256_S256x1, isLane (BitVec.ofNat 32 (i 1).val) 0#32, Scalar.ofBits .f32 0x00000000#32⟩

def headsIn : Prog (TpuEff nD τ sig (Elt F) Λ₀ .tc) (Σ' (arg1 : BitVec 32) (arg2 : BitVec 32) (v3 : Vec F S256x128 .bf16) (v4 : Vec F S256x128 .bf16) (v9 : IVec S128x256 1) (v11 : IVec S128x256 1) (v14 : IVec S256x128 1) (v16 : IVec S256x128 1) (v18 : FVec F S128x256 .bf16) (v20 : FVec F S128x256 .bf16) (v23 : FVec F S256x256 .f32) (v26 : FVec F S256x256 .f32) (v27 : IVec S256x256 32) (v28 : IVec S256x256 32), FVec F S2x256x256 .f32) := do
  if h : isFirst i then do
    let _x : Vec F S128x2048 .f32 ← Prog.lift (.load arg18 (Rect.unit (s := S128x2048) ![0, 0] S128x2048.size inb_S128x2048_S128x2048_0_0).toLoadRect (View.loadsAt_vmem h_S128x2048))
    Prog.lift (.store arg18 (Rect.unit (s := S128x2048) ![0, 0] S128x2048.size inb_S128x2048_S128x2048_0_0) zeroQ Finset.univ (View.stores_vmem_bits_univ h_S128x2048 rfl) (.inl rfl))
    pure ⟨⟩
  else do
    pure ⟨⟩
  let v3 : Vec F S256x128 .bf16 ← Prog.lift (.load arg3 (Rect.unit (s := S256x128) ![0, 0] S256x128.size inb_S256x128_S256x128_0_0).toLoadRect (View.loadsAt_vmem h_S256x128))
  let v4 : Vec F S256x128 .bf16 ← Prog.lift (.load arg4 (Rect.unit (s := S256x128) ![0, 0] S256x128.size inb_S256x128_S256x128_0_0).toLoadRect (View.loadsAt_vmem h_S256x128))
  let v5 : Vec F S128x256 .bf16 ← Prog.lift (.load arg5 (Rect.unit (s := S128x256) ![0, 0] S128x256.size inb_S128x256_S128x256_0_0).toLoadRect (View.loadsAt_vmem h_S128x256))
  let v21 : Vec F S1x1x256x128 .f32 ← Prog.lift (.load arg12 (Rect.unit (s := S1x2x256x128) ![0, 0, 0, 0] S1x1x256x128.size inb_S1x2x256x128_S1x1x256x128_0_0_0_0).toLoadRect (View.loadsAt_vmem h_S1x1x256x128))
  let v24 : Vec F S1x1x256x128 .f32 ← Prog.lift (.load arg12 (Rect.unit (s := S1x2x256x128) ![0, 1, 0, 0] S1x1x256x128.size inb_S1x2x256x128_S1x1x256x128_0_1_0_0).toLoadRect (View.loadsAt_vmem h_S1x1x256x128))
  pure (headsOut i (v3, v4, v5, v21, v24))
def rest1In (v3 v4 : Vec F S256x128 .bf16) (f0 f1 : IVec S128x256 1) (l0 l1 : IVec S256x128 1) (kt0 kt1 : FVec F S128x256 .bf16) (ck0 ck1 : FVec F S256x256 .f32) (cr : Cr F) : Prog (TpuEff nD τ sig (Elt F) Λ₀ .tc) (Σ' (v217 : IVec S256x128 32) (v218 : FVec F S256x128 .f32) (v222 : FVec F S256x1 .f32) (v226 : IVec S256x128 1), F .f32) :=
  if h : k0_cond4 i = 1#1 then do
    let cr ← restBlk1 i arg6 arg7 arg8 arg9 arg10 arg11 arg13 arg18 arg19 v3 v4 f0 f1 l0 l1 kt0 kt1 ck0 ck1 h cr
    let y0 ← stores arg14 harg14 arg15 harg15 arg19 cr
    pure (storesOut i y0)
  else do
    let y0 ← stores arg14 harg14 arg15 harg15 arg19 cr
    pure (storesOut i y0)
def rest2In (v3 v4 : Vec F S256x128 .bf16) (f0 f1 : IVec S128x256 1) (l0 l1 : IVec S256x128 1) (kt0 kt1 : FVec F S128x256 .bf16) (ck0 ck1 : FVec F S256x256 .f32) (cr : Cr F) : Prog (TpuEff nD τ sig (Elt F) Λ₀ .tc) (Σ' (v217 : IVec S256x128 32) (v218 : FVec F S256x128 .f32) (v222 : FVec F S256x1 .f32) (v226 : IVec S256x128 1), F .f32) :=
  if h : k0_cond3 i = 1#1 then do
    let cr ← restBlk2 i arg6 arg7 arg8 arg9 arg10 arg11 arg13 arg18 arg19 v3 v4 f0 f1 l0 l1 kt0 kt1 ck0 ck1 h 0 cr
    let cr ← restBlk2 i arg6 arg7 arg8 arg9 arg10 arg11 arg13 arg18 arg19 v3 v4 f0 f1 l0 l1 kt0 kt1 ck0 ck1 h 1 cr
    rest1In i arg6 arg7 arg8 arg9 arg10 arg11 arg13 arg14 harg14 arg15 harg15 arg18 arg19 v3 v4 f0 f1 l0 l1 kt0 kt1 ck0 ck1 cr
  else rest1In i arg6 arg7 arg8 arg9 arg10 arg11 arg13 arg14 harg14 arg15 harg15 arg18 arg19 v3 v4 f0 f1 l0 l1 kt0 kt1 ck0 ck1 cr
def rest3In (v3 v4 : Vec F S256x128 .bf16) (f0 f1 : IVec S128x256 1) (l0 l1 : IVec S256x128 1) (kt0 kt1 : FVec F S128x256 .bf16) (ck0 ck1 : FVec F S256x256 .f32) (cr : Cr F) : Prog (TpuEff nD τ sig (Elt F) Λ₀ .tc) (Σ' (v217 : IVec S256x128 32) (v218 : FVec F S256x128 .f32) (v222 : FVec F S256x1 .f32) (v226 : IVec S256x128 1), F .f32) :=
  if h : k0_cond2 i = 1#1 then do
    let cr ← restBlk3 i arg6 arg7 arg8 arg9 arg10 arg11 arg13 arg18 arg19 v3 v4 f0 f1 l0 l1 kt0 kt1 ck0 ck1 h 0 cr
    let cr ← restBlk3 i arg6 arg7 arg8 arg9 arg10 arg11 arg13 arg18 arg19 v3 v4 f0 f1 l0 l1 kt0 kt1 ck0 ck1 h 1 cr
    let cr ← restBlk3 i arg6 arg7 arg8 arg9 arg10 arg11 arg13 arg18 arg19 v3 v4 f0 f1 l0 l1 kt0 kt1 ck0 ck1 h 2 cr
    rest2In i arg6 arg7 arg8 arg9 arg10 arg11 arg13 arg14 harg14 arg15 harg15 arg18 arg19 v3 v4 f0 f1 l0 l1 kt0 kt1 ck0 ck1 cr
  else rest2In i arg6 arg7 arg8 arg9 arg10 arg11 arg13 arg14 harg14 arg15 harg15 arg18 arg19 v3 v4 f0 f1 l0 l1 kt0 kt1 ck0 ck1 cr
def tripsIn (v3 v4 : Vec F S256x128 .bf16) (f0 f1 : IVec S128x256 1) (l0 l1 : IVec S256x128 1) (kt0 kt1 : FVec F S128x256 .bf16) (ck0 ck1 : FVec F S256x256 .f32) (cr : Cr F) : Prog (TpuEff nD τ sig (Elt F) Λ₀ .tc) (Σ' (v217 : IVec S256x128 32) (v218 : FVec F S256x128 .f32) (v222 : FVec F S256x1 .f32) (v226 : IVec S256x128 1), F .f32) := do
  let cr ← Scf.Loop.for (k0_t1_loop i) (k0_t1_ok i) cr fun k cr => do
    let cr ← tripBlk i arg6 arg7 arg8 arg9 arg10 arg11 arg13 arg18 arg19 v3 v4 f0 f1 l0 l1 kt0 kt1 ck0 ck1 k 0 cr
    let cr ← tripBlk i arg6 arg7 arg8 arg9 arg10 arg11 arg13 arg18 arg19 v3 v4 f0 f1 l0 l1 kt0 kt1 ck0 ck1 k 1 cr
    let cr ← tripBlk i arg6 arg7 arg8 arg9 arg10 arg11 arg13 arg18 arg19 v3 v4 f0 f1 l0 l1 kt0 kt1 ck0 ck1 k 2 cr
    tripBlk i arg6 arg7 arg8 arg9 arg10 arg11 arg13 arg18 arg19 v3 v4 f0 f1 l0 l1 kt0 kt1 ck0 ck1 k 3 cr
  let cr ← Scf.Loop.for (k0_t2_loop i) (k0_t2_ok i) cr fun k cr => do
    let cr ← tripBlk2 i arg6 arg7 arg8 arg9 arg10 arg11 arg13 arg18 arg19 v3 v4 f0 f1 l0 l1 kt0 kt1 ck0 ck1 k 0 cr
    let cr ← tripBlk2 i arg6 arg7 arg8 arg9 arg10 arg11 arg13 arg18 arg19 v3 v4 f0 f1 l0 l1 kt0 kt1 ck0 ck1 k 1 cr
    let cr ← tripBlk2 i arg6 arg7 arg8 arg9 arg10 arg11 arg13 arg18 arg19 v3 v4 f0 f1 l0 l1 kt0 kt1 ck0 ck1 k 2 cr
    tripBlk2 i arg6 arg7 arg8 arg9 arg10 arg11 arg13 arg18 arg19 v3 v4 f0 f1 l0 l1 kt0 kt1 ck0 ck1 k 3 cr
  rest3In i arg6 arg7 arg8 arg9 arg10 arg11 arg13 arg14 harg14 arg15 harg15 arg18 arg19 v3 v4 f0 f1 l0 l1 kt0 kt1 ck0 ck1 cr

theorem headsIn_eq : headsIn (F := F) i arg3 arg4 arg5 arg12 arg18 = (do let x ← heads i arg3 arg4 arg5 arg12 arg18; pure (headsOut i x)) := by
  unfold headsIn heads opening; split <;> rfl
theorem rest1In_eq (v3 v4 : Vec F S256x128 .bf16) (f0 f1 : IVec S128x256 1) (l0 l1 : IVec S256x128 1) (kt0 kt1 : FVec F S128x256 .bf16) (ck0 ck1 : FVec F S256x256 .f32) (cr : Cr F) : rest1In i arg6 arg7 arg8 arg9 arg10 arg11 arg13 arg14 harg14 arg15 harg15 arg18 arg19 v3 v4 f0 f1 l0 l1 kt0 kt1 ck0 ck1 cr = (do let cr ← rest1 i arg6 arg7 arg8 arg9 arg10 arg11 arg13 arg18 arg19 v3 v4 f0 f1 l0 l1 kt0 kt1 ck0 ck1 cr; let y0 ← stores arg14 harg14 arg15 harg15 arg19 cr; pure (storesOut i y0)) := by
  unfold rest1In rest1; split <;> rfl
theorem rest2In_eq (v3 v4 : Vec F S256x128 .bf16) (f0 f1 : IVec S128x256 1) (l0 l1 : IVec S256x128 1) (kt0 kt1 : FVec F S128x256 .bf16) (ck0 ck1 : FVec F S256x256 .f32) (cr : Cr F) : rest2In i arg6 arg7 arg8 arg9 arg10 arg11 arg13 arg14 harg14 arg15 harg15 arg18 arg19 v3 v4 f0 f1 l0 l1 kt0 kt1 ck0 ck1 cr = (do let cr ← rest2 i arg6 arg7 arg8 arg9 arg10 arg11 arg13 arg18 arg19 v3 v4 f0 f1 l0 l1 kt0 kt1 ck0 ck1 cr; rest1In i arg6 arg7 arg8 arg9 arg10 arg11 arg13 arg14 harg14 arg15 harg15 arg18 arg19 v3 v4 f0 f1 l0 l1 kt0 kt1 ck0 ck1 cr) := by
  unfold rest2In rest2; split
  · exact (Prog.bind_assoc _ _ _).symm
  · rfl
theorem rest3In_eq (v3 v4 : Vec F S256x128 .bf16) (f0 f1 : IVec S128x256 1) (l0 l1 : IVec S256x128 1) (kt0 kt1 : FVec F S128x256 .bf16) (ck0 ck1 : FVec F S256x256 .f32) (cr : Cr F) : rest3In i arg6 arg7 arg8 arg9 arg10 arg11 arg13 arg14 harg14 arg15 harg15 arg18 arg19 v3 v4 f0 f1 l0 l1 kt0 kt1 ck0 ck1 cr = (do let cr ← rest3 i arg6 arg7 arg8 arg9 arg10 arg11 arg13 arg18 arg19 v3 v4 f0 f1 l0 l1 kt0 kt1 ck0 ck1 cr; rest2In i arg6 arg7 arg8 arg9 arg10 arg11 arg13 arg14 harg14 arg15 harg15 arg18 arg19 v3 v4 f0 f1 l0 l1 kt0 kt1 ck0 ck1 cr) := by
  unfold rest3In rest3; split
  · simp only [bind_assoc]
  · rfl

theorem bindc {α β : Type} {x x' : Prog (TpuEff nD τ sig (Elt F) Λ₀ .tc) α} {k k' : α → Prog (TpuEff nD τ sig (Elt F) Λ₀ .tc) β} (hx : x = x') (hk : ∀ a, k a = k' a) :
    (x >>= k) = (x' >>= k') := by subst hx; exact congrArg _ (funext hk)

set_option maxRecDepth 65536 in
theorem part51_eq (arg1 : BitVec 32) (v3 v4 : Vec F S256x128 .bf16) (v9 v11 : IVec S128x256 1) (v14 v16 : IVec S256x128 1) (v18 v20 : FVec F S128x256 .bf16) (v23 v26 : FVec F S256x256 .f32) (v156 v160 : FVec F S256x128 .f32) (v171 v172 v189 c0 v190 : BitVec 32) :
  k0_part51 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v3 v4 v9 v11 v14 v16 v18 v20 v23 v26 v156 v160 v171 v172 v189 c0 v190
   = tripsIn i arg6 arg7 arg8 arg9 arg10 arg11 arg13 arg14 harg14 arg15 harg15 arg18 arg19 v3 v4 v9 v11 v14 v16 v18 v20 v23 v26 (v160, v156) := by
  rw [k0_part51_eq_skeleton]
  unfold k0_part51_skel tripsIn
  refine bindc (congrArg _ (funext fun k => funext fun cr => trip_eq (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v3 v4 v9 v11 v14 v16 v18 v20 v23 v26 v156 v160 v171 v172 v189 c0 v190 k cr)) ?_
  rintro ⟨a, b⟩
  refine bindc (congrArg _ (funext fun k => funext fun cr => trip2_eq (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v3 v4 v9 v11 v14 v16 v18 v20 v23 v26 v156 v160 v171 v172 v189 c0 v190 _ k cr)) ?_
  rintro ⟨a, b⟩
  unfold rest3In rest2In rest1In
  by_cases h2 : k0_cond2 i = 1#1
  · have h3 : ¬ k0_cond3 i = 1#1 := by revert i; decide +kernel
    have h4 : ¬ k0_cond4 i = 1#1 := by revert i; decide +kernel
    simp only [dif_pos h2, dif_neg h3, dif_neg h4]
    rfl
  by_cases h3 : k0_cond3 i = 1#1
  · have h4 : ¬ k0_cond4 i = 1#1 := by revert i; decide +kernel
    simp only [dif_neg h2, dif_pos h3, dif_neg h4]
    rfl
  by_cases h4 : k0_cond4 i = 1#1
  · simp only [dif_neg h2, dif_neg h3, dif_pos h4]
    rfl
  · simp only [dif_neg h2, dif_neg h3, dif_neg h4]
    rfl

set_option maxRecDepth 65536 in
theorem part46_eq : k0_part46 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = headsIn i arg3 arg4 arg5 arg12 arg18 := rfl

theorem tripsIn_eq (v3 v4 : Vec F S256x128 .bf16) (v9 v11 : IVec S128x256 1) (v14 v16 : IVec S256x128 1) (v18 v20 : FVec F S128x256 .bf16) (v23 v26 : FVec F S256x256 .f32) (cr : Cr F) :
  tripsIn i arg6 arg7 arg8 arg9 arg10 arg11 arg13 arg14 harg14 arg15 harg15 arg18 arg19 v3 v4 v9 v11 v14 v16 v18 v20 v23 v26 cr
   = (do let cr ← trips i arg6 arg7 arg8 arg9 arg10 arg11 arg13 arg18 arg19 v3 v4 v9 v11 v14 v16 v18 v20 v23 v26 cr
         let cr ← rest3 i arg6 arg7 arg8 arg9 arg10 arg11 arg13 arg18 arg19 v3 v4 v9 v11 v14 v16 v18 v20 v23 v26 cr
         let cr ← rest2 i arg6 arg7 arg8 arg9 arg10 arg11 arg13 arg18 arg19 v3 v4 v9 v11 v14 v16 v18 v20 v23 v26 cr
         let cr ← rest1 i arg6 arg7 arg8 arg9 arg10 arg11 arg13 arg18 arg19 v3 v4 v9 v11 v14 v16 v18 v20 v23 v26 cr
         let y0 ← stores arg14 harg14 arg15 harg15 arg19 cr; pure (storesOut i y0)) := by
  unfold tripsIn trips
  simp only [rest3In_eq, rest2In_eq, rest1In_eq, bind_assoc]

set_option maxRecDepth 65536 in
/-- The printed body is this one. -/
theorem body_eq : cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
    = body i arg3 arg4 arg5 arg6 arg7 arg8 arg9 arg10 arg11 arg12 arg13 arg14 harg14 arg15 harg15 arg16 arg17 arg18 arg19 := by
  rw [cc0_attn_bwd_eq_skeleton]
  unfold cc0_attn_bwd_skel body closing
  rw [show k0_part46 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = _ from part46_eq i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19, headsIn_eq, bind_assoc]
  refine bindc rfl ?_
  rintro ⟨v3, v4, v5, v21, v24⟩
  rw [pure_bind]
  dsimp only [headsOut]
  have e51 := fun v156 v160 v171 v172 v189 c0 v190 => part51_eq (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) v3 v4 fm0 fm1 lm0 lm1 (selT fm0 v5) (selT fm1 v5) (twice v21) (twice v24) v156 v160 v171 v172 v189 c0 v190
  simp only [e51, tripsIn_eq]
  unfold blocks
  simp only [bind_assoc, pure_bind]
  rfl

end Body

end Cert.AttnIdeal.Own

end
-- ==== Proof.AttnStep.lean ====
/-
  What the attention gradient's body leaves at one grid point, as functions of the blocks the point reads: one block
  of queries at a time (`blkStep`), the blocks from the diagonal to the last in order (`upto`), and the body's triple
  (`body_sound`).
-/
module

public import proofs.«01_k».proof.Proof.AttnBlock
public import proofs.«01_k».proof.Proof.Gen.AttnIdeal.Frame
public import Idealize.ShloMosaic.Lib.VecWindow

@[expose] public section

set_option synthInstance.maxSize 4096
set_option maxRecDepth 16384

noncomputable section

namespace Cert.AttnIdeal.Own

open Cert.AttnIdeal Cert.AttnIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open VecWindow

variable {F : FTy → Type} [FloatOps F]

local notation "𝕄" => MT nD τ sig Unit (Elt F) ℕ (UR sig nD τ) ℕ

/-! ## Loads and stores of owned memrefs -/

section Rules
variable (c : Dev nD) {sp : CoreSpace} {s : Shape} {e : EltTy}

/-- A load of an owned memref gives the window it names. -/
theorem own_load {α : Type} {Q : α → sProp 𝕄} {m : Memref sig .tc sp s e} {off size : Fin s.rank → ℕ} {inb : ∀ a, off a + size a ≤ s.size a}
    {hl : m.view.LoadsAt (Rect.unit off size inb).toLoadRect} {k : ((Rect.unit off size inb).shape.Idx → Elt F e) → Prog (TpuEff nD τ sig (Elt F) Λ₀ .tc) α} {X : s.Idx → Elt F e} :
    (owns (c : Thread nD τ) m fullShare X : sProp 𝕄)
      ⊢ iprop((owns (c : Thread nD τ) m fullShare X -∗ wp frame (wpE (defs₀ (F := F)) Variants.none c none) Set.univ (k (window X off size inb)) Q)
        -∗ wp frame (wpE (defs₀ (F := F)) Variants.none c none) Set.univ (.op (.load m (Rect.unit off size inb).toLoadRect hl) k) Q) := by
  unfold owns
  iintro ⟨%f, %hf, H⟩ K
  iapply (wp_load Variants.none (c : Thread nD τ) none Set.univ (m := m) (r := (Rect.unit off size inb).toLoadRect) (S := m.view.set) (m.view.setOn_subset_set _)) $$ H
  iintro H
  subst hf
  iapply K
  iexists f
  isplitr
  · ipureintro; rfl
  iexact H

/-- A store to an owned memref puts the payload at the window it names. -/
theorem own_store {α : Type} {Q : α → sProp 𝕄} {m : Memref sig .tc sp s e} {off size : Fin s.rank → ℕ} {inb : ∀ a, off a + size a ≤ s.size a}
    {w : (Rect.unit off size inb).shape.Idx → Elt F e} {hx : (m.access (Rect.unit off size inb)).Stores Finset.univ} {hm : Finset.univ = Finset.univ ∨ ∀ a, (Rect.unit off size inb).stride a = 1}
    {k : PUnit → Prog (TpuEff nD τ sig (Elt F) Λ₀ .tc) α} {X : s.Idx → Elt F e} :
    (owns (c : Thread nD τ) m fullShare X : sProp 𝕄)
      ⊢ iprop((owns (c : Thread nD τ) m fullShare (put X off size w) -∗ wp frame (wpE (defs₀ (F := F)) Variants.none c none) Set.univ (k ⟨⟩) Q)
        -∗ wp frame (wpE (defs₀ (F := F)) Variants.none c none) Set.univ (.op (.store m (Rect.unit off size inb) w Finset.univ hx hm) k) Q) := by
  unfold owns
  iintro ⟨%f, %hf, H⟩ K
  iapply (wp_store_writes₀ Variants.none (c : Thread nD τ) none Set.univ (m := m) (r := Rect.unit off size inb) (S := m.view.set) (View.set_slice_subset _ _)) $$ H
  iintro H
  subst hf
  iapply K
  iexists _
  isplitr
  swap
  · iexact H
  ipureintro
  exact View.read_writes_cons_put m.view f inb w [] rfl

/-- A load of all of an owned memref gives what it holds. -/
theorem own_load_all {α : Type} {Q : α → sProp 𝕄} {m : Memref sig .tc sp s e} {off : Fin s.rank → ℕ} (ho : off = fun _ => 0) {inb : ∀ a, off a + s.size a ≤ s.size a}
    {hl : m.view.LoadsAt (Rect.unit off s.size inb).toLoadRect} {k : (s.Idx → Elt F e) → Prog (TpuEff nD τ sig (Elt F) Λ₀ .tc) α} {X : s.Idx → Elt F e} :
    (owns (c : Thread nD τ) m fullShare X : sProp 𝕄)
      ⊢ iprop((owns (c : Thread nD τ) m fullShare X -∗ wp frame (wpE (defs₀ (F := F)) Variants.none c none) Set.univ (k X) Q)
        -∗ wp frame (wpE (defs₀ (F := F)) Variants.none c none) Set.univ (.op (.load m (Rect.unit off s.size inb).toLoadRect hl) k) Q) := by
  have h := own_load c (Q := Q) (m := m) (hl := hl) (k := k) (X := X)
  rwa [show window X off s.size inb = X from by
    subst ho; funext y; exact congrArg X (funext fun a => Fin.ext (by show 0 + 1 * (y a).val = _; omega))] at h

/-- A store to all of an owned memref leaves the payload. -/
theorem own_store_all {α : Type} {Q : α → sProp 𝕄} {m : Memref sig .tc sp s e} {off : Fin s.rank → ℕ} (ho : off = fun _ => 0) {inb : ∀ a, off a + s.size a ≤ s.size a}
    {w : s.Idx → Elt F e} {hx : (m.access (Rect.unit off s.size inb)).Stores Finset.univ} {hm : Finset.univ = Finset.univ ∨ ∀ a, (Rect.unit off s.size inb).stride a = 1}
    {k : PUnit → Prog (TpuEff nD τ sig (Elt F) Λ₀ .tc) α} {X : s.Idx → Elt F e} :
    (owns (c : Thread nD τ) m fullShare X : sProp 𝕄)
      ⊢ iprop((owns (c : Thread nD τ) m fullShare w -∗ wp frame (wpE (defs₀ (F := F)) Variants.none c none) Set.univ (k ⟨⟩) Q)
        -∗ wp frame (wpE (defs₀ (F := F)) Variants.none c none) Set.univ (.op (.store m (Rect.unit off s.size inb) w Finset.univ hx hm) k) Q) := by
  have h := own_store c (Q := Q) (m := m) (w := w) (hx := hx) (hm := hm) (k := k) (X := X)
  rwa [show put X off s.size w = w from by
    subst ho; funext y
    unfold put
    rw [dif_pos (fun a => ⟨Nat.zero_le _, (Nat.zero_add (s.size a)).symm ▸ (y a).isLt⟩)]
    exact congrArg w (funext fun a => Fin.ext (Nat.sub_zero _))] at h

end Rules

/-! ## The values of a point -/

/-- What a point reads: a block of keys and of values, the block of keys transposed; and of the whole sequence the
    queries and the output's gradient, each also transposed, the output transposed, the row sums' logarithms, the gate
    sums along the keys, and the gate sums. -/
structure Pt (F : FTy → Type) where
  k : Vec F S256x128 .bf16
  v : Vec F S256x128 .bf16
  kt : Vec F S128x256 .bf16
  q : Vec F S2048x128 .bf16
  qt : Vec F S128x2048 .bf16
  d : Vec F S2048x128 .bf16
  dt : Vec F S128x2048 .bf16
  ot : Vec F S128x2048 .f32
  ls : Vec F S1x1x8x2048 .f32
  ck : Vec F S1x2x256x128 .f32
  cq : Vec F S1x8x2048 .f32

/-- What a point carries from block to block: the two gradients of its keys and values, the query gradient of the
    sequence, and the logit gradients summed over the blocks. -/
structure St (F : FTy → Type) where
  cr : Cr F
  X : Vec F S128x2048 .f32
  Y : Vec F S2x256x256 .f32

/-- The offsets of block `b` of the queries. -/
abbrev oQ (b : Fin 8) : Fin 2 → ℕ := ![0, 256 * b.val]
abbrev oR (b : Fin 8) : Fin 2 → ℕ := ![256 * b.val, 0]
abbrev oC (p : Fin 4) (h : Fin 2) (b : Fin 8) : Fin 3 → ℕ := ![0, 2 * p.val + h.val, 256 * b.val]
abbrev oL (h : Fin 2) (b : Fin 8) : Fin 4 → ℕ := ![0, 0, h.val, 256 * b.val]
abbrev oS (h : Fin 2) : Fin 3 → ℕ := ![h.val, 0, 0]
abbrev oK (h : Fin 2) : Fin 4 → ℕ := ![0, h.val, 0, 0]

theorem oQ_inb (b : Fin 8) : ∀ a, oQ b a + S128x256.size a ≤ S128x2048.size a := by revert b; decide
theorem oR_inb (b : Fin 8) : ∀ a, oR b a + S256x128.size a ≤ S2048x128.size a := by revert b; decide
theorem oC_inb (p : Fin 4) (h : Fin 2) (b : Fin 8) : ∀ a, oC p h b a + S1x1x256.size a ≤ S1x8x2048.size a := by revert p h b; decide
theorem oL_inb (h : Fin 2) (b : Fin 8) : ∀ a, oL h b a + S1x1x1x256.size a ≤ S1x1x8x2048.size a := by revert h b; decide
theorem oS_inb (h : Fin 2) : ∀ a, oS h a + S1x256x256.size a ≤ S2x256x256.size a := by revert h; decide
theorem oK_inb (h : Fin 2) : ∀ a, oK h a + S1x1x256x128.size a ≤ S1x2x256x128.size a := by revert h; decide

/-- The masks of a head's rows and columns. -/
def fm (h : Fin 2) : IVec S128x256 1 := if h = 0 then fm0 else fm1
def lm (h : Fin 2) : IVec S256x128 1 := if h = 0 then lm0 else lm1

section Values
variable (P : Pt F) (p : Fin 4) (h : Fin 2) (g : FVec F S256x256 .f32 → FVec F S256x256 .f32) (b : Fin 8)

/-- The weights of head `h` on block `b`, and the gradient of the logits there. -/
def prB : FVec F S256x256 .f32 :=
  weights g P.k (fm h) (twice (window P.ck (oK h) S1x1x256x128.size (oK_inb h))) (window P.qt (oQ b) S128x256.size (oQ_inb b))
    (window P.cq (oC p h b) S1x1x256.size (oC_inb p h b)) (window P.ls (oL h b) S1x1x1x256.size (oL_inb h b))
def dsB : FVec F S256x256 .f32 :=
  dlogits (prB P p h g b) P.v (fm h) (window P.dt (oQ b) S128x256.size (oQ_inb b)) (window P.ot (oQ b) S128x256.size (oQ_inb b))

/-- One head of one block. -/
def halfStep (s : St F) : St F where
  cr := (accK (dsB P p h g b) (lm h) (window P.q (oR b) S256x128.size (oR_inb b)) s.cr.1,
    accV (prB P p h g b) (lm h) (window P.d (oR b) S256x128.size (oR_inb b)) s.cr.2)
  X := put s.X (oQ b) S128x256.size (accQ (dsB P p h g b) (selT (fm h) P.kt) (window s.X (oQ b) S128x256.size (oQ_inb b)))
  Y := put s.Y (oS h) S1x256x256.size (accS (dsB P p h g b) (window s.Y (oS h) S1x256x256.size (oS_inb h)))

/-- Both heads of one block. -/
def blkStep (s : St F) : St F := halfStep P p 1 g b (halfStep P p 0 g b s)

end Values

/-! ## The triple of a block -/

section Triple
variable (c : Dev nD) (arg6 : Memref sig .tc .vmem S2048x128 .bf16) (arg7 : Memref sig .tc .vmem S128x2048 .bf16) (arg8 : Memref sig .tc .vmem S2048x128 .bf16)
    (arg9 : Memref sig .tc .vmem S128x2048 .bf16) (arg10 : Memref sig .tc .vmem S128x2048 .f32)
    (arg11 : Memref sig .tc .vmem S1x1x8x2048 .f32) (arg13 : Memref sig .tc .vmem S1x8x2048 .f32)
    (arg18 : Memref sig .tc .vmem S128x2048 .f32) (arg19 : Memref sig .tc .vmem S2x256x256 .f32)

/-- What the blocks work on: the seven arrays of the sequence, and the two sums in memory. -/
def Wk (P : Pt F) (X : Vec F S128x2048 .f32) (Y : Vec F S2x256x256 .f32) : sProp 𝕄 :=
  iprop(owns (c : Thread nD τ) arg6 fullShare P.q ∗ owns (c : Thread nD τ) arg7 fullShare P.qt ∗ owns (c : Thread nD τ) arg8 fullShare P.d
    ∗ owns (c : Thread nD τ) arg9 fullShare P.dt ∗ owns (c : Thread nD τ) arg10 fullShare P.ot ∗ owns (c : Thread nD τ) arg11 fullShare P.ls
    ∗ owns (c : Thread nD τ) arg13 fullShare P.cq ∗ owns (c : Thread nD τ) arg18 fullShare X ∗ owns (c : Thread nD τ) arg19 fullShare Y)

local notation "WK" => Wk c arg6 arg7 arg8 arg9 arg10 arg11 arg13 arg18 arg19

variable (P : Pt F) (p : Fin 4) (h : Fin 2) (g : FVec F S256x256 .f32 → FVec F S256x256 .f32) (b : Fin 8) (s : St F)

/-- A block's program from the sums before it to the sums after it. -/
theorem blk_sound {α : Type} {Q : α → sProp 𝕄} {k : Cr F → Prog (TpuEff nD τ sig (Elt F) Λ₀ .tc) α}
    {o0 : Fin 2 → ℕ} {h0} (e0 : o0 = oQ b) {o1 : Fin 2 → ℕ} {h1} (e1 : o1 = oR b)
    {o2 : Fin 3 → ℕ} {h2} (e2 : o2 = oC p 0 b) {o3 : Fin 3 → ℕ} {h3} (e3 : o3 = oC p 1 b)
    {o4 : Fin 4 → ℕ} {h4} (e4 : o4 = oL 0 b) {o5 : Fin 4 → ℕ} {h5} (e5 : o5 = oL 1 b) :
    WK P s.X s.Y ⊢ iprop((WK P (blkStep P p g b s).X (blkStep P p g b s).Y
        -∗ wp frame (wpE (defs₀ (F := F)) Variants.none c none) Set.univ (k (blkStep P p g b s).cr) Q)
      -∗ wp frame (wpE (defs₀ (F := F)) Variants.none c none) Set.univ
        (blk arg6 arg7 arg8 arg9 arg10 arg11 arg13 arg18 arg19 o0 h0 o1 h1 o2 h2 o3 h3 o4 h4 o5 h5 g P.k P.v fm0 fm1 lm0 lm1 (selT fm0 P.kt) (selT fm1 P.kt)
          (twice (window P.ck (oK 0) S1x1x256x128.size (oK_inb 0))) (twice (window P.ck (oK 1) S1x1x256x128.size (oK_inb 1))) s.cr >>= k) Q) := by
  subst e0 e1 e2 e3 e4 e5
  unfold blk half Wk
  simp only [Prog.lift, Prog.bind_op, Prog.bind_ret, Prog.pure_eq_ret]
  iintro ⟨H6, H7, H8, H9, H10, H11, H13, H18, H19⟩ K
  iapply (own_load c) $$ H7; iintro H7
  iapply (own_load c) $$ H9; iintro H9
  iapply (own_load c) $$ H10; iintro H10
  iapply (own_load c) $$ H6; iintro H6
  iapply (own_load c) $$ H8; iintro H8
  iapply (own_load c) $$ H13; iintro H13
  iapply (own_load c) $$ H11; iintro H11
  iapply (own_load c) $$ H19; iintro H19
  iapply (own_load c) $$ H19; iintro H19
  iapply (own_store c) $$ H19; iintro H19
  iapply (own_load c) $$ H18; iintro H18
  iapply (own_load c) $$ H18; iintro H18
  iapply (own_store c) $$ H18; iintro H18
  iapply (own_load c) $$ H13; iintro H13
  iapply (own_load c) $$ H11; iintro H11
  iapply (own_load c) $$ H19; iintro H19
  iapply (own_load c) $$ H19; iintro H19
  iapply (own_store c) $$ H19; iintro H19
  iapply (own_load c) $$ H18; iintro H18
  iapply (own_load c) $$ H18; iintro H18
  iapply (own_store c) $$ H18; iintro H18
  iapply K
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [H18]; · iexact H18
  iexact H19

end Triple

/-! ## The blocks of a point -/

/-- The pair of heads and the block of keys of a point. -/
def pOf (i : grid0.Coords) : Fin 4 := ⟨(i 1).val, (i 1).isLt⟩
def jOf (i : grid0.Coords) : Fin 8 := ⟨(i 2).val, (i 2).isLt⟩

/-- The block `n` blocks after block `j`. -/
def blkAt (j : Fin 8) (n : ℕ) : Fin 8 := ⟨min (j.val + n) 7, by omega⟩

/-- The `n` blocks after the diagonal block, in order. -/
def upto (P : Pt F) (p : Fin 4) (j : Fin 8) : ℕ → St F → St F
  | 0, s => s
  | n + 1, s => blkStep P p id (blkAt j (n + 1)) (upto P p j n s)

/-- All blocks of a point whose sequence has summed `X` so far. -/
def point (P : Pt F) (p : Fin 4) (j : Fin 8) (X : Vec F S128x2048 .f32) : St F :=
  upto P p j (7 - j.val) (blkStep P p diag j ⟨(zeroC, zeroC), X, zeroS⟩)

/-! The offsets the program computes are those of the blocks. -/

theorem e1 : ∀ i : grid0.Coords, k0_off1 i = oQ (jOf i) := by decide +kernel
theorem e2 : ∀ i : grid0.Coords, k0_off2 i = oR (jOf i) := by decide +kernel
theorem e3 : ∀ (i : grid0.Coords) (h : Fin 2), k0_off3 i (BitVec.ofNat 32 h.val) = oC (pOf i) h (jOf i) := by decide +kernel
theorem e4 : ∀ i : grid0.Coords, k0_off4 i = oL 0 (jOf i) := by decide +kernel
theorem e5 : ∀ i : grid0.Coords, k0_off5 i = oL 1 (jOf i) := by decide +kernel
theorem e6 : ∀ (i : grid0.Coords) (k : Fin (k0_t1_loop i).trips) (r : Fin 4), k0_off6 i k (BitVec.ofNat 32 r.val) = oQ (blkAt (jOf i) (4 * k.val + r.val + 1)) := by decide +kernel
theorem e7 : ∀ (i : grid0.Coords) (k : Fin (k0_t1_loop i).trips) (r : Fin 4), k0_off7 i k (BitVec.ofNat 32 r.val) = oR (blkAt (jOf i) (4 * k.val + r.val + 1)) := by decide +kernel
theorem e8 : ∀ (i : grid0.Coords) (k : Fin (k0_t1_loop i).trips) (h : Fin 2) (r : Fin 4), k0_off8 i k (BitVec.ofNat 32 h.val) (BitVec.ofNat 32 r.val) = oC (pOf i) h (blkAt (jOf i) (4 * k.val + r.val + 1)) := by decide +kernel
theorem e9 : ∀ (i : grid0.Coords) (k : Fin (k0_t1_loop i).trips) (r : Fin 4), k0_off9 i k (BitVec.ofNat 32 r.val) = oL 0 (blkAt (jOf i) (4 * k.val + r.val + 1)) := by decide +kernel
theorem e10 : ∀ (i : grid0.Coords) (k : Fin (k0_t1_loop i).trips) (r : Fin 4), k0_off10 i k (BitVec.ofNat 32 r.val) = oL 1 (blkAt (jOf i) (4 * k.val + r.val + 1)) := by decide +kernel
theorem t2_none : ∀ i : grid0.Coords, (k0_t2_loop i).trips = 0 := by decide +kernel
theorem e16 : ∀ (i : grid0.Coords), k0_cond2 i = 1#1 → ∀ r : Fin 3, k0_off16 i (BitVec.ofNat 32 r.val) = oQ (blkAt (jOf i) (4 * (k0_t1_loop i).trips + r.val + 1)) := by decide +kernel
theorem e17 : ∀ (i : grid0.Coords), k0_cond2 i = 1#1 → ∀ r : Fin 3, k0_off17 i (BitVec.ofNat 32 r.val) = oR (blkAt (jOf i) (4 * (k0_t1_loop i).trips + r.val + 1)) := by decide +kernel
theorem e18 : ∀ (i : grid0.Coords), k0_cond2 i = 1#1 → ∀ (h : Fin 2) (r : Fin 3), k0_off18 i (BitVec.ofNat 32 h.val) (BitVec.ofNat 32 r.val) = oC (pOf i) h (blkAt (jOf i) (4 * (k0_t1_loop i).trips + r.val + 1)) := by decide +kernel
theorem e19 : ∀ (i : grid0.Coords), k0_cond2 i = 1#1 → ∀ r : Fin 3, k0_off19 i (BitVec.ofNat 32 r.val) = oL 0 (blkAt (jOf i) (4 * (k0_t1_loop i).trips + r.val + 1)) := by decide +kernel
theorem e20 : ∀ (i : grid0.Coords), k0_cond2 i = 1#1 → ∀ r : Fin 3, k0_off20 i (BitVec.ofNat 32 r.val) = oL 1 (blkAt (jOf i) (4 * (k0_t1_loop i).trips + r.val + 1)) := by decide +kernel
theorem e21 : ∀ (i : grid0.Coords), k0_cond3 i = 1#1 → ∀ r : Fin 2, k0_off21 i (BitVec.ofNat 32 r.val) = oQ (blkAt (jOf i) (4 * (k0_t1_loop i).trips + r.val + 1)) := by decide +kernel
theorem e22 : ∀ (i : grid0.Coords), k0_cond3 i = 1#1 → ∀ r : Fin 2, k0_off22 i (BitVec.ofNat 32 r.val) = oR (blkAt (jOf i) (4 * (k0_t1_loop i).trips + r.val + 1)) := by decide +kernel
theorem e23 : ∀ (i : grid0.Coords), k0_cond3 i = 1#1 → ∀ (h : Fin 2) (r : Fin 2), k0_off23 i (BitVec.ofNat 32 h.val) (BitVec.ofNat 32 r.val) = oC (pOf i) h (blkAt (jOf i) (4 * (k0_t1_loop i).trips + r.val + 1)) := by decide +kernel
theorem e24 : ∀ (i : grid0.Coords), k0_cond3 i = 1#1 → ∀ r : Fin 2, k0_off24 i (BitVec.ofNat 32 r.val) = oL 0 (blkAt (jOf i) (4 * (k0_t1_loop i).trips + r.val + 1)) := by decide +kernel
theorem e25 : ∀ (i : grid0.Coords), k0_cond3 i = 1#1 → ∀ r : Fin 2, k0_off25 i (BitVec.ofNat 32 r.val) = oL 1 (blkAt (jOf i) (4 * (k0_t1_loop i).trips + r.val + 1)) := by decide +kernel
theorem e26 : ∀ (i : grid0.Coords), k0_cond4 i = 1#1 → k0_off26 i = oQ (blkAt (jOf i) (4 * (k0_t1_loop i).trips + 1)) := by decide +kernel
theorem e27 : ∀ (i : grid0.Coords), k0_cond4 i = 1#1 → k0_off27 i = oR (blkAt (jOf i) (4 * (k0_t1_loop i).trips + 1)) := by decide +kernel
theorem e28 : ∀ (i : grid0.Coords), k0_cond4 i = 1#1 → ∀ h : Fin 2, k0_off28 i (BitVec.ofNat 32 h.val) = oC (pOf i) h (blkAt (jOf i) (4 * (k0_t1_loop i).trips + 1)) := by decide +kernel
theorem e29 : ∀ (i : grid0.Coords), k0_cond4 i = 1#1 → k0_off29 i = oL 0 (blkAt (jOf i) (4 * (k0_t1_loop i).trips + 1)) := by decide +kernel
theorem e30 : ∀ (i : grid0.Coords), k0_cond4 i = 1#1 → k0_off30 i = oL 1 (blkAt (jOf i) (4 * (k0_t1_loop i).trips + 1)) := by decide +kernel

/-- How many blocks remain after the whole trips. -/
theorem rest_is3 : ∀ i : grid0.Coords, k0_cond2 i = 1#1 → 7 - (jOf i).val = 4 * (k0_t1_loop i).trips + 3 ∧ ¬ k0_cond3 i = 1#1 ∧ ¬ k0_cond4 i = 1#1 := by decide +kernel
theorem rest_is2 : ∀ i : grid0.Coords, k0_cond3 i = 1#1 → 7 - (jOf i).val = 4 * (k0_t1_loop i).trips + 2 ∧ ¬ k0_cond4 i = 1#1 := by decide +kernel
theorem rest_is1 : ∀ i : grid0.Coords, k0_cond4 i = 1#1 → 7 - (jOf i).val = 4 * (k0_t1_loop i).trips + 1 := by decide +kernel
theorem rest_is0 : ∀ i : grid0.Coords, ¬ k0_cond2 i = 1#1 → ¬ k0_cond3 i = 1#1 → ¬ k0_cond4 i = 1#1 → 7 - (jOf i).val = 4 * (k0_t1_loop i).trips := by decide +kernel
theorem first_iff : ∀ i : grid0.Coords, isFirst i ↔ jOf i = 0 := by decide +kernel
theorem last_iff : ∀ i : grid0.Coords, k0_cond5 i = 1#1 ↔ jOf i = 7 := by decide +kernel

section Point
variable (c : Dev nD) (i : grid0.Coords)
    (arg6 : Memref sig .tc .vmem S2048x128 .bf16) (arg7 : Memref sig .tc .vmem S128x2048 .bf16) (arg8 : Memref sig .tc .vmem S2048x128 .bf16)
    (arg9 : Memref sig .tc .vmem S128x2048 .bf16) (arg10 : Memref sig .tc .vmem S128x2048 .f32)
    (arg11 : Memref sig .tc .vmem S1x1x8x2048 .f32) (arg13 : Memref sig .tc .vmem S1x8x2048 .f32)
    (arg18 : Memref sig .tc .vmem S128x2048 .f32) (arg19 : Memref sig .tc .vmem S2x256x256 .f32)

local notation "WK" => Wk c arg6 arg7 arg8 arg9 arg10 arg11 arg13 arg18 arg19
local notation "K0" P => twice (window (Pt.ck P) (oK 0) S1x1x256x128.size (oK_inb 0))
local notation "K1" P => twice (window (Pt.ck P) (oK 1) S1x1x256x128.size (oK_inb 1))

variable (P : Pt F) (s : St F)

/-- The `n + 1`st block after the diagonal. -/
theorem next_sound (n : ℕ) {α : Type} {Q : α → sProp 𝕄} {k : Cr F → Prog (TpuEff nD τ sig (Elt F) Λ₀ .tc) α}
    {o0 : Fin 2 → ℕ} {h0} (e0 : o0 = oQ (blkAt (jOf i) (n + 1))) {o1 : Fin 2 → ℕ} {h1} (e1 : o1 = oR (blkAt (jOf i) (n + 1)))
    {o2 : Fin 3 → ℕ} {h2} (e2 : o2 = oC (pOf i) 0 (blkAt (jOf i) (n + 1))) {o3 : Fin 3 → ℕ} {h3} (e3 : o3 = oC (pOf i) 1 (blkAt (jOf i) (n + 1)))
    {o4 : Fin 4 → ℕ} {h4} (e4 : o4 = oL 0 (blkAt (jOf i) (n + 1))) {o5 : Fin 4 → ℕ} {h5} (e5 : o5 = oL 1 (blkAt (jOf i) (n + 1))) :
    WK P (upto P (pOf i) (jOf i) n s).X (upto P (pOf i) (jOf i) n s).Y
      ⊢ iprop((WK P (upto P (pOf i) (jOf i) (n + 1) s).X (upto P (pOf i) (jOf i) (n + 1) s).Y
        -∗ wp frame (wpE (defs₀ (F := F)) Variants.none c none) Set.univ (k (upto P (pOf i) (jOf i) (n + 1) s).cr) Q)
      -∗ wp frame (wpE (defs₀ (F := F)) Variants.none c none) Set.univ
        (blk arg6 arg7 arg8 arg9 arg10 arg11 arg13 arg18 arg19 o0 h0 o1 h1 o2 h2 o3 h3 o4 h4 o5 h5 id P.k P.v fm0 fm1 lm0 lm1 (selT fm0 P.kt) (selT fm1 P.kt)
          (K0 P) (K1 P) (upto P (pOf i) (jOf i) n s).cr >>= k) Q) :=
  blk_sound c arg6 arg7 arg8 arg9 arg10 arg11 arg13 arg18 arg19 P (pOf i) id (blkAt (jOf i) (n + 1)) (upto P (pOf i) (jOf i) n s) e0 e1 e2 e3 e4 e5

/-- Before trip `n` the sums are those of the first `4 n` blocks after the diagonal. -/
def tripInv (n : ℕ) (cr : Cr F) : sProp 𝕄 :=
  iprop(⌜cr = (upto P (pOf i) (jOf i) (4 * n) s).cr⌝ ∗ WK P (upto P (pOf i) (jOf i) (4 * n) s).X (upto P (pOf i) (jOf i) (4 * n) s).Y)

/-- A trip keeps that. -/
theorem trip_sound (n : Fin (k0_t1_loop i).trips) (cr : Cr F) :
    tripInv c i arg6 arg7 arg8 arg9 arg10 arg11 arg13 arg18 arg19 P s n cr ⊢ wp frame (wpE (defs₀ (F := F)) Variants.none c none) Set.univ
      (do let cr ← tripBlk i arg6 arg7 arg8 arg9 arg10 arg11 arg13 arg18 arg19 P.k P.v fm0 fm1 lm0 lm1 (selT fm0 P.kt) (selT fm1 P.kt) (K0 P) (K1 P) n 0 cr
          let cr ← tripBlk i arg6 arg7 arg8 arg9 arg10 arg11 arg13 arg18 arg19 P.k P.v fm0 fm1 lm0 lm1 (selT fm0 P.kt) (selT fm1 P.kt) (K0 P) (K1 P) n 1 cr
          let cr ← tripBlk i arg6 arg7 arg8 arg9 arg10 arg11 arg13 arg18 arg19 P.k P.v fm0 fm1 lm0 lm1 (selT fm0 P.kt) (selT fm1 P.kt) (K0 P) (K1 P) n 2 cr
          tripBlk i arg6 arg7 arg8 arg9 arg10 arg11 arg13 arg18 arg19 P.k P.v fm0 fm1 lm0 lm1 (selT fm0 P.kt) (selT fm1 P.kt) (K0 P) (K1 P) n 3 cr)
      (tripInv c i arg6 arg7 arg8 arg9 arg10 arg11 arg13 arg18 arg19 P s (n.val + 1)) := by
  unfold tripInv
  iintro ⟨%hcr, H⟩
  subst hcr
  iapply (next_sound c i arg6 arg7 arg8 arg9 arg10 arg11 arg13 arg18 arg19 P s (4 * n.val)
    (e6 i n 0) (e7 i n 0) (e8 i n 0 0) (e8 i n 1 0) (e9 i n 0) (e10 i n 0)) $$ H
  iintro H
  iapply (next_sound c i arg6 arg7 arg8 arg9 arg10 arg11 arg13 arg18 arg19 P s (4 * n.val + 1)
    (e6 i n 1) (e7 i n 1) (e8 i n 0 1) (e8 i n 1 1) (e9 i n 1) (e10 i n 1)) $$ H
  iintro H
  iapply (next_sound c i arg6 arg7 arg8 arg9 arg10 arg11 arg13 arg18 arg19 P s (4 * n.val + 2)
    (e6 i n 2) (e7 i n 2) (e8 i n 0 2) (e8 i n 1 2) (e9 i n 2) (e10 i n 2)) $$ H
  iintro H
  rw [← bind_pure (tripBlk (F := F) _ _ _ _ _ _ _ _ _ _ _ _ _ _ _ _ _ _ _ _ _ _ _)]
  iapply (next_sound c i arg6 arg7 arg8 arg9 arg10 arg11 arg13 arg18 arg19 P s (4 * n.val + 3)
    (e6 i n 3) (e7 i n 3) (e8 i n 0 3) (e8 i n 1 3) (e9 i n 3) (e10 i n 3)) $$ H
  iintro H
  rw [wp_pure]
  isplitr; · ipureintro; rfl
  iexact H

/-- The whole trips. -/
theorem trips_sound {α : Type} {Q : α → sProp 𝕄} {k : Cr F → Prog (TpuEff nD τ sig (Elt F) Λ₀ .tc) α} :
    WK P s.X s.Y ⊢ iprop((WK P (upto P (pOf i) (jOf i) (4 * (k0_t1_loop i).trips) s).X (upto P (pOf i) (jOf i) (4 * (k0_t1_loop i).trips) s).Y
        -∗ wp frame (wpE (defs₀ (F := F)) Variants.none c none) Set.univ (k (upto P (pOf i) (jOf i) (4 * (k0_t1_loop i).trips) s).cr) Q)
      -∗ wp frame (wpE (defs₀ (F := F)) Variants.none c none) Set.univ
        (trips i arg6 arg7 arg8 arg9 arg10 arg11 arg13 arg18 arg19 P.k P.v fm0 fm1 lm0 lm1 (selT fm0 P.kt) (selT fm1 P.kt) (K0 P) (K1 P) s.cr >>= k) Q) := by
  unfold trips
  rw [bind_assoc]
  iintro H K
  iapply (Scf.wp_for_bind frame (wpE (defs₀ (F := F)) Variants.none c none) Set.univ _ _ _ (k0_t1_ok i) _ _
    (tripInv c i arg6 arg7 arg8 arg9 arg10 arg11 arg13 arg18 arg19 P s) (trip_sound c i arg6 arg7 arg8 arg9 arg10 arg11 arg13 arg18 arg19 P s)) $$ [H]
  · unfold tripInv
    isplitr; · ipureintro; rfl
    iexact H
  iintro %cr HI
  iapply (Scf.wp_for_bind frame (wpE (defs₀ (F := F)) Variants.none c none) Set.univ _ _ _ (k0_t2_ok i) _ _
    (fun _ cr => tripInv c i arg6 arg7 arg8 arg9 arg10 arg11 arg13 arg18 arg19 P s (k0_t1_loop i).trips cr)
    (fun n => absurd n.isLt (by have := t2_none i; show ¬ n.val < (k0_t2_loop i).trips; omega))) $$ [HI]
  · iexact HI
  iintro %cr HI
  unfold tripInv
  icases HI with ⟨%hcr, H⟩
  subst hcr
  iapply K
  iexact H

/-- The three, two or one remaining blocks, if there are so many. -/
theorem rest3_sound (h : k0_cond2 i = 1#1) {α : Type} {Q : α → sProp 𝕄} {k : Cr F → Prog (TpuEff nD τ sig (Elt F) Λ₀ .tc) α} :
    WK P (upto P (pOf i) (jOf i) (4 * (k0_t1_loop i).trips) s).X (upto P (pOf i) (jOf i) (4 * (k0_t1_loop i).trips) s).Y
      ⊢ iprop((WK P (upto P (pOf i) (jOf i) (4 * (k0_t1_loop i).trips + 3) s).X (upto P (pOf i) (jOf i) (4 * (k0_t1_loop i).trips + 3) s).Y
        -∗ wp frame (wpE (defs₀ (F := F)) Variants.none c none) Set.univ (k (upto P (pOf i) (jOf i) (4 * (k0_t1_loop i).trips + 3) s).cr) Q)
      -∗ wp frame (wpE (defs₀ (F := F)) Variants.none c none) Set.univ
        (rest3 i arg6 arg7 arg8 arg9 arg10 arg11 arg13 arg18 arg19 P.k P.v fm0 fm1 lm0 lm1 (selT fm0 P.kt) (selT fm1 P.kt) (K0 P) (K1 P) (upto P (pOf i) (jOf i) (4 * (k0_t1_loop i).trips) s).cr >>= k) Q) := by
  unfold rest3
  rw [dif_pos h]
  simp only [bind_assoc]
  iintro H K
  iapply (next_sound c i arg6 arg7 arg8 arg9 arg10 arg11 arg13 arg18 arg19 P s (4 * (k0_t1_loop i).trips)
    (e16 i h 0) (e17 i h 0) (e18 i h 0 0) (e18 i h 1 0) (e19 i h 0) (e20 i h 0)) $$ H
  iintro H
  iapply (next_sound c i arg6 arg7 arg8 arg9 arg10 arg11 arg13 arg18 arg19 P s (4 * (k0_t1_loop i).trips + 1)
    (e16 i h 1) (e17 i h 1) (e18 i h 0 1) (e18 i h 1 1) (e19 i h 1) (e20 i h 1)) $$ H
  iintro H
  iapply (next_sound c i arg6 arg7 arg8 arg9 arg10 arg11 arg13 arg18 arg19 P s (4 * (k0_t1_loop i).trips + 2)
    (e16 i h 2) (e17 i h 2) (e18 i h 0 2) (e18 i h 1 2) (e19 i h 2) (e20 i h 2)) $$ H
  iintro H
  iapply K
  iexact H
theorem rest2_sound (h : k0_cond3 i = 1#1) {α : Type} {Q : α → sProp 𝕄} {k : Cr F → Prog (TpuEff nD τ sig (Elt F) Λ₀ .tc) α} :
    WK P (upto P (pOf i) (jOf i) (4 * (k0_t1_loop i).trips) s).X (upto P (pOf i) (jOf i) (4 * (k0_t1_loop i).trips) s).Y
      ⊢ iprop((WK P (upto P (pOf i) (jOf i) (4 * (k0_t1_loop i).trips + 2) s).X (upto P (pOf i) (jOf i) (4 * (k0_t1_loop i).trips + 2) s).Y
        -∗ wp frame (wpE (defs₀ (F := F)) Variants.none c none) Set.univ (k (upto P (pOf i) (jOf i) (4 * (k0_t1_loop i).trips + 2) s).cr) Q)
      -∗ wp frame (wpE (defs₀ (F := F)) Variants.none c none) Set.univ
        (rest2 i arg6 arg7 arg8 arg9 arg10 arg11 arg13 arg18 arg19 P.k P.v fm0 fm1 lm0 lm1 (selT fm0 P.kt) (selT fm1 P.kt) (K0 P) (K1 P) (upto P (pOf i) (jOf i) (4 * (k0_t1_loop i).trips) s).cr >>= k) Q) := by
  unfold rest2
  rw [dif_pos h]
  simp only [bind_assoc]
  iintro H K
  iapply (next_sound c i arg6 arg7 arg8 arg9 arg10 arg11 arg13 arg18 arg19 P s (4 * (k0_t1_loop i).trips)
    (e21 i h 0) (e22 i h 0) (e23 i h 0 0) (e23 i h 1 0) (e24 i h 0) (e25 i h 0)) $$ H
  iintro H
  iapply (next_sound c i arg6 arg7 arg8 arg9 arg10 arg11 arg13 arg18 arg19 P s (4 * (k0_t1_loop i).trips + 1)
    (e21 i h 1) (e22 i h 1) (e23 i h 0 1) (e23 i h 1 1) (e24 i h 1) (e25 i h 1)) $$ H
  iintro H
  iapply K
  iexact H
theorem rest1_sound (h : k0_cond4 i = 1#1) {α : Type} {Q : α → sProp 𝕄} {k : Cr F → Prog (TpuEff nD τ sig (Elt F) Λ₀ .tc) α} :
    WK P (upto P (pOf i) (jOf i) (4 * (k0_t1_loop i).trips) s).X (upto P (pOf i) (jOf i) (4 * (k0_t1_loop i).trips) s).Y
      ⊢ iprop((WK P (upto P (pOf i) (jOf i) (4 * (k0_t1_loop i).trips + 1) s).X (upto P (pOf i) (jOf i) (4 * (k0_t1_loop i).trips + 1) s).Y
        -∗ wp frame (wpE (defs₀ (F := F)) Variants.none c none) Set.univ (k (upto P (pOf i) (jOf i) (4 * (k0_t1_loop i).trips + 1) s).cr) Q)
      -∗ wp frame (wpE (defs₀ (F := F)) Variants.none c none) Set.univ
        (rest1 i arg6 arg7 arg8 arg9 arg10 arg11 arg13 arg18 arg19 P.k P.v fm0 fm1 lm0 lm1 (selT fm0 P.kt) (selT fm1 P.kt) (K0 P) (K1 P) (upto P (pOf i) (jOf i) (4 * (k0_t1_loop i).trips) s).cr >>= k) Q) := by
  unfold rest1
  rw [dif_pos h]
  iintro H K
  iapply (next_sound c i arg6 arg7 arg8 arg9 arg10 arg11 arg13 arg18 arg19 P s (4 * (k0_t1_loop i).trips)
    (e26 i h) (e27 i h) (e28 i h 0) (e28 i h 1) (e29 i h) (e30 i h)) $$ H
  iintro H
  iapply K
  iexact H

/-! Three programs in a row of which some do nothing. -/
section Seq
variable {A B : Type} (f g h : A → Prog (TpuEff nD τ sig (Elt F) Λ₀ .tc) A) (k : A → Prog (TpuEff nD τ sig (Elt F) Λ₀ .tc) B)
theorem seq_left (hg : g = Pure.pure) (hh : h = Pure.pure) (x : Prog (TpuEff nD τ sig (Elt F) Λ₀ .tc) A) : (x >>= fun a => g a >>= fun a => h a >>= k) = x >>= k := by
  subst hg hh; rfl
theorem seq_mid (hf : f = Pure.pure) (hh : h = Pure.pure) (a : A) : (f a >>= fun a => g a >>= fun a => h a >>= k) = g a >>= k := by
  subst hf hh; rfl
theorem seq_right (hf : f = Pure.pure) (hg : g = Pure.pure) (a : A) : (f a >>= fun a => g a >>= fun a => h a >>= k) = h a >>= k := by
  subst hf hg; rfl
theorem seq_none (hf : f = Pure.pure) (hg : g = Pure.pure) (hh : h = Pure.pure) (a : A) : (f a >>= fun a => g a >>= fun a => h a >>= k) = k a := by
  subst hf hg hh; rfl
end Seq

set_option maxHeartbeats 4000000 in
/-- The blocks the whole trips leave. -/
theorem rest_sound (m : ℕ) (hm : 7 - (jOf i).val = m) {α : Type} {Q : α → sProp 𝕄} {k : Cr F → Prog (TpuEff nD τ sig (Elt F) Λ₀ .tc) α} :
    WK P (upto P (pOf i) (jOf i) (4 * (k0_t1_loop i).trips) s).X (upto P (pOf i) (jOf i) (4 * (k0_t1_loop i).trips) s).Y
      ⊢ iprop((WK P (upto P (pOf i) (jOf i) m s).X (upto P (pOf i) (jOf i) m s).Y
        -∗ wp frame (wpE (defs₀ (F := F)) Variants.none c none) Set.univ (k (upto P (pOf i) (jOf i) m s).cr) Q)
      -∗ wp frame (wpE (defs₀ (F := F)) Variants.none c none) Set.univ
        (rest3 i arg6 arg7 arg8 arg9 arg10 arg11 arg13 arg18 arg19 P.k P.v fm0 fm1 lm0 lm1 (selT fm0 P.kt) (selT fm1 P.kt) (K0 P) (K1 P) (upto P (pOf i) (jOf i) (4 * (k0_t1_loop i).trips) s).cr >>= fun cr =>
          rest2 i arg6 arg7 arg8 arg9 arg10 arg11 arg13 arg18 arg19 P.k P.v fm0 fm1 lm0 lm1 (selT fm0 P.kt) (selT fm1 P.kt) (K0 P) (K1 P) cr >>= fun cr => rest1 i arg6 arg7 arg8 arg9 arg10 arg11 arg13 arg18 arg19 P.k P.v fm0 fm1 lm0 lm1 (selT fm0 P.kt) (selT fm1 P.kt) (K0 P) (K1 P) cr >>= k) Q) := by
  by_cases h2 : k0_cond2 i = 1#1
  · obtain ⟨hn, h3, h4⟩ := rest_is3 i h2
    have r1 : rest1 (F := F) i arg6 arg7 arg8 arg9 arg10 arg11 arg13 arg18 arg19 P.k P.v fm0 fm1 lm0 lm1 (selT fm0 P.kt) (selT fm1 P.kt) (K0 P) (K1 P) = Pure.pure := funext fun cr => dif_neg h4
    have r2 : rest2 (F := F) i arg6 arg7 arg8 arg9 arg10 arg11 arg13 arg18 arg19 P.k P.v fm0 fm1 lm0 lm1 (selT fm0 P.kt) (selT fm1 P.kt) (K0 P) (K1 P) = Pure.pure := funext fun cr => dif_neg h3
    rw [seq_left _ _ k r2 r1]
    obtain rfl : m = _ := hm.symm.trans hn
    iintro H K
    iapply (rest3_sound c i arg6 arg7 arg8 arg9 arg10 arg11 arg13 arg18 arg19 P s h2) $$ H
    iexact K
  have r3 : rest3 (F := F) i arg6 arg7 arg8 arg9 arg10 arg11 arg13 arg18 arg19 P.k P.v fm0 fm1 lm0 lm1 (selT fm0 P.kt) (selT fm1 P.kt) (K0 P) (K1 P) = Pure.pure := funext fun cr => dif_neg h2
  by_cases h3 : k0_cond3 i = 1#1
  · obtain ⟨hn, h4⟩ := rest_is2 i h3
    have r1 : rest1 (F := F) i arg6 arg7 arg8 arg9 arg10 arg11 arg13 arg18 arg19 P.k P.v fm0 fm1 lm0 lm1 (selT fm0 P.kt) (selT fm1 P.kt) (K0 P) (K1 P) = Pure.pure := funext fun cr => dif_neg h4
    rw [seq_mid _ _ _ k r3 r1]
    obtain rfl : m = _ := hm.symm.trans hn
    iintro H K
    iapply (rest2_sound c i arg6 arg7 arg8 arg9 arg10 arg11 arg13 arg18 arg19 P s h3) $$ H
    iexact K
  have r2 : rest2 (F := F) i arg6 arg7 arg8 arg9 arg10 arg11 arg13 arg18 arg19 P.k P.v fm0 fm1 lm0 lm1 (selT fm0 P.kt) (selT fm1 P.kt) (K0 P) (K1 P) = Pure.pure := funext fun cr => dif_neg h3
  by_cases h4 : k0_cond4 i = 1#1
  · have hn := rest_is1 i h4
    rw [seq_right _ _ _ k r3 r2]
    obtain rfl : m = _ := hm.symm.trans hn
    iintro H K
    iapply (rest1_sound c i arg6 arg7 arg8 arg9 arg10 arg11 arg13 arg18 arg19 P s h4) $$ H
    iexact K
  have r1 : rest1 (F := F) i arg6 arg7 arg8 arg9 arg10 arg11 arg13 arg18 arg19 P.k P.v fm0 fm1 lm0 lm1 (selT fm0 P.kt) (selT fm1 P.kt) (K0 P) (K1 P) = Pure.pure := funext fun cr => dif_neg h4
  rw [seq_none _ _ _ k r3 r2 r1]
  obtain rfl : m = _ := hm.symm.trans (rest_is0 i h2 h3 h4)
  iintro H K
  iapply K; iexact H

/-- All the blocks of a point. -/
theorem blocks_sound (X : Vec F S128x2048 .f32) {α : Type} {Q : α → sProp 𝕄} {k : Cr F → Prog (TpuEff nD τ sig (Elt F) Λ₀ .tc) α} :
    WK P X zeroS ⊢ iprop((WK P (point P (pOf i) (jOf i) X).X (point P (pOf i) (jOf i) X).Y
        -∗ wp frame (wpE (defs₀ (F := F)) Variants.none c none) Set.univ (k (point P (pOf i) (jOf i) X).cr) Q)
      -∗ wp frame (wpE (defs₀ (F := F)) Variants.none c none) Set.univ
        (blocks i arg6 arg7 arg8 arg9 arg10 arg11 arg13 arg18 arg19 P.k P.v fm0 fm1 lm0 lm1 (selT fm0 P.kt) (selT fm1 P.kt) (K0 P) (K1 P) >>= k) Q) := by
  unfold blocks point
  simp only [bind_assoc]
  iintro H K
  iapply (blk_sound c arg6 arg7 arg8 arg9 arg10 arg11 arg13 arg18 arg19 P (pOf i) diag (jOf i) ⟨(zeroC, zeroC), X, zeroS⟩
    (e1 i) (e2 i) (e3 i 0) (e3 i 1) (e4 i) (e5 i)) $$ H
  generalize blkStep P (pOf i) diag (jOf i) ⟨(zeroC, zeroC), X, zeroS⟩ = s
  iintro H
  iapply (trips_sound c i arg6 arg7 arg8 arg9 arg10 arg11 arg13 arg18 arg19 P s) $$ H
  iintro H
  iapply (rest_sound c i arg6 arg7 arg8 arg9 arg10 arg11 arg13 arg18 arg19 P s _ rfl) $$ H
  iexact K

/-! ## A grid point -/

section Whole
variable (arg3 : Memref sig .tc .vmem S256x128 .bf16) (arg4 : Memref sig .tc .vmem S256x128 .bf16) (arg5 : Memref sig .tc .vmem S128x256 .bf16) (arg12 : Memref sig .tc .vmem S1x2x256x128 .f32) (arg14 : Memref sig .tc .vmem S256x128 .bf16) (harg14 : arg14.IsWhole) (arg15 : Memref sig .tc .vmem S256x128 .bf16) (harg15 : arg15.IsWhole) (arg16 : Memref sig .tc .vmem S128x2048 .f32) (arg17 : Memref sig .tc .vmem S1x1x256x128 .f32)

/-- What the query gradient holds when the blocks of a point begin: nothing yet at the first block of keys. -/
def openX (j : Fin 8) (X : Vec F S128x2048 .f32) : Vec F S128x2048 .f32 := if j = 0 then zeroQ else X

theorem opening_sound {α : Type} {Q : α → sProp 𝕄} {k : PUnit → Prog (TpuEff nD τ sig (Elt F) Λ₀ .tc) α} (X : Vec F S128x2048 .f32) :
    (owns (c : Thread nD τ) arg18 fullShare X : sProp 𝕄)
      ⊢ iprop((owns (c : Thread nD τ) arg18 fullShare (openX (jOf i) X) -∗ wp frame (wpE (defs₀ (F := F)) Variants.none c none) Set.univ (k ⟨⟩) Q)
        -∗ wp frame (wpE (defs₀ (F := F)) Variants.none c none) Set.univ (opening i arg18 >>= k) Q) := by
  unfold opening openX
  by_cases h : isFirst i
  · rw [dif_pos h, if_pos ((first_iff i).1 h)]
    simp only [Prog.lift, Prog.bind_op, Prog.bind_ret, Prog.pure_eq_ret]
    iintro H K
    iapply (own_load_all c (by funext a; fin_cases a <;> rfl)) $$ H; iintro H
    iapply (own_store_all c (by funext a; fin_cases a <;> rfl)) $$ H; iintro H
    iapply K; iexact H
  · rw [dif_neg h, if_neg fun e => h ((first_iff i).2 e)]
    simp only [Prog.bind_ret, Prog.pure_eq_ret]
    iintro H K
    iapply K; iexact H

theorem closing_sound {Q : PUnit → sProp 𝕄} (X D : Vec F S128x2048 .f32) :
    iprop(owns (c : Thread nD τ) arg18 fullShare X ∗ owns (c : Thread nD τ) arg16 fullShare D)
      ⊢ iprop((owns (c : Thread nD τ) arg18 fullShare X -∗ owns (c : Thread nD τ) arg16 fullShare (if jOf i = 7 then X else D) -∗ Q ⟨⟩)
        -∗ wp frame (wpE (defs₀ (F := F)) Variants.none c none) Set.univ (closing i arg16 arg18) Q) := by
  unfold closing
  by_cases h : k0_cond5 i = 1#1
  · rw [dif_pos h, if_pos ((last_iff i).1 h)]
    simp only [Prog.lift, Prog.bind_op, Prog.bind_ret, Prog.pure_eq_ret]
    iintro ⟨H, H'⟩ K
    iapply (own_load_all c (by funext a; fin_cases a <;> rfl)) $$ H; iintro H
    iapply (own_load_all c (by funext a; fin_cases a <;> rfl)) $$ H'; iintro H'
    iapply (own_store_all c (by funext a; fin_cases a <;> rfl)) $$ H'; iintro H'
    rw [wp_ret]
    imodintro
    iapply K $$ H H'
  · rw [dif_neg h, if_neg fun e => h ((last_iff i).2 e)]
    rw [Prog.pure_eq_ret, wp_ret]
    iintro ⟨H, H'⟩ K
    imodintro
    iapply K $$ H H'

/-- The body at a grid point, from the blocks it reads to what it leaves. -/
theorem body_sound (X0 : Vec F S128x2048 .f32) (Y0 : Vec F S2x256x256 .f32) (D14 D15 : Vec F S256x128 .bf16) (D16 : Vec F S128x2048 .f32) (D17 : Vec F S1x1x256x128 .f32)
    {Q : PUnit → sProp 𝕄} :
    iprop(owns (c : Thread nD τ) arg3 fullShare P.k ∗ owns (c : Thread nD τ) arg4 fullShare P.v ∗ owns (c : Thread nD τ) arg5 fullShare P.kt ∗ owns (c : Thread nD τ) arg12 fullShare P.ck
        ∗ WK P X0 Y0 ∗ owns (c : Thread nD τ) arg14 fullShare D14 ∗ owns (c : Thread nD τ) arg15 fullShare D15 ∗ owns (c : Thread nD τ) arg16 fullShare D16 ∗ owns (c : Thread nD τ) arg17 fullShare D17)
      ⊢ iprop((iprop(owns (c : Thread nD τ) arg3 fullShare P.k ∗ owns (c : Thread nD τ) arg4 fullShare P.v ∗ owns (c : Thread nD τ) arg5 fullShare P.kt ∗ owns (c : Thread nD τ) arg12 fullShare P.ck
          ∗ WK P (point P (pOf i) (jOf i) (openX (jOf i) X0)).X (point P (pOf i) (jOf i) (openX (jOf i) X0)).Y
          ∗ owns (c : Thread nD τ) arg14 fullShare (truncf .bf16 (point P (pOf i) (jOf i) (openX (jOf i) X0)).cr.1 bitsLt_bf16_f32)
          ∗ owns (c : Thread nD τ) arg15 fullShare (truncf .bf16 (point P (pOf i) (jOf i) (openX (jOf i) X0)).cr.2 bitsLt_bf16_f32)
          ∗ owns (c : Thread nD τ) arg16 fullShare (if jOf i = 7 then (point P (pOf i) (jOf i) (openX (jOf i) X0)).X else D16)
          ∗ owns (c : Thread nD τ) arg17 fullShare (laneSums (BitVec.ofNat 32 (i 1).val) (window (point P (pOf i) (jOf i) (openX (jOf i) X0)).Y ![0, 0, 0] S1x256x256.size inb_S2x256x256_S1x256x256_0_0_0)
              (window (point P (pOf i) (jOf i) (openX (jOf i) X0)).Y ![1, 0, 0] S1x256x256.size inb_S2x256x256_S1x256x256_1_0_0))) -∗ Q ⟨⟩)
        -∗ wp frame (wpE (defs₀ (F := F)) Variants.none c none) Set.univ
          (body i arg3 arg4 arg5 arg6 arg7 arg8 arg9 arg10 arg11 arg12 arg13 arg14 harg14 arg15 harg15 arg16 arg17 arg18 arg19) Q) := by
  unfold body heads Wk
  simp only [bind_assoc]
  iintro ⟨H3, H4, H5, H12, ⟨H6, H7, H8, H9, H10, H11, H13, H18, H19⟩, H14, H15, H16, H17⟩ K
  iapply (opening_sound c i arg18 X0) $$ H18; iintro H18
  generalize openX (jOf i) X0 = X1
  simp only [Prog.lift, Prog.bind_op, Prog.bind_ret, Prog.pure_eq_ret]
  iapply (own_load_all c (by funext a; fin_cases a <;> rfl)) $$ H3; iintro H3
  iapply (own_load_all c (by funext a; fin_cases a <;> rfl)) $$ H4; iintro H4
  iapply (own_load_all c (by funext a; fin_cases a <;> rfl)) $$ H5; iintro H5
  iapply (own_load c) $$ H12; iintro H12
  iapply (own_load c) $$ H12; iintro H12
  iapply (own_load_all c (by funext a; fin_cases a <;> rfl)) $$ H19; iintro H19
  iapply (own_store_all c (by funext a; fin_cases a <;> rfl)) $$ H19; iintro H19
  iapply (blocks_sound c i arg6 arg7 arg8 arg9 arg10 arg11 arg13 arg18 arg19 P X1) $$ [H6 H7 H8 H9 H10 H11 H13 H18 H19]
  · unfold Wk
    iframe
  generalize point P (pOf i) (jOf i) X1 = R
  unfold Wk stores sums
  simp only [Prog.lift, Prog.bind_op, Prog.bind_ret, Prog.pure_eq_ret]
  iintro ⟨H6, H7, H8, H9, H10, H11, H13, H18, H19⟩
  iapply (own_load_all c (by funext a; fin_cases a <;> rfl)) $$ H14; iintro H14
  iapply (own_store_all c (by funext a; fin_cases a <;> rfl)) $$ H14; iintro H14
  iapply (own_load_all c (by funext a; fin_cases a <;> rfl)) $$ H15; iintro H15
  iapply (own_store_all c (by funext a; fin_cases a <;> rfl)) $$ H15; iintro H15
  iapply (own_load c) $$ H19; iintro H19
  iapply (own_load c) $$ H19; iintro H19
  iapply (own_load_all c (by funext a; fin_cases a <;> rfl)) $$ H17; iintro H17
  iapply (own_store_all c (by funext a; fin_cases a <;> rfl)) $$ H17; iintro H17
  iapply (closing_sound c i arg18 arg16 R.X D16) $$ [H18 H16]
  · iframe
  iintro H18 H16
  iapply K
  iframe

end Whole

end Point

end Cert.AttnIdeal.Own

end
-- ==== Proof.AttnRun.lean ====
/-
  The run of the attention gradient's program: what is carried from point to point (the query gradient's sum `accX`),
  what every point leaves (`res`), the body's obligation at a generic point, and the launch.
-/
module

public import proofs.«01_k».proof.Proof.AttnStep
public import Idealize.ShloMosaic.Lib.Claim

@[expose] public section

set_option synthInstance.maxSize 4096
set_option maxRecDepth 16384

noncomputable section

namespace Cert.AttnIdeal.Own

open Cert.AttnIdeal Cert.AttnIdeal.Gen Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points read and leave -/

/-- The blocks point `t` reads. -/
def pt (c : Dev nD) (t : Fin cfg0.N) : Pt F where
  k := iblk m c 0 t
  v := iblk m c 1 t
  kt := iblk m c 2 t
  q := iblk m c 3 t
  qt := iblk m c 4 t
  d := iblk m c 5 t
  dt := iblk m c 6 t
  ot := iblk m c 7 t
  ls := iblk m c 8 t
  ck := iblk m c 9 t
  cq := iblk m c 10 t

/-- A point's results, from the query gradient's sum the points before have left. -/
def step (c : Dev nD) (t : Fin cfg0.N) (X : Vec F S128x2048 .f32) : St F :=
  point (pt m c t) (pOf (grid0.coords t)) (jOf (grid0.coords t)) (openX (jOf (grid0.coords t)) X)

/-- The query gradient's sum before point `n`. -/
def accX (c : Dev nD) : ℕ → Vec F S128x2048 .f32
  | 0 => zeroQ
  | n + 1 => if h : n < cfg0.N then (step m c ⟨n, h⟩ (accX c n)).X else accX c n

/-- What point `t` leaves. -/
def res (c : Dev nD) (t : Fin cfg0.N) : St F := step m c t (accX m c t.val)

theorem accX_succ (c : Dev nD) (t : Fin cfg0.N) : accX m c (t.val + 1) = (res m c t).X := by
  show (if h : t.val < cfg0.N then _ else _) = _
  rw [dif_pos t.isLt]; rfl

/-- At the first point the sum found in the buffer does not matter. -/
theorem step_zero (c : Dev nD) (t : Fin cfg0.N) (ht : t.val = 0) (X Y : Vec F S128x2048 .f32) : step m c t X = step m c t Y := by
  obtain ⟨n, hn⟩ := t
  obtain rfl : n = 0 := ht
  have hj : jOf (grid0.coords ⟨0, hn⟩) = 0 := by revert hn; decide +kernel
  unfold step openX
  rw [if_pos hj, if_pos hj]

/-- What point `t` leaves in the four results' buffers. -/
def left11 (c : Dev nD) (t : Fin cfg0.N) : Vec F S256x128 .bf16 := truncf .bf16 (res m c t).cr.1 bitsLt_bf16_f32
def left12 (c : Dev nD) (t : Fin cfg0.N) : Vec F S256x128 .bf16 := truncf .bf16 (res m c t).cr.2 bitsLt_bf16_f32
def left13 (c : Dev nD) (t : Fin cfg0.N) : Vec F S128x2048 .f32 := (res m c t).X
def left14 (c : Dev nD) (t : Fin cfg0.N) : Vec F S1x1x256x128 .f32 := laneSums (BitVec.ofNat 32 (grid0.coords t 1).val) (window (res m c t).Y ![0, 0, 0] S1x256x256.size inb_S2x256x256_S1x256x256_0_0_0) (window (res m c t).Y ![1, 0, 0] S1x256x256.size inb_S2x256x256_S1x256x256_1_0_0)

/-! ## The invariant between points -/

/-- The query gradient's sum and the logit gradients' sum in their scratch buffers. -/
abbrev scX : Memref sig .tc .vmem S128x2048 .f32 := Memref.whole cc0_scratch0
abbrev scY : Memref sig .tc .vmem S2x256x256 .f32 := Memref.whole cc0_scratch1

/-- Before point `n`: the scratch at anything at first, and from then on the query gradient's sum at `accX`. -/
def PhiS (c : Dev nD) : ℕ → sProp 𝕄
  | 0 => Pipeline.ΦA spec0 c
  | n + 1 => iprop((owns (c : Thread nD τ) scX fullShare (accX m c (n + 1)) ∗ (∃ d, owns (c : Thread nD τ) scY fullShare d)) ∗ (∃ r, prngReg c r))

theorem PhiA_eq (c : Dev nD) : (Pipeline.ΦA spec0 c : sProp 𝕄)
    = iprop(((∃ d, owns (c : Thread nD τ) scX fullShare d) ∗ (∃ d, owns (c : Thread nD τ) scY fullShare d)) ∗ (∃ r, prngReg c r)) := by
  unfold Pipeline.ΦA; rw [scopedRest0_eq]; simp only [scX, scY, owns_whole]; try rfl

theorem PhiS_pos (c : Dev nD) (n : ℕ) (h : n ≠ 0) : PhiS m c n
    = iprop((owns (c : Thread nD τ) scX fullShare (accX m c n) ∗ (∃ d, owns (c : Thread nD τ) scY fullShare d)) ∗ (∃ r, prngReg c r)) := by
  cases n with
  | zero => exact absurd rfl h
  | succ n => rfl

/-- Before any point the buffers hold sums from which the point's results are `res`. -/
theorem PhiS_open (c : Dev nD) (t : Fin cfg0.N) : PhiS m c t.val
    ⊢ iprop(∃ X Y, ⌜step m c t X = res m c t⌝ ∗ owns (c : Thread nD τ) scX fullShare X ∗ owns (c : Thread nD τ) scY fullShare Y ∗ (∃ r, prngReg c r)) := by
  by_cases h : t.val = 0
  · rw [h, show PhiS m c 0 = Pipeline.ΦA spec0 c from rfl, PhiA_eq]
    iintro ⟨⟨⟨%X, HX⟩, ⟨%Y, HY⟩⟩, Hg⟩
    iexists X, Y
    isplitr; · ipureintro; exact step_zero m c t h _ _
    iframe
  · rw [PhiS_pos m c _ h]
    iintro ⟨⟨HX, ⟨%Y, HY⟩⟩, Hg⟩
    iexists _, Y
    isplitr; swap
    · isplitl [HX]; · iexact HX
      iframe
    ipureintro; rfl

/-! ## The pipeline's proof data -/

/-- The arrays as the region finds them; after a point each input's buffer at its block and the results' buffers at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => left11 m c t
    | ⟨12, _⟩ => left12 m c t
    | ⟨13, _⟩ => left13 m c t
    | ⟨14, _⟩ => left14 m c t
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = left11 m c t := by dsimp only [dats]
theorem after_12 (c : Dev nD) (t : Fin cfg0.N) : (dats m 0 c).after 12 t = left12 m c t := by dsimp only [dats]
theorem after_13 (c : Dev nD) (t : Fin cfg0.N) : (dats m 0 c).after 13 t = left13 m c t := by dsimp only [dats]
theorem after_14 (c : Dev nD) (t : Fin cfg0.N) : (dats m 0 c).after 14 t = left14 m c t := by dsimp only [dats]

/-! Each input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-! ## The body obligation -/

/-- Window 13's buffer after the body: the query gradient at the last block of keys, otherwise as found. -/
theorem leaves_13 (c : Dev nD) (t : Fin cfg0.N) (d) :
    (owns (c : Thread nD τ) (win0_13.stage (cfg0.slots t 13)) fullShare (if jOf (grid0.coords t) = 7 then (res m c t).X else (dats m 0 c).before 13 t d) : sProp 𝕄)
      ⊢ (dats m 0 c).leavesExact 13 t := by
  by_cases h : jOf (grid0.coords t) = 7
  · rw [if_pos h]
    have hi : cfg0.idle 13 (cfg0.grid.coords t) = false := by
      show (!(k0_cond5 (grid0.coords t) == 1#1)) = false
      rw [(last_iff _).2 h]; rfl
    unfold Dat.leavesExact
    rw [hi, after_13]
    exact .rfl
  · rw [if_neg h]
    have h5 : ¬ k0_cond5 (grid0.coords t) = 1#1 := fun e => h ((last_iff _).1 e)
    have hi : cfg0.idle 13 (cfg0.grid.coords t) = true := by
      show (!(k0_cond5 (grid0.coords t) == 1#1)) = true
      rw [beq_eq_false_iff_ne.2 h5]; rfl
    have hf : (cfg0.win 13).flush t = false := by
      have := flush0_13 t
      have hj : ∀ t : Fin cfg0.N, t.val % 8 = 7 → jOf (grid0.coords t) = 7 := by decide +kernel
      cases hb : (cfg0.win 13).flush t with
      | false => rfl
      | true => exact absurd (hj t (this.1 hb)) h
    rw [Dat.leavesExact_idle _ _ _ hi hf]
    iintro H
    iexists d
    iexact H

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))

/-- And what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ (dats m 0 c).leavesExact 13 t
    ∗ owns (c : Thread nD τ) (win0_14.stage (cfg0.slots t 14)) fullShare ((dats m 0 c).after 14 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq]
  simp only [before_0, before_1, before_2, before_3, before_4, before_5, before_6, before_7, before_8, before_9, before_10]
  rw [show (dats m 0 c).owesAt () t.succ = (dats m 0 c).owesAt () t.castSucc from rfl, after_0, after_1, after_2, after_3, after_4, after_5, after_6, after_7, after_8, after_9, after_10,
    after_11, after_12, after_14]
  rw [show (dats m 0 c).Φ t.succ = PhiS m c (t.val + 1) from rfl, PhiS_pos m c _ (Nat.succ_ne_zero _), accX_succ]
  rw [show (dats m 0 c).Φ t.castSucc = PhiS m c t.val from rfl]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave HS := (PhiS_open m c t) $$ HS
  icases HS with ⟨%X, %Y, %hX, HX, HY, Hg⟩
  iapply (body_sound c (grid0.coords t) _ _ _ _ _ _ _ scX scY (pt m c t) _ _ _ _ _ _ _ _ _ _ X Y _ _ _ _) $$ [HX HY H0 H1 H2 H3 H4 H5 H6 H7 H8 H9 H10 H11 H12 H13 H14]
  · unfold Wk
    isplitl [H0]; · iexact H0
    isplitl [H1]; · iexact H1
    isplitl [H2]; · iexact H2
    isplitl [H9]; · iexact H9
    isplitl [H3 H4 H5 H6 H7 H8 H10 HX HY]
    · isplitl [H3]; · iexact H3
      isplitl [H4]; · iexact H4
      isplitl [H5]; · iexact H5
      isplitl [H6]; · iexact H6
      isplitl [H7]; · iexact H7
      isplitl [H8]; · iexact H8
      isplitl [H10]; · iexact H10
      isplitl [HX]; · iexact HX
      iexact HY
    isplitl [H11]; · iexact H11
    isplitl [H12]; · iexact H12
    isplitl [H13]; · iexact H13
    iexact H14
  rw [show point (pt m c t) (pOf (grid0.coords t)) (jOf (grid0.coords t)) (openX (jOf (grid0.coords t)) X) = res m c t from hX]
  unfold Wk
  iintro ⟨H0, H1, H2, H9, ⟨H3, H4, H5, H6, H7, H8, H10, HX, HY⟩, H11, H12, H13, H14⟩
  isplitl [HX HY Hg]
  · isplitl [HX HY]
    · isplitl [HX]; · iexact HX
      iexists _; iexact HY
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (leaves_13 m c t d13) $$ H13
  iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact Idealize.ShloMosaic.triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl, PhiS_pos m c _ (by rw [show cfg0.N = 128 from N_0]; decide), PhiA_eq]
  iintro ⟨⟨HX, HY⟩, Hg⟩
  isplitl [HX HY]
  · isplitl [HX]; · iexists _; iexact HX
    iexact HY
  iexact Hg

/-! ## The launch -/

set_option backward.isDefEq.respectTransparency.types false in
/-- The run: the arrays end at what the points leave, the host's lines after it run on that, and every counter is at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.AttnIdeal.Own

end
-- ==== Proof.AttnFrames.lean ====
/-
  The frames of the attention gradient's program, read over the reals, and of its reference.
-/
module

public import proofs.«01_k».proof.Defs
public import proofs.«01_k».proof.Proof.AttnRun
public import proofs.«01_k».proof.Proof.Gen.AttnRefIdeal
public import proofs.«01_k».proof.Proof.Gen.AttnRefIdeal.Run
public import Idealize.ShloMosaic.Lib.Quiescent

@[expose] public section

noncomputable section

namespace Cert.AttnFrames

open Idealize.ShloMosaic Idealize.SL.Sem

/-- The program over the reals runs, keeps its arguments and ends with every counter at zero. -/
theorem ideal_frame : Cert.quiescent_AttnIdeal (hAttnIdeal := Cert.AttnIdeal.Gen.facts) := fun m ρ _ => Cert.AttnIdeal.Own.frame (F := Ideal) m ρ

/-- So does the reference, which is host code alone. -/
theorem reference_frame : Cert.quiescent_AttnRefIdeal (hAttnRefIdeal := Cert.AttnRefIdeal.Gen.facts) := fun m ρ _ =>
  (θ_run Cert.AttnRefIdeal.defs _ _).mono (fun r h => ⟨fun c => (h c).2.2.2.2, sem_eq_zero_of_no_sems (by decide) r.2⟩)
    (Cert.AttnRefIdeal.Value.run (F := Ideal) m ρ)

end Cert.AttnFrames

end
-- ==== Proof.AttnSame.lean ====
/-
  The attention gradient's word program is the program that is read over the reals: the two are the same term but for their
  names. So the frame of the one, proved for every kind of numbers, is the frame of the other.
-/
module

public import proofs.«01_k».proof.Defs
public import proofs.«01_k».proof.Proof.AttnRun
public import proofs.«01_k».proof.Proof.Gen.Attn

@[expose] public section

set_option maxHeartbeats 0

noncomputable section

namespace Cert.AttnSame

open Idealize.ShloMosaic Idealize.SL.Sem

/-- The kernel's body. -/
theorem body_eq : @Cert.Attn.cc0_attn_bwd Bits _ Cert.Attn.Gen.facts = @Cert.AttnIdeal.cc0_attn_bwd Bits _ Cert.AttnIdeal.Gen.facts := by
  delta Cert.Attn.cc0_attn_bwd Cert.AttnIdeal.cc0_attn_bwd
  with_unfolding_all rfl

/-- The kernel's label. -/
theorem defs_eq : @Cert.Attn.defs₀ Bits _ Cert.Attn.Gen.facts = @Cert.AttnIdeal.defs₀ Bits _ Cert.AttnIdeal.Gen.facts := by
  delta Cert.Attn.defs₀ Cert.AttnIdeal.defs₀
  refine congrArg Defs.onTc ?_
  funext x y
  match x, y with
  | 0, (t, s) =>
    have e := congrFun body_eq (Cert.Attn.grid0.coords t)
    simp only
    rw [e]
    with_unfolding_all rfl
  | ⟨_ + 1, h⟩, _ => exact absurd h (Nat.not_lt.2 (Nat.le_add_left _ _))

/-- The host's program. -/
theorem main_eq : @Cert.Attn.main Bits _ Cert.Attn.Gen.facts = @Cert.AttnIdeal.main Bits _ Cert.AttnIdeal.Gen.facts := by
  delta Cert.Attn.main Cert.AttnIdeal.main
  with_unfolding_all rfl

/-- The labels of the kernel and of its pipeline. -/
theorem all_defs_eq : @Cert.Attn.defs Bits _ Cert.Attn.Gen.facts = @Cert.AttnIdeal.defs Bits _ Cert.AttnIdeal.Gen.facts := by
  delta Cert.Attn.defs Cert.AttnIdeal.defs
  rw [defs_eq]
  rfl

/-- The word program runs, keeps its arguments and ends with every counter at zero. -/
theorem words_frame : Cert.quiescent_Attn (hAttn := Cert.Attn.Gen.facts) := fun m ρ _ => by
  rw [main_eq, all_defs_eq]
  exact Cert.AttnIdeal.Own.frame (F := Bits) m ρ

end Cert.AttnSame

end
-- ==== Proof.AttnReal.lean ====
/-
  The gradient of the forgetting attention over the real numbers: the weights of a row, what they sum to, and the four
  gradients as plain sums over queries or keys.
-/
module

public import Mathlib.Analysis.SpecialFunctions.Log.Basic
public import Mathlib.Algebra.BigOperators.Field

@[expose] public section

noncomputable section

namespace Cert.AttnReal

open Finset

/-- The three arguments as real numbers: the projections `z`, the output's gradient `g`, the gate sums `c`. -/
structure Args where
  z : ℕ → ℕ → ℝ
  g : ℕ → ℕ → ℝ
  c : ℕ → ℕ → ℕ → ℝ

variable (X : Args) (b h : ℕ)

namespace Args

/-- Queries, keys, values and the output's gradient of head `h` on sequence `b`. -/
def q (i : ℕ) (d : Fin 64) : ℝ := X.z (2048 * b + i) (1024 + (64 * h + d.val))
def k (j : ℕ) (d : Fin 64) : ℝ := X.z (2048 * b + j) (1536 + (64 * h + d.val))
def v (j : ℕ) (d : Fin 64) : ℝ := X.z (2048 * b + j) (2048 + (64 * h + d.val))
def go (i : ℕ) (d : Fin 64) : ℝ := X.g (2048 * b + i) (64 * h + d.val)

/-- The logit, before the mask. -/
def A (i j : ℕ) : ℝ := (∑ d, X.k b h j d * X.q b h i d) * (1 / 8) + X.c b h i - X.c b h j
/-- The row's log-sum. -/
def LS (i : ℕ) : ℝ := Real.log (∑ j ∈ range (i + 1), Real.exp (X.A b h i j))
/-- The weight. -/
def W (i j : ℕ) : ℝ := if j ≤ i then Real.exp (X.A b h i j - X.LS b h i) else 0
/-- The output. -/
def O (i : ℕ) (d : Fin 64) : ℝ := ∑ j ∈ range 2048, X.W b h i j * X.v b h j d
/-- The weight's gradient. -/
def DP (i j : ℕ) : ℝ := ∑ d, X.v b h j d * X.go b h i d
/-- The logit's gradient. -/
def Dl (i j : ℕ) : ℝ := X.W b h i j * (X.DP b h i j - ∑ d, X.go b h i d * X.O b h i d)

/-- The four gradients. -/
def dQ (i : ℕ) (d : Fin 64) : ℝ := (∑ j ∈ range 2048, X.k b h j d * X.Dl b h i j) * (1 / 8)
def dK (j : ℕ) (d : Fin 64) : ℝ := (∑ i ∈ range 2048, X.Dl b h i j * X.q b h i d) * (1 / 8)
def dV (j : ℕ) (d : Fin 64) : ℝ := ∑ i ∈ range 2048, X.W b h i j * X.go b h i d
def dC (j : ℕ) : ℝ := - ∑ i ∈ range 2048, X.Dl b h i j

/-- The exponentials of a row shifted by `M`, masked, and their sum. -/
def E (M : ℝ) (i j : ℕ) : ℝ := if j ≤ i then Real.exp (X.A b h i j - M) else 0
def T (M : ℝ) (i : ℕ) : ℝ := ∑ j ∈ range 2048, X.E b h M i j

end Args

/-! ## The softmax of a row -/

section Row
variable (M : ℝ) (i : ℕ) (hi : i < 2048)
include hi

theorem T_eq : X.T b h M i = (∑ j ∈ range (i + 1), Real.exp (X.A b h i j)) * Real.exp (-M) := by
  unfold Args.T Args.E
  rw [← sum_filter, Finset.sum_mul]
  have e : (range 2048).filter (· ≤ i) = range (i + 1) := by
    ext j
    simp only [mem_filter, mem_range]
    omega
  rw [e]
  exact sum_congr rfl fun j _ => by rw [← Real.exp_add]; rfl

theorem sum_pos : 0 < ∑ j ∈ range (i + 1), Real.exp (X.A b h i j) :=
  Finset.sum_pos (fun j _ => Real.exp_pos _) ⟨0, by simp⟩

theorem T_pos : 0 < X.T b h M i := by
  rw [T_eq X b h M i hi]
  exact mul_pos (sum_pos X b h i hi) (Real.exp_pos _)

theorem log_T : M + Real.log (X.T b h M i) = X.LS b h i := by
  rw [T_eq X b h M i hi, Real.log_mul (sum_pos X b h i hi).ne' (Real.exp_pos _).ne', Real.log_exp]
  unfold Args.LS
  ring

theorem E_div (j : ℕ) : X.E b h M i j / X.T b h M i = X.W b h i j := by
  unfold Args.E Args.W
  by_cases hj : j ≤ i
  · rw [if_pos hj, if_pos hj, T_eq X b h M i hi, Real.exp_sub, Real.exp_sub, Args.LS, Real.exp_log (sum_pos X b h i hi), Real.exp_neg]
    have := Real.exp_pos M
    have := sum_pos X b h i hi
    field_simp
  · rw [if_neg hj, if_neg hj, zero_div]

theorem sum_W : ∑ j ∈ range 2048, X.W b h i j = 1 := by
  have e : ∀ j, X.W b h i j = X.E b h 0 i j / X.T b h 0 i := fun j => (E_div X b h 0 i hi j).symm
  simp only [e]
  rw [← Finset.sum_div]
  exact div_self (T_pos X b h 0 i hi).ne'

omit hi in
/-- The row's `go · o` is the weighted sum of the weights' gradients. -/
theorem delta_eq : ∑ d, X.go b h i d * X.O b h i d = ∑ j ∈ range 2048, X.DP b h i j * X.W b h i j := by
  unfold Args.O Args.DP
  simp only [Finset.mul_sum, Finset.sum_mul]
  rw [Finset.sum_comm]
  exact sum_congr rfl fun j _ => sum_congr rfl fun d _ => by ring

/-- A row's logit gradients sum to zero. -/
theorem sum_Dl : ∑ j ∈ range 2048, X.Dl b h i j = 0 := by
  unfold Args.Dl
  simp only [mul_sub]
  rw [Finset.sum_sub_distrib, ← Finset.sum_mul, sum_W X b h i hi, one_mul, delta_eq, sub_eq_zero]
  exact sum_congr rfl fun j _ => mul_comm _ _

/-- The gradient through a quotient by the row's sum is the logit's gradient. -/
theorem quotient (j : ℕ) :
    (X.DP b h i j / X.T b h M i + -(∑ j' ∈ range 2048, X.DP b h i j' * (1 / (X.T b h M i * X.T b h M i)) * X.E b h M i j')) * X.E b h M i j = X.Dl b h i j := by
  have hT := (T_pos X b h M i hi).ne'
  have e : ∀ j', X.E b h M i j' = X.W b h i j' * X.T b h M i := fun j' => by
    rw [← E_div X b h M i hi j', div_mul_cancel₀ _ hT]
  unfold Args.Dl
  rw [delta_eq]
  simp only [e]
  have s : ∑ j' ∈ range 2048, X.DP b h i j' * (1 / (X.T b h M i * X.T b h M i)) * (X.W b h i j' * X.T b h M i)
      = (∑ j' ∈ range 2048, X.DP b h i j' * X.W b h i j') / X.T b h M i := by
    rw [Finset.sum_div]
    exact sum_congr rfl fun j' _ => by field_simp
  rw [s]
  field_simp
  ring

end Row

theorem Dl_zero (i j : ℕ) (hj : ¬ j ≤ i) : X.Dl b h i j = 0 := by
  unfold Args.Dl Args.W
  rw [if_neg hj, zero_mul]

theorem W_zero (i j : ℕ) (hj : ¬ j ≤ i) : X.W b h i j = 0 := by
  unfold Args.W
  rw [if_neg hj]

/-! ## Sums by blocks of 256 -/

/-- A sum over the blocks from `j` on is the whole sum, where the earlier terms are zero. -/
theorem sum_blocks (f : ℕ → ℝ) (j : ℕ) (hj : j ≤ 8) (h0 : ∀ i, i < 256 * j → f i = 0) :
    ∑ b ∈ Ico j 8, ∑ c : Fin 256, f (256 * b + c.val) = ∑ i ∈ range 2048, f i := by
  have step : ∀ n, ∑ b ∈ range n, ∑ c : Fin 256, f (256 * b + c.val) = ∑ i ∈ range (256 * n), f i := fun n => by
    induction n with
    | zero => simp
    | succ n ih =>
      rw [sum_range_succ, ih, show 256 * (n + 1) = 256 * n + 256 from by ring, Finset.sum_range_add, Finset.sum_range (n := 256)]
  have e := step 8
  rw [show 256 * 8 = 2048 from rfl] at e
  rw [← e, ← Finset.sum_range_add_sum_Ico _ hj]
  rw [show ∑ b ∈ range j, ∑ c : Fin 256, f (256 * b + c.val) = 0 from Finset.sum_eq_zero fun b hb => Finset.sum_eq_zero fun c _ => h0 _ (by
    have := mem_range.1 hb
    have := c.isLt
    omega), zero_add]

end Cert.AttnReal

end
-- ==== Proof.AttnFold.lean ====
/-
  Extended reals and real numbers: finite sums, a row's maximum, and the argument arrays read as real numbers.
-/
module

public import proofs.«01_k».proof.Proof.AttnReal
public import Idealize.ShloMosaic.Lib.Pipeline.Value
public import Idealize.ShloMosaic.Lib.ValueIdx
public import Idealize.ShloMosaic.Lib.Pointwise.Reduce
public import Idealize.ShloMosaic.PureOps.Ideal.Laws

@[expose] public section

noncomputable section

namespace Cert.AttnReal

open Idealize.ShloMosaic hiding ix0 ix1 ix2 ix3 ix4 ix5
open Idealize.ShloMosaic.ValueIdx

/-- A finite sum of reals, taken in the extended reals. -/
theorem coe_sum' {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the positions of a sequence of values that are real. -/
theorem sum_pos_coe (f : Fin 2048 → EReal) (r : ℕ → ℝ) (hf : ∀ k : Fin 2048, f k = ((r k.val : ℝ) : EReal)) :
    ∑ k, f k = ((∑ k ∈ Finset.range 2048, r k : ℝ) : EReal) := by
  rw [Finset.sum_range, coe_sum']
  exact Finset.sum_congr rfl fun k _ => hf k

/-- A sum over the entries of a head of values that are real. -/
theorem sum_head_coe (f : Fin 64 → EReal) (r : Fin 64 → ℝ) (hf : ∀ k, f k = ((r k : ℝ) : EReal)) : ∑ k, f k = ((∑ k, r k : ℝ) : EReal) := by
  rw [coe_sum']
  exact Finset.sum_congr rfl fun k _ => hf k

/-! ## The maximum of a row -/

theorem foldl_max_lt {ι : Type*} (l : List ι) (f : ι → EReal) (a : EReal) (ha : a < ⊤) (hf : ∀ n ∈ l, f n < ⊤) : l.foldl (fun r n => max r (f n)) a < ⊤ := by
  induction l generalizing a with
  | nil => exact ha
  | cons n l ih => exact ih _ (max_lt ha (hf n (by simp))) fun k hk => hf k (by simp [hk])

theorem le_foldl_max {ι : Type*} (l : List ι) (f : ι → EReal) (a : EReal) : a ≤ l.foldl (fun r n => max r (f n)) a ∧ ∀ n ∈ l, f n ≤ l.foldl (fun r n => max r (f n)) a := by
  induction l generalizing a with
  | nil => exact ⟨le_refl _, fun n hn => absurd hn (by simp)⟩
  | cons n l ih =>
    obtain ⟨h1, h2⟩ := ih (max a (f n))
    refine ⟨(le_max_left _ _).trans h1, fun k hk => ?_⟩
    rcases List.mem_cons.1 hk with rfl | hk
    · exact (le_max_right _ _).trans h1
    · exact h2 k hk

/-- The maximum of a row that is real somewhere and nowhere `⊤` is a real number. -/
theorem row_max (L : (⟨4, ![4, 8, 2048, 2048]⟩ : Shape).Idx → EReal) {u : Shape} (init : u.Idx → EReal) (hu : 0 < u.numel)
    (hi : init (Shape.Idx.first hu) = ⊥) (hr : (⟨4, ![4, 8, 2048, 2048]⟩ : Shape).ReducesTo [3] ⟨3, ![4, 8, 2048]⟩) (b : Fin 4) (h : Fin 8) (i : Fin 2048)
    (hL : ∀ j : Fin 2048, L (ix4 b h i j) < ⊤) (h0 : ⊥ < L (ix4 b h i 0)) :
    ∃ M : ℝ, Host.reduce (max : EReal → EReal → EReal) L init hr hu (ix3 b h i) = (M : EReal) := by
  unfold Host.reduce
  rw [hi]
  generalize hl : (List.finRange (⟨4, ![4, 8, 2048, 2048]⟩ : Shape).numel).filter (fun n => decide (hr.drop ((⟨4, ![4, 8, 2048, 2048]⟩ : Shape).rowMajor.symm n) = ix3 b h i)) = l
  have hlt := foldl_max_lt l (fun n => L ((⟨4, ![4, 8, 2048, 2048]⟩ : Shape).rowMajor.symm n)) ⊥ bot_lt_top (fun n hn => by
    rw [← hl, List.mem_filter] at hn
    obtain ⟨k, hk⟩ := (hr.fiber_r4_a3 (ix3 b h i) _).1 (of_decide_eq_true hn.2)
    rw [← hk]
    exact hL k)
  have hle := (le_foldl_max l (fun n => L ((⟨4, ![4, 8, 2048, 2048]⟩ : Shape).rowMajor.symm n)) ⊥).2 ((⟨4, ![4, 8, 2048, 2048]⟩ : Shape).rowMajor (ix4 b h i 0)) (by
    rw [← hl, List.mem_filter]
    refine ⟨List.mem_finRange _, decide_eq_true ?_⟩
    rw [Equiv.symm_apply_apply]
    exact (hr.fiber_r4_a3 (ix3 b h i) _).2 ⟨0, rfl⟩)
  simp only [Equiv.symm_apply_apply] at hle
  refine ⟨(l.foldl (fun r n => max r (L ((⟨4, ![4, 8, 2048, 2048]⟩ : Shape).rowMajor.symm n))) ⊥).toReal, ?_⟩
  exact (EReal.coe_toReal hlt.ne (lt_of_lt_of_le h0 hle).ne').symm

/-! ## The arguments -/

/-- The argument arrays hold the real arguments. -/
structure Holds (z : (⟨2, ![8192, 4608]⟩ : Shape).Idx → EReal) (c : (⟨3, ![4, 8, 2048]⟩ : Shape).Idx → EReal) (g : (⟨2, ![8192, 512]⟩ : Shape).Idx → EReal) (X : Args) : Prop where
  z : ∀ (n : Fin 8192) (k : Fin 4608), z (ix2 n k) = ((X.z n.val k.val : ℝ) : EReal)
  c : ∀ (b : Fin 4) (h : Fin 8) (i : Fin 2048), c (ix3 b h i) = ((X.c b.val h.val i.val : ℝ) : EReal)
  g : ∀ (n : Fin 8192) (k : Fin 512), g (ix2 n k) = ((X.g n.val k.val : ℝ) : EReal)

/-- Finite arrays as real arguments. -/
def argsOf (z : (⟨2, ![8192, 4608]⟩ : Shape).Idx → EReal) (c : (⟨3, ![4, 8, 2048]⟩ : Shape).Idx → EReal) (g : (⟨2, ![8192, 512]⟩ : Shape).Idx → EReal) : Args where
  z n k := (z (ix2 (Fin.ofNat 8192 n) (Fin.ofNat 4608 k))).toReal
  c b h i := (c (ix3 (Fin.ofNat 4 b) (Fin.ofNat 8 h) (Fin.ofNat 2048 i))).toReal
  g n k := (g (ix2 (Fin.ofNat 8192 n) (Fin.ofNat 512 k))).toReal

theorem ofNat_val {n : ℕ} [NeZero n] (k : Fin n) : Fin.ofNat n k.val = k := Fin.ext (Nat.mod_eq_of_lt k.isLt)

theorem holds_argsOf (z : (⟨2, ![8192, 4608]⟩ : Shape).Idx → EReal) (c : (⟨3, ![4, 8, 2048]⟩ : Shape).Idx → EReal) (g : (⟨2, ![8192, 512]⟩ : Shape).Idx → EReal)
    (hz : ∀ i, z i ≠ ⊤ ∧ z i ≠ ⊥) (hc : ∀ i, c i ≠ ⊤ ∧ c i ≠ ⊥) (hg : ∀ i, g i ≠ ⊤ ∧ g i ≠ ⊥) : Holds z c g (argsOf z c g) where
  z := fun n k => by
    unfold argsOf
    simp only [ofNat_val]
    exact (EReal.coe_toReal (hz _).1 (hz _).2).symm
  c := fun b h i => by
    unfold argsOf
    simp only [ofNat_val]
    exact (EReal.coe_toReal (hc _).1 (hc _).2).symm
  g := fun n k => by
    unfold argsOf
    simp only [ofNat_val]
    exact (EReal.coe_toReal (hg _).1 (hg _).2).symm

end Cert.AttnReal

end
-- ==== Proof.AttnRefMath.lean ====
/-
  The reference's four gradients over the real numbers: its operations read one after another, from finite arguments to
  the plain sums of `AttnReal`.
-/
module

public import proofs.«01_k».proof.Proof.AttnFold
public import proofs.«01_k».proof.Proof.Gen.AttnRefIdeal.Read

@[expose] public section

noncomputable section

namespace Cert.AttnRefIdeal.Math

open Cert.AttnRefIdeal Cert.AttnRefIdeal.Gen Cert.AttnRefIdeal.Read Cert.AttnReal
open Idealize.ShloMosaic hiding ix0 ix1 ix2 ix3 ix4 ix5 eq_ix3 eq_ix4
open Idealize.ShloMosaic.ValueIdx

variable {z : (⟨S8192x4608, .bf16⟩ : BufTy).Contents (Elt Ideal)} {cu : (⟨S4x8x2048, .f32⟩ : BufTy).Contents (Elt Ideal)} {g : (⟨S8192x512, .bf16⟩ : BufTy).Contents (Elt Ideal)}
  {X : Args} (H : Holds z cu g X)

theorem zero_word : (FloatOps.ofBits .f32 0x00000000#32 : Ideal .f32) = 0 := Ideal.ofBits_zero_f32
theorem one_word : (FloatOps.ofBits .f32 0x3F800000#32 : Ideal .f32) = ((1 : ℝ) : EReal) := by
  show Ideal.ofBits .f32 0x3F800000#32 = _
  simp [Ideal.ofBits, Ideal.ieee]
  refine (EReal.coe_mul _ _).symm.trans ?_
  norm_num
theorem eighth_word : (FloatOps.ofBits .f32 0x3E000000#32 : Ideal .f32) = ((1 / 8 : ℝ) : EReal) := by
  show Ideal.ofBits .f32 0x3E000000#32 = _
  simp [Ideal.ofBits, Ideal.ieee]
  refine (EReal.coe_mul _ _).symm.trans ?_
  norm_num
theorem bot_word : (FloatOps.ofBits .f32 0xFF800000#32 : Ideal .f32) = ⊥ := by
  show Ideal.ofBits .f32 0xFF800000#32 = _
  simp [Ideal.ofBits, Ideal.ieee]

theorem div_real (x y : ℝ) (hy : y ≠ 0) : Ideal.div (x : EReal) (y : EReal) = ((x / y : ℝ) : EReal) := by
  rw [Ideal.div_coe hy, ← EReal.coe_mul, mul_one_div]

/-- Row `i` of sequence `b`; column `d` of head `h`. -/
def rowN (b : Fin 4) (i : Fin 2048) : Fin 8192 := ⟨2048 * b.val + i.val, by have := b.isLt; have := i.isLt; omega⟩
def colN (o : ℕ) (ho : o ≤ 4096) (h : Fin 8) (d : Fin 64) : Fin 4608 := ⟨o + (64 * h.val + d.val), by have := h.isLt; have := d.isLt; omega⟩
def colG (h : Fin 8) (d : Fin 64) : Fin 512 := ⟨64 * h.val + d.val, by have := h.isLt; have := d.isLt; omega⟩

section Inputs
variable (b : Fin 4) (h : Fin 8) (i j : Fin 2048) (d : Fin 64)
include H

theorem v5 : val_main_v5 (F := Ideal) z (ix4 b h i d) = ((X.q b.val h.val i.val d : ℝ) : EReal) := by
  have h0 := b.isLt; have h1 := h.isLt; have h2 := i.isLt; have h3 := d.isLt
  rw [val_main_v5_apply, val_main_v4_apply, val_main_v3_apply, val_main_v0_apply]
  refine (congrArg z (?_ : _ = ix2 (rowN b i) (colN 1024 (by omega) h d))).trans (H.z _ _)
  funext a
  apply Fin.ext
  match a with
  | ⟨0, _⟩ => show (((b.val * 2048 + i.val) * 8 + h.val) * 64 + d.val) / 512 = 2048 * b.val + i.val; omega
  | ⟨1, _⟩ => show 1024 + (((b.val * 2048 + i.val) * 8 + h.val) * 64 + d.val) % 512 = 1024 + (64 * h.val + d.val); omega

theorem v8 : val_main_v8 (F := Ideal) z (ix4 b h i d) = ((X.k b.val h.val i.val d : ℝ) : EReal) := by
  have h0 := b.isLt; have h1 := h.isLt; have h2 := i.isLt; have h3 := d.isLt
  rw [val_main_v8_apply, val_main_v7_apply, val_main_v6_apply, val_main_v1_apply]
  refine (congrArg z (?_ : _ = ix2 (rowN b i) (colN 1536 (by omega) h d))).trans (H.z _ _)
  funext a
  apply Fin.ext
  match a with
  | ⟨0, _⟩ => show (((b.val * 2048 + i.val) * 8 + h.val) * 64 + d.val) / 512 = 2048 * b.val + i.val; omega
  | ⟨1, _⟩ => show 1536 + (((b.val * 2048 + i.val) * 8 + h.val) * 64 + d.val) % 512 = 1536 + (64 * h.val + d.val); omega

theorem v11 : val_main_v11 (F := Ideal) z (ix4 b h i d) = ((X.v b.val h.val i.val d : ℝ) : EReal) := by
  have h0 := b.isLt; have h1 := h.isLt; have h2 := i.isLt; have h3 := d.isLt
  rw [val_main_v11_apply, val_main_v10_apply, val_main_v9_apply, val_main_v2_apply]
  refine (congrArg z (?_ : _ = ix2 (rowN b i) (colN 2048 (by omega) h d))).trans (H.z _ _)
  funext a
  apply Fin.ext
  match a with
  | ⟨0, _⟩ => show (((b.val * 2048 + i.val) * 8 + h.val) * 64 + d.val) / 512 = 2048 * b.val + i.val; omega
  | ⟨1, _⟩ => show 2048 + (((b.val * 2048 + i.val) * 8 + h.val) * 64 + d.val) % 512 = 2048 + (64 * h.val + d.val); omega

theorem v63 : val_main_v63 (F := Ideal) g (ix4 b h i d) = ((X.go b.val h.val i.val d : ℝ) : EReal) := by
  have h0 := b.isLt; have h1 := h.isLt; have h2 := i.isLt; have h3 := d.isLt
  rw [val_main_v63_apply, val_main_v62_apply, val_main_v61_apply]
  refine (congrArg g (?_ : _ = ix2 (rowN b i) (colG h d))).trans (H.g _ _)
  funext a
  apply Fin.ext
  match a with
  | ⟨0, _⟩ => show (((b.val * 2048 + i.val) * 8 + h.val) * 64 + d.val) / 512 = 2048 * b.val + i.val; omega
  | ⟨1, _⟩ => show (((b.val * 2048 + i.val) * 8 + h.val) * 64 + d.val) % 512 = 64 * h.val + d.val; omega

theorem v13 : val_main_v13 (F := Ideal) z (ix4 b h i d) = ((X.q b.val h.val i.val d * (1 / 8) : ℝ) : EReal) := by
  rw [val_main_v13_apply, v5 H, val_main_v12_apply, val_main_cst_apply, eighth_word]
  exact (EReal.coe_mul _ _).symm

theorem v16 : val_main_v16 (F := Ideal) cu (ix4 b h i j) = ((X.c b.val h.val i.val : ℝ) : EReal) := by
  rw [val_main_v16_apply, val_main_v15_apply]
  exact (congrArg cu (eq_ix3 _)).trans (H.c b h i)

theorem v19 : val_main_v19 (F := Ideal) cu (ix4 b h i j) = ((X.c b.val h.val j.val : ℝ) : EReal) := by
  rw [val_main_v19_apply, val_main_v18_apply]
  exact (congrArg cu (eq_ix3 _)).trans (H.c b h j)

/-- The logits. -/
theorem v20 : val_main_v20 (F := Ideal) z cu (ix4 b h i j) = ((X.A b.val h.val i.val j.val : ℝ) : EReal) := by
  rw [val_main_v20_apply, val_main_v17_apply, v16 H, v19 H, val_main_v14_apply]
  rw [sum_head_coe _ (fun d => X.q b.val h.val i.val d * (1 / 8) * X.k b.val h.val j.val d) (fun d => by
    rw [EReal.coe_mul]
    exact congrArg₂ (fun x y : EReal => x * y) ((congrArg _ (eq_ix4 _)).trans (v13 H b h i d)) ((congrArg _ (eq_ix4 _)).trans (v8 H b h j d)))]
  refine ((congrArg (fun x : EReal => x - _) (EReal.coe_add _ _).symm).trans (EReal.coe_sub _ _).symm).trans (congrArg _ ?_)
  unfold Args.A
  rw [Finset.sum_mul]
  exact congrArg (fun x => x + X.c b.val h.val i.val - X.c b.val h.val j.val) (Finset.sum_congr rfl fun d _ => by ring)

omit H in
theorem sge_word : IntOp.cmpi .sge (BitVec.ofNat 32 i.val) (BitVec.ofNat 32 j.val) = if j.val ≤ i.val then 1#1 else 0#1 := by
  have hi := i.isLt; have hj := j.isLt
  show BitVec.ofBool (BitVec.sle (BitVec.ofNat 32 j.val) (BitVec.ofNat 32 i.val)) = _
  have e : ∀ n : ℕ, n < 2048 → (BitVec.ofNat 32 n).toInt = (n : ℤ) := fun n hn => by
    rw [BitVec.toInt_eq_toNat_of_lt (by rw [BitVec.toNat_ofNat]; omega), BitVec.toNat_ofNat]
    omega
  unfold BitVec.sle
  rw [e _ hi, e _ hj]
  by_cases hle : j.val ≤ i.val
  · rw [if_pos hle, decide_eq_true (by omega)]; rfl
  · rw [if_neg hle, decide_eq_false (by omega)]; rfl

omit H in
/-- The mask. -/
theorem v29_1 : val_main_v29_1 (F := Ideal) (ix4 b h i j) = if j.val ≤ i.val then 1#1 else 0#1 := by
  rw [val_main_v29_1_apply, val_main_v28_apply, val_main_v27_apply, val_main_v25_apply, val_main_v22_apply, val_main_v21_apply, val_main_v26_apply, val_main_v24_apply, val_main_v23_apply]
  exact sge_word i j

omit H in
theorem select_ite (p : Prop) [Decidable p] (a b : EReal) : Scalar.select (if p then 1#1 else 0#1) a b = if p then a else b := by
  by_cases h : p <;> simp [h, Scalar.select]

theorem v29_0 : val_main_v29_0 (F := Ideal) z cu (ix4 b h i j) = if j.val ≤ i.val then ((X.A b.val h.val i.val j.val : ℝ) : EReal) else ⊥ := by
  rw [val_main_v29_0_apply, v29_1, v20 H, select_ite]
  refine congrArg (fun x : EReal => if j.val ≤ i.val then ((X.A b.val h.val i.val j.val : ℝ) : EReal) else x) ?_
  rw [val_main_call0_v2_apply]
  exact bot_word

theorem v30 : ∃ M : ℝ, val_main_v30 (F := Ideal) z cu (ix3 b h i) = (M : EReal) := by
  refine row_max (val_main_v29_0 (F := Ideal) z cu) (val_main_cst_1 (F := Ideal)) h_S_ bot_word reducesTo_S4x8x2048x2048_S4x8x2048_d3 b h i (fun j => ?_) ?_
  · rw [v29_0 H]
    by_cases hj : j.val ≤ i.val
    · rw [if_pos hj]; exact EReal.coe_lt_top _
    · rw [if_neg hj]; exact bot_lt_top
  · rw [v29_0 H, if_pos (show (0 : Fin 2048).val ≤ i.val from Nat.zero_le _)]
    exact EReal.bot_lt_coe _

end Inputs

/-! ## The weights, given the rows' maxima -/

section Weights
variable {M : Fin 4 → Fin 8 → Fin 2048 → ℝ} (hM : ∀ b h i, val_main_v30 (F := Ideal) z cu (ix3 b h i) = ((M b h i : ℝ) : EReal))
  (b : Fin 4) (h : Fin 8) (i j : Fin 2048) (d : Fin 64)
include H hM

/-- The exponentials. -/
theorem v50 : val_main_v50 (F := Ideal) z cu (ix4 b h i j) = ((X.E b.val h.val (M b h i) i.val j.val : ℝ) : EReal) := by
  rw [val_main_v50_apply, val_main_v49_apply, v29_0 H, val_main_v48_apply, val_main_v47_apply, val_main_v37_apply, val_main_v36_apply, val_main_cst_3_apply, bot_word]
  have e : FloatOps.maximumf (F := Ideal) (φ := .f32) (⊥ : EReal) (val_main_v30 (F := Ideal) z cu (idx_main_v47 (idx_main_v48 (ix4 b h i j)))) = ((M b h i : ℝ) : EReal) := by
    refine (Ideal.maximumf_def _ _).trans ((max_eq_right bot_le).trans ?_)
    exact (congrArg _ (eq_ix3 _)).trans (hM b h i)
  rw [e]
  unfold Args.E
  by_cases hj : j.val ≤ i.val
  · rw [if_pos hj, if_pos hj]
    refine (Ideal.hostUnary_exp_def _).trans ?_
    rw [show FloatOps.subf (F := Ideal) (φ := .f32) ((X.A b.val h.val i.val j.val : ℝ) : EReal) ((M b h i : ℝ) : EReal) = ((X.A b.val h.val i.val j.val - M b h i : ℝ) : EReal) from (EReal.coe_sub _ _).symm]
    exact Ideal.exp_coe _
  · rw [if_neg hj, if_neg hj]
    refine (Ideal.hostUnary_exp_def _).trans ?_
    rw [show FloatOps.subf (F := Ideal) (φ := .f32) (⊥ : EReal) ((M b h i : ℝ) : EReal) = (⊥ : EReal) from EReal.bot_sub _]
    exact Ideal.exp_bot

/-- The rows' sums. -/
theorem v52 : val_main_v52 (F := Ideal) z cu (ix4 b h i 0) = ((X.T b.val h.val (M b h i) i.val : ℝ) : EReal) := by
  rw [val_main_v52_apply, val_main_v51_apply, val_main_cst_9_apply, zero_word, zero_add]
  exact sum_pos_coe _ (fun j => X.E b.val h.val (M b h i) i.val j) fun k => (congrArg _ (eq_ix4 _)).trans (v50 H hM b h i k)

theorem T_ne : X.T b.val h.val (M b h i) i.val ≠ 0 := (T_pos X b.val h.val (M b h i) i.val i.isLt).ne'

theorem v54 : val_main_v54 (F := Ideal) z cu (ix4 b h i j) = ((X.W b.val h.val i.val j.val : ℝ) : EReal) := by
  rw [val_main_v54_apply, v50 H hM, val_main_v53_apply, show val_main_v52 (F := Ideal) z cu (idx_main_v53 (ix4 b h i j)) = _ from (congrArg _ (eq_ix4 _)).trans (v52 H hM b h i)]
  refine (div_real _ _ (T_ne H hM b h i)).trans (congrArg _ ?_)
  exact E_div X b.val h.val (M b h i) i.val i.isLt j.val

theorem v57 : val_main_v57 (F := Ideal) z cu (ix4 b h i 0) = ((1 / (X.T b.val h.val (M b h i) i.val * X.T b.val h.val (M b h i) i.val) : ℝ) : EReal) := by
  rw [val_main_v57_apply, val_main_v56_apply, val_main_cst_10_apply, one_word, val_main_v55_apply, v52 H hM]
  rw [show FloatOps.mulf (F := Ideal) (φ := .f32) ((X.T b.val h.val (M b h i) i.val : ℝ) : EReal) ((X.T b.val h.val (M b h i) i.val : ℝ) : EReal) = ((X.T b.val h.val (M b h i) i.val * X.T b.val h.val (M b h i) i.val : ℝ) : EReal) from (EReal.coe_mul _ _).symm]
  exact div_real _ _ (mul_ne_zero (T_ne H hM b h i) (T_ne H hM b h i))

omit hM in
/-- The weights' gradients. -/
theorem v66 : val_main_v66 (F := Ideal) z g (ix4 b h i j) = ((X.DP b.val h.val i.val j.val : ℝ) : EReal) := by
  rw [val_main_v66_apply]
  refine (sum_head_coe _ (fun d => X.go b.val h.val i.val d * X.v b.val h.val j.val d) (fun d => by
    rw [EReal.coe_mul]
    exact congrArg₂ (fun x y : EReal => x * y) ((congrArg _ (eq_ix4 _)).trans (v63 H b h i d)) ((congrArg _ (eq_ix4 _)).trans (v11 H b h j d)))).trans (congrArg _ ?_)
  exact Finset.sum_congr rfl fun d _ => mul_comm _ _

theorem v69 : val_main_v69 (F := Ideal) z cu g (ix4 b h i j)
    = ((X.DP b.val h.val i.val j.val * (1 / (X.T b.val h.val (M b h i) i.val * X.T b.val h.val (M b h i) i.val)) * X.E b.val h.val (M b h i) i.val j.val : ℝ) : EReal) := by
  rw [val_main_v69_apply, val_main_v68_apply, v66 H, v50 H hM, val_main_v67_apply, show val_main_v57 (F := Ideal) z cu (idx_main_v67 (ix4 b h i j)) = _ from (congrArg _ (eq_ix4 _)).trans (v57 H hM b h i)]
  rw [EReal.coe_mul, EReal.coe_mul]
  rfl

theorem v70 : val_main_v70 (F := Ideal) z cu g (ix3 b h i)
    = ((∑ j ∈ Finset.range 2048, X.DP b.val h.val i.val j * (1 / (X.T b.val h.val (M b h i) i.val * X.T b.val h.val (M b h i) i.val)) * X.E b.val h.val (M b h i) i.val j : ℝ) : EReal) := by
  rw [val_main_v70_apply, val_main_cst_11_apply, zero_word, zero_add]
  exact sum_pos_coe _ (fun j => X.DP b.val h.val i.val j * (1 / (X.T b.val h.val (M b h i) i.val * X.T b.val h.val (M b h i) i.val)) * X.E b.val h.val (M b h i) i.val j)
    fun k => (congrArg _ (eq_ix4 _)).trans (v69 H hM b h i k)

theorem v72 : val_main_v72 (F := Ideal) z cu g (ix4 b h i 0)
    = ((-∑ j ∈ Finset.range 2048, X.DP b.val h.val i.val j * (1 / (X.T b.val h.val (M b h i) i.val * X.T b.val h.val (M b h i) i.val)) * X.E b.val h.val (M b h i) i.val j : ℝ) : EReal) := by
  have h0 := b.isLt; have h1 := h.isLt; have h2 := i.isLt
  rw [val_main_v72_apply, val_main_v71_apply]
  rw [show val_main_v70 (F := Ideal) z cu g (idx_main_v71 (ix4 b h i 0)) = _ from (congrArg _ (?_ : _ = ix3 b h i)).trans (v70 H hM b h i)]
  · exact (Ideal.hostNegf_def _).trans (EReal.coe_neg _).symm
  · funext a
    apply Fin.ext
    match a with
    | ⟨0, _⟩ => show (((b.val * 8 + h.val) * 2048 + i.val) * 1 + 0) / 16384 = b.val; omega
    | ⟨1, _⟩ => show (((b.val * 8 + h.val) * 2048 + i.val) * 1 + 0) / 2048 % 8 = h.val; omega
    | ⟨2, _⟩ => show (((b.val * 8 + h.val) * 2048 + i.val) * 1 + 0) % 2048 = i.val; omega

theorem v76 : val_main_v76 (F := Ideal) z cu g (ix4 b h i j)
    = ((-∑ j ∈ Finset.range 2048, X.DP b.val h.val i.val j * (1 / (X.T b.val h.val (M b h i) i.val * X.T b.val h.val (M b h i) i.val)) * X.E b.val h.val (M b h i) i.val j : ℝ) : EReal) := by
  rw [val_main_v76_apply, val_main_v75_apply, val_main_cst_12_apply, zero_word, zero_add, Fin.sum_univ_one]
  exact (congrArg _ (eq_ix4 _)).trans (v72 H hM b h i)

theorem v74 : val_main_v74 (F := Ideal) z cu g (ix4 b h i j) = ((X.DP b.val h.val i.val j.val / X.T b.val h.val (M b h i) i.val : ℝ) : EReal) := by
  rw [val_main_v74_apply, v66 H, val_main_v73_apply, show val_main_v52 (F := Ideal) z cu (idx_main_v73 (ix4 b h i j)) = _ from (congrArg _ (eq_ix4 _)).trans (v52 H hM b h i)]
  exact div_real _ _ (T_ne H hM b h i)

/-- The logits' gradients. -/
theorem v79 : val_main_v79 (F := Ideal) z cu g (ix4 b h i j) = ((X.Dl b.val h.val i.val j.val : ℝ) : EReal) := by
  rw [val_main_v79_apply, v29_1, val_main_v78_apply, val_main_v77_apply, v74 H hM, v76 H hM, v50 H hM, select_ite]
  rw [show FloatOps.addf (F := Ideal) (φ := .f32) _ _ = _ from (EReal.coe_add _ _).symm]
  rw [show FloatOps.mulf (F := Ideal) (φ := .f32) _ _ = _ from (EReal.coe_mul _ _).symm]
  rw [quotient X b.val h.val (M b h i) i.val i.isLt j.val]
  by_cases hj : j.val ≤ i.val
  · rw [if_pos hj]
  · rw [if_neg hj, Dl_zero X b.val h.val i.val j.val hj, val_main_call1_v0_apply]
    exact zero_word

/-! ## The gradients -/

theorem v65 : val_main_v65 (F := Ideal) z cu g (ix4 b h j d) = ((X.dV b.val h.val j.val d : ℝ) : EReal) := by
  rw [val_main_v65_apply, val_main_v64_apply]
  refine (sum_pos_coe _ (fun i => X.go b.val h.val i d * X.W b.val h.val i j.val) (fun k => by
    rw [EReal.coe_mul]
    exact congrArg₂ (fun x y : EReal => x * y) ((congrArg _ (eq_ix4 _)).trans (v63 H b h k d)) ((congrArg _ (eq_ix4 _)).trans (v54 H hM b h k j)))).trans (congrArg _ ?_)
  exact Finset.sum_congr rfl fun i _ => mul_comm _ _

theorem v88 : val_main_v88 (F := Ideal) z cu g (ix4 b h j d) = ((X.dK b.val h.val j.val d : ℝ) : EReal) := by
  rw [val_main_v88_apply]
  refine (sum_pos_coe _ (fun i => X.Dl b.val h.val i j.val * (X.q b.val h.val i d * (1 / 8))) (fun k => by
    rw [EReal.coe_mul]
    exact congrArg₂ (fun x y : EReal => x * y) ((congrArg _ (eq_ix4 _)).trans (v79 H hM b h k j)) ((congrArg _ (eq_ix4 _)).trans (v13 H b h k d)))).trans (congrArg _ ?_)
  unfold Args.dK
  rw [Finset.sum_mul]
  exact Finset.sum_congr rfl fun i _ => (mul_assoc _ _ _).symm

theorem v91 : val_main_v91 (F := Ideal) z cu g (ix4 b h i d) = ((X.dQ b.val h.val i.val d : ℝ) : EReal) := by
  rw [val_main_v91_apply, val_main_v90_apply, val_main_cst_17_apply, eighth_word, val_main_v89_apply]
  rw [sum_pos_coe _ (fun j => X.Dl b.val h.val i.val j * X.k b.val h.val j d) (fun k => by
    rw [EReal.coe_mul]
    exact congrArg₂ (fun x y : EReal => x * y) ((congrArg _ (eq_ix4 _)).trans (v79 H hM b h i k)) ((congrArg _ (eq_ix4 _)).trans (v8 H b h k d)))]
  refine (EReal.coe_mul _ _).symm.trans (congrArg _ ?_)
  unfold Args.dQ
  exact congrArg (· * (1 / 8 : ℝ)) (Finset.sum_congr rfl fun j _ => mul_comm _ _)

theorem v83 : val_main_v83 (F := Ideal) z cu g (ix3 b h j) = ((X.dC b.val h.val j.val : ℝ) : EReal) := by
  have h0 := b.isLt; have h1 := h.isLt; have h2 := j.isLt
  rw [val_main_v83_apply, val_main_cst_14_apply, zero_word, zero_add, Fin.sum_univ_one, val_main_v82_apply]
  refine (congrArg _ (?_ : _ = ix3 b h j)).trans ?_
  · funext a
    apply Fin.ext
    match a with
    | ⟨0, _⟩ => show (((b.val * 8 + h.val) * 1 + 0) * 2048 + j.val) / 16384 = b.val; omega
    | ⟨1, _⟩ => show (((b.val * 8 + h.val) * 1 + 0) * 2048 + j.val) / 2048 % 8 = h.val; omega
    | ⟨2, _⟩ => show (((b.val * 8 + h.val) * 1 + 0) * 2048 + j.val) % 2048 = j.val; omega
  rw [val_main_v81_apply, val_main_cst_13_apply, zero_word, zero_add]
  refine (sum_pos_coe _ (fun i => -X.Dl b.val h.val i j.val) (fun k => ?_)).trans (congrArg _ ?_)
  · rw [val_main_v80_apply, show val_main_v79 (F := Ideal) z cu g (idx_main_v81 (ix3 b h j) k) = _ from (congrArg _ (eq_ix4 _)).trans (v79 H hM b h k j)]
    exact (Ideal.hostNegf_def _).trans (EReal.coe_neg _).symm
  · exact Finset.sum_neg_distrib _

theorem v86 : val_main_v86 (F := Ideal) z cu g (ix3 b h i) = 0 := by
  have h0 := b.isLt; have h1 := h.isLt; have h2 := i.isLt
  rw [val_main_v86_apply, val_main_cst_16_apply, zero_word, zero_add, Fin.sum_univ_one, val_main_v85_apply]
  refine (congrArg _ (?_ : _ = ix3 b h i)).trans ?_
  · funext a
    apply Fin.ext
    match a with
    | ⟨0, _⟩ => show (((b.val * 8 + h.val) * 2048 + i.val) * 1 + 0) / 16384 = b.val; omega
    | ⟨1, _⟩ => show (((b.val * 8 + h.val) * 2048 + i.val) * 1 + 0) / 2048 % 8 = h.val; omega
    | ⟨2, _⟩ => show (((b.val * 8 + h.val) * 2048 + i.val) * 1 + 0) % 2048 = i.val; omega
  rw [val_main_v84_apply, val_main_cst_15_apply, zero_word, zero_add]
  rw [sum_pos_coe _ (fun j => X.Dl b.val h.val i.val j) (fun k => (congrArg _ (eq_ix4 _)).trans (v79 H hM b h i k)), sum_Dl X b.val h.val i.val i.isLt]
  exact EReal.coe_zero

end Weights

/-! ## The results -/

section Results
include H

theorem maxima : ∃ M : Fin 4 → Fin 8 → Fin 2048 → ℝ, ∀ b h i, val_main_v30 (F := Ideal) z cu (ix3 b h i) = ((M b h i : ℝ) : EReal) :=
  ⟨fun b h i => (v30 H b h i).choose, fun b h i => (v30 H b h i).choose_spec⟩

/-- Where row `n`, column `l` of a result lies: sequence, position, head, entry. -/
theorem place (n : Fin 8192) (l : Fin 512) (a : Fin 4) (he : Fin 8) (i : Fin 2048) (d : Fin 64) (x : S4x2048x8x64.Idx)
    (h0 : (x 0).val = (n.val * 512 + l.val) / 1048576) (h1 : (x 1).val = (n.val * 512 + l.val) / 512 % 2048) (h2 : (x 2).val = (n.val * 512 + l.val) / 64 % 8) (h3 : (x 3).val = (n.val * 512 + l.val) % 64)
    (ha : a.val = n.val / 2048) (hi : i.val = n.val % 2048) (hh : he.val = l.val / 64) (hd : d.val = l.val % 64) : x = ix4 a i he d := by
  have := n.isLt; have := l.isLt
  funext k
  apply Fin.ext
  match k with
  | ⟨0, _⟩ => show (x 0).val = a.val; omega
  | ⟨1, _⟩ => show (x 1).val = i.val; omega
  | ⟨2, _⟩ => show (x 2).val = he.val; omega
  | ⟨3, _⟩ => show (x 3).val = d.val; omega

section At
variable (a : Fin 4) (he : Fin 8) (i : Fin 2048) (d : Fin 64) (n : Fin 8192) (l : Fin 512)
  (ha : a.val = n.val / 2048) (hi : i.val = n.val % 2048) (hh : he.val = l.val / 64) (hd : d.val = l.val % 64)
include ha hi hh hd

/-- The gradient of the values. -/
theorem v94 : val_main_v94 (F := Ideal) z cu g (ix2 n l) = ((X.dV a.val he.val i.val d : ℝ) : EReal) := by
  obtain ⟨M, hM⟩ := maxima H
  rw [val_main_v94_apply, place H n l a he i d (idx_main_v94 (ix2 n l)) rfl rfl rfl rfl ha hi hh hd, val_main_v93_apply, val_main_v92_apply]
  exact (congrArg (val_main_v65 (F := Ideal) z cu g) (eq_ix4 (idx_main_v93 (ix4 a i he d)))).trans (v65 H hM a he i d)

/-- The gradient of the keys. -/
theorem v97 : val_main_v97 (F := Ideal) z cu g (ix2 n l) = ((X.dK a.val he.val i.val d : ℝ) : EReal) := by
  obtain ⟨M, hM⟩ := maxima H
  rw [val_main_v97_apply, place H n l a he i d (idx_main_v97 (ix2 n l)) rfl rfl rfl rfl ha hi hh hd, val_main_v96_apply, val_main_v95_apply]
  exact (congrArg (val_main_v88 (F := Ideal) z cu g) (eq_ix4 (idx_main_v96 (ix4 a i he d)))).trans (v88 H hM a he i d)

/-- The gradient of the queries. -/
theorem v100 : val_main_v100 (F := Ideal) z cu g (ix2 n l) = ((X.dQ a.val he.val i.val d : ℝ) : EReal) := by
  obtain ⟨M, hM⟩ := maxima H
  rw [val_main_v100_apply, place H n l a he i d (idx_main_v100 (ix2 n l)) rfl rfl rfl rfl ha hi hh hd, val_main_v99_apply, val_main_v98_apply]
  exact (congrArg (val_main_v91 (F := Ideal) z cu g) (eq_ix4 (idx_main_v99 (ix4 a i he d)))).trans (v91 H hM a he i d)

end At

/-- The gradient of the gate sums. -/
theorem v87 (a : Fin 4) (he : Fin 8) (j : Fin 2048) : val_main_v87 (F := Ideal) z cu g (ix3 a he j) = ((X.dC a.val he.val j.val : ℝ) : EReal) := by
  obtain ⟨M, hM⟩ := maxima H
  rw [val_main_v87_apply, v83 H hM, v86 H hM]
  exact add_zero _

end Results

end Cert.AttnRefIdeal.Math

end
-- ==== Proof.AttnHost.lean ====
/-
  What the program's host operations leave in the arrays the attention gradient's windows read: the forward pass's output
  and row log-sums, the layouts of queries, keys, values and of the output's gradient.
-/
module

public import proofs.«01_k».proof.Proof.AttnFold
public import proofs.«01_k».proof.Proof.AttnRefMath
public import proofs.«01_k».proof.Proof.Gen.AttnIdeal.Frame
public import Idealize.ShloMosaic.Lib.KernelVsHost

@[expose] public section

noncomputable section

namespace Cert.AttnIdeal.Host

open Cert.AttnIdeal Cert.AttnIdeal.Gen Cert.AttnReal
open Idealize.ShloMosaic Idealize.ShloMosaic.TcCoe Idealize.SL.Sem
open Idealize.ShloMosaic.StableHlo

/-! ## The host operations as functions of the arguments -/

section Terms
variable (z : Vec Ideal S8192x4608 .bf16) (cu : Vec Ideal S4x8x2048 .f32)

/-- The columns of queries, keys and values. -/
def cols : Vec Ideal S8192x1536 .bf16 := extractStridedSlice S8192x1536 ![0, 1024] z slices_S8192x4608_S8192x1536_0_1024
def qs : FVec Ideal S4x8x2048x64 .f32 := extf .f32 (transpose S4x8x2048x64 [0, 2, 1, 3] (shapeCast S4x2048x8x64 (extractStridedSlice S8192x512 ![0, 0] (cols z) slices_S8192x1536_S8192x512_0_0 : FVec Ideal S8192x512 .bf16) shapeCasts_S8192x512_S4x2048x8x64) transposes_S4x2048x8x64_S4x8x2048x64_0_2_1_3) bitsLt_bf16_f32
def ks : FVec Ideal S4x8x2048x64 .f32 := extf .f32 (transpose S4x8x2048x64 [0, 2, 1, 3] (shapeCast S4x2048x8x64 (extractStridedSlice S8192x512 ![0, 512] (cols z) slices_S8192x1536_S8192x512_0_512 : FVec Ideal S8192x512 .bf16) shapeCasts_S8192x512_S4x2048x8x64) transposes_S4x2048x8x64_S4x8x2048x64_0_2_1_3) bitsLt_bf16_f32
def vs : FVec Ideal S4x8x2048x64 .f32 := extf .f32 (transpose S4x8x2048x64 [0, 2, 1, 3] (shapeCast S4x2048x8x64 (extractStridedSlice S8192x512 ![0, 1024] (cols z) slices_S8192x1536_S8192x512_0_1024 : FVec Ideal S8192x512 .bf16) shapeCasts_S8192x512_S4x2048x8x64) transposes_S4x2048x8x64_S4x8x2048x64_0_2_1_3) bitsLt_bf16_f32

/-- A row value along a row of logits. -/
def along (x : FVec Ideal S4x8x2048x1 .f32) : FVec Ideal S4x8x2048x2048 .f32 := broadcastInDim S4x8x2048x2048 ![0, 1, 2, 3] bcast_S4x8x2048x1_S4x8x2048x2048_0_1_2_3 x
def unit (x : FVec Ideal S4x8x2048 .f32) : FVec Ideal S4x8x2048x1 .f32 := broadcastInDim S4x8x2048x1 ![0, 1, 2] bcast_S4x8x2048_S4x8x2048x1_0_1_2 x

/-- The mask and the masked logits. -/
def mask : IVec S4x8x2048x2048 1 := broadcastInDim S4x8x2048x2048 ![0, 1, 2, 3] bcast_S1x1x2048x2048_S4x8x2048x2048_0_1_2_3 (broadcastInDim S1x1x2048x2048 ![2, 3] bcast_S2048x2048_S1x1x2048x2048_2_3
  (cmpi .sge (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))))
def logits : FVec Ideal S4x8x2048x2048 .f32 :=
  select mask (subf (addf (Host.dotGeneral dot_S4x8x2048x64_S4x8x2048x64_S4x8x2048x2048_3_3_2_2_01_01 none (mulf (qs z) (broadcastInDim S4x8x2048x64 ![] bcast_S_S4x8x2048x64 (constant S_ .f32 0x3E000000#32))) (ks z)) (along (unit cu)))
      (broadcastInDim S4x8x2048x2048 ![0, 1, 2, 3] bcast_S4x8x1x2048_S4x8x2048x2048_0_1_2_3 (broadcastInDim S4x8x1x2048 ![0, 1, 3] bcast_S4x8x2048_S4x8x1x2048_0_1_3 cu)))
    (broadcastInDim S4x8x2048x2048 ![] bcast_S_S4x8x2048x2048 (id (constant S_ .f32 0xFF800000#32)))

section Softmax
variable (L : FVec Ideal S4x8x2048x2048 .f32)

/-- The rows' maxima, exponentials, sums, log-sums. -/
def top : FVec Ideal S4x8x2048x1 .f32 := unit (Host.reduce FloatOps.maximumf L (constant S_ .f32 0xFF800000#32) reducesTo_S4x8x2048x2048_S4x8x2048_d3 h_S_)
def exps : FVec Ideal S4x8x2048x2048 .f32 := Host.exp (subf L (along (top L)))
def total : FVec Ideal S4x8x2048x1 .f32 := unit (Host.reduceAdd (exps L) (constant S_ .f32 0x00000000#32) reducesTo_S4x8x2048x2048_S4x8x2048_d3 h_S_)
def lse : FVec Ideal S4x8x2048 .f32 := shapeCast S4x8x2048 (addf (top L) (Host.log (total L))) shapeCasts_S4x8x2048x1_S4x8x2048
def weights : FVec Ideal S4x8x2048x2048 .f32 := Host.divf (exps L) (along (total L))

end Softmax

def output : FVec Ideal S512x8192 .f32 := shapeCast S512x8192 (transpose S8x64x4x2048 [1, 3, 0, 2]
  (Host.dotGeneral dot_S4x8x2048x2048_S4x8x2048x64_S4x8x2048x64_3_2_2_3_01_01 none (weights (logits z cu)) (vs z) : FVec Ideal S4x8x2048x64 .f32) transposes_S4x8x2048x64_S8x64x4x2048_1_3_0_2) shapeCasts_S8x64x4x2048_S512x8192
def lsePad : FVec Ideal S4x4x8x2048 .f32 :=
  pad S4x4x8x2048 ![0, 0, 0, 0] ![0, 0, 6, 0] ![0, 0, 0, 0] (shapeCast S4x4x2x2048 (lse (logits z cu)) shapeCasts_S4x8x2048_S4x4x2x2048) (sitofp .f32 (constantI S_ 32 0#32) : FVec Ideal S_ .f32) pads_S4x4x2x2048_S4x4x8x2048_000_000_060_000 h_S_
def gates : FVec Ideal S4x8x2048x128 .f32 := broadcastInDim S4x8x2048x128 ![0, 1, 2, 3] bcast_S4x8x2048x1_S4x8x2048x128_0_1_2_3 (unit cu)
def colsT : FVec Ideal S1536x8192 .bf16 := transpose S1536x8192 [1, 0] (cols z) transposes_S8192x1536_S1536x8192_1_0
def gradT (g : Vec Ideal S8192x512 .bf16) : FVec Ideal S512x8192 .bf16 := transpose S512x8192 [1, 0] g transposes_S8192x512_S512x8192_1_0

end Terms

/-! ## The arrays as the region finds them -/

variable (m : (ℓ : Loc nD τ sig) → Buf (Elt Ideal) ℓ) (c : Dev nD)

abbrev zArr : Vec Ideal S8192x4608 .bf16 := m ((c : Thread nD τ).loc main_arg0)
abbrev cArr : Vec Ideal S4x8x2048 .f32 := m ((c : Thread nD τ).loc main_arg1)
abbrev gArr : Vec Ideal S8192x512 .bf16 := m ((c : Thread nD τ).loc main_arg2)

set_option maxHeartbeats 4000000 in
theorem V_gates : V m c main_v49 = gates (cArr m c) := by
  unfold V V0
  simp only [hostOps0, hostOps0_1, hostOps0_2, hostOps0_3, hostOps0_4, List.flatten_cons, List.flatten_nil, List.append_nil, List.cons_append, List.nil_append, TRef.nullary, TRef.ternary, TRef.unary, TRef.binary, TRef.toBuf, TRef.ofBuf, cast_eq]
  after_results_simp
  rfl

set_option maxHeartbeats 4000000 in
theorem V_lse : V m c main_v47 = lsePad (zArr m c) (cArr m c) := by
  unfold V V0
  simp only [hostOps0, hostOps0_1, hostOps0_2, hostOps0_3, hostOps0_4, List.flatten_cons, List.flatten_nil, List.append_nil, List.cons_append, List.nil_append, TRef.nullary, TRef.ternary, TRef.unary, TRef.binary, TRef.toBuf, TRef.ofBuf, cast_eq]
  after_results_simp
  rfl

set_option maxHeartbeats 4000000 in
theorem V_output : V m c main_v45 = output (zArr m c) (cArr m c) := by
  unfold V V0
  simp only [hostOps0, hostOps0_1, hostOps0_2, hostOps0_3, hostOps0_4, List.flatten_cons, List.flatten_nil, List.append_nil, List.cons_append, List.nil_append, TRef.nullary, TRef.ternary, TRef.unary, TRef.binary, TRef.toBuf, TRef.ofBuf, cast_eq]
  after_results_simp
  rfl

set_option maxHeartbeats 4000000 in
theorem V_colsT : V m c main_v50 = colsT (zArr m c) := by
  unfold V V0
  simp only [hostOps0, hostOps0_1, hostOps0_2, hostOps0_3, hostOps0_4, List.flatten_cons, List.flatten_nil, List.append_nil, List.cons_append, List.nil_append, TRef.nullary, TRef.ternary, TRef.unary, TRef.binary, TRef.toBuf, TRef.ofBuf, cast_eq]
  after_results_simp
  rfl

set_option maxHeartbeats 4000000 in
theorem V_gradT : V m c main_v51 = gradT (gArr m c) := by
  unfold V V0
  simp only [hostOps0, hostOps0_1, hostOps0_2, hostOps0_3, hostOps0_4, List.flatten_cons, List.flatten_nil, List.append_nil, List.cons_append, List.nil_append, TRef.nullary, TRef.ternary, TRef.unary, TRef.binary, TRef.toBuf, TRef.ofBuf, cast_eq]
  after_results_simp
  rfl

end Cert.AttnIdeal.Host

end
-- ==== Proof.AttnHostMath.lean ====
/-
  The entries of the arrays the attention gradient's windows read, over the real numbers: the forward pass's output and row
  log-sums are the reference's, and the rest are layouts of the arguments.
-/
module

public import proofs.«01_k».proof.Proof.AttnHost

@[expose] public section

noncomputable section

namespace Cert.AttnIdeal.Host

open Cert.AttnIdeal Cert.AttnIdeal.Gen Cert.AttnReal
open Cert.AttnRefIdeal.Read (val_main_v5 val_main_v8 val_main_v11 val_main_v29_0 val_main_v30 val_main_v54 val_main_v58 val_main_v58_apply)
open Cert.AttnRefIdeal.Math (rowN colN colG maxima)
open Idealize.ShloMosaic hiding ix0 ix1 ix2 ix3 ix4 ix5 eq_ix2 eq_ix3 eq_ix4
open Idealize.ShloMosaic.ValueIdx

variable {z : Vec Ideal S8192x4608 .bf16} {cu : Vec Ideal S4x8x2048 .f32} {g : Vec Ideal S8192x512 .bf16} {X : Args}

/-! ## Queries, keys and values -/

theorem cols_apply (n : Fin 8192) (l : Fin 1536) : cols z (ix2 n l) = z (ix2 n ⟨1024 + l.val, by have := l.isLt; omega⟩) :=
  extractStridedSlice_apply _ _ _ _ _ fun a => match a with
    | ⟨0, _⟩ => (Nat.zero_add _).symm
    | ⟨1, _⟩ => rfl

theorem slice_cols (o : ℕ) (ho : o ≤ 1024) (h : S8192x1536.Slices ![0, o] S8192x512) (h' : S8192x4608.Slices ![0, 1024 + o] S8192x512) :
    (extractStridedSlice S8192x512 ![0, o] (cols z) h : Vec Ideal S8192x512 .bf16) = extractStridedSlice S8192x512 ![0, 1024 + o] z h' := by
  funext i
  obtain ⟨n, l, rfl⟩ : ∃ (n : Fin 8192) (l : Fin 512), i = ix2 n l := ⟨i 0, i 1, eq_ix2 (n0 := 8192) (n1 := 512) i⟩
  have hl := l.isLt
  refine (extractStridedSlice_apply _ _ _ _ (ix2 n ⟨o + l.val, by omega⟩) fun a => ?_).trans ((cols_apply _ _).trans (extractStridedSlice_apply _ _ _ _ _ fun a => ?_).symm)
  · match a with
    | ⟨0, _⟩ => exact (Nat.zero_add _).symm
    | ⟨1, _⟩ => rfl
  · match a with
    | ⟨0, _⟩ => exact (Nat.zero_add _).symm
    | ⟨1, _⟩ => exact (Nat.add_assoc _ _ _).symm

theorem qs_eq : qs z = val_main_v5 (F := Ideal) z := by
  unfold qs
  rw [slice_cols 0 (by omega) slices_S8192x1536_S8192x512_0_0 Cert.AttnRefIdeal.Gen.slices_S8192x4608_S8192x512_0_1024]
  rfl
theorem ks_eq : ks z = val_main_v8 (F := Ideal) z := by
  unfold ks
  rw [slice_cols 512 (by omega) slices_S8192x1536_S8192x512_0_512 Cert.AttnRefIdeal.Gen.slices_S8192x4608_S8192x512_0_1536]
  rfl
theorem vs_eq : vs z = val_main_v11 (F := Ideal) z := by
  unfold vs
  rw [slice_cols 1024 (by omega) slices_S8192x1536_S8192x512_0_1024 Cert.AttnRefIdeal.Gen.slices_S8192x4608_S8192x512_0_2048]
  rfl

theorem logits_eq : logits z cu = val_main_v29_0 (F := Ideal) z cu := by
  unfold logits
  rw [qs_eq, ks_eq]
  rfl

/-! ## The softmax -/

section Softmax
variable (H : Holds z cu g X) {M : Fin 4 → Fin 8 → Fin 2048 → ℝ} (hM : ∀ b h i, val_main_v30 (F := Ideal) z cu (ix3 b h i) = ((M b h i : ℝ) : EReal))
  (b : Fin 4) (h : Fin 8) (i j : Fin 2048) (d : Fin 64)

theorem unit_apply (x : FVec Ideal S4x8x2048 .f32) : unit x (ix4 b h i 0) = x (ix3 b h i) :=
  broadcastInDim_apply _ _ _ _ (ix3 b h i) fun a => by match a with
    | ⟨0, _⟩ => rfl
    | ⟨1, _⟩ => rfl
    | ⟨2, _⟩ => rfl
theorem along_apply (x : FVec Ideal S4x8x2048x1 .f32) : along x (ix4 b h i j) = x (ix4 b h i 0) :=
  broadcastInDim_apply _ _ _ _ (ix4 b h i 0) fun a => by match a with
    | ⟨0, _⟩ => rfl
    | ⟨1, _⟩ => rfl
    | ⟨2, _⟩ => rfl
    | ⟨3, _⟩ => rfl

theorem unit_cast (w : FVec Ideal S4x8x2048x1 .f32) : (shapeCast S4x8x2048 w shapeCasts_S4x8x2048x1_S4x8x2048 : FVec Ideal S4x8x2048 .f32) (ix3 b h i) = w (ix4 b h i 0) :=
  shapeCast_apply _ _ _ _ (by
    rw [Shape.rowMajor_val_four, Shape.rowMajor_val_three]
    exact Nat.mul_one _)

theorem log_real (M T : ℝ) (hT : 0 < T) : ((M : ℝ) : EReal) + Ideal.log (T : EReal) = ((M + Real.log T : ℝ) : EReal) := by
  rw [Ideal.log_coe, if_neg (not_le.2 hT), ← EReal.coe_add]

theorem add_log (x y : FVec Ideal S4x8x2048x1 .f32) (k : S4x8x2048x1.Idx) : addf x (Host.log y) k = (x k : EReal) + Ideal.log (y k) := rfl

section Rows
variable {L : FVec Ideal S4x8x2048x2048 .f32} (hL : ∀ b h i j, L (ix4 b h i j) = if j.val ≤ i.val then ((X.A b.val h.val i.val j.val : ℝ) : EReal) else ⊥)
  (hT : ∀ b h i, top L (ix4 b h i 0) = ((M b h i : ℝ) : EReal))
include hL hT

/-- The exponentials. -/
theorem exps_apply : exps L (ix4 b h i j) = ((X.E b.val h.val (M b h i) i.val j.val : ℝ) : EReal) := by
  have e : subf (F := Ideal) (φ := .f32) L (along (top L)) (ix4 b h i j) = (L (ix4 b h i j) : EReal) - ((M b h i : ℝ) : EReal) :=
    congrArg (fun y : EReal => (L (ix4 b h i j) : EReal) - y) ((along_apply b h i j _).trans (hT b h i))
  refine (Ideal.hostUnary_exp_def _).trans ?_
  rw [e, hL]
  unfold Args.E
  by_cases hj : j.val ≤ i.val
  · rw [if_pos hj, if_pos hj, ← EReal.coe_sub]
    exact Ideal.exp_coe _
  · rw [if_neg hj, if_neg hj, EReal.bot_sub]
    exact Ideal.exp_bot

/-- The rows' sums. -/
theorem total_apply : total L (ix4 b h i 0) = ((X.T b.val h.val (M b h i) i.val : ℝ) : EReal) := by
  have hE := fun j => exps_apply b h i j hL hT
  revert hE
  unfold total
  rw [unit_apply]
  generalize exps L = y
  intro hE
  simp only [Host.reduceAdd]
  rw [Ideal.hostReduceAdd_def, Ideal.hostReduceAdd_single reducesTo_S4x8x2048x2048_S4x8x2048_d3 (by decide)]
  rw [show (constant (F := Ideal) S_ .f32 0x00000000#32) (Shape.Idx.first h_S_) = (0 : EReal) from Cert.AttnRefIdeal.Math.zero_word, zero_add]
  refine sum_pos_coe _ (fun j => X.E b.val h.val (M b h i) i.val j) fun j => (congrArg y (funext fun a => Fin.ext ?_)).trans (hE j)
  match a with
  | ⟨0, _⟩ => rfl
  | ⟨1, _⟩ => rfl
  | ⟨2, _⟩ => rfl
  | ⟨3, _⟩ => rfl

/-- The rows' log-sums. -/
theorem lse_apply : lse L (ix3 b h i) = ((X.LS b.val h.val i.val : ℝ) : EReal) := by
  unfold lse
  rw [unit_cast, add_log, hT, total_apply b h i hL hT, log_real _ _ (T_pos X b.val h.val (M b h i) i.val i.isLt)]
  exact congrArg _ (log_T X b.val h.val (M b h i) i.val i.isLt)

/-- The weights. -/
theorem weights_apply : weights L (ix4 b h i j) = ((X.W b.val h.val i.val j.val : ℝ) : EReal) := by
  have h1 := exps_apply b h i j hL hT
  have h2 := total_apply b h i hL hT
  revert h1 h2
  unfold weights
  generalize exps L = x
  generalize total L = y
  intro h1 h2
  show Ideal.div (x (ix4 b h i j)) (along y (ix4 b h i j)) = _
  rw [along_apply, h1, h2, Cert.AttnRefIdeal.Math.div_real _ _ (T_pos X b.val h.val (M b h i) i.val i.isLt).ne']
  exact congrArg _ (E_div X b.val h.val (M b h i) i.val i.isLt j.val)

end Rows

include H in
theorem rows : ∀ b h i j, val_main_v29_0 (F := Ideal) z cu (ix4 b h i j) = if j.val ≤ i.val then ((X.A b.val h.val i.val j.val : ℝ) : EReal) else ⊥ :=
  fun b h i j => Cert.AttnRefIdeal.Math.v29_0 H b h i j

include hM in
theorem top_apply : top (val_main_v29_0 (F := Ideal) z cu) (ix4 b h i 0) = ((M b h i : ℝ) : EReal) :=
  (unit_apply b h i _).trans (hM b h i)

include H hM

/-- The weights are the reference's. -/
theorem weights_eq : weights (val_main_v29_0 (F := Ideal) z cu) = val_main_v54 (F := Ideal) z cu := by
  funext x
  obtain ⟨b, h, i, j, rfl⟩ : ∃ (b : Fin 4) (h : Fin 8) (i j : Fin 2048), x = ix4 b h i j := ⟨x 0, x 1, x 2, x 3, eq_ix4 (n0 := 4) (n1 := 8) (n2 := 2048) (n3 := 2048) x⟩
  exact (weights_apply b h i j (rows H) fun b h i => top_apply hM b h i).trans (Cert.AttnRefIdeal.Math.v54 H hM b h i j).symm

theorem v58 : val_main_v58 (F := Ideal) z cu (ix4 b h i d) = ((X.O b.val h.val i.val d : ℝ) : EReal) := by
  rw [val_main_v58_apply]
  refine sum_pos_coe _ (fun j => X.W b.val h.val i.val j * X.v b.val h.val j d) fun j => ?_
  refine (congrArg₂ (fun x y : EReal => x * y) ((congrArg _ (eq_ix4 _)).trans (Cert.AttnRefIdeal.Math.v54 H hM b h i j)) ((congrArg _ (eq_ix4 _)).trans (Cert.AttnRefIdeal.Math.v11 H b h j d))).trans ?_
  exact (EReal.coe_mul _ _).symm

end Softmax

/-! ## The arrays -/

section Arrays
variable (H : Holds z cu g X) (b : Fin 4) (h : Fin 8) (i : Fin 2048) (d : Fin 64)

def colO (h : Fin 8) (d : Fin 64) (o : ℕ) (ho : o ≤ 1024) : Fin 1536 := ⟨o + (64 * h.val + d.val), by have := h.isLt; have := d.isLt; omega⟩

theorem colsT_apply (l : Fin 1536) (n : Fin 8192) : colsT z (ix2 l n) = z (ix2 n ⟨1024 + l.val, by have := l.isLt; omega⟩) :=
  (transpose_apply _ _ _ _ (ix2 n l) fun a => by match a with
    | ⟨0, _⟩ => rfl
    | ⟨1, _⟩ => rfl).trans (cols_apply n l)

theorem gradT_apply (l : Fin 512) (n : Fin 8192) : gradT g (ix2 l n) = g (ix2 n l) :=
  transpose_apply _ _ _ _ (ix2 n l) fun a => by match a with
    | ⟨0, _⟩ => rfl
    | ⟨1, _⟩ => rfl

theorem gates_apply (l : Fin 128) : gates cu (ix4 b h i l) = cu (ix3 b h i) :=
  (broadcastInDim_apply _ _ _ _ (ix4 b h i 0) fun a => by match a with
    | ⟨0, _⟩ => rfl
    | ⟨1, _⟩ => rfl
    | ⟨2, _⟩ => rfl
    | ⟨3, _⟩ => rfl).trans (unit_apply b h i cu)

include H

theorem output_apply : output z cu (ix2 (colG h d) (rowN b i)) = ((X.O b.val h.val i.val d : ℝ) : EReal) := by
  obtain ⟨M, hM⟩ := maxima H
  have hh := h.isLt; have hd := d.isLt; have hb := b.isLt; have hi := i.isLt
  unfold output
  rw [logits_eq, weights_eq H hM, vs_eq]
  refine (shapeCast_apply _ _ _ (ix4 h d b i) ?_).trans ?_
  · rw [Shape.rowMajor_val_four, Shape.rowMajor_val_two]
    show ((h.val * 64 + d.val) * 4 + b.val) * 2048 + i.val = (64 * h.val + d.val) * 8192 + (2048 * b.val + i.val)
    omega
  refine (transpose_apply _ _ _ _ (ix4 b h i d) fun a => ?_).trans (v58 H hM b h i d)
  match a with
    | ⟨0, _⟩ => rfl
    | ⟨1, _⟩ => rfl
    | ⟨2, _⟩ => rfl
    | ⟨3, _⟩ => rfl

/-- The rows' log-sums, by pairs of heads, padded to eight rows. -/
theorem lsePad_apply (p : Fin 4) (e : Fin 2) (he : h.val = 2 * p.val + e.val) :
    lsePad z cu (ix4 b p ⟨e.val, by have := e.isLt; omega⟩ i) = ((X.LS b.val h.val i.val : ℝ) : EReal) := by
  obtain ⟨M, hM⟩ := maxima H
  unfold lsePad
  rw [logits_eq]
  refine (pad_apply_of_inside _ _ _ _ _ _ _ _ (ix4 b p e i) fun a => ?_).trans ?_
  · match a with
    | ⟨0, _⟩ => show b.val = 0 + b.val * (0 + 1); omega
    | ⟨1, _⟩ => show p.val = 0 + p.val * (0 + 1); omega
    | ⟨2, _⟩ => show e.val = 0 + e.val * (0 + 1); omega
    | ⟨3, _⟩ => show i.val = 0 + i.val * (0 + 1); omega
  refine (shapeCast_apply _ _ _ (ix3 b h i) ?_).trans (lse_apply b h i (rows H) fun b h i => top_apply hM b h i)
  rw [Shape.rowMajor_val_four, Shape.rowMajor_val_three]
  show (b.val * 8 + h.val) * 2048 + i.val = ((b.val * 4 + p.val) * 2 + e.val) * 2048 + i.val
  omega

end Arrays

end Cert.AttnIdeal.Host

end
-- ==== Proof.AttnTile.lean ====
/-
  The values of a block of the attention gradient over the extended reals, element by element: the masks, the products,
  the weights, the gradient of the logits, and the four running sums.
-/
module

public import proofs.«01_k».proof.Proof.AttnStep
public import Idealize.ShloMosaic.Lib.MatmulPlain
public import Idealize.ShloMosaic.Lib.IdealHost
public import Idealize.ShloMosaic.Lib.ValueIdx
public import Idealize.ShloMosaic.Lib.Pointwise.Reduce
public import Idealize.ShloMosaic.Lib.Pipeline.Value

@[expose] public section

noncomputable section

namespace Cert.AttnIdeal.Own

open Cert.AttnIdeal Cert.AttnIdeal.Gen
open Idealize.ShloMosaic hiding ix0 ix1 ix2 ix3 ix4 ix5
open Idealize.ShloMosaic.ValueIdx
open VecWindow

/-! ## Sums -/

/-- A finite sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Lane `64 h + d`: entry `d` of head `h` of a pair. -/
def lane (h : Fin 2) (d : Fin 64) : Fin 128 := ⟨64 * h.val + d.val, by have := h.isLt; have := d.isLt; omega⟩

/-- A sum over the lanes is a sum over the two heads and their entries. -/
theorem sum_lanes {M : Type} [AddCommMonoid M] (f : Fin 128 → M) : ∑ l, f l = ∑ h : Fin 2, ∑ d : Fin 64, f (lane h d) := by
  refine Eq.trans ?_ (Fintype.sum_prod_type (fun x : Fin 2 × Fin 64 => f (lane x.1 x.2)))
  refine (Fintype.sum_equiv (finProdFinEquiv (m := 2) (n := 64)) _ _ fun x => ?_).symm
  refine congrArg f (Fin.ext ?_)
  show 64 * x.1.val + x.2.val = x.2.val + 64 * x.1.val
  omega

/-- Masked to one head, it is the sum over that head's entries. -/
theorem sum_head (h : Fin 2) (f : Fin 2 → Fin 64 → EReal) : (∑ h' : Fin 2, ∑ d : Fin 64, if h' = h then f h' d else 0) = ∑ d, f h d := by
  rw [Finset.sum_eq_single h]
  · exact Finset.sum_congr rfl fun d _ => if_pos rfl
  · intro b _ hb
    exact Finset.sum_eq_zero fun d _ => if_neg hb
  · intro hb; exact absurd (Finset.mem_univ h) hb

theorem ofBits_scale : (FloatOps.ofBits .f32 0x3E000000#32 : Ideal .f32) = ((1 / 8 : ℝ) : EReal) := by
  show Ideal.ofBits .f32 0x3E000000#32 = _
  simp [Ideal.ofBits, Ideal.ieee]
  refine (EReal.coe_mul _ _).symm.trans ?_
  norm_num

theorem ofBits_zero : (FloatOps.ofBits .f32 0x00000000#32 : Ideal .f32) = 0 := Ideal.ofBits_zero_f32

theorem ofBits_zero16 : (FloatOps.ofBits .bf16 0x0000#16 : Ideal .bf16) = 0 := by
  show Ideal.ofBits .bf16 0x0000#16 = 0
  simp [Ideal.ofBits, Ideal.ieee]

/-! ## The masks -/

theorem below64 : ∀ h' : Fin 2, ∀ d : Fin 64, IntOp.cmpi .slt (BitVec.ofNat 32 (lane h' d).val) 64#32 = if h' = 0 then 1#1 else 0#1 := by decide +kernel
theorem above64 : ∀ h' : Fin 2, ∀ d : Fin 64, IntOp.cmpi .sge (BitVec.ofNat 32 (lane h' d).val) 64#32 = if h' = 1 then 1#1 else 0#1 := by decide +kernel

theorem fm_apply (h h' : Fin 2) (d : Fin 64) (c : Fin 256) : fm h (ix2 (lane h' d) c) = if h' = h then 1#1 else 0#1 := by
  have e := iota_single_apply .tc S128x256 32 (0 : Fin 2) iota_S128x256_d0_w32 (ix2 (lane h' d) c)
  match h with
  | 0 => rw [← below64 h' d]; exact congrArg (IntOp.cmpi .slt · 64#32) e
  | 1 => rw [← above64 h' d]; exact congrArg (IntOp.cmpi .sge · 64#32) e

theorem lm_apply (h h' : Fin 2) (d : Fin 64) (r : Fin 256) : lm h (ix2 r (lane h' d)) = if h' = h then 1#1 else 0#1 := by
  have e := iota_single_apply .tc S256x128 32 (1 : Fin 2) iota_S256x128_d1_w32 (ix2 r (lane h' d))
  match h with
  | 0 => rw [← below64 h' d]; exact congrArg (IntOp.cmpi .slt · 64#32) e
  | 1 => rw [← above64 h' d]; exact congrArg (IntOp.cmpi .sge · 64#32) e

theorem select_ite (p : Prop) [Decidable p] (a b : EReal) : Scalar.select (if p then 1#1 else 0#1) a b = if p then a else b := by
  by_cases h : p <;> simp [h, Scalar.select]

theorem selT_apply (h h' : Fin 2) (d : Fin 64) (c : Fin 256) (x : Vec Ideal S128x256 .bf16) :
    selT (F := Ideal) (fm h) x (ix2 (lane h' d) c) = if h' = h then x (ix2 (lane h' d) c) else (0 : EReal) := by
  have e : selT (F := Ideal) (fm h) x (ix2 (lane h' d) c)
      = Scalar.select (fm h (ix2 (lane h' d) c)) (x (ix2 (lane h' d) c)) (FloatOps.ofBits .bf16 0x0000#16 : Ideal .bf16) := by
    unfold selT; rw [shapeCast_self]; rfl
  rw [e, fm_apply, ofBits_zero16]
  exact select_ite _ _ _

theorem selR_apply (h h' : Fin 2) (d : Fin 64) (r : Fin 256) (x : Vec Ideal S256x128 .bf16) :
    selR (F := Ideal) (lm h) x (ix2 r (lane h' d)) = if h' = h then x (ix2 r (lane h' d)) else (0 : EReal) := by
  have e : selR (F := Ideal) (lm h) x (ix2 r (lane h' d))
      = Scalar.select (lm h (ix2 r (lane h' d))) (x (ix2 r (lane h' d))) (FloatOps.ofBits .bf16 0x0000#16 : Ideal .bf16) := rfl
  rw [e, lm_apply, ofBits_zero16]
  exact select_ite _ _ _

theorem later : ∀ r c : Fin 256, IntOp.cmpi .sge (BitVec.ofNat 32 c.val) (BitVec.ofNat 32 r.val) = if r.val ≤ c.val then 1#1 else 0#1 := by
  intro r c
  have e : ∀ n : Nat, n < 256 → (BitVec.ofNat 32 n).toInt = (n : Int) := fun n hn => by
    rw [BitVec.toInt_eq_toNat_of_lt (by rw [BitVec.toNat_ofNat]; omega), BitVec.toNat_ofNat]; omega
  simp only [IntOp.cmpi]
  rw [BitVec.sle_eq_decide, e _ r.isLt, e _ c.isLt]
  by_cases h : r.val ≤ c.val
  · rw [decide_eq_true (by omega), if_pos h]; rfl
  · rw [decide_eq_false (by omega), if_neg h]; rfl

theorem diag_apply (x : FVec Ideal S256x256 .f32) (r c : Fin 256) : diag (F := Ideal) x (ix2 r c) = if r.val ≤ c.val then x (ix2 r c) else (0 : EReal) := by
  have e : diag (F := Ideal) x (ix2 r c) = Scalar.select (IntOp.cmpi .sge (iota .tc S256x256 32 [1] iota_S256x256_d1_w32 (ix2 r c)) (iota .tc S256x256 32 [0] iota_S256x256_d0_w32 (ix2 r c)))
      (x (ix2 r c)) (FloatOps.ofBits .f32 0x00000000#32 : Ideal .f32) := rfl
  have e1 := iota_single_apply .tc S256x256 32 (1 : Fin 2) iota_S256x256_d1_w32 (ix2 r c)
  have e0 := iota_single_apply .tc S256x256 32 (0 : Fin 2) iota_S256x256_d0_w32 (ix2 r c)
  have e2 := congrArg₂ (IntOp.cmpi .sge) e1 e0
  rw [e, ofBits_zero]
  refine (congrArg (Scalar.select · (x (ix2 r c)) 0) (e2.trans (later r c))).trans ?_
  exact select_ite _ _ _

/-! ## The rows spread over a block -/

theorem down3_apply (x : Vec Ideal S1x1x256 .f32) (r c : Fin 256) : down3 (F := Ideal) x (ix2 r c) = x (ix3 0 0 c) := by
  unfold down3
  rw [broadcastTo_apply _ broadcasts_S1x256_S256x256 (ix2 r c) (ix2 0 c) (fun a => by match a with | ⟨0, _⟩ => rfl | ⟨1, _⟩ => rfl)]
  exact shapeCast_apply _ shapeCasts_S1x1x256_S1x256 (ix2 0 c) (ix3 0 0 c) (by rw [Shape.rowMajor_val_three, Shape.rowMajor_val_two]; simp)

theorem down4_apply (x : Vec Ideal S1x1x1x256 .f32) (r c : Fin 256) : down4 (F := Ideal) x (ix2 r c) = x (ix4 0 0 0 c) := by
  unfold down4
  rw [broadcastTo_apply _ broadcasts_S1x256_S256x256 (ix2 r c) (ix2 0 c) (fun a => by match a with | ⟨0, _⟩ => rfl | ⟨1, _⟩ => rfl)]
  exact shapeCast_apply _ shapeCasts_S1x1x1x256_S1x256 (ix2 0 c) (ix4 0 0 0 c) (by rw [Shape.rowMajor_val_four, Shape.rowMajor_val_two]; simp)

theorem twice_apply (x : Vec Ideal S1x1x256x128 .f32) (r c : Fin 256) : twice (F := Ideal) x (ix2 r c) = x (ix4 0 0 r ⟨c.val % 128, by omega⟩) := by
  unfold twice
  refine (concatenate_replicate_apply (t := S256x256) (s₁ := S256x128) (1 : Fin 2) 2 _ concatenates_S256x128_S256x128_S256x256_d1 rfl (ix2 r c) (ix2 r ⟨c.val % 128, by omega⟩) rfl
    (fun b hb => by match b with | ⟨0, _⟩ => rfl | ⟨1, _⟩ => exact absurd rfl hb)).trans ?_
  exact shapeCast_apply _ shapeCasts_S1x1x256x128_S256x128 (ix2 r ⟨c.val % 128, by omega⟩) (ix4 0 0 r ⟨c.val % 128, by omega⟩)
    (by rw [Shape.rowMajor_val_four, Shape.rowMajor_val_two]; simp)

/-! ## The products -/

theorem dotW (a : FVec Ideal S256x128 .bf16) (b : FVec Ideal S128x256 .bf16) (r c : Fin 256) :
    matmul dot_S256x128_S128x256_S256x256_1_0_0_1_n_n none a b (constant S256x256 .f32 0x00000000#32) (ix2 r c) = ∑ k : Fin 128, a (ix2 r k) * b (ix2 k c) := by
  have hdot : dot_S256x128_S128x256_S256x256_1_0_0_1_n_n = DotDims.plain 256 128 256 := rfl
  simp only [matmul, hdot, Ideal.matmul_plain_apply, constant_apply, Ideal.ofBits_zero_f32, zero_add]

theorem dotK (a : FVec Ideal S256x256 .bf16) (b : FVec Ideal S256x128 .bf16) (r : Fin 256) (c : Fin 128) :
    matmul dot_S256x256_S256x128_S256x128_1_0_0_1_n_n none a b (constant S256x128 .f32 0x00000000#32) (ix2 r c) = ∑ k : Fin 256, a (ix2 r k) * b (ix2 k c) := by
  have hdot : dot_S256x256_S256x128_S256x128_1_0_0_1_n_n = DotDims.plain 256 256 128 := rfl
  simp only [matmul, hdot, Ideal.matmul_plain_apply, constant_apply, Ideal.ofBits_zero_f32, zero_add]

theorem dotQ (a : FVec Ideal S128x256 .bf16) (b : FVec Ideal S256x256 .bf16) (r : Fin 128) (c : Fin 256) :
    matmul dot_S128x256_S256x256_S128x256_1_0_0_1_n_n none a b (constant S128x256 .f32 0x00000000#32) (ix2 r c) = ∑ k : Fin 256, a (ix2 r k) * b (ix2 k c) := by
  have hdot : dot_S128x256_S256x256_S128x256_1_0_0_1_n_n = DotDims.plain 128 256 256 := rfl
  simp only [matmul, hdot, Ideal.matmul_plain_apply, constant_apply, Ideal.ofBits_zero_f32, zero_add]

/-- The weights before the diagonal's mask. -/
theorem weights_apply (g : FVec Ideal S256x256 .f32 → FVec Ideal S256x256 .f32) (kp : Vec Ideal S256x128 .bf16) (fm : IVec S128x256 1)
    (ck : FVec Ideal S256x256 .f32) (qt : Vec Ideal S128x256 .bf16) (cq : Vec Ideal S1x1x256 .f32) (ls : Vec Ideal S1x1x1x256 .f32) :
    ∃ w : FVec Ideal S256x256 .f32, weights g kp fm ck qt cq ls = g w ∧ ∀ r c : Fin 256, w (ix2 r c)
      = Ideal.exp ((((∑ k : Fin 128, kp (ix2 r k) * selT fm qt (ix2 k c)) * ((1 / 8 : ℝ) : EReal) + cq (ix3 0 0 c)) - ck (ix2 r c)) - ls (ix4 0 0 0 c)) := by
  refine ⟨_, rfl, fun r c => ?_⟩
  rw [← dotW, ← ofBits_scale, ← down3_apply cq r c, ← down4_apply ls r c]
  rfl

theorem dlogits_apply (pr : FVec Ideal S256x256 .f32) (vp : Vec Ideal S256x128 .bf16) (fm : IVec S128x256 1) (dt : Vec Ideal S128x256 .bf16) (ot : Vec Ideal S128x256 .f32) (r c : Fin 256) :
    dlogits pr vp fm dt ot (ix2 r c)
      = pr (ix2 r c) * ((∑ k : Fin 128, vp (ix2 r k) * selT fm dt (ix2 k c)) - ∑ k : Fin 128, selT fm dt (ix2 k c) * ot (ix2 k c)) := by
  rw [← dotW]
  unfold dlogits
  have e : broadcastTo S256x256 (shapeCast S1x256 (multiReduction .add [0] S256
      (mulf (extf .f32 (selT fm dt) bitsLt_bf16_f32) (shapeCast S128x256 ot shapeCasts_S128x256_S128x256 : FVec Ideal S128x256 .f32)) 0x00000000#32 reduces_S128x256_S256 (.inl rfl) rfl)
      shapeCasts_S256_S1x256 : FVec Ideal S1x256 .f32) broadcasts_S1x256_S256x256 (ix2 r c) = ∑ k : Fin 128, selT fm dt (ix2 k c) * ot (ix2 k c) := by
    rw [broadcastTo_apply _ broadcasts_S1x256_S256x256 (ix2 r c) (ix2 0 c) (fun a => by match a with | ⟨0, _⟩ => rfl | ⟨1, _⟩ => rfl),
      shapeCast_apply _ shapeCasts_S256_S1x256 (ix2 0 c) (ix1 c) (by rw [Shape.rowMajor_val_one, Shape.rowMajor_val_two]; simp), shapeCast_self]
    exact Ideal.reduceAdd_r2_a0 _ _ _
  exact congrArg (fun y : EReal => pr (ix2 r c) * (_ - y)) e

theorem accS_apply (ds : FVec Ideal S256x256 .f32) (y : Vec Ideal S1x256x256 .f32) (z : Fin 1) (r c : Fin 256) :
    accS ds y (ix3 z r c) = y (ix3 z r c) + ds (ix2 r c) := by
  obtain rfl : z = 0 := Subsingleton.elim _ _
  unfold accS
  rw [shapeCast_apply _ shapeCasts_S256x256_S1x256x256 (ix3 0 r c) (ix2 r c) (by rw [Shape.rowMajor_val_three, Shape.rowMajor_val_two]; simp)]
  exact congrArg (fun x : EReal => x + ds (ix2 r c)) (shapeCast_apply y shapeCasts_S1x256x256_S256x256 (ix2 r c) (ix3 0 r c) (by rw [Shape.rowMajor_val_three, Shape.rowMajor_val_two]; simp))

theorem accV_apply (pr : FVec Ideal S256x256 .f32) (lm : IVec S256x128 1) (d : Vec Ideal S256x128 .bf16) (v : FVec Ideal S256x128 .f32) (r : Fin 256) (l : Fin 128) :
    accV pr lm d v (ix2 r l) = v (ix2 r l) + ∑ k : Fin 256, pr (ix2 r k) * selR lm d (ix2 k l) := by
  exact congrArg (fun y : EReal => v (ix2 r l) + y) (dotK (truncf .bf16 pr bitsLt_bf16_f32 : FVec Ideal S256x256 .bf16) (selR lm d) r l)

theorem accK_apply (ds : FVec Ideal S256x256 .f32) (lm : IVec S256x128 1) (q : Vec Ideal S256x128 .bf16) (k : FVec Ideal S256x128 .f32) (r : Fin 256) (l : Fin 128) :
    accK ds lm q k (ix2 r l) = k (ix2 r l) + (∑ c : Fin 256, ds (ix2 r c) * selR lm q (ix2 c l)) * ((1 / 8 : ℝ) : EReal) := by
  rw [← ofBits_scale]
  exact congrArg (fun y : EReal => k (ix2 r l) + y * FloatOps.ofBits (F := Ideal) .f32 0x3E000000#32) (dotK (truncf .bf16 ds bitsLt_bf16_f32 : FVec Ideal S256x256 .bf16) (selR lm q) r l)

theorem accQ_apply (ds : FVec Ideal S256x256 .f32) (kt : FVec Ideal S128x256 .bf16) (x : Vec Ideal S128x256 .f32) (l : Fin 128) (c : Fin 256) :
    accQ ds kt x (ix2 l c) = x (ix2 l c) + (∑ r : Fin 256, kt (ix2 l r) * ds (ix2 r c)) * ((1 / 8 : ℝ) : EReal) := by
  rw [← ofBits_scale]
  unfold accQ
  rw [shapeCast_self]
  exact congrArg (fun y : EReal => x (ix2 l c) + y * FloatOps.ofBits (F := Ideal) .f32 0x3E000000#32) (dotQ kt (truncf .bf16 ds bitsLt_bf16_f32 : FVec Ideal S256x256 .bf16) l c)

theorem negSum_apply (y : Vec Ideal S1x256x256 .f32) (r : Fin 256) (l : Fin 128) : negSum y (ix2 r l) = 0 - ∑ c : Fin 256, y (ix3 0 r c) := by
  unfold negSum
  rw [broadcastTo_apply _ broadcasts_S256x1_S256x128 (ix2 r l) (ix2 r 0) (fun a => by match a with | ⟨0, _⟩ => rfl | ⟨1, _⟩ => rfl), shapeCast_self]
  have e : (shapeCast S256x1 (multiReduction .add [1] S256 (shapeCast S256x256 y shapeCasts_S1x256x256_S256x256 : FVec Ideal S256x256 .f32) 0x00000000#32 reduces_S256x256_S256 (.inl rfl) rfl : FVec Ideal S256 .f32)
      shapeCasts_S256_S256x1 : FVec Ideal S256x1 .f32) (ix2 r 0) = ∑ c : Fin 256, y (ix3 0 r c) := by
    rw [shapeCast_apply _ shapeCasts_S256_S256x1 (ix2 r 0) (ix1 r) (by rw [Shape.rowMajor_val_one, Shape.rowMajor_val_two]; simp)]
    refine (Ideal.reduceAdd_r2_a1 _ _ _).trans (Finset.sum_congr rfl fun c _ => ?_)
    exact shapeCast_apply y shapeCasts_S1x256x256_S256x256 (ix2 r c) (ix3 0 r c) (by rw [Shape.rowMajor_val_three, Shape.rowMajor_val_two]; simp)
  refine (congrArg (fun x : EReal => FloatOps.ofBits (F := Ideal) .f32 0x00000000#32 - x) e).trans ?_
  rw [ofBits_zero]

end Cert.AttnIdeal.Own

end
-- ==== Proof.AttnPoint.lean ====
/-
  A point of the attention gradient over the reals: from real arrays of a pair of heads, what the point's blocks leave in
  the four running sums.
-/
module

public import proofs.«01_k».proof.Proof.AttnTile

@[expose] public section

noncomputable section

namespace Cert.AttnIdeal.Own

open Cert.AttnIdeal Cert.AttnIdeal.Gen
open Idealize.ShloMosaic hiding ix0 ix1 ix2 ix3 ix4 ix5
open Idealize.ShloMosaic.ValueIdx
open VecWindow

/-- The real arrays of a pair of heads on one sequence: queries, keys, values, the output's gradient, the output, the gate
    sums and the rows' log-sums. -/
structure Data where
  q : Fin 2 → ℕ → Fin 64 → ℝ
  k : Fin 2 → ℕ → Fin 64 → ℝ
  v : Fin 2 → ℕ → Fin 64 → ℝ
  g : Fin 2 → ℕ → Fin 64 → ℝ
  o : Fin 2 → ℕ → Fin 64 → ℝ
  c : Fin 2 → ℕ → ℝ
  ls : Fin 2 → ℕ → ℝ

namespace Data
variable (D : Data)

/-- The logit of query `i` at key `j`. -/
def logit (h : Fin 2) (i j : ℕ) : ℝ := (∑ d, D.k h j d * D.q h i d) * (1 / 8) + D.c h i - D.c h j
/-- The weight of key `j` at query `i`. -/
def w (h : Fin 2) (i j : ℕ) : ℝ := if j ≤ i then Real.exp (D.logit h i j - D.ls h i) else 0
/-- The gradient of the logit. -/
def dl (h : Fin 2) (i j : ℕ) : ℝ := D.w h i j * ((∑ d, D.v h j d * D.g h i d) - ∑ d, D.g h i d * D.o h i d)

end Data

/-- The point's blocks hold the real arrays: those of keys at key block `j`, the others whole. -/
structure Reads (P : Pt Ideal) (p : Fin 4) (j : Fin 8) (D : Data) : Prop where
  k : ∀ h d (r : Fin 256), P.k (ix2 r (lane h d)) = ((D.k h (256 * j.val + r.val) d : ℝ) : EReal)
  v : ∀ h d (r : Fin 256), P.v (ix2 r (lane h d)) = ((D.v h (256 * j.val + r.val) d : ℝ) : EReal)
  kt : ∀ h d (r : Fin 256), P.kt (ix2 (lane h d) r) = ((D.k h (256 * j.val + r.val) d : ℝ) : EReal)
  q : ∀ h d (i : Fin 2048), P.q (ix2 i (lane h d)) = ((D.q h i.val d : ℝ) : EReal)
  qt : ∀ h d (i : Fin 2048), P.qt (ix2 (lane h d) i) = ((D.q h i.val d : ℝ) : EReal)
  d : ∀ h d (i : Fin 2048), P.d (ix2 i (lane h d)) = ((D.g h i.val d : ℝ) : EReal)
  dt : ∀ h d (i : Fin 2048), P.dt (ix2 (lane h d) i) = ((D.g h i.val d : ℝ) : EReal)
  ot : ∀ h d (i : Fin 2048), P.ot (ix2 (lane h d) i) = ((D.o h i.val d : ℝ) : EReal)
  ls : ∀ (h : Fin 2) (i : Fin 2048), P.ls (ix4 0 0 ⟨h.val, by have := h.isLt; omega⟩ i) = ((D.ls h i.val : ℝ) : EReal)
  ck : ∀ (h : Fin 2) (r : Fin 256) (l : Fin 128), P.ck (ix4 0 h r l) = ((D.c h (256 * j.val + r.val) : ℝ) : EReal)
  cq : ∀ (h : Fin 2) (i : Fin 2048), P.cq (ix3 0 ⟨2 * p.val + h.val, by have := h.isLt; have := p.isLt; omega⟩ i) = ((D.c h i.val : ℝ) : EReal)

/-! ## Windows -/

/-- Row `256 b + c` of the sequence. -/
def row (b : Fin 8) (c : Fin 256) : Fin 2048 := ⟨256 * b.val + c.val, by have := b.isLt; have := c.isLt; omega⟩

section Windows
variable {e : EltTy} (b : Fin 8)

theorem window_oQ (x : Vec Ideal S128x2048 e) (l : Fin 128) (c : Fin 256) : window x (oQ b) S128x256.size (oQ_inb b) (ix2 l c) = x (ix2 l (row b c)) :=
  congrArg x (funext fun a => Fin.ext (by
    match a with
    | ⟨0, _⟩ => show 0 + 1 * l.val = l.val; omega
    | ⟨1, _⟩ => show 256 * b.val + 1 * c.val = 256 * b.val + c.val; omega))
theorem window_oR (x : Vec Ideal S2048x128 e) (l : Fin 128) (c : Fin 256) : window x (oR b) S256x128.size (oR_inb b) (ix2 c l) = x (ix2 (row b c) l) :=
  congrArg x (funext fun a => Fin.ext (by
    match a with
    | ⟨0, _⟩ => show 256 * b.val + 1 * c.val = 256 * b.val + c.val; omega
    | ⟨1, _⟩ => show 0 + 1 * l.val = l.val; omega))
theorem window_oC (x : Vec Ideal S1x8x2048 e) (p : Fin 4) (h : Fin 2) (c : Fin 256) :
    window x (oC p h b) S1x1x256.size (oC_inb p h b) (ix3 0 0 c) = x (ix3 0 ⟨2 * p.val + h.val, by have := h.isLt; have := p.isLt; omega⟩ (row b c)) :=
  congrArg x (funext fun a => Fin.ext (by
    match a with
    | ⟨0, _⟩ => rfl
    | ⟨1, _⟩ => show 2 * p.val + h.val + 1 * 0 = 2 * p.val + h.val; omega
    | ⟨2, _⟩ => show 256 * b.val + 1 * c.val = 256 * b.val + c.val; omega))
theorem window_oL (x : Vec Ideal S1x1x8x2048 e) (h : Fin 2) (c : Fin 256) :
    window x (oL h b) S1x1x1x256.size (oL_inb h b) (ix4 0 0 0 c) = x (ix4 0 0 ⟨h.val, by have := h.isLt; omega⟩ (row b c)) :=
  congrArg x (funext fun a => Fin.ext (by
    match a with
    | ⟨0, _⟩ => rfl
    | ⟨1, _⟩ => rfl
    | ⟨2, _⟩ => show h.val + 1 * 0 = h.val; omega
    | ⟨3, _⟩ => show 256 * b.val + 1 * c.val = 256 * b.val + c.val; omega))
theorem window_oK (x : Vec Ideal S1x2x256x128 e) (h : Fin 2) (r : Fin 256) (l : Fin 128) :
    window x (oK h) S1x1x256x128.size (oK_inb h) (ix4 0 0 r l) = x (ix4 0 h r l) :=
  congrArg x (funext fun a => Fin.ext (by
    match a with
    | ⟨0, _⟩ => rfl
    | ⟨1, _⟩ => show h.val + 1 * 0 = h.val; omega
    | ⟨2, _⟩ => show 0 + 1 * r.val = r.val; omega
    | ⟨3, _⟩ => show 0 + 1 * l.val = l.val; omega))
theorem window_oS (x : Vec Ideal S2x256x256 e) (h : Fin 2) (inb : ∀ a, oS h a + S1x256x256.size a ≤ S2x256x256.size a) (z : Fin 1) (r c : Fin 256) :
    window x (oS h) S1x256x256.size inb (ix3 z r c) = x (ix3 h r c) :=
  congrArg x (funext fun a => Fin.ext (by
    match a with
    | ⟨0, _⟩ => show h.val + 1 * z.val = h.val; omega
    | ⟨1, _⟩ => show 0 + 1 * r.val = r.val; omega
    | ⟨2, _⟩ => show 0 + 1 * c.val = c.val; omega))

theorem put_oQ (x : Vec Ideal S128x2048 e) (w : Vec Ideal S128x256 e) (l : Fin 128) (i : Fin 2048) :
    put x (oQ b) S128x256.size w (ix2 l i) = if i.val / 256 = b.val then w (ix2 l ⟨i.val % 256, by omega⟩) else x (ix2 l i) := by
  unfold put
  by_cases hb : i.val / 256 = b.val
  · have h : ∀ a, oQ b a ≤ ((ix2 l i : S128x2048.Idx) a).val ∧ ((ix2 l i : S128x2048.Idx) a).val < oQ b a + S128x256.size a := fun a => by
      match a with
      | ⟨0, _⟩ => show 0 ≤ l.val ∧ l.val < 0 + 128; omega
      | ⟨1, _⟩ => show 256 * b.val ≤ i.val ∧ i.val < 256 * b.val + 256; omega
    rw [if_pos hb, dif_pos h]
    refine congrArg w (funext fun a => Fin.ext ?_)
    match a with
    | ⟨0, _⟩ => show l.val - 0 = l.val; omega
    | ⟨1, _⟩ => show i.val - 256 * b.val = i.val % 256; omega
  · rw [if_neg hb, dif_neg (fun h => hb (by
      have h1 : 256 * b.val ≤ i.val ∧ i.val < 256 * b.val + 256 := h 1
      omega))]

theorem put_oS (x : Vec Ideal S2x256x256 e) (w : Vec Ideal S1x256x256 e) (h h' : Fin 2) (r c : Fin 256) :
    put x (oS h) S1x256x256.size w (ix3 h' r c) = if h' = h then w (ix3 0 r c) else x (ix3 h' r c) := by
  unfold put
  by_cases hb : h' = h
  · subst hb
    have hh : ∀ a, oS h' a ≤ ((ix3 h' r c : S2x256x256.Idx) a).val ∧ ((ix3 h' r c : S2x256x256.Idx) a).val < oS h' a + S1x256x256.size a := fun a => by
      match a with
      | ⟨0, _⟩ => show h'.val ≤ h'.val ∧ h'.val < h'.val + 1; omega
      | ⟨1, _⟩ => show 0 ≤ r.val ∧ r.val < 0 + 256; omega
      | ⟨2, _⟩ => show 0 ≤ c.val ∧ c.val < 0 + 256; omega
    rw [if_pos rfl, dif_pos hh]
    refine congrArg w (funext fun a => Fin.ext ?_)
    match a with
    | ⟨0, _⟩ => show h'.val - h'.val = 0; omega
    | ⟨1, _⟩ => show r.val - 0 = r.val; omega
    | ⟨2, _⟩ => show c.val - 0 = c.val; omega
  · rw [if_neg hb, dif_neg (fun hh => hb (Fin.ext (by
      have h1 : h.val ≤ h'.val ∧ h'.val < h.val + 1 := hh 0
      omega)))]

end Windows

/-! ## A block -/

section Block
variable {P : Pt Ideal} {p : Fin 4} {j : Fin 8} {D : Data} (hP : Reads P p j D) (h : Fin 2)
  {g : FVec Ideal S256x256 .f32 → FVec Ideal S256x256 .f32} {b : Fin 8} (hg : (g = diag ∧ b = j) ∨ (g = id ∧ j.val < b.val))
include hP

/-- A product masked to one head is the sum over that head's entries. -/
theorem masked (a b : Fin 2 → Fin 64 → ℝ) (x y : Fin 128 → EReal) (hx : ∀ h' d, x (lane h' d) = (a h' d : EReal))
    (hy : ∀ h' d, y (lane h' d) = if h' = h then (b h' d : EReal) else 0) :
    ∑ l, x l * y l = ((∑ d, a h d * b h d : ℝ) : EReal) := by
  rw [sum_lanes, coe_sum]
  have : ∀ h' d, x (lane h' d) * y (lane h' d) = if h' = h then ((a h' d * b h' d : ℝ) : EReal) else 0 := fun h' d => by
    rw [hx, hy, mul_ite, mul_zero, ← EReal.coe_mul]
  simp only [this]
  exact sum_head h (fun h' d => ((a h' d * b h' d : ℝ) : EReal))

include hg in
theorem prB_apply (r c : Fin 256) : prB P p h g b (ix2 r c) = ((D.w h (256 * b.val + c.val) (256 * j.val + r.val) : ℝ) : EReal) := by
  obtain ⟨w, e, hw⟩ := weights_apply g P.k (fm h) (twice (window P.ck (oK h) S1x1x256x128.size (oK_inb h))) (window P.qt (oQ b) S128x256.size (oQ_inb b))
    (window P.cq (oC p h b) S1x1x256.size (oC_inb p h b)) (window P.ls (oL h b) S1x1x1x256.size (oL_inb h b))
  have hv : w (ix2 r c) = ((Real.exp (D.logit h (256 * b.val + c.val) (256 * j.val + r.val) - D.ls h (256 * b.val + c.val)) : ℝ) : EReal) := by
    rw [hw, masked hP h (fun h' d => D.k h' (256 * j.val + r.val) d) (fun h' d => D.q h' (256 * b.val + c.val) d) (fun l => P.k (ix2 r l)) _ (fun h' d => hP.k h' d r)
      (fun h' d => by rw [selT_apply, window_oQ, hP.qt]; rfl)]
    rw [twice_apply, window_oK, window_oC, window_oL, hP.ck, hP.cq, hP.ls, ← EReal.coe_mul, ← EReal.coe_add, ← EReal.coe_sub, ← EReal.coe_sub, Ideal.exp_coe]
    rfl
  unfold prB Data.w
  rw [e]
  rcases hg with ⟨rfl, rfl⟩ | ⟨rfl, hlt⟩
  · rw [diag_apply, hv]
    by_cases hrc : r.val ≤ c.val
    · rw [if_pos hrc, if_pos (by omega)]
    · rw [if_neg hrc, if_neg (by omega), EReal.coe_zero]
  · have := r.isLt
    rw [if_pos (by omega)]
    exact hv

include hg in
theorem dsB_apply (r c : Fin 256) : dsB P p h g b (ix2 r c) = ((D.dl h (256 * b.val + c.val) (256 * j.val + r.val) : ℝ) : EReal) := by
  unfold dsB
  rw [dlogits_apply, prB_apply hP h hg]
  rw [masked hP h (fun h' d => D.v h' (256 * j.val + r.val) d) (fun h' d => D.g h' (256 * b.val + c.val) d) (fun l => P.v (ix2 r l)) _ (fun h' d => hP.v h' d r)
      (fun h' d => by rw [selT_apply, window_oQ, hP.dt]; rfl)]
  have e : ∑ l : Fin 128, selT (F := Ideal) (fm h) (window P.dt (oQ b) S128x256.size (oQ_inb b)) (ix2 l c) * window P.ot (oQ b) S128x256.size (oQ_inb b) (ix2 l c)
      = ((∑ d, D.g h (256 * b.val + c.val) d * D.o h (256 * b.val + c.val) d : ℝ) : EReal) := by
    simp only [mul_comm _ (window P.ot _ _ _ _)]
    rw [masked hP h (fun h' d => D.o h' (256 * b.val + c.val) d) (fun h' d => D.g h' (256 * b.val + c.val) d) (fun l => window P.ot (oQ b) S128x256.size (oQ_inb b) (ix2 l c)) _
      (fun h' d => by rw [window_oQ, hP.ot]; rfl) (fun h' d => by rw [selT_apply, window_oQ, hP.dt]; rfl)]
    exact congrArg _ (Finset.sum_congr rfl fun d _ => mul_comm _ _)
  rw [e, ← EReal.coe_sub, ← EReal.coe_mul]
  rfl

end Block

/-! ## The running sums -/

/-- The state holds the real sums. -/
structure Is (s : St Ideal) (K V : Fin 2 → Fin 256 → Fin 64 → ℝ) (X : Fin 2 → Fin 64 → ℕ → ℝ) (Y : Fin 2 → Fin 256 → Fin 256 → ℝ) : Prop where
  k : ∀ h r d, s.cr.1 (ix2 r (lane h d)) = ((K h r d : ℝ) : EReal)
  v : ∀ h r d, s.cr.2 (ix2 r (lane h d)) = ((V h r d : ℝ) : EReal)
  x : ∀ h d (i : Fin 2048), s.X (ix2 (lane h d) i) = ((X h d i.val : ℝ) : EReal)
  y : ∀ h r c, s.Y (ix3 h r c) = ((Y h r c : ℝ) : EReal)

namespace Data
variable (D : Data) (j b : ℕ) (h : Fin 2)

/-- What query block `b` adds to the key gradient, the value gradient, the query gradient (at row `i` of the block) and the
    logit gradients' sum, for key block `j`. -/
def kb (r : Fin 256) (d : Fin 64) : ℝ := (∑ c : Fin 256, D.dl h (256 * b + c.val) (256 * j + r.val) * D.q h (256 * b + c.val) d) * (1 / 8)
def vb (r : Fin 256) (d : Fin 64) : ℝ := ∑ c : Fin 256, D.w h (256 * b + c.val) (256 * j + r.val) * D.g h (256 * b + c.val) d
def xb (d : Fin 64) (i : ℕ) : ℝ := (∑ r : Fin 256, D.k h (256 * j + r.val) d * D.dl h i (256 * j + r.val)) * (1 / 8)
def yb (r c : Fin 256) : ℝ := D.dl h (256 * b + c.val) (256 * j + r.val)

end Data

section Steps
variable {P : Pt Ideal} {p : Fin 4} {j : Fin 8} {D : Data} (hP : Reads P p j D)
  {g : FVec Ideal S256x256 .f32 → FVec Ideal S256x256 .f32} {b : Fin 8} (hg : (g = diag ∧ b = j) ∨ (g = id ∧ j.val < b.val))
  {s : St Ideal} {K V : Fin 2 → Fin 256 → Fin 64 → ℝ} {X : Fin 2 → Fin 64 → ℕ → ℝ} {Y : Fin 2 → Fin 256 → Fin 256 → ℝ}
include hP hg

theorem half_is (h : Fin 2) (hs : Is s K V X Y) : Is (halfStep P p h g b s)
    (fun h' r d => K h' r d + if h' = h then D.kb j b h r d else 0)
    (fun h' r d => V h' r d + if h' = h then D.vb j b h r d else 0)
    (fun h' d i => X h' d i + if h' = h ∧ i / 256 = b.val then D.xb j h d i else 0)
    (fun h' r c => Y h' r c + if h' = h then D.yb j b h r c else 0) where
  k := fun h' r d => by
    show accK (dsB P p h g b) (lm h) (window P.q (oR b) S256x128.size (oR_inb b)) s.cr.1 (ix2 r (lane h' d)) = _
    rw [accK_apply, hs.k]
    simp only [selR_apply, dsB_apply hP h hg, window_oR, hP.q]
    by_cases hh : h' = h
    · subst hh
      simp only [if_true]
      rw [EReal.coe_add]
      unfold Data.kb
      rw [EReal.coe_mul, coe_sum]
      refine congrArg (fun y : EReal => (K h' r d : EReal) + y * ((1 / 8 : ℝ) : EReal)) (Finset.sum_congr rfl fun c _ => ?_)
      rw [EReal.coe_mul]
      exact congrArg (fun y : EReal => (D.dl h' (256 * b.val + c.val) (256 * j.val + r.val) : EReal) * y) ((window_oR b P.q (lane h' d) c).trans (hP.q h' d _))
    · simp only [if_neg hh, mul_zero, Finset.sum_const_zero, zero_mul, add_zero]
  v := fun h' r d => by
    show accV (prB P p h g b) (lm h) (window P.d (oR b) S256x128.size (oR_inb b)) s.cr.2 (ix2 r (lane h' d)) = _
    rw [accV_apply, hs.v]
    simp only [selR_apply, prB_apply hP h hg, window_oR, hP.d]
    by_cases hh : h' = h
    · subst hh
      simp only [if_true]
      rw [EReal.coe_add]
      unfold Data.vb
      rw [coe_sum]
      refine congrArg (fun y : EReal => (V h' r d : EReal) + y) (Finset.sum_congr rfl fun c _ => ?_)
      rw [EReal.coe_mul]
      exact congrArg (fun y : EReal => (D.w h' (256 * b.val + c.val) (256 * j.val + r.val) : EReal) * y) ((window_oR b P.d (lane h' d) c).trans (hP.d h' d _))
    · simp only [if_neg hh, mul_zero, Finset.sum_const_zero, add_zero]
  x := fun h' d i => by
    show put s.X (oQ b) S128x256.size (accQ (dsB P p h g b) (selT (fm h) P.kt) (window s.X (oQ b) S128x256.size (oQ_inb b))) (ix2 (lane h' d) i) = _
    rw [put_oQ]
    by_cases hb : i.val / 256 = b.val
    · have hi : row b ⟨i.val % 256, by omega⟩ = i := Fin.ext (by show 256 * b.val + i.val % 256 = i.val; omega)
      have hi' : 256 * b.val + i.val % 256 = i.val := by omega
      rw [if_pos hb, accQ_apply, window_oQ, hi, hs.x]
      simp only [selT_apply, dsB_apply hP h hg, hP.kt, hi']
      by_cases hh : h' = h
      · subst hh
        simp only [if_true, hb, and_self]
        rw [EReal.coe_add]
        unfold Data.xb
        rw [EReal.coe_mul, coe_sum]
        simp only [EReal.coe_mul]
      · simp only [if_neg hh, hh, false_and, if_false, zero_mul, Finset.sum_const_zero, add_zero]
    · rw [if_neg hb, hs.x]
      simp only [hb, and_false, if_false, add_zero]
  y := fun h' r c => by
    show put s.Y (oS h) S1x256x256.size (accS (dsB P p h g b) (window s.Y (oS h) S1x256x256.size (oS_inb h))) (ix3 h' r c) = _
    rw [put_oS]
    by_cases hh : h' = h
    · subst hh
      rw [if_pos rfl, accS_apply, window_oS, dsB_apply hP h' hg, hs.y, ← EReal.coe_add, if_pos rfl]
      rfl
    · rw [if_neg hh, hs.y, if_neg hh, add_zero]

theorem blk_is (hs : Is s K V X Y) : Is (blkStep P p g b s)
    (fun h r d => K h r d + D.kb j b h r d) (fun h r d => V h r d + D.vb j b h r d)
    (fun h d i => X h d i + if i / 256 = b.val then D.xb j h d i else 0) (fun h r c => Y h r c + D.yb j b h r c) := by
  have two : ∀ h : Fin 2, h = 0 ∨ h = 1 := by decide
  have H := half_is hP hg 1 (half_is hP hg 0 hs)
  unfold blkStep
  refine ⟨fun h r d => (H.k h r d).trans (congrArg _ ?_), fun h r d => (H.v h r d).trans (congrArg _ ?_), fun h d i => (H.x h d i).trans (congrArg _ ?_), fun h r c => (H.y h r c).trans (congrArg _ ?_)⟩ <;>
    rcases two h with rfl | rfl <;> simp

end Steps

section Point
variable {P : Pt Ideal} {p : Fin 4} {j : Fin 8} {D : Data} (hP : Reads P p j D)
  {s : St Ideal} {X : Fin 2 → Fin 64 → ℕ → ℝ}
include hP

theorem upto_is (n : ℕ) (hn : j.val + n ≤ 7)
    (hs : Is s (fun h r d => D.kb j j h r d) (fun h r d => D.vb j j h r d) (fun h d i => X h d i + if i / 256 = j.val then D.xb j h d i else 0) (fun h r c => D.yb j j h r c)) :
    Is (upto P p j n s) (fun h r d => ∑ b ∈ Finset.Ico j.val (j.val + n + 1), D.kb j b h r d) (fun h r d => ∑ b ∈ Finset.Ico j.val (j.val + n + 1), D.vb j b h r d)
      (fun h d i => X h d i + if j.val ≤ i / 256 ∧ i / 256 ≤ j.val + n then D.xb j h d i else 0) (fun h r c => ∑ b ∈ Finset.Ico j.val (j.val + n + 1), D.yb j b h r c) := by
  induction n with
  | zero =>
    refine ⟨fun h r d => (hs.k h r d).trans (congrArg _ ?_), fun h r d => (hs.v h r d).trans (congrArg _ ?_), fun h d i => (hs.x h d i).trans (congrArg _ ?_), fun h r c => (hs.y h r c).trans (congrArg _ ?_)⟩
    · simp
    · simp
    · refine congrArg (fun y : ℝ => X h d i.val + y) (if_congr ?_ rfl rfl)
      omega
    · simp
  | succ n ih =>
    have hb : (blkAt j (n + 1)).val = j.val + n + 1 := by show min (j.val + (n + 1)) 7 = _; omega
    have H := blk_is (g := id) (b := blkAt j (n + 1)) hP (Or.inr ⟨rfl, by omega⟩) (ih (by omega))
    refine ⟨fun h r d => (H.k h r d).trans (congrArg _ ?_), fun h r d => (H.v h r d).trans (congrArg _ ?_), fun h d i => (H.x h d i).trans (congrArg _ ?_), fun h r c => (H.y h r c).trans (congrArg _ ?_)⟩
    · rw [hb]; exact (Finset.sum_Ico_succ_top (by omega) _).symm
    · rw [hb]; exact (Finset.sum_Ico_succ_top (by omega) _).symm
    · rw [hb]
      by_cases h1 : i.val / 256 = j.val + n + 1
      · rw [if_pos h1, if_neg (by omega), if_pos (by omega), add_zero]
      · rw [if_neg h1, add_zero]
        refine congrArg (fun y : ℝ => X h d i.val + y) (if_congr ?_ rfl rfl)
        omega
    · rw [hb]; exact (Finset.sum_Ico_succ_top (by omega) _).symm

/-- What a point leaves: the sums over its blocks of queries, which run from the diagonal to the end. -/
theorem point_is (X0 : Vec Ideal S128x2048 .f32) (h0 : ∀ h d (i : Fin 2048), X0 (ix2 (lane h d) i) = ((X h d i.val : ℝ) : EReal)) :
    Is (point P p j X0) (fun h r d => ∑ b ∈ Finset.Ico j.val 8, D.kb j b h r d) (fun h r d => ∑ b ∈ Finset.Ico j.val 8, D.vb j b h r d)
      (fun h d i => X h d i + if j.val ≤ i / 256 ∧ i / 256 ≤ 7 then D.xb j h d i else 0) (fun h r c => ∑ b ∈ Finset.Ico j.val 8, D.yb j b h r c) := by
  have hj := j.isLt
  have start : Is { cr := (zeroC (F := Ideal), zeroC (F := Ideal)), X := X0, Y := zeroS (F := Ideal) } (fun _ _ _ => 0) (fun _ _ _ => 0) X (fun _ _ _ => 0) :=
    ⟨fun h r d => ofBits_zero, fun h r d => ofBits_zero, h0, fun h r c => by
      show zeroS (F := Ideal) (ix3 h r c) = _
      unfold zeroS
      rw [shapeCast_self]
      exact ofBits_zero⟩
  have H := upto_is (X := X) (s := blkStep P p diag j { cr := (zeroC (F := Ideal), zeroC (F := Ideal)), X := X0, Y := zeroS (F := Ideal) }) hP (7 - j.val) (by omega) (by
    have H := blk_is (g := diag) (b := j) hP (Or.inl ⟨rfl, rfl⟩) start
    simpa only [zero_add] using H)
  rw [show j.val + (7 - j.val) + 1 = 8 from by omega, show j.val + (7 - j.val) = 7 from by omega] at H
  exact H

end Point

end Cert.AttnIdeal.Own

end
-- ==== Proof.AttnPass.lean ====
/-
  The points of the attention gradient over the reals: the query gradient's sum followed from key block to key block, and
  what the points leave in the four results.
-/
module

public import proofs.«01_k».proof.Proof.AttnPoint
public import proofs.«01_k».proof.Proof.AttnRun

@[expose] public section

noncomputable section

namespace Cert.AttnIdeal.Own

open Cert.AttnIdeal Cert.AttnIdeal.Gen
open Idealize.ShloMosaic hiding ix0 ix1 ix2 ix3 ix4 ix5
open Idealize.ShloMosaic.ValueIdx
open VecWindow

theorem t_lt (t : Fin cfg0.N) : t.val < 128 := lt_of_lt_of_eq t.isLt (show cfg0.N = 128 from N_0)

theorem jOf_val : ∀ t : Fin cfg0.N, (jOf (grid0.coords t)).val = t.val % 8 := by decide +kernel
theorem pOf_val : ∀ t : Fin cfg0.N, (pOf (grid0.coords t)).val = t.val / 8 % 4 := by decide +kernel

/-- The query gradient's sum over the first `n` key blocks. -/
def Data.xs (D : Data) (n : ℕ) (h : Fin 2) (d : Fin 64) (i : ℕ) : ℝ :=
  ∑ j ∈ Finset.range n, if j ≤ i / 256 ∧ i / 256 ≤ 7 then D.xb j h d i else 0

variable (m : (ℓ : Loc nD τ sig) → Buf (Elt Ideal) ℓ) (c : Dev nD) (D : ℕ → Data)
  (hR : ∀ t : Fin cfg0.N, Reads (pt m c t) (pOf (grid0.coords t)) (jOf (grid0.coords t)) (D (t.val / 8)))
include hR

/-- A point's results, if the sum it starts from is that of the key blocks before. -/
theorem step_is (t : Fin cfg0.N) (X : Vec Ideal S128x2048 .f32)
    (hX : t.val % 8 ≠ 0 → ∀ h d (i : Fin 2048), X (ix2 (lane h d) i) = (((D (t.val / 8)).xs (t.val % 8) h d i.val : ℝ) : EReal)) :
    Is (step m c t X) (fun h r d => ∑ b ∈ Finset.Ico (t.val % 8) 8, (D (t.val / 8)).kb (t.val % 8) b h r d)
      (fun h r d => ∑ b ∈ Finset.Ico (t.val % 8) 8, (D (t.val / 8)).vb (t.val % 8) b h r d)
      ((D (t.val / 8)).xs (t.val % 8 + 1)) (fun h r q => ∑ b ∈ Finset.Ico (t.val % 8) 8, (D (t.val / 8)).yb (t.val % 8) b h r q) := by
  have H := point_is (X := (D (t.val / 8)).xs (t.val % 8)) (hR t) (openX (jOf (grid0.coords t)) X) (fun h d i => by
    unfold openX
    by_cases hj : jOf (grid0.coords t) = 0
    · have h0 : t.val % 8 = 0 := by rw [← jOf_val, hj]; rfl
      rw [if_pos hj, h0]
      show zeroQ (F := Ideal) (ix2 (lane h d) i) = _
      unfold zeroQ
      rw [shapeCast_self]
      exact ofBits_zero
    · rw [if_neg hj]
      exact hX (fun h0 => hj (Fin.ext ((jOf_val t).trans h0))) h d i)
  rw [jOf_val] at H
  refine ⟨H.k, H.v, fun h d i => (H.x h d i).trans (congrArg _ ?_), H.y⟩
  exact (Finset.sum_range_succ _ _).symm

/-- The query gradient's sum before a point that is not the first of its pair. -/
theorem accX_is (n : ℕ) (hn : n < 128) (h8 : n % 8 ≠ 0) : ∀ h d (i : Fin 2048),
    accX m c n (ix2 (lane h d) i) = (((D (n / 8)).xs (n % 8) h d i.val : ℝ) : EReal) := by
  induction n with
  | zero => exact absurd rfl h8
  | succ n ih =>
    intro h d i
    have hN : n < cfg0.N := lt_of_lt_of_eq (by omega) (show 128 = cfg0.N from N_0.symm)
    have e := accX_succ m c ⟨n, hN⟩
    have H := step_is m c D hR ⟨n, hN⟩ (accX m c n) (fun h0 => ih (by omega) h0)
    have e1 : (n + 1) / 8 = n / 8 := by omega
    have e2 : (n + 1) % 8 = n % 8 + 1 := by omega
    rw [e1, e2]
    exact (congrFun e _).trans (H.x h d i)

/-- What point `t` leaves. -/
theorem res_is (t : Fin cfg0.N) :
    Is (res m c t) (fun h r d => ∑ b ∈ Finset.Ico (t.val % 8) 8, (D (t.val / 8)).kb (t.val % 8) b h r d)
      (fun h r d => ∑ b ∈ Finset.Ico (t.val % 8) 8, (D (t.val / 8)).vb (t.val % 8) b h r d)
      ((D (t.val / 8)).xs (t.val % 8 + 1)) (fun h r q => ∑ b ∈ Finset.Ico (t.val % 8) 8, (D (t.val / 8)).yb (t.val % 8) b h r q) :=
  step_is m c D hR t _ fun h0 => accX_is m c D hR t.val (t_lt t) h0

theorem left11_apply (t : Fin cfg0.N) (h : Fin 2) (r : Fin 256) (d : Fin 64) :
    left11 m c t (ix2 r (lane h d)) = ((∑ b ∈ Finset.Ico (t.val % 8) 8, (D (t.val / 8)).kb (t.val % 8) b h r d : ℝ) : EReal) := (res_is m c D hR t).k h r d
theorem left12_apply (t : Fin cfg0.N) (h : Fin 2) (r : Fin 256) (d : Fin 64) :
    left12 m c t (ix2 r (lane h d)) = ((∑ b ∈ Finset.Ico (t.val % 8) 8, (D (t.val / 8)).vb (t.val % 8) b h r d : ℝ) : EReal) := (res_is m c D hR t).v h r d
theorem left13_apply (t : Fin cfg0.N) (h : Fin 2) (d : Fin 64) (i : Fin 2048) :
    left13 m c t (ix2 (lane h d) i) = (((D (t.val / 8)).xs (t.val % 8 + 1) h d i.val : ℝ) : EReal) := (res_is m c D hR t).x h d i

omit hR in
theorem laneWord : ∀ p : Fin 4, ∀ h : Fin 2, ∀ l : Fin 128,
    IntOp.cmpi .eq (BitVec.ofNat 32 l.val) (Scalar.addi (Scalar.muli 2#32 (BitVec.ofNat 32 p.val)) (BitVec.ofNat 32 h.val)) = if l.val = 2 * p.val + h.val then 1#1 else 0#1 := by decide +kernel

omit hR in
theorem isLane_apply (p : Fin 4) (h : Fin 2) (r : Fin 256) (l : Fin 128) :
    isLane (BitVec.ofNat 32 p.val) (BitVec.ofNat 32 h.val) (ix2 r l) = if l.val = 2 * p.val + h.val then 1#1 else 0#1 := by
  rw [← laneWord p h l]
  exact congrArg (IntOp.cmpi .eq · _) (iota_single_apply .tc S256x128 32 (1 : Fin 2) iota_S256x128_d1_w32 (ix2 r l))

omit hR in
theorem laneSums_apply (p : Fin 4) (y0 y1 : Vec Ideal S1x256x256 .f32) (r : Fin 256) (l : Fin 128) :
    laneSums (BitVec.ofNat 32 p.val) y0 y1 (ix4 0 0 r l)
      = if l.val = 2 * p.val + 1 then negSum y1 (ix2 r l) else if l.val = 2 * p.val then negSum y0 (ix2 r l) else (0 : EReal) := by
  unfold laneSums
  rw [shapeCast_apply _ shapeCasts_S256x128_S1x1x256x128 (ix4 0 0 r l) (ix2 r l) (by rw [Shape.rowMajor_val_two, Shape.rowMajor_val_four]; simp)]
  show Scalar.select (isLane _ (BitVec.ofNat 32 (1 : Fin 2).val) (ix2 r l)) (negSum y1 (ix2 r l)) (Scalar.select (isLane _ (BitVec.ofNat 32 (0 : Fin 2).val) (ix2 r l)) (negSum y0 (ix2 r l)) (zeroC (F := Ideal) (ix2 r l))) = _
  rw [isLane_apply, isLane_apply, select_ite, select_ite]
  have z : zeroC (F := Ideal) (ix2 r l) = 0 := ofBits_zero
  rw [z]
  rfl

/-- Minus the sum of a head's logit gradients over the queries, on the head's lane; zero on the others. -/
theorem left14_apply (t : Fin cfg0.N) (r : Fin 256) (l : Fin 128) :
    left14 m c t (ix4 0 0 r l) = ((∑ h : Fin 2, (if l.val = 2 * (t.val / 8 % 4) + h.val then - ∑ q : Fin 256, ∑ b ∈ Finset.Ico (t.val % 8) 8, (D (t.val / 8)).yb (t.val % 8) b h r q else 0) : ℝ) : EReal) := by
  unfold left14
  have e : ∀ h : Fin 2, ∀ inb, negSum (window (res m c t).Y (oS h) S1x256x256.size inb) (ix2 r l)
      = ((- ∑ q : Fin 256, ∑ b ∈ Finset.Ico (t.val % 8) 8, (D (t.val / 8)).yb (t.val % 8) b h r q : ℝ) : EReal) := fun h inb => by
    rw [negSum_apply]
    rw [Finset.sum_congr rfl fun q _ => (window_oS (res m c t).Y h inb 0 r q).trans ((res_is m c D hR t).y h r q)]
    rw [← coe_sum, ← EReal.coe_zero, ← EReal.coe_sub, zero_sub]
  refine (laneSums_apply (grid0.coords t 1) _ _ r l).trans ?_
  have hp : (grid0.coords t 1).val = t.val / 8 % 4 := pOf_val t
  rw [hp, Fin.sum_univ_two]
  have e0 := e 0 inb_S2x256x256_S1x256x256_0_0_0
  have e1 := e 1 inb_S2x256x256_S1x256x256_1_0_0
  by_cases h1 : l.val = 2 * (t.val / 8 % 4) + 1
  · rw [if_pos h1, if_neg (by simp; omega), if_pos (by simpa using h1), zero_add]
    exact e1
  · rw [if_neg h1]
    by_cases h0 : l.val = 2 * (t.val / 8 % 4)
    · rw [if_pos h0, if_pos (by simpa using h0), if_neg (by simpa using h1), add_zero]
      exact e0
    · rw [if_neg h0, if_neg (by simpa using h0), if_neg (by simpa using h1), add_zero, EReal.coe_zero]

end Cert.AttnIdeal.Own

end
-- ==== Proof.AttnReads.lean ====
/-
  What each grid point of the attention gradient reads: the blocks of its eleven input windows, over the real numbers.
-/
module

public import proofs.«01_k».proof.Proof.AttnHostMath
public import proofs.«01_k».proof.Proof.AttnPass

@[expose] public section

noncomputable section

namespace Cert.AttnIdeal.Reads

open Cert.AttnIdeal Cert.AttnIdeal.Gen Cert.AttnIdeal.Own Cert.AttnIdeal.Host Cert.AttnReal
open Cert.AttnRefIdeal.Math (rowN colN colG)
open Idealize.ShloMosaic hiding ix0 ix1 ix2 ix3 ix4 ix5 eq_ix2 eq_ix3 eq_ix4
open Idealize.ShloMosaic.TcCoe Idealize.SL.Sem
open Idealize.ShloMosaic.ValueIdx

/-! ## The blocks' places -/

theorem index0 : ∀ t : Fin cfg0.N, win0_0.index t 0 = t.val / 32 * 8 + t.val % 8 ∧ win0_0.index t 1 = 12 + t.val / 8 % 4 :=
  (by decide +kernel : ∀ t : Fin grid0.N, win0_0.index t 0 = t.val / 32 * 8 + t.val % 8 ∧ win0_0.index t 1 = 12 + t.val / 8 % 4)
theorem index1 : ∀ t : Fin cfg0.N, win0_1.index t 0 = t.val / 32 * 8 + t.val % 8 ∧ win0_1.index t 1 = 16 + t.val / 8 % 4 :=
  (by decide +kernel : ∀ t : Fin grid0.N, win0_1.index t 0 = t.val / 32 * 8 + t.val % 8 ∧ win0_1.index t 1 = 16 + t.val / 8 % 4)
theorem index2 : ∀ t : Fin cfg0.N, win0_2.index t 0 = 4 + t.val / 8 % 4 ∧ win0_2.index t 1 = t.val / 32 * 8 + t.val % 8 :=
  (by decide +kernel : ∀ t : Fin grid0.N, win0_2.index t 0 = 4 + t.val / 8 % 4 ∧ win0_2.index t 1 = t.val / 32 * 8 + t.val % 8)
theorem index3 : ∀ t : Fin cfg0.N, win0_3.index t 0 = t.val / 32 ∧ win0_3.index t 1 = 8 + t.val / 8 % 4 :=
  (by decide +kernel : ∀ t : Fin grid0.N, win0_3.index t 0 = t.val / 32 ∧ win0_3.index t 1 = 8 + t.val / 8 % 4)
theorem index4 : ∀ t : Fin cfg0.N, win0_4.index t 0 = t.val / 8 % 4 ∧ win0_4.index t 1 = t.val / 32 :=
  (by decide +kernel : ∀ t : Fin grid0.N, win0_4.index t 0 = t.val / 8 % 4 ∧ win0_4.index t 1 = t.val / 32)
theorem index5 : ∀ t : Fin cfg0.N, win0_5.index t 0 = t.val / 32 ∧ win0_5.index t 1 = t.val / 8 % 4 :=
  (by decide +kernel : ∀ t : Fin grid0.N, win0_5.index t 0 = t.val / 32 ∧ win0_5.index t 1 = t.val / 8 % 4)
theorem index6 : ∀ t : Fin cfg0.N, win0_6.index t 0 = t.val / 8 % 4 ∧ win0_6.index t 1 = t.val / 32 :=
  (by decide +kernel : ∀ t : Fin grid0.N, win0_6.index t 0 = t.val / 8 % 4 ∧ win0_6.index t 1 = t.val / 32)
theorem index7 : ∀ t : Fin cfg0.N, win0_7.index t 0 = t.val / 8 % 4 ∧ win0_7.index t 1 = t.val / 32 :=
  (by decide +kernel : ∀ t : Fin grid0.N, win0_7.index t 0 = t.val / 8 % 4 ∧ win0_7.index t 1 = t.val / 32)
theorem index8 : ∀ t : Fin cfg0.N, win0_8.index t 0 = t.val / 32 ∧ win0_8.index t 1 = t.val / 8 % 4 ∧ win0_8.index t 2 = 0 ∧ win0_8.index t 3 = 0 :=
  (by decide +kernel : ∀ t : Fin grid0.N, win0_8.index t 0 = t.val / 32 ∧ win0_8.index t 1 = t.val / 8 % 4 ∧ win0_8.index t 2 = 0 ∧ win0_8.index t 3 = 0)
theorem index9 : ∀ t : Fin cfg0.N, win0_9.index t 0 = t.val / 32 ∧ win0_9.index t 1 = t.val / 8 % 4 ∧ win0_9.index t 2 = t.val % 8 ∧ win0_9.index t 3 = 0 :=
  (by decide +kernel : ∀ t : Fin grid0.N, win0_9.index t 0 = t.val / 32 ∧ win0_9.index t 1 = t.val / 8 % 4 ∧ win0_9.index t 2 = t.val % 8 ∧ win0_9.index t 3 = 0)
theorem index10 : ∀ t : Fin cfg0.N, win0_10.index t 0 = t.val / 32 ∧ win0_10.index t 1 = 0 ∧ win0_10.index t 2 = 0 :=
  (by decide +kernel : ∀ t : Fin grid0.N, win0_10.index t 0 = t.val / 32 ∧ win0_10.index t 1 = 0 ∧ win0_10.index t 2 = 0)

/-- Sequence and pair of a grid point, and the heads of the pair. -/
def seqOf (t : Fin cfg0.N) : Fin 4 := ⟨t.val / 32, by have := t_lt t; omega⟩
def pairOf (t : Fin cfg0.N) : Fin 4 := ⟨t.val / 8 % 4, by omega⟩
def blkOf (t : Fin cfg0.N) : Fin 8 := ⟨t.val % 8, by omega⟩
def headOf (p : Fin 4) (h : Fin 2) : Fin 8 := ⟨2 * p.val + h.val, by have := p.isLt; have := h.isLt; omega⟩
def keyAt (j : Fin 8) (r : Fin 256) : Fin 2048 := ⟨256 * j.val + r.val, by have := j.isLt; have := r.isLt; omega⟩

/-- The real arrays of pair `p` on sequence `b`. -/
def pairData (X : Args) (b p : ℕ) : Data where
  q h := X.q b (2 * p + h.val)
  k h := X.k b (2 * p + h.val)
  v h := X.v b (2 * p + h.val)
  g h := X.go b (2 * p + h.val)
  o h := X.O b (2 * p + h.val)
  c h := X.c b (2 * p + h.val)
  ls h := X.LS b (2 * p + h.val)

/-! ## The blocks -/

section Blocks
variable (m : (ℓ : Loc nD τ sig) → Buf (Elt Ideal) ℓ) (c : Dev nD) (t : Fin cfg0.N) (h : Fin 2) (d : Fin 64) (r : Fin 256) (i : Fin 2048) (l : Fin 128)

theorem blk_k : (iblk m c 0 t : Vec Ideal S256x128 .bf16) (ix2 r (lane h d)) = zArr m c (ix2 (rowN (seqOf t) (keyAt (blkOf t) r)) (colN 1536 (by omega) (headOf (pairOf t) h) d)) := by
  obtain ⟨h0, h1⟩ := index0 t
  have e0 := h.isLt; have e1 := d.isLt; have e2 := r.isLt
  unfold iblk
  rw [View.read_apply]
  show V m c main_arg0 _ = _
  rw [V_main_arg0]
  refine (congrArg _ (funext fun a => Fin.ext ?_)).trans rfl
  match a with
  | ⟨0, _⟩ => show win0_0.index t 0 * 256 + 1 * r.val = 2048 * (t.val / 32) + (256 * (t.val % 8) + r.val); rw [h0]; omega
  | ⟨1, _⟩ => show win0_0.index t 1 * 128 + 1 * (64 * h.val + d.val) = 1536 + (64 * (2 * (t.val / 8 % 4) + h.val) + d.val); rw [h1]; omega

theorem blk_v : (iblk m c 1 t : Vec Ideal S256x128 .bf16) (ix2 r (lane h d)) = zArr m c (ix2 (rowN (seqOf t) (keyAt (blkOf t) r)) (colN 2048 (by omega) (headOf (pairOf t) h) d)) := by
  obtain ⟨h0, h1⟩ := index1 t
  have e0 := h.isLt; have e1 := d.isLt; have e2 := r.isLt
  unfold iblk
  rw [View.read_apply]
  show V m c main_arg0 _ = _
  rw [V_main_arg0]
  refine (congrArg _ (funext fun a => Fin.ext ?_)).trans rfl
  match a with
  | ⟨0, _⟩ => show win0_1.index t 0 * 256 + 1 * r.val = 2048 * (t.val / 32) + (256 * (t.val % 8) + r.val); rw [h0]; omega
  | ⟨1, _⟩ => show win0_1.index t 1 * 128 + 1 * (64 * h.val + d.val) = 2048 + (64 * (2 * (t.val / 8 % 4) + h.val) + d.val); rw [h1]; omega

theorem blk_kt : (iblk m c 2 t : Vec Ideal S128x256 .bf16) (ix2 (lane h d) r) = zArr m c (ix2 (rowN (seqOf t) (keyAt (blkOf t) r)) (colN 1536 (by omega) (headOf (pairOf t) h) d)) := by
  obtain ⟨h0, h1⟩ := index2 t
  have e0 := h.isLt; have e1 := d.isLt; have e2 := r.isLt
  unfold iblk
  rw [View.read_apply]
  show V m c main_v50 _ = _
  rw [V_colsT]
  refine (congrArg _ (funext fun a => Fin.ext ?_)).trans ((colsT_apply (colO (headOf (pairOf t) h) d 512 (by omega)) (rowN (seqOf t) (keyAt (blkOf t) r))).trans (congrArg _ (congrArg _ (Fin.ext (by show 1024 + (512 + _) = 1536 + _; omega)))))
  match a with
  | ⟨0, _⟩ => show win0_2.index t 0 * 128 + 1 * (64 * h.val + d.val) = 512 + (64 * (2 * (t.val / 8 % 4) + h.val) + d.val); rw [h0]; omega
  | ⟨1, _⟩ => show win0_2.index t 1 * 256 + 1 * r.val = 2048 * (t.val / 32) + (256 * (t.val % 8) + r.val); rw [h1]; omega

theorem blk_q : (iblk m c 3 t : Vec Ideal S2048x128 .bf16) (ix2 i (lane h d)) = zArr m c (ix2 (rowN (seqOf t) i) (colN 1024 (by omega) (headOf (pairOf t) h) d)) := by
  obtain ⟨h0, h1⟩ := index3 t
  have e0 := h.isLt; have e1 := d.isLt; have e3 := i.isLt
  unfold iblk
  rw [View.read_apply]
  show V m c main_arg0 _ = _
  rw [V_main_arg0]
  refine (congrArg _ (funext fun a => Fin.ext ?_)).trans rfl
  match a with
  | ⟨0, _⟩ => show win0_3.index t 0 * 2048 + 1 * i.val = 2048 * (t.val / 32) + i.val; rw [h0]; omega
  | ⟨1, _⟩ => show win0_3.index t 1 * 128 + 1 * (64 * h.val + d.val) = 1024 + (64 * (2 * (t.val / 8 % 4) + h.val) + d.val); rw [h1]; omega

theorem blk_qt : (iblk m c 4 t : Vec Ideal S128x2048 .bf16) (ix2 (lane h d) i) = zArr m c (ix2 (rowN (seqOf t) i) (colN 1024 (by omega) (headOf (pairOf t) h) d)) := by
  obtain ⟨h0, h1⟩ := index4 t
  have e0 := h.isLt; have e1 := d.isLt; have e3 := i.isLt
  unfold iblk
  rw [View.read_apply]
  show V m c main_v50 _ = _
  rw [V_colsT]
  refine (congrArg _ (funext fun a => Fin.ext ?_)).trans ((colsT_apply (colO (headOf (pairOf t) h) d 0 (by omega)) (rowN (seqOf t) i)).trans (congrArg _ (congrArg _ (Fin.ext (by show 1024 + (0 + _) = 1024 + _; omega)))))
  match a with
  | ⟨0, _⟩ => show win0_4.index t 0 * 128 + 1 * (64 * h.val + d.val) = 0 + (64 * (2 * (t.val / 8 % 4) + h.val) + d.val); rw [h0]; omega
  | ⟨1, _⟩ => show win0_4.index t 1 * 2048 + 1 * i.val = 2048 * (t.val / 32) + i.val; rw [h1]; omega

theorem blk_d : (iblk m c 5 t : Vec Ideal S2048x128 .bf16) (ix2 i (lane h d)) = gArr m c (ix2 (rowN (seqOf t) i) (colG (headOf (pairOf t) h) d)) := by
  obtain ⟨h0, h1⟩ := index5 t
  have e0 := h.isLt; have e1 := d.isLt; have e3 := i.isLt
  unfold iblk
  rw [View.read_apply]
  show V m c main_arg2 _ = _
  rw [V_main_arg2]
  refine (congrArg _ (funext fun a => Fin.ext ?_)).trans rfl
  match a with
  | ⟨0, _⟩ => show win0_5.index t 0 * 2048 + 1 * i.val = 2048 * (t.val / 32) + i.val; rw [h0]; omega
  | ⟨1, _⟩ => show win0_5.index t 1 * 128 + 1 * (64 * h.val + d.val) = 64 * (2 * (t.val / 8 % 4) + h.val) + d.val; rw [h1]; omega

theorem blk_dt : (iblk m c 6 t : Vec Ideal S128x2048 .bf16) (ix2 (lane h d) i) = gArr m c (ix2 (rowN (seqOf t) i) (colG (headOf (pairOf t) h) d)) := by
  obtain ⟨h0, h1⟩ := index6 t
  have e0 := h.isLt; have e1 := d.isLt; have e3 := i.isLt
  unfold iblk
  rw [View.read_apply]
  show V m c main_v51 _ = _
  rw [V_gradT]
  refine (congrArg _ (funext fun a => Fin.ext ?_)).trans (gradT_apply (colG (headOf (pairOf t) h) d) (rowN (seqOf t) i))
  match a with
  | ⟨0, _⟩ => show win0_6.index t 0 * 128 + 1 * (64 * h.val + d.val) = 64 * (2 * (t.val / 8 % 4) + h.val) + d.val; rw [h0]; omega
  | ⟨1, _⟩ => show win0_6.index t 1 * 2048 + 1 * i.val = 2048 * (t.val / 32) + i.val; rw [h1]; omega

theorem blk_ot : (iblk m c 7 t : Vec Ideal S128x2048 .f32) (ix2 (lane h d) i) = output (zArr m c) (cArr m c) (ix2 (colG (headOf (pairOf t) h) d) (rowN (seqOf t) i)) := by
  obtain ⟨h0, h1⟩ := index7 t
  have e0 := h.isLt; have e1 := d.isLt; have e3 := i.isLt
  unfold iblk
  rw [View.read_apply]
  show V m c main_v45 _ = _
  rw [V_output]
  refine (congrArg _ (funext fun a => Fin.ext ?_)).trans rfl
  match a with
  | ⟨0, _⟩ => show win0_7.index t 0 * 128 + 1 * (64 * h.val + d.val) = 64 * (2 * (t.val / 8 % 4) + h.val) + d.val; rw [h0]; omega
  | ⟨1, _⟩ => show win0_7.index t 1 * 2048 + 1 * i.val = 2048 * (t.val / 32) + i.val; rw [h1]; omega

theorem blk_ls : (iblk m c 8 t : Vec Ideal S1x1x8x2048 .f32) (ix4 0 0 ⟨h.val, by have := h.isLt; omega⟩ i) = lsePad (zArr m c) (cArr m c) (ix4 (seqOf t) (pairOf t) ⟨h.val, by have := h.isLt; omega⟩ i) := by
  obtain ⟨h0, h1, h2, h3⟩ := index8 t
  have e0 := h.isLt; have e3 := i.isLt
  unfold iblk
  rw [View.read_apply]
  show V m c main_v47 _ = _
  rw [V_lse]
  refine (congrArg _ (funext fun a => Fin.ext ?_)).trans rfl
  match a with
  | ⟨0, _⟩ => show win0_8.index t 0 * 1 + 1 * 0 = t.val / 32; rw [h0]; omega
  | ⟨1, _⟩ => show win0_8.index t 1 * 1 + 1 * 0 = t.val / 8 % 4; rw [h1]; omega
  | ⟨2, _⟩ => show win0_8.index t 2 * 8 + 1 * h.val = h.val; rw [h2]; omega
  | ⟨3, _⟩ => show win0_8.index t 3 * 2048 + 1 * i.val = i.val; rw [h3]; omega

theorem blk_ck : (iblk m c 9 t : Vec Ideal S1x2x256x128 .f32) (ix4 0 h r l) = cArr m c (ix3 (seqOf t) (headOf (pairOf t) h) (keyAt (blkOf t) r)) := by
  obtain ⟨h0, h1, h2, h3⟩ := index9 t
  have e0 := h.isLt; have e2 := r.isLt
  unfold iblk
  rw [View.read_apply]
  show V m c main_v49 _ = _
  rw [V_gates]
  refine (congrArg _ (funext fun a => Fin.ext ?_)).trans (gates_apply (seqOf t) (headOf (pairOf t) h) (keyAt (blkOf t) r) l)
  match a with
  | ⟨0, _⟩ => show win0_9.index t 0 * 1 + 1 * 0 = t.val / 32; rw [h0]; omega
  | ⟨1, _⟩ => show win0_9.index t 1 * 2 + 1 * h.val = 2 * (t.val / 8 % 4) + h.val; rw [h1]; omega
  | ⟨2, _⟩ => show win0_9.index t 2 * 256 + 1 * r.val = (256 * (t.val % 8) + r.val); rw [h2]; omega
  | ⟨3, _⟩ => show win0_9.index t 3 * 128 + 1 * l.val = l.val; rw [h3]; omega

theorem blk_cq : (iblk m c 10 t : Vec Ideal S1x8x2048 .f32) (ix3 0 (headOf (pairOf t) h) i) = cArr m c (ix3 (seqOf t) (headOf (pairOf t) h) i) := by
  obtain ⟨h0, h1, h2⟩ := index10 t
  have e0 := h.isLt; have e3 := i.isLt
  unfold iblk
  rw [View.read_apply]
  show V m c main_arg1 _ = _
  rw [V_main_arg1]
  refine (congrArg _ (funext fun a => Fin.ext ?_)).trans rfl
  match a with
  | ⟨0, _⟩ => show win0_10.index t 0 * 1 + 1 * 0 = t.val / 32; rw [h0]; omega
  | ⟨1, _⟩ => show win0_10.index t 1 * 8 + 1 * (2 * (t.val / 8 % 4) + h.val) = 2 * (t.val / 8 % 4) + h.val; rw [h1]; omega
  | ⟨2, _⟩ => show win0_10.index t 2 * 2048 + 1 * i.val = i.val; rw [h2]; omega

end Blocks

/-! ## All of a point's blocks -/

set_option maxHeartbeats 4000000 in
theorem reads (m : (ℓ : Loc nD τ sig) → Buf (Elt Ideal) ℓ) (c : Dev nD) {X : Args} (H : Holds (zArr m c) (cArr m c) (gArr m c) X) (t : Fin cfg0.N) :
    Reads (pt m c t) (pOf (grid0.coords t)) (jOf (grid0.coords t)) (pairData X (t.val / 8 / 4) (t.val / 8 % 4)) := by
  have hp : pOf (grid0.coords t) = pairOf t := Fin.ext (pOf_val t)
  have hj : jOf (grid0.coords t) = blkOf t := Fin.ext (jOf_val t)
  have hb : t.val / 8 / 4 = t.val / 32 := by omega
  rw [hp, hj, hb]
  exact {
    k := fun h d r => (blk_k m c t h d r).trans (H.z _ _)
    v := fun h d r => (blk_v m c t h d r).trans (H.z _ _)
    kt := fun h d r => (blk_kt m c t h d r).trans (H.z _ _)
    q := fun h d i => (blk_q m c t h d i).trans (H.z _ _)
    qt := fun h d i => (blk_qt m c t h d i).trans (H.z _ _)
    d := fun h d i => (blk_d m c t h d i).trans (H.g _ _)
    dt := fun h d i => (blk_dt m c t h d i).trans (H.g _ _)
    ot := fun h d i => (blk_ot m c t h d i).trans (output_apply H (seqOf t) (headOf (pairOf t) h) i d)
    ls := fun h i => (blk_ls m c t h i).trans (lsePad_apply H (seqOf t) (headOf (pairOf t) h) i (pairOf t) h rfl)
    ck := fun h r l => (blk_ck m c t h r l).trans (H.c _ _ _)
    cq := fun h i => (blk_cq m c t h i).trans (H.c _ _ _) }

end Cert.AttnIdeal.Reads

end
-- ==== Proof.AttnFinal.lean ====
/-
  The attention gradient's result arrays: what every point writes back, block by block, is the plain gradient of the
  forgetting attention over the real numbers.
-/
module

public import proofs.«01_k».proof.Proof.AttnReads

@[expose] public section

noncomputable section

namespace Cert.AttnIdeal.Final

open Cert.AttnIdeal Cert.AttnIdeal.Gen Cert.AttnIdeal.Own Cert.AttnIdeal.Host Cert.AttnIdeal.Reads Cert.AttnReal
open Cert.AttnRefIdeal.Math (rowN colN colG)
open Idealize.ShloMosaic hiding ix0 ix1 ix2 ix3 ix4 ix5 eq_ix2 eq_ix3 eq_ix4
open Idealize.ShloMosaic.TcCoe Idealize.SL.Sem
open Idealize.ShloMosaic.ValueIdx
open Idealize.ShloMosaic.Pipeline (Dat)
open Finset

/-! ## Sums over blocks are sums over a sequence -/

section Sums
variable (X : Args) (b p : ℕ) (h : Fin 2) (d : Fin 64)

theorem w_eq (i j : ℕ) : (pairData X b p).w h i j = X.W b (2 * p + h.val) i j := rfl
theorem dl_eq (i j : ℕ) : (pairData X b p).dl h i j = X.Dl b (2 * p + h.val) i j := rfl

theorem sum_kb (j : ℕ) (hj : j ≤ 8) (r : Fin 256) : ∑ e ∈ Ico j 8, (pairData X b p).kb j e h r d = X.dK b (2 * p + h.val) (256 * j + r.val) d := by
  unfold Data.kb Args.dK
  rw [← Finset.sum_mul]
  refine congrArg (· * (1 / 8 : ℝ)) (sum_blocks (fun i => X.Dl b (2 * p + h.val) i (256 * j + r.val) * X.q b (2 * p + h.val) i d) j hj fun i hi => ?_)
  rw [Dl_zero X b _ i _ (by omega), zero_mul]

theorem sum_vb (j : ℕ) (hj : j ≤ 8) (r : Fin 256) : ∑ e ∈ Ico j 8, (pairData X b p).vb j e h r d = X.dV b (2 * p + h.val) (256 * j + r.val) d := by
  unfold Data.vb Args.dV
  refine sum_blocks (fun i => X.W b (2 * p + h.val) i (256 * j + r.val) * X.go b (2 * p + h.val) i d) j hj fun i hi => ?_
  rw [W_zero X b _ i _ (by omega), zero_mul]

theorem xs_eq (i : ℕ) (hi : i < 2048) : (pairData X b p).xs 8 h d i = X.dQ b (2 * p + h.val) i d := by
  unfold Data.xs Args.dQ
  rw [← sum_blocks (fun j => X.k b (2 * p + h.val) j d * X.Dl b (2 * p + h.val) i j) 0 (by omega) (fun i hi => by omega), ← Finset.range_eq_Ico, Finset.sum_mul]
  refine Finset.sum_congr rfl fun j _ => ?_
  by_cases hc : j ≤ i / 256 ∧ i / 256 ≤ 7
  · rw [if_pos hc]; rfl
  · rw [if_neg hc]
    refine ((congrArg (· * (1 / 8 : ℝ)) (Finset.sum_eq_zero fun r _ => ?_)).trans (zero_mul _)).symm
    rw [Dl_zero X b _ i _ (by omega), mul_zero]

theorem sum_yb (j : ℕ) (hj : j ≤ 8) (r : Fin 256) : -∑ q : Fin 256, ∑ e ∈ Ico j 8, (pairData X b p).yb j e h r q = X.dC b (2 * p + h.val) (256 * j + r.val) := by
  unfold Data.yb Args.dC
  rw [Finset.sum_comm]
  refine congrArg Neg.neg (sum_blocks (fun i => X.Dl b (2 * p + h.val) i (256 * j + r.val)) j hj fun i hi => ?_)
  rw [Dl_zero X b _ i _ (by omega)]

end Sums

/-! ## The result arrays -/

section Arrays
variable (X : Args)

def lowLane (n : ℕ) : Fin 64 := ⟨n % 64, by omega⟩

/-- Keys' and values' gradients, the queries' gradient transposed, and the gates' gradient by pairs, on the pairs' lanes. -/
def outK : S8192x512.Idx → EReal := fun x => ((X.dK ((x 0).val / 2048) ((x 1).val / 64) ((x 0).val % 2048) (lowLane (x 1).val) : ℝ) : EReal)
def outV : S8192x512.Idx → EReal := fun x => ((X.dV ((x 0).val / 2048) ((x 1).val / 64) ((x 0).val % 2048) (lowLane (x 1).val) : ℝ) : EReal)
def outQT : S512x8192.Idx → EReal := fun x => ((X.dQ ((x 1).val / 2048) ((x 0).val / 64) ((x 1).val % 2048) (lowLane (x 0).val) : ℝ) : EReal)
def outC : S4x4x2048x128.Idx → EReal := fun x => ((∑ e : Fin 2, if (x 3).val = 2 * (x 1).val + e.val then X.dC (x 0).val (2 * (x 1).val + e.val) (x 2).val else 0 : ℝ) : EReal)

variable (b : Fin 4) (h : Fin 8) (i : Fin 2048) (d : Fin 64)

theorem row_div : (rowN b i).val / 2048 = b.val := by have := i.isLt; show (2048 * b.val + i.val) / 2048 = _; omega
theorem row_mod : (rowN b i).val % 2048 = i.val := by have := i.isLt; show (2048 * b.val + i.val) % 2048 = _; omega
theorem col_div : (colG h d).val / 64 = h.val := by have := d.isLt; show (64 * h.val + d.val) / 64 = _; omega
theorem col_low : lowLane (colG h d).val = d := Fin.ext (by have := d.isLt; show (64 * h.val + d.val) % 64 = _; omega)

theorem outK_at : outK X (ix2 (rowN b i) (colG h d)) = ((X.dK b.val h.val i.val d : ℝ) : EReal) := by
  show ((X.dK ((rowN b i).val / 2048) ((colG h d).val / 64) ((rowN b i).val % 2048) (lowLane (colG h d).val) : ℝ) : EReal) = _
  rw [row_div, row_mod, col_div, col_low]
theorem outV_at : outV X (ix2 (rowN b i) (colG h d)) = ((X.dV b.val h.val i.val d : ℝ) : EReal) := by
  show ((X.dV ((rowN b i).val / 2048) ((colG h d).val / 64) ((rowN b i).val % 2048) (lowLane (colG h d).val) : ℝ) : EReal) = _
  rw [row_div, row_mod, col_div, col_low]
theorem outQT_at : outQT X (ix2 (colG h d) (rowN b i)) = ((X.dQ b.val h.val i.val d : ℝ) : EReal) := by
  show ((X.dQ ((rowN b i).val / 2048) ((colG h d).val / 64) ((rowN b i).val % 2048) (lowLane (colG h d).val) : ℝ) : EReal) = _
  rw [row_div, row_mod, col_div, col_low]

/-- Every lane of a block is an entry of a head. -/
theorem lane_of (l : Fin 128) : ∃ h d, l = lane h d :=
  ⟨⟨l.val / 64, by have := l.isLt; omega⟩, ⟨l.val % 64, by omega⟩, Fin.ext (by show l.val = 64 * (l.val / 64) + l.val % 64; omega)⟩

end Arrays

/-! ## Where the points write -/

theorem index11 : ∀ t : Fin cfg0.N, win0_11.index t 0 = t.val / 32 * 8 + t.val % 8 ∧ win0_11.index t 1 = t.val / 8 % 4 :=
  (by decide +kernel : ∀ t : Fin grid0.N, win0_11.index t 0 = t.val / 32 * 8 + t.val % 8 ∧ win0_11.index t 1 = t.val / 8 % 4)
theorem index12 : ∀ t : Fin cfg0.N, win0_12.index t 0 = t.val / 32 * 8 + t.val % 8 ∧ win0_12.index t 1 = t.val / 8 % 4 :=
  (by decide +kernel : ∀ t : Fin grid0.N, win0_12.index t 0 = t.val / 32 * 8 + t.val % 8 ∧ win0_12.index t 1 = t.val / 8 % 4)
theorem index13 : ∀ t : Fin cfg0.N, win0_13.index t 0 = t.val / 8 % 4 ∧ win0_13.index t 1 = t.val / 32 :=
  (by decide +kernel : ∀ t : Fin grid0.N, win0_13.index t 0 = t.val / 8 % 4 ∧ win0_13.index t 1 = t.val / 32)
theorem index14 : ∀ t : Fin cfg0.N, win0_14.index t 0 = t.val / 32 ∧ win0_14.index t 1 = t.val / 8 % 4 ∧ win0_14.index t 2 = t.val % 8 ∧ win0_14.index t 3 = 0 :=
  (by decide +kernel : ∀ t : Fin grid0.N, win0_14.index t 0 = t.val / 32 ∧ win0_14.index t 1 = t.val / 8 % 4 ∧ win0_14.index t 2 = t.val % 8 ∧ win0_14.index t 3 = 0)
theorem xsize11 : ∀ t : Fin cfg0.N, win0_11.xsize (grid0.coords t) 0 = 256 ∧ win0_11.xsize (grid0.coords t) 1 = 128 :=
  (by decide +kernel : ∀ t : Fin grid0.N, win0_11.xsize (grid0.coords t) 0 = 256 ∧ win0_11.xsize (grid0.coords t) 1 = 128)
theorem xsize12 : ∀ t : Fin cfg0.N, win0_12.xsize (grid0.coords t) 0 = 256 ∧ win0_12.xsize (grid0.coords t) 1 = 128 :=
  (by decide +kernel : ∀ t : Fin grid0.N, win0_12.xsize (grid0.coords t) 0 = 256 ∧ win0_12.xsize (grid0.coords t) 1 = 128)
theorem xsize13 : ∀ t : Fin cfg0.N, win0_13.xsize (grid0.coords t) 0 = 128 ∧ win0_13.xsize (grid0.coords t) 1 = 2048 :=
  (by decide +kernel : ∀ t : Fin grid0.N, win0_13.xsize (grid0.coords t) 0 = 128 ∧ win0_13.xsize (grid0.coords t) 1 = 2048)
theorem xsize14 : ∀ t : Fin cfg0.N, win0_14.xsize (grid0.coords t) 0 = 1 ∧ win0_14.xsize (grid0.coords t) 1 = 1 ∧ win0_14.xsize (grid0.coords t) 2 = 256 ∧ win0_14.xsize (grid0.coords t) 3 = 128 :=
  (by decide +kernel : ∀ t : Fin grid0.N, win0_14.xsize (grid0.coords t) 0 = 1 ∧ win0_14.xsize (grid0.coords t) 1 = 1 ∧ win0_14.xsize (grid0.coords t) 2 = 256 ∧ win0_14.xsize (grid0.coords t) 3 = 128)

/-- The grid point of sequence `b`, pair `p`, block `j`. -/
def pointAt (b p j : ℕ) (hb : b < 4) (hp : p < 4) (hj : j < 8) : Fin cfg0.N := ⟨(b * 4 + p) * 8 + j, by rw [show cfg0.N = 128 from N_0]; omega⟩

section Flushed
variable (m : (ℓ : Loc nD τ sig) → Buf (Elt Ideal) ℓ) (c : Dev nD) {X : Args} (H : Holds (zArr m c) (cArr m c) (gArr m c) X)
include H

theorem flushed11 (t : Fin cfg0.N) (hf : (cfg0.win 11).flush t = true) :
    (dats m 0 c).flushed 11 t = ((cfg0.win 11).blk t).view.read (Elt Ideal) (outK X : Buf (Elt Ideal) ((c : Thread nD τ).loc main_v52_0)) := by
  show (cfg0.win 11).cut (grid0.coords t) ((dats m 0 c).after 11 t) = _
  rw [after_11]
  funext j
  rw [View.read_apply]
  obtain ⟨h0, h1⟩ := index11 t
  obtain ⟨r, l, rfl⟩ : ∃ (r : Fin 256) (l : Fin 128), j = ix2 r l := ⟨j 0, j 1, eq_ix2 (n0 := 256) (n1 := 128) j⟩
  obtain ⟨h, d, rfl⟩ := lane_of l
  have ht := t_lt t
  have er := r.isLt; have eh := h.isLt; have ed := d.isLt
  refine (left11_apply m c (fun n => pairData X (n / 4) (n % 4)) (reads m c H) t h r d).trans ?_
  rw [sum_kb X _ _ h d (t.val % 8) (by omega) r]
  refine Eq.trans ?_ (congrArg (outK X) (?_ : (ix2 (rowN (seqOf t) (keyAt (blkOf t) r)) (colG (headOf (pairOf t) h) d) : S8192x512.Idx) = _))
  · rw [outK_at]
    show ((X.dK (t.val / 8 / 4) _ _ _ : ℝ) : EReal) = ((X.dK (t.val / 32) _ _ _ : ℝ) : EReal)
    rw [show t.val / 8 / 4 = t.val / 32 from by omega]
    rfl
  · funext a
    apply Fin.ext
    match a with
    | ⟨0, _⟩ => show 2048 * (t.val / 32) + (256 * (t.val % 8) + r.val) = win0_11.index t 0 * 256 + 1 * r.val; rw [h0]; omega
    | ⟨1, _⟩ => show 64 * (2 * (t.val / 8 % 4) + h.val) + d.val = win0_11.index t 1 * 128 + 1 * (64 * h.val + d.val); rw [h1]; omega

theorem flushed12 (t : Fin cfg0.N) (hf : (cfg0.win 12).flush t = true) :
    (dats m 0 c).flushed 12 t = ((cfg0.win 12).blk t).view.read (Elt Ideal) (outV X : Buf (Elt Ideal) ((c : Thread nD τ).loc main_v52_1)) := by
  show (cfg0.win 12).cut (grid0.coords t) ((dats m 0 c).after 12 t) = _
  rw [after_12]
  funext j
  rw [View.read_apply]
  obtain ⟨h0, h1⟩ := index12 t
  obtain ⟨r, l, rfl⟩ : ∃ (r : Fin 256) (l : Fin 128), j = ix2 r l := ⟨j 0, j 1, eq_ix2 (n0 := 256) (n1 := 128) j⟩
  obtain ⟨h, d, rfl⟩ := lane_of l
  have ht := t_lt t
  have er := r.isLt; have eh := h.isLt; have ed := d.isLt
  refine (left12_apply m c (fun n => pairData X (n / 4) (n % 4)) (reads m c H) t h r d).trans ?_
  rw [sum_vb X _ _ h d (t.val % 8) (by omega) r]
  refine Eq.trans ?_ (congrArg (outV X) (?_ : (ix2 (rowN (seqOf t) (keyAt (blkOf t) r)) (colG (headOf (pairOf t) h) d) : S8192x512.Idx) = _))
  · rw [outV_at]
    show ((X.dV (t.val / 8 / 4) _ _ _ : ℝ) : EReal) = ((X.dV (t.val / 32) _ _ _ : ℝ) : EReal)
    rw [show t.val / 8 / 4 = t.val / 32 from by omega]
    rfl
  · funext a
    apply Fin.ext
    match a with
    | ⟨0, _⟩ => show 2048 * (t.val / 32) + (256 * (t.val % 8) + r.val) = win0_12.index t 0 * 256 + 1 * r.val; rw [h0]; omega
    | ⟨1, _⟩ => show 64 * (2 * (t.val / 8 % 4) + h.val) + d.val = win0_12.index t 1 * 128 + 1 * (64 * h.val + d.val); rw [h1]; omega

theorem flushed13 (t : Fin cfg0.N) (hf : (cfg0.win 13).flush t = true) :
    (dats m 0 c).flushed 13 t = ((cfg0.win 13).blk t).view.read (Elt Ideal) (outQT X : Buf (Elt Ideal) ((c : Thread nD τ).loc main_v52_2)) := by
  have h7 : t.val % 8 = 7 := (flush0_13 t).mp hf
  show (cfg0.win 13).cut (grid0.coords t) ((dats m 0 c).after 13 t) = _
  rw [after_13]
  funext j
  rw [View.read_apply]
  obtain ⟨h0, h1⟩ := index13 t
  obtain ⟨l, i, rfl⟩ : ∃ (l : Fin 128) (i : Fin 2048), j = ix2 l i := ⟨j 0, j 1, eq_ix2 (n0 := 128) (n1 := 2048) j⟩
  obtain ⟨h, d, rfl⟩ := lane_of l
  have ht := t_lt t
  have er := i.isLt; have eh := h.isLt; have ed := d.isLt
  refine (left13_apply m c (fun n => pairData X (n / 4) (n % 4)) (reads m c H) t h d i).trans ?_
  rw [h7, xs_eq X _ _ h d i.val i.isLt]
  refine Eq.trans ?_ (congrArg (outQT X) (?_ : (ix2 (colG (headOf (pairOf t) h) d) (rowN (seqOf t) i) : S512x8192.Idx) = _))
  · rw [outQT_at]
    show ((X.dQ (t.val / 8 / 4) _ _ _ : ℝ) : EReal) = ((X.dQ (t.val / 32) _ _ _ : ℝ) : EReal)
    rw [show t.val / 8 / 4 = t.val / 32 from by omega]
    rfl
  · funext a
    apply Fin.ext
    match a with
    | ⟨0, _⟩ => show 64 * (2 * (t.val / 8 % 4) + h.val) + d.val = win0_13.index t 0 * 128 + 1 * (64 * h.val + d.val); rw [h0]; omega
    | ⟨1, _⟩ => show 2048 * (t.val / 32) + i.val = win0_13.index t 1 * 2048 + 1 * i.val; rw [h1]; omega

theorem flushed14 (t : Fin cfg0.N) (hf : (cfg0.win 14).flush t = true) :
    (dats m 0 c).flushed 14 t = ((cfg0.win 14).blk t).view.read (Elt Ideal) (outC X : Buf (Elt Ideal) ((c : Thread nD τ).loc main_v52_3)) := by
  show (cfg0.win 14).cut (grid0.coords t) ((dats m 0 c).after 14 t) = _
  rw [after_14]
  funext j
  rw [View.read_apply]
  obtain ⟨h0, h1, h2, h3⟩ := index14 t
  obtain ⟨r, l, rfl⟩ : ∃ (r : Fin 256) (l : Fin 128), j = ix4 0 0 r l := ⟨j 2, j 3, (eq_ix4 (n0 := 1) (n1 := 1) (n2 := 256) (n3 := 128) j).trans
    (congrArg₂ (fun x y : Fin 1 => ix4 x y (j 2) (j 3)) (Subsingleton.elim (α := Fin 1) _ _) (Subsingleton.elim (α := Fin 1) _ _))⟩
  have ht := t_lt t
  have er := r.isLt
  refine (left14_apply m c (fun n => pairData X (n / 4) (n % 4)) (reads m c H) t r l).trans ?_
  refine Eq.trans ?_ (congrArg (outC X) (?_ : (ix4 (seqOf t) (pairOf t) (keyAt (blkOf t) r) l : S4x4x2048x128.Idx) = _))
  · refine congrArg (fun x : ℝ => (x : EReal)) (Finset.sum_congr rfl fun e _ => ?_)
    rw [sum_yb X _ _ e (t.val % 8) (by omega) r]
    show (if l.val = 2 * (t.val / 8 % 4) + e.val then X.dC (t.val / 8 / 4) _ _ else 0) = (if l.val = 2 * (t.val / 8 % 4) + e.val then X.dC (t.val / 32) _ _ else 0)
    rw [show t.val / 8 / 4 = t.val / 32 from by omega]
    rfl
  · funext a
    apply Fin.ext
    match a with
    | ⟨0, _⟩ => show t.val / 32 = win0_14.index t 0 * 1 + 1 * 0; rw [h0]; omega
    | ⟨1, _⟩ => show t.val / 8 % 4 = win0_14.index t 1 * 1 + 1 * 0; rw [h1]; omega
    | ⟨2, _⟩ => show 256 * (t.val % 8) + r.val = win0_14.index t 2 * 256 + 1 * r.val; rw [h2]; omega
    | ⟨3, _⟩ => show l.val = win0_14.index t 3 * 128 + 1 * l.val; rw [h3]; omega

/-! ## The arrays after the last point -/

theorem final11 : (dats m 0 c).arrAt 11 cfg0.N = outK X :=
  (dats m 0 c).arrAt_eq_of_cover 11 (outK X) (flushed11 m c H) fun i => by
    have h0 : (i 0 : Nat) < 8192 := (i 0).isLt
    have h1 : (i 1 : Nat) < 512 := (i 1).isLt
    refine ⟨pointAt ((i 0).val / 2048) ((i 1).val / 128) ((i 0).val % 2048 / 256) (by omega) (by omega) (by omega), flush0_11 _, ?_⟩
    generalize ht : pointAt ((i 0).val / 2048) ((i 1).val / 128) ((i 0).val % 2048 / 256) (by omega) (by omega) (by omega) = t
    have hv : t.val = ((i 0).val / 2048 * 4 + (i 1).val / 128) * 8 + (i 0).val % 2048 / 256 := by rw [← ht]; rfl
    show i ∈ ((View.whole main_v52_0).slice (win0_11.rect t)).set
    rw [View.set_slice_whole, Rect.mem_set_unit]
    intro a
    obtain ⟨e0, e1⟩ := index11 t
    obtain ⟨x0, x1⟩ := xsize11 t
    match a with
    | ⟨0, _⟩ => show win0_11.index t 0 * 256 ≤ (i 0 : Nat) ∧ (i 0 : Nat) < win0_11.index t 0 * 256 + win0_11.xsize (grid0.coords t) 0
                rw [e0, x0, hv]; omega
    | ⟨1, _⟩ => show win0_11.index t 1 * 128 ≤ (i 1 : Nat) ∧ (i 1 : Nat) < win0_11.index t 1 * 128 + win0_11.xsize (grid0.coords t) 1
                rw [e1, x1, hv]; omega

theorem final12 : (dats m 0 c).arrAt 12 cfg0.N = outV X :=
  (dats m 0 c).arrAt_eq_of_cover 12 (outV X) (flushed12 m c H) fun i => by
    have h0 : (i 0 : Nat) < 8192 := (i 0).isLt
    have h1 : (i 1 : Nat) < 512 := (i 1).isLt
    refine ⟨pointAt ((i 0).val / 2048) ((i 1).val / 128) ((i 0).val % 2048 / 256) (by omega) (by omega) (by omega), flush0_12 _, ?_⟩
    generalize ht : pointAt ((i 0).val / 2048) ((i 1).val / 128) ((i 0).val % 2048 / 256) (by omega) (by omega) (by omega) = t
    have hv : t.val = ((i 0).val / 2048 * 4 + (i 1).val / 128) * 8 + (i 0).val % 2048 / 256 := by rw [← ht]; rfl
    show i ∈ ((View.whole main_v52_1).slice (win0_12.rect t)).set
    rw [View.set_slice_whole, Rect.mem_set_unit]
    intro a
    obtain ⟨e0, e1⟩ := index12 t
    obtain ⟨x0, x1⟩ := xsize12 t
    match a with
    | ⟨0, _⟩ => show win0_12.index t 0 * 256 ≤ (i 0 : Nat) ∧ (i 0 : Nat) < win0_12.index t 0 * 256 + win0_12.xsize (grid0.coords t) 0
                rw [e0, x0, hv]; omega
    | ⟨1, _⟩ => show win0_12.index t 1 * 128 ≤ (i 1 : Nat) ∧ (i 1 : Nat) < win0_12.index t 1 * 128 + win0_12.xsize (grid0.coords t) 1
                rw [e1, x1, hv]; omega

theorem final13 : (dats m 0 c).arrAt 13 cfg0.N = outQT X :=
  (dats m 0 c).arrAt_eq_of_cover 13 (outQT X) (flushed13 m c H) fun i => by
    have h0 : (i 0 : Nat) < 512 := (i 0).isLt
    have h1 : (i 1 : Nat) < 8192 := (i 1).isLt
    refine ⟨pointAt ((i 1).val / 2048) ((i 0).val / 128) 7 (by omega) (by omega) (by omega), (flush0_13 _).mpr (by show (((i 1).val / 2048 * 4 + (i 0).val / 128) * 8 + 7) % 8 = 7; omega), ?_⟩
    generalize ht : pointAt ((i 1).val / 2048) ((i 0).val / 128) 7 (by omega) (by omega) (by omega) = t
    have hv : t.val = ((i 1).val / 2048 * 4 + (i 0).val / 128) * 8 + 7 := by rw [← ht]; rfl
    show i ∈ ((View.whole main_v52_2).slice (win0_13.rect t)).set
    rw [View.set_slice_whole, Rect.mem_set_unit]
    intro a
    obtain ⟨e0, e1⟩ := index13 t
    obtain ⟨x0, x1⟩ := xsize13 t
    match a with
    | ⟨0, _⟩ => show win0_13.index t 0 * 128 ≤ (i 0 : Nat) ∧ (i 0 : Nat) < win0_13.index t 0 * 128 + win0_13.xsize (grid0.coords t) 0
                rw [e0, x0, hv]; omega
    | ⟨1, _⟩ => show win0_13.index t 1 * 2048 ≤ (i 1 : Nat) ∧ (i 1 : Nat) < win0_13.index t 1 * 2048 + win0_13.xsize (grid0.coords t) 1
                rw [e1, x1, hv]; omega

theorem final14 : (dats m 0 c).arrAt 14 cfg0.N = outC X :=
  (dats m 0 c).arrAt_eq_of_cover 14 (outC X) (flushed14 m c H) fun i => by
    have h0 : (i 0 : Nat) < 4 := (i 0).isLt
    have h1 : (i 1 : Nat) < 4 := (i 1).isLt
    have h2 : (i 2 : Nat) < 2048 := (i 2).isLt
    have h3 : (i 3 : Nat) < 128 := (i 3).isLt
    refine ⟨pointAt (i 0).val (i 1).val ((i 2).val / 256) (by omega) (by omega) (by omega), flush0_14 _, ?_⟩
    generalize ht : pointAt (i 0).val (i 1).val ((i 2).val / 256) (by omega) (by omega) (by omega) = t
    have hv : t.val = ((i 0).val * 4 + (i 1).val) * 8 + (i 2).val / 256 := by rw [← ht]; rfl
    show i ∈ ((View.whole main_v52_3).slice (win0_14.rect t)).set
    rw [View.set_slice_whole, Rect.mem_set_unit]
    intro a
    obtain ⟨e0, e1, e2, e3⟩ := index14 t
    obtain ⟨x0, x1, x2, x3⟩ := xsize14 t
    match a with
    | ⟨0, _⟩ => show win0_14.index t 0 * 1 ≤ (i 0 : Nat) ∧ (i 0 : Nat) < win0_14.index t 0 * 1 + win0_14.xsize (grid0.coords t) 0
                rw [e0, x0, hv]; omega
    | ⟨1, _⟩ => show win0_14.index t 1 * 1 ≤ (i 1 : Nat) ∧ (i 1 : Nat) < win0_14.index t 1 * 1 + win0_14.xsize (grid0.coords t) 1
                rw [e1, x1, hv]; omega
    | ⟨2, _⟩ => show win0_14.index t 2 * 256 ≤ (i 2 : Nat) ∧ (i 2 : Nat) < win0_14.index t 2 * 256 + win0_14.xsize (grid0.coords t) 2
                rw [e2, x2, hv]; omega
    | ⟨3, _⟩ => show win0_14.index t 3 * 128 ≤ (i 3 : Nat) ∧ (i 3 : Nat) < win0_14.index t 3 * 128 + win0_14.xsize (grid0.coords t) 3
                rw [e3, x3]; omega

end Flushed

end Cert.AttnIdeal.Final

end
-- ==== Proof.AttnValue.lean ====
/-
  The attention gradient's results read from the run, and their equality with the reference's on the extended reals.
-/
module

public import proofs.«01_k».proof.Proof.AttnFinal
public import proofs.«01_k».proof.Proof.FgMath
public import proofs.«01_k».proof.Proof.Gen.AttnRefIdeal.Run
public import proofs.«01_k».proof.Defs

@[expose] public section

noncomputable section

namespace Cert.AttnIdeal.Final

open Cert.AttnIdeal Cert.AttnIdeal.Gen Cert.AttnIdeal.Own Cert.AttnIdeal.Host Cert.AttnIdeal.Reads Cert.AttnReal
open Cert.AttnRefIdeal.Math (rowN colN colG)
open Cert.AttnRefIdeal.Read (val_main_v87 val_main_v94 val_main_v97 val_main_v100)
open Idealize.ShloMosaic hiding ix0 ix1 ix2 ix3 ix4 ix5 eq_ix2 eq_ix3 eq_ix4
open Idealize.ShloMosaic.TcCoe Idealize.SL.Sem Idealize.ShloMosaic.StableHlo
open Idealize.ShloMosaic.ValueIdx
open Idealize.ShloMosaic.Pipeline (Dat)

/-! ## The host operations after the kernel -/

/-- The queries' gradient, and the gate sums' gradient, from the kernel's arrays. -/
def tailQ (x : FVec Ideal S512x8192 .f32) : FVec Ideal S8192x512 .bf16 := truncf .bf16 (transpose S8192x512 [1, 0] x transposes_S512x8192_S8192x512_1_0) bitsLt_bf16_f32
def tailC (x : FVec Ideal S4x4x2048x128 .f32) : FVec Ideal S4x8x2048 .f32 :=
  transpose S4x8x2048 [0, 2, 1] (extractStridedSlice S4x2048x8 ![0, 0, 0] (Host.reduceAdd x (constant S_ .f32 0x00000000#32) reducesTo_S4x4x2048x128_S4x2048x128_d1 h_S_) slices_S4x2048x128_S4x2048x8_0_0_0) transposes_S4x2048x8_S4x8x2048_0_2_1

theorem tailQ_apply (x : FVec Ideal S512x8192 .f32) (n : Fin 8192) (l : Fin 512) : tailQ x (ix2 n l) = x (ix2 l n) :=
  transpose_apply _ x _ _ (ix2 l n) fun a => by match a with
    | ⟨0, _⟩ => rfl
    | ⟨1, _⟩ => rfl

/-- The four pairs are summed and the first eight lanes kept. -/
theorem tailC_apply (x : FVec Ideal S4x4x2048x128 .f32) (b : Fin 4) (h : Fin 8) (i : Fin 2048) :
    tailC x (ix3 b h i) = ∑ p : Fin 4, x (ix4 b p i ⟨h.val, by have := h.isLt; omega⟩) := by
  unfold tailC
  rw [transpose_apply _ _ _ (ix3 b h i) (ix3 b i h) (fun a => by match a with
    | ⟨0, _⟩ => rfl
    | ⟨1, _⟩ => rfl
    | ⟨2, _⟩ => rfl)]
  rw [extractStridedSlice_apply _ _ _ (ix3 b i h) (ix3 b i ⟨h.val, by have := h.isLt; omega⟩) (fun a => by match a with
    | ⟨0, _⟩ => exact (Nat.zero_add _).symm
    | ⟨1, _⟩ => exact (Nat.zero_add _).symm
    | ⟨2, _⟩ => exact (Nat.zero_add _).symm)]
  simp only [Host.reduceAdd]
  rw [Ideal.hostReduceAdd_def, Ideal.hostReduceAdd_single reducesTo_S4x4x2048x128_S4x2048x128_d1 (by decide)]
  rw [show (constant (F := Ideal) S_ .f32 0x00000000#32) (Shape.Idx.first h_S_) = (0 : EReal) from Cert.AttnRefIdeal.Math.zero_word, zero_add]
  refine Finset.sum_congr rfl fun k _ => congrArg x (funext fun a => Fin.ext ?_)
  match a with
  | ⟨0, _⟩ => rfl
  | ⟨1, _⟩ => rfl
  | ⟨2, _⟩ => rfl
  | ⟨3, _⟩ => rfl

/-- Of the four pairs only a head's own has its lane. -/
theorem sum_pairs (f : ℕ → ℝ) (h : Fin 8) : ∑ p : Fin 4, ∑ e : Fin 2, (if h.val = 2 * p.val + e.val then f (2 * p.val + e.val) else 0) = f h.val := by
  have hh := h.isLt
  rw [Finset.sum_eq_single (⟨h.val / 2, by omega⟩ : Fin 4), Finset.sum_eq_single (⟨h.val % 2, by omega⟩ : Fin 2)]
  · rw [if_pos (show h.val = 2 * (h.val / 2) + h.val % 2 from by omega)]
    exact congrArg f (show 2 * (h.val / 2) + h.val % 2 = h.val from by omega)
  · intro e _ he
    refine if_neg fun hc => he (Fin.ext ?_)
    have hc' : h.val = 2 * (h.val / 2) + e.val := hc
    show e.val = h.val % 2
    omega
  · intro hc; exact absurd (Finset.mem_univ _) hc
  · intro p _ hp
    refine Finset.sum_eq_zero fun e _ => if_neg fun hc => hp (Fin.ext ?_)
    have := e.isLt
    show p.val = h.val / 2
    omega
  · intro hc; exact absurd (Finset.mem_univ _) hc

/-- What the two operations make of the kernel's arrays. -/
theorem tailC_outC (X : Args) (b : Fin 4) (h : Fin 8) (i : Fin 2048) : tailC (outC X) (ix3 b h i) = ((X.dC b.val h.val i.val : ℝ) : EReal) := by
  rw [tailC_apply, ← sum_pairs (fun e => X.dC b.val e i.val) h, coe_sum' Finset.univ]
  exact Finset.sum_congr rfl fun p _ => rfl

/-! ## The run -/

section Run
variable (m : (ℓ : Loc nD τ sig) → Buf (Elt Ideal) ℓ) (ρ : Dev nD → PrngReg)

/-- The real arguments of a device. -/
def argsAt (c : Dev nD) : Args := argsOf (zArr m c) (cArr m c) (gArr m c)

theorem arrays_13 (c : Dev nD) : Pipeline.withArrays (cfgs 0).spec c (V0 m c) (fun w => (dats m 0 c).arrAt w (cfgs 0).N) (Proc.devRef .tc main_v52_2) = (dats m 0 c).arrAt 13 cfg0.N :=
  Pipeline.withArrays_arr_shared (cfgs 0).spec c (V0 m c) (fun w => (dats m 0 c).arrAt w (cfgs 0).N)
    ((dats m 0 c).arrAt_sharedIn sharedIn0 (V0 m c) (fun w => A_eq m c w) _) 13
theorem arrays_14 (c : Dev nD) : Pipeline.withArrays (cfgs 0).spec c (V0 m c) (fun w => (dats m 0 c).arrAt w (cfgs 0).N) (Proc.devRef .tc main_v52_3) = (dats m 0 c).arrAt 14 cfg0.N :=
  Pipeline.withArrays_arr_shared (cfgs 0).spec c (V0 m c) (fun w => (dats m 0 c).arrAt w (cfgs 0).N)
    ((dats m 0 c).arrAt_sharedIn sharedIn0 (V0 m c) (fun w => A_eq m c w) _) 14

theorem tail_v54 (c : Dev nD) : Pipeline.afterTail₀ cfgs (dats m) 0 (V0 m) [hostOps1] c main_v54 = tailQ ((dats m 0 c).arrAt 13 cfg0.N) := by
  rw [← arrays_13]
  unfold Pipeline.afterTail₀
  generalize Pipeline.withArrays (cfgs 0).spec c (V0 m c) (fun w => (dats m 0 c).arrAt w (cfgs 0).N) = W
  simp only [hostOps1, List.flatten_cons, List.flatten_nil, List.append_nil, List.cons_append, List.nil_append, TRef.nullary, TRef.ternary, TRef.unary, TRef.binary, TRef.toBuf, TRef.ofBuf, cast_eq]
  after_results_simp
  rfl

theorem tail_v57 (c : Dev nD) : Pipeline.afterTail₀ cfgs (dats m) 0 (V0 m) [hostOps1] c main_v57 = tailC ((dats m 0 c).arrAt 14 cfg0.N) := by
  rw [← arrays_14]
  unfold Pipeline.afterTail₀
  generalize Pipeline.withArrays (cfgs 0).spec c (V0 m c) (fun w => (dats m 0 c).arrAt w (cfgs 0).N) = W
  simp only [hostOps1, List.flatten_cons, List.flatten_nil, List.append_nil, List.cons_append, List.nil_append, TRef.nullary, TRef.ternary, TRef.unary, TRef.binary, TRef.toBuf, TRef.ofBuf, cast_eq]
  after_results_simp
  rfl

/-- The run, read: the four results are the gradients of the real arguments, and the arguments are unchanged. -/
theorem run (H : ∀ c, Holds (zArr m c) (cArr m c) (gArr m c) (argsAt m c)) :
    θ_run defs (onTc (τ := τ) (main (F := Ideal))) ⟨m, fun _ => 0, ρ⟩ fun r => ∀ c : Dev nD,
      r.2.mem ((c.tc : Thread nD τ).loc main_v54) = tailQ (outQT (argsAt m c))
      ∧ r.2.mem ((c.tc : Thread nD τ).loc main_v52_0) = outK (argsAt m c)
      ∧ r.2.mem ((c.tc : Thread nD τ).loc main_v52_1) = outV (argsAt m c)
      ∧ r.2.mem ((c.tc : Thread nD τ).loc main_v57) = tailC (outC (argsAt m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
    ((h.1 c).2 main_v54 (Pipeline.mem_restRefs_of main_v54 (by decide) (by decide))).trans ((tail_v54 m c).trans (congrArg tailQ (final13 m c (H c)))),
    ((h.1 c).1 11).trans (final11 m c (H c)),
    ((h.1 c).1 12).trans (final12 m c (H c)),
    ((h.1 c).2 main_v57 (Pipeline.mem_restRefs_of main_v57 (by decide) (by decide))).trans ((tail_v57 m c).trans (congrArg tailC (final14 m c (H c)))),
    ((h.1 c).1 3).trans (((dats m 0 c).arrAt_in 3 rfl _).trans ((A_eq m c 3).trans (V_main_arg0 m c))),
    ((h.1 c).1 10).trans (((dats m 0 c).arrAt_in 10 rfl _).trans ((A_eq m c 10).trans (V_main_arg1 m c))),
    ((h.1 c).1 5).trans (((dats m 0 c).arrAt_in 5 rfl _).trans ((A_eq m c 5).trans (V_main_arg2 m c)))⟩) (run_main m ρ)

end Run

/-! ## The reference's results -/

section Ref
variable {z : Vec Ideal S8192x4608 .bf16} {cu : Vec Ideal S4x8x2048 .f32} {g : Vec Ideal S8192x512 .bf16} {X : Args} (H : Holds z cu g X)

/-- Every row and column is a sequence's and a head's. -/
theorem place_of (n : Fin 8192) (l : Fin 512) : ∃ b i h d, n = rowN b i ∧ l = colG h d := by
  have hn := n.isLt; have hl := l.isLt
  exact ⟨⟨n.val / 2048, by omega⟩, ⟨n.val % 2048, by omega⟩, ⟨l.val / 64, by omega⟩, ⟨l.val % 64, by omega⟩,
    Fin.ext (by show n.val = 2048 * (n.val / 2048) + n.val % 2048; omega), Fin.ext (by show l.val = 64 * (l.val / 64) + l.val % 64; omega)⟩

include H

theorem ref_q : val_main_v100 (F := Ideal) z cu g = tailQ (outQT X) := by
  funext x
  obtain ⟨n, l, rfl⟩ : ∃ (n : Fin 8192) (l : Fin 512), x = ix2 n l := ⟨x 0, x 1, eq_ix2 (n0 := 8192) (n1 := 512) x⟩
  obtain ⟨b, i, h, d, rfl, rfl⟩ := place_of n l
  rw [tailQ_apply, outQT_at]
  exact Cert.AttnRefIdeal.Math.v100 H b h i d _ _ (row_div b i).symm (row_mod b i).symm (col_div h d).symm (congrArg Fin.val (col_low h d)).symm

theorem ref_k : val_main_v97 (F := Ideal) z cu g = outK X := by
  funext x
  obtain ⟨n, l, rfl⟩ : ∃ (n : Fin 8192) (l : Fin 512), x = ix2 n l := ⟨x 0, x 1, eq_ix2 (n0 := 8192) (n1 := 512) x⟩
  obtain ⟨b, i, h, d, rfl, rfl⟩ := place_of n l
  rw [outK_at]
  exact Cert.AttnRefIdeal.Math.v97 H b h i d _ _ (row_div b i).symm (row_mod b i).symm (col_div h d).symm (congrArg Fin.val (col_low h d)).symm

theorem ref_v : val_main_v94 (F := Ideal) z cu g = outV X := by
  funext x
  obtain ⟨n, l, rfl⟩ : ∃ (n : Fin 8192) (l : Fin 512), x = ix2 n l := ⟨x 0, x 1, eq_ix2 (n0 := 8192) (n1 := 512) x⟩
  obtain ⟨b, i, h, d, rfl, rfl⟩ := place_of n l
  rw [outV_at]
  exact Cert.AttnRefIdeal.Math.v94 H b h i d _ _ (row_div b i).symm (row_mod b i).symm (col_div h d).symm (congrArg Fin.val (col_low h d)).symm

theorem ref_c : val_main_v87 (F := Ideal) z cu g = tailC (outC X) := by
  funext x
  obtain ⟨b, h, i, rfl⟩ : ∃ (b : Fin 4) (h : Fin 8) (i : Fin 2048), x = ix3 b h i := ⟨x 0, x 1, x 2, eq_ix3 (n0 := 4) (n1 := 8) (n2 := 2048) x⟩
  rw [tailC_outC]
  exact Cert.AttnRefIdeal.Math.v87 H b h i

end Ref

/-! ## The precondition -/

instance preFacts : Cert.Pre_finite_attn.Facts := ⟨by decide, by decide, by decide, by decide⟩

/-- A comparison with infinity that holds leaves a real number. -/
theorem real_of_olt (a : EReal) (h : FloatOps.cmpf (F := Ideal) (φ := .f32) .olt (FloatOps.hostAbsf (F := Ideal) (φ := .f32) a) (FloatOps.ofBits .f32 0x7F800000#32) = 1#1) : a ≠ ⊤ ∧ a ≠ ⊥ := by
  apply Cert.FgateMath.sub_self_of_lt
  rw [Ideal.cmpf_def, Ideal.hostAbsf_def, Ideal.absf_def] at h
  erw [Cert.FgateMath.ofBits_inf] at h
  by_contra hc
  rw [Ideal.cmp] at h
  simp [hc] at h

theorem holds (m : (ℓ : Loc nD τ sig) → Buf (Elt Ideal) ℓ) (hpre : Cert.Pre_AttnIdeal_finite_attn m) (c : Dev nD) : Holds (zArr m c) (cArr m c) (gArr m c) (argsAt m c) :=
  holds_argsOf _ _ _ (fun i => real_of_olt _ (congrFun (hpre c).1 i)) (fun i => real_of_olt _ (congrFun (hpre c).2.1 i)) (fun i => real_of_olt _ (congrFun (hpre c).2.2 i))

/-! ## The claim -/

/-- On the extended reals the attention gradient's results are the reference's. -/
theorem algebraic : Cert.algebraic_AttnIdeal_AttnRefIdeal_pre_finite_attn (hAttnIdeal := Cert.AttnIdeal.Gen.facts) (hAttnRefIdeal := Cert.AttnRefIdeal.Gen.facts) := by
  intro m g m' g' hpre hargs
  have H := holds m hpre
  refine ⟨fun c => tailQ (outQT (argsAt m c)), fun c => outK (argsAt m c), fun c => outV (argsAt m c), fun c => tailC (outC (argsAt m c)), run m g H, ?_⟩
  refine (θ_run _ _ _).mono (fun _ h c => ⟨(h c).1.trans ?_, (h c).2.1.trans ?_, (h c).2.2.1.trans ?_, (h c).2.2.2.1.trans ?_, (h c).2.2.2.2⟩) (Cert.AttnRefIdeal.Value.run (F := Ideal) m' g')
  · rw [Cert.AttnRefIdeal.Read.val_main_v100_eq, (hargs c).1, (hargs c).2.1, (hargs c).2.2]
    exact ref_q (H c)
  · rw [Cert.AttnRefIdeal.Read.val_main_v97_eq, (hargs c).1, (hargs c).2.1, (hargs c).2.2]
    exact ref_k (H c)
  · rw [Cert.AttnRefIdeal.Read.val_main_v94_eq, (hargs c).1, (hargs c).2.1, (hargs c).2.2]
    exact ref_v (H c)
  · rw [Cert.AttnRefIdeal.Read.val_main_v87_eq, (hargs c).1, (hargs c).2.1, (hargs c).2.2]
    exact ref_c (H c)

end Cert.AttnIdeal.Final

end
-- ==== Proof.ProdMath.lean ====
/-
  The arithmetic shared by the product gradients: arrays read at natural coordinates, the sum of products over the
  first positions of the contracted axis and how one more block of positions extends it, and what the three printed
  forms of a block's product hold at an index.
-/
module

public import Idealize.ShloMosaic.Lib.Pipeline.Value
public import Idealize.ShloMosaic.Lib.Pipeline.ValueKit.Tiles
public import Idealize.ShloMosaic.PureOps.Ideal.Laws
public import Idealize.ShloMosaic.Lib.MatmulPlain
public import Idealize.ShloMosaic.Lib.IdealHost
public import Idealize.ShloMosaic.Lib.ValueIdx
public import Idealize.ShloMosaic.Lib.Tactic

@[expose] public section

noncomputable section

namespace Cert.Prod

open Idealize.ShloMosaic Idealize.ShloMosaic.ValueIdx

/-! ## Arrays at natural coordinates -/

/-- The array at row `i`, column `k`, and zero outside of it. -/
def at2 {a b : ℕ} (A : (⟨2, ![a, b]⟩ : Shape).Idx → EReal) (i k : ℕ) : EReal :=
  if h : i < a ∧ k < b then A (ix2 ⟨i, h.1⟩ ⟨k, h.2⟩) else 0

/-- Layer `p` of a stack of arrays at row `i`, column `k`, and zero outside of it. -/
def at3 {l a b : ℕ} (A : (⟨3, ![l, a, b]⟩ : Shape).Idx → EReal) (p i k : ℕ) : EReal :=
  if h : p < l ∧ i < a ∧ k < b then A (ix3 ⟨p, h.1⟩ ⟨i, h.2.1⟩ ⟨k, h.2.2⟩) else 0

theorem at2_in {a b : ℕ} (A : (⟨2, ![a, b]⟩ : Shape).Idx → EReal) (i k : ℕ) (hi : i < a) (hk : k < b)
    (x : (⟨2, ![a, b]⟩ : Shape).Idx) (h0 : (x 0).val = i) (h1 : (x 1).val = k) : A x = at2 A i k := by
  subst h0 h1
  rw [at2, dif_pos ⟨hi, hk⟩]
  exact congrArg A (eq_ix2 x)

theorem at3_in {l a b : ℕ} (A : (⟨3, ![l, a, b]⟩ : Shape).Idx → EReal) (p i k : ℕ) (hp : p < l) (hi : i < a) (hk : k < b)
    (x : (⟨3, ![l, a, b]⟩ : Shape).Idx) (h0 : (x 0).val = p) (h1 : (x 1).val = i) (h2 : (x 2).val = k) : A x = at3 A p i k := by
  subst h0 h1 h2
  rw [at3, dif_pos ⟨hp, hi, hk⟩]
  exact congrArg A (eq_ix3 x)

/-! ## Sums of products over the first positions -/

/-- The sum of the products of `f` and `g` over the first `n` positions. -/
def prodTo (f g : ℕ → EReal) (n : ℕ) : EReal := ∑ k ∈ Finset.range n, f k * g k

/-- The first block of positions is such a sum. -/
theorem prodTo_first (f g : ℕ → EReal) (o n : ℕ) (ho : o = 0) :
    (∑ k : Fin n, f (o + k.val) * g (o + k.val)) = prodTo f g n := by
  subst ho
  simp only [Nat.zero_add]
  exact Fin.sum_univ_eq_sum_range (fun k => f k * g k) n

/-- One more block of `s` positions extends the sum over the first `o`. -/
theorem prodTo_step (f g : ℕ → EReal) (o s n : ℕ) (hn : n = o + s) :
    prodTo f g o + (∑ k : Fin s, f (o + k.val) * g (o + k.val)) = prodTo f g n := by
  subst hn
  rw [prodTo, prodTo, Finset.sum_range_add, Fin.sum_univ_eq_sum_range (fun k => f (o + k) * g (o + k)) s]

/-- The sum over all positions of an axis of length `n`. -/
theorem prodTo_all (f g : ℕ → EReal) (n : ℕ) : (∑ k : Fin n, f k.val * g k.val) = prodTo f g n :=
  Fin.sum_univ_eq_sum_range (fun k => f k * g k) n

/-! ## From point to point -/

theorem pred_lt {n N : ℕ} (h : n < N) : n - 1 < N := Nat.lt_of_le_of_lt (Nat.sub_le _ _) h

theorem pred_mod (n k : ℕ) (h : n % k ≠ 0) : (n - 1) % k + 1 = n % k := by
  rcases Nat.eq_zero_or_pos k with rfl | hk
  · simp only [Nat.mod_zero] at *; omega
  have e := Nat.div_add_mod n k
  have hl := Nat.mod_lt n hk
  have e' : n - 1 = k * (n / k) + (n % k - 1) := by omega
  rw [e', Nat.mul_add_mod, Nat.mod_eq_of_lt (by omega)]
  omega

/-- A run of `b` points per block: the first starts a sum `S` with its part, every later one adds its part, and the last
    takes the sum so far and its part. If the part of a point is the products over its `s` positions of the
    contracted axis, then that is the products over all of them. -/
theorem gathered {N b s T : ℕ} (hb : 2 ≤ b) (hT : s * b = T) (S P : (n : ℕ) → n < N → EReal) (f g : ℕ → ℕ → EReal)
    (hP : ∀ n h, P n h = ∑ k : Fin s, f n (s * (n % b) + k.val) * g n (s * (n % b) + k.val))
    (hf : ∀ n, n < N → n % b ≠ 0 → f (n - 1) = f n ∧ g (n - 1) = g n)
    (first : ∀ n h, n % b = 0 → S n h = P n h)
    (next : ∀ n h h', n % b ≠ 0 → n % b ≠ b - 1 → S n h = S (n - 1) h' + P n h)
    (n : ℕ) (h : n < N) (h' : n - 1 < N) (hn : n % b = b - 1) :
    S (n - 1) h' + P n h = prodTo (f n) (g n) T := by
  have so_far : ∀ n, ∀ h : n < N, n % b ≠ b - 1 → S n h = prodTo (f n) (g n) (s * (n % b + 1)) := by
    intro n
    induction n using Nat.strong_induction_on with
    | _ n ih =>
      intro h hne
      by_cases h0 : n % b = 0
      · rw [first n h h0, hP, h0]
        exact prodTo_first _ _ _ _ (Nat.mul_zero s) |>.trans (by rw [Nat.zero_add, Nat.mul_one])
      · have hm := pred_mod n b h0
        have hlt := Nat.mod_lt n (show 0 < b by omega)
        have h1 : 1 ≤ n := by rcases Nat.eq_zero_or_pos n with rfl | hp; exact absurd (Nat.zero_mod b) h0; exact hp
        rw [next n h (by omega) h0 hne, ih (n - 1) (by omega) (by omega) (by omega), hP, (hf n h h0).1, (hf n h h0).2, hm]
        exact prodTo_step _ _ _ _ _ (Nat.mul_succ s _)
  have h0 : n % b ≠ 0 := by omega
  have hm := pred_mod n b h0
  rw [so_far (n - 1) (by omega) (by omega), hP, (hf n h h0).1, (hf n h h0).2, hm]
  exact prodTo_step _ _ _ _ _ (by rw [hn, ← hT, ← Nat.mul_succ]; congr 1; omega)

/-! ## The whole-buffer offsets -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## A block's product -/

/-- One array of a stack, without the axis of the stack. -/
theorem unstack {a b : ℕ} {α : Type} (v : (⟨3, ![1, a, b]⟩ : Shape).Idx → α) (h : (⟨3, ![1, a, b]⟩ : Shape).ShapeCasts ⟨2, ![a, b]⟩)
    (r : Fin a) (k : Fin b) : shapeCast ⟨2, ![a, b]⟩ v h (ix2 r k) = v (ix3 0 r k) :=
  shapeCast_apply v h (ix2 r k) (ix3 0 r k) (by
    rw [Shape.rowMajor_val_three, Shape.rowMajor_val_two]
    show (0 * a + r.val) * b + k.val = r.val * b + k.val
    rw [Nat.zero_mul, Nat.zero_add])

/-- The left factor is contracted over its rows: `aᵀ · b`. -/
def lhsTransposed (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem lhsTransposed_rank (M K N : ℕ) : (lhsTransposed M K N).contr.rank = 1 := rfl
theorem lhsTransposed_size (M K N : ℕ) :
    (lhsTransposed M K N).contr.size ⟨0, by rw [lhsTransposed_rank]; exact Nat.one_pos⟩ = K := rfl

/-- The contracted rows of `aᵀ · b`, as one coordinate. -/
def lhsTransposedRows (M K N : ℕ) : (lhsTransposed M K N).contr.Idx ≃ Fin K :=
  contrEquiv1 _ K (lhsTransposed_rank M K N) (lhsTransposed_size M K N)

/-- `aᵀ · b` at (r, c): the accumulator and the products of column `r` of `a` with column `c` of `b`. -/
theorem lhsTransposed_apply {M K N : ℕ} {φ₁ φ₂ : FTy} (prec : Option ContractPrecision)
    (a : FVec Ideal ⟨2, ![K, M]⟩ φ₁) (b : FVec Ideal ⟨2, ![K, N]⟩ φ₂) (acc : FVec Ideal ⟨2, ![M, N]⟩ .f32) (r : Fin M) (c : Fin N) :
    FloatOps.matmul (lhsTransposed M K N) prec a b acc (ix2 r c) = acc (ix2 r c) + ∑ k : Fin K, a (ix2 k r) * b (ix2 k c) := by
  have hk := contrEquiv1_symm_val _ K (lhsTransposed_rank M K N) (lhsTransposed_size M K N)
  have ha : ∀ k, (lhsTransposed M K N).lhsIdx (ix2 r c) ((lhsTransposedRows M K N).symm k) = ix2 k r := fun k => funext fun x => Fin.ext (by
    match x with
    | ⟨0, _⟩ => exact hk k
    | ⟨1, _⟩ => rfl)
  have hb : ∀ k, (lhsTransposed M K N).rhsIdx (ix2 r c) ((lhsTransposedRows M K N).symm k) = ix2 k c := fun k => funext fun x => Fin.ext (by
    match x with
    | ⟨0, _⟩ => exact hk k
    | ⟨1, _⟩ => rfl)
  rw [Ideal.matmul_apply, ← Equiv.sum_comp (lhsTransposedRows M K N).symm]
  simp only [ha, hb]

end Cert.Prod

end
-- ==== Proof.DownDxGrad.lean ====
/-
  The gradient of the feed-forward down projection, with respect to its input: the kernel's result, and that the
  reference's plain product is the same over the extended reals.
-/
module

public import proofs.«01_k».proof.Proof.Gen.DownDxIdeal.Frame
public import proofs.«01_k».proof.Proof.Gen.DownDxRefIdeal.Read
public import proofs.«01_k».proof.Defs
public import proofs.«01_k».proof.Proof.ProdMath

@[expose] public section

noncomputable section

namespace Cert.DownDxIdeal.Own

open Cert.DownDxIdeal Cert.DownDxIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 8 := lt_of_lt_of_eq t.isLt (show cfg0.N = 8 from N_0)

theorem index0 : ∀ t : Fin grid0.N, win0_0.index t 0 = t.val / 2 ∧ win0_0.index t 1 = 0 :=
  by decide +kernel

theorem index1 : ∀ t : Fin grid0.N, win0_1.index t 0 = 1 ∧ win0_1.index t 1 = t.val % 2 ∧ win0_1.index t 2 = 0 :=
  by decide +kernel

theorem index2 : ∀ t : Fin grid0.N, win0_2.index t 0 = t.val / 2 ∧ win0_2.index t 1 = t.val % 2
    ∧ win0_2.xsize (grid0.coords t) 0 = 2048 ∧ win0_2.xsize (grid0.coords t) 1 = 1408 :=
  by decide +kernel

/-- The left factor's row `i` and the right factor's column `j`, along the contracted axis. -/
def lhs (A : S8192x1024.Idx → EReal) (i : ℕ) : ℕ → EReal := fun k => at2 A (i) (k)
def rhs (B : S2x2816x1024.Idx → EReal) (j : ℕ) : ℕ → EReal := fun k => at3 B 1 (j) (k)

variable (m : (ℓ : Loc nD τ sig) → Buf (Elt Ideal) ℓ) (c : Dev nD)

/-- The argument arrays. -/
abbrev aArr : S8192x1024.Idx → EReal := m ((c : Thread nD τ).loc main_arg0)
abbrev bArr : S2x2816x1024.Idx → EReal := m ((c : Thread nD τ).loc main_arg1)

theorem iblk0_apply (t : Fin cfg0.N) (r : Fin 2048) (k : Fin 1024) :
    (iblk m c 0 t : Vec Ideal S2048x1024 .bf16) (ix2 r k) = at2 (aArr m c) (2048 * (t.val / 2) + r.val) (k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 2048 + 1 * r.val = _; omega)
    (by show win0_0.index t 1 * 1024 + 1 * k.val = _; omega)

theorem iblk1_apply (t : Fin cfg0.N) (q : Fin 1408) (k : Fin 1024) :
    (iblk m c 1 t : Vec Ideal S1x1408x1024 .bf16) (ix3 0 q k) = at3 (bArr m c) 1 (1408 * (t.val % 2) + q.val) (k.val) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 1408 + 1 * q.val = _; omega)
    (by show win0_1.index t 2 * 1024 + 1 * k.val = _; omega)

/-- The products of point `t`: over its positions of the contracted axis, for entry (r, q) of its block. -/
def part (t : ℕ) (r : Fin 2048) (q : Fin 1408) : EReal :=
  ∑ k : Fin 1024, lhs (aArr m c) (2048 * (t / 2) + r.val) (k.val) * rhs (bArr m c) (1408 * (t % 2) + q.val) (k.val)

/-- The product of a point's staged blocks. -/
theorem block (t : Fin cfg0.N) (r : Fin 2048) (q : Fin 1408) :
    (k0_pay1 (iblk m c 0 t) (iblk m c 1 t) : Vec Ideal S2048x1408 .bf16) (ix2 r q) = part m c t.val r q := by
  have hdot : dot_S2048x1024_S1408x1024_S2048x1408_1_1_0_0_n_n = DotDims.transposedRhs 2048 1024 1408 := rfl
  unfold k0_pay1
  simp only [truncf_apply, shapeCast_self, matmul, hdot, Ideal.matmul_transposedRhs_apply, constant_apply, Ideal.ofBits_zero_f32, zero_add, unstack]
  exact Finset.sum_congr rfl fun k _ => by rw [iblk0_apply, iblk1_apply]; rfl

/-- The block that a point leaves for the result. -/
theorem left (t : Fin cfg0.N) (r : Fin 2048) (q : Fin 1408) :
    (out0_2 (iblk m c 0 t) (iblk m c 1 t) : Vec Ideal S2048x1408 .bf16) (ix2 r q) = prodTo (lhs (aArr m c) (2048 * (t.val / 2) + r.val)) (rhs (bArr m c) (1408 * (t.val % 2) + q.val)) 1024 := by
  unfold out0_2
  rw [View.canon_unit_zero hz2]
  simp only [View.ld_unit_zero (S := S2048x1024) hz2, View.ld_unit_zero (S := S1x1408x1024) hz3]
  rw [block]
  exact prodTo_all _ _ _

/-! ## The result array -/

/-- Every entry the sum of products over the whole contracted axis. -/
def result (A : S8192x1024.Idx → EReal) (B : S2x2816x1024.Idx → EReal) : S8192x2816.Idx → EReal :=
  fun i => prodTo (lhs A (i 0).val) (rhs B (i 1).val) 1024

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 2048) (q : Fin 1408), j = ix2 r q := ⟨j 0, j 1, eq_ix2 (n0 := 2048) (n1 := 1408) j⟩
  refine (left m c t  r q).trans (Eq.trans ?_ (congrArg (result (aArr m c) (bArr m c)) (?_ : (ix2 ⟨2048 * (t.val / 2) + r.val, by omega⟩ ⟨1408 * (t.val % 2) + q.val, by omega⟩ : S8192x2816.Idx) = _)))
  · rfl
  · funext a
    apply Fin.ext
    match a with
    | ⟨0, _⟩ => show 2048 * (t.val / 2) + r.val = win0_2.index t 0 * 2048 + 1 * r.val; omega
    | ⟨1, _⟩ => show 1408 * (t.val % 2) + q.val = win0_2.index t 1 * 1408 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 8192 := (i 0).isLt
    have h1 : (i 1 : ℕ) < 2816 := (i 1).isLt
    obtain ⟨t, ht⟩ : ∃ t : Fin cfg0.N, t.val = (i 0).val / 2048 * 2 + (i 1).val / 1408 := ⟨⟨(i 0).val / 2048 * 2 + (i 1).val / 1408, by rw [show cfg0.N = 8 from N_0]; omega⟩, rfl⟩
    obtain ⟨e0, e1, x0, x1⟩ := index2 t
    refine ⟨t, flush0_2 t, (congrArg (i ∈ ·) (View.set_slice_whole main_v0 (win0_2.rect t))).mpr (Rect.mem_set_unit.2 fun a => ?_)⟩
    match a with
    | ⟨0, _⟩ => show win0_2.index t 0 * 2048 ≤ (i 0 : ℕ) ∧ (i 0 : ℕ) < win0_2.index t 0 * 2048 + win0_2.xsize (grid0.coords t) 0; omega
    | ⟨1, _⟩ => show win0_2.index t 1 * 1408 ≤ (i 1 : ℕ) ∧ (i 1 : ℕ) < win0_2.index t 1 * 1408 + win0_2.xsize (grid0.coords t) 1; omega

/-! ## The reference -/

open DownDxRefIdeal.Read

/-- The reference's result is the same sum of products. -/
theorem value (A : S8192x1024.Idx → EReal) (B : S2x2816x1024.Idx → EReal) :
    (val_main_v8 (F := Ideal) A B : S8192x2816.Idx → EReal) = result A B := by
  funext i
  have hi : (i 0).val < 8192 := (i 0).isLt
  have hj : (i 1).val < 2816 := (i 1).isLt
  simp only [val_main_v8_apply, val_main_v7_apply, val_main_v6_apply, val_main_v4_apply, val_main_v3_apply, val_main_v2_apply]
  unfold result
  rw [← prodTo_all]
  refine Finset.sum_congr rfl fun k _ => ?_
  have hk := k.isLt
  exact congrArg₂ (fun a b : EReal => a * b) (at2_in A (i 0).val k.val (i 0).isLt k.isLt _ rfl rfl) (at3_in B 1 (i 1).val k.val (by omega) (i 1).isLt (by omega) _ rfl (by show ((i 1).val * 1024 + k.val) / 1024 % 2816 = (i 1).val; omega) (by show ((i 1).val * 1024 + k.val) % 1024 = k.val; omega))

/-- The reference runs without a fault, leaves its arguments as they are and ends with no semaphore raised. -/
theorem reference_frame : quiescent_DownDxRefIdeal := fun m ρ _ =>
  (θ_run _ _ _).mono (fun r h => ⟨fun c => (h c).2, sem_eq_zero_of_no_sems (by decide) r.2⟩) (DownDxRefIdeal.Value.run m ρ)

/-- Over the extended reals the kernel's result and the reference's are equal. -/
theorem algebraic : algebraic_DownDxIdeal_DownDxRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (DownDxRefIdeal.Value.run m' g')
  rw [val_main_v8_eq, (hargs c).1, (hargs c).2]
  exact value _ _

end Cert.DownDxIdeal.Own

end
-- ==== Proof.DownDwGrad.lean ====
/-
  The gradient of the feed-forward down projection, with respect to its weights: the kernel's result, and that the
  reference's plain product is the same over the extended reals.
-/
module

public import proofs.«01_k».proof.Proof.Gen.DownDwIdeal.Frame
public import proofs.«01_k».proof.Proof.Gen.DownDwRefIdeal.Read
public import proofs.«01_k».proof.Defs
public import proofs.«01_k».proof.Proof.ProdMath

@[expose] public section

noncomputable section

namespace Cert.DownDwIdeal.Own

open Cert.DownDwIdeal Cert.DownDwIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 16 := lt_of_lt_of_eq t.isLt (show cfg0.N = 16 from N_0)

theorem index0 : ∀ t : Fin grid0.N, win0_0.index t 0 = t.val % 8 ∧ win0_0.index t 1 = t.val / 8 :=
  by decide +kernel

theorem index1 : ∀ t : Fin grid0.N, win0_1.index t 0 = t.val % 8 ∧ win0_1.index t 1 = 0 :=
  by decide +kernel

theorem index2 : ∀ t : Fin grid0.N, win0_2.index t 0 = t.val / 8 ∧ win0_2.index t 1 = 0
    ∧ win0_2.xsize (grid0.coords t) 0 = 1408 ∧ win0_2.xsize (grid0.coords t) 1 = 1024 :=
  by decide +kernel

/-- The left factor's row `i` and the right factor's column `j`, along the contracted axis. -/
def lhs (A : S8192x2816.Idx → EReal) (i : ℕ) : ℕ → EReal := fun k => at2 A (k) (i)
def rhs (B : S8192x1024.Idx → EReal) (j : ℕ) : ℕ → EReal := fun k => at2 B (k) (j)

variable (m : (ℓ : Loc nD τ sig) → Buf (Elt Ideal) ℓ) (c : Dev nD)

/-- The argument arrays. -/
abbrev aArr : S8192x2816.Idx → EReal := m ((c : Thread nD τ).loc main_arg0)
abbrev bArr : S8192x1024.Idx → EReal := m ((c : Thread nD τ).loc main_arg1)

theorem iblk0_apply (t : Fin cfg0.N) (k : Fin 1024) (r : Fin 1408) :
    (iblk m c 0 t : Vec Ideal S1024x1408 .bf16) (ix2 k r) = at2 (aArr m c) (1024 * (t.val % 8) + k.val) (1408 * (t.val / 8) + r.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 1024 + 1 * k.val = _; omega)
    (by show win0_0.index t 1 * 1408 + 1 * r.val = _; omega)

theorem iblk1_apply (t : Fin cfg0.N) (k : Fin 1024) (q : Fin 1024) :
    (iblk m c 1 t : Vec Ideal S1024x1024 .bf16) (ix2 k q) = at2 (bArr m c) (1024 * (t.val % 8) + k.val) (q.val) := by
  obtain ⟨h0, h1⟩ := index1 t
  have := t_lt t
  unfold iblk
  rw [View.read_apply]
  show V m c main_arg1 _ = _
  unfold V
  exact at2_in (bArr m c) _ _ (by omega) (by omega) _
    (by show win0_1.index t 0 * 1024 + 1 * k.val = _; omega)
    (by show win0_1.index t 1 * 1024 + 1 * q.val = _; omega)

/-- The products of point `t`: over its positions of the contracted axis, for entry (r, q) of its block. -/
def part (t : ℕ) (r : Fin 1408) (q : Fin 1024) : EReal :=
  ∑ k : Fin 1024, lhs (aArr m c) (1408 * (t / 8) + r.val) (1024 * (t % 8) + k.val) * rhs (bArr m c) (q.val) (1024 * (t % 8) + k.val)

/-- The product of a point's staged blocks. -/
theorem block (t : Fin cfg0.N) (r : Fin 1408) (q : Fin 1024) :
    (k0_pay1 (iblk m c 0 t) (iblk m c 1 t) : Vec Ideal S1408x1024 .f32) (ix2 r q) = part m c t.val r q := by
  have hdot : dot_S1024x1408_S1024x1024_S1408x1024_0_0_1_1_n_n = Prod.lhsTransposed 1408 1024 1024 := rfl
  unfold k0_pay1
  simp only [shapeCast_self, matmul, hdot, Prod.lhsTransposed_apply, constant_apply, Ideal.ofBits_zero_f32, zero_add, unstack]
  exact Finset.sum_congr rfl fun k _ => by rw [iblk0_apply, iblk1_apply]; rfl

/-! ## The points -/

theorem first_point (t : Fin cfg0.N) (h0 : t.val % 8 = 0) (r : Fin 1408) (q : Fin 1024) :
    (outsAt0 m c t.val t.isLt).2 (ix2 r q) = part m c t.val r q := by
  rw [outsAt0_A m c t (by omega) (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz2]
  simp only [View.readCov_unit_zero (S := S1408x1024) _ hz2, View.readAt_eq_ld, (hs0_0 t).read_unread, (hs0_1 t).read_unread, (Memref.isWhole_whole _).read_unread,
    View.ld_unit_zero (S := S1024x1024) hz2, View.ld_unit_zero (S := S1024x1408) hz2, View.ld_unit_zero (S := S1408x1024) hz2, k0_pay2, shapeCast_self]
  exact block m c t r q

theorem next_point (t : Fin cfg0.N) (h0 : ¬t.val % 8 = 0) (h2 : ¬t.val % 8 = 7) (r : Fin 1408) (q : Fin 1024) :
    (outsAt0 m c t.val t.isLt).2 (ix2 r q) = (outsAt0 m c (t.val - 1) (pred_lt t.isLt)).2 (ix2 r q) + part m c t.val r q := by
  rw [outsAt0_B m c t (by omega) (by omega) (by omega)]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz2]
  simp only [View.readCov_unit_zero (S := S1408x1024) _ hz2, View.readAt_eq_ld, (hs0_0 t).read_unread, (hs0_1 t).read_unread, (Memref.isWhole_whole _).read_unread,
    View.ld_unit_zero (S := S1024x1024) hz2, View.ld_unit_zero (S := S1024x1408) hz2, View.ld_unit_zero (S := S1408x1024) hz2, k0_pay3, addf_apply, shapeCast_self]
  exact congrArg (fun z : EReal => _ + z) (block m c t r q)

theorem last_point (t : Fin cfg0.N) (h2 : t.val % 8 = 7) (r : Fin 1408) (q : Fin 1024) :
    (outsAt0 m c t.val t.isLt).1 (ix2 r q) = (outsAt0 m c (t.val - 1) (pred_lt t.isLt)).2 (ix2 r q) + part m c t.val r q := by
  rw [outsAt0_C m c t (by omega) (by omega) (by omega)]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readCov_unit_zero (S := S1408x1024) _ hz2, View.readAt_eq_ld, (hs0_0 t).read_unread, (hs0_1 t).read_unread, (Memref.isWhole_whole _).read_unread,
    View.ld_unit_zero (S := S1024x1024) hz2, View.ld_unit_zero (S := S1024x1408) hz2, View.ld_unit_zero (S := S1408x1024) hz2, k0_pay3, addf_apply, shapeCast_self]
  exact (congrArg (fun z : EReal => _ + z) (block m c t r q))

/-- The block that the last point of a run leaves for the result. -/
theorem left (t : Fin cfg0.N) (h2 : t.val % 8 = 7) (r : Fin 1408) (q : Fin 1024) :
    (outsAt0 m c t.val t.isLt).1 (ix2 r q) = prodTo (lhs (aArr m c) (1408 * (t.val / 8) + r.val)) (rhs (bArr m c) (q.val)) 8192 := by
  rw [last_point m c t h2 r q]
  exact gathered (N := cfg0.N) (b := 8) (by decide) (by decide : 1024 * 8 = 8192) (fun n h => (outsAt0 m c n h).2 (ix2 r q)) (fun n _ => part m c n r q)
    (fun n => lhs (aArr m c) (1408 * (n / 8) + r.val)) (fun n => rhs (bArr m c) (q.val)) (fun _ _ => rfl)
    (fun n h e => ⟨by rw [show (n - 1) / 8 = n / 8 by omega], rfl⟩) (fun n h e => first_point m c ⟨n, h⟩ e r q) (fun n h h' e e' => next_point m c ⟨n, h⟩ e e' r q) t.val t.isLt _ h2

/-! ## The result array -/

/-- Every entry the sum of products over the whole contracted axis. -/
def result (A : S8192x2816.Idx → EReal) (B : S8192x1024.Idx → EReal) : S2816x1024.Idx → EReal :=
  fun i => prodTo (lhs A (i 0).val) (rhs B (i 1).val) 8192

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 1408) (q : Fin 1024), j = ix2 r q := ⟨j 0, j 1, eq_ix2 (n0 := 1408) (n1 := 1024) j⟩
  refine (left m c t ((flush0_2 t).mp h) r q).trans (Eq.trans ?_ (congrArg (result (aArr m c) (bArr m c)) (?_ : (ix2 ⟨1408 * (t.val / 8) + r.val, by omega⟩ ⟨q.val, by omega⟩ : S2816x1024.Idx) = _)))
  · rfl
  · funext a
    apply Fin.ext
    match a with
    | ⟨0, _⟩ => show 1408 * (t.val / 8) + r.val = win0_2.index t 0 * 1408 + 1 * r.val; omega
    | ⟨1, _⟩ => show q.val = win0_2.index t 1 * 1024 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 2816 := (i 0).isLt
    have h1 : (i 1 : ℕ) < 1024 := (i 1).isLt
    obtain ⟨t, ht⟩ : ∃ t : Fin cfg0.N, t.val = (i 0).val / 1408 * 8 + 7 := ⟨⟨(i 0).val / 1408 * 8 + 7, by rw [show cfg0.N = 16 from N_0]; omega⟩, rfl⟩
    obtain ⟨e0, e1, x0, x1⟩ := index2 t
    refine ⟨t, (flush0_2 t).mpr (by omega), (congrArg (i ∈ ·) (View.set_slice_whole main_v0 (win0_2.rect t))).mpr (Rect.mem_set_unit.2 fun a => ?_)⟩
    match a with
    | ⟨0, _⟩ => show win0_2.index t 0 * 1408 ≤ (i 0 : ℕ) ∧ (i 0 : ℕ) < win0_2.index t 0 * 1408 + win0_2.xsize (grid0.coords t) 0; omega
    | ⟨1, _⟩ => show win0_2.index t 1 * 1024 ≤ (i 1 : ℕ) ∧ (i 1 : ℕ) < win0_2.index t 1 * 1024 + win0_2.xsize (grid0.coords t) 1; omega

/-! ## The reference -/

open DownDwRefIdeal.Read

/-- The reference's result is the same sum of products. -/
theorem value (A : S8192x2816.Idx → EReal) (B : S8192x1024.Idx → EReal) :
    (val_main_v5 (F := Ideal) A B : S2816x1024.Idx → EReal) = result A B := by
  funext i
  have hi : (i 0).val < 2816 := (i 0).isLt
  have hj : (i 1).val < 1024 := (i 1).isLt
  simp only [val_main_v5_apply, val_main_v4_apply, val_main_v3_apply, val_main_v1_apply]
  unfold result
  rw [← prodTo_all]
  refine Finset.sum_congr rfl fun k _ => ?_
  have hk := k.isLt
  exact (mul_comm _ _).trans (congrArg₂ (fun a b : EReal => a * b) (at2_in A k.val (i 0).val k.isLt (i 0).isLt _ rfl rfl) (at2_in B k.val (i 1).val k.isLt (i 1).isLt _ rfl rfl))

/-- The reference runs without a fault, leaves its arguments as they are and ends with no semaphore raised. -/
theorem reference_frame : quiescent_DownDwRefIdeal := fun m ρ _ =>
  (θ_run _ _ _).mono (fun r h => ⟨fun c => (h c).2, sem_eq_zero_of_no_sems (by decide) r.2⟩) (DownDwRefIdeal.Value.run m ρ)

/-- Over the extended reals the kernel's result and the reference's are equal. -/
theorem algebraic : algebraic_DownDwIdeal_DownDwRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (DownDwRefIdeal.Value.run m' g')
  rw [val_main_v5_eq, (hargs c).1, (hargs c).2]
  exact value _ _

end Cert.DownDwIdeal.Own

end
-- ==== Proof.MainDxGrad.lean ====
/-
  The gradient of the input projection, with respect to its input: the kernel's result, and that the
  reference's plain product is the same over the extended reals.
-/
module

public import proofs.«01_k».proof.Proof.Gen.MainDxIdeal.Frame
public import proofs.«01_k».proof.Proof.Gen.MainDxRefIdeal.Read
public import proofs.«01_k».proof.Defs
public import proofs.«01_k».proof.Proof.ProdMath

@[expose] public section

noncomputable section

namespace Cert.MainDxIdeal.Own

open Cert.MainDxIdeal Cert.MainDxIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 24 := lt_of_lt_of_eq t.isLt (show cfg0.N = 24 from N_0)

theorem index0 : ∀ t : Fin grid0.N, win0_0.index t 0 = t.val / 3 ∧ win0_0.index t 1 = t.val % 3 :=
  by decide +kernel

theorem index1 : ∀ t : Fin grid0.N, win0_1.index t 0 = 1 ∧ win0_1.index t 1 = 0 ∧ win0_1.index t 2 = t.val % 3 :=
  by decide +kernel

theorem index2 : ∀ t : Fin grid0.N, win0_2.index t 0 = t.val / 3 ∧ win0_2.index t 1 = 0
    ∧ win0_2.xsize (grid0.coords t) 0 = 1024 ∧ win0_2.xsize (grid0.coords t) 1 = 1024 :=
  by decide +kernel

/-- The left factor's row `i` and the right factor's column `j`, along the contracted axis. -/
def lhs (A : S8192x4608.Idx → EReal) (i : ℕ) : ℕ → EReal := fun k => at2 A (i) (k)
def rhs (B : S2x1024x4608.Idx → EReal) (j : ℕ) : ℕ → EReal := fun k => at3 B 1 (j) (k)

variable (m : (ℓ : Loc nD τ sig) → Buf (Elt Ideal) ℓ) (c : Dev nD)

/-- The argument arrays. -/
abbrev aArr : S8192x4608.Idx → EReal := m ((c : Thread nD τ).loc main_arg0)
abbrev bArr : S2x1024x4608.Idx → EReal := m ((c : Thread nD τ).loc main_arg1)

theorem iblk0_apply (t : Fin cfg0.N) (r : Fin 1024) (k : Fin 1536) :
    (iblk m c 0 t : Vec Ideal S1024x1536 .bf16) (ix2 r k) = at2 (aArr m c) (1024 * (t.val / 3) + r.val) (1536 * (t.val % 3) + k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 1024 + 1 * r.val = _; omega)
    (by show win0_0.index t 1 * 1536 + 1 * k.val = _; omega)

theorem iblk1_apply (t : Fin cfg0.N) (q : Fin 1024) (k : Fin 1536) :
    (iblk m c 1 t : Vec Ideal S1x1024x1536 .bf16) (ix3 0 q k) = at3 (bArr m c) 1 (q.val) (1536 * (t.val % 3) + k.val) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 1024 + 1 * q.val = _; omega)
    (by show win0_1.index t 2 * 1536 + 1 * k.val = _; omega)

/-- The products of point `t`: over its positions of the contracted axis, for entry (r, q) of its block. -/
def part (t : ℕ) (r : Fin 1024) (q : Fin 1024) : EReal :=
  ∑ k : Fin 1536, lhs (aArr m c) (1024 * (t / 3) + r.val) (1536 * (t % 3) + k.val) * rhs (bArr m c) (q.val) (1536 * (t % 3) + k.val)

/-- The product of a point's staged blocks. -/
theorem block (t : Fin cfg0.N) (r : Fin 1024) (q : Fin 1024) :
    (k0_pay1 (iblk m c 0 t) (iblk m c 1 t) : Vec Ideal S1024x1024 .f32) (ix2 r q) = part m c t.val r q := by
  have hdot : dot_S1024x1536_S1024x1536_S1024x1024_1_1_0_0_n_n = DotDims.transposedRhs 1024 1536 1024 := rfl
  unfold k0_pay1
  simp only [shapeCast_self, matmul, hdot, Ideal.matmul_transposedRhs_apply, constant_apply, Ideal.ofBits_zero_f32, zero_add, unstack]
  exact Finset.sum_congr rfl fun k _ => by rw [iblk0_apply, iblk1_apply]; rfl

/-! ## The points -/

theorem first_point (t : Fin cfg0.N) (h0 : t.val % 3 = 0) (r : Fin 1024) (q : Fin 1024) :
    (outsAt0 m c t.val t.isLt).2 (ix2 r q) = part m c t.val r q := by
  rw [outsAt0_A m c t (by omega) (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz2]
  simp only [View.readCov_unit_zero (S := S1024x1024) _ hz2, View.readAt_eq_ld, (hs0_0 t).read_unread, (hs0_1 t).read_unread, (Memref.isWhole_whole _).read_unread,
    View.ld_unit_zero (S := S1024x1024) hz2, View.ld_unit_zero (S := S1024x1536) hz2, View.ld_unit_zero (S := S1x1024x1536) hz3, k0_pay2, shapeCast_self]
  exact block m c t r q

theorem next_point (t : Fin cfg0.N) (h0 : ¬t.val % 3 = 0) (h2 : ¬t.val % 3 = 2) (r : Fin 1024) (q : Fin 1024) :
    (outsAt0 m c t.val t.isLt).2 (ix2 r q) = (outsAt0 m c (t.val - 1) (pred_lt t.isLt)).2 (ix2 r q) + part m c t.val r q := by
  rw [outsAt0_B m c t (by omega) (by omega) (by omega)]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz2]
  simp only [View.readCov_unit_zero (S := S1024x1024) _ hz2, View.readAt_eq_ld, (hs0_0 t).read_unread, (hs0_1 t).read_unread, (Memref.isWhole_whole _).read_unread,
    View.ld_unit_zero (S := S1024x1024) hz2, View.ld_unit_zero (S := S1024x1536) hz2, View.ld_unit_zero (S := S1x1024x1536) hz3, k0_pay3, addf_apply, shapeCast_self]
  exact congrArg (fun z : EReal => _ + z) (block m c t r q)

theorem last_point (t : Fin cfg0.N) (h2 : t.val % 3 = 2) (r : Fin 1024) (q : Fin 1024) :
    (outsAt0 m c t.val t.isLt).1 (ix2 r q) = (outsAt0 m c (t.val - 1) (pred_lt t.isLt)).2 (ix2 r q) + part m c t.val r q := by
  rw [outsAt0_C m c t (by omega) (by omega) (by omega)]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readCov_unit_zero (S := S1024x1024) _ hz2, View.readAt_eq_ld, (hs0_0 t).read_unread, (hs0_1 t).read_unread, (Memref.isWhole_whole _).read_unread,
    View.ld_unit_zero (S := S1024x1024) hz2, View.ld_unit_zero (S := S1024x1536) hz2, View.ld_unit_zero (S := S1x1024x1536) hz3, k0_pay3, addf_apply, shapeCast_self]
  exact (congrArg (fun z : EReal => _ + z) (block m c t r q))

/-- The block that the last point of a run leaves for the result. -/
theorem left (t : Fin cfg0.N) (h2 : t.val % 3 = 2) (r : Fin 1024) (q : Fin 1024) :
    (outsAt0 m c t.val t.isLt).1 (ix2 r q) = prodTo (lhs (aArr m c) (1024 * (t.val / 3) + r.val)) (rhs (bArr m c) (q.val)) 4608 := by
  rw [last_point m c t h2 r q]
  exact gathered (N := cfg0.N) (b := 3) (by decide) (by decide : 1536 * 3 = 4608) (fun n h => (outsAt0 m c n h).2 (ix2 r q)) (fun n _ => part m c n r q)
    (fun n => lhs (aArr m c) (1024 * (n / 3) + r.val)) (fun n => rhs (bArr m c) (q.val)) (fun _ _ => rfl)
    (fun n h e => ⟨by rw [show (n - 1) / 3 = n / 3 by omega], rfl⟩) (fun n h e => first_point m c ⟨n, h⟩ e r q) (fun n h h' e e' => next_point m c ⟨n, h⟩ e e' r q) t.val t.isLt _ h2

/-! ## The result array -/

/-- Every entry the sum of products over the whole contracted axis. -/
def result (A : S8192x4608.Idx → EReal) (B : S2x1024x4608.Idx → EReal) : S8192x1024.Idx → EReal :=
  fun i => prodTo (lhs A (i 0).val) (rhs B (i 1).val) 4608

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 1024) (q : Fin 1024), j = ix2 r q := ⟨j 0, j 1, eq_ix2 (n0 := 1024) (n1 := 1024) j⟩
  refine (left m c t ((flush0_2 t).mp h) r q).trans (Eq.trans ?_ (congrArg (result (aArr m c) (bArr m c)) (?_ : (ix2 ⟨1024 * (t.val / 3) + r.val, by omega⟩ ⟨q.val, by omega⟩ : S8192x1024.Idx) = _)))
  · rfl
  · funext a
    apply Fin.ext
    match a with
    | ⟨0, _⟩ => show 1024 * (t.val / 3) + r.val = win0_2.index t 0 * 1024 + 1 * r.val; omega
    | ⟨1, _⟩ => show q.val = win0_2.index t 1 * 1024 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 8192 := (i 0).isLt
    have h1 : (i 1 : ℕ) < 1024 := (i 1).isLt
    obtain ⟨t, ht⟩ : ∃ t : Fin cfg0.N, t.val = (i 0).val / 1024 * 3 + 2 := ⟨⟨(i 0).val / 1024 * 3 + 2, by rw [show cfg0.N = 24 from N_0]; omega⟩, rfl⟩
    obtain ⟨e0, e1, x0, x1⟩ := index2 t
    refine ⟨t, (flush0_2 t).mpr (by omega), (congrArg (i ∈ ·) (View.set_slice_whole main_v0 (win0_2.rect t))).mpr (Rect.mem_set_unit.2 fun a => ?_)⟩
    match a with
    | ⟨0, _⟩ => show win0_2.index t 0 * 1024 ≤ (i 0 : ℕ) ∧ (i 0 : ℕ) < win0_2.index t 0 * 1024 + win0_2.xsize (grid0.coords t) 0; omega
    | ⟨1, _⟩ => show win0_2.index t 1 * 1024 ≤ (i 1 : ℕ) ∧ (i 1 : ℕ) < win0_2.index t 1 * 1024 + win0_2.xsize (grid0.coords t) 1; omega

/-! ## The reference -/

open MainDxRefIdeal.Read

/-- The reference's result is the same sum of products. -/
theorem value (A : S8192x4608.Idx → EReal) (B : S2x1024x4608.Idx → EReal) :
    (val_main_v6 (F := Ideal) A B : S8192x1024.Idx → EReal) = result A B := by
  funext i
  have hi : (i 0).val < 8192 := (i 0).isLt
  have hj : (i 1).val < 1024 := (i 1).isLt
  simp only [val_main_v6_apply, val_main_v5_apply, val_main_v3_apply, val_main_v2_apply, val_main_v1_apply]
  unfold result
  rw [← prodTo_all]
  refine Finset.sum_congr rfl fun k _ => ?_
  have hk := k.isLt
  exact congrArg₂ (fun a b : EReal => a * b) (at2_in A (i 0).val k.val (i 0).isLt k.isLt _ rfl rfl) (at3_in B 1 (i 1).val k.val (by omega) (i 1).isLt (by omega) _ rfl (by show ((i 1).val * 4608 + k.val) / 4608 % 1024 = (i 1).val; omega) (by show ((i 1).val * 4608 + k.val) % 4608 = k.val; omega))

/-- The reference runs without a fault, leaves its arguments as they are and ends with no semaphore raised. -/
theorem reference_frame : quiescent_MainDxRefIdeal := fun m ρ _ =>
  (θ_run _ _ _).mono (fun r h => ⟨fun c => (h c).2, sem_eq_zero_of_no_sems (by decide) r.2⟩) (MainDxRefIdeal.Value.run m ρ)

/-- Over the extended reals the kernel's result and the reference's are equal. -/
theorem algebraic : algebraic_MainDxIdeal_MainDxRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (MainDxRefIdeal.Value.run m' g')
  rw [val_main_v6_eq, (hargs c).1, (hargs c).2]
  exact value _ _

end Cert.MainDxIdeal.Own

end
-- ==== Proof.MainDwGrad.lean ====
/-
  The gradient of the input projection, with respect to its weights and its bias: the kernel's result, and that the
  reference's plain product is the same over the extended reals.
-/
module

public import proofs.«01_k».proof.Proof.Gen.MainDwIdeal.Frame
public import proofs.«01_k».proof.Proof.Gen.MainDwRefIdeal.Read
public import proofs.«01_k».proof.Defs
public import proofs.«01_k».proof.Proof.ProdMath
public import Idealize.ShloMosaic.Lib.Pointwise.Reduce

@[expose] public section

noncomputable section

namespace Cert.MainDwIdeal.Own

open Cert.MainDwIdeal Cert.MainDwIdeal.Gen Idealize.ShloMosaic.TcCoe Idealize.SL.Sem
open Idealize.ShloMosaic hiding ix1 ix2 ix3 eq_ix1 eq_ix2 eq_ix3
open Idealize.ShloMosaic.ValueIdx Cert.Prod
open Idealize.ShloMosaic.Pipeline (Dat)

/-! ## The blocks a point reads and writes -/

theorem t_lt (t : Fin cfg0.N) : t.val < 24 := lt_of_lt_of_eq t.isLt (show cfg0.N = 24 from N_0)

theorem index0 : ∀ t : Fin grid0.N, win0_0.index t 0 = t.val % 8 ∧ win0_0.index t 1 = 0 :=
  by decide +kernel

theorem index1 : ∀ t : Fin grid0.N, win0_1.index t 0 = t.val % 8 ∧ win0_1.index t 1 = t.val / 8 :=
  by decide +kernel

theorem index2 : ∀ t : Fin grid0.N, win0_2.index t 0 = 0 ∧ win0_2.index t 1 = t.val / 8
    ∧ win0_2.xsize (grid0.coords t) 0 = 1024 ∧ win0_2.xsize (grid0.coords t) 1 = 1536 :=
  by decide +kernel

/-- The left factor's row `i` and the right factor's column `j`, along the contracted axis. -/
def lhs (A : S8192x1024.Idx → EReal) (i : ℕ) : ℕ → EReal := fun k => at2 A (k) (i)
def rhs (B : S8192x4608.Idx → EReal) (j : ℕ) : ℕ → EReal := fun k => at2 B (k) (j)

variable (m : (ℓ : Loc nD τ sig) → Buf (Elt Ideal) ℓ) (c : Dev nD)

/-- The argument arrays. -/
abbrev aArr : S8192x1024.Idx → EReal := m ((c : Thread nD τ).loc main_arg0)
abbrev bArr : S8192x4608.Idx → EReal := m ((c : Thread nD τ).loc main_arg1)

theorem iblk0_apply (t : Fin cfg0.N) (k : Fin 1024) (r : Fin 1024) :
    (iblk m c 0 t : Vec Ideal S1024x1024 .bf16) (ix2 k r) = at2 (aArr m c) (1024 * (t.val % 8) + k.val) (r.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 1024 + 1 * k.val = _; omega)
    (by show win0_0.index t 1 * 1024 + 1 * r.val = _; omega)

theorem iblk1_apply (t : Fin cfg0.N) (k : Fin 1024) (q : Fin 1536) :
    (iblk m c 1 t : Vec Ideal S1024x1536 .bf16) (ix2 k q) = at2 (bArr m c) (1024 * (t.val % 8) + k.val) (1536 * (t.val / 8) + q.val) := by
  obtain ⟨h0, h1⟩ := index1 t
  have := t_lt t
  unfold iblk
  rw [View.read_apply]
  show V m c main_arg1 _ = _
  unfold V
  exact at2_in (bArr m c) _ _ (by omega) (by omega) _
    (by show win0_1.index t 0 * 1024 + 1 * k.val = _; omega)
    (by show win0_1.index t 1 * 1536 + 1 * q.val = _; omega)

/-- The products of point `t`: over its positions of the contracted axis, for entry (r, q) of its block. -/
def part (t : ℕ) (r : Fin 1024) (q : Fin 1536) : EReal :=
  ∑ k : Fin 1024, lhs (aArr m c) (r.val) (1024 * (t % 8) + k.val) * rhs (bArr m c) (1536 * (t / 8) + q.val) (1024 * (t % 8) + k.val)

/-- The product of a point's staged blocks. -/
theorem block (t : Fin cfg0.N) (r : Fin 1024) (q : Fin 1536) :
    (k0_pay1 (iblk m c 0 t) (iblk m c 1 t) : Vec Ideal S1024x1536 .f32) (ix2 r q) = part m c t.val r q := by
  have hdot : dot_S1024x1024_S1024x1536_S1024x1536_0_0_1_1_n_n = Prod.lhsTransposed 1024 1024 1536 := rfl
  unfold k0_pay1
  simp only [shapeCast_self, matmul, hdot, Prod.lhsTransposed_apply, constant_apply, Ideal.ofBits_zero_f32, zero_add, unstack]
  exact Finset.sum_congr rfl fun k _ => by rw [iblk0_apply, iblk1_apply]; rfl

/-! ## The points -/

theorem first_point (t : Fin cfg0.N) (h0 : t.val % 8 = 0) (r : Fin 1024) (q : Fin 1536) :
    (outsAt0 m c t.val t.isLt).2.2 (ix2 r q) = part m c t.val r q := by
  have ht := t_lt t
  rw [outsAt0_A m c t (by omega) (by omega) (by omega) (by omega) (by omega)]
  dsimp only
  unfold sout0_A_0
  rw [View.read_writes_eq_canon _ _ _ (scover0_A_0 _ _ _ _ _ _ _ _ _ _ _ _ _ _ _ _ _ _ _)]
  unfold kernelRun0_A
  dsimp only
  sl_unfold_words
  rw [View.canon_unit_zero hz2]
  simp only [View.readCov_unit_zero (S := S1024x1536) _ hz2, View.readCov_unit_zero (S := S1x1536) _ hz2, View.readAt_eq_ld, (hs0_0 t).read_unread, (hs0_1 t).read_unread, (hs0_3 t).read_unread, (Memref.isWhole_whole _).read_unread,
    View.ld_unit_zero (S := S1024x1024) hz2, View.ld_unit_zero (S := S1024x1536) hz2, View.ld_unit_zero (S := S1x1536) hz2, k0_pay4, shapeCast_self]
  exact block m c t r q

theorem next_point (t : Fin cfg0.N) (h0 : ¬t.val % 8 = 0) (h2 : ¬t.val % 8 = 7) (r : Fin 1024) (q : Fin 1536) :
    (outsAt0 m c t.val t.isLt).2.2 (ix2 r q) = (outsAt0 m c (t.val - 1) (pred_lt t.isLt)).2.2 (ix2 r q) + part m c t.val r q := by
  have ht := t_lt t
  rw [outsAt0_B m c t (by omega) (by omega) (by omega) (by omega) (by omega)]
  dsimp only
  unfold sout0_B_0
  rw [View.read_writes_eq_canon _ _ _ (scover0_B_0 _ _ _ _ _ _ _ _ _ _ _ _ _ _ _ _ _ _ _ _ _)]
  unfold kernelRun0_B
  dsimp only
  sl_unfold_words
  rw [View.canon_unit_zero hz2]
  simp only [View.readCov_unit_zero (S := S1024x1536) _ hz2, View.readCov_unit_zero (S := S1x1536) _ hz2, View.readAt_eq_ld, (hs0_0 t).read_unread, (hs0_1 t).read_unread, (hs0_3 t).read_unread, (Memref.isWhole_whole _).read_unread,
    View.ld_unit_zero (S := S1024x1024) hz2, View.ld_unit_zero (S := S1024x1536) hz2, View.ld_unit_zero (S := S1x1536) hz2, k0_pay5, addf_apply, shapeCast_self]
  exact congrArg (fun z : EReal => _ + z) (block m c t r q)

/-- The column sums of a point's staged block. -/
def colPart (t : ℕ) (q : Fin 1536) : EReal :=
  ∑ k : Fin 1024, 1 * rhs (bArr m c) (1536 * (t / 8) + q.val) (1024 * (t % 8) + k.val)

theorem col_block (t : Fin cfg0.N) (q : Fin 1536) :
    (k0_pay2 (iblk m c 1 t) : Vec Ideal S1x1536 .f32) (ix2 0 q) = colPart m c t.val q := by
  unfold k0_pay2
  rw [shapeCast_apply _ shapeCasts_S1536_S1x1536 (ix2 0 q) (ix1 q) (by rw [Shape.rowMajor_val_one, Shape.rowMajor_val_two]; simp)]
  refine (Ideal.reduceAdd_r2_a0 _ _ _).trans (Finset.sum_congr rfl fun k _ => ?_)
  rw [one_mul]
  exact iblk1_apply m c t k q

theorem first_col (t : Fin cfg0.N) (h0 : t.val % 8 = 0) (q : Fin 1536) :
    (outsAt0 m c t.val t.isLt).2.1 (ix2 0 q) = colPart m c t.val q := by
  rw [outsAt0_A m c t (by omega) (by omega) (by omega) (by omega) (by omega)]
  dsimp only
  unfold out0_A_3
  rw [View.read_writes_eq_canon _ _ _ (cover0_A_3 _ _ _ _ _ _ _ _ _ _ _ _ _ _ _ _ _ _ _)]
  unfold kernelRun0_A
  dsimp only
  sl_unfold_words
  rw [View.canon_unit_zero hz2]
  simp only [View.readCov_unit_zero (S := S1024x1536) _ hz2, View.readCov_unit_zero (S := S1x1536) _ hz2, View.readAt_eq_ld, (hs0_0 t).read_unread, (hs0_1 t).read_unread, (hs0_3 t).read_unread, (Memref.isWhole_whole _).read_unread,
    View.ld_unit_zero (S := S1024x1024) hz2, View.ld_unit_zero (S := S1024x1536) hz2, View.ld_unit_zero (S := S1x1536) hz2, shapeCast_self]
  exact col_block m c t q

theorem next_col (t : Fin cfg0.N) (h0 : ¬t.val % 8 = 0) (h2 : ¬t.val % 8 = 7) (q : Fin 1536) :
    (outsAt0 m c t.val t.isLt).2.1 (ix2 0 q) = (outsAt0 m c (t.val - 1) (pred_lt t.isLt)).2.1 (ix2 0 q) + colPart m c t.val q := by
  rw [outsAt0_B m c t (by omega) (by omega) (by omega) (by omega) (by omega)]
  dsimp only
  unfold out0_B_3
  rw [View.read_writes_eq_canon _ _ _ (cover0_B_3 _ _ _ _ _ _ _ _ _ _ _ _ _ _ _ _ _ _ _ _ _)]
  unfold kernelRun0_B
  dsimp only
  sl_unfold_words
  rw [View.canon_unit_zero hz2]
  simp only [View.readCov_unit_zero (S := S1024x1536) _ hz2, View.readCov_unit_zero (S := S1x1536) _ hz2, View.readAt_eq_ld, (hs0_0 t).read_unread, (hs0_1 t).read_unread, (hs0_3 t).read_unread, (Memref.isWhole_whole _).read_unread,
    View.ld_unit_zero (S := S1024x1024) hz2, View.ld_unit_zero (S := S1024x1536) hz2, View.ld_unit_zero (S := S1x1536) hz2, k0_pay3, addf_apply, shapeCast_self]
  exact congrArg (fun z : EReal => _ + z) (col_block m c t q)

theorem last_col (t : Fin cfg0.N) (h2 : t.val % 8 = 7) (q : Fin 1536) :
    (outsAt0 m c t.val t.isLt).2.1 (ix2 0 q) = (outsAt0 m c (t.val - 1) (pred_lt t.isLt)).2.1 (ix2 0 q) + colPart m c t.val q := by
  rw [outsAt0_C m c t (by omega) (by omega) (by omega) (by omega) (by omega)]
  dsimp only
  unfold out0_C_3
  rw [View.read_writes_eq_canon _ _ _ (cover0_C_3 _ _ _ _ _ _ _ _ _ _ _ _ _ _ _ _ _ _ _ _ _)]
  unfold kernelRun0_C
  dsimp only
  sl_unfold_words
  rw [View.canon_unit_zero hz2]
  simp only [View.readCov_unit_zero (S := S1024x1536) _ hz2, View.readCov_unit_zero (S := S1x1536) _ hz2, View.readAt_eq_ld, (hs0_0 t).read_unread, (hs0_1 t).read_unread, (hs0_3 t).read_unread, (Memref.isWhole_whole _).read_unread,
    View.ld_unit_zero (S := S1024x1024) hz2, View.ld_unit_zero (S := S1024x1536) hz2, View.ld_unit_zero (S := S1x1536) hz2, k0_pay3, addf_apply, shapeCast_self]
  exact congrArg (fun z : EReal => _ + z) (col_block m c t q)

/-- The column sums that the last point of a run leaves. -/
theorem left_col (t : Fin cfg0.N) (h2 : t.val % 8 = 7) (q : Fin 1536) :
    (outsAt0 m c t.val t.isLt).2.1 (ix2 0 q) = prodTo (fun _ => 1) (rhs (bArr m c) (1536 * (t.val / 8) + q.val)) 8192 := by
  rw [last_col m c t h2 q]
  exact gathered (N := cfg0.N) (b := 8) (by decide) (by decide : 1024 * 8 = 8192) (fun n h => (outsAt0 m c n h).2.1 (ix2 0 q)) (fun n _ => colPart m c n q)
    (fun _ _ => 1) (fun n => rhs (bArr m c) (1536 * (n / 8) + q.val)) (fun _ _ => rfl)
    (fun n h e => ⟨rfl, by rw [show (n - 1) / 8 = n / 8 by omega]⟩) (fun n h e => first_col m c ⟨n, h⟩ e q) (fun n h h' e e' => next_col m c ⟨n, h⟩ e e' q) t.val t.isLt _ h2

theorem last_point (t : Fin cfg0.N) (h2 : t.val % 8 = 7) (r : Fin 1024) (q : Fin 1536) :
    (outsAt0 m c t.val t.isLt).1 (ix2 r q) = (outsAt0 m c (t.val - 1) (pred_lt t.isLt)).2.2 (ix2 r q) + part m c t.val r q := by
  have ht := t_lt t
  rw [outsAt0_C m c t (by omega) (by omega) (by omega) (by omega) (by omega)]
  dsimp only
  unfold out0_C_2
  rw [View.read_writes_eq_canon _ _ _ (cover0_C_2 _ _ _ _ _ _ _ _ _ _ _ _ _ _ _ _ _ _ _ _ _)]
  unfold kernelRun0_C
  dsimp only
  sl_unfold_words
  rw [View.canon_unit_zero hz2]
  simp only [View.readCov_unit_zero (S := S1024x1536) _ hz2, View.readCov_unit_zero (S := S1x1536) _ hz2, View.readAt_eq_ld, (hs0_0 t).read_unread, (hs0_1 t).read_unread, (hs0_3 t).read_unread, (Memref.isWhole_whole _).read_unread,
    View.ld_unit_zero (S := S1024x1024) hz2, View.ld_unit_zero (S := S1024x1536) hz2, View.ld_unit_zero (S := S1x1536) hz2, k0_pay5, addf_apply, shapeCast_self]
  exact (congrArg (fun z : EReal => _ + z) (block m c t r q))

/-- The block that the last point of a run leaves for the result. -/
theorem left (t : Fin cfg0.N) (h2 : t.val % 8 = 7) (r : Fin 1024) (q : Fin 1536) :
    (outsAt0 m c t.val t.isLt).1 (ix2 r q) = prodTo (lhs (aArr m c) (r.val)) (rhs (bArr m c) (1536 * (t.val / 8) + q.val)) 8192 := by
  rw [last_point m c t h2 r q]
  exact gathered (N := cfg0.N) (b := 8) (by decide) (by decide : 1024 * 8 = 8192) (fun n h => (outsAt0 m c n h).2.2 (ix2 r q)) (fun n _ => part m c n r q)
    (fun n => lhs (aArr m c) (r.val)) (fun n => rhs (bArr m c) (1536 * (n / 8) + q.val)) (fun _ _ => rfl)
    (fun n h e => ⟨rfl, by rw [show (n - 1) / 8 = n / 8 by omega]⟩) (fun n h e => first_point m c ⟨n, h⟩ e r q) (fun n h h' e e' => next_point m c ⟨n, h⟩ e e' r q) t.val t.isLt _ h2

/-! ## The result array -/

/-- Every entry the sum of products over the whole contracted axis. -/
def result (A : S8192x1024.Idx → EReal) (B : S8192x4608.Idx → EReal) : S1024x4608.Idx → EReal :=
  fun i => prodTo (lhs A (i 0).val) (rhs B (i 1).val) 8192

/-- The sums of the right factor's columns, in one row. -/
def sums (B : S8192x4608.Idx → EReal) : S1x4608.Idx → EReal :=
  fun i => prodTo (fun _ => 1) (rhs B (i 1).val) 8192

theorem index3 : ∀ t : Fin grid0.N, win0_3.index t 0 = 0 ∧ win0_3.index t 1 = t.val / 8
    ∧ win0_3.xsize (grid0.coords t) 0 = 1 ∧ win0_3.xsize (grid0.coords t) 1 = 1536 :=
  by decide +kernel

set_option maxRecDepth 20000 in
/-- A flushed block is that block of the array. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0_0)) := by
  unfold Dat.flushed
  rw [after0_2]
  funext j
  rw [View.read_apply]
  obtain ⟨h0, h1, -, -⟩ := index2 t
  have := t_lt t
  obtain ⟨r, q, rfl⟩ : ∃ (r : Fin 1024) (q : Fin 1536), j = ix2 r q := ⟨j 0, j 1, eq_ix2 (n0 := 1024) (n1 := 1536) j⟩
  refine (left m c t ((flush0_2 t).mp h) r q).trans (Eq.trans ?_ (congrArg (result (aArr m c) (bArr m c)) (?_ : (ix2 ⟨r.val, by omega⟩ ⟨1536 * (t.val / 8) + q.val, by omega⟩ : S1024x4608.Idx) = _)))
  · rfl
  · funext a
    apply Fin.ext
    match a with
    | ⟨0, _⟩ => show r.val = win0_2.index t 0 * 1024 + 1 * r.val; omega
    | ⟨1, _⟩ => show 1536 * (t.val / 8) + q.val = win0_2.index t 1 * 1536 + 1 * q.val; omega

set_option maxRecDepth 20000 in
/-- A flushed block is that block of the array. -/
theorem flushed_sums (t : Fin cfg0.N) (h : (cfg0.win 3).flush t = true) :
    (dats m 0 c).flushed 3 t = ((cfg0.win 3).blk t).view.read (Elt Ideal) (sums (bArr m c) : Buf (Elt Ideal) ((c : Thread nD τ).loc main_v0_1)) := by
  unfold Dat.flushed
  rw [after0_3]
  funext j
  rw [View.read_apply]
  obtain ⟨h0, h1, -, -⟩ := index3 t
  have := t_lt t
  obtain ⟨r, q, rfl⟩ : ∃ (r : Fin 1) (q : Fin 1536), j = ix2 r q := ⟨j 0, j 1, eq_ix2 (n0 := 1) (n1 := 1536) j⟩
  obtain rfl : r = 0 := Subsingleton.elim _ _
  refine (left_col m c t ((flush0_3 t).mp h) q).trans (Eq.trans ?_ (congrArg (sums (bArr m c)) (?_ : (ix2 0 ⟨1536 * (t.val / 8) + q.val, by omega⟩ : S1x4608.Idx) = _)))
  · rfl
  · funext a
    apply Fin.ext
    match a with
    | ⟨0, _⟩ => show 0 = win0_3.index t 0 * 1 + 1 * 0; omega
    | ⟨1, _⟩ => show 1536 * (t.val / 8) + q.val = win0_3.index t 1 * 1536 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 1024 := (i 0).isLt
    have h1 : (i 1 : ℕ) < 4608 := (i 1).isLt
    obtain ⟨t, ht⟩ : ∃ t : Fin cfg0.N, t.val = (i 1).val / 1536 * 8 + 7 := ⟨⟨(i 1).val / 1536 * 8 + 7, by rw [show cfg0.N = 24 from N_0]; omega⟩, rfl⟩
    obtain ⟨e0, e1, x0, x1⟩ := index2 t
    refine ⟨t, (flush0_2 t).mpr (by omega), (congrArg (i ∈ ·) (View.set_slice_whole main_v0_0 (win0_2.rect t))).mpr (Rect.mem_set_unit.2 fun a => ?_)⟩
    match a with
    | ⟨0, _⟩ => show win0_2.index t 0 * 1024 ≤ (i 0 : ℕ) ∧ (i 0 : ℕ) < win0_2.index t 0 * 1024 + win0_2.xsize (grid0.coords t) 0; omega
    | ⟨1, _⟩ => show win0_2.index t 1 * 1536 ≤ (i 1 : ℕ) ∧ (i 1 : ℕ) < win0_2.index t 1 * 1536 + win0_2.xsize (grid0.coords t) 1; omega

theorem final_sums : (dats m 0 c).arrAt 3 cfg0.N = sums (bArr m c) :=
  (dats m 0 c).arrAt_eq_of_cover 3 (sums (bArr m c)) (flushed_sums m c) fun i => by
    have h0 : (i 0 : ℕ) < 1 := (i 0).isLt
    have h1 : (i 1 : ℕ) < 4608 := (i 1).isLt
    obtain ⟨t, ht⟩ : ∃ t : Fin cfg0.N, t.val = (i 1).val / 1536 * 8 + 7 := ⟨⟨(i 1).val / 1536 * 8 + 7, by rw [show cfg0.N = 24 from N_0]; omega⟩, rfl⟩
    obtain ⟨e0, e1, x0, x1⟩ := index3 t
    refine ⟨t, (flush0_3 t).mpr (by omega), (congrArg (i ∈ ·) (View.set_slice_whole main_v0_1 (win0_3.rect t))).mpr (Rect.mem_set_unit.2 fun a => ?_)⟩
    match a with
    | ⟨0, _⟩ => show win0_3.index t 0 * 1 ≤ (i 0 : ℕ) ∧ (i 0 : ℕ) < win0_3.index t 0 * 1 + win0_3.xsize (grid0.coords t) 0; omega
    | ⟨1, _⟩ => show win0_3.index t 1 * 1536 ≤ (i 1 : ℕ) ∧ (i 1 : ℕ) < win0_3.index t 1 * 1536 + win0_3.xsize (grid0.coords t) 1; omega

/-! ## The reference -/

open MainDwRefIdeal.Read

/-- The reference's gradient of the weights is the same sum of products. -/
theorem value (A : S8192x1024.Idx → EReal) (B : S8192x4608.Idx → EReal) :
    (val_main_v10 (F := Ideal) A B : S1024x4608.Idx → EReal) = result A B := by
  funext i
  simp only [val_main_v10_apply, val_main_v9_apply, val_main_v6_apply, val_main_v2_apply]
  unfold result
  rw [← prodTo_all]
  refine Finset.sum_congr rfl fun k _ => ?_
  exact (mul_comm _ _).trans (congrArg₂ (fun a b : EReal => a * b) (at2_in A k.val (i 0).val k.isLt (i 0).isLt _ rfl rfl) (at2_in B k.val (i 1).val k.isLt (i 1).isLt _ rfl rfl))

/-- The reference's gradient of the bias is the same sum over the rows. -/
theorem value_sums (B : S8192x4608.Idx → EReal) : (val_main_v8 (F := Ideal) B : S1x4608.Idx → EReal) = sums B := by
  funext i
  simp only [val_main_v8_apply, val_main_v7_apply, val_main_v6_apply, val_main_cst_1_apply]
  unfold sums
  rw [← prodTo_all, show FloatOps.ofBits (F := Ideal) .f32 0x00000000#32 = (0 : EReal) from Ideal.ofBits_zero_f32, zero_add]
  refine Finset.sum_congr rfl fun k _ => ?_
  have hj : (i 1).val < 4608 := (i 1).isLt
  exact (at2_in B k.val (i 1).val k.isLt (i 1).isLt _ rfl (by have h0 : (i 0).val < 1 := (i 0).isLt; show (i 0).val * 4608 + (i 1).val = (i 1).val; omega)).trans (one_mul _).symm

/-- The reference runs without a fault, leaves its arguments as they are and ends with no semaphore raised. -/
theorem reference_frame : quiescent_MainDwRefIdeal := fun m ρ _ =>
  (θ_run _ _ _).mono (fun r h => ⟨fun c => (h c).2.2, sem_eq_zero_of_no_sems (by decide) r.2⟩) (MainDwRefIdeal.Value.run m ρ)

/-- Over the extended reals the kernel's results and the reference's are equal. -/
theorem algebraic : algebraic_MainDwIdeal_MainDwRefIdeal := by
  intro m g m' g' _ hargs
  refine ⟨fun c => result (aArr m c) (bArr m c), fun c => sums (bArr m c), (θ_run _ _ _).mono (fun _ h c => ⟨((h c).1 2).trans (final m c), ((h c).1 3).trans (final_sums m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2.1.trans ?_, (h c).2.2⟩) (MainDwRefIdeal.Value.run m' g')
  · rw [val_main_v10_eq, (hargs c).1, (hargs c).2]
    exact value _ _
  · rw [val_main_v8_eq, (hargs c).2]
    exact value_sums _

end Cert.MainDwIdeal.Own

end
-- ==== Proof.UpGateDxGrad.lean ====
/-
  The gradient of the gate half of the feed-forward up projection, with respect to its input: the kernel's result, and that the
  reference's plain product is the same over the extended reals.
-/
module

public import proofs.«01_k».proof.Proof.Gen.UpGateDxIdeal.Frame
public import proofs.«01_k».proof.Proof.Gen.UpGateDxRefIdeal.Read
public import proofs.«01_k».proof.Defs
public import proofs.«01_k».proof.Proof.ProdMath

@[expose] public section

noncomputable section

namespace Cert.UpGateDxIdeal.Own

open Cert.UpGateDxIdeal Cert.UpGateDxIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 16 := lt_of_lt_of_eq t.isLt (show cfg0.N = 16 from N_0)

theorem index0 : ∀ t : Fin grid0.N, win0_0.index t 0 = t.val / 2 ∧ win0_0.index t 1 = t.val % 2 :=
  by decide +kernel

theorem index1 : ∀ t : Fin grid0.N, win0_1.index t 0 = 1 ∧ win0_1.index t 1 = 0 ∧ win0_1.index t 2 = t.val % 2 :=
  by decide +kernel

theorem index2 : ∀ t : Fin grid0.N, win0_2.index t 0 = t.val / 2 ∧ win0_2.index t 1 = 0
    ∧ win0_2.xsize (grid0.coords t) 0 = 1024 ∧ win0_2.xsize (grid0.coords t) 1 = 1024 :=
  by decide +kernel

/-- The left factor's row `i` and the right factor's column `j`, along the contracted axis. -/
def lhs (A : S8192x2816.Idx → EReal) (i : ℕ) : ℕ → EReal := fun k => at2 A (i) (k)
def rhs (B : S2x1024x5632.Idx → EReal) (j : ℕ) : ℕ → EReal := fun k => at3 B 1 (j) (k)

variable (m : (ℓ : Loc nD τ sig) → Buf (Elt Ideal) ℓ) (c : Dev nD)

/-- The argument arrays. -/
abbrev aArr : S8192x2816.Idx → EReal := m ((c : Thread nD τ).loc main_arg0)
abbrev bArr : S2x1024x5632.Idx → EReal := m ((c : Thread nD τ).loc main_arg1)

theorem iblk0_apply (t : Fin cfg0.N) (r : Fin 1024) (k : Fin 1408) :
    (iblk m c 0 t : Vec Ideal S1024x1408 .bf16) (ix2 r k) = at2 (aArr m c) (1024 * (t.val / 2) + r.val) (1408 * (t.val % 2) + k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 1024 + 1 * r.val = _; omega)
    (by show win0_0.index t 1 * 1408 + 1 * k.val = _; omega)

theorem iblk1_apply (t : Fin cfg0.N) (q : Fin 1024) (k : Fin 1408) :
    (iblk m c 1 t : Vec Ideal S1x1024x1408 .bf16) (ix3 0 q k) = at3 (bArr m c) 1 (q.val) (1408 * (t.val % 2) + k.val) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 1024 + 1 * q.val = _; omega)
    (by show win0_1.index t 2 * 1408 + 1 * k.val = _; omega)

/-- The products of point `t`: over its positions of the contracted axis, for entry (r, q) of its block. -/
def part (t : ℕ) (r : Fin 1024) (q : Fin 1024) : EReal :=
  ∑ k : Fin 1408, lhs (aArr m c) (1024 * (t / 2) + r.val) (1408 * (t % 2) + k.val) * rhs (bArr m c) (q.val) (1408 * (t % 2) + k.val)

/-- The product of a point's staged blocks. -/
theorem block (t : Fin cfg0.N) (r : Fin 1024) (q : Fin 1024) :
    (k0_pay1 (iblk m c 0 t) (iblk m c 1 t) : Vec Ideal S1024x1024 .f32) (ix2 r q) = part m c t.val r q := by
  have hdot : dot_S1024x1408_S1024x1408_S1024x1024_1_1_0_0_n_n = DotDims.transposedRhs 1024 1408 1024 := rfl
  unfold k0_pay1
  simp only [shapeCast_self, matmul, hdot, Ideal.matmul_transposedRhs_apply, constant_apply, Ideal.ofBits_zero_f32, zero_add, unstack]
  exact Finset.sum_congr rfl fun k _ => by rw [iblk0_apply, iblk1_apply]; rfl

/-! ## The points -/

theorem first_point (t : Fin cfg0.N) (h0 : t.val % 2 = 0) (r : Fin 1024) (q : Fin 1024) :
    (outsAt0 m c t.val t.isLt).2 (ix2 r q) = part m c t.val r q := by
  rw [outsAt0_A m c t (by omega) (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz2]
  simp only [View.readCov_unit_zero (S := S1024x1024) _ hz2, View.readAt_eq_ld, (hs0_0 t).read_unread, (hs0_1 t).read_unread, (Memref.isWhole_whole _).read_unread,
    View.ld_unit_zero (S := S1024x1024) hz2, View.ld_unit_zero (S := S1024x1408) hz2, View.ld_unit_zero (S := S1x1024x1408) hz3, k0_pay2, shapeCast_self]
  exact block m c t r q

theorem last_point (t : Fin cfg0.N) (h2 : t.val % 2 = 1) (r : Fin 1024) (q : Fin 1024) :
    (outsAt0 m c t.val t.isLt).1 (ix2 r q) = (outsAt0 m c (t.val - 1) (pred_lt t.isLt)).2 (ix2 r q) + part m c t.val r q := by
  rw [outsAt0_B m c t (by omega) (by omega) (by omega)]
  dsimp only
  unfold out0_B_2
  rw [View.read_writes_eq_canon _ _ _ (cover0_B_2 _ _ _ _ _ _ _ _ _ _ _ _ _ _ _ _)]
  unfold kernelRun0_B
  dsimp only
  sl_unfold_words
  rw [View.canon_unit_zero hz2]
  simp only [View.readCov_unit_zero (S := S1024x1024) _ hz2, View.readAt_eq_ld, (hs0_0 t).read_unread, (hs0_1 t).read_unread, (Memref.isWhole_whole _).read_unread,
    View.ld_unit_zero (S := S1024x1024) hz2, View.ld_unit_zero (S := S1024x1408) hz2, View.ld_unit_zero (S := S1x1024x1408) hz3, k0_pay3, addf_apply, shapeCast_self]
  exact (congrArg (fun z : EReal => _ + z) (block m c t r q))

/-- The block that the last point of a run leaves for the result. -/
theorem left (t : Fin cfg0.N) (h2 : t.val % 2 = 1) (r : Fin 1024) (q : Fin 1024) :
    (outsAt0 m c t.val t.isLt).1 (ix2 r q) = prodTo (lhs (aArr m c) (1024 * (t.val / 2) + r.val)) (rhs (bArr m c) (q.val)) 2816 := by
  rw [last_point m c t h2 r q]
  exact gathered (N := cfg0.N) (b := 2) (by decide) (by decide : 1408 * 2 = 2816) (fun n h => (outsAt0 m c n h).2 (ix2 r q)) (fun n _ => part m c n r q)
    (fun n => lhs (aArr m c) (1024 * (n / 2) + r.val)) (fun n => rhs (bArr m c) (q.val)) (fun _ _ => rfl)
    (fun n h e => ⟨by rw [show (n - 1) / 2 = n / 2 by omega], rfl⟩) (fun n h e => first_point m c ⟨n, h⟩ e r q) (fun n h h' e e' => by omega) t.val t.isLt _ h2

/-! ## The result array -/

/-- Every entry the sum of products over the whole contracted axis. -/
def result (A : S8192x2816.Idx → EReal) (B : S2x1024x5632.Idx → EReal) : S8192x1024.Idx → EReal :=
  fun i => prodTo (lhs A (i 0).val) (rhs B (i 1).val) 2816

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 1024) (q : Fin 1024), j = ix2 r q := ⟨j 0, j 1, eq_ix2 (n0 := 1024) (n1 := 1024) j⟩
  refine (left m c t ((flush0_2 t).mp h) r q).trans (Eq.trans ?_ (congrArg (result (aArr m c) (bArr m c)) (?_ : (ix2 ⟨1024 * (t.val / 2) + r.val, by omega⟩ ⟨q.val, by omega⟩ : S8192x1024.Idx) = _)))
  · rfl
  · funext a
    apply Fin.ext
    match a with
    | ⟨0, _⟩ => show 1024 * (t.val / 2) + r.val = win0_2.index t 0 * 1024 + 1 * r.val; omega
    | ⟨1, _⟩ => show q.val = win0_2.index t 1 * 1024 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 8192 := (i 0).isLt
    have h1 : (i 1 : ℕ) < 1024 := (i 1).isLt
    obtain ⟨t, ht⟩ : ∃ t : Fin cfg0.N, t.val = (i 0).val / 1024 * 2 + 1 := ⟨⟨(i 0).val / 1024 * 2 + 1, by rw [show cfg0.N = 16 from N_0]; omega⟩, rfl⟩
    obtain ⟨e0, e1, x0, x1⟩ := index2 t
    refine ⟨t, (flush0_2 t).mpr (by omega), (congrArg (i ∈ ·) (View.set_slice_whole main_v0 (win0_2.rect t))).mpr (Rect.mem_set_unit.2 fun a => ?_)⟩
    match a with
    | ⟨0, _⟩ => show win0_2.index t 0 * 1024 ≤ (i 0 : ℕ) ∧ (i 0 : ℕ) < win0_2.index t 0 * 1024 + win0_2.xsize (grid0.coords t) 0; omega
    | ⟨1, _⟩ => show win0_2.index t 1 * 1024 ≤ (i 1 : ℕ) ∧ (i 1 : ℕ) < win0_2.index t 1 * 1024 + win0_2.xsize (grid0.coords t) 1; omega

/-! ## The reference -/

open UpGateDxRefIdeal.Read

/-- The reference's result is the same sum of products. -/
theorem value (A : S8192x2816.Idx → EReal) (B : S2x1024x5632.Idx → EReal) :
    (val_main_v6 (F := Ideal) A B : S8192x1024.Idx → EReal) = result A B := by
  funext i
  have hi : (i 0).val < 8192 := (i 0).isLt
  have hj : (i 1).val < 1024 := (i 1).isLt
  simp only [val_main_v6_apply, val_main_v5_apply, val_main_v3_apply, val_main_v2_apply, val_main_v1_apply]
  unfold result
  rw [← prodTo_all]
  refine Finset.sum_congr rfl fun k _ => ?_
  have hk := k.isLt
  exact congrArg₂ (fun a b : EReal => a * b) (at2_in A (i 0).val k.val (i 0).isLt k.isLt _ rfl rfl) (at3_in B 1 (i 1).val k.val (by omega) (i 1).isLt (by omega) _ rfl (by show ((i 1).val * 2816 + k.val) / 2816 % 1024 = (i 1).val; omega) (by show ((i 1).val * 2816 + k.val) % 2816 = k.val; omega))

/-- The reference runs without a fault, leaves its arguments as they are and ends with no semaphore raised. -/
theorem reference_frame : quiescent_UpGateDxRefIdeal := fun m ρ _ =>
  (θ_run _ _ _).mono (fun r h => ⟨fun c => (h c).2, sem_eq_zero_of_no_sems (by decide) r.2⟩) (UpGateDxRefIdeal.Value.run m ρ)

/-- Over the extended reals the kernel's result and the reference's are equal. -/
theorem algebraic : algebraic_UpGateDxIdeal_UpGateDxRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (UpGateDxRefIdeal.Value.run m' g')
  rw [val_main_v6_eq, (hargs c).1, (hargs c).2]
  exact value _ _

end Cert.UpGateDxIdeal.Own

end
-- ==== Proof.UpLinDxGrad.lean ====
/-
  The gradient of the linear half of the feed-forward up projection, with respect to its input, added to an array the call is given: the kernel's result, and that the
  reference's plain product is the same over the extended reals.
-/
module

public import proofs.«01_k».proof.Proof.Gen.UpLinDxIdeal.Frame
public import proofs.«01_k».proof.Proof.Gen.UpLinDxRefIdeal.Read
public import proofs.«01_k».proof.Defs
public import proofs.«01_k».proof.Proof.ProdMath

@[expose] public section

noncomputable section

namespace Cert.UpLinDxIdeal.Own

open Cert.UpLinDxIdeal Cert.UpLinDxIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 16 := lt_of_lt_of_eq t.isLt (show cfg0.N = 16 from N_0)

theorem index0 : ∀ t : Fin grid0.N, win0_0.index t 0 = t.val / 2 ∧ win0_0.index t 1 = t.val % 2 :=
  by decide +kernel

theorem index1 : ∀ t : Fin grid0.N, win0_1.index t 0 = 1 ∧ win0_1.index t 1 = 0 ∧ win0_1.index t 2 = t.val % 2 + 2 :=
  by decide +kernel

theorem index2 : ∀ t : Fin grid0.N, win0_2.index t 0 = t.val / 2 ∧ win0_2.index t 1 = 0 :=
  by decide +kernel

theorem index3 : ∀ t : Fin grid0.N, win0_3.index t 0 = t.val / 2 ∧ win0_3.index t 1 = 0
    ∧ win0_3.xsize (grid0.coords t) 0 = 1024 ∧ win0_3.xsize (grid0.coords t) 1 = 1024 :=
  by decide +kernel

/-- The left factor's row `i` and the right factor's column `j`, along the contracted axis. -/
def lhs (A : S8192x2816.Idx → EReal) (i : ℕ) : ℕ → EReal := fun k => at2 A (i) (k)
def rhs (B : S2x1024x5632.Idx → EReal) (j : ℕ) : ℕ → EReal := fun k => at3 B 1 (j) (2816 + k)

variable (m : (ℓ : Loc nD τ sig) → Buf (Elt Ideal) ℓ) (c : Dev nD)

/-- The argument arrays. -/
abbrev aArr : S8192x2816.Idx → EReal := m ((c : Thread nD τ).loc main_arg0)
abbrev bArr : S2x1024x5632.Idx → EReal := m ((c : Thread nD τ).loc main_arg1)
abbrev dArr : S8192x1024.Idx → EReal := m ((c : Thread nD τ).loc main_arg2)

theorem iblk0_apply (t : Fin cfg0.N) (r : Fin 1024) (k : Fin 1408) :
    (iblk m c 0 t : Vec Ideal S1024x1408 .bf16) (ix2 r k) = at2 (aArr m c) (1024 * (t.val / 2) + r.val) (1408 * (t.val % 2) + k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 1024 + 1 * r.val = _; omega)
    (by show win0_0.index t 1 * 1408 + 1 * k.val = _; omega)

theorem iblk1_apply (t : Fin cfg0.N) (q : Fin 1024) (k : Fin 1408) :
    (iblk m c 1 t : Vec Ideal S1x1024x1408 .bf16) (ix3 0 q k) = at3 (bArr m c) 1 (q.val) (2816 + (1408 * (t.val % 2) + k.val)) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 1024 + 1 * q.val = _; omega)
    (by show win0_1.index t 2 * 1408 + 1 * k.val = _; omega)

theorem iblk2_apply (t : Fin cfg0.N) (r : Fin 1024) (q : Fin 1024) :
    (iblk m c 2 t : Vec Ideal S1024x1024 .f32) (ix2 r q) = at2 (dArr m c) (1024 * (t.val / 2) + r.val) (q.val) := by
  obtain ⟨h0, h1⟩ := index2 t
  have := t_lt t
  unfold iblk
  rw [View.read_apply]
  show V m c main_arg2 _ = _
  unfold V
  exact at2_in (dArr m c) _ _ (by omega) (by omega) _
    (by show win0_2.index t 0 * 1024 + 1 * r.val = _; omega)
    (by show win0_2.index t 1 * 1024 + 1 * q.val = _; omega)

/-- The products of point `t`: over its positions of the contracted axis, for entry (r, q) of its block. -/
def part (t : ℕ) (r : Fin 1024) (q : Fin 1024) : EReal :=
  ∑ k : Fin 1408, lhs (aArr m c) (1024 * (t / 2) + r.val) (1408 * (t % 2) + k.val) * rhs (bArr m c) (q.val) (1408 * (t % 2) + k.val)

/-- The product of a point's staged blocks. -/
theorem block (t : Fin cfg0.N) (r : Fin 1024) (q : Fin 1024) :
    (k0_pay1 (iblk m c 0 t) (iblk m c 1 t) : Vec Ideal S1024x1024 .f32) (ix2 r q) = part m c t.val r q := by
  have hdot : dot_S1024x1408_S1024x1408_S1024x1024_1_1_0_0_n_n = DotDims.transposedRhs 1024 1408 1024 := rfl
  unfold k0_pay1
  simp only [shapeCast_self, matmul, hdot, Ideal.matmul_transposedRhs_apply, constant_apply, Ideal.ofBits_zero_f32, zero_add, unstack]
  exact Finset.sum_congr rfl fun k _ => by rw [iblk0_apply, iblk1_apply]; rfl

/-! ## The points -/

theorem first_point (t : Fin cfg0.N) (h0 : t.val % 2 = 0) (r : Fin 1024) (q : Fin 1024) :
    (outsAt0 m c t.val t.isLt).2 (ix2 r q) = part m c t.val r q := by
  rw [outsAt0_A m c t (by omega) (by omega) (by omega)]
  dsimp only
  unfold sout0_A_0
  rw [View.read_writes_eq_canon _ _ _ (scover0_A_0 _ _ _ _ _ _ _ _ _ _ _ _ _ _ _ _ _ _)]
  unfold kernelRun0_A
  dsimp only
  sl_unfold_words
  rw [View.canon_unit_zero hz2]
  simp only [View.readCov_unit_zero (S := S1024x1024) _ hz2, View.readAt_eq_ld, (hs0_0 t).read_unread, (hs0_1 t).read_unread, (hs0_2 t).read_unread, (Memref.isWhole_whole _).read_unread,
    View.ld_unit_zero (S := S1024x1024) hz2, View.ld_unit_zero (S := S1024x1408) hz2, View.ld_unit_zero (S := S1x1024x1408) hz3, k0_pay2, shapeCast_self]
  exact block m c t r q

theorem last_point (t : Fin cfg0.N) (h2 : t.val % 2 = 1) (r : Fin 1024) (q : Fin 1024) :
    (outsAt0 m c t.val t.isLt).1 (ix2 r q) = (outsAt0 m c (t.val - 1) (pred_lt t.isLt)).2 (ix2 r q) + part m c t.val r q + at2 (dArr m c) (1024 * (t.val / 2) + r.val) (q.val) := by
  rw [outsAt0_B m c t (by omega) (by omega) (by omega)]
  dsimp only
  unfold out0_B_3
  rw [View.read_writes_eq_canon _ _ _ (cover0_B_3 _ _ _ _ _ _ _ _ _ _ _ _ _ _ _ _ _ _ _)]
  unfold kernelRun0_B
  dsimp only
  sl_unfold_words
  rw [View.canon_unit_zero hz2]
  simp only [View.readCov_unit_zero (S := S1024x1024) _ hz2, View.readAt_eq_ld, (hs0_0 t).read_unread, (hs0_1 t).read_unread, (hs0_2 t).read_unread, (Memref.isWhole_whole _).read_unread,
    View.ld_unit_zero (S := S1024x1024) hz2, View.ld_unit_zero (S := S1024x1408) hz2, View.ld_unit_zero (S := S1x1024x1408) hz3, k0_pay3, k0_pay4, addf_apply, shapeCast_self]
  exact congrArg₂ (fun a b : EReal => a + b) (congrArg (fun z : EReal => _ + z) (block m c t r q)) (iblk2_apply m c t r q)

/-- The block that the last point of a run leaves for the result. -/
theorem left (t : Fin cfg0.N) (h2 : t.val % 2 = 1) (r : Fin 1024) (q : Fin 1024) :
    (outsAt0 m c t.val t.isLt).1 (ix2 r q) = prodTo (lhs (aArr m c) (1024 * (t.val / 2) + r.val)) (rhs (bArr m c) (q.val)) 2816 + at2 (dArr m c) (1024 * (t.val / 2) + r.val) (q.val) := by
  rw [last_point m c t h2 r q]
  exact congrArg (fun z : EReal => z + _) (gathered (N := cfg0.N) (b := 2) (by decide) (by decide : 1408 * 2 = 2816) (fun n h => (outsAt0 m c n h).2 (ix2 r q)) (fun n _ => part m c n r q)
    (fun n => lhs (aArr m c) (1024 * (n / 2) + r.val)) (fun n => rhs (bArr m c) (q.val)) (fun _ _ => rfl)
    (fun n h e => ⟨by rw [show (n - 1) / 2 = n / 2 by omega], rfl⟩) (fun n h e => first_point m c ⟨n, h⟩ e r q) (fun n h h' e e' => by omega) t.val t.isLt _ h2)

/-! ## The result array -/

/-- Every entry the sum of products over the whole contracted axis. -/
def result (A : S8192x2816.Idx → EReal) (B : S2x1024x5632.Idx → EReal) (D : S8192x1024.Idx → EReal) : S8192x1024.Idx → EReal :=
  fun i => prodTo (lhs A (i 0).val) (rhs B (i 1).val) 2816 + at2 D (i 0).val (i 1).val

set_option maxRecDepth 20000 in
/-- A flushed block is that block of the result. -/
theorem flushed_eq (t : Fin cfg0.N) (h : (cfg0.win 3).flush t = true) :
    (dats m 0 c).flushed 3 t = ((cfg0.win 3).blk t).view.read (Elt Ideal) (result (aArr m c) (bArr m c) (dArr m c) : Buf (Elt Ideal) ((c : Thread nD τ).loc main_v0)) := by
  unfold Dat.flushed
  rw [after0_3]
  funext j
  rw [View.read_apply]
  obtain ⟨h0, h1, -, -⟩ := index3 t
  have := t_lt t
  obtain ⟨r, q, rfl⟩ : ∃ (r : Fin 1024) (q : Fin 1024), j = ix2 r q := ⟨j 0, j 1, eq_ix2 (n0 := 1024) (n1 := 1024) j⟩
  refine (left m c t ((flush0_3 t).mp h) r q).trans (Eq.trans ?_ (congrArg (result (aArr m c) (bArr m c) (dArr m c)) (?_ : (ix2 ⟨1024 * (t.val / 2) + r.val, by omega⟩ ⟨q.val, by omega⟩ : S8192x1024.Idx) = _)))
  · rfl
  · funext a
    apply Fin.ext
    match a with
    | ⟨0, _⟩ => show 1024 * (t.val / 2) + r.val = win0_3.index t 0 * 1024 + 1 * r.val; omega
    | ⟨1, _⟩ => show q.val = win0_3.index t 1 * 1024 + 1 * q.val; omega

theorem final : (dats m 0 c).arrAt 3 cfg0.N = result (aArr m c) (bArr m c) (dArr m c) :=
  (dats m 0 c).arrAt_eq_of_cover 3 (result (aArr m c) (bArr m c) (dArr m c)) (flushed_eq m c) fun i => by
    have h0 : (i 0 : ℕ) < 8192 := (i 0).isLt
    have h1 : (i 1 : ℕ) < 1024 := (i 1).isLt
    obtain ⟨t, ht⟩ : ∃ t : Fin cfg0.N, t.val = (i 0).val / 1024 * 2 + 1 := ⟨⟨(i 0).val / 1024 * 2 + 1, by rw [show cfg0.N = 16 from N_0]; omega⟩, rfl⟩
    obtain ⟨e0, e1, x0, x1⟩ := index3 t
    refine ⟨t, (flush0_3 t).mpr (by omega), (congrArg (i ∈ ·) (View.set_slice_whole main_v0 (win0_3.rect t))).mpr (Rect.mem_set_unit.2 fun a => ?_)⟩
    match a with
    | ⟨0, _⟩ => show win0_3.index t 0 * 1024 ≤ (i 0 : ℕ) ∧ (i 0 : ℕ) < win0_3.index t 0 * 1024 + win0_3.xsize (grid0.coords t) 0; omega
    | ⟨1, _⟩ => show win0_3.index t 1 * 1024 ≤ (i 1 : ℕ) ∧ (i 1 : ℕ) < win0_3.index t 1 * 1024 + win0_3.xsize (grid0.coords t) 1; omega

/-! ## The reference -/

open UpLinDxRefIdeal.Read

/-- The reference's result is the same sum of products. -/
theorem value (A : S8192x2816.Idx → EReal) (B : S2x1024x5632.Idx → EReal) (D : S8192x1024.Idx → EReal) :
    (val_main_v7 (F := Ideal) A B D : S8192x1024.Idx → EReal) = result A B D := by
  funext i
  have hi : (i 0).val < 8192 := (i 0).isLt
  have hj : (i 1).val < 1024 := (i 1).isLt
  simp only [val_main_v7_apply, val_main_v6_apply, val_main_v5_apply, val_main_v3_apply, val_main_v2_apply, val_main_v1_apply]
  unfold result
  rw [← prodTo_all]
  refine (add_comm (D i : EReal) _).trans (congrArg₂ (fun a b : EReal => a + b) (Finset.sum_congr rfl fun k _ => ?_) (at2_in D (i 0).val (i 1).val (i 0).isLt (i 1).isLt _ rfl rfl))
  have hk := k.isLt
  exact congrArg₂ (fun a b : EReal => a * b) (at2_in A (i 0).val k.val (i 0).isLt k.isLt _ rfl rfl) (at3_in B 1 (i 1).val (2816 + k.val) (by omega) (i 1).isLt (by omega) _ rfl (by show ((i 1).val * 2816 + k.val) / 2816 % 1024 = (i 1).val; omega) (by show 2816 + ((i 1).val * 2816 + k.val) % 2816 = 2816 + k.val; omega))

/-- The reference runs without a fault, leaves its arguments as they are and ends with no semaphore raised. -/
theorem reference_frame : quiescent_UpLinDxRefIdeal := fun m ρ _ =>
  (θ_run _ _ _).mono (fun r h => ⟨fun c => (h c).2, sem_eq_zero_of_no_sems (by decide) r.2⟩) (UpLinDxRefIdeal.Value.run m ρ)

/-- Over the extended reals the kernel's result and the reference's are equal. -/
theorem algebraic : algebraic_UpLinDxIdeal_UpLinDxRefIdeal := by
  intro m g m' g' _ hargs
  refine ⟨fun c => result (aArr m c) (bArr m c) (dArr m c), (θ_run _ _ _).mono (fun _ h c => ⟨((h c).1 3).trans (final m c),
    ((h c).1 0).trans ((dats m 0 c).arrAt_in 0 rfl _),
    ((h c).1 1).trans ((dats m 0 c).arrAt_in 1 rfl _),
    ((h c).1 2).trans ((dats m 0 c).arrAt_in 2 rfl _)⟩) (run_main m g), ?_⟩
  refine (θ_run _ _ _).mono (fun _ h c => ⟨(h c).1.trans ?_, (h c).2⟩) (UpLinDxRefIdeal.Value.run m' g')
  rw [val_main_v7_eq, (hargs c).1, (hargs c).2.1, (hargs c).2.2]
  exact value _ _ _

end Cert.UpLinDxIdeal.Own

end
-- ==== Proof.UpGateDwGrad.lean ====
/-
  The gradient of the gate half of the feed-forward up projection, with respect to its weights: the kernel's result, and that the
  reference's plain product is the same over the extended reals.
-/
module

public import proofs.«01_k».proof.Proof.Gen.UpGateDwIdeal.Frame
public import proofs.«01_k».proof.Proof.Gen.UpGateDwRefIdeal.Read
public import proofs.«01_k».proof.Defs
public import proofs.«01_k».proof.Proof.ProdMath

@[expose] public section

noncomputable section

namespace Cert.UpGateDwIdeal.Own

open Cert.UpGateDwIdeal Cert.UpGateDwIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 16 := lt_of_lt_of_eq t.isLt (show cfg0.N = 16 from N_0)

theorem index0 : ∀ t : Fin grid0.N, win0_0.index t 0 = t.val % 8 ∧ win0_0.index t 1 = 0 :=
  by decide +kernel

theorem index1 : ∀ t : Fin grid0.N, win0_1.index t 0 = t.val % 8 ∧ win0_1.index t 1 = t.val / 8 :=
  by decide +kernel

theorem index2 : ∀ t : Fin grid0.N, win0_2.index t 0 = 0 ∧ win0_2.index t 1 = t.val / 8
    ∧ win0_2.xsize (grid0.coords t) 0 = 1024 ∧ win0_2.xsize (grid0.coords t) 1 = 1408 :=
  by decide +kernel

/-- The left factor's row `i` and the right factor's column `j`, along the contracted axis. -/
def lhs (A : S8192x1024.Idx → EReal) (i : ℕ) : ℕ → EReal := fun k => at2 A (k) (i)
def rhs (B : S8192x2816.Idx → EReal) (j : ℕ) : ℕ → EReal := fun k => at2 B (k) (j)

variable (m : (ℓ : Loc nD τ sig) → Buf (Elt Ideal) ℓ) (c : Dev nD)

/-- The argument arrays. -/
abbrev aArr : S8192x1024.Idx → EReal := m ((c : Thread nD τ).loc main_arg0)
abbrev bArr : S8192x2816.Idx → EReal := m ((c : Thread nD τ).loc main_arg1)

theorem iblk0_apply (t : Fin cfg0.N) (k : Fin 1024) (r : Fin 1024) :
    (iblk m c 0 t : Vec Ideal S1024x1024 .bf16) (ix2 k r) = at2 (aArr m c) (1024 * (t.val % 8) + k.val) (r.val) := by
  obtain ⟨h0, h1⟩ := index0 t
  have := t_lt t
  unfold iblk
  rw [View.read_apply]
  show V m c main_arg0 _ = _
  rw [V_main_arg0]
  exact at2_in (aArr m c) _ _ (by omega) (by omega) _
    (by show win0_0.index t 0 * 1024 + 1 * k.val = _; omega)
    (by show win0_0.index t 1 * 1024 + 1 * r.val = _; omega)

theorem iblk1_apply (t : Fin cfg0.N) (k : Fin 1024) (q : Fin 1408) :
    (iblk m c 1 t : Vec Ideal S1024x1408 .bf16) (ix2 k q) = at2 (bArr m c) (1024 * (t.val % 8) + k.val) (1408 * (t.val / 8) + q.val) := by
  obtain ⟨h0, h1⟩ := index1 t
  have := t_lt t
  unfold iblk
  rw [View.read_apply]
  show V m c main_arg1 _ = _
  rw [V_main_arg1]
  exact at2_in (bArr m c) _ _ (by omega) (by omega) _
    (by show win0_1.index t 0 * 1024 + 1 * k.val = _; omega)
    (by show win0_1.index t 1 * 1408 + 1 * q.val = _; omega)

/-- The products of point `t`: over its positions of the contracted axis, for entry (r, q) of its block. -/
def part (t : ℕ) (r : Fin 1024) (q : Fin 1408) : EReal :=
  ∑ k : Fin 1024, lhs (aArr m c) (r.val) (1024 * (t % 8) + k.val) * rhs (bArr m c) (1408 * (t / 8) + q.val) (1024 * (t % 8) + k.val)

/-- The product of a point's staged blocks. -/
theorem block (t : Fin cfg0.N) (r : Fin 1024) (q : Fin 1408) :
    (k0_pay1 (iblk m c 0 t) (iblk m c 1 t) : Vec Ideal S1024x1408 .f32) (ix2 r q) = part m c t.val r q := by
  have hdot : dot_S1024x1024_S1024x1408_S1024x1408_0_0_1_1_n_n = Prod.lhsTransposed 1024 1024 1408 := rfl
  unfold k0_pay1
  simp only [shapeCast_self, matmul, hdot, Prod.lhsTransposed_apply, constant_apply, Ideal.ofBits_zero_f32, zero_add, unstack]
  exact Finset.sum_congr rfl fun k _ => by rw [iblk0_apply, iblk1_apply]; rfl

/-! ## The points -/

theorem first_point (t : Fin cfg0.N) (h0 : t.val % 8 = 0) (r : Fin 1024) (q : Fin 1408) :
    (outsAt0 m c t.val t.isLt).2 (ix2 r q) = part m c t.val r q := by
  have ht := t_lt t
  rw [outsAt0_A m c t (by omega) (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz2]
  simp only [View.readCov_unit_zero (S := S1024x1408) _ hz2, View.readAt_eq_ld, (hs0_0 t).read_unread, (hs0_1 t).read_unread, (Memref.isWhole_whole _).read_unread,
    View.ld_unit_zero (S := S1024x1024) hz2, View.ld_unit_zero (S := S1024x1408) hz2, k0_pay2, shapeCast_self]
  exact block m c t r q

theorem next_point (t : Fin cfg0.N) (h0 : ¬t.val % 8 = 0) (h2 : ¬t.val % 8 = 7) (r : Fin 1024) (q : Fin 1408) :
    (outsAt0 m c t.val t.isLt).2 (ix2 r q) = (outsAt0 m c (t.val - 1) (pred_lt t.isLt)).2 (ix2 r q) + part m c t.val r q := by
  have ht := t_lt t
  rw [outsAt0_B m c t (by omega) (by omega) (by omega)]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz2]
  simp only [View.readCov_unit_zero (S := S1024x1408) _ hz2, View.readAt_eq_ld, (hs0_0 t).read_unread, (hs0_1 t).read_unread, (Memref.isWhole_whole _).read_unread,
    View.ld_unit_zero (S := S1024x1024) hz2, View.ld_unit_zero (S := S1024x1408) hz2, k0_pay3, addf_apply, shapeCast_self]
  exact congrArg (fun z : EReal => _ + z) (block m c t r q)

theorem last_point (t : Fin cfg0.N) (h2 : t.val % 8 = 7) (r : Fin 1024) (q : Fin 1408) :
    (outsAt0 m c t.val t.isLt).1 (ix2 r q) = (outsAt0 m c (t.val - 1) (pred_lt t.isLt)).2 (ix2 r q) + part m c t.val r q := by
  have ht := t_lt t
  rw [outsAt0_C m c t (by omega) (by omega) (by omega)]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readCov_unit_zero (S := S1024x1408) _ hz2, View.readAt_eq_ld, (hs0_0 t).read_unread, (hs0_1 t).read_unread, (Memref.isWhole_whole _).read_unread,
    View.ld_unit_zero (S := S1024x1024) hz2, View.ld_unit_zero (S := S1024x1408) hz2, k0_pay3, addf_apply, shapeCast_self]
  exact (congrArg (fun z : EReal => _ + z) (block m c t r q))

/-- The block that the last point of a run leaves for the result. -/
theorem left (t : Fin cfg0.N) (h2 : t.val % 8 = 7) (r : Fin 1024) (q : Fin 1408) :
    (outsAt0 m c t.val t.isLt).1 (ix2 r q) = prodTo (lhs (aArr m c) (r.val)) (rhs (bArr m c) (1408 * (t.val / 8) + q.val)) 8192 := by
  rw [last_point m c t h2 r q]
  exact gathered (N := cfg0.N) (b := 8) (by decide) (by decide : 1024 * 8 = 8192) (fun n h => (outsAt0 m c n h).2 (ix2 r q)) (fun n _ => part m c n r q)
    (fun n => lhs (aArr m c) (r.val)) (fun n => rhs (bArr m c) (1408 * (n / 8) + q.val)) (fun _ _ => rfl)
    (fun n h e => ⟨rfl, by rw [show (n - 1) / 8 = n / 8 by omega]⟩) (fun n h e => first_point m c ⟨n, h⟩ e r q) (fun n h h' e e' => next_point m c ⟨n, h⟩ e e' r q) t.val t.isLt _ h2

/-! ## The result array -/

/-- Every entry the sum of products over the whole contracted axis, as the entries of the written half read. -/
def wide (A : S8192x1024.Idx → EReal) (B : S8192x2816.Idx → EReal) : S1024x5632.Idx → EReal :=
  fun i => prodTo (lhs A (i 0).val) (rhs B ((i 1).val)) 8192

set_option maxRecDepth 20000 in
/-- A flushed block is that block of the array. -/
theorem flushed_eq (t : Fin cfg0.N) (h : (cfg0.win 2).flush t = true) :
    (dats m 0 c).flushed 2 t = ((cfg0.win 2).blk t).view.read (Elt Ideal) (wide (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 1024) (q : Fin 1408), j = ix2 r q := ⟨j 0, j 1, eq_ix2 (n0 := 1024) (n1 := 1408) j⟩
  refine (left m c t ((flush0_2 t).mp h) r q).trans (Eq.trans ?_ (congrArg (wide (aArr m c) (bArr m c)) (?_ : (ix2 ⟨r.val, by omega⟩ ⟨1408 * (t.val / 8) + q.val, by omega⟩ : S1024x5632.Idx) = _)))
  · rfl
  · funext a
    apply Fin.ext
    match a with
    | ⟨0, _⟩ => show r.val = win0_2.index t 0 * 1024 + 1 * r.val; omega
    | ⟨1, _⟩ => show 1408 * (t.val / 8) + q.val = win0_2.index t 1 * 1408 + 1 * q.val; omega

/-- The written half of the array. -/
theorem written (i : S1024x5632.Idx) (hi : (i 1).val < 2816) : (dats m 0 c).arrAt 2 cfg0.N i = wide (aArr m c) (bArr m c) i := by
  have h0 : (i 0 : ℕ) < 1024 := (i 0).isLt
  have h1 : (i 1 : ℕ) < 5632 := (i 1).isLt
  obtain ⟨t, ht⟩ : ∃ t : Fin cfg0.N, t.val = (i 1).val / 1408 * 8 + 7 := ⟨⟨(i 1).val / 1408 * 8 + 7, by rw [show cfg0.N = 16 from N_0]; omega⟩, rfl⟩
  obtain ⟨e0, e1, x0, x1⟩ := index2 t
  refine (dats m 0 c).arrAt_apply_of_mem 2 (wide (aArr m c) (bArr m c)) (flushed_eq m c) cfg0.N t i t.isLt ((flush0_2 t).mpr (by omega)) ?_
  show i ∈ ((View.whole main_v0).slice (win0_2.rect t)).set
  rw [View.set_slice_whole, Rect.mem_set_unit]
  intro a
  match a with
  | ⟨0, _⟩ => show win0_2.index t 0 * 1024 ≤ (i 0 : ℕ) ∧ (i 0 : ℕ) < win0_2.index t 0 * 1024 + win0_2.xsize (grid0.coords t) 0; omega
  | ⟨1, _⟩ => show win0_2.index t 1 * 1408 ≤ (i 1 : ℕ) ∧ (i 1 : ℕ) < win0_2.index t 1 * 1408 + win0_2.xsize (grid0.coords t) 1; omega

/-- The written half, cut out of the array. -/
def result (A : S8192x1024.Idx → EReal) (B : S8192x2816.Idx → EReal) : S1024x2816.Idx → EReal :=
  fun i => prodTo (lhs A (i 0).val) (rhs B (i 1).val) 8192

theorem arrays : Pipeline.withArrays (cfgs 0).spec c (V0 m c) (fun w => (dats m 0 c).arrAt w (cfgs 0).N) (Proc.devRef .tc main_v0) = (dats m 0 c).arrAt 2 cfg0.N :=
  Pipeline.withArrays_arr (cfgs 0).spec winFacts0.arr_inj c (V0 m c) (fun w => (dats m 0 c).arrAt w (cfgs 0).N) 2

theorem tail : Pipeline.afterTail₀ cfgs (dats m) 0 (V0 m) [hostOps1] c main_v1
    = extractStridedSlice S1024x2816 ![0, 0] ((dats m 0 c).arrAt 2 cfg0.N : S1024x5632.Idx → EReal) slices_S1024x5632_S1024x2816_0_0 := by
  rw [← arrays]
  unfold Pipeline.afterTail₀
  generalize Pipeline.withArrays (cfgs 0).spec c (V0 m c) (fun w => (dats m 0 c).arrAt w (cfgs 0).N) = W
  simp only [hostOps1, List.flatten_cons, List.flatten_nil, List.append_nil]
  after_results_simp

theorem final : Pipeline.afterTail₀ cfgs (dats m) 0 (V0 m) [hostOps1] c main_v1 = result (aArr m c) (bArr m c) := by
  rw [tail]
  funext i
  have h1 : (i 1 : ℕ) < 2816 := (i 1).isLt
  exact (extractStridedSlice_apply ![0, 0] _ slices_S1024x5632_S1024x2816_0_0 i (ix2 (i 0) ⟨(i 1).val, by omega⟩) (fun a => match a with
    | ⟨0, _⟩ => by show (i 0).val = 0 + (i 0).val; omega
    | ⟨1, _⟩ => by show (i 1).val = 0 + (i 1).val; omega)).trans (written m c _ h1)

/-! ## The reference -/

open UpGateDwRefIdeal.Read

/-- The reference's product is the same sum of products. -/
theorem product (A : S8192x1024.Idx → EReal) (B : S8192x2816.Idx → EReal) (i : S1024x2816.Idx) :
    (val_main_v5 (F := Ideal) A B : S1024x2816.Idx → EReal) i = prodTo (lhs A (i 0).val) (rhs B (i 1).val) 8192 := by
  simp only [val_main_v5_apply, val_main_v4_apply, val_main_v3_apply, val_main_v1_apply]
  rw [← prodTo_all]
  refine Finset.sum_congr rfl fun k _ => ?_
  exact (mul_comm _ _).trans (congrArg₂ (fun a b : EReal => a * b) (at2_in A k.val (i 0).val k.isLt (i 0).isLt _ rfl rfl) (at2_in B k.val (i 1).val k.isLt (i 1).isLt _ rfl rfl))

theorem value (A : S8192x1024.Idx → EReal) (B : S8192x2816.Idx → EReal) : (val_main_v5 (F := Ideal) A B : S1024x2816.Idx → EReal) = result A B :=
  funext fun i => product A B i

/-- The reference runs without a fault, leaves its arguments as they are and ends with no semaphore raised. -/
theorem reference_frame : quiescent_UpGateDwRefIdeal := fun m ρ _ =>
  (θ_run _ _ _).mono (fun r h => ⟨fun c => (h c).2, sem_eq_zero_of_no_sems (by decide) r.2⟩) (UpGateDwRefIdeal.Value.run m ρ)

/-- Over the extended reals the kernel's result and the reference's are equal. -/
theorem algebraic : algebraic_UpGateDwIdeal_UpGateDwRefIdeal := by
  intro m g m' g' _ hargs
  refine ⟨fun c => result (aArr m c) (bArr m c), (θ_run _ _ _).mono (fun _ h c => ⟨((h c).2 main_v1 (Pipeline.mem_restRefs_of main_v1 (by decide) (by decide))).trans (final m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m g), ?_⟩
  refine (θ_run _ _ _).mono (fun _ h c => ⟨(h c).1.trans ?_, (h c).2⟩) (UpGateDwRefIdeal.Value.run m' g')
  rw [val_main_v5_eq, (hargs c).1, (hargs c).2]
  exact value _ _

end Cert.UpGateDwIdeal.Own

end
-- ==== Proof.UpLinDwGrad.lean ====
/-
  The gradient of the linear half of the feed-forward up projection, with respect to its weights, written beside the gate half the call is given: the kernel's result, and that the
  reference's plain product is the same over the extended reals.
-/
module

public import proofs.«01_k».proof.Proof.Gen.UpLinDwIdeal.Frame
public import proofs.«01_k».proof.Proof.Gen.UpLinDwRefIdeal.Read
public import proofs.«01_k».proof.Defs
public import proofs.«01_k».proof.Proof.ProdMath

@[expose] public section

noncomputable section

namespace Cert.UpLinDwIdeal.Own

open Cert.UpLinDwIdeal Cert.UpLinDwIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 16 := lt_of_lt_of_eq t.isLt (show cfg0.N = 16 from N_0)

theorem index0 : ∀ t : Fin grid0.N, win0_0.index t 0 = t.val % 8 ∧ win0_0.index t 1 = 0 :=
  by decide +kernel

theorem index1 : ∀ t : Fin grid0.N, win0_1.index t 0 = t.val % 8 ∧ win0_1.index t 1 = t.val / 8 :=
  by decide +kernel

theorem index2 : ∀ t : Fin grid0.N, win0_2.index t 0 = 0 ∧ win0_2.index t 1 = t.val / 8 + 2
    ∧ win0_2.xsize (grid0.coords t) 0 = 1024 ∧ win0_2.xsize (grid0.coords t) 1 = 1408 :=
  by decide +kernel

/-- The left factor's row `i` and the right factor's column `j`, along the contracted axis. -/
def lhs (A : S8192x1024.Idx → EReal) (i : ℕ) : ℕ → EReal := fun k => at2 A (k) (i)
def rhs (B : S8192x2816.Idx → EReal) (j : ℕ) : ℕ → EReal := fun k => at2 B (k) (j)

variable (m : (ℓ : Loc nD τ sig) → Buf (Elt Ideal) ℓ) (c : Dev nD)

/-- The argument arrays. -/
abbrev aArr : S8192x1024.Idx → EReal := m ((c : Thread nD τ).loc main_arg0)
abbrev bArr : S8192x2816.Idx → EReal := m ((c : Thread nD τ).loc main_arg1)
abbrev dArr : S1024x5632.Idx → EReal := m ((c : Thread nD τ).loc main_arg2)

theorem iblk0_apply (t : Fin cfg0.N) (k : Fin 1024) (r : Fin 1024) :
    (iblk m c 0 t : Vec Ideal S1024x1024 .bf16) (ix2 k r) = at2 (aArr m c) (1024 * (t.val % 8) + k.val) (r.val) := by
  obtain ⟨h0, h1⟩ := index0 t
  have := t_lt t
  unfold iblk
  rw [View.read_apply]
  show V m c main_arg0 _ = _
  rw [V_main_arg0]
  exact at2_in (aArr m c) _ _ (by omega) (by omega) _
    (by show win0_0.index t 0 * 1024 + 1 * k.val = _; omega)
    (by show win0_0.index t 1 * 1024 + 1 * r.val = _; omega)

theorem iblk1_apply (t : Fin cfg0.N) (k : Fin 1024) (q : Fin 1408) :
    (iblk m c 1 t : Vec Ideal S1024x1408 .bf16) (ix2 k q) = at2 (bArr m c) (1024 * (t.val % 8) + k.val) (1408 * (t.val / 8) + q.val) := by
  obtain ⟨h0, h1⟩ := index1 t
  have := t_lt t
  unfold iblk
  rw [View.read_apply]
  show V m c main_arg1 _ = _
  rw [V_main_arg1]
  exact at2_in (bArr m c) _ _ (by omega) (by omega) _
    (by show win0_1.index t 0 * 1024 + 1 * k.val = _; omega)
    (by show win0_1.index t 1 * 1408 + 1 * q.val = _; omega)

/-- The products of point `t`: over its positions of the contracted axis, for entry (r, q) of its block. -/
def part (t : ℕ) (r : Fin 1024) (q : Fin 1408) : EReal :=
  ∑ k : Fin 1024, lhs (aArr m c) (r.val) (1024 * (t % 8) + k.val) * rhs (bArr m c) (1408 * (t / 8) + q.val) (1024 * (t % 8) + k.val)

/-- The product of a point's staged blocks. -/
theorem block (t : Fin cfg0.N) (r : Fin 1024) (q : Fin 1408) :
    (k0_pay1 (iblk m c 0 t) (iblk m c 1 t) : Vec Ideal S1024x1408 .f32) (ix2 r q) = part m c t.val r q := by
  have hdot : dot_S1024x1024_S1024x1408_S1024x1408_0_0_1_1_n_n = Prod.lhsTransposed 1024 1024 1408 := rfl
  unfold k0_pay1
  simp only [shapeCast_self, matmul, hdot, Prod.lhsTransposed_apply, constant_apply, Ideal.ofBits_zero_f32, zero_add, unstack]
  exact Finset.sum_congr rfl fun k _ => by rw [iblk0_apply, iblk1_apply]; rfl

/-! ## The points -/

theorem first_point (t : Fin cfg0.N) (h0 : t.val % 8 = 0) (r : Fin 1024) (q : Fin 1408) :
    (outsAt0 m c t.val t.isLt).2 (ix2 r q) = part m c t.val r q := by
  have ht := t_lt t
  rw [outsAt0_A m c t (by omega) (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz2]
  simp only [View.readCov_unit_zero (S := S1024x1408) _ hz2, View.readAt_eq_ld, (hs0_0 t).read_unread, (hs0_1 t).read_unread, (Memref.isWhole_whole _).read_unread,
    View.ld_unit_zero (S := S1024x1024) hz2, View.ld_unit_zero (S := S1024x1408) hz2, k0_pay2, shapeCast_self]
  exact block m c t r q

theorem next_point (t : Fin cfg0.N) (h0 : ¬t.val % 8 = 0) (h2 : ¬t.val % 8 = 7) (r : Fin 1024) (q : Fin 1408) :
    (outsAt0 m c t.val t.isLt).2 (ix2 r q) = (outsAt0 m c (t.val - 1) (pred_lt t.isLt)).2 (ix2 r q) + part m c t.val r q := by
  have ht := t_lt t
  rw [outsAt0_B m c t (by omega) (by omega) (by omega)]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz2]
  simp only [View.readCov_unit_zero (S := S1024x1408) _ hz2, View.readAt_eq_ld, (hs0_0 t).read_unread, (hs0_1 t).read_unread, (Memref.isWhole_whole _).read_unread,
    View.ld_unit_zero (S := S1024x1024) hz2, View.ld_unit_zero (S := S1024x1408) hz2, k0_pay3, addf_apply, shapeCast_self]
  exact congrArg (fun z : EReal => _ + z) (block m c t r q)

theorem last_point (t : Fin cfg0.N) (h2 : t.val % 8 = 7) (r : Fin 1024) (q : Fin 1408) :
    (outsAt0 m c t.val t.isLt).1 (ix2 r q) = (outsAt0 m c (t.val - 1) (pred_lt t.isLt)).2 (ix2 r q) + part m c t.val r q := by
  have ht := t_lt t
  rw [outsAt0_C m c t (by omega) (by omega) (by omega)]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readCov_unit_zero (S := S1024x1408) _ hz2, View.readAt_eq_ld, (hs0_0 t).read_unread, (hs0_1 t).read_unread, (Memref.isWhole_whole _).read_unread,
    View.ld_unit_zero (S := S1024x1024) hz2, View.ld_unit_zero (S := S1024x1408) hz2, k0_pay3, addf_apply, shapeCast_self]
  exact (congrArg (fun z : EReal => _ + z) (block m c t r q))

/-- The block that the last point of a run leaves for the result. -/
theorem left (t : Fin cfg0.N) (h2 : t.val % 8 = 7) (r : Fin 1024) (q : Fin 1408) :
    (outsAt0 m c t.val t.isLt).1 (ix2 r q) = prodTo (lhs (aArr m c) (r.val)) (rhs (bArr m c) (1408 * (t.val / 8) + q.val)) 8192 := by
  rw [last_point m c t h2 r q]
  exact gathered (N := cfg0.N) (b := 8) (by decide) (by decide : 1024 * 8 = 8192) (fun n h => (outsAt0 m c n h).2 (ix2 r q)) (fun n _ => part m c n r q)
    (fun n => lhs (aArr m c) (r.val)) (fun n => rhs (bArr m c) (1408 * (n / 8) + q.val)) (fun _ _ => rfl)
    (fun n h e => ⟨rfl, by rw [show (n - 1) / 8 = n / 8 by omega]⟩) (fun n h e => first_point m c ⟨n, h⟩ e r q) (fun n h h' e e' => next_point m c ⟨n, h⟩ e e' r q) t.val t.isLt _ h2

/-! ## The result array -/

/-- Every entry the sum of products over the whole contracted axis, as the entries of the written half read. -/
def wide (A : S8192x1024.Idx → EReal) (B : S8192x2816.Idx → EReal) : S1024x5632.Idx → EReal :=
  fun i => prodTo (lhs A (i 0).val) (rhs B ((i 1).val - 2816)) 8192

set_option maxRecDepth 20000 in
/-- A flushed block is that block of the array. -/
theorem flushed_eq (t : Fin cfg0.N) (h : (cfg0.win 2).flush t = true) :
    (dats m 0 c).flushed 2 t = ((cfg0.win 2).blk t).view.read (Elt Ideal) (wide (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 1024) (q : Fin 1408), j = ix2 r q := ⟨j 0, j 1, eq_ix2 (n0 := 1024) (n1 := 1408) j⟩
  refine (left m c t ((flush0_2 t).mp h) r q).trans (Eq.trans ?_ (congrArg (wide (aArr m c) (bArr m c)) (?_ : (ix2 ⟨r.val, by omega⟩ ⟨1408 * (t.val / 8 + 2) + q.val, by omega⟩ : S1024x5632.Idx) = _)))
  · exact congrArg (fun j => prodTo (lhs (aArr m c) (r.val)) (rhs (bArr m c) j) 8192) (show 1408 * (t.val / 8) + q.val = 1408 * (t.val / 8 + 2) + q.val - 2816 by omega)
  · funext a
    apply Fin.ext
    match a with
    | ⟨0, _⟩ => show r.val = win0_2.index t 0 * 1024 + 1 * r.val; omega
    | ⟨1, _⟩ => show 1408 * (t.val / 8 + 2) + q.val = win0_2.index t 1 * 1408 + 1 * q.val; omega

/-- The written half of the array. -/
theorem written (i : S1024x5632.Idx) (lo : 2816 ≤ (i 1).val) : (dats m 0 c).arrAt 2 cfg0.N i = wide (aArr m c) (bArr m c) i := by
  have h0 : (i 0 : ℕ) < 1024 := (i 0).isLt
  have h1 : (i 1 : ℕ) < 5632 := (i 1).isLt
  obtain ⟨t, ht⟩ : ∃ t : Fin cfg0.N, t.val = ((i 1).val - 2816) / 1408 * 8 + 7 := ⟨⟨((i 1).val - 2816) / 1408 * 8 + 7, by rw [show cfg0.N = 16 from N_0]; omega⟩, rfl⟩
  obtain ⟨e0, e1, x0, x1⟩ := index2 t
  refine (dats m 0 c).arrAt_apply_of_mem 2 (wide (aArr m c) (bArr m c)) (flushed_eq m c) cfg0.N t i t.isLt ((flush0_2 t).mpr (by omega)) ?_
  show i ∈ ((View.whole main_v0).slice (win0_2.rect t)).set
  rw [View.set_slice_whole, Rect.mem_set_unit]
  intro a
  match a with
  | ⟨0, _⟩ => show win0_2.index t 0 * 1024 ≤ (i 0 : ℕ) ∧ (i 0 : ℕ) < win0_2.index t 0 * 1024 + win0_2.xsize (grid0.coords t) 0; omega
  | ⟨1, _⟩ => show win0_2.index t 1 * 1408 ≤ (i 1 : ℕ) ∧ (i 1 : ℕ) < win0_2.index t 1 * 1408 + win0_2.xsize (grid0.coords t) 1; omega

/-- On entry the array holds the argument. -/
theorem entry : V m c main_v0 = dArr m c := by
  show StableHlo.after [StableHlo.unary main_arg2 main_v0 id] (fun b => m (c, b)) (Proc.devRef .tc main_v0) = _
  after_results_simp
  rfl

/-- The other half is what the call was given. -/
theorem kept (i : S1024x5632.Idx) (hi : (i 1).val < 2816) : (dats m 0 c).arrAt 2 cfg0.N i = dArr m c i := by
  refine ((dats m 0 c).arrAt_apply_of_forall_not_mem 2 cfg0.N i fun t _ _ hm => ?_).trans ((congrFun (A_eq m c 2) i).trans (congrFun (entry m c) i))
  obtain ⟨e0, e1, x0, x1⟩ := index2 t
  change i ∈ ((View.whole main_v0).slice (win0_2.rect t)).set at hm
  rw [View.set_slice_whole, Rect.mem_set_unit] at hm
  have h := (hm 1).1
  change win0_2.index t 1 * 1408 ≤ (i 1 : ℕ) at h
  omega

/-- The array given, with its second half the sums of products. -/
def result (A : S8192x1024.Idx → EReal) (B : S8192x2816.Idx → EReal) (D : S1024x5632.Idx → EReal) : S1024x5632.Idx → EReal :=
  fun i => if (i 1).val < 2816 then D i else wide A B i

theorem final : (dats m 0 c).arrAt 2 cfg0.N = result (aArr m c) (bArr m c) (dArr m c) := by
  funext i
  unfold result
  by_cases h : (i 1).val < 2816
  · rw [if_pos h]
    exact kept m c i h
  · rw [if_neg h]
    exact written m c i (by omega)

/-! ## The reference -/

open UpLinDwRefIdeal.Read

/-- The reference's product is the same sum of products. -/
theorem product (A : S8192x1024.Idx → EReal) (B : S8192x2816.Idx → EReal) (i : UpLinDwRefIdeal.S1024x2816.Idx) :
    (val_main_v6 (F := Ideal) A B : UpLinDwRefIdeal.S1024x2816.Idx → EReal) i = prodTo (lhs A (i 0).val) (rhs B (i 1).val) 8192 := by
  simp only [val_main_v6_apply, val_main_v5_apply, val_main_v4_apply, val_main_v2_apply]
  rw [← prodTo_all]
  refine Finset.sum_congr rfl fun k _ => ?_
  exact (mul_comm _ _).trans (congrArg₂ (fun a b : EReal => a * b) (at2_in A k.val (i 0).val k.isLt (i 0).isLt _ rfl rfl) (at2_in B k.val (i 1).val k.isLt (i 1).isLt _ rfl rfl))

/-- The reference's result is the array given, with its second half the product. -/
theorem value (A : S8192x1024.Idx → EReal) (B : S8192x2816.Idx → EReal) (D : S1024x5632.Idx → EReal) :
    (val_main_v7 (F := Ideal) A B D : S1024x5632.Idx → EReal) = result A B D := by
  funext i
  have hj : (i 1).val < 5632 := (i 1).isLt
  unfold result val_main_v7
  by_cases h : (i 1).val < 2816
  · rw [if_pos h]
    refine (concatenate_pair_apply_left (t := UpLinDwRefIdeal.S1024x5632) (s₁ := UpLinDwRefIdeal.S1024x2816) (s₂ := UpLinDwRefIdeal.S1024x2816) 1 _ _ _ i rfl (ix2 (i 0) ⟨(i 1).val, h⟩ : UpLinDwRefIdeal.S1024x2816.Idx) (fun b => by match b with | ⟨0, _⟩ => rfl | ⟨1, _⟩ => rfl)).trans ?_
    rw [val_main_v0_apply]
    exact congrArg D (funext fun a => Fin.ext (by match a with | ⟨0, _⟩ => rfl | ⟨1, _⟩ => rfl))
  · rw [if_neg h]
    refine (concatenate_pair_apply_right (t := UpLinDwRefIdeal.S1024x5632) (s₁ := UpLinDwRefIdeal.S1024x2816) (s₂ := UpLinDwRefIdeal.S1024x2816) 1 _ _ _ i rfl rfl (ix2 (i 0) ⟨(i 1).val - 2816, by omega⟩ : UpLinDwRefIdeal.S1024x2816.Idx) (fun b => by match b with | ⟨0, _⟩ => exact fun _ => rfl | ⟨1, _⟩ => exact fun hb => absurd rfl hb) ?_).trans ?_
    · show (i 1).val - 2816 + 2816 = (i 1).val
      omega
    · exact product A B _

/-- The reference runs without a fault, leaves its arguments as they are and ends with no semaphore raised. -/
theorem reference_frame : quiescent_UpLinDwRefIdeal := fun m ρ _ =>
  (θ_run _ _ _).mono (fun r h => ⟨fun c => (h c).2, sem_eq_zero_of_no_sems (by decide) r.2⟩) (UpLinDwRefIdeal.Value.run m ρ)

/-- Over the extended reals the kernel's result and the reference's are equal. -/
theorem algebraic : algebraic_UpLinDwIdeal_UpLinDwRefIdeal := by
  intro m g m' g' _ hargs
  refine ⟨fun c => result (aArr m c) (bArr m c) (dArr m c), (θ_run _ _ _).mono (fun _ h c => ⟨((h c).1 2).trans (final m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c)⟩) (run_main m g), ?_⟩
  refine (θ_run _ _ _).mono (fun _ h c => ⟨(h c).1.trans ?_, (h c).2⟩) (UpLinDwRefIdeal.Value.run m' g')
  rw [val_main_v7_eq, (hargs c).1, (hargs c).2.1, (hargs c).2.2]
  exact value _ _ _

end Cert.UpLinDwIdeal.Own

end
-- ==== Proof.MixDxGrad.lean ====
/-
  The gradient of the mixing projection, with respect to its input: the kernel's result, and that the
  reference's plain product is the same over the extended reals.
-/
module

public import proofs.«01_k».proof.Proof.Gen.MixDxIdeal.Frame
public import proofs.«01_k».proof.Proof.Gen.MixDxRefIdeal.Read
public import proofs.«01_k».proof.Defs
public import proofs.«01_k».proof.Proof.ProdMath

@[expose] public section

noncomputable section

namespace Cert.MixDxIdeal.Own

open Cert.MixDxIdeal Cert.MixDxIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 4 := lt_of_lt_of_eq t.isLt (show cfg0.N = 4 from N_0)

theorem index0 : ∀ t : Fin grid0.N, win0_0.index t 0 = t.val ∧ win0_0.index t 1 = 0 :=
  by decide +kernel

theorem index1 : ∀ t : Fin grid0.N, win0_1.index t 0 = 1 ∧ win0_1.index t 1 = 0 ∧ win0_1.index t 2 = 0 :=
  by decide +kernel

theorem index2 : ∀ t : Fin grid0.N, win0_2.index t 0 = t.val ∧ win0_2.index t 1 = 0
    ∧ win0_2.xsize (grid0.coords t) 0 = 2048 ∧ win0_2.xsize (grid0.coords t) 1 = 1024 :=
  by decide +kernel

/-- The left factor's row `i` and the right factor's column `j`, along the contracted axis. -/
def lhs (A : S8192x1024.Idx → EReal) (i : ℕ) : ℕ → EReal := fun k => at2 A (i) (k)
def rhs (B : S2x1024x1024.Idx → EReal) (j : ℕ) : ℕ → EReal := fun k => at3 B 1 (j) (k)

variable (m : (ℓ : Loc nD τ sig) → Buf (Elt Ideal) ℓ) (c : Dev nD)

/-- The argument arrays. -/
abbrev aArr : S8192x1024.Idx → EReal := m ((c : Thread nD τ).loc main_arg0)
abbrev bArr : S2x1024x1024.Idx → EReal := m ((c : Thread nD τ).loc main_arg1)

theorem iblk0_apply (t : Fin cfg0.N) (r : Fin 2048) (k : Fin 1024) :
    (iblk m c 0 t : Vec Ideal S2048x1024 .bf16) (ix2 r k) = at2 (aArr m c) (2048 * (t.val) + r.val) (k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 2048 + 1 * r.val = _; omega)
    (by show win0_0.index t 1 * 1024 + 1 * k.val = _; omega)

theorem iblk1_apply (t : Fin cfg0.N) (q : Fin 1024) (k : Fin 1024) :
    (iblk m c 1 t : Vec Ideal S1x1024x1024 .bf16) (ix3 0 q k) = at3 (bArr m c) 1 (q.val) (k.val) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 1024 + 1 * q.val = _; omega)
    (by show win0_1.index t 2 * 1024 + 1 * k.val = _; omega)

/-- The products of point `t`: over its positions of the contracted axis, for entry (r, q) of its block. -/
def part (t : ℕ) (r : Fin 2048) (q : Fin 1024) : EReal :=
  ∑ k : Fin 1024, lhs (aArr m c) (2048 * (t) + r.val) (k.val) * rhs (bArr m c) (q.val) (k.val)

/-- The product of a point's staged blocks. -/
theorem block (t : Fin cfg0.N) (r : Fin 2048) (q : Fin 1024) :
    (k0_pay1 (iblk m c 0 t) (iblk m c 1 t) : Vec Ideal S2048x1024 .bf16) (ix2 r q) = part m c t.val r q := by
  have hdot : dot_S2048x1024_S1024x1024_S2048x1024_1_1_0_0_n_n = DotDims.transposedRhs 2048 1024 1024 := rfl
  unfold k0_pay1
  simp only [truncf_apply, shapeCast_self, matmul, hdot, Ideal.matmul_transposedRhs_apply, constant_apply, Ideal.ofBits_zero_f32, zero_add, unstack]
  exact Finset.sum_congr rfl fun k _ => by rw [iblk0_apply, iblk1_apply]; rfl

/-- The block that a point leaves for the result. -/
theorem left (t : Fin cfg0.N) (r : Fin 2048) (q : Fin 1024) :
    (out0_2 (iblk m c 0 t) (iblk m c 1 t) : Vec Ideal S2048x1024 .bf16) (ix2 r q) = prodTo (lhs (aArr m c) (2048 * (t.val) + r.val)) (rhs (bArr m c) (q.val)) 1024 := by
  unfold out0_2
  rw [View.canon_unit_zero hz2]
  simp only [View.ld_unit_zero (S := S2048x1024) hz2, View.ld_unit_zero (S := S1x1024x1024) hz3]
  rw [block]
  exact prodTo_all _ _ _

/-! ## The result array -/

/-- Every entry the sum of products over the whole contracted axis. -/
def result (A : S8192x1024.Idx → EReal) (B : S2x1024x1024.Idx → EReal) : S8192x1024.Idx → EReal :=
  fun i => prodTo (lhs A (i 0).val) (rhs B (i 1).val) 1024

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 2048) (q : Fin 1024), j = ix2 r q := ⟨j 0, j 1, eq_ix2 (n0 := 2048) (n1 := 1024) j⟩
  refine (left m c t  r q).trans (Eq.trans ?_ (congrArg (result (aArr m c) (bArr m c)) (?_ : (ix2 ⟨2048 * (t.val) + r.val, by omega⟩ ⟨q.val, by omega⟩ : S8192x1024.Idx) = _)))
  · rfl
  · funext a
    apply Fin.ext
    match a with
    | ⟨0, _⟩ => show 2048 * (t.val) + r.val = win0_2.index t 0 * 2048 + 1 * r.val; omega
    | ⟨1, _⟩ => show q.val = win0_2.index t 1 * 1024 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 8192 := (i 0).isLt
    have h1 : (i 1 : ℕ) < 1024 := (i 1).isLt
    obtain ⟨t, ht⟩ : ∃ t : Fin cfg0.N, t.val = (i 0).val / 2048 := ⟨⟨(i 0).val / 2048, by rw [show cfg0.N = 4 from N_0]; omega⟩, rfl⟩
    obtain ⟨e0, e1, x0, x1⟩ := index2 t
    refine ⟨t, flush0_2 t, (congrArg (i ∈ ·) (View.set_slice_whole main_v0 (win0_2.rect t))).mpr (Rect.mem_set_unit.2 fun a => ?_)⟩
    match a with
    | ⟨0, _⟩ => show win0_2.index t 0 * 2048 ≤ (i 0 : ℕ) ∧ (i 0 : ℕ) < win0_2.index t 0 * 2048 + win0_2.xsize (grid0.coords t) 0; omega
    | ⟨1, _⟩ => show win0_2.index t 1 * 1024 ≤ (i 1 : ℕ) ∧ (i 1 : ℕ) < win0_2.index t 1 * 1024 + win0_2.xsize (grid0.coords t) 1; omega

/-! ## The reference -/

open MixDxRefIdeal.Read

/-- The reference's result is the same sum of products. -/
theorem value (A : S8192x1024.Idx → EReal) (B : S2x1024x1024.Idx → EReal) :
    (val_main_v8 (F := Ideal) A B : S8192x1024.Idx → EReal) = result A B := by
  funext i
  have hi : (i 0).val < 8192 := (i 0).isLt
  have hj : (i 1).val < 1024 := (i 1).isLt
  simp only [val_main_v8_apply, val_main_v7_apply, val_main_v6_apply, val_main_v4_apply, val_main_v3_apply, val_main_v2_apply]
  unfold result
  rw [← prodTo_all]
  refine Finset.sum_congr rfl fun k _ => ?_
  have hk := k.isLt
  exact congrArg₂ (fun a b : EReal => a * b) (at2_in A (i 0).val k.val (i 0).isLt k.isLt _ rfl rfl) (at3_in B 1 (i 1).val k.val (by omega) (i 1).isLt (by omega) _ rfl (by show ((i 1).val * 1024 + k.val) / 1024 % 1024 = (i 1).val; omega) (by show ((i 1).val * 1024 + k.val) % 1024 = k.val; omega))

/-- The reference runs without a fault, leaves its arguments as they are and ends with no semaphore raised. -/
theorem reference_frame : quiescent_MixDxRefIdeal := fun m ρ _ =>
  (θ_run _ _ _).mono (fun r h => ⟨fun c => (h c).2, sem_eq_zero_of_no_sems (by decide) r.2⟩) (MixDxRefIdeal.Value.run m ρ)

/-- Over the extended reals the kernel's result and the reference's are equal. -/
theorem algebraic : algebraic_MixDxIdeal_MixDxRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (MixDxRefIdeal.Value.run m' g')
  rw [val_main_v8_eq, (hargs c).1, (hargs c).2]
  exact value _ _

end Cert.MixDxIdeal.Own

end
-- ==== Proof.MixDwGrad.lean ====
/-
  The gradient of the mixing projection, with respect to its weights: the kernel's result, and that the
  reference's plain product is the same over the extended reals.
-/
module

public import proofs.«01_k».proof.Proof.Gen.MixDwIdeal.Frame
public import proofs.«01_k».proof.Proof.Gen.MixDwRefIdeal.Read
public import proofs.«01_k».proof.Defs
public import proofs.«01_k».proof.Proof.ProdMath

@[expose] public section

noncomputable section

namespace Cert.MixDwIdeal.Own

open Cert.MixDwIdeal Cert.MixDwIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 8 := lt_of_lt_of_eq t.isLt (show cfg0.N = 8 from N_0)

theorem index0 : ∀ t : Fin grid0.N, win0_0.index t 0 = t.val % 8 ∧ win0_0.index t 1 = 0 :=
  by decide +kernel

theorem index1 : ∀ t : Fin grid0.N, win0_1.index t 0 = t.val % 8 ∧ win0_1.index t 1 = 0 :=
  by decide +kernel

theorem index2 : ∀ t : Fin grid0.N, win0_2.index t 0 = 0 ∧ win0_2.index t 1 = 0
    ∧ win0_2.xsize (grid0.coords t) 0 = 1024 ∧ win0_2.xsize (grid0.coords t) 1 = 1024 :=
  by decide +kernel

/-- The left factor's row `i` and the right factor's column `j`, along the contracted axis. -/
def lhs (A : S8192x1024.Idx → EReal) (i : ℕ) : ℕ → EReal := fun k => at2 A (k) (i)
def rhs (B : S8192x1024.Idx → EReal) (j : ℕ) : ℕ → EReal := fun k => at2 B (k) (j)

variable (m : (ℓ : Loc nD τ sig) → Buf (Elt Ideal) ℓ) (c : Dev nD)

/-- The argument arrays. -/
abbrev aArr : S8192x1024.Idx → EReal := m ((c : Thread nD τ).loc main_arg0)
abbrev bArr : S8192x1024.Idx → EReal := m ((c : Thread nD τ).loc main_arg1)

theorem iblk0_apply (t : Fin cfg0.N) (k : Fin 1024) (r : Fin 1024) :
    (iblk m c 0 t : Vec Ideal S1024x1024 .bf16) (ix2 k r) = at2 (aArr m c) (1024 * (t.val % 8) + k.val) (r.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 1024 + 1 * k.val = _; omega)
    (by show win0_0.index t 1 * 1024 + 1 * r.val = _; omega)

theorem iblk1_apply (t : Fin cfg0.N) (k : Fin 1024) (q : Fin 1024) :
    (iblk m c 1 t : Vec Ideal S1024x1024 .bf16) (ix2 k q) = at2 (bArr m c) (1024 * (t.val % 8) + k.val) (q.val) := by
  obtain ⟨h0, h1⟩ := index1 t
  have := t_lt t
  unfold iblk
  rw [View.read_apply]
  show V m c main_arg1 _ = _
  unfold V
  exact at2_in (bArr m c) _ _ (by omega) (by omega) _
    (by show win0_1.index t 0 * 1024 + 1 * k.val = _; omega)
    (by show win0_1.index t 1 * 1024 + 1 * q.val = _; omega)

/-- The products of point `t`: over its positions of the contracted axis, for entry (r, q) of its block. -/
def part (t : ℕ) (r : Fin 1024) (q : Fin 1024) : EReal :=
  ∑ k : Fin 1024, lhs (aArr m c) (r.val) (1024 * (t % 8) + k.val) * rhs (bArr m c) (q.val) (1024 * (t % 8) + k.val)

/-- The product of a point's staged blocks. -/
theorem block (t : Fin cfg0.N) (r : Fin 1024) (q : Fin 1024) :
    (k0_pay1 (iblk m c 0 t) (iblk m c 1 t) : Vec Ideal S1024x1024 .f32) (ix2 r q) = part m c t.val r q := by
  have hdot : dot_S1024x1024_S1024x1024_S1024x1024_0_0_1_1_n_n = Prod.lhsTransposed 1024 1024 1024 := rfl
  unfold k0_pay1
  simp only [shapeCast_self, matmul, hdot, Prod.lhsTransposed_apply, constant_apply, Ideal.ofBits_zero_f32, zero_add, unstack]
  exact Finset.sum_congr rfl fun k _ => by rw [iblk0_apply, iblk1_apply]; rfl

/-! ## The points -/

theorem first_point (t : Fin cfg0.N) (h0 : t.val % 8 = 0) (r : Fin 1024) (q : Fin 1024) :
    (outsAt0 m c t.val t.isLt).2 (ix2 r q) = part m c t.val r q := by
  have ht := t_lt t
  rw [outsAt0_A m c t (by omega) (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz2]
  simp only [View.readCov_unit_zero (S := S1024x1024) _ hz2, View.readAt_eq_ld, (hs0_0 t).read_unread, (hs0_1 t).read_unread, (Memref.isWhole_whole _).read_unread,
    View.ld_unit_zero (S := S1024x1024) hz2, k0_pay2, shapeCast_self]
  exact block m c t r q

theorem next_point (t : Fin cfg0.N) (h0 : ¬t.val % 8 = 0) (h2 : ¬t.val % 8 = 7) (r : Fin 1024) (q : Fin 1024) :
    (outsAt0 m c t.val t.isLt).2 (ix2 r q) = (outsAt0 m c (t.val - 1) (pred_lt t.isLt)).2 (ix2 r q) + part m c t.val r q := by
  have ht := t_lt t
  rw [outsAt0_B m c t (by omega) (by omega) (by omega)]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz2]
  simp only [View.readCov_unit_zero (S := S1024x1024) _ hz2, View.readAt_eq_ld, (hs0_0 t).read_unread, (hs0_1 t).read_unread, (Memref.isWhole_whole _).read_unread,
    View.ld_unit_zero (S := S1024x1024) hz2, k0_pay3, addf_apply, shapeCast_self]
  exact congrArg (fun z : EReal => _ + z) (block m c t r q)

theorem last_point (t : Fin cfg0.N) (h2 : t.val % 8 = 7) (r : Fin 1024) (q : Fin 1024) :
    (outsAt0 m c t.val t.isLt).1 (ix2 r q) = (outsAt0 m c (t.val - 1) (pred_lt t.isLt)).2 (ix2 r q) + part m c t.val r q := by
  have ht := t_lt t
  rw [outsAt0_C m c t (by omega) (by omega) (by omega)]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readCov_unit_zero (S := S1024x1024) _ hz2, View.readAt_eq_ld, (hs0_0 t).read_unread, (hs0_1 t).read_unread, (Memref.isWhole_whole _).read_unread,
    View.ld_unit_zero (S := S1024x1024) hz2, k0_pay3, addf_apply, shapeCast_self]
  exact (congrArg (fun z : EReal => _ + z) (block m c t r q))

/-- The block that the last point of a run leaves for the result. -/
theorem left (t : Fin cfg0.N) (h2 : t.val % 8 = 7) (r : Fin 1024) (q : Fin 1024) :
    (outsAt0 m c t.val t.isLt).1 (ix2 r q) = prodTo (lhs (aArr m c) (r.val)) (rhs (bArr m c) (q.val)) 8192 := by
  rw [last_point m c t h2 r q]
  exact gathered (N := cfg0.N) (b := 8) (by decide) (by decide : 1024 * 8 = 8192) (fun n h => (outsAt0 m c n h).2 (ix2 r q)) (fun n _ => part m c n r q)
    (fun n => lhs (aArr m c) (r.val)) (fun n => rhs (bArr m c) (q.val)) (fun _ _ => rfl)
    (fun n h e => ⟨rfl, rfl⟩) (fun n h e => first_point m c ⟨n, h⟩ e r q) (fun n h h' e e' => next_point m c ⟨n, h⟩ e e' r q) t.val t.isLt _ h2

/-! ## The result array -/

/-- Every entry the sum of products over the whole contracted axis. -/
def result (A : S8192x1024.Idx → EReal) (B : S8192x1024.Idx → EReal) : S1024x1024.Idx → EReal :=
  fun i => prodTo (lhs A (i 0).val) (rhs B (i 1).val) 8192

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 1024) (q : Fin 1024), j = ix2 r q := ⟨j 0, j 1, eq_ix2 (n0 := 1024) (n1 := 1024) j⟩
  refine (left m c t ((flush0_2 t).mp h) r q).trans (Eq.trans ?_ (congrArg (result (aArr m c) (bArr m c)) (?_ : (ix2 ⟨r.val, by omega⟩ ⟨q.val, by omega⟩ : S1024x1024.Idx) = _)))
  · rfl
  · funext a
    apply Fin.ext
    match a with
    | ⟨0, _⟩ => show r.val = win0_2.index t 0 * 1024 + 1 * r.val; omega
    | ⟨1, _⟩ => show q.val = win0_2.index t 1 * 1024 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 1024 := (i 0).isLt
    have h1 : (i 1 : ℕ) < 1024 := (i 1).isLt
    obtain ⟨t, ht⟩ : ∃ t : Fin cfg0.N, t.val = 7 := ⟨⟨7, by rw [show cfg0.N = 8 from N_0]; omega⟩, rfl⟩
    obtain ⟨e0, e1, x0, x1⟩ := index2 t
    refine ⟨t, (flush0_2 t).mpr (by omega), (congrArg (i ∈ ·) (View.set_slice_whole main_v0 (win0_2.rect t))).mpr (Rect.mem_set_unit.2 fun a => ?_)⟩
    match a with
    | ⟨0, _⟩ => show win0_2.index t 0 * 1024 ≤ (i 0 : ℕ) ∧ (i 0 : ℕ) < win0_2.index t 0 * 1024 + win0_2.xsize (grid0.coords t) 0; omega
    | ⟨1, _⟩ => show win0_2.index t 1 * 1024 ≤ (i 1 : ℕ) ∧ (i 1 : ℕ) < win0_2.index t 1 * 1024 + win0_2.xsize (grid0.coords t) 1; omega

/-! ## The reference -/

open MixDwRefIdeal.Read

/-- The reference's result is the same sum of products. -/
theorem value (A : S8192x1024.Idx → EReal) (B : S8192x1024.Idx → EReal) :
    (val_main_v5 (F := Ideal) A B : S1024x1024.Idx → EReal) = result A B := by
  funext i
  have hi : (i 0).val < 1024 := (i 0).isLt
  have hj : (i 1).val < 1024 := (i 1).isLt
  simp only [val_main_v5_apply, val_main_v4_apply, val_main_v3_apply, val_main_v1_apply]
  unfold result
  rw [← prodTo_all]
  refine Finset.sum_congr rfl fun k _ => ?_
  have hk := k.isLt
  exact (mul_comm _ _).trans (congrArg₂ (fun a b : EReal => a * b) (at2_in A k.val (i 0).val k.isLt (i 0).isLt _ rfl rfl) (at2_in B k.val (i 1).val k.isLt (i 1).isLt _ rfl rfl))

/-- The reference runs without a fault, leaves its arguments as they are and ends with no semaphore raised. -/
theorem reference_frame : quiescent_MixDwRefIdeal := fun m ρ _ =>
  (θ_run _ _ _).mono (fun r h => ⟨fun c => (h c).2, sem_eq_zero_of_no_sems (by decide) r.2⟩) (MixDwRefIdeal.Value.run m ρ)

/-- Over the extended reals the kernel's result and the reference's are equal. -/
theorem algebraic : algebraic_MixDwIdeal_MixDwRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (MixDwRefIdeal.Value.run m' g')
  rw [val_main_v5_eq, (hargs c).1, (hargs c).2]
  exact value _ _

end Cert.MixDwIdeal.Own

end
-- ==== Proof.ConvDxGrad.lean ====
/-
  The gradient of the convolution branch's projection, with respect to its input: the kernel's result, and that the
  reference's plain product is the same over the extended reals.
-/
module

public import proofs.«01_k».proof.Proof.Gen.ConvDxIdeal.Frame
public import proofs.«01_k».proof.Proof.Gen.ConvDxRefIdeal.Read
public import proofs.«01_k».proof.Defs
public import proofs.«01_k».proof.Proof.ProdMath

@[expose] public section

noncomputable section

namespace Cert.ConvDxIdeal.Own

open Cert.ConvDxIdeal Cert.ConvDxIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 4 := lt_of_lt_of_eq t.isLt (show cfg0.N = 4 from N_0)

theorem index0 : ∀ t : Fin grid0.N, win0_0.index t 0 = t.val ∧ win0_0.index t 1 = 0 :=
  by decide +kernel

theorem index1 : ∀ t : Fin grid0.N, win0_1.index t 0 = 1 ∧ win0_1.index t 1 = 0 ∧ win0_1.index t 2 = 0 :=
  by decide +kernel

theorem index2 : ∀ t : Fin grid0.N, win0_2.index t 0 = t.val ∧ win0_2.index t 1 = 0
    ∧ win0_2.xsize (grid0.coords t) 0 = 2048 ∧ win0_2.xsize (grid0.coords t) 1 = 512 :=
  by decide +kernel

/-- The left factor's row `i` and the right factor's column `j`, along the contracted axis. -/
def lhs (A : S8192x1024.Idx → EReal) (i : ℕ) : ℕ → EReal := fun k => at2 A (i) (k)
def rhs (B : S2x512x1024.Idx → EReal) (j : ℕ) : ℕ → EReal := fun k => at3 B 1 (j) (k)

variable (m : (ℓ : Loc nD τ sig) → Buf (Elt Ideal) ℓ) (c : Dev nD)

/-- The argument arrays. -/
abbrev aArr : S8192x1024.Idx → EReal := m ((c : Thread nD τ).loc main_arg0)
abbrev bArr : S2x512x1024.Idx → EReal := m ((c : Thread nD τ).loc main_arg1)

theorem iblk0_apply (t : Fin cfg0.N) (r : Fin 2048) (k : Fin 1024) :
    (iblk m c 0 t : Vec Ideal S2048x1024 .bf16) (ix2 r k) = at2 (aArr m c) (2048 * (t.val) + r.val) (k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 2048 + 1 * r.val = _; omega)
    (by show win0_0.index t 1 * 1024 + 1 * k.val = _; omega)

theorem iblk1_apply (t : Fin cfg0.N) (q : Fin 512) (k : Fin 1024) :
    (iblk m c 1 t : Vec Ideal S1x512x1024 .bf16) (ix3 0 q k) = at3 (bArr m c) 1 (q.val) (k.val) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 512 + 1 * q.val = _; omega)
    (by show win0_1.index t 2 * 1024 + 1 * k.val = _; omega)

/-- The products of point `t`: over its positions of the contracted axis, for entry (r, q) of its block. -/
def part (t : ℕ) (r : Fin 2048) (q : Fin 512) : EReal :=
  ∑ k : Fin 1024, lhs (aArr m c) (2048 * (t) + r.val) (k.val) * rhs (bArr m c) (q.val) (k.val)

/-- The product of a point's staged blocks. -/
theorem block (t : Fin cfg0.N) (r : Fin 2048) (q : Fin 512) :
    (k0_pay1 (iblk m c 0 t) (iblk m c 1 t) : Vec Ideal S2048x512 .f32) (ix2 r q) = part m c t.val r q := by
  have hdot : dot_S2048x1024_S512x1024_S2048x512_1_1_0_0_n_n = DotDims.transposedRhs 2048 1024 512 := rfl
  unfold k0_pay1
  simp only [shapeCast_self, matmul, hdot, Ideal.matmul_transposedRhs_apply, constant_apply, Ideal.ofBits_zero_f32, zero_add, unstack]
  exact Finset.sum_congr rfl fun k _ => by rw [iblk0_apply, iblk1_apply]; rfl

/-- The block that a point leaves for the result. -/
theorem left (t : Fin cfg0.N) (r : Fin 2048) (q : Fin 512) :
    (out0_2 (iblk m c 0 t) (iblk m c 1 t) : Vec Ideal S2048x512 .f32) (ix2 r q) = prodTo (lhs (aArr m c) (2048 * (t.val) + r.val)) (rhs (bArr m c) (q.val)) 1024 := by
  unfold out0_2
  rw [View.canon_unit_zero hz2]
  simp only [View.ld_unit_zero (S := S2048x1024) hz2, View.ld_unit_zero (S := S1x512x1024) hz3]
  rw [block]
  exact prodTo_all _ _ _

/-! ## The result array -/

/-- Every entry the sum of products over the whole contracted axis. -/
def result (A : S8192x1024.Idx → EReal) (B : S2x512x1024.Idx → EReal) : S8192x512.Idx → EReal :=
  fun i => prodTo (lhs A (i 0).val) (rhs B (i 1).val) 1024

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 2048) (q : Fin 512), j = ix2 r q := ⟨j 0, j 1, eq_ix2 (n0 := 2048) (n1 := 512) j⟩
  refine (left m c t  r q).trans (Eq.trans ?_ (congrArg (result (aArr m c) (bArr m c)) (?_ : (ix2 ⟨2048 * (t.val) + r.val, by omega⟩ ⟨q.val, by omega⟩ : S8192x512.Idx) = _)))
  · rfl
  · funext a
    apply Fin.ext
    match a with
    | ⟨0, _⟩ => show 2048 * (t.val) + r.val = win0_2.index t 0 * 2048 + 1 * r.val; omega
    | ⟨1, _⟩ => show q.val = win0_2.index t 1 * 512 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 8192 := (i 0).isLt
    have h1 : (i 1 : ℕ) < 512 := (i 1).isLt
    obtain ⟨t, ht⟩ : ∃ t : Fin cfg0.N, t.val = (i 0).val / 2048 := ⟨⟨(i 0).val / 2048, by rw [show cfg0.N = 4 from N_0]; omega⟩, rfl⟩
    obtain ⟨e0, e1, x0, x1⟩ := index2 t
    refine ⟨t, flush0_2 t, (congrArg (i ∈ ·) (View.set_slice_whole main_v0 (win0_2.rect t))).mpr (Rect.mem_set_unit.2 fun a => ?_)⟩
    match a with
    | ⟨0, _⟩ => show win0_2.index t 0 * 2048 ≤ (i 0 : ℕ) ∧ (i 0 : ℕ) < win0_2.index t 0 * 2048 + win0_2.xsize (grid0.coords t) 0; omega
    | ⟨1, _⟩ => show win0_2.index t 1 * 512 ≤ (i 1 : ℕ) ∧ (i 1 : ℕ) < win0_2.index t 1 * 512 + win0_2.xsize (grid0.coords t) 1; omega

/-! ## The reference -/

open ConvDxRefIdeal.Read

/-- The reference's result is the same sum of products. -/
theorem value (A : S8192x1024.Idx → EReal) (B : S2x512x1024.Idx → EReal) :
    (val_main_v6 (F := Ideal) A B : S8192x512.Idx → EReal) = result A B := by
  funext i
  have hi : (i 0).val < 8192 := (i 0).isLt
  have hj : (i 1).val < 512 := (i 1).isLt
  simp only [val_main_v6_apply, val_main_v5_apply, val_main_v3_apply, val_main_v2_apply, val_main_v1_apply]
  unfold result
  rw [← prodTo_all]
  refine Finset.sum_congr rfl fun k _ => ?_
  have hk := k.isLt
  exact congrArg₂ (fun a b : EReal => a * b) (at2_in A (i 0).val k.val (i 0).isLt k.isLt _ rfl rfl) (at3_in B 1 (i 1).val k.val (by omega) (i 1).isLt (by omega) _ rfl (by show ((i 1).val * 1024 + k.val) / 1024 % 512 = (i 1).val; omega) (by show ((i 1).val * 1024 + k.val) % 1024 = k.val; omega))

/-- The reference runs without a fault, leaves its arguments as they are and ends with no semaphore raised. -/
theorem reference_frame : quiescent_ConvDxRefIdeal := fun m ρ _ =>
  (θ_run _ _ _).mono (fun r h => ⟨fun c => (h c).2, sem_eq_zero_of_no_sems (by decide) r.2⟩) (ConvDxRefIdeal.Value.run m ρ)

/-- Over the extended reals the kernel's result and the reference's are equal. -/
theorem algebraic : algebraic_ConvDxIdeal_ConvDxRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (ConvDxRefIdeal.Value.run m' g')
  rw [val_main_v6_eq, (hargs c).1, (hargs c).2]
  exact value _ _

end Cert.ConvDxIdeal.Own

end
-- ==== Proof.ConvDwGrad.lean ====
/-
  The gradient of the convolution branch's projection, with respect to its weights: the kernel's result, and that the
  reference's plain product is the same over the extended reals.
-/
module

public import proofs.«01_k».proof.Proof.Gen.ConvDwIdeal.Frame
public import proofs.«01_k».proof.Proof.Gen.ConvDwRefIdeal.Read
public import proofs.«01_k».proof.Defs
public import proofs.«01_k».proof.Proof.ProdMath

@[expose] public section

noncomputable section

namespace Cert.ConvDwIdeal.Own

open Cert.ConvDwIdeal Cert.ConvDwIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 8 := lt_of_lt_of_eq t.isLt (show cfg0.N = 8 from N_0)

theorem index0 : ∀ t : Fin grid0.N, win0_0.index t 0 = t.val % 8 ∧ win0_0.index t 1 = 0 :=
  by decide +kernel

theorem index1 : ∀ t : Fin grid0.N, win0_1.index t 0 = t.val % 8 ∧ win0_1.index t 1 = 0 :=
  by decide +kernel

theorem index2 : ∀ t : Fin grid0.N, win0_2.index t 0 = 0 ∧ win0_2.index t 1 = 0
    ∧ win0_2.xsize (grid0.coords t) 0 = 512 ∧ win0_2.xsize (grid0.coords t) 1 = 1024 :=
  by decide +kernel

/-- The left factor's row `i` and the right factor's column `j`, along the contracted axis. -/
def lhs (A : S8192x512.Idx → EReal) (i : ℕ) : ℕ → EReal := fun k => at2 A (k) (i)
def rhs (B : S8192x1024.Idx → EReal) (j : ℕ) : ℕ → EReal := fun k => at2 B (k) (j)

variable (m : (ℓ : Loc nD τ sig) → Buf (Elt Ideal) ℓ) (c : Dev nD)

/-- The argument arrays. -/
abbrev aArr : S8192x512.Idx → EReal := m ((c : Thread nD τ).loc main_arg0)
abbrev bArr : S8192x1024.Idx → EReal := m ((c : Thread nD τ).loc main_arg1)

theorem iblk0_apply (t : Fin cfg0.N) (k : Fin 1024) (r : Fin 512) :
    (iblk m c 0 t : Vec Ideal S1024x512 .bf16) (ix2 k r) = at2 (aArr m c) (1024 * (t.val % 8) + k.val) (r.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 1024 + 1 * k.val = _; omega)
    (by show win0_0.index t 1 * 512 + 1 * r.val = _; omega)

theorem iblk1_apply (t : Fin cfg0.N) (k : Fin 1024) (q : Fin 1024) :
    (iblk m c 1 t : Vec Ideal S1024x1024 .bf16) (ix2 k q) = at2 (bArr m c) (1024 * (t.val % 8) + k.val) (q.val) := by
  obtain ⟨h0, h1⟩ := index1 t
  have := t_lt t
  unfold iblk
  rw [View.read_apply]
  show V m c main_arg1 _ = _
  unfold V
  exact at2_in (bArr m c) _ _ (by omega) (by omega) _
    (by show win0_1.index t 0 * 1024 + 1 * k.val = _; omega)
    (by show win0_1.index t 1 * 1024 + 1 * q.val = _; omega)

/-- The products of point `t`: over its positions of the contracted axis, for entry (r, q) of its block. -/
def part (t : ℕ) (r : Fin 512) (q : Fin 1024) : EReal :=
  ∑ k : Fin 1024, lhs (aArr m c) (r.val) (1024 * (t % 8) + k.val) * rhs (bArr m c) (q.val) (1024 * (t % 8) + k.val)

/-- The product of a point's staged blocks. -/
theorem block (t : Fin cfg0.N) (r : Fin 512) (q : Fin 1024) :
    (k0_pay1 (iblk m c 0 t) (iblk m c 1 t) : Vec Ideal S512x1024 .f32) (ix2 r q) = part m c t.val r q := by
  have hdot : dot_S1024x512_S1024x1024_S512x1024_0_0_1_1_n_n = Prod.lhsTransposed 512 1024 1024 := rfl
  unfold k0_pay1
  simp only [shapeCast_self, matmul, hdot, Prod.lhsTransposed_apply, constant_apply, Ideal.ofBits_zero_f32, zero_add, unstack]
  exact Finset.sum_congr rfl fun k _ => by rw [iblk0_apply, iblk1_apply]; rfl

/-! ## The points -/

theorem first_point (t : Fin cfg0.N) (h0 : t.val % 8 = 0) (r : Fin 512) (q : Fin 1024) :
    (outsAt0 m c t.val t.isLt).2 (ix2 r q) = part m c t.val r q := by
  have ht := t_lt t
  rw [outsAt0_A m c t (by omega) (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz2]
  simp only [View.readCov_unit_zero (S := S512x1024) _ hz2, View.readAt_eq_ld, (hs0_0 t).read_unread, (hs0_1 t).read_unread, (Memref.isWhole_whole _).read_unread,
    View.ld_unit_zero (S := S1024x1024) hz2, View.ld_unit_zero (S := S1024x512) hz2, View.ld_unit_zero (S := S512x1024) hz2, k0_pay2, shapeCast_self]
  exact block m c t r q

theorem next_point (t : Fin cfg0.N) (h0 : ¬t.val % 8 = 0) (h2 : ¬t.val % 8 = 7) (r : Fin 512) (q : Fin 1024) :
    (outsAt0 m c t.val t.isLt).2 (ix2 r q) = (outsAt0 m c (t.val - 1) (pred_lt t.isLt)).2 (ix2 r q) + part m c t.val r q := by
  have ht := t_lt t
  rw [outsAt0_B m c t (by omega) (by omega) (by omega)]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz2]
  simp only [View.readCov_unit_zero (S := S512x1024) _ hz2, View.readAt_eq_ld, (hs0_0 t).read_unread, (hs0_1 t).read_unread, (Memref.isWhole_whole _).read_unread,
    View.ld_unit_zero (S := S1024x1024) hz2, View.ld_unit_zero (S := S1024x512) hz2, View.ld_unit_zero (S := S512x1024) hz2, k0_pay3, addf_apply, shapeCast_self]
  exact congrArg (fun z : EReal => _ + z) (block m c t r q)

theorem last_point (t : Fin cfg0.N) (h2 : t.val % 8 = 7) (r : Fin 512) (q : Fin 1024) :
    (outsAt0 m c t.val t.isLt).1 (ix2 r q) = (outsAt0 m c (t.val - 1) (pred_lt t.isLt)).2 (ix2 r q) + part m c t.val r q := by
  have ht := t_lt t
  rw [outsAt0_C m c t (by omega) (by omega) (by omega)]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readCov_unit_zero (S := S512x1024) _ hz2, View.readAt_eq_ld, (hs0_0 t).read_unread, (hs0_1 t).read_unread, (Memref.isWhole_whole _).read_unread,
    View.ld_unit_zero (S := S1024x1024) hz2, View.ld_unit_zero (S := S1024x512) hz2, View.ld_unit_zero (S := S512x1024) hz2, k0_pay3, addf_apply, shapeCast_self]
  exact (congrArg (fun z : EReal => _ + z) (block m c t r q))

/-- The block that the last point of a run leaves for the result. -/
theorem left (t : Fin cfg0.N) (h2 : t.val % 8 = 7) (r : Fin 512) (q : Fin 1024) :
    (outsAt0 m c t.val t.isLt).1 (ix2 r q) = prodTo (lhs (aArr m c) (r.val)) (rhs (bArr m c) (q.val)) 8192 := by
  rw [last_point m c t h2 r q]
  exact gathered (N := cfg0.N) (b := 8) (by decide) (by decide : 1024 * 8 = 8192) (fun n h => (outsAt0 m c n h).2 (ix2 r q)) (fun n _ => part m c n r q)
    (fun n => lhs (aArr m c) (r.val)) (fun n => rhs (bArr m c) (q.val)) (fun _ _ => rfl)
    (fun n h e => ⟨rfl, rfl⟩) (fun n h e => first_point m c ⟨n, h⟩ e r q) (fun n h h' e e' => next_point m c ⟨n, h⟩ e e' r q) t.val t.isLt _ h2

/-! ## The result array -/

/-- Every entry the sum of products over the whole contracted axis. -/
def result (A : S8192x512.Idx → EReal) (B : S8192x1024.Idx → EReal) : S512x1024.Idx → EReal :=
  fun i => prodTo (lhs A (i 0).val) (rhs B (i 1).val) 8192

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 512) (q : Fin 1024), j = ix2 r q := ⟨j 0, j 1, eq_ix2 (n0 := 512) (n1 := 1024) j⟩
  refine (left m c t ((flush0_2 t).mp h) r q).trans (Eq.trans ?_ (congrArg (result (aArr m c) (bArr m c)) (?_ : (ix2 ⟨r.val, by omega⟩ ⟨q.val, by omega⟩ : S512x1024.Idx) = _)))
  · rfl
  · funext a
    apply Fin.ext
    match a with
    | ⟨0, _⟩ => show r.val = win0_2.index t 0 * 512 + 1 * r.val; omega
    | ⟨1, _⟩ => show q.val = win0_2.index t 1 * 1024 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 512 := (i 0).isLt
    have h1 : (i 1 : ℕ) < 1024 := (i 1).isLt
    obtain ⟨t, ht⟩ : ∃ t : Fin cfg0.N, t.val = 7 := ⟨⟨7, by rw [show cfg0.N = 8 from N_0]; omega⟩, rfl⟩
    obtain ⟨e0, e1, x0, x1⟩ := index2 t
    refine ⟨t, (flush0_2 t).mpr (by omega), (congrArg (i ∈ ·) (View.set_slice_whole main_v0 (win0_2.rect t))).mpr (Rect.mem_set_unit.2 fun a => ?_)⟩
    match a with
    | ⟨0, _⟩ => show win0_2.index t 0 * 512 ≤ (i 0 : ℕ) ∧ (i 0 : ℕ) < win0_2.index t 0 * 512 + win0_2.xsize (grid0.coords t) 0; omega
    | ⟨1, _⟩ => show win0_2.index t 1 * 1024 ≤ (i 1 : ℕ) ∧ (i 1 : ℕ) < win0_2.index t 1 * 1024 + win0_2.xsize (grid0.coords t) 1; omega

/-! ## The reference -/

open ConvDwRefIdeal.Read

/-- The reference's result is the same sum of products. -/
theorem value (A : S8192x512.Idx → EReal) (B : S8192x1024.Idx → EReal) :
    (val_main_v5 (F := Ideal) A B : S512x1024.Idx → EReal) = result A B := by
  funext i
  have hi : (i 0).val < 512 := (i 0).isLt
  have hj : (i 1).val < 1024 := (i 1).isLt
  simp only [val_main_v5_apply, val_main_v4_apply, val_main_v3_apply, val_main_v1_apply]
  unfold result
  rw [← prodTo_all]
  refine Finset.sum_congr rfl fun k _ => ?_
  have hk := k.isLt
  exact (mul_comm _ _).trans (congrArg₂ (fun a b : EReal => a * b) (at2_in A k.val (i 0).val k.isLt (i 0).isLt _ rfl rfl) (at2_in B k.val (i 1).val k.isLt (i 1).isLt _ rfl rfl))

/-- The reference runs without a fault, leaves its arguments as they are and ends with no semaphore raised. -/
theorem reference_frame : quiescent_ConvDwRefIdeal := fun m ρ _ =>
  (θ_run _ _ _).mono (fun r h => ⟨fun c => (h c).2, sem_eq_zero_of_no_sems (by decide) r.2⟩) (ConvDwRefIdeal.Value.run m ρ)

/-- Over the extended reals the kernel's result and the reference's are equal. -/
theorem algebraic : algebraic_ConvDwIdeal_ConvDwRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (ConvDwRefIdeal.Value.run m' g')
  rw [val_main_v5_eq, (hargs c).1, (hargs c).2]
  exact value _ _

end Cert.ConvDwIdeal.Own

end
-- ==== Proof.ProjDxGrad.lean ====
/-
  The gradient of the attention's output projection, with respect to its input: the kernel's result, and that the
  reference's plain product is the same over the extended reals.
-/
module

public import proofs.«01_k».proof.Proof.Gen.ProjDxIdeal.Frame
public import proofs.«01_k».proof.Proof.Gen.ProjDxRefIdeal.Read
public import proofs.«01_k».proof.Defs
public import proofs.«01_k».proof.Proof.ProdMath

@[expose] public section

noncomputable section

namespace Cert.ProjDxIdeal.Own

open Cert.ProjDxIdeal Cert.ProjDxIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 4 := lt_of_lt_of_eq t.isLt (show cfg0.N = 4 from N_0)

theorem index0 : ∀ t : Fin grid0.N, win0_0.index t 0 = t.val ∧ win0_0.index t 1 = 0 :=
  by decide +kernel

theorem index1 : ∀ t : Fin grid0.N, win0_1.index t 0 = 1 ∧ win0_1.index t 1 = 0 ∧ win0_1.index t 2 = 0 :=
  by decide +kernel

theorem index2 : ∀ t : Fin grid0.N, win0_2.index t 0 = t.val ∧ win0_2.index t 1 = 0
    ∧ win0_2.xsize (grid0.coords t) 0 = 2048 ∧ win0_2.xsize (grid0.coords t) 1 = 512 :=
  by decide +kernel

/-- The left factor's row `i` and the right factor's column `j`, along the contracted axis. -/
def lhs (A : S8192x1024.Idx → EReal) (i : ℕ) : ℕ → EReal := fun k => at2 A (i) (k)
def rhs (B : S2x512x1024.Idx → EReal) (j : ℕ) : ℕ → EReal := fun k => at3 B 1 (j) (k)

variable (m : (ℓ : Loc nD τ sig) → Buf (Elt Ideal) ℓ) (c : Dev nD)

/-- The argument arrays. -/
abbrev aArr : S8192x1024.Idx → EReal := m ((c : Thread nD τ).loc main_arg0)
abbrev bArr : S2x512x1024.Idx → EReal := m ((c : Thread nD τ).loc main_arg1)

theorem iblk0_apply (t : Fin cfg0.N) (r : Fin 2048) (k : Fin 1024) :
    (iblk m c 0 t : Vec Ideal S2048x1024 .bf16) (ix2 r k) = at2 (aArr m c) (2048 * (t.val) + r.val) (k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 2048 + 1 * r.val = _; omega)
    (by show win0_0.index t 1 * 1024 + 1 * k.val = _; omega)

theorem iblk1_apply (t : Fin cfg0.N) (q : Fin 512) (k : Fin 1024) :
    (iblk m c 1 t : Vec Ideal S1x512x1024 .bf16) (ix3 0 q k) = at3 (bArr m c) 1 (q.val) (k.val) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 512 + 1 * q.val = _; omega)
    (by show win0_1.index t 2 * 1024 + 1 * k.val = _; omega)

/-- The products of point `t`: over its positions of the contracted axis, for entry (r, q) of its block. -/
def part (t : ℕ) (r : Fin 2048) (q : Fin 512) : EReal :=
  ∑ k : Fin 1024, lhs (aArr m c) (2048 * (t) + r.val) (k.val) * rhs (bArr m c) (q.val) (k.val)

/-- The product of a point's staged blocks. -/
theorem block (t : Fin cfg0.N) (r : Fin 2048) (q : Fin 512) :
    (k0_pay1 (iblk m c 0 t) (iblk m c 1 t) : Vec Ideal S2048x512 .bf16) (ix2 r q) = part m c t.val r q := by
  have hdot : dot_S2048x1024_S512x1024_S2048x512_1_1_0_0_n_n = DotDims.transposedRhs 2048 1024 512 := rfl
  unfold k0_pay1
  simp only [truncf_apply, shapeCast_self, matmul, hdot, Ideal.matmul_transposedRhs_apply, constant_apply, Ideal.ofBits_zero_f32, zero_add, unstack]
  exact Finset.sum_congr rfl fun k _ => by rw [iblk0_apply, iblk1_apply]; rfl

/-- The block that a point leaves for the result. -/
theorem left (t : Fin cfg0.N) (r : Fin 2048) (q : Fin 512) :
    (out0_2 (iblk m c 0 t) (iblk m c 1 t) : Vec Ideal S2048x512 .bf16) (ix2 r q) = prodTo (lhs (aArr m c) (2048 * (t.val) + r.val)) (rhs (bArr m c) (q.val)) 1024 := by
  unfold out0_2
  rw [View.canon_unit_zero hz2]
  simp only [View.ld_unit_zero (S := S2048x1024) hz2, View.ld_unit_zero (S := S1x512x1024) hz3]
  rw [block]
  exact prodTo_all _ _ _

/-! ## The result array -/

/-- Every entry the sum of products over the whole contracted axis. -/
def result (A : S8192x1024.Idx → EReal) (B : S2x512x1024.Idx → EReal) : S8192x512.Idx → EReal :=
  fun i => prodTo (lhs A (i 0).val) (rhs B (i 1).val) 1024

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 2048) (q : Fin 512), j = ix2 r q := ⟨j 0, j 1, eq_ix2 (n0 := 2048) (n1 := 512) j⟩
  refine (left m c t  r q).trans (Eq.trans ?_ (congrArg (result (aArr m c) (bArr m c)) (?_ : (ix2 ⟨2048 * (t.val) + r.val, by omega⟩ ⟨q.val, by omega⟩ : S8192x512.Idx) = _)))
  · rfl
  · funext a
    apply Fin.ext
    match a with
    | ⟨0, _⟩ => show 2048 * (t.val) + r.val = win0_2.index t 0 * 2048 + 1 * r.val; omega
    | ⟨1, _⟩ => show q.val = win0_2.index t 1 * 512 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 8192 := (i 0).isLt
    have h1 : (i 1 : ℕ) < 512 := (i 1).isLt
    obtain ⟨t, ht⟩ : ∃ t : Fin cfg0.N, t.val = (i 0).val / 2048 := ⟨⟨(i 0).val / 2048, by rw [show cfg0.N = 4 from N_0]; omega⟩, rfl⟩
    obtain ⟨e0, e1, x0, x1⟩ := index2 t
    refine ⟨t, flush0_2 t, (congrArg (i ∈ ·) (View.set_slice_whole main_v0 (win0_2.rect t))).mpr (Rect.mem_set_unit.2 fun a => ?_)⟩
    match a with
    | ⟨0, _⟩ => show win0_2.index t 0 * 2048 ≤ (i 0 : ℕ) ∧ (i 0 : ℕ) < win0_2.index t 0 * 2048 + win0_2.xsize (grid0.coords t) 0; omega
    | ⟨1, _⟩ => show win0_2.index t 1 * 512 ≤ (i 1 : ℕ) ∧ (i 1 : ℕ) < win0_2.index t 1 * 512 + win0_2.xsize (grid0.coords t) 1; omega

/-! ## The reference -/

open ProjDxRefIdeal.Read

/-- The reference's result is the same sum of products. -/
theorem value (A : S8192x1024.Idx → EReal) (B : S2x512x1024.Idx → EReal) :
    (val_main_v8 (F := Ideal) A B : S8192x512.Idx → EReal) = result A B := by
  funext i
  have hi : (i 0).val < 8192 := (i 0).isLt
  have hj : (i 1).val < 512 := (i 1).isLt
  simp only [val_main_v8_apply, val_main_v7_apply, val_main_v6_apply, val_main_v4_apply, val_main_v3_apply, val_main_v2_apply]
  unfold result
  rw [← prodTo_all]
  refine Finset.sum_congr rfl fun k _ => ?_
  have hk := k.isLt
  exact congrArg₂ (fun a b : EReal => a * b) (at2_in A (i 0).val k.val (i 0).isLt k.isLt _ rfl rfl) (at3_in B 1 (i 1).val k.val (by omega) (i 1).isLt (by omega) _ rfl (by show ((i 1).val * 1024 + k.val) / 1024 % 512 = (i 1).val; omega) (by show ((i 1).val * 1024 + k.val) % 1024 = k.val; omega))

/-- The reference runs without a fault, leaves its arguments as they are and ends with no semaphore raised. -/
theorem reference_frame : quiescent_ProjDxRefIdeal := fun m ρ _ =>
  (θ_run _ _ _).mono (fun r h => ⟨fun c => (h c).2, sem_eq_zero_of_no_sems (by decide) r.2⟩) (ProjDxRefIdeal.Value.run m ρ)

/-- Over the extended reals the kernel's result and the reference's are equal. -/
theorem algebraic : algebraic_ProjDxIdeal_ProjDxRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (ProjDxRefIdeal.Value.run m' g')
  rw [val_main_v8_eq, (hargs c).1, (hargs c).2]
  exact value _ _

end Cert.ProjDxIdeal.Own

end
-- ==== Proof.ProjDxtGrad.lean ====
/-
  The gradient of the attention's output projection, with respect to its transposed input: the kernel's result, and that the
  reference's plain product is the same over the extended reals.
-/
module

public import proofs.«01_k».proof.Proof.Gen.ProjDxtIdeal.Frame
public import proofs.«01_k».proof.Proof.Gen.ProjDxtRefIdeal.Read
public import proofs.«01_k».proof.Defs
public import proofs.«01_k».proof.Proof.ProdMath

@[expose] public section

noncomputable section

namespace Cert.ProjDxtIdeal.Own

open Cert.ProjDxtIdeal Cert.ProjDxtIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 8 := lt_of_lt_of_eq t.isLt (show cfg0.N = 8 from N_0)

theorem index0 : ∀ t : Fin grid0.N, win0_0.index t 0 = 1 ∧ win0_0.index t 1 = 0 ∧ win0_0.index t 2 = 0 :=
  by decide +kernel

theorem index1 : ∀ t : Fin grid0.N, win0_1.index t 0 = t.val ∧ win0_1.index t 1 = 0 :=
  by decide +kernel

theorem index2 : ∀ t : Fin grid0.N, win0_2.index t 0 = 0 ∧ win0_2.index t 1 = t.val
    ∧ win0_2.xsize (grid0.coords t) 0 = 512 ∧ win0_2.xsize (grid0.coords t) 1 = 1024 :=
  by decide +kernel

/-- The left factor's row `i` and the right factor's column `j`, along the contracted axis. -/
def lhs (A : S2x512x1024.Idx → EReal) (i : ℕ) : ℕ → EReal := fun k => at3 A 1 (i) (k)
def rhs (B : S8192x1024.Idx → EReal) (j : ℕ) : ℕ → EReal := fun k => at2 B (j) (k)

variable (m : (ℓ : Loc nD τ sig) → Buf (Elt Ideal) ℓ) (c : Dev nD)

/-- The argument arrays. -/
abbrev aArr : S2x512x1024.Idx → EReal := m ((c : Thread nD τ).loc main_arg1)
abbrev bArr : S8192x1024.Idx → EReal := m ((c : Thread nD τ).loc main_arg0)

theorem iblk0_apply (t : Fin cfg0.N) (r : Fin 512) (k : Fin 1024) :
    (iblk m c 0 t : Vec Ideal S1x512x1024 .bf16) (ix3 0 r k) = at3 (aArr m c) 1 (r.val) (k.val) := by
  obtain ⟨h0, h1, h2⟩ := index0 t
  have := t_lt t
  unfold iblk
  rw [View.read_apply]
  show V m c main_arg1 _ = _
  unfold V
  exact at3_in (aArr m c) _ _ _ (by omega) (by omega) (by omega) _
    (by show win0_0.index t 0 * 1 + 1 * 0 = _; omega)
    (by show win0_0.index t 1 * 512 + 1 * r.val = _; omega)
    (by show win0_0.index t 2 * 1024 + 1 * k.val = _; omega)

theorem iblk1_apply (t : Fin cfg0.N) (q : Fin 1024) (k : Fin 1024) :
    (iblk m c 1 t : Vec Ideal S1024x1024 .bf16) (ix2 q k) = at2 (bArr m c) (1024 * (t.val) + q.val) (k.val) := by
  obtain ⟨h0, h1⟩ := index1 t
  have := t_lt t
  unfold iblk
  rw [View.read_apply]
  show V m c main_arg0 _ = _
  unfold V
  exact at2_in (bArr m c) _ _ (by omega) (by omega) _
    (by show win0_1.index t 0 * 1024 + 1 * q.val = _; omega)
    (by show win0_1.index t 1 * 1024 + 1 * k.val = _; omega)

/-- The products of point `t`: over its positions of the contracted axis, for entry (r, q) of its block. -/
def part (t : ℕ) (r : Fin 512) (q : Fin 1024) : EReal :=
  ∑ k : Fin 1024, lhs (aArr m c) (r.val) (k.val) * rhs (bArr m c) (1024 * (t) + q.val) (k.val)

/-- The product of a point's staged blocks. -/
theorem block (t : Fin cfg0.N) (r : Fin 512) (q : Fin 1024) :
    (k0_pay1 (iblk m c 0 t) (iblk m c 1 t) : Vec Ideal S512x1024 .bf16) (ix2 r q) = part m c t.val r q := by
  have hdot : dot_S512x1024_S1024x1024_S512x1024_1_1_0_0_n_n = DotDims.transposedRhs 512 1024 1024 := rfl
  unfold k0_pay1
  simp only [truncf_apply, shapeCast_self, matmul, hdot, Ideal.matmul_transposedRhs_apply, constant_apply, Ideal.ofBits_zero_f32, zero_add, unstack]
  exact Finset.sum_congr rfl fun k _ => by rw [iblk0_apply, iblk1_apply]; rfl

/-- The block that a point leaves for the result. -/
theorem left (t : Fin cfg0.N) (r : Fin 512) (q : Fin 1024) :
    (out0_2 (iblk m c 0 t) (iblk m c 1 t) : Vec Ideal S512x1024 .bf16) (ix2 r q) = prodTo (lhs (aArr m c) (r.val)) (rhs (bArr m c) (1024 * (t.val) + q.val)) 1024 := by
  unfold out0_2
  rw [View.canon_unit_zero hz2]
  simp only [View.ld_unit_zero (S := S1x512x1024) hz3, View.ld_unit_zero (S := S1024x1024) hz2]
  rw [block]
  exact prodTo_all _ _ _

/-! ## The result array -/

/-- Every entry the sum of products over the whole contracted axis. -/
def result (A : S2x512x1024.Idx → EReal) (B : S8192x1024.Idx → EReal) : S512x8192.Idx → EReal :=
  fun i => prodTo (lhs A (i 0).val) (rhs B (i 1).val) 1024

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 512) (q : Fin 1024), j = ix2 r q := ⟨j 0, j 1, eq_ix2 (n0 := 512) (n1 := 1024) j⟩
  refine (left m c t  r q).trans (Eq.trans ?_ (congrArg (result (aArr m c) (bArr m c)) (?_ : (ix2 ⟨r.val, by omega⟩ ⟨1024 * (t.val) + q.val, by omega⟩ : S512x8192.Idx) = _)))
  · rfl
  · funext a
    apply Fin.ext
    match a with
    | ⟨0, _⟩ => show r.val = win0_2.index t 0 * 512 + 1 * r.val; omega
    | ⟨1, _⟩ => show 1024 * (t.val) + q.val = win0_2.index t 1 * 1024 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 512 := (i 0).isLt
    have h1 : (i 1 : ℕ) < 8192 := (i 1).isLt
    obtain ⟨t, ht⟩ : ∃ t : Fin cfg0.N, t.val = (i 1).val / 1024 := ⟨⟨(i 1).val / 1024, by rw [show cfg0.N = 8 from N_0]; omega⟩, rfl⟩
    obtain ⟨e0, e1, x0, x1⟩ := index2 t
    refine ⟨t, flush0_2 t, (congrArg (i ∈ ·) (View.set_slice_whole main_v0 (win0_2.rect t))).mpr (Rect.mem_set_unit.2 fun a => ?_)⟩
    match a with
    | ⟨0, _⟩ => show win0_2.index t 0 * 512 ≤ (i 0 : ℕ) ∧ (i 0 : ℕ) < win0_2.index t 0 * 512 + win0_2.xsize (grid0.coords t) 0; omega
    | ⟨1, _⟩ => show win0_2.index t 1 * 1024 ≤ (i 1 : ℕ) ∧ (i 1 : ℕ) < win0_2.index t 1 * 1024 + win0_2.xsize (grid0.coords t) 1; omega

/-! ## The reference -/

open ProjDxtRefIdeal.Read

/-- The reference's result is the same sum of products. -/
theorem value (A : S2x512x1024.Idx → EReal) (B : S8192x1024.Idx → EReal) :
    (val_main_v10 (F := Ideal) B A : S512x8192.Idx → EReal) = result A B := by
  funext i
  have hi : (i 0).val < 512 := (i 0).isLt
  have hj : (i 1).val < 8192 := (i 1).isLt
  simp only [val_main_v10_apply, val_main_v9_apply, val_main_v8_apply, val_main_v7_apply, val_main_v5_apply, val_main_v4_apply, val_main_v3_apply]
  unfold result
  rw [← prodTo_all]
  refine Finset.sum_congr rfl fun k _ => ?_
  have hk := k.isLt
  exact (mul_comm _ _).trans (congrArg₂ (fun a b : EReal => a * b) (at3_in A 1 (i 0).val k.val (by omega) (i 0).isLt (by omega) _ rfl (by show ((i 0).val * 1024 + k.val) / 1024 % 512 = (i 0).val; omega) (by show ((i 0).val * 1024 + k.val) % 1024 = k.val; omega)) (at2_in B (i 1).val k.val (i 1).isLt k.isLt _ rfl rfl))

/-- The reference runs without a fault, leaves its arguments as they are and ends with no semaphore raised. -/
theorem reference_frame : quiescent_ProjDxtRefIdeal := fun m ρ _ =>
  (θ_run _ _ _).mono (fun r h => ⟨fun c => (h c).2, sem_eq_zero_of_no_sems (by decide) r.2⟩) (ProjDxtRefIdeal.Value.run m ρ)

/-- Over the extended reals the kernel's result and the reference's are equal. -/
theorem algebraic : algebraic_ProjDxtIdeal_ProjDxtRefIdeal := by
  intro m g m' g' _ hargs
  refine ⟨fun c => result (aArr m c) (bArr m c), (θ_run _ _ _).mono (fun _ h c => ⟨((h c).1 2).trans (final m c),
    ((h c).1 1).trans ((dats m 0 c).arrAt_in 1 rfl _),
    ((h c).1 0).trans ((dats m 0 c).arrAt_in 0 rfl _)⟩) (run_main m g), ?_⟩
  refine (θ_run _ _ _).mono (fun _ h c => ⟨(h c).1.trans ?_, (h c).2⟩) (ProjDxtRefIdeal.Value.run m' g')
  rw [val_main_v10_eq, (hargs c).1, (hargs c).2]
  exact value _ _

end Cert.ProjDxtIdeal.Own

end
-- ==== Proof.ProjDwGrad.lean ====
/-
  The gradient of the attention's output projection, with respect to its weights: the kernel's result, and that the
  reference's plain product is the same over the extended reals.
-/
module

public import proofs.«01_k».proof.Proof.Gen.ProjDwIdeal.Frame
public import proofs.«01_k».proof.Proof.Gen.ProjDwRefIdeal.Read
public import proofs.«01_k».proof.Defs
public import proofs.«01_k».proof.Proof.ProdMath

@[expose] public section

noncomputable section

namespace Cert.ProjDwIdeal.Own

open Cert.ProjDwIdeal Cert.ProjDwIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 8 := lt_of_lt_of_eq t.isLt (show cfg0.N = 8 from N_0)

theorem index0 : ∀ t : Fin grid0.N, win0_0.index t 0 = 0 ∧ win0_0.index t 1 = t.val % 8 :=
  by decide +kernel

theorem index1 : ∀ t : Fin grid0.N, win0_1.index t 0 = t.val % 8 ∧ win0_1.index t 1 = 0 :=
  by decide +kernel

theorem index2 : ∀ t : Fin grid0.N, win0_2.index t 0 = 0 ∧ win0_2.index t 1 = 0
    ∧ win0_2.xsize (grid0.coords t) 0 = 512 ∧ win0_2.xsize (grid0.coords t) 1 = 1024 :=
  by decide +kernel

/-- The left factor's row `i` and the right factor's column `j`, along the contracted axis. -/
def lhs (A : S512x8192.Idx → EReal) (i : ℕ) : ℕ → EReal := fun k => at2 A (i) (k)
def rhs (B : S8192x1024.Idx → EReal) (j : ℕ) : ℕ → EReal := fun k => at2 B (k) (j)

variable (m : (ℓ : Loc nD τ sig) → Buf (Elt Ideal) ℓ) (c : Dev nD)

/-- The argument arrays. -/
abbrev aArr : S512x8192.Idx → EReal := m ((c : Thread nD τ).loc main_arg0)
abbrev bArr : S8192x1024.Idx → EReal := m ((c : Thread nD τ).loc main_arg1)

theorem iblk0_apply (t : Fin cfg0.N) (r : Fin 512) (k : Fin 1024) :
    (iblk m c 0 t : Vec Ideal S512x1024 .bf16) (ix2 r k) = at2 (aArr m c) (r.val) (1024 * (t.val % 8) + k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 512 + 1 * r.val = _; omega)
    (by show win0_0.index t 1 * 1024 + 1 * k.val = _; omega)

theorem iblk1_apply (t : Fin cfg0.N) (k : Fin 1024) (q : Fin 1024) :
    (iblk m c 1 t : Vec Ideal S1024x1024 .bf16) (ix2 k q) = at2 (bArr m c) (1024 * (t.val % 8) + k.val) (q.val) := by
  obtain ⟨h0, h1⟩ := index1 t
  have := t_lt t
  unfold iblk
  rw [View.read_apply]
  show V m c main_arg1 _ = _
  unfold V
  exact at2_in (bArr m c) _ _ (by omega) (by omega) _
    (by show win0_1.index t 0 * 1024 + 1 * k.val = _; omega)
    (by show win0_1.index t 1 * 1024 + 1 * q.val = _; omega)

/-- The products of point `t`: over its positions of the contracted axis, for entry (r, q) of its block. -/
def part (t : ℕ) (r : Fin 512) (q : Fin 1024) : EReal :=
  ∑ k : Fin 1024, lhs (aArr m c) (r.val) (1024 * (t % 8) + k.val) * rhs (bArr m c) (q.val) (1024 * (t % 8) + k.val)

/-- The product of a point's staged blocks. -/
theorem block (t : Fin cfg0.N) (r : Fin 512) (q : Fin 1024) :
    (k0_pay1 (iblk m c 0 t) (iblk m c 1 t) : Vec Ideal S512x1024 .f32) (ix2 r q) = part m c t.val r q := by
  have hdot : dot_S512x1024_S1024x1024_S512x1024_1_0_0_1_n_n = DotDims.plain 512 1024 1024 := rfl
  unfold k0_pay1
  simp only [shapeCast_self, matmul, hdot, Ideal.matmul_plain_apply, constant_apply, Ideal.ofBits_zero_f32, zero_add, unstack]
  exact Finset.sum_congr rfl fun k _ => by rw [iblk0_apply, iblk1_apply]; rfl

/-! ## The points -/

theorem first_point (t : Fin cfg0.N) (h0 : t.val % 8 = 0) (r : Fin 512) (q : Fin 1024) :
    (outsAt0 m c t.val t.isLt).2 (ix2 r q) = part m c t.val r q := by
  have ht := t_lt t
  rw [outsAt0_A m c t (by omega) (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz2]
  simp only [View.readCov_unit_zero (S := S512x1024) _ hz2, View.readAt_eq_ld, (hs0_0 t).read_unread, (hs0_1 t).read_unread, (Memref.isWhole_whole _).read_unread,
    View.ld_unit_zero (S := S1024x1024) hz2, View.ld_unit_zero (S := S512x1024) hz2, k0_pay2, shapeCast_self]
  exact block m c t r q

theorem next_point (t : Fin cfg0.N) (h0 : ¬t.val % 8 = 0) (h2 : ¬t.val % 8 = 7) (r : Fin 512) (q : Fin 1024) :
    (outsAt0 m c t.val t.isLt).2 (ix2 r q) = (outsAt0 m c (t.val - 1) (pred_lt t.isLt)).2 (ix2 r q) + part m c t.val r q := by
  have ht := t_lt t
  rw [outsAt0_B m c t (by omega) (by omega) (by omega)]
  dsimp only
  unfold sout0_B_0
  rw [View.read_writes_eq_canon _ _ _ (scover0_B_0 _ _ _ _ _ _ _ _ _ _ _ _ _ _ _ _)]
  unfold kernelRun0_B
  dsimp only
  sl_unfold_words
  rw [View.canon_unit_zero hz2]
  simp only [View.readCov_unit_zero (S := S512x1024) _ hz2, View.readAt_eq_ld, (hs0_0 t).read_unread, (hs0_1 t).read_unread, (Memref.isWhole_whole _).read_unread,
    View.ld_unit_zero (S := S1024x1024) hz2, View.ld_unit_zero (S := S512x1024) hz2, k0_pay3, addf_apply, shapeCast_self]
  exact congrArg (fun z : EReal => _ + z) (block m c t r q)

theorem last_point (t : Fin cfg0.N) (h2 : t.val % 8 = 7) (r : Fin 512) (q : Fin 1024) :
    (outsAt0 m c t.val t.isLt).1 (ix2 r q) = (outsAt0 m c (t.val - 1) (pred_lt t.isLt)).2 (ix2 r q) + part m c t.val r q := by
  have ht := t_lt t
  rw [outsAt0_C m c t (by omega) (by omega) (by omega)]
  dsimp only
  unfold out0_C_2
  rw [View.read_writes_eq_canon _ _ _ (cover0_C_2 _ _ _ _ _ _ _ _ _ _ _ _ _ _ _ _)]
  unfold kernelRun0_C
  dsimp only
  sl_unfold_words
  rw [View.canon_unit_zero hz2]
  simp only [View.readCov_unit_zero (S := S512x1024) _ hz2, View.readAt_eq_ld, (hs0_0 t).read_unread, (hs0_1 t).read_unread, (Memref.isWhole_whole _).read_unread,
    View.ld_unit_zero (S := S1024x1024) hz2, View.ld_unit_zero (S := S512x1024) hz2, k0_pay3, addf_apply, shapeCast_self]
  exact (congrArg (fun z : EReal => _ + z) (block m c t r q))

/-- The block that the last point of a run leaves for the result. -/
theorem left (t : Fin cfg0.N) (h2 : t.val % 8 = 7) (r : Fin 512) (q : Fin 1024) :
    (outsAt0 m c t.val t.isLt).1 (ix2 r q) = prodTo (lhs (aArr m c) (r.val)) (rhs (bArr m c) (q.val)) 8192 := by
  rw [last_point m c t h2 r q]
  exact gathered (N := cfg0.N) (b := 8) (by decide) (by decide : 1024 * 8 = 8192) (fun n h => (outsAt0 m c n h).2 (ix2 r q)) (fun n _ => part m c n r q)
    (fun n => lhs (aArr m c) (r.val)) (fun n => rhs (bArr m c) (q.val)) (fun _ _ => rfl)
    (fun n h e => ⟨rfl, rfl⟩) (fun n h e => first_point m c ⟨n, h⟩ e r q) (fun n h h' e e' => next_point m c ⟨n, h⟩ e e' r q) t.val t.isLt _ h2

/-! ## The result array -/

/-- Every entry the sum of products over the whole contracted axis. -/
def result (A : S512x8192.Idx → EReal) (B : S8192x1024.Idx → EReal) : S512x1024.Idx → EReal :=
  fun i => prodTo (lhs A (i 0).val) (rhs B (i 1).val) 8192

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 512) (q : Fin 1024), j = ix2 r q := ⟨j 0, j 1, eq_ix2 (n0 := 512) (n1 := 1024) j⟩
  refine (left m c t ((flush0_2 t).mp h) r q).trans (Eq.trans ?_ (congrArg (result (aArr m c) (bArr m c)) (?_ : (ix2 ⟨r.val, by omega⟩ ⟨q.val, by omega⟩ : S512x1024.Idx) = _)))
  · rfl
  · funext a
    apply Fin.ext
    match a with
    | ⟨0, _⟩ => show r.val = win0_2.index t 0 * 512 + 1 * r.val; omega
    | ⟨1, _⟩ => show q.val = win0_2.index t 1 * 1024 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 512 := (i 0).isLt
    have h1 : (i 1 : ℕ) < 1024 := (i 1).isLt
    obtain ⟨t, ht⟩ : ∃ t : Fin cfg0.N, t.val = 7 := ⟨⟨7, by rw [show cfg0.N = 8 from N_0]; omega⟩, rfl⟩
    obtain ⟨e0, e1, x0, x1⟩ := index2 t
    refine ⟨t, (flush0_2 t).mpr (by omega), (congrArg (i ∈ ·) (View.set_slice_whole main_v0 (win0_2.rect t))).mpr (Rect.mem_set_unit.2 fun a => ?_)⟩
    match a with
    | ⟨0, _⟩ => show win0_2.index t 0 * 512 ≤ (i 0 : ℕ) ∧ (i 0 : ℕ) < win0_2.index t 0 * 512 + win0_2.xsize (grid0.coords t) 0; omega
    | ⟨1, _⟩ => show win0_2.index t 1 * 1024 ≤ (i 1 : ℕ) ∧ (i 1 : ℕ) < win0_2.index t 1 * 1024 + win0_2.xsize (grid0.coords t) 1; omega

/-! ## The reference -/

open ProjDwRefIdeal.Read

/-- The reference's result is the same sum of products. -/
theorem value (A : S512x8192.Idx → EReal) (B : S8192x1024.Idx → EReal) :
    (val_main_v6 (F := Ideal) A B : S512x1024.Idx → EReal) = result A B := by
  funext i
  have hi : (i 0).val < 512 := (i 0).isLt
  have hj : (i 1).val < 1024 := (i 1).isLt
  simp only [val_main_v6_apply, val_main_v5_apply, val_main_v4_apply, val_main_v2_apply, val_main_v1_apply]
  unfold result
  rw [← prodTo_all]
  refine Finset.sum_congr rfl fun k _ => ?_
  have hk := k.isLt
  exact (mul_comm _ _).trans (congrArg₂ (fun a b : EReal => a * b) (at2_in A (i 0).val k.val (i 0).isLt k.isLt _ rfl rfl) (at2_in B k.val (i 1).val k.isLt (i 1).isLt _ rfl rfl))

/-- The reference runs without a fault, leaves its arguments as they are and ends with no semaphore raised. -/
theorem reference_frame : quiescent_ProjDwRefIdeal := fun m ρ _ =>
  (θ_run _ _ _).mono (fun r h => ⟨fun c => (h c).2, sem_eq_zero_of_no_sems (by decide) r.2⟩) (ProjDwRefIdeal.Value.run m ρ)

/-- Over the extended reals the kernel's result and the reference's are equal. -/
theorem algebraic : algebraic_ProjDwIdeal_ProjDwRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (ProjDwRefIdeal.Value.run m' g')
  rw [val_main_v6_eq, (hargs c).1, (hargs c).2]
  exact value _ _

end Cert.ProjDwIdeal.Own

end
-- ==== Proof.MainFwProd.lean ====
/-
  The input projection with its bias: the kernel's result, and that the
  reference's plain product is the same over the extended reals.
-/
module

public import proofs.«01_k».proof.Proof.Gen.MainFwIdeal.Frame
public import proofs.«01_k».proof.Proof.Gen.MainFwRefIdeal.Read
public import proofs.«01_k».proof.Defs
public import proofs.«01_k».proof.Proof.ProdMath

@[expose] public section

noncomputable section

namespace Cert.MainFwIdeal.Own

open Cert.MainFwIdeal Cert.MainFwIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 12 := lt_of_lt_of_eq t.isLt (show cfg0.N = 12 from N_0)

theorem index0 : ∀ t : Fin grid0.N, win0_0.index t 0 = t.val / 3 ∧ win0_0.index t 1 = 0 :=
  by decide +kernel

theorem index1 : ∀ t : Fin grid0.N, win0_1.index t 0 = 1 ∧ win0_1.index t 1 = 0 ∧ win0_1.index t 2 = t.val % 3 :=
  by decide +kernel

theorem index2 : ∀ t : Fin grid0.N, win0_2.index t 0 = 0 ∧ win0_2.index t 1 = t.val % 3 :=
  by decide +kernel

theorem index3 : ∀ t : Fin grid0.N, win0_3.index t 0 = t.val / 3 ∧ win0_3.index t 1 = t.val % 3
    ∧ win0_3.xsize (grid0.coords t) 0 = 2048 ∧ win0_3.xsize (grid0.coords t) 1 = 1536 :=
  by decide +kernel

/-- The left factor's row `i` and the right factor's column `j`, along the contracted axis. -/
def lhs (A : S8192x1024.Idx → EReal) (i : ℕ) : ℕ → EReal := fun k => at2 A (i) (k)
def rhs (B : S2x1024x4608.Idx → EReal) (j : ℕ) : ℕ → EReal := fun k => at3 B 1 (k) (j)

variable (m : (ℓ : Loc nD τ sig) → Buf (Elt Ideal) ℓ) (c : Dev nD)

/-- The argument arrays. -/
abbrev aArr : S8192x1024.Idx → EReal := m ((c : Thread nD τ).loc main_arg0)
abbrev bArr : S2x1024x4608.Idx → EReal := m ((c : Thread nD τ).loc main_arg1)
abbrev dArr : S1x4608.Idx → EReal := m ((c : Thread nD τ).loc main_arg2)

theorem iblk0_apply (t : Fin cfg0.N) (r : Fin 2048) (k : Fin 1024) :
    (iblk m c 0 t : Vec Ideal S2048x1024 .bf16) (ix2 r k) = at2 (aArr m c) (2048 * (t.val / 3) + r.val) (k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 2048 + 1 * r.val = _; omega)
    (by show win0_0.index t 1 * 1024 + 1 * k.val = _; omega)

theorem iblk1_apply (t : Fin cfg0.N) (k : Fin 1024) (q : Fin 1536) :
    (iblk m c 1 t : Vec Ideal S1x1024x1536 .bf16) (ix3 0 k q) = at3 (bArr m c) 1 (k.val) (1536 * (t.val % 3) + q.val) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 1024 + 1 * k.val = _; omega)
    (by show win0_1.index t 2 * 1536 + 1 * q.val = _; omega)

theorem iblk2_apply (t : Fin cfg0.N) (r : Fin 1) (q : Fin 1536) :
    (iblk m c 2 t : Vec Ideal S1x1536 .f32) (ix2 r q) = at2 (dArr m c) (0) (1536 * (t.val % 3) + q.val) := by
  obtain ⟨h0, h1⟩ := index2 t
  have := t_lt t
  unfold iblk
  rw [View.read_apply]
  show V m c main_arg2 _ = _
  unfold V
  exact at2_in (dArr m c) _ _ (by omega) (by omega) _
    (by show win0_2.index t 0 * 1 + 1 * r.val = _; omega)
    (by show win0_2.index t 1 * 1536 + 1 * q.val = _; omega)

/-- The products of point `t`: over its positions of the contracted axis, for entry (r, q) of its block. -/
def part (t : ℕ) (r : Fin 2048) (q : Fin 1536) : EReal :=
  ∑ k : Fin 1024, lhs (aArr m c) (2048 * (t / 3) + r.val) (k.val) * rhs (bArr m c) (1536 * (t % 3) + q.val) (k.val)

/-- The block that a point leaves for the result. -/
theorem left (t : Fin cfg0.N) (r : Fin 2048) (q : Fin 1536) :
    (out0_3 (iblk m c 0 t) (iblk m c 1 t) (iblk m c 2 t) : Vec Ideal S2048x1536 .bf16) (ix2 r q) = prodTo (lhs (aArr m c) (2048 * (t.val / 3) + r.val)) (rhs (bArr m c) (1536 * (t.val % 3) + q.val)) 1024 + at2 (dArr m c) 0 (1536 * (t.val % 3) + q.val) := by
  unfold out0_3
  rw [View.canon_unit_zero hz2]
  simp only [View.ld_unit_zero (S := S2048x1024) hz2, View.ld_unit_zero (S := S1x1024x1536) hz3, View.ld_unit_zero (S := S1x1536) hz2]
  have hdot : dot_S2048x1024_S1024x1536_S2048x1536_1_0_0_1_n_n = DotDims.plain 2048 1024 1536 := rfl
  unfold k0_pay1
  simp only [truncf_apply, shapeCast_self, matmul, hdot, Ideal.matmul_plain_apply, constant_apply, Ideal.ofBits_zero_f32, zero_add, unstack, addf_apply]
  refine congrArg₂ (fun a b : EReal => a + b) ((Finset.sum_congr rfl fun k _ => by rw [iblk0_apply, iblk1_apply]; rfl).trans (prodTo_all (lhs (aArr m c) (2048 * (t.val / 3) + r.val)) (rhs (bArr m c) (1536 * (t.val % 3) + q.val)) 1024)) ?_
  exact (broadcastTo_apply _ _ (ix2 r q) (ix2 0 q) fun a => by match a with | ⟨0, _⟩ => rfl | ⟨1, _⟩ => rfl).trans (iblk2_apply m c t 0 q)

/-! ## The result array -/

/-- Every entry the sum of products over the whole contracted axis. -/
def result (A : S8192x1024.Idx → EReal) (B : S2x1024x4608.Idx → EReal) (D : S1x4608.Idx → EReal) : S8192x4608.Idx → EReal :=
  fun i => prodTo (lhs A (i 0).val) (rhs B (i 1).val) 1024 + at2 D 0 (i 1).val

set_option maxRecDepth 20000 in
/-- A flushed block is that block of the result. -/
theorem flushed_eq (t : Fin cfg0.N) (h : (cfg0.win 3).flush t = true) :
    (dats m 0 c).flushed 3 t = ((cfg0.win 3).blk t).view.read (Elt Ideal) (result (aArr m c) (bArr m c) (dArr m c) : Buf (Elt Ideal) ((c : Thread nD τ).loc main_v0)) := by
  unfold Dat.flushed
  rw [after0_3]
  funext j
  rw [View.read_apply]
  obtain ⟨h0, h1, -, -⟩ := index3 t
  have := t_lt t
  obtain ⟨r, q, rfl⟩ : ∃ (r : Fin 2048) (q : Fin 1536), j = ix2 r q := ⟨j 0, j 1, eq_ix2 (n0 := 2048) (n1 := 1536) j⟩
  refine (left m c t  r q).trans (Eq.trans ?_ (congrArg (result (aArr m c) (bArr m c) (dArr m c)) (?_ : (ix2 ⟨2048 * (t.val / 3) + r.val, by omega⟩ ⟨1536 * (t.val % 3) + q.val, by omega⟩ : S8192x4608.Idx) = _)))
  · rfl
  · funext a
    apply Fin.ext
    match a with
    | ⟨0, _⟩ => show 2048 * (t.val / 3) + r.val = win0_3.index t 0 * 2048 + 1 * r.val; omega
    | ⟨1, _⟩ => show 1536 * (t.val % 3) + q.val = win0_3.index t 1 * 1536 + 1 * q.val; omega

theorem final : (dats m 0 c).arrAt 3 cfg0.N = result (aArr m c) (bArr m c) (dArr m c) :=
  (dats m 0 c).arrAt_eq_of_cover 3 (result (aArr m c) (bArr m c) (dArr m c)) (flushed_eq m c) fun i => by
    have h0 : (i 0 : ℕ) < 8192 := (i 0).isLt
    have h1 : (i 1 : ℕ) < 4608 := (i 1).isLt
    obtain ⟨t, ht⟩ : ∃ t : Fin cfg0.N, t.val = (i 0).val / 2048 * 3 + (i 1).val / 1536 := ⟨⟨(i 0).val / 2048 * 3 + (i 1).val / 1536, by rw [show cfg0.N = 12 from N_0]; omega⟩, rfl⟩
    obtain ⟨e0, e1, x0, x1⟩ := index3 t
    refine ⟨t, flush0_3 t, (congrArg (i ∈ ·) (View.set_slice_whole main_v0 (win0_3.rect t))).mpr (Rect.mem_set_unit.2 fun a => ?_)⟩
    match a with
    | ⟨0, _⟩ => show win0_3.index t 0 * 2048 ≤ (i 0 : ℕ) ∧ (i 0 : ℕ) < win0_3.index t 0 * 2048 + win0_3.xsize (grid0.coords t) 0; omega
    | ⟨1, _⟩ => show win0_3.index t 1 * 1536 ≤ (i 1 : ℕ) ∧ (i 1 : ℕ) < win0_3.index t 1 * 1536 + win0_3.xsize (grid0.coords t) 1; omega

/-! ## The reference -/

open MainFwRefIdeal.Read

/-- The reference's result is the same sum of products. -/
theorem value (A : S8192x1024.Idx → EReal) (B : S2x1024x4608.Idx → EReal) (D : S1x4608.Idx → EReal) :
    (val_main_v7 (F := Ideal) A B D : S8192x4608.Idx → EReal) = result A B D := by
  funext i
  have hi : (i 0).val < 8192 := (i 0).isLt
  have hj : (i 1).val < 4608 := (i 1).isLt
  simp only [val_main_v7_apply, val_main_v6_apply, val_main_v4_apply, val_main_v5_apply, val_main_v0_apply, val_main_v3_apply, val_main_v2_apply, val_main_v1_apply]
  unfold result
  rw [← prodTo_all]
  refine congrArg₂ (fun a b : EReal => a + b) (Finset.sum_congr rfl fun k _ => ?_) (at2_in D 0 (i 1).val (by decide) (i 1).isLt _ rfl rfl)
  have hk := k.isLt
  exact congrArg₂ (fun a b : EReal => a * b) (at2_in A (i 0).val k.val (i 0).isLt k.isLt _ rfl rfl) (at3_in B 1 k.val (i 1).val (by omega) k.isLt (by omega) _ rfl (by show (k.val * 4608 + (i 1).val) / 4608 % 1024 = k.val; omega) (by show (k.val * 4608 + (i 1).val) % 4608 = (i 1).val; omega))

/-- The reference runs without a fault, leaves its arguments as they are and ends with no semaphore raised. -/
theorem reference_frame : quiescent_MainFwRefIdeal := fun m ρ _ =>
  (θ_run _ _ _).mono (fun r h => ⟨fun c => (h c).2, sem_eq_zero_of_no_sems (by decide) r.2⟩) (MainFwRefIdeal.Value.run m ρ)

/-- Over the extended reals the kernel's result and the reference's are equal. -/
theorem algebraic : algebraic_MainFwIdeal_MainFwRefIdeal := by
  intro m g m' g' _ hargs
  refine ⟨fun c => result (aArr m c) (bArr m c) (dArr m c), (θ_run _ _ _).mono (fun _ h c => ⟨((h c).1 3).trans (final m c),
    ((h c).1 0).trans ((dats m 0 c).arrAt_in 0 rfl _),
    ((h c).1 1).trans ((dats m 0 c).arrAt_in 1 rfl _),
    ((h c).1 2).trans ((dats m 0 c).arrAt_in 2 rfl _)⟩) (run_main m g), ?_⟩
  refine (θ_run _ _ _).mono (fun _ h c => ⟨(h c).1.trans ?_, (h c).2⟩) (MainFwRefIdeal.Value.run m' g')
  rw [val_main_v7_eq, (hargs c).1, (hargs c).2.1, (hargs c).2.2]
  exact value _ _ _

end Cert.MainFwIdeal.Own

end
-- ==== Proof.UpFwProd.lean ====
/-
  The feed-forward up projection: the kernel's result, and that the
  reference's plain product is the same over the extended reals.
-/
module

public import proofs.«01_k».proof.Proof.Gen.UpFwIdeal.Frame
public import proofs.«01_k».proof.Proof.Gen.UpFwRefIdeal.Read
public import proofs.«01_k».proof.Defs
public import proofs.«01_k».proof.Proof.ProdMath

@[expose] public section

noncomputable section

namespace Cert.UpFwIdeal.Own

open Cert.UpFwIdeal Cert.UpFwIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 16 := lt_of_lt_of_eq t.isLt (show cfg0.N = 16 from N_0)

theorem index0 : ∀ t : Fin grid0.N, win0_0.index t 0 = t.val / 4 ∧ win0_0.index t 1 = 0 :=
  by decide +kernel

theorem index1 : ∀ t : Fin grid0.N, win0_1.index t 0 = 1 ∧ win0_1.index t 1 = 0 ∧ win0_1.index t 2 = t.val % 4 :=
  by decide +kernel

theorem index2 : ∀ t : Fin grid0.N, win0_2.index t 0 = t.val / 4 ∧ win0_2.index t 1 = t.val % 4
    ∧ win0_2.xsize (grid0.coords t) 0 = 2048 ∧ win0_2.xsize (grid0.coords t) 1 = 1408 :=
  by decide +kernel

/-- The left factor's row `i` and the right factor's column `j`, along the contracted axis. -/
def lhs (A : S8192x1024.Idx → EReal) (i : ℕ) : ℕ → EReal := fun k => at2 A (i) (k)
def rhs (B : S2x1024x5632.Idx → EReal) (j : ℕ) : ℕ → EReal := fun k => at3 B 1 (k) (j)

variable (m : (ℓ : Loc nD τ sig) → Buf (Elt Ideal) ℓ) (c : Dev nD)

/-- The argument arrays. -/
abbrev aArr : S8192x1024.Idx → EReal := m ((c : Thread nD τ).loc main_arg0)
abbrev bArr : S2x1024x5632.Idx → EReal := m ((c : Thread nD τ).loc main_arg1)

theorem iblk0_apply (t : Fin cfg0.N) (r : Fin 2048) (k : Fin 1024) :
    (iblk m c 0 t : Vec Ideal S2048x1024 .bf16) (ix2 r k) = at2 (aArr m c) (2048 * (t.val / 4) + r.val) (k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 2048 + 1 * r.val = _; omega)
    (by show win0_0.index t 1 * 1024 + 1 * k.val = _; omega)

theorem iblk1_apply (t : Fin cfg0.N) (k : Fin 1024) (q : Fin 1408) :
    (iblk m c 1 t : Vec Ideal S1x1024x1408 .bf16) (ix3 0 k q) = at3 (bArr m c) 1 (k.val) (1408 * (t.val % 4) + q.val) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 1024 + 1 * k.val = _; omega)
    (by show win0_1.index t 2 * 1408 + 1 * q.val = _; omega)

/-- The products of point `t`: over its positions of the contracted axis, for entry (r, q) of its block. -/
def part (t : ℕ) (r : Fin 2048) (q : Fin 1408) : EReal :=
  ∑ k : Fin 1024, lhs (aArr m c) (2048 * (t / 4) + r.val) (k.val) * rhs (bArr m c) (1408 * (t % 4) + q.val) (k.val)

/-- The product of a point's staged blocks. -/
theorem block (t : Fin cfg0.N) (r : Fin 2048) (q : Fin 1408) :
    (k0_pay1 (iblk m c 0 t) (iblk m c 1 t) : Vec Ideal S2048x1408 .bf16) (ix2 r q) = part m c t.val r q := by
  have hdot : dot_S2048x1024_S1024x1408_S2048x1408_1_0_0_1_n_n = DotDims.plain 2048 1024 1408 := rfl
  unfold k0_pay1
  simp only [truncf_apply, shapeCast_self, matmul, hdot, Ideal.matmul_plain_apply, constant_apply, Ideal.ofBits_zero_f32, zero_add, unstack]
  exact Finset.sum_congr rfl fun k _ => by rw [iblk0_apply, iblk1_apply]; rfl

/-- The block that a point leaves for the result. -/
theorem left (t : Fin cfg0.N) (r : Fin 2048) (q : Fin 1408) :
    (out0_2 (iblk m c 0 t) (iblk m c 1 t) : Vec Ideal S2048x1408 .bf16) (ix2 r q) = prodTo (lhs (aArr m c) (2048 * (t.val / 4) + r.val)) (rhs (bArr m c) (1408 * (t.val % 4) + q.val)) 1024 := by
  unfold out0_2
  rw [View.canon_unit_zero hz2]
  simp only [View.ld_unit_zero (S := S2048x1024) hz2, View.ld_unit_zero (S := S1x1024x1408) hz3]
  rw [block]
  exact prodTo_all _ _ _

/-! ## The result array -/

/-- Every entry the sum of products over the whole contracted axis. -/
def result (A : S8192x1024.Idx → EReal) (B : S2x1024x5632.Idx → EReal) : S8192x5632.Idx → EReal :=
  fun i => prodTo (lhs A (i 0).val) (rhs B (i 1).val) 1024

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 2048) (q : Fin 1408), j = ix2 r q := ⟨j 0, j 1, eq_ix2 (n0 := 2048) (n1 := 1408) j⟩
  refine (left m c t  r q).trans (Eq.trans ?_ (congrArg (result (aArr m c) (bArr m c)) (?_ : (ix2 ⟨2048 * (t.val / 4) + r.val, by omega⟩ ⟨1408 * (t.val % 4) + q.val, by omega⟩ : S8192x5632.Idx) = _)))
  · rfl
  · funext a
    apply Fin.ext
    match a with
    | ⟨0, _⟩ => show 2048 * (t.val / 4) + r.val = win0_2.index t 0 * 2048 + 1 * r.val; omega
    | ⟨1, _⟩ => show 1408 * (t.val % 4) + q.val = win0_2.index t 1 * 1408 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 8192 := (i 0).isLt
    have h1 : (i 1 : ℕ) < 5632 := (i 1).isLt
    obtain ⟨t, ht⟩ : ∃ t : Fin cfg0.N, t.val = (i 0).val / 2048 * 4 + (i 1).val / 1408 := ⟨⟨(i 0).val / 2048 * 4 + (i 1).val / 1408, by rw [show cfg0.N = 16 from N_0]; omega⟩, rfl⟩
    obtain ⟨e0, e1, x0, x1⟩ := index2 t
    refine ⟨t, flush0_2 t, (congrArg (i ∈ ·) (View.set_slice_whole main_v0 (win0_2.rect t))).mpr (Rect.mem_set_unit.2 fun a => ?_)⟩
    match a with
    | ⟨0, _⟩ => show win0_2.index t 0 * 2048 ≤ (i 0 : ℕ) ∧ (i 0 : ℕ) < win0_2.index t 0 * 2048 + win0_2.xsize (grid0.coords t) 0; omega
    | ⟨1, _⟩ => show win0_2.index t 1 * 1408 ≤ (i 1 : ℕ) ∧ (i 1 : ℕ) < win0_2.index t 1 * 1408 + win0_2.xsize (grid0.coords t) 1; omega

/-! ## The reference -/

open UpFwRefIdeal.Read

/-- The reference's result is the same sum of products. -/
theorem value (A : S8192x1024.Idx → EReal) (B : S2x1024x5632.Idx → EReal) :
    (val_main_v5 (F := Ideal) A B : S8192x5632.Idx → EReal) = result A B := by
  funext i
  have hi : (i 0).val < 8192 := (i 0).isLt
  have hj : (i 1).val < 5632 := (i 1).isLt
  simp only [val_main_v5_apply, val_main_v4_apply, val_main_v0_apply, val_main_v3_apply, val_main_v2_apply, val_main_v1_apply]
  unfold result
  rw [← prodTo_all]
  refine Finset.sum_congr rfl fun k _ => ?_
  have hk := k.isLt
  exact congrArg₂ (fun a b : EReal => a * b) (at2_in A (i 0).val k.val (i 0).isLt k.isLt _ rfl rfl) (at3_in B 1 k.val (i 1).val (by omega) k.isLt (by omega) _ rfl (by show (k.val * 5632 + (i 1).val) / 5632 % 1024 = k.val; omega) (by show (k.val * 5632 + (i 1).val) % 5632 = (i 1).val; omega))

/-- The reference runs without a fault, leaves its arguments as they are and ends with no semaphore raised. -/
theorem reference_frame : quiescent_UpFwRefIdeal := fun m ρ _ =>
  (θ_run _ _ _).mono (fun r h => ⟨fun c => (h c).2, sem_eq_zero_of_no_sems (by decide) r.2⟩) (UpFwRefIdeal.Value.run m ρ)

/-- Over the extended reals the kernel's result and the reference's are equal. -/
theorem algebraic : algebraic_UpFwIdeal_UpFwRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (UpFwRefIdeal.Value.run m' g')
  rw [val_main_v5_eq, (hargs c).1, (hargs c).2]
  exact value _ _

end Cert.UpFwIdeal.Own

end
-- ==== Proof.DownFwProd.lean ====
/-
  The feed-forward down projection: the kernel's result, and that the
  reference's plain product is the same over the extended reals.
-/
module

public import proofs.«01_k».proof.Proof.Gen.DownFwIdeal.Frame
public import proofs.«01_k».proof.Proof.Gen.DownFwRefIdeal.Read
public import proofs.«01_k».proof.Defs
public import proofs.«01_k».proof.Proof.ProdMath

@[expose] public section

noncomputable section

namespace Cert.DownFwIdeal.Own

open Cert.DownFwIdeal Cert.DownFwIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 16 := lt_of_lt_of_eq t.isLt (show cfg0.N = 16 from N_0)

theorem index0 : ∀ t : Fin grid0.N, win0_0.index t 0 = t.val / 2 ∧ win0_0.index t 1 = t.val % 2 :=
  by decide +kernel

theorem index1 : ∀ t : Fin grid0.N, win0_1.index t 0 = 1 ∧ win0_1.index t 1 = t.val % 2 ∧ win0_1.index t 2 = 0 :=
  by decide +kernel

theorem index2 : ∀ t : Fin grid0.N, win0_2.index t 0 = t.val / 2 ∧ win0_2.index t 1 = 0
    ∧ win0_2.xsize (grid0.coords t) 0 = 1024 ∧ win0_2.xsize (grid0.coords t) 1 = 1024 :=
  by decide +kernel

/-- The left factor's row `i` and the right factor's column `j`, along the contracted axis. -/
def lhs (A : S8192x2816.Idx → EReal) (i : ℕ) : ℕ → EReal := fun k => at2 A (i) (k)
def rhs (B : S2x2816x1024.Idx → EReal) (j : ℕ) : ℕ → EReal := fun k => at3 B 1 (k) (j)

variable (m : (ℓ : Loc nD τ sig) → Buf (Elt Ideal) ℓ) (c : Dev nD)

/-- The argument arrays. -/
abbrev aArr : S8192x2816.Idx → EReal := m ((c : Thread nD τ).loc main_arg0)
abbrev bArr : S2x2816x1024.Idx → EReal := m ((c : Thread nD τ).loc main_arg1)

theorem iblk0_apply (t : Fin cfg0.N) (r : Fin 1024) (k : Fin 1408) :
    (iblk m c 0 t : Vec Ideal S1024x1408 .bf16) (ix2 r k) = at2 (aArr m c) (1024 * (t.val / 2) + r.val) (1408 * (t.val % 2) + k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 1024 + 1 * r.val = _; omega)
    (by show win0_0.index t 1 * 1408 + 1 * k.val = _; omega)

theorem iblk1_apply (t : Fin cfg0.N) (k : Fin 1408) (q : Fin 1024) :
    (iblk m c 1 t : Vec Ideal S1x1408x1024 .bf16) (ix3 0 k q) = at3 (bArr m c) 1 (1408 * (t.val % 2) + k.val) (q.val) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 1408 + 1 * k.val = _; omega)
    (by show win0_1.index t 2 * 1024 + 1 * q.val = _; omega)

/-- The products of point `t`: over its positions of the contracted axis, for entry (r, q) of its block. -/
def part (t : ℕ) (r : Fin 1024) (q : Fin 1024) : EReal :=
  ∑ k : Fin 1408, lhs (aArr m c) (1024 * (t / 2) + r.val) (1408 * (t % 2) + k.val) * rhs (bArr m c) (q.val) (1408 * (t % 2) + k.val)

/-- The product of a point's staged blocks. -/
theorem block (t : Fin cfg0.N) (r : Fin 1024) (q : Fin 1024) :
    (k0_pay1 (iblk m c 0 t) (iblk m c 1 t) : Vec Ideal S1024x1024 .f32) (ix2 r q) = part m c t.val r q := by
  have hdot : dot_S1024x1408_S1408x1024_S1024x1024_1_0_0_1_n_n = DotDims.plain 1024 1408 1024 := rfl
  unfold k0_pay1
  simp only [shapeCast_self, matmul, hdot, Ideal.matmul_plain_apply, constant_apply, Ideal.ofBits_zero_f32, zero_add, unstack]
  exact Finset.sum_congr rfl fun k _ => by rw [iblk0_apply, iblk1_apply]; rfl

/-! ## The points -/

theorem first_point (t : Fin cfg0.N) (h0 : t.val % 2 = 0) (r : Fin 1024) (q : Fin 1024) :
    (outsAt0 m c t.val t.isLt).2 (ix2 r q) = part m c t.val r q := by
  rw [outsAt0_A m c t (by omega) (by omega) (by omega)]
  dsimp only
  unfold sout0_A_0
  rw [View.read_writes_eq_canon _ _ _ (scover0_A_0 _ _ _ _ _ _ _ _ _ _ _ _ _ _ _)]
  unfold kernelRun0_A
  dsimp only
  sl_unfold_words
  rw [View.canon_unit_zero hz2]
  simp only [View.readCov_unit_zero (S := S1024x1024) _ hz2, View.readAt_eq_ld, (hs0_0 t).read_unread, (hs0_1 t).read_unread, (Memref.isWhole_whole _).read_unread,
    View.ld_unit_zero (S := S1024x1024) hz2, View.ld_unit_zero (S := S1024x1408) hz2, View.ld_unit_zero (S := S1x1408x1024) hz3, k0_pay2, shapeCast_self]
  exact block m c t r q

theorem last_point (t : Fin cfg0.N) (h2 : t.val % 2 = 1) (r : Fin 1024) (q : Fin 1024) :
    (outsAt0 m c t.val t.isLt).1 (ix2 r q) = (outsAt0 m c (t.val - 1) (pred_lt t.isLt)).2 (ix2 r q) + part m c t.val r q := by
  rw [outsAt0_B m c t (by omega) (by omega) (by omega)]
  dsimp only
  unfold out0_B_2
  rw [View.read_writes_eq_canon _ _ _ (cover0_B_2 _ _ _ _ _ _ _ _ _ _ _ _ _ _ _ _)]
  unfold kernelRun0_B
  dsimp only
  sl_unfold_words
  rw [View.canon_unit_zero hz2]
  simp only [View.readCov_unit_zero (S := S1024x1024) _ hz2, View.readAt_eq_ld, (hs0_0 t).read_unread, (hs0_1 t).read_unread, (Memref.isWhole_whole _).read_unread,
    View.ld_unit_zero (S := S1024x1024) hz2, View.ld_unit_zero (S := S1024x1408) hz2, View.ld_unit_zero (S := S1x1408x1024) hz3, k0_pay3, addf_apply, shapeCast_self]
  exact (congrArg (fun z : EReal => _ + z) (block m c t r q))

/-- The block that the last point of a run leaves for the result. -/
theorem left (t : Fin cfg0.N) (h2 : t.val % 2 = 1) (r : Fin 1024) (q : Fin 1024) :
    (outsAt0 m c t.val t.isLt).1 (ix2 r q) = prodTo (lhs (aArr m c) (1024 * (t.val / 2) + r.val)) (rhs (bArr m c) (q.val)) 2816 := by
  rw [last_point m c t h2 r q]
  exact gathered (N := cfg0.N) (b := 2) (by decide) (by decide : 1408 * 2 = 2816) (fun n h => (outsAt0 m c n h).2 (ix2 r q)) (fun n _ => part m c n r q)
    (fun n => lhs (aArr m c) (1024 * (n / 2) + r.val)) (fun n => rhs (bArr m c) (q.val)) (fun _ _ => rfl)
    (fun n h e => ⟨by rw [show (n - 1) / 2 = n / 2 by omega], rfl⟩) (fun n h e => first_point m c ⟨n, h⟩ e r q) (fun n h h' e e' => by omega) t.val t.isLt _ h2

/-! ## The result array -/

/-- Every entry the sum of products over the whole contracted axis. -/
def result (A : S8192x2816.Idx → EReal) (B : S2x2816x1024.Idx → EReal) : S8192x1024.Idx → EReal :=
  fun i => prodTo (lhs A (i 0).val) (rhs B (i 1).val) 2816

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 1024) (q : Fin 1024), j = ix2 r q := ⟨j 0, j 1, eq_ix2 (n0 := 1024) (n1 := 1024) j⟩
  refine (left m c t ((flush0_2 t).mp h) r q).trans (Eq.trans ?_ (congrArg (result (aArr m c) (bArr m c)) (?_ : (ix2 ⟨1024 * (t.val / 2) + r.val, by omega⟩ ⟨q.val, by omega⟩ : S8192x1024.Idx) = _)))
  · rfl
  · funext a
    apply Fin.ext
    match a with
    | ⟨0, _⟩ => show 1024 * (t.val / 2) + r.val = win0_2.index t 0 * 1024 + 1 * r.val; omega
    | ⟨1, _⟩ => show q.val = win0_2.index t 1 * 1024 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 8192 := (i 0).isLt
    have h1 : (i 1 : ℕ) < 1024 := (i 1).isLt
    obtain ⟨t, ht⟩ : ∃ t : Fin cfg0.N, t.val = (i 0).val / 1024 * 2 + 1 := ⟨⟨(i 0).val / 1024 * 2 + 1, by rw [show cfg0.N = 16 from N_0]; omega⟩, rfl⟩
    obtain ⟨e0, e1, x0, x1⟩ := index2 t
    refine ⟨t, (flush0_2 t).mpr (by omega), (congrArg (i ∈ ·) (View.set_slice_whole main_v0 (win0_2.rect t))).mpr (Rect.mem_set_unit.2 fun a => ?_)⟩
    match a with
    | ⟨0, _⟩ => show win0_2.index t 0 * 1024 ≤ (i 0 : ℕ) ∧ (i 0 : ℕ) < win0_2.index t 0 * 1024 + win0_2.xsize (grid0.coords t) 0; omega
    | ⟨1, _⟩ => show win0_2.index t 1 * 1024 ≤ (i 1 : ℕ) ∧ (i 1 : ℕ) < win0_2.index t 1 * 1024 + win0_2.xsize (grid0.coords t) 1; omega

/-! ## The reference -/

open DownFwRefIdeal.Read

/-- The reference's result is the same sum of products. -/
theorem value (A : S8192x2816.Idx → EReal) (B : S2x2816x1024.Idx → EReal) :
    (val_main_v4 (F := Ideal) A B : S8192x1024.Idx → EReal) = result A B := by
  funext i
  have hi : (i 0).val < 8192 := (i 0).isLt
  have hj : (i 1).val < 1024 := (i 1).isLt
  simp only [val_main_v4_apply, val_main_v0_apply, val_main_v3_apply, val_main_v2_apply, val_main_v1_apply]
  unfold result
  rw [← prodTo_all]
  refine Finset.sum_congr rfl fun k _ => ?_
  have hk := k.isLt
  exact congrArg₂ (fun a b : EReal => a * b) (at2_in A (i 0).val k.val (i 0).isLt k.isLt _ rfl rfl) (at3_in B 1 k.val (i 1).val (by omega) k.isLt (by omega) _ rfl (by show (k.val * 1024 + (i 1).val) / 1024 % 2816 = k.val; omega) (by show (k.val * 1024 + (i 1).val) % 1024 = (i 1).val; omega))

/-- The reference runs without a fault, leaves its arguments as they are and ends with no semaphore raised. -/
theorem reference_frame : quiescent_DownFwRefIdeal := fun m ρ _ =>
  (θ_run _ _ _).mono (fun r h => ⟨fun c => (h c).2, sem_eq_zero_of_no_sems (by decide) r.2⟩) (DownFwRefIdeal.Value.run m ρ)

/-- Over the extended reals the kernel's result and the reference's are equal. -/
theorem algebraic : algebraic_DownFwIdeal_DownFwRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (DownFwRefIdeal.Value.run m' g')
  rw [val_main_v4_eq, (hargs c).1, (hargs c).2]
  exact value _ _

end Cert.DownFwIdeal.Own

end
-- ==== Proof.MixFwProd.lean ====
/-
  The mixing projection with its bias: the kernel's result, and that the
  reference's plain product is the same over the extended reals.
-/
module

public import proofs.«01_k».proof.Proof.Gen.MixFwIdeal.Frame
public import proofs.«01_k».proof.Proof.Gen.MixFwRefIdeal.Read
public import proofs.«01_k».proof.Defs
public import proofs.«01_k».proof.Proof.ProdMath

@[expose] public section

noncomputable section

namespace Cert.MixFwIdeal.Own

open Cert.MixFwIdeal Cert.MixFwIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 4 := lt_of_lt_of_eq t.isLt (show cfg0.N = 4 from N_0)

theorem index0 : ∀ t : Fin grid0.N, win0_0.index t 0 = t.val ∧ win0_0.index t 1 = 0 :=
  by decide +kernel

theorem index1 : ∀ t : Fin grid0.N, win0_1.index t 0 = 1 ∧ win0_1.index t 1 = 0 ∧ win0_1.index t 2 = 0 :=
  by decide +kernel

theorem index2 : ∀ t : Fin grid0.N, win0_2.index t 0 = 0 ∧ win0_2.index t 1 = 0 :=
  by decide +kernel

theorem index3 : ∀ t : Fin grid0.N, win0_3.index t 0 = t.val ∧ win0_3.index t 1 = 0
    ∧ win0_3.xsize (grid0.coords t) 0 = 2048 ∧ win0_3.xsize (grid0.coords t) 1 = 1024 :=
  by decide +kernel

/-- The left factor's row `i` and the right factor's column `j`, along the contracted axis. -/
def lhs (A : S8192x1024.Idx → EReal) (i : ℕ) : ℕ → EReal := fun k => at2 A (i) (k)
def rhs (B : S2x1024x1024.Idx → EReal) (j : ℕ) : ℕ → EReal := fun k => at3 B 1 (k) (j)

variable (m : (ℓ : Loc nD τ sig) → Buf (Elt Ideal) ℓ) (c : Dev nD)

/-- The argument arrays. -/
abbrev aArr : S8192x1024.Idx → EReal := m ((c : Thread nD τ).loc main_arg0)
abbrev bArr : S2x1024x1024.Idx → EReal := m ((c : Thread nD τ).loc main_arg1)
abbrev dArr : S1x1024.Idx → EReal := m ((c : Thread nD τ).loc main_arg2)

theorem iblk0_apply (t : Fin cfg0.N) (r : Fin 2048) (k : Fin 1024) :
    (iblk m c 0 t : Vec Ideal S2048x1024 .bf16) (ix2 r k) = at2 (aArr m c) (2048 * (t.val) + r.val) (k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 2048 + 1 * r.val = _; omega)
    (by show win0_0.index t 1 * 1024 + 1 * k.val = _; omega)

theorem iblk1_apply (t : Fin cfg0.N) (k : Fin 1024) (q : Fin 1024) :
    (iblk m c 1 t : Vec Ideal S1x1024x1024 .bf16) (ix3 0 k q) = at3 (bArr m c) 1 (k.val) (q.val) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 1024 + 1 * k.val = _; omega)
    (by show win0_1.index t 2 * 1024 + 1 * q.val = _; omega)

theorem iblk2_apply (t : Fin cfg0.N) (r : Fin 1) (q : Fin 1024) :
    (iblk m c 2 t : Vec Ideal S1x1024 .f32) (ix2 r q) = at2 (dArr m c) (0) (q.val) := by
  obtain ⟨h0, h1⟩ := index2 t
  have := t_lt t
  unfold iblk
  rw [View.read_apply]
  show V m c main_arg2 _ = _
  unfold V
  exact at2_in (dArr m c) _ _ (by omega) (by omega) _
    (by show win0_2.index t 0 * 1 + 1 * r.val = _; omega)
    (by show win0_2.index t 1 * 1024 + 1 * q.val = _; omega)

/-- The products of point `t`: over its positions of the contracted axis, for entry (r, q) of its block. -/
def part (t : ℕ) (r : Fin 2048) (q : Fin 1024) : EReal :=
  ∑ k : Fin 1024, lhs (aArr m c) (2048 * (t) + r.val) (k.val) * rhs (bArr m c) (q.val) (k.val)

/-- The block that a point leaves for the result. -/
theorem left (t : Fin cfg0.N) (r : Fin 2048) (q : Fin 1024) :
    (out0_3 (iblk m c 0 t) (iblk m c 1 t) (iblk m c 2 t) : Vec Ideal S2048x1024 .f32) (ix2 r q) = prodTo (lhs (aArr m c) (2048 * (t.val) + r.val)) (rhs (bArr m c) (q.val)) 1024 + at2 (dArr m c) 0 (q.val) := by
  unfold out0_3
  rw [View.canon_unit_zero hz2]
  simp only [View.ld_unit_zero (S := S2048x1024) hz2, View.ld_unit_zero (S := S1x1024x1024) hz3, View.ld_unit_zero (S := S1x1024) hz2]
  have hdot : dot_S2048x1024_S1024x1024_S2048x1024_1_0_0_1_n_n = DotDims.plain 2048 1024 1024 := rfl
  unfold k0_pay1
  simp only [shapeCast_self, matmul, hdot, Ideal.matmul_plain_apply, constant_apply, Ideal.ofBits_zero_f32, zero_add, unstack, addf_apply]
  refine congrArg₂ (fun a b : EReal => a + b) ((Finset.sum_congr rfl fun k _ => by rw [iblk0_apply, iblk1_apply]; rfl).trans (prodTo_all (lhs (aArr m c) (2048 * (t.val) + r.val)) (rhs (bArr m c) (q.val)) 1024)) ?_
  exact (broadcastTo_apply _ _ (ix2 r q) (ix2 0 q) fun a => by match a with | ⟨0, _⟩ => rfl | ⟨1, _⟩ => rfl).trans (iblk2_apply m c t 0 q)

/-! ## The result array -/

/-- Every entry the sum of products over the whole contracted axis. -/
def result (A : S8192x1024.Idx → EReal) (B : S2x1024x1024.Idx → EReal) (D : S1x1024.Idx → EReal) : S8192x1024.Idx → EReal :=
  fun i => prodTo (lhs A (i 0).val) (rhs B (i 1).val) 1024 + at2 D 0 (i 1).val

set_option maxRecDepth 20000 in
/-- A flushed block is that block of the result. -/
theorem flushed_eq (t : Fin cfg0.N) (h : (cfg0.win 3).flush t = true) :
    (dats m 0 c).flushed 3 t = ((cfg0.win 3).blk t).view.read (Elt Ideal) (result (aArr m c) (bArr m c) (dArr m c) : Buf (Elt Ideal) ((c : Thread nD τ).loc main_v0)) := by
  unfold Dat.flushed
  rw [after0_3]
  funext j
  rw [View.read_apply]
  obtain ⟨h0, h1, -, -⟩ := index3 t
  have := t_lt t
  obtain ⟨r, q, rfl⟩ : ∃ (r : Fin 2048) (q : Fin 1024), j = ix2 r q := ⟨j 0, j 1, eq_ix2 (n0 := 2048) (n1 := 1024) j⟩
  refine (left m c t  r q).trans (Eq.trans ?_ (congrArg (result (aArr m c) (bArr m c) (dArr m c)) (?_ : (ix2 ⟨2048 * (t.val) + r.val, by omega⟩ ⟨q.val, by omega⟩ : S8192x1024.Idx) = _)))
  · rfl
  · funext a
    apply Fin.ext
    match a with
    | ⟨0, _⟩ => show 2048 * (t.val) + r.val = win0_3.index t 0 * 2048 + 1 * r.val; omega
    | ⟨1, _⟩ => show q.val = win0_3.index t 1 * 1024 + 1 * q.val; omega

theorem final : (dats m 0 c).arrAt 3 cfg0.N = result (aArr m c) (bArr m c) (dArr m c) :=
  (dats m 0 c).arrAt_eq_of_cover 3 (result (aArr m c) (bArr m c) (dArr m c)) (flushed_eq m c) fun i => by
    have h0 : (i 0 : ℕ) < 8192 := (i 0).isLt
    have h1 : (i 1 : ℕ) < 1024 := (i 1).isLt
    obtain ⟨t, ht⟩ : ∃ t : Fin cfg0.N, t.val = (i 0).val / 2048 := ⟨⟨(i 0).val / 2048, by rw [show cfg0.N = 4 from N_0]; omega⟩, rfl⟩
    obtain ⟨e0, e1, x0, x1⟩ := index3 t
    refine ⟨t, flush0_3 t, (congrArg (i ∈ ·) (View.set_slice_whole main_v0 (win0_3.rect t))).mpr (Rect.mem_set_unit.2 fun a => ?_)⟩
    match a with
    | ⟨0, _⟩ => show win0_3.index t 0 * 2048 ≤ (i 0 : ℕ) ∧ (i 0 : ℕ) < win0_3.index t 0 * 2048 + win0_3.xsize (grid0.coords t) 0; omega
    | ⟨1, _⟩ => show win0_3.index t 1 * 1024 ≤ (i 1 : ℕ) ∧ (i 1 : ℕ) < win0_3.index t 1 * 1024 + win0_3.xsize (grid0.coords t) 1; omega

/-! ## The reference -/

open MixFwRefIdeal.Read

/-- The reference's result is the same sum of products. -/
theorem value (A : S8192x1024.Idx → EReal) (B : S2x1024x1024.Idx → EReal) (D : S1x1024.Idx → EReal) :
    (val_main_v6 (F := Ideal) A B D : S8192x1024.Idx → EReal) = result A B D := by
  funext i
  have hi : (i 0).val < 8192 := (i 0).isLt
  have hj : (i 1).val < 1024 := (i 1).isLt
  simp only [val_main_v6_apply, val_main_v4_apply, val_main_v5_apply, val_main_v0_apply, val_main_v3_apply, val_main_v2_apply, val_main_v1_apply]
  unfold result
  rw [← prodTo_all]
  refine congrArg₂ (fun a b : EReal => a + b) (Finset.sum_congr rfl fun k _ => ?_) (at2_in D 0 (i 1).val (by decide) (i 1).isLt _ rfl rfl)
  have hk := k.isLt
  exact congrArg₂ (fun a b : EReal => a * b) (at2_in A (i 0).val k.val (i 0).isLt k.isLt _ rfl rfl) (at3_in B 1 k.val (i 1).val (by omega) k.isLt (by omega) _ rfl (by show (k.val * 1024 + (i 1).val) / 1024 % 1024 = k.val; omega) (by show (k.val * 1024 + (i 1).val) % 1024 = (i 1).val; omega))

/-- The reference runs without a fault, leaves its arguments as they are and ends with no semaphore raised. -/
theorem reference_frame : quiescent_MixFwRefIdeal := fun m ρ _ =>
  (θ_run _ _ _).mono (fun r h => ⟨fun c => (h c).2, sem_eq_zero_of_no_sems (by decide) r.2⟩) (MixFwRefIdeal.Value.run m ρ)

/-- Over the extended reals the kernel's result and the reference's are equal. -/
theorem algebraic : algebraic_MixFwIdeal_MixFwRefIdeal := by
  intro m g m' g' _ hargs
  refine ⟨fun c => result (aArr m c) (bArr m c) (dArr m c), (θ_run _ _ _).mono (fun _ h c => ⟨((h c).1 3).trans (final m c),
    ((h c).1 0).trans ((dats m 0 c).arrAt_in 0 rfl _),
    ((h c).1 1).trans ((dats m 0 c).arrAt_in 1 rfl _),
    ((h c).1 2).trans ((dats m 0 c).arrAt_in 2 rfl _)⟩) (run_main m g), ?_⟩
  refine (θ_run _ _ _).mono (fun _ h c => ⟨(h c).1.trans ?_, (h c).2⟩) (MixFwRefIdeal.Value.run m' g')
  rw [val_main_v6_eq, (hargs c).1, (hargs c).2.1, (hargs c).2.2]
  exact value _ _ _

end Cert.MixFwIdeal.Own

end
-- ==== Proof.ConvFwProd.lean ====
/-
  The convolution branch's projection: the kernel's result, and that the
  reference's plain product is the same over the extended reals.
-/
module

public import proofs.«01_k».proof.Proof.Gen.ConvFwIdeal.Frame
public import proofs.«01_k».proof.Proof.Gen.ConvFwRefIdeal.Read
public import proofs.«01_k».proof.Defs
public import proofs.«01_k».proof.Proof.ProdMath

@[expose] public section

noncomputable section

namespace Cert.ConvFwIdeal.Own

open Cert.ConvFwIdeal Cert.ConvFwIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 4 := lt_of_lt_of_eq t.isLt (show cfg0.N = 4 from N_0)

theorem index0 : ∀ t : Fin grid0.N, win0_0.index t 0 = t.val ∧ win0_0.index t 1 = 0 :=
  by decide +kernel

theorem index1 : ∀ t : Fin grid0.N, win0_1.index t 0 = 1 ∧ win0_1.index t 1 = 0 ∧ win0_1.index t 2 = 0 :=
  by decide +kernel

theorem index2 : ∀ t : Fin grid0.N, win0_2.index t 0 = t.val ∧ win0_2.index t 1 = 0
    ∧ win0_2.xsize (grid0.coords t) 0 = 2048 ∧ win0_2.xsize (grid0.coords t) 1 = 1024 :=
  by decide +kernel

/-- The left factor's row `i` and the right factor's column `j`, along the contracted axis. -/
def lhs (A : S8192x512.Idx → EReal) (i : ℕ) : ℕ → EReal := fun k => at2 A (i) (k)
def rhs (B : S2x512x1024.Idx → EReal) (j : ℕ) : ℕ → EReal := fun k => at3 B 1 (k) (j)

variable (m : (ℓ : Loc nD τ sig) → Buf (Elt Ideal) ℓ) (c : Dev nD)

/-- The argument arrays. -/
abbrev aArr : S8192x512.Idx → EReal := m ((c : Thread nD τ).loc main_arg0)
abbrev bArr : S2x512x1024.Idx → EReal := m ((c : Thread nD τ).loc main_arg1)

theorem iblk0_apply (t : Fin cfg0.N) (r : Fin 2048) (k : Fin 512) :
    (iblk m c 0 t : Vec Ideal S2048x512 .bf16) (ix2 r k) = at2 (aArr m c) (2048 * (t.val) + r.val) (k.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 2048 + 1 * r.val = _; omega)
    (by show win0_0.index t 1 * 512 + 1 * k.val = _; omega)

theorem iblk1_apply (t : Fin cfg0.N) (k : Fin 512) (q : Fin 1024) :
    (iblk m c 1 t : Vec Ideal S1x512x1024 .bf16) (ix3 0 k q) = at3 (bArr m c) 1 (k.val) (q.val) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 512 + 1 * k.val = _; omega)
    (by show win0_1.index t 2 * 1024 + 1 * q.val = _; omega)

/-- The products of point `t`: over its positions of the contracted axis, for entry (r, q) of its block. -/
def part (t : ℕ) (r : Fin 2048) (q : Fin 1024) : EReal :=
  ∑ k : Fin 512, lhs (aArr m c) (2048 * (t) + r.val) (k.val) * rhs (bArr m c) (q.val) (k.val)

/-- The product of a point's staged blocks. -/
theorem block (t : Fin cfg0.N) (r : Fin 2048) (q : Fin 1024) :
    (k0_pay1 (iblk m c 0 t) (iblk m c 1 t) : Vec Ideal S2048x1024 .bf16) (ix2 r q) = part m c t.val r q := by
  have hdot : dot_S2048x512_S512x1024_S2048x1024_1_0_0_1_n_n = DotDims.plain 2048 512 1024 := rfl
  unfold k0_pay1
  simp only [truncf_apply, shapeCast_self, matmul, hdot, Ideal.matmul_plain_apply, constant_apply, Ideal.ofBits_zero_f32, zero_add, unstack]
  exact Finset.sum_congr rfl fun k _ => by rw [iblk0_apply, iblk1_apply]; rfl

/-- The block that a point leaves for the result. -/
theorem left (t : Fin cfg0.N) (r : Fin 2048) (q : Fin 1024) :
    (out0_2 (iblk m c 0 t) (iblk m c 1 t) : Vec Ideal S2048x1024 .bf16) (ix2 r q) = prodTo (lhs (aArr m c) (2048 * (t.val) + r.val)) (rhs (bArr m c) (q.val)) 512 := by
  unfold out0_2
  rw [View.canon_unit_zero hz2]
  simp only [View.ld_unit_zero (S := S2048x512) hz2, View.ld_unit_zero (S := S1x512x1024) hz3]
  rw [block]
  exact prodTo_all _ _ _

/-! ## The result array -/

/-- Every entry the sum of products over the whole contracted axis. -/
def result (A : S8192x512.Idx → EReal) (B : S2x512x1024.Idx → EReal) : S8192x1024.Idx → EReal :=
  fun i => prodTo (lhs A (i 0).val) (rhs B (i 1).val) 512

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 2048) (q : Fin 1024), j = ix2 r q := ⟨j 0, j 1, eq_ix2 (n0 := 2048) (n1 := 1024) j⟩
  refine (left m c t  r q).trans (Eq.trans ?_ (congrArg (result (aArr m c) (bArr m c)) (?_ : (ix2 ⟨2048 * (t.val) + r.val, by omega⟩ ⟨q.val, by omega⟩ : S8192x1024.Idx) = _)))
  · rfl
  · funext a
    apply Fin.ext
    match a with
    | ⟨0, _⟩ => show 2048 * (t.val) + r.val = win0_2.index t 0 * 2048 + 1 * r.val; omega
    | ⟨1, _⟩ => show q.val = win0_2.index t 1 * 1024 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 8192 := (i 0).isLt
    have h1 : (i 1 : ℕ) < 1024 := (i 1).isLt
    obtain ⟨t, ht⟩ : ∃ t : Fin cfg0.N, t.val = (i 0).val / 2048 := ⟨⟨(i 0).val / 2048, by rw [show cfg0.N = 4 from N_0]; omega⟩, rfl⟩
    obtain ⟨e0, e1, x0, x1⟩ := index2 t
    refine ⟨t, flush0_2 t, (congrArg (i ∈ ·) (View.set_slice_whole main_v0 (win0_2.rect t))).mpr (Rect.mem_set_unit.2 fun a => ?_)⟩
    match a with
    | ⟨0, _⟩ => show win0_2.index t 0 * 2048 ≤ (i 0 : ℕ) ∧ (i 0 : ℕ) < win0_2.index t 0 * 2048 + win0_2.xsize (grid0.coords t) 0; omega
    | ⟨1, _⟩ => show win0_2.index t 1 * 1024 ≤ (i 1 : ℕ) ∧ (i 1 : ℕ) < win0_2.index t 1 * 1024 + win0_2.xsize (grid0.coords t) 1; omega

/-! ## The reference -/

open ConvFwRefIdeal.Read

/-- The reference's result is the same sum of products. -/
theorem value (A : S8192x512.Idx → EReal) (B : S2x512x1024.Idx → EReal) :
    (val_main_v5 (F := Ideal) A B : S8192x1024.Idx → EReal) = result A B := by
  funext i
  have hi : (i 0).val < 8192 := (i 0).isLt
  have hj : (i 1).val < 1024 := (i 1).isLt
  simp only [val_main_v5_apply, val_main_v4_apply, val_main_v0_apply, val_main_v3_apply, val_main_v2_apply, val_main_v1_apply]
  unfold result
  rw [← prodTo_all]
  refine Finset.sum_congr rfl fun k _ => ?_
  have hk := k.isLt
  exact congrArg₂ (fun a b : EReal => a * b) (at2_in A (i 0).val k.val (i 0).isLt k.isLt _ rfl rfl) (at3_in B 1 k.val (i 1).val (by omega) k.isLt (by omega) _ rfl (by show (k.val * 1024 + (i 1).val) / 1024 % 512 = k.val; omega) (by show (k.val * 1024 + (i 1).val) % 1024 = (i 1).val; omega))

/-- The reference runs without a fault, leaves its arguments as they are and ends with no semaphore raised. -/
theorem reference_frame : quiescent_ConvFwRefIdeal := fun m ρ _ =>
  (θ_run _ _ _).mono (fun r h => ⟨fun c => (h c).2, sem_eq_zero_of_no_sems (by decide) r.2⟩) (ConvFwRefIdeal.Value.run m ρ)

/-- Over the extended reals the kernel's result and the reference's are equal. -/
theorem algebraic : algebraic_ConvFwIdeal_ConvFwRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (ConvFwRefIdeal.Value.run m' g')
  rw [val_main_v5_eq, (hargs c).1, (hargs c).2]
  exact value _ _

end Cert.ConvFwIdeal.Own

end
-- ==== Proof.ProjFwProd.lean ====
/-
  The attention's output projection: the kernel's result, and that the
  reference's plain product is the same over the extended reals.
-/
module

public import proofs.«01_k».proof.Proof.Gen.ProjFwIdeal.Frame
public import proofs.«01_k».proof.Proof.Gen.ProjFwRefIdeal.Read
public import proofs.«01_k».proof.Defs
public import proofs.«01_k».proof.Proof.ProdMath

@[expose] public section

noncomputable section

namespace Cert.ProjFwIdeal.Own

open Cert.ProjFwIdeal Cert.ProjFwIdeal.Gen Idealize.ShloMosaic Idealize.ShloMosaic.TcCoe Idealize.SL.Sem
open Idealize.ShloMosaic.ValueIdx Cert.Prod
open Idealize.ShloMosaic.Pipeline (Dat)

/-! ## The blocks a point reads and writes -/

theorem t_lt (t : Fin cfg0.N) : t.val < 8 := lt_of_lt_of_eq t.isLt (show cfg0.N = 8 from N_0)

theorem index0 : ∀ t : Fin grid0.N, win0_0.index t 0 = 0 ∧ win0_0.index t 1 = t.val :=
  by decide +kernel

theorem index1 : ∀ t : Fin grid0.N, win0_1.index t 0 = 1 ∧ win0_1.index t 1 = 0 ∧ win0_1.index t 2 = 0 :=
  by decide +kernel

theorem index2 : ∀ t : Fin grid0.N, win0_2.index t 0 = t.val ∧ win0_2.index t 1 = 0
    ∧ win0_2.xsize (grid0.coords t) 0 = 1024 ∧ win0_2.xsize (grid0.coords t) 1 = 1024 :=
  by decide +kernel

/-- The left factor's row `i` and the right factor's column `j`, along the contracted axis. -/
def lhs (A : S512x8192.Idx → EReal) (i : ℕ) : ℕ → EReal := fun k => at2 A (k) (i)
def rhs (B : S2x512x1024.Idx → EReal) (j : ℕ) : ℕ → EReal := fun k => at3 B 1 (k) (j)

variable (m : (ℓ : Loc nD τ sig) → Buf (Elt Ideal) ℓ) (c : Dev nD)

/-- The argument arrays. -/
abbrev aArr : S512x8192.Idx → EReal := m ((c : Thread nD τ).loc main_arg0)
abbrev bArr : S2x512x1024.Idx → EReal := m ((c : Thread nD τ).loc main_arg1)

theorem iblk0_apply (t : Fin cfg0.N) (k : Fin 512) (r : Fin 1024) :
    (iblk m c 0 t : Vec Ideal S512x1024 .bf16) (ix2 k r) = at2 (aArr m c) (k.val) (1024 * (t.val) + r.val) := by
  obtain ⟨h0, h1⟩ := index0 t
  have := t_lt t
  unfold iblk
  rw [View.read_apply]
  show V m c main_arg0 _ = _
  unfold V
  exact at2_in (aArr m c) _ _ (by omega) (by omega) _
    (by show win0_0.index t 0 * 512 + 1 * k.val = _; omega)
    (by show win0_0.index t 1 * 1024 + 1 * r.val = _; omega)

theorem iblk1_apply (t : Fin cfg0.N) (k : Fin 512) (q : Fin 1024) :
    (iblk m c 1 t : Vec Ideal S1x512x1024 .bf16) (ix3 0 k q) = at3 (bArr m c) 1 (k.val) (q.val) := by
  obtain ⟨h0, h1, h2⟩ := index1 t
  have := t_lt t
  unfold iblk
  rw [View.read_apply]
  show V m c main_arg1 _ = _
  unfold V
  exact at3_in (bArr m c) _ _ _ (by omega) (by omega) (by omega) _
    (by show win0_1.index t 0 * 1 + 1 * 0 = _; omega)
    (by show win0_1.index t 1 * 512 + 1 * k.val = _; omega)
    (by show win0_1.index t 2 * 1024 + 1 * q.val = _; omega)

/-- The products of point `t`: over its positions of the contracted axis, for entry (r, q) of its block. -/
def part (t : ℕ) (r : Fin 1024) (q : Fin 1024) : EReal :=
  ∑ k : Fin 512, lhs (aArr m c) (1024 * (t) + r.val) (k.val) * rhs (bArr m c) (q.val) (k.val)

/-- The product of a point's staged blocks. -/
theorem block (t : Fin cfg0.N) (r : Fin 1024) (q : Fin 1024) :
    (k0_pay1 (iblk m c 0 t) (iblk m c 1 t) : Vec Ideal S1024x1024 .bf16) (ix2 r q) = part m c t.val r q := by
  have hdot : dot_S512x1024_S512x1024_S1024x1024_0_0_1_1_n_n = Prod.lhsTransposed 1024 512 1024 := rfl
  unfold k0_pay1
  simp only [truncf_apply, shapeCast_self, matmul, hdot, Prod.lhsTransposed_apply, constant_apply, Ideal.ofBits_zero_f32, zero_add, unstack]
  exact Finset.sum_congr rfl fun k _ => by rw [iblk0_apply, iblk1_apply]; rfl

/-- The block that a point leaves for the result. -/
theorem left (t : Fin cfg0.N) (r : Fin 1024) (q : Fin 1024) :
    (out0_2 (iblk m c 0 t) (iblk m c 1 t) : Vec Ideal S1024x1024 .bf16) (ix2 r q) = prodTo (lhs (aArr m c) (1024 * (t.val) + r.val)) (rhs (bArr m c) (q.val)) 512 := by
  unfold out0_2
  rw [View.canon_unit_zero hz2]
  simp only [View.ld_unit_zero (S := S512x1024) hz2, View.ld_unit_zero (S := S1x512x1024) hz3]
  rw [block]
  exact prodTo_all _ _ _

/-! ## The result array -/

/-- Every entry the sum of products over the whole contracted axis. -/
def result (A : S512x8192.Idx → EReal) (B : S2x512x1024.Idx → EReal) : S8192x1024.Idx → EReal :=
  fun i => prodTo (lhs A (i 0).val) (rhs B (i 1).val) 512

set_option maxRecDepth 20000 in
/-- A flushed block is that block of the result. -/
theorem flushed_eq (t : Fin cfg0.N) (h : (cfg0.win 2).flush t = true) :
    (dats m 0 c).flushed 2 t = ((cfg0.win 2).blk t).view.read (Elt Ideal) (result (aArr m c) (bArr m c) : Buf (Elt Ideal) ((c : Thread nD τ).loc main_v0)) := by
  unfold Dat.flushed
  rw [after0_2]
  funext j
  rw [View.read_apply]
  obtain ⟨h0, h1, -, -⟩ := index2 t
  have := t_lt t
  obtain ⟨r, q, rfl⟩ : ∃ (r : Fin 1024) (q : Fin 1024), j = ix2 r q := ⟨j 0, j 1, eq_ix2 (n0 := 1024) (n1 := 1024) j⟩
  refine (left m c t  r q).trans (Eq.trans ?_ (congrArg (result (aArr m c) (bArr m c)) (?_ : (ix2 ⟨1024 * (t.val) + r.val, by omega⟩ ⟨q.val, by omega⟩ : S8192x1024.Idx) = _)))
  · rfl
  · funext a
    apply Fin.ext
    match a with
    | ⟨0, _⟩ => show 1024 * (t.val) + r.val = win0_2.index t 0 * 1024 + 1 * r.val; omega
    | ⟨1, _⟩ => show q.val = win0_2.index t 1 * 1024 + 1 * q.val; omega

theorem final : (dats m 0 c).arrAt 2 cfg0.N = result (aArr m c) (bArr m c) :=
  (dats m 0 c).arrAt_eq_of_cover 2 (result (aArr m c) (bArr m c)) (flushed_eq m c) fun i => by
    have h0 : (i 0 : ℕ) < 8192 := (i 0).isLt
    have h1 : (i 1 : ℕ) < 1024 := (i 1).isLt
    obtain ⟨t, ht⟩ : ∃ t : Fin cfg0.N, t.val = (i 0).val / 1024 := ⟨⟨(i 0).val / 1024, by rw [show cfg0.N = 8 from N_0]; omega⟩, rfl⟩
    obtain ⟨e0, e1, x0, x1⟩ := index2 t
    refine ⟨t, flush0_2 t, (congrArg (i ∈ ·) (View.set_slice_whole main_v0 (win0_2.rect t))).mpr (Rect.mem_set_unit.2 fun a => ?_)⟩
    match a with
    | ⟨0, _⟩ => show win0_2.index t 0 * 1024 ≤ (i 0 : ℕ) ∧ (i 0 : ℕ) < win0_2.index t 0 * 1024 + win0_2.xsize (grid0.coords t) 0; omega
    | ⟨1, _⟩ => show win0_2.index t 1 * 1024 ≤ (i 1 : ℕ) ∧ (i 1 : ℕ) < win0_2.index t 1 * 1024 + win0_2.xsize (grid0.coords t) 1; omega

/-! ## The reference -/

open ProjFwRefIdeal.Read

/-- The reference's result is the same sum of products. -/
theorem value (A : S512x8192.Idx → EReal) (B : S2x512x1024.Idx → EReal) :
    (val_main_v6 (F := Ideal) A B : S8192x1024.Idx → EReal) = result A B := by
  funext i
  have hi : (i 0).val < 8192 := (i 0).isLt
  have hj : (i 1).val < 1024 := (i 1).isLt
  simp only [val_main_v6_apply, val_main_v5_apply, val_main_v1_apply, val_main_v4_apply, val_main_v0_apply, val_main_v3_apply, val_main_v2_apply]
  unfold result
  rw [← prodTo_all]
  refine Finset.sum_congr rfl fun k _ => ?_
  have hk := k.isLt
  exact congrArg₂ (fun a b : EReal => a * b) (at2_in A k.val (i 0).val k.isLt (i 0).isLt _ rfl rfl) (at3_in B 1 k.val (i 1).val (by omega) k.isLt (by omega) _ rfl (by show (k.val * 1024 + (i 1).val) / 1024 % 512 = k.val; omega) (by show (k.val * 1024 + (i 1).val) % 1024 = (i 1).val; omega))

/-- The reference runs without a fault, leaves its arguments as they are and ends with no semaphore raised. -/
theorem reference_frame : quiescent_ProjFwRefIdeal := fun m ρ _ =>
  (θ_run _ _ _).mono (fun r h => ⟨fun c => (h c).2, sem_eq_zero_of_no_sems (by decide) r.2⟩) (ProjFwRefIdeal.Value.run m ρ)

/-- Over the extended reals the kernel's result and the reference's are equal. -/
theorem algebraic : algebraic_ProjFwIdeal_ProjFwRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _),
    ((h c).1 1).trans ((dats m 0 c).arrAt_in 1 rfl _)⟩) (run_main m g), ?_⟩
  refine (θ_run _ _ _).mono (fun _ h c => ⟨(h c).1.trans ?_, (h c).2⟩) (ProjFwRefIdeal.Value.run m' g')
  rw [val_main_v6_eq, (hargs c).1, (hargs c).2]
  exact value _ _

end Cert.ProjFwIdeal.Own

end
-- ==== Proof.OptMath.lean ====
/-
  AdamW at one entry over the extended reals.
-/
module

public import proofs.«01_k».proof.Proof.ProdMath

@[expose] public section

noncomputable section

namespace Cert.Adam

open Idealize.ShloMosaic

/-- The float32 literal of a word. -/
abbrev lit (b : BitVec 32) : EReal := Ideal.ofBits .f32 b

/-- The new first moment: 0.9 m + 0.1 g. -/
def first (g m : EReal) : EReal := lit 0x3F666666#32 * m + lit 0x3DCCCCCD#32 * g

/-- The new second moment: 0.999 v + 0.001 g². -/
def second (g v : EReal) : EReal := lit 0x3F7FBE77#32 * v + lit 0x3A83126F#32 * (g * g)

/-- The weight's change: the corrected first moment over the root of the corrected second, plus the decay of the weight,
    times minus the rate. -/
def delta (w g m v : EReal) : EReal :=
  lit 0xBA83126F#32 * (Ideal.div (Ideal.div (first g m) (lit 0x3F26BD02#32))
    (Ideal.sqrt (Ideal.div (second g v) (lit 0x3C231ACC#32)) + lit 0x322BCC77#32) + lit 0x3C23D70A#32 * w)

variable {ι : Type}

/-- The three at every entry of the arrays of weight, gradient and moments. -/
def firsts (x : Fin 4 → ι → EReal) : ι → EReal := fun i => first (x 1 i) (x 2 i)
def seconds (x : Fin 4 → ι → EReal) : ι → EReal := fun i => second (x 1 i) (x 3 i)
def deltas (x : Fin 4 → ι → EReal) : ι → EReal := fun i => delta (x 0 i) (x 1 i) (x 2 i) (x 3 i)

end Cert.Adam

end
-- ==== Proof.AdaOpt.lean ====
/-
  The optimiser's call for w_ada: its three results, and that the reference's lines give the same.
-/
module

public import proofs.«01_k».proof.Proof.Gen.AdaOptIdeal.Frame
public import proofs.«01_k».proof.Proof.Gen.AdaOptRefIdeal.Run
public import proofs.«01_k».proof.Defs
public import proofs.«01_k».proof.Proof.OptMath

@[expose] public section

noncomputable section

namespace Cert.AdaOptIdeal.Own

open Cert.AdaOptIdeal Cert.AdaOptIdeal.Gen Idealize.ShloMosaic Idealize.ShloMosaic.TcCoe Idealize.SL.Sem Cert.Adam Cert.Prod

/-- The block that a point writes. -/
theorem block : ∀ t : Fin grid0.N, win0_4.index t 0 = t.val / 4 ∧ win0_4.index t 1 = t.val % 4 ∧ win0_4.index t 2 = 0
    ∧ win0_4.xsize (grid0.coords t) 0 = 1 ∧ win0_4.xsize (grid0.coords t) 1 = 256 ∧ win0_4.xsize (grid0.coords t) 2 = 1536 :=
  by decide +kernel

/-- Every entry lies in the block of one point. -/
theorem covered (i : S2x1024x1536.Idx) : ∃ t : Fin cfg0.N, i ∈ (win0_4.rect t).set := by
  have h0 : (i 0 : ℕ) < 2 := (i 0).isLt
  have h1 : (i 1 : ℕ) < 1024 := (i 1).isLt
  have h2 : (i 2 : ℕ) < 1536 := (i 2).isLt
  obtain ⟨t, ht⟩ : ∃ t : Fin cfg0.N, t.val = (i 0).val * 4 + (i 1).val / 256 := ⟨⟨_, lt_of_lt_of_eq (b := 8) (by omega) N_0.symm⟩, rfl⟩
  obtain ⟨e0, e1, e2, x0, x1, x2⟩ := block t
  refine ⟨t, Rect.mem_set_unit.2 fun a => ?_⟩
  match a with
  | ⟨0, _⟩ => show win0_4.index t 0 * 1 ≤ (i 0 : ℕ) ∧ (i 0 : ℕ) < win0_4.index t 0 * 1 + win0_4.xsize (grid0.coords t) 0; omega
  | ⟨1, _⟩ => show win0_4.index t 1 * 256 ≤ (i 1 : ℕ) ∧ (i 1 : ℕ) < win0_4.index t 1 * 256 + win0_4.xsize (grid0.coords t) 1; omega
  | ⟨2, _⟩ => show win0_4.index t 2 * 1536 ≤ (i 2 : ℕ) ∧ (i 2 : ℕ) < win0_4.index t 2 * 1536 + win0_4.xsize (grid0.coords t) 2; omega

variable (m : (ℓ : Loc nD τ sig) → Buf (Elt Ideal) ℓ) (c : Dev nD)

/-- The weight, its gradient and its two moments. -/
abbrev args : Fin 4 → S2x1024x1536.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S1x256x1536) hz3, View.ld_unit_zero (S := S1x256x1536) hz3]; rfl

/-- The reference runs without a fault, leaves its arguments as they are and ends with no semaphore raised. -/
theorem reference_frame : quiescent_AdaOptRefIdeal := fun m ρ _ =>
  (θ_run _ _ _).mono (fun r h => ⟨fun c => (h c).2.2.2, sem_eq_zero_of_no_sems (by decide) r.2⟩) (AdaOptRefIdeal.Value.run m ρ)

/-- Over the extended reals the kernel's three results and the reference's are equal. -/
theorem algebraic : algebraic_AdaOptIdeal_AdaOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (AdaOptRefIdeal.Value.run m' g')⟩
  all_goals simp only [(hargs c).1, (hargs c).2.1, (hargs c).2.2.1, (hargs c).2.2.2]; rfl

end Cert.AdaOptIdeal.Own

end
-- ==== Proof.AdaBOpt.lean ====
/-
  The optimiser's call for b_ada: its three results, and that the reference's lines give the same.
-/
module

public import proofs.«01_k».proof.Proof.Gen.AdaBOptIdeal.Frame
public import proofs.«01_k».proof.Proof.Gen.AdaBOptRefIdeal.Run
public import proofs.«01_k».proof.Defs
public import proofs.«01_k».proof.Proof.OptMath

@[expose] public section

noncomputable section

namespace Cert.AdaBOptIdeal.Own

open Cert.AdaBOptIdeal Cert.AdaBOptIdeal.Gen Idealize.ShloMosaic Idealize.ShloMosaic.TcCoe Idealize.SL.Sem Cert.Adam Cert.Prod

/-- The block that a point writes. -/
theorem block : ∀ t : Fin grid0.N, win0_4.index t 0 = 0 ∧ win0_4.index t 1 = 0
    ∧ win0_4.xsize (grid0.coords t) 0 = 2 ∧ win0_4.xsize (grid0.coords t) 1 = 6144 :=
  by decide +kernel

/-- Every entry lies in the block of one point. -/
theorem covered (i : S2x6144.Idx) : ∃ t : Fin cfg0.N, i ∈ (win0_4.rect t).set := by
  have h0 : (i 0 : ℕ) < 2 := (i 0).isLt
  have h1 : (i 1 : ℕ) < 6144 := (i 1).isLt
  obtain ⟨t, ht⟩ : ∃ t : Fin cfg0.N, t.val = 0 := ⟨⟨_, lt_of_lt_of_eq (b := 1) (by omega) N_0.symm⟩, rfl⟩
  obtain ⟨e0, e1, x0, x1⟩ := block t
  refine ⟨t, Rect.mem_set_unit.2 fun a => ?_⟩
  match a with
  | ⟨0, _⟩ => show win0_4.index t 0 * 2 ≤ (i 0 : ℕ) ∧ (i 0 : ℕ) < win0_4.index t 0 * 2 + win0_4.xsize (grid0.coords t) 0; omega
  | ⟨1, _⟩ => show win0_4.index t 1 * 6144 ≤ (i 1 : ℕ) ∧ (i 1 : ℕ) < win0_4.index t 1 * 6144 + win0_4.xsize (grid0.coords t) 1; omega

variable (m : (ℓ : Loc nD τ sig) → Buf (Elt Ideal) ℓ) (c : Dev nD)

/-- The weight, its gradient and its two moments. -/
abbrev args : Fin 4 → S2x6144.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S2x6144) hz2, View.ld_unit_zero (S := S2x6144) hz2]; rfl

/-- The reference runs without a fault, leaves its arguments as they are and ends with no semaphore raised. -/
theorem reference_frame : quiescent_AdaBOptRefIdeal := fun m ρ _ =>
  (θ_run _ _ _).mono (fun r h => ⟨fun c => (h c).2.2.2, sem_eq_zero_of_no_sems (by decide) r.2⟩) (AdaBOptRefIdeal.Value.run m ρ)

/-- Over the extended reals the kernel's three results and the reference's are equal. -/
theorem algebraic : algebraic_AdaBOptIdeal_AdaBOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (AdaBOptRefIdeal.Value.run m' g')⟩
  all_goals simp only [(hargs c).1, (hargs c).2.1, (hargs c).2.2.1, (hargs c).2.2.2]; rfl

end Cert.AdaBOptIdeal.Own

end
-- ==== Proof.InOpt.lean ====
/-
  The optimiser's call for w_in: its three results, and that the reference's lines give the same.
-/
module

public import proofs.«01_k».proof.Proof.Gen.InOptIdeal.Frame
public import proofs.«01_k».proof.Proof.Gen.InOptRefIdeal.Run
public import proofs.«01_k».proof.Defs
public import proofs.«01_k».proof.Proof.OptMath

@[expose] public section

noncomputable section

namespace Cert.InOptIdeal.Own

open Cert.InOptIdeal Cert.InOptIdeal.Gen Idealize.ShloMosaic Idealize.ShloMosaic.TcCoe Idealize.SL.Sem Cert.Adam Cert.Prod

/-- The block that a point writes. -/
theorem block : ∀ t : Fin grid0.N, win0_4.index t 0 = t.val / 4 ∧ win0_4.index t 1 = t.val % 4 ∧ win0_4.index t 2 = 0
    ∧ win0_4.xsize (grid0.coords t) 0 = 1 ∧ win0_4.xsize (grid0.coords t) 1 = 256 ∧ win0_4.xsize (grid0.coords t) 2 = 1154 :=
  by decide +kernel

/-- Every entry lies in the block of one point. -/
theorem covered (i : S2x1024x1154.Idx) : ∃ t : Fin cfg0.N, i ∈ (win0_4.rect t).set := by
  have h0 : (i 0 : ℕ) < 2 := (i 0).isLt
  have h1 : (i 1 : ℕ) < 1024 := (i 1).isLt
  have h2 : (i 2 : ℕ) < 1154 := (i 2).isLt
  obtain ⟨t, ht⟩ : ∃ t : Fin cfg0.N, t.val = (i 0).val * 4 + (i 1).val / 256 := ⟨⟨_, lt_of_lt_of_eq (b := 8) (by omega) N_0.symm⟩, rfl⟩
  obtain ⟨e0, e1, e2, x0, x1, x2⟩ := block t
  refine ⟨t, Rect.mem_set_unit.2 fun a => ?_⟩
  match a with
  | ⟨0, _⟩ => show win0_4.index t 0 * 1 ≤ (i 0 : ℕ) ∧ (i 0 : ℕ) < win0_4.index t 0 * 1 + win0_4.xsize (grid0.coords t) 0; omega
  | ⟨1, _⟩ => show win0_4.index t 1 * 256 ≤ (i 1 : ℕ) ∧ (i 1 : ℕ) < win0_4.index t 1 * 256 + win0_4.xsize (grid0.coords t) 1; omega
  | ⟨2, _⟩ => show win0_4.index t 2 * 1154 ≤ (i 2 : ℕ) ∧ (i 2 : ℕ) < win0_4.index t 2 * 1154 + win0_4.xsize (grid0.coords t) 2; omega

variable (m : (ℓ : Loc nD τ sig) → Buf (Elt Ideal) ℓ) (c : Dev nD)

/-- The weight, its gradient and its two moments. -/
abbrev args : Fin 4 → S2x1024x1154.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S1x256x1154) hz3, View.ld_unit_zero (S := S1x256x1154) hz3]; rfl

/-- The reference runs without a fault, leaves its arguments as they are and ends with no semaphore raised. -/
theorem reference_frame : quiescent_InOptRefIdeal := fun m ρ _ =>
  (θ_run _ _ _).mono (fun r h => ⟨fun c => (h c).2.2.2, sem_eq_zero_of_no_sems (by decide) r.2⟩) (InOptRefIdeal.Value.run m ρ)

/-- Over the extended reals the kernel's three results and the reference's are equal. -/
theorem algebraic : algebraic_InOptIdeal_InOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (InOptRefIdeal.Value.run m' g')⟩
  all_goals simp only [(hargs c).1, (hargs c).2.1, (hargs c).2.2.1, (hargs c).2.2.2]; rfl

end Cert.InOptIdeal.Own

end
-- ==== Proof.InBOpt.lean ====
/-
  The optimiser's call for b_in: its three results, and that the reference's lines give the same.
-/
module

public import proofs.«01_k».proof.Proof.Gen.InBOptIdeal.Frame
public import proofs.«01_k».proof.Proof.Gen.InBOptRefIdeal.Run
public import proofs.«01_k».proof.Defs
public import proofs.«01_k».proof.Proof.OptMath

@[expose] public section

noncomputable section

namespace Cert.InBOptIdeal.Own

open Cert.InBOptIdeal Cert.InBOptIdeal.Gen Idealize.ShloMosaic Idealize.ShloMosaic.TcCoe Idealize.SL.Sem Cert.Adam Cert.Prod

/-- The block that a point writes. -/
theorem block : ∀ t : Fin grid0.N, win0_4.index t 0 = 0 ∧ win0_4.index t 1 = 0
    ∧ win0_4.xsize (grid0.coords t) 0 = 2 ∧ win0_4.xsize (grid0.coords t) 1 = 4616 :=
  by decide +kernel

/-- Every entry lies in the block of one point. -/
theorem covered (i : S2x4616.Idx) : ∃ t : Fin cfg0.N, i ∈ (win0_4.rect t).set := by
  have h0 : (i 0 : ℕ) < 2 := (i 0).isLt
  have h1 : (i 1 : ℕ) < 4616 := (i 1).isLt
  obtain ⟨t, ht⟩ : ∃ t : Fin cfg0.N, t.val = 0 := ⟨⟨_, lt_of_lt_of_eq (b := 1) (by omega) N_0.symm⟩, rfl⟩
  obtain ⟨e0, e1, x0, x1⟩ := block t
  refine ⟨t, Rect.mem_set_unit.2 fun a => ?_⟩
  match a with
  | ⟨0, _⟩ => show win0_4.index t 0 * 2 ≤ (i 0 : ℕ) ∧ (i 0 : ℕ) < win0_4.index t 0 * 2 + win0_4.xsize (grid0.coords t) 0; omega
  | ⟨1, _⟩ => show win0_4.index t 1 * 4616 ≤ (i 1 : ℕ) ∧ (i 1 : ℕ) < win0_4.index t 1 * 4616 + win0_4.xsize (grid0.coords t) 1; omega

variable (m : (ℓ : Loc nD τ sig) → Buf (Elt Ideal) ℓ) (c : Dev nD)

/-- The weight, its gradient and its two moments. -/
abbrev args : Fin 4 → S2x4616.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S2x4616) hz2, View.ld_unit_zero (S := S2x4616) hz2]; rfl

/-- The reference runs without a fault, leaves its arguments as they are and ends with no semaphore raised. -/
theorem reference_frame : quiescent_InBOptRefIdeal := fun m ρ _ =>
  (θ_run _ _ _).mono (fun r h => ⟨fun c => (h c).2.2.2, sem_eq_zero_of_no_sems (by decide) r.2⟩) (InBOptRefIdeal.Value.run m ρ)

/-- Over the extended reals the kernel's three results and the reference's are equal. -/
theorem algebraic : algebraic_InBOptIdeal_InBOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (InBOptRefIdeal.Value.run m' g')⟩
  all_goals simp only [(hargs c).1, (hargs c).2.1, (hargs c).2.2.1, (hargs c).2.2.2]; rfl

end Cert.InBOptIdeal.Own

end
-- ==== Proof.ConvAOpt.lean ====
/-
  The optimiser's call for conv_a_w: its three results, and that the reference's lines give the same.
-/
module

public import proofs.«01_k».proof.Proof.Gen.ConvAOptIdeal.Frame
public import proofs.«01_k».proof.Proof.Gen.ConvAOptRefIdeal.Run
public import proofs.«01_k».proof.Defs
public import proofs.«01_k».proof.Proof.OptMath

@[expose] public section

noncomputable section

namespace Cert.ConvAOptIdeal.Own

open Cert.ConvAOptIdeal Cert.ConvAOptIdeal.Gen Idealize.ShloMosaic Idealize.ShloMosaic.TcCoe Idealize.SL.Sem Cert.Adam Cert.Prod

/-- The block that a point writes. -/
theorem block : ∀ t : Fin grid0.N, win0_4.index t 0 = t.val ∧ win0_4.index t 1 = 0 ∧ win0_4.index t 2 = 0
    ∧ win0_4.xsize (grid0.coords t) 0 = 1 ∧ win0_4.xsize (grid0.coords t) 1 = 31 ∧ win0_4.xsize (grid0.coords t) 2 = 128 :=
  by decide +kernel

/-- Every entry lies in the block of one point. -/
theorem covered (i : S2x31x128.Idx) : ∃ t : Fin cfg0.N, i ∈ (win0_4.rect t).set := by
  have h0 : (i 0 : ℕ) < 2 := (i 0).isLt
  have h1 : (i 1 : ℕ) < 31 := (i 1).isLt
  have h2 : (i 2 : ℕ) < 128 := (i 2).isLt
  obtain ⟨t, ht⟩ : ∃ t : Fin cfg0.N, t.val = (i 0).val := ⟨⟨_, lt_of_lt_of_eq (b := 2) (by omega) N_0.symm⟩, rfl⟩
  obtain ⟨e0, e1, e2, x0, x1, x2⟩ := block t
  refine ⟨t, Rect.mem_set_unit.2 fun a => ?_⟩
  match a with
  | ⟨0, _⟩ => show win0_4.index t 0 * 1 ≤ (i 0 : ℕ) ∧ (i 0 : ℕ) < win0_4.index t 0 * 1 + win0_4.xsize (grid0.coords t) 0; omega
  | ⟨1, _⟩ => show win0_4.index t 1 * 31 ≤ (i 1 : ℕ) ∧ (i 1 : ℕ) < win0_4.index t 1 * 31 + win0_4.xsize (grid0.coords t) 1; omega
  | ⟨2, _⟩ => show win0_4.index t 2 * 128 ≤ (i 2 : ℕ) ∧ (i 2 : ℕ) < win0_4.index t 2 * 128 + win0_4.xsize (grid0.coords t) 2; omega

variable (m : (ℓ : Loc nD τ sig) → Buf (Elt Ideal) ℓ) (c : Dev nD)

/-- The weight, its gradient and its two moments. -/
abbrev args : Fin 4 → S2x31x128.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S1x31x128) hz3, View.ld_unit_zero (S := S1x31x128) hz3]; rfl

/-- The reference runs without a fault, leaves its arguments as they are and ends with no semaphore raised. -/
theorem reference_frame : quiescent_ConvAOptRefIdeal := fun m ρ _ =>
  (θ_run _ _ _).mono (fun r h => ⟨fun c => (h c).2.2.2, sem_eq_zero_of_no_sems (by decide) r.2⟩) (ConvAOptRefIdeal.Value.run m ρ)

/-- Over the extended reals the kernel's three results and the reference's are equal. -/
theorem algebraic : algebraic_ConvAOptIdeal_ConvAOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (ConvAOptRefIdeal.Value.run m' g')⟩
  all_goals simp only [(hargs c).1, (hargs c).2.1, (hargs c).2.2.1, (hargs c).2.2.2]; rfl

end Cert.ConvAOptIdeal.Own

end
-- ==== Proof.ChOpt.lean ====
/-
  The optimiser's call for ln_conv_g: its three results, and that the reference's lines give the same.
-/
module

public import proofs.«01_k».proof.Proof.Gen.ChOptIdeal.Frame
public import proofs.«01_k».proof.Proof.Gen.ChOptRefIdeal.Run
public import proofs.«01_k».proof.Defs
public import proofs.«01_k».proof.Proof.OptMath

@[expose] public section

noncomputable section

namespace Cert.ChOptIdeal.Own

open Cert.ChOptIdeal Cert.ChOptIdeal.Gen Idealize.ShloMosaic Idealize.ShloMosaic.TcCoe Idealize.SL.Sem Cert.Adam Cert.Prod

/-- The block that a point writes. -/
theorem block : ∀ t : Fin grid0.N, win0_4.index t 0 = 0 ∧ win0_4.index t 1 = 0
    ∧ win0_4.xsize (grid0.coords t) 0 = 2 ∧ win0_4.xsize (grid0.coords t) 1 = 512 :=
  by decide +kernel

/-- Every entry lies in the block of one point. -/
theorem covered (i : S2x512.Idx) : ∃ t : Fin cfg0.N, i ∈ (win0_4.rect t).set := by
  have h0 : (i 0 : ℕ) < 2 := (i 0).isLt
  have h1 : (i 1 : ℕ) < 512 := (i 1).isLt
  obtain ⟨t, ht⟩ : ∃ t : Fin cfg0.N, t.val = 0 := ⟨⟨_, lt_of_lt_of_eq (b := 1) (by omega) N_0.symm⟩, rfl⟩
  obtain ⟨e0, e1, x0, x1⟩ := block t
  refine ⟨t, Rect.mem_set_unit.2 fun a => ?_⟩
  match a with
  | ⟨0, _⟩ => show win0_4.index t 0 * 2 ≤ (i 0 : ℕ) ∧ (i 0 : ℕ) < win0_4.index t 0 * 2 + win0_4.xsize (grid0.coords t) 0; omega
  | ⟨1, _⟩ => show win0_4.index t 1 * 512 ≤ (i 1 : ℕ) ∧ (i 1 : ℕ) < win0_4.index t 1 * 512 + win0_4.xsize (grid0.coords t) 1; omega

variable (m : (ℓ : Loc nD τ sig) → Buf (Elt Ideal) ℓ) (c : Dev nD)

/-- The weight, its gradient and its two moments. -/
abbrev args : Fin 4 → S2x512.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S2x512) hz2, View.ld_unit_zero (S := S2x512) hz2]; rfl

/-- The reference runs without a fault, leaves its arguments as they are and ends with no semaphore raised. -/
theorem reference_frame : quiescent_ChOptRefIdeal := fun m ρ _ =>
  (θ_run _ _ _).mono (fun r h => ⟨fun c => (h c).2.2.2, sem_eq_zero_of_no_sems (by decide) r.2⟩) (ChOptRefIdeal.Value.run m ρ)

/-- Over the extended reals the kernel's three results and the reference's are equal. -/
theorem algebraic : algebraic_ChOptIdeal_ChOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (ChOptRefIdeal.Value.run m' g')⟩
  all_goals simp only [(hargs c).1, (hargs c).2.1, (hargs c).2.2.1, (hargs c).2.2.2]; rfl

end Cert.ChOptIdeal.Own

end
-- ==== Proof.BranchOpt.lean ====
/-
  The optimiser's call for w_attn_proj: its three results, and that the reference's lines give the same.
-/
module

public import proofs.«01_k».proof.Proof.Gen.BranchOptIdeal.Frame
public import proofs.«01_k».proof.Proof.Gen.BranchOptRefIdeal.Run
public import proofs.«01_k».proof.Defs
public import proofs.«01_k».proof.Proof.OptMath

@[expose] public section

noncomputable section

namespace Cert.BranchOptIdeal.Own

open Cert.BranchOptIdeal Cert.BranchOptIdeal.Gen Idealize.ShloMosaic Idealize.ShloMosaic.TcCoe Idealize.SL.Sem Cert.Adam Cert.Prod

/-- The block that a point writes. -/
theorem block : ∀ t : Fin grid0.N, win0_4.index t 0 = t.val / 2 ∧ win0_4.index t 1 = t.val % 2 ∧ win0_4.index t 2 = 0
    ∧ win0_4.xsize (grid0.coords t) 0 = 1 ∧ win0_4.xsize (grid0.coords t) 1 = 256 ∧ win0_4.xsize (grid0.coords t) 2 = 256 :=
  by decide +kernel

/-- Every entry lies in the block of one point. -/
theorem covered (i : S2x512x256.Idx) : ∃ t : Fin cfg0.N, i ∈ (win0_4.rect t).set := by
  have h0 : (i 0 : ℕ) < 2 := (i 0).isLt
  have h1 : (i 1 : ℕ) < 512 := (i 1).isLt
  have h2 : (i 2 : ℕ) < 256 := (i 2).isLt
  obtain ⟨t, ht⟩ : ∃ t : Fin cfg0.N, t.val = (i 0).val * 2 + (i 1).val / 256 := ⟨⟨_, lt_of_lt_of_eq (b := 4) (by omega) N_0.symm⟩, rfl⟩
  obtain ⟨e0, e1, e2, x0, x1, x2⟩ := block t
  refine ⟨t, Rect.mem_set_unit.2 fun a => ?_⟩
  match a with
  | ⟨0, _⟩ => show win0_4.index t 0 * 1 ≤ (i 0 : ℕ) ∧ (i 0 : ℕ) < win0_4.index t 0 * 1 + win0_4.xsize (grid0.coords t) 0; omega
  | ⟨1, _⟩ => show win0_4.index t 1 * 256 ≤ (i 1 : ℕ) ∧ (i 1 : ℕ) < win0_4.index t 1 * 256 + win0_4.xsize (grid0.coords t) 1; omega
  | ⟨2, _⟩ => show win0_4.index t 2 * 256 ≤ (i 2 : ℕ) ∧ (i 2 : ℕ) < win0_4.index t 2 * 256 + win0_4.xsize (grid0.coords t) 2; omega

variable (m : (ℓ : Loc nD τ sig) → Buf (Elt Ideal) ℓ) (c : Dev nD)

/-- The weight, its gradient and its two moments. -/
abbrev args : Fin 4 → S2x512x256.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S1x256x256) hz3, View.ld_unit_zero (S := S1x256x256) hz3]; rfl

/-- The reference runs without a fault, leaves its arguments as they are and ends with no semaphore raised. -/
theorem reference_frame : quiescent_BranchOptRefIdeal := fun m ρ _ =>
  (θ_run _ _ _).mono (fun r h => ⟨fun c => (h c).2.2.2, sem_eq_zero_of_no_sems (by decide) r.2⟩) (BranchOptRefIdeal.Value.run m ρ)

/-- Over the extended reals the kernel's three results and the reference's are equal. -/
theorem algebraic : algebraic_BranchOptIdeal_BranchOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (BranchOptRefIdeal.Value.run m' g')⟩
  all_goals simp only [(hargs c).1, (hargs c).2.1, (hargs c).2.2.1, (hargs c).2.2.2]; rfl

end Cert.BranchOptIdeal.Own

end
-- ==== Proof.MixOutOpt.lean ====
/-
  The optimiser's call for w_mix_out: its three results, and that the reference's lines give the same.
-/
module

public import proofs.«01_k».proof.Proof.Gen.MixOutOptIdeal.Frame
public import proofs.«01_k».proof.Proof.Gen.MixOutOptRefIdeal.Run
public import proofs.«01_k».proof.Defs
public import proofs.«01_k».proof.Proof.OptMath

@[expose] public section

noncomputable section

namespace Cert.MixOutOptIdeal.Own

open Cert.MixOutOptIdeal Cert.MixOutOptIdeal.Gen Idealize.ShloMosaic Idealize.ShloMosaic.TcCoe Idealize.SL.Sem Cert.Adam Cert.Prod

/-- The block that a point writes. -/
theorem block : ∀ t : Fin grid0.N, win0_4.index t 0 = t.val ∧ win0_4.index t 1 = 0 ∧ win0_4.index t 2 = 0
    ∧ win0_4.xsize (grid0.coords t) 0 = 1 ∧ win0_4.xsize (grid0.coords t) 1 = 256 ∧ win0_4.xsize (grid0.coords t) 2 = 1024 :=
  by decide +kernel

/-- Every entry lies in the block of one point. -/
theorem covered (i : S2x256x1024.Idx) : ∃ t : Fin cfg0.N, i ∈ (win0_4.rect t).set := by
  have h0 : (i 0 : ℕ) < 2 := (i 0).isLt
  have h1 : (i 1 : ℕ) < 256 := (i 1).isLt
  have h2 : (i 2 : ℕ) < 1024 := (i 2).isLt
  obtain ⟨t, ht⟩ : ∃ t : Fin cfg0.N, t.val = (i 0).val := ⟨⟨_, lt_of_lt_of_eq (b := 2) (by omega) N_0.symm⟩, rfl⟩
  obtain ⟨e0, e1, e2, x0, x1, x2⟩ := block t
  refine ⟨t, Rect.mem_set_unit.2 fun a => ?_⟩
  match a with
  | ⟨0, _⟩ => show win0_4.index t 0 * 1 ≤ (i 0 : ℕ) ∧ (i 0 : ℕ) < win0_4.index t 0 * 1 + win0_4.xsize (grid0.coords t) 0; omega
  | ⟨1, _⟩ => show win0_4.index t 1 * 256 ≤ (i 1 : ℕ) ∧ (i 1 : ℕ) < win0_4.index t 1 * 256 + win0_4.xsize (grid0.coords t) 1; omega
  | ⟨2, _⟩ => show win0_4.index t 2 * 1024 ≤ (i 2 : ℕ) ∧ (i 2 : ℕ) < win0_4.index t 2 * 1024 + win0_4.xsize (grid0.coords t) 2; omega

variable (m : (ℓ : Loc nD τ sig) → Buf (Elt Ideal) ℓ) (c : Dev nD)

/-- The weight, its gradient and its two moments. -/
abbrev args : Fin 4 → S2x256x1024.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S1x256x1024) hz3, View.ld_unit_zero (S := S1x256x1024) hz3]; rfl

/-- The reference runs without a fault, leaves its arguments as they are and ends with no semaphore raised. -/
theorem reference_frame : quiescent_MixOutOptRefIdeal := fun m ρ _ =>
  (θ_run _ _ _).mono (fun r h => ⟨fun c => (h c).2.2.2, sem_eq_zero_of_no_sems (by decide) r.2⟩) (MixOutOptRefIdeal.Value.run m ρ)

/-- Over the extended reals the kernel's three results and the reference's are equal. -/
theorem algebraic : algebraic_MixOutOptIdeal_MixOutOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (MixOutOptRefIdeal.Value.run m' g')⟩
  all_goals simp only [(hargs c).1, (hargs c).2.1, (hargs c).2.2.1, (hargs c).2.2.2]; rfl

end Cert.MixOutOptIdeal.Own

end
-- ==== Proof.RowOpt.lean ====
/-
  The optimiser's call for ln1_g: its three results, and that the reference's lines give the same.
-/
module

public import proofs.«01_k».proof.Proof.Gen.RowOptIdeal.Frame
public import proofs.«01_k».proof.Proof.Gen.RowOptRefIdeal.Run
public import proofs.«01_k».proof.Defs
public import proofs.«01_k».proof.Proof.OptMath

@[expose] public section

noncomputable section

namespace Cert.RowOptIdeal.Own

open Cert.RowOptIdeal Cert.RowOptIdeal.Gen Idealize.ShloMosaic Idealize.ShloMosaic.TcCoe Idealize.SL.Sem Cert.Adam Cert.Prod

/-- The block that a point writes. -/
theorem block : ∀ t : Fin grid0.N, win0_4.index t 0 = 0 ∧ win0_4.index t 1 = 0
    ∧ win0_4.xsize (grid0.coords t) 0 = 2 ∧ win0_4.xsize (grid0.coords t) 1 = 1024 :=
  by decide +kernel

/-- Every entry lies in the block of one point. -/
theorem covered (i : S2x1024.Idx) : ∃ t : Fin cfg0.N, i ∈ (win0_4.rect t).set := by
  have h0 : (i 0 : ℕ) < 2 := (i 0).isLt
  have h1 : (i 1 : ℕ) < 1024 := (i 1).isLt
  obtain ⟨t, ht⟩ : ∃ t : Fin cfg0.N, t.val = 0 := ⟨⟨_, lt_of_lt_of_eq (b := 1) (by omega) N_0.symm⟩, rfl⟩
  obtain ⟨e0, e1, x0, x1⟩ := block t
  refine ⟨t, Rect.mem_set_unit.2 fun a => ?_⟩
  match a with
  | ⟨0, _⟩ => show win0_4.index t 0 * 2 ≤ (i 0 : ℕ) ∧ (i 0 : ℕ) < win0_4.index t 0 * 2 + win0_4.xsize (grid0.coords t) 0; omega
  | ⟨1, _⟩ => show win0_4.index t 1 * 1024 ≤ (i 1 : ℕ) ∧ (i 1 : ℕ) < win0_4.index t 1 * 1024 + win0_4.xsize (grid0.coords t) 1; omega

variable (m : (ℓ : Loc nD τ sig) → Buf (Elt Ideal) ℓ) (c : Dev nD)

/-- The weight, its gradient and its two moments. -/
abbrev args : Fin 4 → S2x1024.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S2x1024) hz2, View.ld_unit_zero (S := S2x1024) hz2]; rfl

/-- The reference runs without a fault, leaves its arguments as they are and ends with no semaphore raised. -/
theorem reference_frame : quiescent_RowOptRefIdeal := fun m ρ _ =>
  (θ_run _ _ _).mono (fun r h => ⟨fun c => (h c).2.2.2, sem_eq_zero_of_no_sems (by decide) r.2⟩) (RowOptRefIdeal.Value.run m ρ)

/-- Over the extended reals the kernel's three results and the reference's are equal. -/
theorem algebraic : algebraic_RowOptIdeal_RowOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (RowOptRefIdeal.Value.run m' g')⟩
  all_goals simp only [(hargs c).1, (hargs c).2.1, (hargs c).2.2.1, (hargs c).2.2.2]; rfl

end Cert.RowOptIdeal.Own

end
-- ==== Proof.FfnUpOpt.lean ====
/-
  The optimiser's call for w_ffn_up: its three results, and that the reference's lines give the same.
-/
module

public import proofs.«01_k».proof.Proof.Gen.FfnUpOptIdeal.Frame
public import proofs.«01_k».proof.Proof.Gen.FfnUpOptRefIdeal.Run
public import proofs.«01_k».proof.Defs
public import proofs.«01_k».proof.Proof.OptMath

@[expose] public section

noncomputable section

namespace Cert.FfnUpOptIdeal.Own

open Cert.FfnUpOptIdeal Cert.FfnUpOptIdeal.Gen Idealize.ShloMosaic Idealize.ShloMosaic.TcCoe Idealize.SL.Sem Cert.Adam Cert.Prod

/-- The block that a point writes. -/
theorem block : ∀ t : Fin grid0.N, win0_4.index t 0 = t.val / 4 ∧ win0_4.index t 1 = t.val % 4 ∧ win0_4.index t 2 = 0
    ∧ win0_4.xsize (grid0.coords t) 0 = 1 ∧ win0_4.xsize (grid0.coords t) 1 = 256 ∧ win0_4.xsize (grid0.coords t) 2 = 1408 :=
  by decide +kernel

/-- Every entry lies in the block of one point. -/
theorem covered (i : S2x1024x1408.Idx) : ∃ t : Fin cfg0.N, i ∈ (win0_4.rect t).set := by
  have h0 : (i 0 : ℕ) < 2 := (i 0).isLt
  have h1 : (i 1 : ℕ) < 1024 := (i 1).isLt
  have h2 : (i 2 : ℕ) < 1408 := (i 2).isLt
  obtain ⟨t, ht⟩ : ∃ t : Fin cfg0.N, t.val = (i 0).val * 4 + (i 1).val / 256 := ⟨⟨_, lt_of_lt_of_eq (b := 8) (by omega) N_0.symm⟩, rfl⟩
  obtain ⟨e0, e1, e2, x0, x1, x2⟩ := block t
  refine ⟨t, Rect.mem_set_unit.2 fun a => ?_⟩
  match a with
  | ⟨0, _⟩ => show win0_4.index t 0 * 1 ≤ (i 0 : ℕ) ∧ (i 0 : ℕ) < win0_4.index t 0 * 1 + win0_4.xsize (grid0.coords t) 0; omega
  | ⟨1, _⟩ => show win0_4.index t 1 * 256 ≤ (i 1 : ℕ) ∧ (i 1 : ℕ) < win0_4.index t 1 * 256 + win0_4.xsize (grid0.coords t) 1; omega
  | ⟨2, _⟩ => show win0_4.index t 2 * 1408 ≤ (i 2 : ℕ) ∧ (i 2 : ℕ) < win0_4.index t 2 * 1408 + win0_4.xsize (grid0.coords t) 2; omega

variable (m : (ℓ : Loc nD τ sig) → Buf (Elt Ideal) ℓ) (c : Dev nD)

/-- The weight, its gradient and its two moments. -/
abbrev args : Fin 4 → S2x1024x1408.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S1x256x1408) hz3, View.ld_unit_zero (S := S1x256x1408) hz3]; rfl

/-- The reference runs without a fault, leaves its arguments as they are and ends with no semaphore raised. -/
theorem reference_frame : quiescent_FfnUpOptRefIdeal := fun m ρ _ =>
  (θ_run _ _ _).mono (fun r h => ⟨fun c => (h c).2.2.2, sem_eq_zero_of_no_sems (by decide) r.2⟩) (FfnUpOptRefIdeal.Value.run m ρ)

/-- Over the extended reals the kernel's three results and the reference's are equal. -/
theorem algebraic : algebraic_FfnUpOptIdeal_FfnUpOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (FfnUpOptRefIdeal.Value.run m' g')⟩
  all_goals simp only [(hargs c).1, (hargs c).2.1, (hargs c).2.2.1, (hargs c).2.2.2]; rfl

end Cert.FfnUpOptIdeal.Own

end
-- ==== Proof.FfnConvOpt.lean ====
/-
  The optimiser's call for ffn_conv_w: its three results, and that the reference's lines give the same.
-/
module

public import proofs.«01_k».proof.Proof.Gen.FfnConvOptIdeal.Frame
public import proofs.«01_k».proof.Proof.Gen.FfnConvOptRefIdeal.Run
public import proofs.«01_k».proof.Defs
public import proofs.«01_k».proof.Proof.OptMath

@[expose] public section

noncomputable section

namespace Cert.FfnConvOptIdeal.Own

open Cert.FfnConvOptIdeal Cert.FfnConvOptIdeal.Gen Idealize.ShloMosaic Idealize.ShloMosaic.TcCoe Idealize.SL.Sem Cert.Adam Cert.Prod

/-- The block that a point writes. -/
theorem block : ∀ t : Fin grid0.N, win0_4.index t 0 = t.val ∧ win0_4.index t 1 = 0 ∧ win0_4.index t 2 = 0
    ∧ win0_4.xsize (grid0.coords t) 0 = 1 ∧ win0_4.xsize (grid0.coords t) 1 = 3 ∧ win0_4.xsize (grid0.coords t) 2 = 1408 :=
  by decide +kernel

/-- Every entry lies in the block of one point. -/
theorem covered (i : S2x3x1408.Idx) : ∃ t : Fin cfg0.N, i ∈ (win0_4.rect t).set := by
  have h0 : (i 0 : ℕ) < 2 := (i 0).isLt
  have h1 : (i 1 : ℕ) < 3 := (i 1).isLt
  have h2 : (i 2 : ℕ) < 1408 := (i 2).isLt
  obtain ⟨t, ht⟩ : ∃ t : Fin cfg0.N, t.val = (i 0).val := ⟨⟨_, lt_of_lt_of_eq (b := 2) (by omega) N_0.symm⟩, rfl⟩
  obtain ⟨e0, e1, e2, x0, x1, x2⟩ := block t
  refine ⟨t, Rect.mem_set_unit.2 fun a => ?_⟩
  match a with
  | ⟨0, _⟩ => show win0_4.index t 0 * 1 ≤ (i 0 : ℕ) ∧ (i 0 : ℕ) < win0_4.index t 0 * 1 + win0_4.xsize (grid0.coords t) 0; omega
  | ⟨1, _⟩ => show win0_4.index t 1 * 3 ≤ (i 1 : ℕ) ∧ (i 1 : ℕ) < win0_4.index t 1 * 3 + win0_4.xsize (grid0.coords t) 1; omega
  | ⟨2, _⟩ => show win0_4.index t 2 * 1408 ≤ (i 2 : ℕ) ∧ (i 2 : ℕ) < win0_4.index t 2 * 1408 + win0_4.xsize (grid0.coords t) 2; omega

variable (m : (ℓ : Loc nD τ sig) → Buf (Elt Ideal) ℓ) (c : Dev nD)

/-- The weight, its gradient and its two moments. -/
abbrev args : Fin 4 → S2x3x1408.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S1x3x1408) hz3, View.ld_unit_zero (S := S1x3x1408) hz3]; rfl

/-- The reference runs without a fault, leaves its arguments as they are and ends with no semaphore raised. -/
theorem reference_frame : quiescent_FfnConvOptRefIdeal := fun m ρ _ =>
  (θ_run _ _ _).mono (fun r h => ⟨fun c => (h c).2.2.2, sem_eq_zero_of_no_sems (by decide) r.2⟩) (FfnConvOptRefIdeal.Value.run m ρ)

/-- Over the extended reals the kernel's three results and the reference's are equal. -/
theorem algebraic : algebraic_FfnConvOptIdeal_FfnConvOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (FfnConvOptRefIdeal.Value.run m' g')⟩
  all_goals simp only [(hargs c).1, (hargs c).2.1, (hargs c).2.2.1, (hargs c).2.2.2]; rfl

end Cert.FfnConvOptIdeal.Own

end
-- ==== Proof.FfnConvBOpt.lean ====
/-
  The optimiser's call for ffn_conv_b: its three results, and that the reference's lines give the same.
-/
module

public import proofs.«01_k».proof.Proof.Gen.FfnConvBOptIdeal.Frame
public import proofs.«01_k».proof.Proof.Gen.FfnConvBOptRefIdeal.Run
public import proofs.«01_k».proof.Defs
public import proofs.«01_k».proof.Proof.OptMath

@[expose] public section

noncomputable section

namespace Cert.FfnConvBOptIdeal.Own

open Cert.FfnConvBOptIdeal Cert.FfnConvBOptIdeal.Gen Idealize.ShloMosaic Idealize.ShloMosaic.TcCoe Idealize.SL.Sem Cert.Adam Cert.Prod

/-- The block that a point writes. -/
theorem block : ∀ t : Fin grid0.N, win0_4.index t 0 = 0 ∧ win0_4.index t 1 = 0
    ∧ win0_4.xsize (grid0.coords t) 0 = 2 ∧ win0_4.xsize (grid0.coords t) 1 = 5632 :=
  by decide +kernel

/-- Every entry lies in the block of one point. -/
theorem covered (i : S2x5632.Idx) : ∃ t : Fin cfg0.N, i ∈ (win0_4.rect t).set := by
  have h0 : (i 0 : ℕ) < 2 := (i 0).isLt
  have h1 : (i 1 : ℕ) < 5632 := (i 1).isLt
  obtain ⟨t, ht⟩ : ∃ t : Fin cfg0.N, t.val = 0 := ⟨⟨_, lt_of_lt_of_eq (b := 1) (by omega) N_0.symm⟩, rfl⟩
  obtain ⟨e0, e1, x0, x1⟩ := block t
  refine ⟨t, Rect.mem_set_unit.2 fun a => ?_⟩
  match a with
  | ⟨0, _⟩ => show win0_4.index t 0 * 2 ≤ (i 0 : ℕ) ∧ (i 0 : ℕ) < win0_4.index t 0 * 2 + win0_4.xsize (grid0.coords t) 0; omega
  | ⟨1, _⟩ => show win0_4.index t 1 * 5632 ≤ (i 1 : ℕ) ∧ (i 1 : ℕ) < win0_4.index t 1 * 5632 + win0_4.xsize (grid0.coords t) 1; omega

variable (m : (ℓ : Loc nD τ sig) → Buf (Elt Ideal) ℓ) (c : Dev nD)

/-- The weight, its gradient and its two moments. -/
abbrev args : Fin 4 → S2x5632.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S2x5632) hz2, View.ld_unit_zero (S := S2x5632) hz2]; rfl

/-- The reference runs without a fault, leaves its arguments as they are and ends with no semaphore raised. -/
theorem reference_frame : quiescent_FfnConvBOptRefIdeal := fun m ρ _ =>
  (θ_run _ _ _).mono (fun r h => ⟨fun c => (h c).2.2.2, sem_eq_zero_of_no_sems (by decide) r.2⟩) (FfnConvBOptRefIdeal.Value.run m ρ)

/-- Over the extended reals the kernel's three results and the reference's are equal. -/
theorem algebraic : algebraic_FfnConvBOptIdeal_FfnConvBOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (FfnConvBOptRefIdeal.Value.run m' g')⟩
  all_goals simp only [(hargs c).1, (hargs c).2.1, (hargs c).2.2.1, (hargs c).2.2.2]; rfl

end Cert.FfnConvBOptIdeal.Own

end
-- ==== Proof.FfnDownOpt.lean ====
/-
  The optimiser's call for w_ffn_down: its three results, and that the reference's lines give the same.
-/
module

public import proofs.«01_k».proof.Proof.Gen.FfnDownOptIdeal.Frame
public import proofs.«01_k».proof.Proof.Gen.FfnDownOptRefIdeal.Run
public import proofs.«01_k».proof.Defs
public import proofs.«01_k».proof.Proof.OptMath

@[expose] public section

noncomputable section

namespace Cert.FfnDownOptIdeal.Own

open Cert.FfnDownOptIdeal Cert.FfnDownOptIdeal.Gen Idealize.ShloMosaic Idealize.ShloMosaic.TcCoe Idealize.SL.Sem Cert.Adam Cert.Prod

/-- The block that a point writes. -/
theorem block : ∀ t : Fin grid0.N, win0_4.index t 0 = t.val / 2 ∧ win0_4.index t 1 = t.val % 2 ∧ win0_4.index t 2 = 0
    ∧ win0_4.xsize (grid0.coords t) 0 = 1 ∧ win0_4.xsize (grid0.coords t) 1 = 352 ∧ win0_4.xsize (grid0.coords t) 2 = 1024 :=
  by decide +kernel

/-- Every entry lies in the block of one point. -/
theorem covered (i : S2x704x1024.Idx) : ∃ t : Fin cfg0.N, i ∈ (win0_4.rect t).set := by
  have h0 : (i 0 : ℕ) < 2 := (i 0).isLt
  have h1 : (i 1 : ℕ) < 704 := (i 1).isLt
  have h2 : (i 2 : ℕ) < 1024 := (i 2).isLt
  obtain ⟨t, ht⟩ : ∃ t : Fin cfg0.N, t.val = (i 0).val * 2 + (i 1).val / 352 := ⟨⟨_, lt_of_lt_of_eq (b := 4) (by omega) N_0.symm⟩, rfl⟩
  obtain ⟨e0, e1, e2, x0, x1, x2⟩ := block t
  refine ⟨t, Rect.mem_set_unit.2 fun a => ?_⟩
  match a with
  | ⟨0, _⟩ => show win0_4.index t 0 * 1 ≤ (i 0 : ℕ) ∧ (i 0 : ℕ) < win0_4.index t 0 * 1 + win0_4.xsize (grid0.coords t) 0; omega
  | ⟨1, _⟩ => show win0_4.index t 1 * 352 ≤ (i 1 : ℕ) ∧ (i 1 : ℕ) < win0_4.index t 1 * 352 + win0_4.xsize (grid0.coords t) 1; omega
  | ⟨2, _⟩ => show win0_4.index t 2 * 1024 ≤ (i 2 : ℕ) ∧ (i 2 : ℕ) < win0_4.index t 2 * 1024 + win0_4.xsize (grid0.coords t) 2; omega

variable (m : (ℓ : Loc nD τ sig) → Buf (Elt Ideal) ℓ) (c : Dev nD)

/-- The weight, its gradient and its two moments. -/
abbrev args : Fin 4 → S2x704x1024.Idx → EReal :=
  ![m ((c : Thread nD τ).loc main_arg0), m ((c : Thread nD τ).loc main_arg1), m ((c : Thread nD τ).loc main_arg2), m ((c : Thread nD τ).loc main_arg3)]

/-- The three arrays after the last point: at every entry the formula of the arguments' entries. -/
theorem final : (dats m 0 c).arrAt 4 cfg0.N = deltas (args m c) ∧ (dats m 0 c).arrAt 5 cfg0.N = firsts (args m c)
    ∧ (dats m 0 c).arrAt 6 cfg0.N = seconds (args m c) := by
  refine ⟨(dats m 0 c).arrAt_eq_of_cover 4 _ (fun t _ => ?_) fun i => (covered i).imp fun t h =>
    ⟨flush0_4 t, (congrArg (i ∈ ·) (View.set_slice_whole main_v0_0 (win0_4.rect t))).mpr h⟩,
    (dats m 0 c).arrAt_eq_of_cover 5 _ (fun t _ => ?_) fun i => (covered i).imp fun t h =>
    ⟨flush0_5 t, (congrArg (i ∈ ·) (View.set_slice_whole main_v0_1 (win0_5.rect t))).mpr h⟩,
    (dats m 0 c).arrAt_eq_of_cover 6 _ (fun t _ => ?_) fun i => (covered i).imp fun t h =>
    ⟨flush0_6 t, (congrArg (i ∈ ·) (View.set_slice_whole main_v0_2 (win0_6.rect t))).mpr h⟩⟩
  all_goals simp only [Pipeline.Dat.flushed, after0_4, after0_5, after0_6, out0_4, out0_5, out0_6, View.canon_unit_zero (S := S1x352x1024) hz3, View.ld_unit_zero (S := S1x352x1024) hz3]; rfl

/-- The reference runs without a fault, leaves its arguments as they are and ends with no semaphore raised. -/
theorem reference_frame : quiescent_FfnDownOptRefIdeal := fun m ρ _ =>
  (θ_run _ _ _).mono (fun r h => ⟨fun c => (h c).2.2.2, sem_eq_zero_of_no_sems (by decide) r.2⟩) (FfnDownOptRefIdeal.Value.run m ρ)

/-- Over the extended reals the kernel's three results and the reference's are equal. -/
theorem algebraic : algebraic_FfnDownOptIdeal_FfnDownOptRefIdeal := by
  intro m g m' g' _ hargs
  refine ⟨fun c => deltas (args m c), fun c => firsts (args m c), fun c => seconds (args m c),
    (θ_run _ _ _).mono (fun _ h c => ⟨((h c).1 4).trans (final m c).1, ((h c).1 5).trans (final m c).2.1, ((h c).1 6).trans (final m c).2.2,
      ((h c).1 0).trans ((dats m 0 c).arrAt_in 0 rfl _), ((h c).1 1).trans ((dats m 0 c).arrAt_in 1 rfl _),
      ((h c).1 2).trans ((dats m 0 c).arrAt_in 2 rfl _), ((h c).1 3).trans ((dats m 0 c).arrAt_in 3 rfl _)⟩) (run_main m g),
    (θ_run _ _ _).mono (fun _ h c => ⟨(h c).1.trans ?_, (h c).2.1.trans ?_, (h c).2.2.1.trans ?_, (h c).2.2.2⟩)
      (FfnDownOptRefIdeal.Value.run m' g')⟩
  all_goals simp only [(hargs c).1, (hargs c).2.1, (hargs c).2.2.1, (hargs c).2.2.2]; rfl

end Cert.FfnDownOptIdeal.Own

end
-- ==== Proof.AdaDwGrad.lean ====
/-
  The gradient of one layer's conditioning weight: the kernel's result, and that the reference's is the same over the
  extended reals.
-/
module

public import proofs.«01_k».proof.Proof.Gen.AdaDwIdeal.Frame
public import proofs.«01_k».proof.Proof.Gen.AdaDwRefIdeal.Read
public import proofs.«01_k».proof.Defs
public import proofs.«01_k».proof.Proof.ProdMath

@[expose] public section

noncomputable section

namespace Cert.AdaDwIdeal.Own

open Cert.AdaDwIdeal Cert.AdaDwIdeal.Gen Idealize.ShloMosaic Idealize.ShloMosaic.TcCoe Idealize.SL.Sem
open Idealize.ShloMosaic.ValueIdx Cert.Prod

/-- The only point reads and writes whole arrays. -/
theorem whole : ∀ t : Fin grid0.N, (win0_0.index t 0 = 0 ∧ win0_0.index t 1 = 0) ∧ (win0_1.index t 0 = 0 ∧ win0_1.index t 1 = 0)
    ∧ win0_2.index t 0 = 0 ∧ win0_2.index t 1 = 0 ∧ win0_2.xsize (grid0.coords t) 0 = 1024 ∧ win0_2.xsize (grid0.coords t) 1 = 1536 :=
  by decide +kernel

variable (m : (ℓ : Loc nD τ sig) → Buf (Elt Ideal) ℓ) (c : Dev nD)

/-- The conditioning rows and the gradient of their product. -/
abbrev aArr : S32x1024.Idx → EReal := m ((c : Thread nD τ).loc main_arg0)
abbrev bArr : S32x1536.Idx → EReal := m ((c : Thread nD τ).loc main_arg1)

theorem iblk0_eq (t : Fin cfg0.N) : (iblk m c 0 t : Vec Ideal S32x1024 .f32) = aArr m c := by
  obtain ⟨⟨h0, h1⟩, -⟩ := whole t
  funext j
  refine congrArg (aArr m c) (funext fun a => Fin.ext ?_)
  match a with
  | ⟨0, _⟩ => show win0_0.index t 0 * 32 + 1 * (j 0).val = (j 0).val; omega
  | ⟨1, _⟩ => show win0_0.index t 1 * 1024 + 1 * (j 1).val = (j 1).val; omega

theorem iblk1_eq (t : Fin cfg0.N) : (iblk m c 1 t : Vec Ideal S32x1536 .f32) = bArr m c := by
  obtain ⟨-, ⟨h0, h1⟩, -⟩ := whole t
  funext j
  refine congrArg (bArr m c) (funext fun a => Fin.ext ?_)
  match a with
  | ⟨0, _⟩ => show win0_1.index t 0 * 32 + 1 * (j 0).val = (j 0).val; omega
  | ⟨1, _⟩ => show win0_1.index t 1 * 1536 + 1 * (j 1).val = (j 1).val; omega

/-- Every entry the sum of products over the conditioning rows. -/
def result (A : S32x1024.Idx → EReal) (B : S32x1536.Idx → EReal) : S1024x1536.Idx → EReal :=
  fun i => ∑ k : Fin 32, A (ix2 k (i 0)) * B (ix2 k (i 1))

/-- The product of the staged arrays. -/
theorem product (A : S32x1024.Idx → EReal) (B : S32x1536.Idx → EReal) : k0_pay1 (F := Ideal) A B = result A B := by
  have hdot : dot_S32x1024_S32x1536_S1024x1536_0_0_1_1_n_n = lhsTransposed 1024 32 1536 := rfl
  funext j
  obtain ⟨r, q, rfl⟩ : ∃ (r : Fin 1024) (q : Fin 1536), j = ix2 r q := ⟨j 0, j 1, eq_ix2 (n0 := 1024) (n1 := 1536) j⟩
  unfold k0_pay1
  simp only [matmul, hdot, lhsTransposed_apply, constant_apply, Ideal.ofBits_zero_f32, zero_add]
  rfl

theorem final : (dats m 0 c).arrAt 2 cfg0.N = result (aArr m c) (bArr m c) := by
  refine (dats m 0 c).arrAt_eq_of_cover 2 _ (fun t _ => ?_) fun i => ⟨⟨0, lt_of_lt_of_eq (b := 1) (by omega) N_0.symm⟩, flush0_2 _,
    (congrArg (i ∈ ·) (View.set_slice_whole main_v0 (win0_2.rect _))).mpr (Rect.mem_set_unit.2 fun a => ?_)⟩
  · obtain ⟨-, -, h0, h1, -, -⟩ := whole t
    simp only [Pipeline.Dat.flushed, after0_2, out0_2, View.canon_unit_zero (S := S1024x1536) hz2, View.ld_unit_zero (S := S32x1024) hz2, View.ld_unit_zero (S := S32x1536) hz2]
    rw [iblk0_eq, iblk1_eq, product]
    funext j
    refine congrArg (result (aArr m c) (bArr m c)) (funext fun a => Fin.ext ?_)
    match a with
    | ⟨0, _⟩ => show (j 0).val = win0_2.index t 0 * 1024 + 1 * (j 0).val; omega
    | ⟨1, _⟩ => show (j 1).val = win0_2.index t 1 * 1536 + 1 * (j 1).val; omega
  · have h0 : (i 0 : ℕ) < 1024 := (i 0).isLt
    have h1 : (i 1 : ℕ) < 1536 := (i 1).isLt
    obtain ⟨-, -, e0, e1, x0, x1⟩ := whole ⟨0, lt_of_lt_of_eq (b := 1) (by omega) N_0.symm⟩
    match a with
    | ⟨0, _⟩ => show win0_2.index _ 0 * 1024 ≤ (i 0 : ℕ) ∧ (i 0 : ℕ) < win0_2.index _ 0 * 1024 + win0_2.xsize (grid0.coords _) 0; omega
    | ⟨1, _⟩ => show win0_2.index _ 1 * 1536 ≤ (i 1 : ℕ) ∧ (i 1 : ℕ) < win0_2.index _ 1 * 1536 + win0_2.xsize (grid0.coords _) 1; omega

open AdaDwRefIdeal.Read

/-- The reference's result is the same sum of products. -/
theorem value (A : S32x1024.Idx → EReal) (B : S32x1536.Idx → EReal) : (val_main_v3 (F := Ideal) A B : S1024x1536.Idx → EReal) = result A B := by
  funext i
  simp only [val_main_v3_apply, val_main_v2_apply]
  exact Finset.sum_congr rfl fun k _ => (mul_comm _ _).trans (congrArg₂ (fun a b : EReal => a * b)
    (congrArg A (eq_ix2 (n0 := 32) (n1 := 1024) _)) (congrArg B (eq_ix2 (n0 := 32) (n1 := 1536) _)))

/-- The reference runs without a fault, leaves its arguments as they are and ends with no semaphore raised. -/
theorem reference_frame : quiescent_AdaDwRefIdeal := fun m ρ _ =>
  (θ_run _ _ _).mono (fun r h => ⟨fun c => (h c).2, sem_eq_zero_of_no_sems (by decide) r.2⟩) (AdaDwRefIdeal.Value.run m ρ)

/-- Over the extended reals the kernel's result and the reference's are equal. -/
theorem algebraic : algebraic_AdaDwIdeal_AdaDwRefIdeal := by
  intro m g m' g' _ hargs
  refine ⟨fun c => result (aArr m c) (bArr m c), (θ_run _ _ _).mono (fun _ h c => ⟨((h c).1 2).trans (final m c),
    ((h c).1 0).trans ((dats m 0 c).arrAt_in 0 rfl _), ((h c).1 1).trans ((dats m 0 c).arrAt_in 1 rfl _)⟩) (run_main m g),
    (θ_run _ _ _).mono (fun _ h c => ⟨(h c).1.trans ?_, (h c).2⟩) (AdaDwRefIdeal.Value.run m' g')⟩
  rw [val_main_v3_eq, (hargs c).1, (hargs c).2]
  exact value _ _

end Cert.AdaDwIdeal.Own

end
-- ==== Proof.AdaDbGrad.lean ====
/-
  The gradient of one layer's conditioning bias: the kernel's result, and that the reference's is the same over the
  extended reals.
-/
module

public import proofs.«01_k».proof.Proof.Gen.AdaDbIdeal.Frame
public import proofs.«01_k».proof.Proof.Gen.AdaDbRefIdeal.Read
public import proofs.«01_k».proof.Defs
public import proofs.«01_k».proof.Proof.ProdMath
public import Idealize.ShloMosaic.Lib.Pointwise.Reduce

@[expose] public section

noncomputable section

namespace Cert.AdaDbIdeal.Own

open Cert.AdaDbIdeal Cert.AdaDbIdeal.Gen Idealize.ShloMosaic.TcCoe Idealize.SL.Sem
open Idealize.ShloMosaic hiding ix1 ix2 ix3 eq_ix1 eq_ix2 eq_ix3
open Idealize.ShloMosaic.ValueIdx Cert.Prod

/-- The blocks that a point reads and writes. -/
theorem block : ∀ t : Fin grid0.N, (win0_0.index t 0 = 0 ∧ win0_0.index t 1 = t.val) ∧ win0_1.index t 0 = 0 ∧ win0_1.index t 1 = t.val
    ∧ win0_1.xsize (grid0.coords t) 0 = 1 ∧ win0_1.xsize (grid0.coords t) 1 = 512 :=
  by decide +kernel

variable (m : (ℓ : Loc nD τ sig) → Buf (Elt Ideal) ℓ) (c : Dev nD)

/-- The argument array, and the sums of an array's columns. -/
abbrev arr : S32x6144.Idx → EReal := m ((c : Thread nD τ).loc main_arg0)
def sums (B : S32x6144.Idx → EReal) : S1x6144.Idx → EReal := fun i => ∑ k : Fin 32, B (ix2 k (i 1))

/-- The block of the argument that a point reads. -/
abbrev staged (t : Fin cfg0.N) : S32x512.Idx → EReal := iblk m c 0 t

/-- The column sums that a point leaves. -/
theorem left (t : Fin cfg0.N) (q : Fin 512) : outsAt0 m c t (ix2 0 q) = ∑ k : Fin 32, staged m c t (ix2 k q) := by
  unfold outsAt0 out0_A_1
  rw [View.read_writes_eq_canon _ _ _ (cover0_A_1 _ _ _ _ _ _ _ _)]
  unfold kernelRun0_A
  dsimp only
  sl_unfold_words
  rw [View.canon_cons_unit_zero (S := S1x512) hz2]
  simp only [View.readCov_unit_zero (S := S1x512) _ hz2, View.readAt_eq_ld, (hs0_0 t).read_unread,
    View.ld_unit_zero (S := S32x512) hz2, View.ld_unit_zero (S := S1x512) hz2, k0_pay2, k0_pay1, addf_apply, shapeCast_self]
  rw [shapeCast_apply _ shapeCasts_S512_S1x512 (ix2 0 q) (ix1 q) (by rw [Shape.rowMajor_val_one, Shape.rowMajor_val_two]; simp)]
  exact (congrArg₂ (fun a b : EReal => a + b) Ideal.ofBits_zero_f32 (Ideal.reduceAdd_r2_a0 _ _ _)).trans (zero_add _)

theorem final : (dats m 0 c).arrAt 1 cfg0.N = sums (arr m c) := by
  refine (dats m 0 c).arrAt_eq_of_cover 1 _ (fun t _ => ?_) fun i => ?_
  · obtain ⟨⟨h0, h1⟩, e0, e1, -⟩ := block t
    unfold Pipeline.Dat.flushed
    rw [after0_1]
    funext j
    obtain ⟨r, q, rfl⟩ : ∃ (r : Fin 1) (q : Fin 512), j = ix2 r q := ⟨j 0, j 1, eq_ix2 (n0 := 1) (n1 := 512) j⟩
    obtain rfl : r = 0 := Subsingleton.elim _ _
    rw [View.read_apply]
    refine (left m c t q).trans (show _ = sums (arr m c) _ from Finset.sum_congr rfl fun k _ => congrArg (arr m c) (funext fun a => Fin.ext ?_))
    match a with
    | ⟨0, _⟩ => show win0_0.index t 0 * 32 + 1 * k.val = k.val; omega
    | ⟨1, _⟩ => show win0_0.index t 1 * 512 + 1 * q.val = win0_1.index t 1 * 512 + 1 * q.val; omega
  · have h0 : (i 0 : ℕ) < 1 := (i 0).isLt
    have h1 : (i 1 : ℕ) < 6144 := (i 1).isLt
    obtain ⟨t, ht⟩ : ∃ t : Fin cfg0.N, t.val = (i 1).val / 512 := ⟨⟨_, lt_of_lt_of_eq (b := 12) (by omega) N_0.symm⟩, rfl⟩
    obtain ⟨-, e0, e1, x0, x1⟩ := block t
    refine ⟨t, flush0_1 t, (congrArg (i ∈ ·) (View.set_slice_whole main_v0 (win0_1.rect t))).mpr (Rect.mem_set_unit.2 fun a => ?_)⟩
    match a with
    | ⟨0, _⟩ => show win0_1.index t 0 * 1 ≤ (i 0 : ℕ) ∧ (i 0 : ℕ) < win0_1.index t 0 * 1 + win0_1.xsize (grid0.coords t) 0; omega
    | ⟨1, _⟩ => show win0_1.index t 1 * 512 ≤ (i 1 : ℕ) ∧ (i 1 : ℕ) < win0_1.index t 1 * 512 + win0_1.xsize (grid0.coords t) 1; omega

open AdaDbRefIdeal.Read

/-- The reference's result is the same sum. -/
theorem value (B : S32x6144.Idx → EReal) : (val_main_v5 (F := Ideal) B : S1x6144.Idx → EReal) = sums B := by
  funext i
  have h0 : (i 0).val < 1 := (i 0).isLt
  simp only [val_main_v5_apply, val_main_v4_apply, val_main_cst_1_apply]
  refine (congrArg (fun z : EReal => z + _) Ideal.ofBits_zero_f32).trans ((zero_add _).trans (Finset.sum_congr rfl fun k _ => congrArg B (funext fun a => Fin.ext ?_)))
  match a with
  | ⟨0, _⟩ => rfl
  | ⟨1, _⟩ => show (i 0).val * 6144 + (i 1).val = (i 1).val; omega

/-- The reference runs without a fault, leaves its argument as it is and ends with no semaphore raised. -/
theorem reference_frame : quiescent_AdaDbRefIdeal := fun m ρ _ =>
  (θ_run _ _ _).mono (fun r h => ⟨fun c => (h c).2, sem_eq_zero_of_no_sems (by decide) r.2⟩) (AdaDbRefIdeal.Value.run m ρ)

/-- Over the extended reals the kernel's result and the reference's are equal. -/
theorem algebraic : algebraic_AdaDbIdeal_AdaDbRefIdeal := by
  intro m g m' g' _ hargs
  refine ⟨fun c => sums (arr m c), (θ_run _ _ _).mono (fun _ h c => ⟨((h c).1 1).trans (final m c),
    ((h c).1 0).trans ((dats m 0 c).arrAt_in 0 rfl _)⟩) (run_main m g),
    (θ_run _ _ _).mono (fun _ h c => ⟨(h c).1.trans ?_, (h c).2⟩) (AdaDbRefIdeal.Value.run m' g')⟩
  rw [val_main_v5_eq, hargs c]
  exact value _

end Cert.AdaDbIdeal.Own

end
-- ==== Proof.SmallSum.lean ====
/-
  The sum over the devices of what they gathered: the kernel's result, and that the reference's is the same over the
  extended reals.
-/
module

public import proofs.«01_k».proof.Proof.Gen.SumSmallIdeal.Frame
public import proofs.«01_k».proof.Proof.Gen.SumSmallRefIdeal.Read
public import proofs.«01_k».proof.Defs
public import proofs.«01_k».proof.Proof.ProdMath

@[expose] public section

noncomputable section

namespace Cert.SumSmallIdeal.Own

open Cert.SumSmallIdeal Cert.SumSmallIdeal.Gen Idealize.ShloMosaic Idealize.ShloMosaic.TcCoe Idealize.SL.Sem
open Idealize.ShloMosaic.ValueIdx Cert.Prod

/-- The blocks that a point reads and writes. -/
theorem block : ∀ t : Fin grid0.N, (win0_0.index t 0 = 0 ∧ win0_0.index t 1 = t.val ∧ win0_0.index t 2 = 0) ∧ win0_1.index t 0 = t.val
    ∧ win0_1.index t 1 = 0 ∧ win0_1.xsize (grid0.coords t) 0 = 16 ∧ win0_1.xsize (grid0.coords t) 1 = 128 :=
  by decide +kernel

/-- One device's part of a staged block. -/
theorem slot (x : S8x16x128.Idx → EReal) (r : Fin 16) (q : Fin 128) (k : Fin 8) (inb) :
    View.ld (Val := Elt Ideal) (e' := .f32) x (Rect.unit (s := S8x16x128) ![k.val, 0, 0] S1x16x128.size inb) (ix3 0 r q) = x (ix3 k r q) :=
  congrArg x (funext fun a => Fin.ext (by
    match a with
    | ⟨0, _⟩ => show k.val + 1 * 0 = k.val; omega
    | ⟨1, _⟩ => show 0 + 1 * r.val = r.val; omega
    | ⟨2, _⟩ => show 0 + 1 * q.val = q.val; omega))

/-- The eight parts, added one after the other, are their sum. -/
theorem added (x : S8x16x128.Idx → EReal) (r : Fin 16) (q : Fin 128) : out0_1 (F := Ideal) x (ix2 r q) = ∑ k : Fin 8, x (ix3 k r q) := by
  unfold out0_1
  rw [View.canon_unit_zero (S := S16x128) hz2]
  unfold k0_pay1
  simp only [addf_apply, unstack]
  rw [Fin.sum_univ_eight, ← slot x r q 0 inb_S8x16x128_S1x16x128_0_0_0, ← slot x r q 1 inb_S8x16x128_S1x16x128_1_0_0,
    ← slot x r q 2 inb_S8x16x128_S1x16x128_2_0_0, ← slot x r q 3 inb_S8x16x128_S1x16x128_3_0_0, ← slot x r q 4 inb_S8x16x128_S1x16x128_4_0_0,
    ← slot x r q 5 inb_S8x16x128_S1x16x128_5_0_0, ← slot x r q 6 inb_S8x16x128_S1x16x128_6_0_0, ← slot x r q 7 inb_S8x16x128_S1x16x128_7_0_0]
  rfl

variable (m : (ℓ : Loc nD τ sig) → Buf (Elt Ideal) ℓ) (c : Dev nD)

/-- The argument array, and an array's sum over the devices. -/
abbrev arr : S8x656x128.Idx → EReal := m ((c : Thread nD τ).loc main_arg0)
def sums (B : S8x656x128.Idx → EReal) : S656x128.Idx → EReal := fun i => ∑ k : Fin 8, B (ix3 k (i 0) (i 1))

theorem final : (dats m 0 c).arrAt 1 cfg0.N = sums (arr m c) := by
  refine (dats m 0 c).arrAt_eq_of_cover 1 _ (fun t _ => ?_) fun i => ?_
  · obtain ⟨⟨h0, h1, h2⟩, e0, e1, -⟩ := block t
    unfold Pipeline.Dat.flushed
    rw [after0_1]
    funext j
    obtain ⟨r, q, rfl⟩ : ∃ (r : Fin 16) (q : Fin 128), j = ix2 r q := ⟨j 0, j 1, eq_ix2 (n0 := 16) (n1 := 128) j⟩
    rw [View.read_apply]
    refine (added _ r q).trans (show _ = sums (arr m c) _ from Finset.sum_congr rfl fun k _ => congrArg (arr m c) (funext fun a => Fin.ext ?_))
    match a with
    | ⟨0, _⟩ => show win0_0.index t 0 * 8 + 1 * k.val = k.val; omega
    | ⟨1, _⟩ => show win0_0.index t 1 * 16 + 1 * r.val = win0_1.index t 0 * 16 + 1 * r.val; omega
    | ⟨2, _⟩ => show win0_0.index t 2 * 128 + 1 * q.val = win0_1.index t 1 * 128 + 1 * q.val; omega
  · have h0 : (i 0 : ℕ) < 656 := (i 0).isLt
    have h1 : (i 1 : ℕ) < 128 := (i 1).isLt
    obtain ⟨t, ht⟩ : ∃ t : Fin cfg0.N, t.val = (i 0).val / 16 := ⟨⟨_, lt_of_lt_of_eq (b := 41) (by omega) N_0.symm⟩, rfl⟩
    obtain ⟨-, e0, e1, x0, x1⟩ := block t
    refine ⟨t, flush0_1 t, (congrArg (i ∈ ·) (View.set_slice_whole main_v0 (win0_1.rect t))).mpr (Rect.mem_set_unit.2 fun a => ?_)⟩
    match a with
    | ⟨0, _⟩ => show win0_1.index t 0 * 16 ≤ (i 0 : ℕ) ∧ (i 0 : ℕ) < win0_1.index t 0 * 16 + win0_1.xsize (grid0.coords t) 0; omega
    | ⟨1, _⟩ => show win0_1.index t 1 * 128 ≤ (i 1 : ℕ) ∧ (i 1 : ℕ) < win0_1.index t 1 * 128 + win0_1.xsize (grid0.coords t) 1; omega

open SumSmallRefIdeal.Read

/-- The reference's result is the same sum. -/
theorem value (B : S8x656x128.Idx → EReal) : (val_main_v0 (F := Ideal) B : S656x128.Idx → EReal) = sums B := by
  funext i
  simp only [val_main_v0_apply, val_main_cst_apply]
  exact (congrArg (fun z : EReal => z + _) Ideal.ofBits_zero_f32).trans ((zero_add _).trans (Finset.sum_congr rfl fun k _ =>
    congrArg B (eq_ix3 (n0 := 8) (n1 := 656) (n2 := 128) _)))

/-- The reference runs without a fault, leaves its argument as it is and ends with no semaphore raised. -/
theorem reference_frame : quiescent_SumSmallRefIdeal := fun m ρ _ =>
  (θ_run _ _ _).mono (fun r h => ⟨fun c => (h c).2, sem_eq_zero_of_no_sems (by decide) r.2⟩) (SumSmallRefIdeal.Value.run m ρ)

/-- Over the extended reals the kernel's result and the reference's are equal. -/
theorem algebraic : algebraic_SumSmallIdeal_SumSmallRefIdeal := by
  intro m g m' g' _ hargs
  refine ⟨fun c => sums (arr m c), (θ_run _ _ _).mono (fun _ h c => ⟨((h c).1 1).trans (final m c),
    ((h c).1 0).trans ((dats m 0 c).arrAt_in 0 rfl _)⟩) (run_main m g),
    (θ_run _ _ _).mono (fun _ h c => ⟨(h c).1.trans ?_, (h c).2⟩) (SumSmallRefIdeal.Value.run m' g')⟩
  rw [val_main_v0_eq, hargs c]
  exact value _

end Cert.SumSmallIdeal.Own

end
-- ==== Proof.lean ====
/-
  The claims, assembled. The attention-gradient kernel and its plain jax reference run without a fault, leave their arguments
  unchanged and end with every semaphore at zero; on the extended reals their four results are equal. The same of the
  gate-gradient kernel and its reference, and of every product call of the layer and
  its reference, of the optimiser's call at every shape that a device holds a weight in, and of the calls that leave the
  gradients of the conditioning's weight and bias and the sums of the replicated weights' gradients.
-/
module

public import proofs.«01_k».proof.Defs
public import proofs.«01_k».proof.Proof.Gen.Fgate.Frame
public import proofs.«01_k».proof.Proof.Gen.FgateIdeal.Frame
public import proofs.«01_k».proof.Proof.Gen.FgateRefIdeal
public import proofs.«01_k».proof.Proof.Gen.FgateIdeal.Value
public import proofs.«01_k».proof.Proof.Gen.FgateRefIdeal.Run
public import proofs.«01_k».proof.Proof.Gen.FgateRefIdeal.Read
public import proofs.«01_k».proof.Proof.FgMath
public import proofs.«01_k».proof.Proof.Gen.Attn.Frame
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.AttnFrames
public import proofs.«01_k».proof.Proof.AttnSame
public import proofs.«01_k».proof.Proof.AttnValue
public import proofs.«01_k».proof.Proof.Gen.DownDx.Frame
public import proofs.«01_k».proof.Proof.DownDxGrad
public import proofs.«01_k».proof.Proof.Gen.DownDw.Frame
public import proofs.«01_k».proof.Proof.DownDwGrad
public import proofs.«01_k».proof.Proof.Gen.MainDx.Frame
public import proofs.«01_k».proof.Proof.MainDxGrad
public import proofs.«01_k».proof.Proof.Gen.MainDw.Frame
public import proofs.«01_k».proof.Proof.MainDwGrad
public import proofs.«01_k».proof.Proof.Gen.UpGateDx.Frame
public import proofs.«01_k».proof.Proof.UpGateDxGrad
public import proofs.«01_k».proof.Proof.Gen.UpLinDx.Frame
public import proofs.«01_k».proof.Proof.UpLinDxGrad
public import proofs.«01_k».proof.Proof.Gen.UpGateDw.Frame
public import proofs.«01_k».proof.Proof.UpGateDwGrad
public import proofs.«01_k».proof.Proof.Gen.UpLinDw.Frame
public import proofs.«01_k».proof.Proof.UpLinDwGrad
public import proofs.«01_k».proof.Proof.Gen.MixDx.Frame
public import proofs.«01_k».proof.Proof.MixDxGrad
public import proofs.«01_k».proof.Proof.Gen.MixDw.Frame
public import proofs.«01_k».proof.Proof.MixDwGrad
public import proofs.«01_k».proof.Proof.Gen.ConvDx.Frame
public import proofs.«01_k».proof.Proof.ConvDxGrad
public import proofs.«01_k».proof.Proof.Gen.ConvDw.Frame
public import proofs.«01_k».proof.Proof.ConvDwGrad
public import proofs.«01_k».proof.Proof.Gen.ProjDx.Frame
public import proofs.«01_k».proof.Proof.ProjDxGrad
public import proofs.«01_k».proof.Proof.Gen.ProjDxt.Frame
public import proofs.«01_k».proof.Proof.ProjDxtGrad
public import proofs.«01_k».proof.Proof.Gen.ProjDw.Frame
public import proofs.«01_k».proof.Proof.ProjDwGrad
public import proofs.«01_k».proof.Proof.Gen.MainFw.Frame
public import proofs.«01_k».proof.Proof.MainFwProd
public import proofs.«01_k».proof.Proof.Gen.UpFw.Frame
public import proofs.«01_k».proof.Proof.UpFwProd
public import proofs.«01_k».proof.Proof.Gen.DownFw.Frame
public import proofs.«01_k».proof.Proof.DownFwProd
public import proofs.«01_k».proof.Proof.Gen.MixFw.Frame
public import proofs.«01_k».proof.Proof.MixFwProd
public import proofs.«01_k».proof.Proof.Gen.ConvFw.Frame
public import proofs.«01_k».proof.Proof.ConvFwProd
public import proofs.«01_k».proof.Proof.Gen.ProjFw.Frame
public import proofs.«01_k».proof.Proof.ProjFwProd
public import proofs.«01_k».proof.Proof.Gen.AdaOpt.Frame
public import proofs.«01_k».proof.Proof.AdaOpt
public import proofs.«01_k».proof.Proof.Gen.AdaBOpt.Frame
public import proofs.«01_k».proof.Proof.AdaBOpt
public import proofs.«01_k».proof.Proof.Gen.InOpt.Frame
public import proofs.«01_k».proof.Proof.InOpt
public import proofs.«01_k».proof.Proof.Gen.InBOpt.Frame
public import proofs.«01_k».proof.Proof.InBOpt
public import proofs.«01_k».proof.Proof.Gen.ConvAOpt.Frame
public import proofs.«01_k».proof.Proof.ConvAOpt
public import proofs.«01_k».proof.Proof.Gen.ChOpt.Frame
public import proofs.«01_k».proof.Proof.ChOpt
public import proofs.«01_k».proof.Proof.Gen.BranchOpt.Frame
public import proofs.«01_k».proof.Proof.BranchOpt
public import proofs.«01_k».proof.Proof.Gen.MixOutOpt.Frame
public import proofs.«01_k».proof.Proof.MixOutOpt
public import proofs.«01_k».proof.Proof.Gen.RowOpt.Frame
public import proofs.«01_k».proof.Proof.RowOpt
public import proofs.«01_k».proof.Proof.Gen.FfnUpOpt.Frame
public import proofs.«01_k».proof.Proof.FfnUpOpt
public import proofs.«01_k».proof.Proof.Gen.FfnConvOpt.Frame
public import proofs.«01_k».proof.Proof.FfnConvOpt
public import proofs.«01_k».proof.Proof.Gen.FfnConvBOpt.Frame
public import proofs.«01_k».proof.Proof.FfnConvBOpt
public import proofs.«01_k».proof.Proof.Gen.FfnDownOpt.Frame
public import proofs.«01_k».proof.Proof.FfnDownOpt
public import proofs.«01_k».proof.Proof.Gen.AdaDw.Frame
public import proofs.«01_k».proof.Proof.AdaDwGrad
public import proofs.«01_k».proof.Proof.Gen.AdaDb.Frame
public import proofs.«01_k».proof.Proof.AdaDbGrad
public import proofs.«01_k».proof.Proof.Gen.SumSmall.Frame
public import proofs.«01_k».proof.Proof.SmallSum
public import Idealize.ShloMosaic.Adequacy
public import Idealize.ShloMosaic.Init
public import Idealize.ShloMosaic.Lib.Quiescent

@[expose] public section

noncomputable section

namespace Cert.Proof

open Idealize.ShloMosaic Idealize.SL.Sem Fgate

/-- The reference's run: its arguments end unchanged; it declares no semaphore. -/
theorem reference_frame : Cert.quiescent_FgateRefIdeal (hFgateRefIdeal := FgateRefIdeal.Gen.facts) := fun m ρ _ =>
  (θ_run FgateRefIdeal.defs _ _).mono (fun r h => ⟨fun c => (h c).2, sem_eq_zero_of_no_sems (by decide) r.2⟩)
    (FgateRefIdeal.Value.run (F := Ideal) m ρ)

/-- Over the extended reals the gate gradient's kernel and reference end with equal results. -/
theorem gate_algebraic : Cert.algebraic_FgateIdeal_FgateRefIdeal_pre_finite_dcum (hFgateIdeal := FgateIdeal.Gen.facts)
    (hFgateRefIdeal := FgateRefIdeal.Gen.facts) (hPre_finite_dcum := FgateMath.preFacts) := by
  intro m g m' g' hpre hargs
  refine ⟨fun c => FgateIdeal.Final.result (FgateIdeal.Final.dArr m c) (FgateIdeal.Final.zArr m c),
    FgateIdeal.Final.run m g fun c b s l => FgateMath.finite_gsum _ _ (hpre c) b s l, ?_⟩
  refine (θ_run _ _ _).mono (fun _ h c => ⟨(h c).1.trans ?_, (h c).2⟩) (FgateRefIdeal.Value.run (F := Ideal) m' g')
  rw [FgateRefIdeal.Read.val_main_v6_eq, (hargs c).1, (hargs c).2]
  exact FgateMath.value _ _

/-- Every claim. -/
theorem claim : Claim := ⟨Attn.Gen.facts, AttnIdeal.Gen.facts, AttnRefIdeal.Gen.facts,
  Fgate.Gen.facts, FgateIdeal.Gen.facts, FgateRefIdeal.Gen.facts,
  DownDx.Gen.facts, DownDxIdeal.Gen.facts, DownDxRefIdeal.Gen.facts,
  DownDw.Gen.facts, DownDwIdeal.Gen.facts, DownDwRefIdeal.Gen.facts,
  MainDx.Gen.facts, MainDxIdeal.Gen.facts, MainDxRefIdeal.Gen.facts,
  MainDw.Gen.facts, MainDwIdeal.Gen.facts, MainDwRefIdeal.Gen.facts,
  UpGateDx.Gen.facts, UpGateDxIdeal.Gen.facts, UpGateDxRefIdeal.Gen.facts,
  UpLinDx.Gen.facts, UpLinDxIdeal.Gen.facts, UpLinDxRefIdeal.Gen.facts,
  UpGateDw.Gen.facts, UpGateDwIdeal.Gen.facts, UpGateDwRefIdeal.Gen.facts,
  UpLinDw.Gen.facts, UpLinDwIdeal.Gen.facts, UpLinDwRefIdeal.Gen.facts,
  MixDx.Gen.facts, MixDxIdeal.Gen.facts, MixDxRefIdeal.Gen.facts,
  MixDw.Gen.facts, MixDwIdeal.Gen.facts, MixDwRefIdeal.Gen.facts,
  ConvDx.Gen.facts, ConvDxIdeal.Gen.facts, ConvDxRefIdeal.Gen.facts,
  ConvDw.Gen.facts, ConvDwIdeal.Gen.facts, ConvDwRefIdeal.Gen.facts,
  ProjDx.Gen.facts, ProjDxIdeal.Gen.facts, ProjDxRefIdeal.Gen.facts,
  ProjDxt.Gen.facts, ProjDxtIdeal.Gen.facts, ProjDxtRefIdeal.Gen.facts,
  ProjDw.Gen.facts, ProjDwIdeal.Gen.facts, ProjDwRefIdeal.Gen.facts,
  MainFw.Gen.facts, MainFwIdeal.Gen.facts, MainFwRefIdeal.Gen.facts,
  UpFw.Gen.facts, UpFwIdeal.Gen.facts, UpFwRefIdeal.Gen.facts,
  DownFw.Gen.facts, DownFwIdeal.Gen.facts, DownFwRefIdeal.Gen.facts,
  MixFw.Gen.facts, MixFwIdeal.Gen.facts, MixFwRefIdeal.Gen.facts,
  ConvFw.Gen.facts, ConvFwIdeal.Gen.facts, ConvFwRefIdeal.Gen.facts,
  ProjFw.Gen.facts, ProjFwIdeal.Gen.facts, ProjFwRefIdeal.Gen.facts,
  AdaOpt.Gen.facts, AdaOptIdeal.Gen.facts, AdaOptRefIdeal.Gen.facts,
  AdaBOpt.Gen.facts, AdaBOptIdeal.Gen.facts, AdaBOptRefIdeal.Gen.facts,
  InOpt.Gen.facts, InOptIdeal.Gen.facts, InOptRefIdeal.Gen.facts,
  InBOpt.Gen.facts, InBOptIdeal.Gen.facts, InBOptRefIdeal.Gen.facts,
  ConvAOpt.Gen.facts, ConvAOptIdeal.Gen.facts, ConvAOptRefIdeal.Gen.facts,
  ChOpt.Gen.facts, ChOptIdeal.Gen.facts, ChOptRefIdeal.Gen.facts,
  BranchOpt.Gen.facts, BranchOptIdeal.Gen.facts, BranchOptRefIdeal.Gen.facts,
  MixOutOpt.Gen.facts, MixOutOptIdeal.Gen.facts, MixOutOptRefIdeal.Gen.facts,
  RowOpt.Gen.facts, RowOptIdeal.Gen.facts, RowOptRefIdeal.Gen.facts,
  FfnUpOpt.Gen.facts, FfnUpOptIdeal.Gen.facts, FfnUpOptRefIdeal.Gen.facts,
  FfnConvOpt.Gen.facts, FfnConvOptIdeal.Gen.facts, FfnConvOptRefIdeal.Gen.facts,
  FfnConvBOpt.Gen.facts, FfnConvBOptIdeal.Gen.facts, FfnConvBOptRefIdeal.Gen.facts,
  FfnDownOpt.Gen.facts, FfnDownOptIdeal.Gen.facts, FfnDownOptRefIdeal.Gen.facts,
  AdaDw.Gen.facts, AdaDwIdeal.Gen.facts, AdaDwRefIdeal.Gen.facts,
  AdaDb.Gen.facts, AdaDbIdeal.Gen.facts, AdaDbRefIdeal.Gen.facts,
  SumSmall.Gen.facts, SumSmallIdeal.Gen.facts, SumSmallRefIdeal.Gen.facts,
  AttnIdeal.Final.preFacts, FgateMath.preFacts,
  AttnSame.words_frame, AttnFrames.ideal_frame, fun m ρ _ => AttnFrames.ideal_frame m ρ trivial,
  AttnFrames.reference_frame, fun m ρ _ => AttnFrames.reference_frame m ρ trivial,
  fun m ρ _ => Fgate.Gen.frame m ρ,
  fun m ρ _ => FgateIdeal.Gen.frame m ρ,
  fun m ρ _ => FgateIdeal.Gen.frame m ρ,
  reference_frame,
  fun m ρ _ => reference_frame m ρ trivial,
  fun m ρ _ => DownDx.Gen.frame m ρ, fun m ρ _ => DownDxIdeal.Gen.frame m ρ, DownDxIdeal.Own.reference_frame,
  fun m ρ _ => DownDw.Gen.frame m ρ, fun m ρ _ => DownDwIdeal.Gen.frame m ρ, DownDwIdeal.Own.reference_frame,
  fun m ρ _ => MainDx.Gen.frame m ρ, fun m ρ _ => MainDxIdeal.Gen.frame m ρ, MainDxIdeal.Own.reference_frame,
  fun m ρ _ => MainDw.Gen.frame m ρ, fun m ρ _ => MainDwIdeal.Gen.frame m ρ, MainDwIdeal.Own.reference_frame,
  fun m ρ _ => UpGateDx.Gen.frame m ρ, fun m ρ _ => UpGateDxIdeal.Gen.frame m ρ, UpGateDxIdeal.Own.reference_frame,
  fun m ρ _ => UpLinDx.Gen.frame m ρ, fun m ρ _ => UpLinDxIdeal.Gen.frame m ρ, UpLinDxIdeal.Own.reference_frame,
  fun m ρ _ => UpGateDw.Gen.frame m ρ, fun m ρ _ => UpGateDwIdeal.Gen.frame m ρ, UpGateDwIdeal.Own.reference_frame,
  fun m ρ _ => UpLinDw.Gen.frame m ρ, fun m ρ _ => UpLinDwIdeal.Gen.frame m ρ, UpLinDwIdeal.Own.reference_frame,
  fun m ρ _ => MixDx.Gen.frame m ρ, fun m ρ _ => MixDxIdeal.Gen.frame m ρ, MixDxIdeal.Own.reference_frame,
  fun m ρ _ => MixDw.Gen.frame m ρ, fun m ρ _ => MixDwIdeal.Gen.frame m ρ, MixDwIdeal.Own.reference_frame,
  fun m ρ _ => ConvDx.Gen.frame m ρ, fun m ρ _ => ConvDxIdeal.Gen.frame m ρ, ConvDxIdeal.Own.reference_frame,
  fun m ρ _ => ConvDw.Gen.frame m ρ, fun m ρ _ => ConvDwIdeal.Gen.frame m ρ, ConvDwIdeal.Own.reference_frame,
  fun m ρ _ => ProjDx.Gen.frame m ρ, fun m ρ _ => ProjDxIdeal.Gen.frame m ρ, ProjDxIdeal.Own.reference_frame,
  fun m ρ _ => ProjDxt.Gen.frame m ρ, fun m ρ _ => ProjDxtIdeal.Gen.frame m ρ, ProjDxtIdeal.Own.reference_frame,
  fun m ρ _ => ProjDw.Gen.frame m ρ, fun m ρ _ => ProjDwIdeal.Gen.frame m ρ, ProjDwIdeal.Own.reference_frame,
  fun m ρ _ => MainFw.Gen.frame m ρ, fun m ρ _ => MainFwIdeal.Gen.frame m ρ, MainFwIdeal.Own.reference_frame,
  fun m ρ _ => UpFw.Gen.frame m ρ, fun m ρ _ => UpFwIdeal.Gen.frame m ρ, UpFwIdeal.Own.reference_frame,
  fun m ρ _ => DownFw.Gen.frame m ρ, fun m ρ _ => DownFwIdeal.Gen.frame m ρ, DownFwIdeal.Own.reference_frame,
  fun m ρ _ => MixFw.Gen.frame m ρ, fun m ρ _ => MixFwIdeal.Gen.frame m ρ, MixFwIdeal.Own.reference_frame,
  fun m ρ _ => ConvFw.Gen.frame m ρ, fun m ρ _ => ConvFwIdeal.Gen.frame m ρ, ConvFwIdeal.Own.reference_frame,
  fun m ρ _ => ProjFw.Gen.frame m ρ, fun m ρ _ => ProjFwIdeal.Gen.frame m ρ, ProjFwIdeal.Own.reference_frame,
  fun m ρ _ => AdaOpt.Gen.frame m ρ, fun m ρ _ => AdaOptIdeal.Gen.frame m ρ, AdaOptIdeal.Own.reference_frame,
  fun m ρ _ => AdaBOpt.Gen.frame m ρ, fun m ρ _ => AdaBOptIdeal.Gen.frame m ρ, AdaBOptIdeal.Own.reference_frame,
  fun m ρ _ => InOpt.Gen.frame m ρ, fun m ρ _ => InOptIdeal.Gen.frame m ρ, InOptIdeal.Own.reference_frame,
  fun m ρ _ => InBOpt.Gen.frame m ρ, fun m ρ _ => InBOptIdeal.Gen.frame m ρ, InBOptIdeal.Own.reference_frame,
  fun m ρ _ => ConvAOpt.Gen.frame m ρ, fun m ρ _ => ConvAOptIdeal.Gen.frame m ρ, ConvAOptIdeal.Own.reference_frame,
  fun m ρ _ => ChOpt.Gen.frame m ρ, fun m ρ _ => ChOptIdeal.Gen.frame m ρ, ChOptIdeal.Own.reference_frame,
  fun m ρ _ => BranchOpt.Gen.frame m ρ, fun m ρ _ => BranchOptIdeal.Gen.frame m ρ, BranchOptIdeal.Own.reference_frame,
  fun m ρ _ => MixOutOpt.Gen.frame m ρ, fun m ρ _ => MixOutOptIdeal.Gen.frame m ρ, MixOutOptIdeal.Own.reference_frame,
  fun m ρ _ => RowOpt.Gen.frame m ρ, fun m ρ _ => RowOptIdeal.Gen.frame m ρ, RowOptIdeal.Own.reference_frame,
  fun m ρ _ => FfnUpOpt.Gen.frame m ρ, fun m ρ _ => FfnUpOptIdeal.Gen.frame m ρ, FfnUpOptIdeal.Own.reference_frame,
  fun m ρ _ => FfnConvOpt.Gen.frame m ρ, fun m ρ _ => FfnConvOptIdeal.Gen.frame m ρ, FfnConvOptIdeal.Own.reference_frame,
  fun m ρ _ => FfnConvBOpt.Gen.frame m ρ, fun m ρ _ => FfnConvBOptIdeal.Gen.frame m ρ, FfnConvBOptIdeal.Own.reference_frame,
  fun m ρ _ => FfnDownOpt.Gen.frame m ρ, fun m ρ _ => FfnDownOptIdeal.Gen.frame m ρ, FfnDownOptIdeal.Own.reference_frame,
  fun m ρ _ => AdaDw.Gen.frame m ρ, fun m ρ _ => AdaDwIdeal.Gen.frame m ρ, AdaDwIdeal.Own.reference_frame,
  fun m ρ _ => AdaDb.Gen.frame m ρ, fun m ρ _ => AdaDbIdeal.Gen.frame m ρ, AdaDbIdeal.Own.reference_frame,
  fun m ρ _ => SumSmall.Gen.frame m ρ, fun m ρ _ => SumSmallIdeal.Gen.frame m ρ, SumSmallIdeal.Own.reference_frame,
  trivial, AttnIdeal.Final.algebraic, trivial, gate_algebraic,
  trivial, DownDxIdeal.Own.algebraic,
  trivial, DownDwIdeal.Own.algebraic,
  trivial, MainDxIdeal.Own.algebraic,
  trivial, MainDwIdeal.Own.algebraic,
  trivial, UpGateDxIdeal.Own.algebraic,
  trivial, UpLinDxIdeal.Own.algebraic,
  trivial, UpGateDwIdeal.Own.algebraic,
  trivial, UpLinDwIdeal.Own.algebraic,
  trivial, MixDxIdeal.Own.algebraic,
  trivial, MixDwIdeal.Own.algebraic,
  trivial, ConvDxIdeal.Own.algebraic,
  trivial, ConvDwIdeal.Own.algebraic,
  trivial, ProjDxIdeal.Own.algebraic,
  trivial, ProjDxtIdeal.Own.algebraic,
  trivial, ProjDwIdeal.Own.algebraic,
  trivial, MainFwIdeal.Own.algebraic,
  trivial, UpFwIdeal.Own.algebraic,
  trivial, DownFwIdeal.Own.algebraic,
  trivial, MixFwIdeal.Own.algebraic,
  trivial, ConvFwIdeal.Own.algebraic,
  trivial, ProjFwIdeal.Own.algebraic,
  trivial, AdaOptIdeal.Own.algebraic,
  trivial, AdaBOptIdeal.Own.algebraic,
  trivial, InOptIdeal.Own.algebraic,
  trivial, InBOptIdeal.Own.algebraic,
  trivial, ConvAOptIdeal.Own.algebraic,
  trivial, ChOptIdeal.Own.algebraic,
  trivial, BranchOptIdeal.Own.algebraic,
  trivial, MixOutOptIdeal.Own.algebraic,
  trivial, RowOptIdeal.Own.algebraic,
  trivial, FfnUpOptIdeal.Own.algebraic,
  trivial, FfnConvOptIdeal.Own.algebraic,
  trivial, FfnConvBOptIdeal.Own.algebraic,
  trivial, FfnDownOptIdeal.Own.algebraic,
  trivial, AdaDwIdeal.Own.algebraic,
  trivial, AdaDbIdeal.Own.algebraic,
  trivial, SumSmallIdeal.Own.algebraic⟩

end Cert.Proof

end
